-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_ok : Cert.Pre_sizes_ok.Facts) (hPre_inputs_ok : Cert.Pre_inputs_ok.Facts),
    quiescent_Kernel (hKernel := hKernel) (hPre_sizes_ok := hPre_sizes_ok)
    ∧ quiescent_KernelIdeal (hKernelIdeal := hKernelIdeal) (hPre_sizes_ok := hPre_sizes_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32x7168 : Shape := ⟨2, ![32, 7168]⟩
abbrev S12 : Shape := ⟨1, ![12]⟩
abbrev S12x7168x2048 : Shape := ⟨3, ![12, 7168, 2048]⟩
abbrev S12x224x2048 : Shape := ⟨3, ![12, 224, 2048]⟩
abbrev S_ : Shape := ⟨0, ![]⟩

class Facts : Prop where
  natLt_8_32 : 8 < 32
  bitsLt_bf16_f32 : FTy.bits .bf16 < FTy.bits .f32
  reducesTo_S32x7168_S_d0_1 : S32x7168.ReducesTo [0, 1] S_
  h_S_ : 0 < S_.numel
  reducesTo_S12_S_d0 : S12.ReducesTo [0] S_
  reducesTo_S12x224x2048_S_d0_1_2 : S12x224x2048.ReducesTo [0, 1, 2] S_

variable [Facts]

def fn_part1 {F : FTy → Type} [FloatOps F] (main_v0 : IVec S12x224x2048 32) (main_v13 : IVec S_ 1) (main_v14 : IVec S_ 32) : IVec S_ 1 :=
  let main_c_7 : IVec S_ 32 := constantI S_ 32 1#32
  let main_v15 : IVec S_ 1 := cmpi .sge main_v14 main_c_7
  let main_v16 : IVec S_ 1 := andi main_v13 main_v15
  let main_c_8 : IVec S_ 32 := constantI S_ 32 2147483648#32
  let main_v17 : IVec S_ 32 := (fun x v => Host.reduce IntOp.maxsi x v reducesTo_S12x224x2048_S_d0_1_2 h_S_) main_v0 main_c_8
  let main_c_9 : IVec S_ 32 := constantI S_ 32 254#32
  let main_v18 : IVec S_ 1 := cmpi .sle main_v17 main_c_9
  let main_v19 : IVec S_ 1 := andi main_v16 main_v18
  main_v19

def fn {F : FTy → Type} [FloatOps F] (main_arg0 : FVec F S32x7168 .bf16) (main_arg1 : IVec S12 32) (main_arg2 : FVec F S12x7168x2048 .fp8e4m3) (main_arg3 : IVec S12x224x2048 8) : IVec S_ 1 :=
  let main_v0 : IVec S12x224x2048 32 := (extui 32 · natLt_8_32) main_arg3
  let main_v1 : FVec F S32x7168 .f32 := (extf .f32 · bitsLt_bf16_f32) main_arg0
  let main_v2 : FVec F S32x7168 .f32 := Host.absf main_v1
  let main_cst : FVec F S_ .f32 := constant S_ .f32 0xFF800000#32
  let main_v3 : FVec F S_ .f32 := (fun x v => Host.reduce FloatOps.maximumf x v reducesTo_S32x7168_S_d0_1 h_S_) main_v2 main_cst
  let main_cst_0 : FVec F S_ .f32 := constant S_ .f32 0x7F7F0000#32
  let main_v4 : IVec S_ 1 := cmpf .ole main_v3 main_cst_0
  let main_c : IVec S_ 32 := constantI S_ 32 2147483647#32
  let main_v5 : IVec S_ 32 := (fun x v => Host.reduce IntOp.minsi x v reducesTo_S12_S_d0 h_S_) main_arg1 main_c
  let main_c_1 : IVec S_ 32 := constantI S_ 32 0#32
  let main_v6 : IVec S_ 1 := cmpi .sge main_v5 main_c_1
  let main_c_2 : IVec S_ 32 := constantI S_ 32 2147483648#32
  let main_v7 : IVec S_ 32 := (fun x v => Host.reduce IntOp.maxsi x v reducesTo_S12_S_d0 h_S_) main_arg1 main_c_2
  let main_c_3 : IVec S_ 32 := constantI S_ 32 32#32
  let main_v8 : IVec S_ 1 := cmpi .sle main_v7 main_c_3
  let main_v9 : IVec S_ 1 := andi main_v6 main_v8
  let main_c_4 : IVec S_ 32 := constantI S_ 32 0#32
  let main_v10 : IVec S_ 32 := (fun x v => Host.reduce IntOp.addi x v reducesTo_S12_S_d0 h_S_) main_arg1 main_c_4
  let main_c_5 : IVec S_ 32 := constantI S_ 32 32#32
  let main_v11 : IVec S_ 1 := cmpi .sle main_v10 main_c_5
  let main_v12 : IVec S_ 1 := andi main_v9 main_v11
  let main_v13 : IVec S_ 1 := andi main_v12 main_v4
  let main_c_6 : IVec S_ 32 := constantI S_ 32 2147483647#32
  let main_v14 : IVec S_ 32 := (fun x v => Host.reduce IntOp.minsi x v reducesTo_S12x224x2048_S_d0_1_2 h_S_) main_v0 main_c_6
  fn_part1 (F := F) main_v0 main_v13 main_v14
-- ==== Pre_sizes_ok.lean ====
abbrev S32x7168 : Shape := ⟨2, ![32, 7168]⟩
abbrev S12 : Shape := ⟨1, ![12]⟩
abbrev S12x7168x2048 : Shape := ⟨3, ![12, 7168, 2048]⟩
abbrev S12x224x2048 : Shape := ⟨3, ![12, 224, 2048]⟩
abbrev S_ : Shape := ⟨0, ![]⟩

class Facts : Prop where
  reducesTo_S12_S_d0 : S12.ReducesTo [0] S_
  h_S_ : 0 < S_.numel

variable [Facts]

def fn {F : FTy → Type} [FloatOps F] (main_arg0 : FVec F S32x7168 .bf16) (main_arg1 : IVec S12 32) (main_arg2 : FVec F S12x7168x2048 .fp8e4m3) (main_arg3 : IVec S12x224x2048 8) : IVec S_ 1 :=
  let main_c : IVec S_ 32 := constantI S_ 32 2147483647#32
  let main_v0 : IVec S_ 32 := (fun x v => Host.reduce IntOp.minsi x v reducesTo_S12_S_d0 h_S_) main_arg1 main_c
  let main_c_0 : IVec S_ 32 := constantI S_ 32 0#32
  let main_v1 : IVec S_ 1 := cmpi .sge main_v0 main_c_0
  let main_c_1 : IVec S_ 32 := constantI S_ 32 2147483648#32
  let main_v2 : IVec S_ 32 := (fun x v => Host.reduce IntOp.maxsi x v reducesTo_S12_S_d0 h_S_) main_arg1 main_c_1
  let main_c_2 : IVec S_ 32 := constantI S_ 32 32#32
  let main_v3 : IVec S_ 1 := cmpi .sle main_v2 main_c_2
  let main_v4 : IVec S_ 1 := andi main_v1 main_v3
  let main_c_3 : IVec S_ 32 := constantI S_ 32 0#32
  let main_v5 : IVec S_ 32 := (fun x v => Host.reduce IntOp.addi x v reducesTo_S12_S_d0 h_S_) main_arg1 main_c_3
  let main_c_4 : IVec S_ 32 := constantI S_ 32 32#32
  let main_v6 : IVec S_ 1 := cmpi .sle main_v5 main_c_4
  let main_v7 : IVec S_ 1 := andi main_v4 main_v6
  main_v7
-- ==== Kernel.lean ====
abbrev S32x7168 : Shape := ⟨2, ![32, 7168]⟩
abbrev S12 : Shape := ⟨1, ![12]⟩
abbrev S12x7168x2048 : Shape := ⟨3, ![12, 7168, 2048]⟩
abbrev S12x224x2048 : Shape := ⟨3, ![12, 224, 2048]⟩
abbrev S32x2048 : Shape := ⟨2, ![32, 2048]⟩
abbrev S13 : Shape := ⟨1, ![13]⟩
abbrev S10x1024x2048 : Shape := ⟨3, ![10, 1024, 2048]⟩
abbrev S10x32x2048 : Shape := ⟨3, ![10, 32, 2048]⟩
abbrev S256x2048 : Shape := ⟨2, ![256, 2048]⟩
abbrev S10 : Shape := ⟨1, ![10]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x32x2048 : Shape := ⟨3, ![1, 32, 2048]⟩
abbrev S32x256 : Shape := ⟨2, ![32, 256]⟩
abbrev S8x256 : Shape := ⟨2, ![8, 256]⟩
abbrev S8x2048 : Shape := ⟨2, ![8, 2048]⟩
abbrev S1x256 : Shape := ⟨2, ![1, 256]⟩
abbrev S128x256 : Shape := ⟨2, ![128, 256]⟩
abbrev S1x32x256 : Shape := ⟨3, ![1, 32, 256]⟩
abbrev S16x8x256 : Shape := ⟨3, ![16, 8, 256]⟩
abbrev S1x256x256 : Shape := ⟨3, ![1, 256, 256]⟩
abbrev S256x256 : Shape := ⟨2, ![256, 256]⟩
abbrev S1x8x256 : Shape := ⟨3, ![1, 8, 256]⟩
abbrev S16x256 : Shape := ⟨2, ![16, 256]⟩
abbrev S2x8x256 : Shape := ⟨3, ![2, 8, 256]⟩
abbrev S4x8x256 : Shape := ⟨3, ![4, 8, 256]⟩
abbrev S64x256 : Shape := ⟨2, ![64, 256]⟩
abbrev S8x8x256 : Shape := ⟨3, ![8, 8, 256]⟩
abbrev S2048 : Shape := ⟨1, ![2048]⟩
abbrev S1x2048 : Shape := ⟨2, ![1, 2048]⟩

abbrev nBuf : Space → Nat
  | .hbm => 5
  | .vmem => 7
  | .smem => 3
  | _ => 0

abbrev bufTy : (tb : Table) → Fin (tcTables nBuf tb) → BufTy
  | .hbm, ⟨0, _⟩ => ⟨S32x7168, .bf16⟩
  | .hbm, ⟨1, _⟩ => ⟨S12, .i32⟩
  | .hbm, ⟨2, _⟩ => ⟨S12x7168x2048, .fp8e4m3⟩
  | .hbm, ⟨3, _⟩ => ⟨S12x224x2048, .i8⟩
  | .hbm, ⟨4, _⟩ => ⟨S32x2048, .bf16⟩
  | .local _ .vmem, ⟨0, _⟩ => ⟨S32x2048, .bf16⟩
  | .local _ .vmem, ⟨1, _⟩ => ⟨S10x1024x2048, .fp8e4m3⟩
  | .local _ .vmem, ⟨2, _⟩ => ⟨S10x32x2048, .i8⟩
  | .local _ .vmem, ⟨3, _⟩ => ⟨S32x7168, .bf16⟩
  | .local _ .vmem, ⟨4, _⟩ => ⟨S32x7168, .f32⟩
  | .local _ .vmem, ⟨5, _⟩ => ⟨S256x2048, .f32⟩
  | .local _ .vmem, ⟨6, _⟩ => ⟨S32x2048, .f32⟩
  | .local _ .smem, ⟨0, _⟩ => ⟨S12, .i32⟩
  | .local _ .smem, ⟨1, _⟩ => ⟨S13, .i32⟩
  | .local _ .smem, ⟨2, _⟩ => ⟨S13, .i32⟩
  | _, _ => ⟨S32x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c12_i32 : BitVec 32 := 12#32
  let v0 : BitVec 32 := Scalar.addi c0_i32_1 c12_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let v53 : Index := Scalar.indexCast arg16
  ![v53.toNat]
def k0_off2 (arg17 : BitVec 32) : Fin 1 → Nat :=
  let v55 : Index := Scalar.indexCast arg17
  ![v55.toNat]

def k0_chk1 (arg17 : BitVec 32) : Prop :=
  (∀ a, (k0_off2 arg17) a + S1.size a ≤ S13.size a)
theorem k0_off2_inb : ∀ (arg17 : BitVec 32) (k0_hw1 : k0_chk1 arg17), ∀ a, (k0_off2 arg17) a + S1.size a ≤ S13.size a := fun arg17 k0_hw1 => k0_hw1

@[reducible] def k0_t2_loop (v1_0 : BitVec 32) : Scf.Loop 32 :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_6 : BitVec 32 := 1#32
  ⟨c0_i32_3, v8, c1_i32_6⟩

def k0_off3 (v1_0 : BitVec 32) (k0_t2 : Fin (k0_t2_loop v1_0).trips) : Fin 1 → Nat :=
  let c0_i32_3 : BitVec 32 := 0#32
  let c1_i32_6 : BitVec 32 := 1#32
  let arg16 : BitVec 32 := Scf.iv c0_i32_3 c1_i32_6 k0_t2
  let c7_i32_28 : BitVec 32 := 7#32
  let v54 : BitVec 32 := Scalar.divsi arg16 c7_i32_28
  let v55 : Index := Scalar.indexCast v54
  ![v55.toNat]
def k0_mult1 (v1_0 : BitVec 32) (k0_t2 : Fin (k0_t2_loop v1_0).trips) : BitVec 32 :=
  let c0_i32_3 : BitVec 32 := 0#32
  let c1_i32_6 : BitVec 32 := 1#32
  let arg16 : BitVec 32 := Scf.iv c0_i32_3 c1_i32_6 k0_t2
  let c7_i32_29 : BitVec 32 := 7#32
  let v57 : BitVec 32 := Scalar.remsi arg16 c7_i32_29
  let c1024_i32 : BitVec 32 := 1024#32
  let v58 : BitVec 32 := Scalar.muli v57 c1024_i32
  v58
def k0_mult2 (v1_0 : BitVec 32) (k0_t2 : Fin (k0_t2_loop v1_0).trips) : BitVec 32 :=
  let c0_i32_3 : BitVec 32 := 0#32
  let c1_i32_6 : BitVec 32 := 1#32
  let arg16 : BitVec 32 := Scf.iv c0_i32_3 c1_i32_6 k0_t2
  let c7_i32_29 : BitVec 32 := 7#32
  let v57 : BitVec 32 := Scalar.remsi arg16 c7_i32_29
  let c32_i32_30 : BitVec 32 := 32#32
  let v60 : BitVec 32 := Scalar.muli v57 c32_i32_30
  v60
def k0_off4 (v1_0 : BitVec 32) (k0_t2 : Fin (k0_t2_loop v1_0).trips) : Fin 1 → Nat :=
  let c0_i32_3 : BitVec 32 := 0#32
  let c1_i32_6 : BitVec 32 := 1#32
  let arg16 : BitVec 32 := Scf.iv c0_i32_3 c1_i32_6 k0_t2
  let c10_i32_27 : BitVec 32 := 10#32
  let v53 : BitVec 32 := Scalar.remsi arg16 c10_i32_27
  ![v53.toNat]
def k0_off5 (v1_0 : BitVec 32) (k0_t2 : Fin (k0_t2_loop v1_0).trips) : Fin 3 → Nat :=
  let c0_i32_3 : BitVec 32 := 0#32
  let c1_i32_6 : BitVec 32 := 1#32
  let arg16 : BitVec 32 := Scf.iv c0_i32_3 c1_i32_6 k0_t2
  let c10_i32_27 : BitVec 32 := 10#32
  let v53 : BitVec 32 := Scalar.remsi arg16 c10_i32_27
  let c0_i32_31 : BitVec 32 := 0#32
  let c0_i32_32 : BitVec 32 := 0#32
  ![v53.toNat, 0, 0]
def k0_off6 (v1_0 : BitVec 32) (k0_t2 : Fin (k0_t2_loop v1_0).trips) (v56 : BitVec 32) : Fin 3 → Nat :=
  let c0_i32_3 : BitVec 32 := 0#32
  let c1_i32_6 : BitVec 32 := 1#32
  let arg16 : BitVec 32 := Scf.iv c0_i32_3 c1_i32_6 k0_t2
  let c7_i32_29 : BitVec 32 := 7#32
  let v57 : BitVec 32 := Scalar.remsi arg16 c7_i32_29
  let c1024_i32 : BitVec 32 := 1024#32
  let v58 : BitVec 32 := Scalar.muli v57 c1024_i32
  let v59 : BitVec 32 := v58
  let c0_i32_33 : BitVec 32 := 0#32
  ![v56.toNat, v59.toNat, 0]

def k0_off7 (v1_0 : BitVec 32) (k0_t2 : Fin (k0_t2_loop v1_0).trips) : Fin 1 → Nat :=
  let c0_i32_3 : BitVec 32 := 0#32
  let c1_i32_6 : BitVec 32 := 1#32
  let arg16 : BitVec 32 := Scf.iv c0_i32_3 c1_i32_6 k0_t2
  let c10_i32_27 : BitVec 32 := 10#32
  let v53 : BitVec 32 := Scalar.remsi arg16 c10_i32_27
  ![v53.toNat]
def k0_off8 (v1_0 : BitVec 32) (k0_t2 : Fin (k0_t2_loop v1_0).trips) : Fin 3 → Nat :=
  let c0_i32_3 : BitVec 32 := 0#32
  let c1_i32_6 : BitVec 32 := 1#32
  let arg16 : BitVec 32 := Scf.iv c0_i32_3 c1_i32_6 k0_t2
  let c10_i32_27 : BitVec 32 := 10#32
  let v53 : BitVec 32 := Scalar.remsi arg16 c10_i32_27
  let c0_i32_34 : BitVec 32 := 0#32
  let c0_i32_35 : BitVec 32 := 0#32
  ![v53.toNat, 0, 0]
def k0_off9 (v1_0 : BitVec 32) (k0_t2 : Fin (k0_t2_loop v1_0).trips) (v56 : BitVec 32) : Fin 3 → Nat :=
  let c0_i32_3 : BitVec 32 := 0#32
  let c1_i32_6 : BitVec 32 := 1#32
  let arg16 : BitVec 32 := Scf.iv c0_i32_3 c1_i32_6 k0_t2
  let c7_i32_29 : BitVec 32 := 7#32
  let v57 : BitVec 32 := Scalar.remsi arg16 c7_i32_29
  let c32_i32_30 : BitVec 32 := 32#32
  let v60 : BitVec 32 := Scalar.muli v57 c32_i32_30
  let v61 : BitVec 32 := v60
  let c0_i32_36 : BitVec 32 := 0#32
  ![v56.toNat, v61.toNat, 0]

def k0_chk3 (v1_0 : BitVec 32) (k0_t2 : Fin (k0_t2_loop v1_0).trips) (v56 : BitVec 32) : Prop :=
  (∀ a, (k0_off6 v1_0 k0_t2 v56) a + S1x1024x2048.size a ≤ S12x7168x2048.size a) ∧
  (∀ (hinb : ∀ a, (k0_off6 v1_0 k0_t2 v56) a + S1x1024x2048.size a ≤ S12x7168x2048.size a), (Rect.unit (s := S12x7168x2048) (k0_off6 v1_0 k0_t2 v56) S1x1024x2048.size hinb).WholeWords (EltTy.packing .fp8e4m3)) ∧
  (∀ a, (k0_off9 v1_0 k0_t2 v56) a + S1x32x2048.size a ≤ S12x224x2048.size a) ∧
  (∀ (hinb : ∀ a, (k0_off9 v1_0 k0_t2 v56) a + S1x32x2048.size a ≤ S12x224x2048.size a), (Rect.unit (s := S12x224x2048) (k0_off9 v1_0 k0_t2 v56) S1x32x2048.size hinb).WholeWords (EltTy.packing .i8))
theorem k0_off6_inb : ∀ (v1_0 : BitVec 32) (k0_t2 : Fin (k0_t2_loop v1_0).trips) (v56 : BitVec 32) (k0_hw3 : k0_chk3 v1_0 k0_t2 v56), ∀ a, (k0_off6 v1_0 k0_t2 v56) a + S1x1024x2048.size a ≤ S12x7168x2048.size a := fun v1_0 k0_t2 v56 k0_hw3 => k0_hw3.1
theorem k0_off6_wordsfp8e4m3 : ∀ (v1_0 : BitVec 32) (k0_t2 : Fin (k0_t2_loop v1_0).trips) (v56 : BitVec 32) (k0_hw3 : k0_chk3 v1_0 k0_t2 v56), (Rect.unit (s := S12x7168x2048) (k0_off6 v1_0 k0_t2 v56) S1x1024x2048.size (k0_off6_inb v1_0 k0_t2 v56 k0_hw3)).WholeWords (EltTy.packing .fp8e4m3) := fun v1_0 k0_t2 v56 k0_hw3 => k0_hw3.2.1 (k0_off6_inb v1_0 k0_t2 v56 k0_hw3)
theorem k0_off9_inb : ∀ (v1_0 : BitVec 32) (k0_t2 : Fin (k0_t2_loop v1_0).trips) (v56 : BitVec 32) (k0_hw3 : k0_chk3 v1_0 k0_t2 v56), ∀ a, (k0_off9 v1_0 k0_t2 v56) a + S1x32x2048.size a ≤ S12x224x2048.size a := fun v1_0 k0_t2 v56 k0_hw3 => k0_hw3.2.2.1
theorem k0_off9_wordsi8 : ∀ (v1_0 : BitVec 32) (k0_t2 : Fin (k0_t2_loop v1_0).trips) (v56 : BitVec 32) (k0_hw3 : k0_chk3 v1_0 k0_t2 v56), (Rect.unit (s := S12x224x2048) (k0_off9 v1_0 k0_t2 v56) S1x32x2048.size (k0_off9_inb v1_0 k0_t2 v56 k0_hw3)).WholeWords (EltTy.packing .i8) := fun v1_0 k0_t2 v56 k0_hw3 => k0_hw3.2.2.2 (k0_off9_inb v1_0 k0_t2 v56 k0_hw3)

@[reducible] def k0_t3_loop (v1_0 : BitVec 32) : Scf.Loop 32 :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let v5 : BitVec 32 := Scalar.addi c0_i32_3 v4
  let c1_i32_7 : BitVec 32 := 1#32
  ⟨v8, v5, c1_i32_7⟩
def k0_off10 (v1_0 : BitVec 32) (k0_t3 : Fin (k0_t3_loop v1_0).trips) : Fin 1 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c7_i32_28 : BitVec 32 := 7#32
  let v54 : BitVec 32 := Scalar.divsi arg16 c7_i32_28
  let v55 : Index := Scalar.indexCast v54
  ![v55.toNat]
def k0_mult3 (v1_0 : BitVec 32) (k0_t3 : Fin (k0_t3_loop v1_0).trips) : BitVec 32 :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c7_i32_29 : BitVec 32 := 7#32
  let v57 : BitVec 32 := Scalar.remsi arg16 c7_i32_29
  let c1024_i32 : BitVec 32 := 1024#32
  let v58 : BitVec 32 := Scalar.muli v57 c1024_i32
  v58
def k0_mult4 (v1_0 : BitVec 32) (k0_t3 : Fin (k0_t3_loop v1_0).trips) : BitVec 32 :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c7_i32_29 : BitVec 32 := 7#32
  let v57 : BitVec 32 := Scalar.remsi arg16 c7_i32_29
  let c32_i32_30 : BitVec 32 := 32#32
  let v60 : BitVec 32 := Scalar.muli v57 c32_i32_30
  v60
def k0_off11 (v1_0 : BitVec 32) (k0_t3 : Fin (k0_t3_loop v1_0).trips) : Fin 1 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c10_i32_27 : BitVec 32 := 10#32
  let v53 : BitVec 32 := Scalar.remsi arg16 c10_i32_27
  ![v53.toNat]
def k0_off12 (v1_0 : BitVec 32) (k0_t3 : Fin (k0_t3_loop v1_0).trips) : Fin 3 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c10_i32_27 : BitVec 32 := 10#32
  let v53 : BitVec 32 := Scalar.remsi arg16 c10_i32_27
  let c0_i32_31 : BitVec 32 := 0#32
  let c0_i32_32 : BitVec 32 := 0#32
  ![v53.toNat, 0, 0]
def k0_off13 (v1_0 : BitVec 32) (k0_t3 : Fin (k0_t3_loop v1_0).trips) (v56 : BitVec 32) : Fin 3 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c7_i32_29 : BitVec 32 := 7#32
  let v57 : BitVec 32 := Scalar.remsi arg16 c7_i32_29
  let c1024_i32 : BitVec 32 := 1024#32
  let v58 : BitVec 32 := Scalar.muli v57 c1024_i32
  let v59 : BitVec 32 := v58
  let c0_i32_33 : BitVec 32 := 0#32
  ![v56.toNat, v59.toNat, 0]

def k0_off14 (v1_0 : BitVec 32) (k0_t3 : Fin (k0_t3_loop v1_0).trips) : Fin 1 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c10_i32_27 : BitVec 32 := 10#32
  let v53 : BitVec 32 := Scalar.remsi arg16 c10_i32_27
  ![v53.toNat]
def k0_off15 (v1_0 : BitVec 32) (k0_t3 : Fin (k0_t3_loop v1_0).trips) : Fin 3 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c10_i32_27 : BitVec 32 := 10#32
  let v53 : BitVec 32 := Scalar.remsi arg16 c10_i32_27
  let c0_i32_34 : BitVec 32 := 0#32
  let c0_i32_35 : BitVec 32 := 0#32
  ![v53.toNat, 0, 0]
def k0_off16 (v1_0 : BitVec 32) (k0_t3 : Fin (k0_t3_loop v1_0).trips) (v56 : BitVec 32) : Fin 3 → Nat :=
  let c0_i32_3 : BitVec 32 := 0#32
  let c7_i32 : BitVec 32 := 7#32
  let v2 : BitVec 32 := Scalar.muli v1_0 c7_i32
  let c10_i32 : BitVec 32 := 10#32
  let v3 : BitVec 32 := Scalar.minsi v2 c10_i32
  let v4 : BitVec 32 := Scalar.subi v3 c0_i32_3
  let c1_i32_5 : BitVec 32 := 1#32
  let v6 : BitVec 32 := Scalar.divsi v4 c1_i32_5
  let v7 : BitVec 32 := Scalar.muli v6 c1_i32_5
  let v8 : BitVec 32 := Scalar.addi c0_i32_3 v7
  let c1_i32_7 : BitVec 32 := 1#32
  let arg16 : BitVec 32 := Scf.iv v8 c1_i32_7 k0_t3
  let c7_i32_29 : BitVec 32 := 7#32
  let v57 : BitVec 32 := Scalar.remsi arg16 c7_i32_29
  let c32_i32_30 : BitVec 32 := 32#32
  let v60 : BitVec 32 := Scalar.muli v57 c32_i32_30
  let v61 : BitVec 32 := v60
  let c0_i32_36 : BitVec 32 := 0#32
  ![v56.toNat, v61.toNat, 0]

def k0_chk4 (v1_0 : BitVec 32) (k0_t3 : Fin (k0_t3_loop v1_0).trips) (v56 : BitVec 32) : Prop :=
  (∀ a, (k0_off13 v1_0 k0_t3 v56) a + S1x1024x2048.size a ≤ S12x7168x2048.size a) ∧
  (∀ (hinb : ∀ a, (k0_off13 v1_0 k0_t3 v56) a + S1x1024x2048.size a ≤ S12x7168x2048.size a), (Rect.unit (s := S12x7168x2048) (k0_off13 v1_0 k0_t3 v56) S1x1024x2048.size hinb).WholeWords (EltTy.packing .fp8e4m3)) ∧
  (∀ a, (k0_off16 v1_0 k0_t3 v56) a + S1x32x2048.size a ≤ S12x224x2048.size a) ∧
  (∀ (hinb : ∀ a, (k0_off16 v1_0 k0_t3 v56) a + S1x32x2048.size a ≤ S12x224x2048.size a), (Rect.unit (s := S12x224x2048) (k0_off16 v1_0 k0_t3 v56) S1x32x2048.size hinb).WholeWords (EltTy.packing .i8))
theorem k0_off13_inb : ∀ (v1_0 : BitVec 32) (k0_t3 : Fin (k0_t3_loop v1_0).trips) (v56 : BitVec 32) (k0_hw4 : k0_chk4 v1_0 k0_t3 v56), ∀ a, (k0_off13 v1_0 k0_t3 v56) a + S1x1024x2048.size a ≤ S12x7168x2048.size a := fun v1_0 k0_t3 v56 k0_hw4 => k0_hw4.1
theorem k0_off13_wordsfp8e4m3 : ∀ (v1_0 : BitVec 32) (k0_t3 : Fin (k0_t3_loop v1_0).trips) (v56 : BitVec 32) (k0_hw4 : k0_chk4 v1_0 k0_t3 v56), (Rect.unit (s := S12x7168x2048) (k0_off13 v1_0 k0_t3 v56) S1x1024x2048.size (k0_off13_inb v1_0 k0_t3 v56 k0_hw4)).WholeWords (EltTy.packing .fp8e4m3) := fun v1_0 k0_t3 v56 k0_hw4 => k0_hw4.2.1 (k0_off13_inb v1_0 k0_t3 v56 k0_hw4)
theorem k0_off16_inb : ∀ (v1_0 : BitVec 32) (k0_t3 : Fin (k0_t3_loop v1_0).trips) (v56 : BitVec 32) (k0_hw4 : k0_chk4 v1_0 k0_t3 v56), ∀ a, (k0_off16 v1_0 k0_t3 v56) a + S1x32x2048.size a ≤ S12x224x2048.size a := fun v1_0 k0_t3 v56 k0_hw4 => k0_hw4.2.2.1
theorem k0_off16_wordsi8 : ∀ (v1_0 : BitVec 32) (k0_t3 : Fin (k0_t3_loop v1_0).trips) (v56 : BitVec 32) (k0_hw4 : k0_chk4 v1_0 k0_t3 v56), (Rect.unit (s := S12x224x2048) (k0_off16 v1_0 k0_t3 v56) S1x32x2048.size (k0_off16_inb v1_0 k0_t3 v56 k0_hw4)).WholeWords (EltTy.packing .i8) := fun v1_0 k0_t3 v56 k0_hw4 => k0_hw4.2.2.2 (k0_off16_inb v1_0 k0_t3 v56 k0_hw4)

@[reducible] def k0_t4_loop : Scf.Loop 32 :=
  let c0_i32_9 : BitVec 32 := 0#32
  let c28_i32 : BitVec 32 := 28#32
  let v15 : BitVec 32 := Scalar.addi c0_i32_9 c28_i32
  let c1_i32_10 : BitVec 32 := 1#32
  ⟨c0_i32_9, v15, c1_i32_10⟩
def k0_mult5 (k0_t4 : Fin k0_t4_loop.trips) : BitVec 32 :=
  let c0_i32_9 : BitVec 32 := 0#32
  let c1_i32_10 : BitVec 32 := 1#32
  let arg16 : BitVec 32 := Scf.iv c0_i32_9 c1_i32_10 k0_t4
  let c256_i32 : BitVec 32 := 256#32
  let v53 : BitVec 32 := Scalar.muli arg16 c256_i32
  v53
def k0_off17 (k0_t4 : Fin k0_t4_loop.trips) : Fin 2 → Nat :=
  let c0_27 : Index := 0#32
  let c0_i32_9 : BitVec 32 := 0#32
  let c1_i32_10 : BitVec 32 := 1#32
  let arg16 : BitVec 32 := Scf.iv c0_i32_9 c1_i32_10 k0_t4
  let c256_i32 : BitVec 32 := 256#32
  let v53 : BitVec 32 := Scalar.muli arg16 c256_i32
  let v54 : BitVec 32 := v53
  let v55 : Index := Scalar.indexCast v54
  ![0, v55.toNat]
@[reducible] def k0_t5_loop (v1_0 : BitVec 32) : Scf.Loop 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_21 : BitVec 32 := 1#32
  ⟨c0_i32_18, v47, c1_i32_21⟩
def k0_off18 (v1_0 : BitVec 32) (k0_t5 : Fin (k0_t5_loop v1_0).trips) : Fin 1 → Nat :=
  let c0_i32_18 : BitVec 32 := 0#32
  let c1_i32_21 : BitVec 32 := 1#32
  let arg16 : BitVec 32 := Scf.iv c0_i32_18 c1_i32_21 k0_t5
  let v53 : Index := Scalar.indexCast arg16
  ![v53.toNat]
def k0_off19 (v54 : BitVec 32) : Fin 1 → Nat :=
  let v57 : Index := Scalar.indexCast v54
  ![v57.toNat]

def k0_chk5 (v54 : BitVec 32) : Prop :=
  (∀ a, (k0_off19 v54) a + S1.size a ≤ S12.size a)
theorem k0_off19_inb : ∀ (v54 : BitVec 32) (k0_hw5 : k0_chk5 v54), ∀ a, (k0_off19 v54) a + S1.size a ≤ S12.size a := fun v54 k0_hw5 => k0_hw5

@[reducible] def k0_t6_loop (v58 : BitVec 32) : Scf.Loop 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_33 : BitVec 32 := 1#32
  ⟨c0_i32_30, v67, c1_i32_33⟩

def k0_mult6 (v58 : BitVec 32) (k0_t6 : Fin (k0_t6_loop v58).trips) : BitVec 32 :=
  let c0_i32_30 : BitVec 32 := 0#32
  let c1_i32_33 : BitVec 32 := 1#32
  let arg18 : BitVec 32 := Scf.iv c0_i32_30 c1_i32_33 k0_t6
  let c8_i32 : BitVec 32 := 8#32
  let v83 : BitVec 32 := Scalar.muli arg18 c8_i32
  v83
def k0_off20 (v58 : BitVec 32) (k0_t6 : Fin (k0_t6_loop v58).trips) : Fin 2 → Nat :=
  let c0_i32_30 : BitVec 32 := 0#32
  let c1_i32_33 : BitVec 32 := 1#32
  let arg18 : BitVec 32 := Scf.iv c0_i32_30 c1_i32_33 k0_t6
  let c8_i32 : BitVec 32 := 8#32
  let v83 : BitVec 32 := Scalar.muli arg18 c8_i32
  let v84 : BitVec 32 := v83
  let v85 : Index := Scalar.indexCast v84
  let c0_49 : Index := 0#32
  ![v85.toNat, 0]
@[reducible] def k0_t7_loop (v58 : BitVec 32) : Scf.Loop 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let v64 : BitVec 32 := Scalar.addi c0_i32_30 v63
  let c1_i32_34 : BitVec 32 := 1#32
  ⟨v67, v64, c1_i32_34⟩
def k0_mult7 (v58 : BitVec 32) (k0_t7 : Fin (k0_t7_loop v58).trips) : BitVec 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_34 : BitVec 32 := 1#32
  let arg18 : BitVec 32 := Scf.iv v67 c1_i32_34 k0_t7
  let c8_i32 : BitVec 32 := 8#32
  let v83 : BitVec 32 := Scalar.muli arg18 c8_i32
  v83
def k0_off21 (v58 : BitVec 32) (k0_t7 : Fin (k0_t7_loop v58).trips) : Fin 2 → Nat :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_34 : BitVec 32 := 1#32
  let arg18 : BitVec 32 := Scf.iv v67 c1_i32_34 k0_t7
  let c8_i32 : BitVec 32 := 8#32
  let v83 : BitVec 32 := Scalar.muli arg18 c8_i32
  let v84 : BitVec 32 := v83
  let v85 : Index := Scalar.indexCast v84
  let c0_49 : Index := 0#32
  ![v85.toNat, 0]
@[reducible] def k0_t8_loop : Scf.Loop 32 :=
  let c0_i32_38 : BitVec 32 := 0#32
  let c7_i32_39 : BitVec 32 := 7#32
  let v73 : BitVec 32 := Scalar.addi c0_i32_38 c7_i32_39
  let c1_i32_40 : BitVec 32 := 1#32
  ⟨c0_i32_38, v73, c1_i32_40⟩
def k0_off22 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c7_i32_51 : BitVec 32 := 7#32
  let v86 : BitVec 32 := Scalar.divsi v83 c7_i32_51
  let v87 : Index := Scalar.indexCast v86
  ![v87.toNat]
def k0_mult8 (v1_0 : BitVec 32) (k0_t5 : Fin (k0_t5_loop v1_0).trips) (k0_t8 : Fin k0_t8_loop.trips) : BitVec 32 :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c7_i32_52 : BitVec 32 := 7#32
  let v89 : BitVec 32 := Scalar.remsi v83 c7_i32_52
  let c1024_i32 : BitVec 32 := 1024#32
  let v90 : BitVec 32 := Scalar.muli v89 c1024_i32
  v90
def k0_mult9 (v1_0 : BitVec 32) (k0_t5 : Fin (k0_t5_loop v1_0).trips) (k0_t8 : Fin k0_t8_loop.trips) : BitVec 32 :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c7_i32_52 : BitVec 32 := 7#32
  let v89 : BitVec 32 := Scalar.remsi v83 c7_i32_52
  let c32_i32_53 : BitVec 32 := 32#32
  let v92 : BitVec 32 := Scalar.muli v89 c32_i32_53
  v92
def k0_off23 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_50 : BitVec 32 := 10#32
  let v85 : BitVec 32 := Scalar.remsi v83 c10_i32_50
  ![v85.toNat]
def k0_off24 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_50 : BitVec 32 := 10#32
  let v85 : BitVec 32 := Scalar.remsi v83 c10_i32_50
  let c0_i32_54 : BitVec 32 := 0#32
  let c0_i32_55 : BitVec 32 := 0#32
  ![v85.toNat, 0, 0]
def k0_off25 (v1_0 : BitVec 32) (k0_t5 : Fin (k0_t5_loop v1_0).trips) (k0_t8 : Fin k0_t8_loop.trips) (v88 : BitVec 32) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c7_i32_52 : BitVec 32 := 7#32
  let v89 : BitVec 32 := Scalar.remsi v83 c7_i32_52
  let c1024_i32 : BitVec 32 := 1024#32
  let v90 : BitVec 32 := Scalar.muli v89 c1024_i32
  let v91 : BitVec 32 := v90
  let c0_i32_56 : BitVec 32 := 0#32
  ![v88.toNat, v91.toNat, 0]

def k0_off26 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_50 : BitVec 32 := 10#32
  let v85 : BitVec 32 := Scalar.remsi v83 c10_i32_50
  ![v85.toNat]
def k0_off27 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_50 : BitVec 32 := 10#32
  let v85 : BitVec 32 := Scalar.remsi v83 c10_i32_50
  let c0_i32_57 : BitVec 32 := 0#32
  let c0_i32_58 : BitVec 32 := 0#32
  ![v85.toNat, 0, 0]
def k0_off28 (v1_0 : BitVec 32) (k0_t5 : Fin (k0_t5_loop v1_0).trips) (k0_t8 : Fin k0_t8_loop.trips) (v88 : BitVec 32) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c7_i32_52 : BitVec 32 := 7#32
  let v89 : BitVec 32 := Scalar.remsi v83 c7_i32_52
  let c32_i32_53 : BitVec 32 := 32#32
  let v92 : BitVec 32 := Scalar.muli v89 c32_i32_53
  let v93 : BitVec 32 := v92
  let c0_i32_59 : BitVec 32 := 0#32
  ![v88.toNat, v93.toNat, 0]

def k0_chk7 (v1_0 : BitVec 32) (k0_t5 : Fin (k0_t5_loop v1_0).trips) (k0_t8 : Fin k0_t8_loop.trips) (v88 : BitVec 32) : Prop :=
  (∀ a, (k0_off25 v1_0 k0_t5 k0_t8 v88) a + S1x1024x2048.size a ≤ S12x7168x2048.size a) ∧
  (∀ (hinb : ∀ a, (k0_off25 v1_0 k0_t5 k0_t8 v88) a + S1x1024x2048.size a ≤ S12x7168x2048.size a), (Rect.unit (s := S12x7168x2048) (k0_off25 v1_0 k0_t5 k0_t8 v88) S1x1024x2048.size hinb).WholeWords (EltTy.packing .fp8e4m3)) ∧
  (∀ a, (k0_off28 v1_0 k0_t5 k0_t8 v88) a + S1x32x2048.size a ≤ S12x224x2048.size a) ∧
  (∀ (hinb : ∀ a, (k0_off28 v1_0 k0_t5 k0_t8 v88) a + S1x32x2048.size a ≤ S12x224x2048.size a), (Rect.unit (s := S12x224x2048) (k0_off28 v1_0 k0_t5 k0_t8 v88) S1x32x2048.size hinb).WholeWords (EltTy.packing .i8))
theorem k0_off25_inb : ∀ (v1_0 : BitVec 32) (k0_t5 : Fin (k0_t5_loop v1_0).trips) (k0_t8 : Fin k0_t8_loop.trips) (v88 : BitVec 32) (k0_hw7 : k0_chk7 v1_0 k0_t5 k0_t8 v88), ∀ a, (k0_off25 v1_0 k0_t5 k0_t8 v88) a + S1x1024x2048.size a ≤ S12x7168x2048.size a := fun v1_0 k0_t5 k0_t8 v88 k0_hw7 => k0_hw7.1
theorem k0_off25_wordsfp8e4m3 : ∀ (v1_0 : BitVec 32) (k0_t5 : Fin (k0_t5_loop v1_0).trips) (k0_t8 : Fin k0_t8_loop.trips) (v88 : BitVec 32) (k0_hw7 : k0_chk7 v1_0 k0_t5 k0_t8 v88), (Rect.unit (s := S12x7168x2048) (k0_off25 v1_0 k0_t5 k0_t8 v88) S1x1024x2048.size (k0_off25_inb v1_0 k0_t5 k0_t8 v88 k0_hw7)).WholeWords (EltTy.packing .fp8e4m3) := fun v1_0 k0_t5 k0_t8 v88 k0_hw7 => k0_hw7.2.1 (k0_off25_inb v1_0 k0_t5 k0_t8 v88 k0_hw7)
theorem k0_off28_inb : ∀ (v1_0 : BitVec 32) (k0_t5 : Fin (k0_t5_loop v1_0).trips) (k0_t8 : Fin k0_t8_loop.trips) (v88 : BitVec 32) (k0_hw7 : k0_chk7 v1_0 k0_t5 k0_t8 v88), ∀ a, (k0_off28 v1_0 k0_t5 k0_t8 v88) a + S1x32x2048.size a ≤ S12x224x2048.size a := fun v1_0 k0_t5 k0_t8 v88 k0_hw7 => k0_hw7.2.2.1
theorem k0_off28_wordsi8 : ∀ (v1_0 : BitVec 32) (k0_t5 : Fin (k0_t5_loop v1_0).trips) (k0_t8 : Fin k0_t8_loop.trips) (v88 : BitVec 32) (k0_hw7 : k0_chk7 v1_0 k0_t5 k0_t8 v88), (Rect.unit (s := S12x224x2048) (k0_off28 v1_0 k0_t5 k0_t8 v88) S1x32x2048.size (k0_off28_inb v1_0 k0_t5 k0_t8 v88 k0_hw7)).WholeWords (EltTy.packing .i8) := fun v1_0 k0_t5 k0_t8 v88 k0_hw7 => k0_hw7.2.2.2 (k0_off28_inb v1_0 k0_t5 k0_t8 v88 k0_hw7)

@[reducible] def k0_t9_loop (v58 : BitVec 32) : Scf.Loop 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_63 : BitVec 32 := 1#32
  ⟨c0_i32_60, v110, c1_i32_63⟩
def k0_mult10 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off29 (v56 : BitVec 32) (v58 : BitVec 32) (k0_t8 : Fin k0_t8_loop.trips) (k0_t9 : Fin (k0_t9_loop v58).trips) (c0_i32_79 : BitVec 32) (c0_i32_81 : BitVec 32) : Fin 2 → Nat :=
  let c0_i32_60 : BitVec 32 := 0#32
  let c1_i32_63 : BitVec 32 := 1#32
  let arg20 : BitVec 32 := Scf.iv c0_i32_60 c1_i32_63 k0_t9
  let c16_i32_78 : BitVec 32 := 16#32
  let v138 : BitVec 32 := Scalar.muli arg20 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_mult11 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult12 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult13 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult14 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult15 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult16 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult17 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult18 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult19 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult20 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult21 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult22 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult23 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult24 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult25 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult26 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_152 : BitVec 32 := 1024#32
  let v336 : BitVec 32 := Scalar.muli arg18 c1024_i32_152
  let c256_i32 : BitVec 32 := 256#32
  let v337 : BitVec 32 := Scalar.addi v336 c256_i32
  v337
def k0_mult27 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult28 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult29 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult30 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult31 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult32 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult33 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult34 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult35 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult36 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult37 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult38 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult39 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult40 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult41 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult42 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_231 : BitVec 32 := 1024#32
  let v530 : BitVec 32 := Scalar.muli arg18 c1024_i32_231
  let c512_i32 : BitVec 32 := 512#32
  let v531 : BitVec 32 := Scalar.addi v530 c512_i32
  v531
def k0_mult43 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult44 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult45 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult46 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult47 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult48 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult49 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult50 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult51 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult52 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult53 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult54 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult55 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult56 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult57 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult58 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_310 : BitVec 32 := 1024#32
  let v724 : BitVec 32 := Scalar.muli arg18 c1024_i32_310
  let c768_i32 : BitVec 32 := 768#32
  let v725 : BitVec 32 := Scalar.addi v724 c768_i32
  v725
def k0_mult59 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult60 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult61 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult62 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult63 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult64 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult65 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult66 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult67 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult68 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult69 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult70 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult71 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult72 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult73 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult74 (v58 : BitVec 32) (k0_t9 : Fin (k0_t9_loop v58).trips) : BitVec 32 :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  v916
def k0_off30 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off31 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off32 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off33 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off34 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off35 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off36 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off37 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off38 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off39 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off40 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off41 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off42 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off43 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off44 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off45 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off46 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off47 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off48 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off49 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off50 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off51 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off52 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off53 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off54 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off55 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off56 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off57 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off58 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off59 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off60 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off61 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off62 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off63 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off64 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off65 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off66 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off67 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off68 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off69 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off70 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off71 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off72 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off73 (v58 : BitVec 32) (k0_t9 : Fin (k0_t9_loop v58).trips) : Fin 2 → Nat :=
  let c0_i32_60 : BitVec 32 := 0#32
  let c1_i32_63 : BitVec 32 := 1#32
  let arg20 : BitVec 32 := Scf.iv c0_i32_60 c1_i32_63 k0_t9
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off74 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off75 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off76 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off77 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
@[reducible] def k0_t10_loop (v58 : BitVec 32) : Scf.Loop 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let v107 : BitVec 32 := Scalar.addi c0_i32_60 v106
  let c1_i32_64 : BitVec 32 := 1#32
  ⟨v110, v107, c1_i32_64⟩
def k0_mult75 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off78 (v56 : BitVec 32) (v58 : BitVec 32) (k0_t8 : Fin k0_t8_loop.trips) (k0_t10 : Fin (k0_t10_loop v58).trips) (c0_i32_79 : BitVec 32) (c0_i32_81 : BitVec 32) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_78 : BitVec 32 := 16#32
  let v138 : BitVec 32 := Scalar.muli arg20 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_mult76 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult77 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult78 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult79 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult80 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult81 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult82 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult83 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult84 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult85 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult86 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult87 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult88 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult89 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult90 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult91 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_152 : BitVec 32 := 1024#32
  let v336 : BitVec 32 := Scalar.muli arg18 c1024_i32_152
  let c256_i32 : BitVec 32 := 256#32
  let v337 : BitVec 32 := Scalar.addi v336 c256_i32
  v337
def k0_mult92 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult93 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult94 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult95 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult96 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult97 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult98 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult99 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult100 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult101 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult102 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult103 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult104 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult105 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult106 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult107 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_231 : BitVec 32 := 1024#32
  let v530 : BitVec 32 := Scalar.muli arg18 c1024_i32_231
  let c512_i32 : BitVec 32 := 512#32
  let v531 : BitVec 32 := Scalar.addi v530 c512_i32
  v531
def k0_mult108 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult109 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult110 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult111 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult112 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult113 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult114 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult115 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult116 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult117 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult118 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult119 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult120 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult121 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult122 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult123 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_310 : BitVec 32 := 1024#32
  let v724 : BitVec 32 := Scalar.muli arg18 c1024_i32_310
  let c768_i32 : BitVec 32 := 768#32
  let v725 : BitVec 32 := Scalar.addi v724 c768_i32
  v725
def k0_mult124 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult125 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult126 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult127 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult128 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult129 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult130 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult131 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult132 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult133 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult134 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult135 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult136 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult137 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult138 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult139 (v58 : BitVec 32) (k0_t10 : Fin (k0_t10_loop v58).trips) : BitVec 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  v916
def k0_off79 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off80 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off81 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off82 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off83 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off84 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off85 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off86 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off87 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off88 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off89 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off90 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off91 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off92 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off93 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off94 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off95 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off96 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off97 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off98 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off99 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off100 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off101 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off102 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off103 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off104 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off105 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off106 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off107 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off108 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off109 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off110 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off111 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off112 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off113 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off114 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off115 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off116 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off117 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off118 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off119 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off120 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off121 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off122 (v58 : BitVec 32) (k0_t10 : Fin (k0_t10_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t10
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off123 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off124 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off125 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off126 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
def k0_mult140 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off127 (v56 : BitVec 32) (v58 : BitVec 32) (k0_t8 : Fin k0_t8_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond1 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c0_i32_65 : BitVec 32 := 0#32
  let v113 : BitVec 1 := Scalar.cmpi .sgt v72 c0_i32_65
  let c2_i32 : BitVec 32 := 2#32
  let v114 : BitVec 1 := Scalar.cmpi .sle v72 c2_i32
  let v115 : BitVec 1 := Scalar.andi v113 v114
  let v116 : BitVec 32 := Scalar.extui v115
  let c0_i32_66 : BitVec 32 := 0#32
  let v117 : BitVec 1 := Scalar.cmpi .ne v116 c0_i32_66
  v117

def k0_mult141 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult142 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v168 : BitVec 32 := Scalar.muli arg18 c1024_i32_90
  let c256_i32 : BitVec 32 := 256#32
  let v169 : BitVec 32 := Scalar.addi v168 c256_i32
  v169
def k0_mult143 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v180 : BitVec 32 := Scalar.muli arg18 c1024_i32_94
  let c256_i32_95 : BitVec 32 := 256#32
  let v181 : BitVec 32 := Scalar.addi v180 c256_i32_95
  v181
def k0_mult144 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v194 : BitVec 32 := Scalar.muli arg18 c1024_i32_99
  let c512_i32 : BitVec 32 := 512#32
  let v195 : BitVec 32 := Scalar.addi v194 c512_i32
  v195
def k0_mult145 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v206 : BitVec 32 := Scalar.muli arg18 c1024_i32_103
  let c512_i32_104 : BitVec 32 := 512#32
  let v207 : BitVec 32 := Scalar.addi v206 c512_i32_104
  v207
def k0_mult146 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_108 : BitVec 32 := 1024#32
  let v220 : BitVec 32 := Scalar.muli arg18 c1024_i32_108
  let c768_i32 : BitVec 32 := 768#32
  let v221 : BitVec 32 := Scalar.addi v220 c768_i32
  v221
def k0_mult147 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_112 : BitVec 32 := 1024#32
  let v232 : BitVec 32 := Scalar.muli arg18 c1024_i32_112
  let c768_i32_113 : BitVec 32 := 768#32
  let v233 : BitVec 32 := Scalar.addi v232 c768_i32_113
  v233
def k0_mult148 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  v244
def k0_off128 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v246 : Index := Scalar.indexCast v84
  let c0_116 : Index := 0#32
  let c0_117 : Index := 0#32
  ![v246.toNat, 0, 0]
def k0_off129 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v253 : Index := Scalar.indexCast v245
  let c0_118 : Index := 0#32
  ![v253.toNat, 0]
def k0_off130 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v256 : Index := Scalar.indexCast v84
  let c0_119 : Index := 0#32
  let c0_120 : Index := 0#32
  ![v256.toNat, 0, 0]
def k0_off131 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v266 : Index := Scalar.indexCast v84
  let c256 : Index := 256#32
  let c0_122 : Index := 0#32
  ![v266.toNat, 256, 0]
def k0_off132 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v276 : Index := Scalar.indexCast v84
  let c512 : Index := 512#32
  let c0_124 : Index := 0#32
  ![v276.toNat, 512, 0]
def k0_off133 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v286 : Index := Scalar.indexCast v84
  let c768 : Index := 768#32
  let c0_126 : Index := 0#32
  ![v286.toNat, 768, 0]
def k0_off134 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v301 : Index := Scalar.indexCast v84
  let c0_129 : Index := 0#32
  let c256_130 : Index := 256#32
  ![v301.toNat, 0, 256]
def k0_off135 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v308 : Index := Scalar.indexCast v245
  let c256_132 : Index := 256#32
  ![v308.toNat, 256]
def k0_off136 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v311 : Index := Scalar.indexCast v84
  let c0_133 : Index := 0#32
  let c256_134 : Index := 256#32
  ![v311.toNat, 0, 256]
def k0_off137 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v321 : Index := Scalar.indexCast v84
  let c256_136 : Index := 256#32
  let c256_137 : Index := 256#32
  ![v321.toNat, 256, 256]
def k0_off138 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v331 : Index := Scalar.indexCast v84
  let c512_139 : Index := 512#32
  let c256_140 : Index := 256#32
  ![v331.toNat, 512, 256]
def k0_off139 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v341 : Index := Scalar.indexCast v84
  let c768_142 : Index := 768#32
  let c256_143 : Index := 256#32
  ![v341.toNat, 768, 256]
def k0_off140 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v356 : Index := Scalar.indexCast v84
  let c0_146 : Index := 0#32
  let c512_147 : Index := 512#32
  ![v356.toNat, 0, 512]
def k0_off141 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v363 : Index := Scalar.indexCast v245
  let c512_149 : Index := 512#32
  ![v363.toNat, 512]
def k0_off142 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v366 : Index := Scalar.indexCast v84
  let c0_150 : Index := 0#32
  let c512_151 : Index := 512#32
  ![v366.toNat, 0, 512]
def k0_off143 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v376 : Index := Scalar.indexCast v84
  let c256_153 : Index := 256#32
  let c512_154 : Index := 512#32
  ![v376.toNat, 256, 512]
def k0_off144 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v386 : Index := Scalar.indexCast v84
  let c512_156 : Index := 512#32
  let c512_157 : Index := 512#32
  ![v386.toNat, 512, 512]
def k0_off145 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v396 : Index := Scalar.indexCast v84
  let c768_159 : Index := 768#32
  let c512_160 : Index := 512#32
  ![v396.toNat, 768, 512]
def k0_off146 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v411 : Index := Scalar.indexCast v84
  let c0_163 : Index := 0#32
  let c768_164 : Index := 768#32
  ![v411.toNat, 0, 768]
def k0_off147 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v418 : Index := Scalar.indexCast v245
  let c768_166 : Index := 768#32
  ![v418.toNat, 768]
def k0_off148 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v421 : Index := Scalar.indexCast v84
  let c0_167 : Index := 0#32
  let c768_168 : Index := 768#32
  ![v421.toNat, 0, 768]
def k0_off149 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v431 : Index := Scalar.indexCast v84
  let c256_170 : Index := 256#32
  let c768_171 : Index := 768#32
  ![v431.toNat, 256, 768]
def k0_off150 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v441 : Index := Scalar.indexCast v84
  let c512_173 : Index := 512#32
  let c768_174 : Index := 768#32
  ![v441.toNat, 512, 768]
def k0_off151 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v451 : Index := Scalar.indexCast v84
  let c768_176 : Index := 768#32
  let c768_177 : Index := 768#32
  ![v451.toNat, 768, 768]
def k0_off152 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v466 : Index := Scalar.indexCast v84
  let c0_180 : Index := 0#32
  let c1024 : Index := 1024#32
  ![v466.toNat, 0, 1024]
def k0_off153 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v473 : Index := Scalar.indexCast v245
  let c1024_182 : Index := 1024#32
  ![v473.toNat, 1024]
def k0_off154 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v476 : Index := Scalar.indexCast v84
  let c0_183 : Index := 0#32
  let c1024_184 : Index := 1024#32
  ![v476.toNat, 0, 1024]
def k0_off155 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v486 : Index := Scalar.indexCast v84
  let c256_186 : Index := 256#32
  let c1024_187 : Index := 1024#32
  ![v486.toNat, 256, 1024]
def k0_off156 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v496 : Index := Scalar.indexCast v84
  let c512_189 : Index := 512#32
  let c1024_190 : Index := 1024#32
  ![v496.toNat, 512, 1024]
def k0_off157 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v506 : Index := Scalar.indexCast v84
  let c768_192 : Index := 768#32
  let c1024_193 : Index := 1024#32
  ![v506.toNat, 768, 1024]
def k0_off158 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v521 : Index := Scalar.indexCast v84
  let c0_196 : Index := 0#32
  let c1280 : Index := 1280#32
  ![v521.toNat, 0, 1280]
def k0_off159 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v528 : Index := Scalar.indexCast v245
  let c1280_198 : Index := 1280#32
  ![v528.toNat, 1280]
def k0_off160 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v531 : Index := Scalar.indexCast v84
  let c0_199 : Index := 0#32
  let c1280_200 : Index := 1280#32
  ![v531.toNat, 0, 1280]
def k0_off161 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v541 : Index := Scalar.indexCast v84
  let c256_202 : Index := 256#32
  let c1280_203 : Index := 1280#32
  ![v541.toNat, 256, 1280]
def k0_off162 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v551 : Index := Scalar.indexCast v84
  let c512_205 : Index := 512#32
  let c1280_206 : Index := 1280#32
  ![v551.toNat, 512, 1280]
def k0_off163 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v561 : Index := Scalar.indexCast v84
  let c768_208 : Index := 768#32
  let c1280_209 : Index := 1280#32
  ![v561.toNat, 768, 1280]
def k0_off164 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v576 : Index := Scalar.indexCast v84
  let c0_212 : Index := 0#32
  let c1536 : Index := 1536#32
  ![v576.toNat, 0, 1536]
def k0_off165 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v583 : Index := Scalar.indexCast v245
  let c1536_214 : Index := 1536#32
  ![v583.toNat, 1536]
def k0_off166 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v586 : Index := Scalar.indexCast v84
  let c0_215 : Index := 0#32
  let c1536_216 : Index := 1536#32
  ![v586.toNat, 0, 1536]
def k0_off167 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v596 : Index := Scalar.indexCast v84
  let c256_218 : Index := 256#32
  let c1536_219 : Index := 1536#32
  ![v596.toNat, 256, 1536]
def k0_off168 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v606 : Index := Scalar.indexCast v84
  let c512_221 : Index := 512#32
  let c1536_222 : Index := 1536#32
  ![v606.toNat, 512, 1536]
def k0_off169 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v616 : Index := Scalar.indexCast v84
  let c768_224 : Index := 768#32
  let c1536_225 : Index := 1536#32
  ![v616.toNat, 768, 1536]
def k0_off170 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v631 : Index := Scalar.indexCast v84
  let c0_228 : Index := 0#32
  let c1792 : Index := 1792#32
  ![v631.toNat, 0, 1792]
def k0_off171 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v638 : Index := Scalar.indexCast v245
  let c1792_230 : Index := 1792#32
  ![v638.toNat, 1792]
def k0_off172 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v641 : Index := Scalar.indexCast v84
  let c0_231 : Index := 0#32
  let c1792_232 : Index := 1792#32
  ![v641.toNat, 0, 1792]
def k0_off173 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v651 : Index := Scalar.indexCast v84
  let c256_234 : Index := 256#32
  let c1792_235 : Index := 1792#32
  ![v651.toNat, 256, 1792]
def k0_off174 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v661 : Index := Scalar.indexCast v84
  let c512_237 : Index := 512#32
  let c1792_238 : Index := 1792#32
  ![v661.toNat, 512, 1792]
def k0_off175 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v671 : Index := Scalar.indexCast v84
  let c768_240 : Index := 768#32
  let c1792_241 : Index := 1792#32
  ![v671.toNat, 768, 1792]
def k0_mult149 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off176 (v56 : BitVec 32) (v58 : BitVec 32) (k0_t8 : Fin k0_t8_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond2 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c2_i32_67 : BitVec 32 := 2#32
  let v118 : BitVec 1 := Scalar.cmpi .sgt v72 c2_i32_67
  let c4_i32 : BitVec 32 := 4#32
  let v119 : BitVec 1 := Scalar.cmpi .sle v72 c4_i32
  let v120 : BitVec 1 := Scalar.andi v118 v119
  let v121 : BitVec 32 := Scalar.extui v120
  let c0_i32_68 : BitVec 32 := 0#32
  let v122 : BitVec 1 := Scalar.cmpi .ne v121 c0_i32_68
  v122

def k0_mult150 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult151 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult152 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult153 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v192 : BitVec 32 := Scalar.muli arg18 c1024_i32_99
  let c256_i32 : BitVec 32 := 256#32
  let v193 : BitVec 32 := Scalar.addi v192 c256_i32
  v193
def k0_mult154 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v204 : BitVec 32 := Scalar.muli arg18 c1024_i32_103
  let c256_i32_104 : BitVec 32 := 256#32
  let v205 : BitVec 32 := Scalar.addi v204 c256_i32_104
  v205
def k0_mult155 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_108 : BitVec 32 := 1024#32
  let v216 : BitVec 32 := Scalar.muli arg18 c1024_i32_108
  let c256_i32_109 : BitVec 32 := 256#32
  let v217 : BitVec 32 := Scalar.addi v216 c256_i32_109
  v217
def k0_mult156 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_113 : BitVec 32 := 1024#32
  let v228 : BitVec 32 := Scalar.muli arg18 c1024_i32_113
  let c256_i32_114 : BitVec 32 := 256#32
  let v229 : BitVec 32 := Scalar.addi v228 c256_i32_114
  v229
def k0_mult157 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_118 : BitVec 32 := 1024#32
  let v242 : BitVec 32 := Scalar.muli arg18 c1024_i32_118
  let c512_i32 : BitVec 32 := 512#32
  let v243 : BitVec 32 := Scalar.addi v242 c512_i32
  v243
def k0_mult158 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_122 : BitVec 32 := 1024#32
  let v254 : BitVec 32 := Scalar.muli arg18 c1024_i32_122
  let c512_i32_123 : BitVec 32 := 512#32
  let v255 : BitVec 32 := Scalar.addi v254 c512_i32_123
  v255
def k0_mult159 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_127 : BitVec 32 := 1024#32
  let v266 : BitVec 32 := Scalar.muli arg18 c1024_i32_127
  let c512_i32_128 : BitVec 32 := 512#32
  let v267 : BitVec 32 := Scalar.addi v266 c512_i32_128
  v267
def k0_mult160 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_132 : BitVec 32 := 1024#32
  let v278 : BitVec 32 := Scalar.muli arg18 c1024_i32_132
  let c512_i32_133 : BitVec 32 := 512#32
  let v279 : BitVec 32 := Scalar.addi v278 c512_i32_133
  v279
def k0_mult161 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_137 : BitVec 32 := 1024#32
  let v292 : BitVec 32 := Scalar.muli arg18 c1024_i32_137
  let c768_i32 : BitVec 32 := 768#32
  let v293 : BitVec 32 := Scalar.addi v292 c768_i32
  v293
def k0_mult162 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_141 : BitVec 32 := 1024#32
  let v304 : BitVec 32 := Scalar.muli arg18 c1024_i32_141
  let c768_i32_142 : BitVec 32 := 768#32
  let v305 : BitVec 32 := Scalar.addi v304 c768_i32_142
  v305
def k0_mult163 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_146 : BitVec 32 := 1024#32
  let v316 : BitVec 32 := Scalar.muli arg18 c1024_i32_146
  let c768_i32_147 : BitVec 32 := 768#32
  let v317 : BitVec 32 := Scalar.addi v316 c768_i32_147
  v317
def k0_mult164 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_151 : BitVec 32 := 1024#32
  let v328 : BitVec 32 := Scalar.muli arg18 c1024_i32_151
  let c768_i32_152 : BitVec 32 := 768#32
  let v329 : BitVec 32 := Scalar.addi v328 c768_i32_152
  v329
def k0_mult165 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  v340
def k0_off177 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v342 : Index := Scalar.indexCast v84
  let c0_155 : Index := 0#32
  let c0_156 : Index := 0#32
  ![v342.toNat, 0, 0]
def k0_off178 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v349 : Index := Scalar.indexCast v341
  let c0_157 : Index := 0#32
  ![v349.toNat, 0]
def k0_off179 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v352 : Index := Scalar.indexCast v84
  let c0_158 : Index := 0#32
  let c0_159 : Index := 0#32
  ![v352.toNat, 0, 0]
def k0_off180 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v362 : Index := Scalar.indexCast v84
  let c256 : Index := 256#32
  let c0_161 : Index := 0#32
  ![v362.toNat, 256, 0]
def k0_off181 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v372 : Index := Scalar.indexCast v84
  let c512 : Index := 512#32
  let c0_163 : Index := 0#32
  ![v372.toNat, 512, 0]
def k0_off182 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v382 : Index := Scalar.indexCast v84
  let c768 : Index := 768#32
  let c0_165 : Index := 0#32
  ![v382.toNat, 768, 0]
def k0_off183 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v397 : Index := Scalar.indexCast v84
  let c0_168 : Index := 0#32
  let c256_169 : Index := 256#32
  ![v397.toNat, 0, 256]
def k0_off184 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v404 : Index := Scalar.indexCast v341
  let c256_171 : Index := 256#32
  ![v404.toNat, 256]
def k0_off185 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v407 : Index := Scalar.indexCast v84
  let c0_172 : Index := 0#32
  let c256_173 : Index := 256#32
  ![v407.toNat, 0, 256]
def k0_off186 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v417 : Index := Scalar.indexCast v84
  let c256_175 : Index := 256#32
  let c256_176 : Index := 256#32
  ![v417.toNat, 256, 256]
def k0_off187 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v427 : Index := Scalar.indexCast v84
  let c512_178 : Index := 512#32
  let c256_179 : Index := 256#32
  ![v427.toNat, 512, 256]
def k0_off188 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v437 : Index := Scalar.indexCast v84
  let c768_181 : Index := 768#32
  let c256_182 : Index := 256#32
  ![v437.toNat, 768, 256]
def k0_off189 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v452 : Index := Scalar.indexCast v84
  let c0_185 : Index := 0#32
  let c512_186 : Index := 512#32
  ![v452.toNat, 0, 512]
def k0_off190 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v459 : Index := Scalar.indexCast v341
  let c512_188 : Index := 512#32
  ![v459.toNat, 512]
def k0_off191 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v462 : Index := Scalar.indexCast v84
  let c0_189 : Index := 0#32
  let c512_190 : Index := 512#32
  ![v462.toNat, 0, 512]
def k0_off192 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v472 : Index := Scalar.indexCast v84
  let c256_192 : Index := 256#32
  let c512_193 : Index := 512#32
  ![v472.toNat, 256, 512]
def k0_off193 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v482 : Index := Scalar.indexCast v84
  let c512_195 : Index := 512#32
  let c512_196 : Index := 512#32
  ![v482.toNat, 512, 512]
def k0_off194 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v492 : Index := Scalar.indexCast v84
  let c768_198 : Index := 768#32
  let c512_199 : Index := 512#32
  ![v492.toNat, 768, 512]
def k0_off195 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v507 : Index := Scalar.indexCast v84
  let c0_202 : Index := 0#32
  let c768_203 : Index := 768#32
  ![v507.toNat, 0, 768]
def k0_off196 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v514 : Index := Scalar.indexCast v341
  let c768_205 : Index := 768#32
  ![v514.toNat, 768]
def k0_off197 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v517 : Index := Scalar.indexCast v84
  let c0_206 : Index := 0#32
  let c768_207 : Index := 768#32
  ![v517.toNat, 0, 768]
def k0_off198 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v527 : Index := Scalar.indexCast v84
  let c256_209 : Index := 256#32
  let c768_210 : Index := 768#32
  ![v527.toNat, 256, 768]
def k0_off199 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v537 : Index := Scalar.indexCast v84
  let c512_212 : Index := 512#32
  let c768_213 : Index := 768#32
  ![v537.toNat, 512, 768]
def k0_off200 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v547 : Index := Scalar.indexCast v84
  let c768_215 : Index := 768#32
  let c768_216 : Index := 768#32
  ![v547.toNat, 768, 768]
def k0_off201 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v562 : Index := Scalar.indexCast v84
  let c0_219 : Index := 0#32
  let c1024 : Index := 1024#32
  ![v562.toNat, 0, 1024]
def k0_off202 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v569 : Index := Scalar.indexCast v341
  let c1024_221 : Index := 1024#32
  ![v569.toNat, 1024]
def k0_off203 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v572 : Index := Scalar.indexCast v84
  let c0_222 : Index := 0#32
  let c1024_223 : Index := 1024#32
  ![v572.toNat, 0, 1024]
def k0_off204 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v582 : Index := Scalar.indexCast v84
  let c256_225 : Index := 256#32
  let c1024_226 : Index := 1024#32
  ![v582.toNat, 256, 1024]
def k0_off205 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v592 : Index := Scalar.indexCast v84
  let c512_228 : Index := 512#32
  let c1024_229 : Index := 1024#32
  ![v592.toNat, 512, 1024]
def k0_off206 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v602 : Index := Scalar.indexCast v84
  let c768_231 : Index := 768#32
  let c1024_232 : Index := 1024#32
  ![v602.toNat, 768, 1024]
def k0_off207 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v617 : Index := Scalar.indexCast v84
  let c0_235 : Index := 0#32
  let c1280 : Index := 1280#32
  ![v617.toNat, 0, 1280]
def k0_off208 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v624 : Index := Scalar.indexCast v341
  let c1280_237 : Index := 1280#32
  ![v624.toNat, 1280]
def k0_off209 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v627 : Index := Scalar.indexCast v84
  let c0_238 : Index := 0#32
  let c1280_239 : Index := 1280#32
  ![v627.toNat, 0, 1280]
def k0_off210 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v637 : Index := Scalar.indexCast v84
  let c256_241 : Index := 256#32
  let c1280_242 : Index := 1280#32
  ![v637.toNat, 256, 1280]
def k0_off211 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v647 : Index := Scalar.indexCast v84
  let c512_244 : Index := 512#32
  let c1280_245 : Index := 1280#32
  ![v647.toNat, 512, 1280]
def k0_off212 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v657 : Index := Scalar.indexCast v84
  let c768_247 : Index := 768#32
  let c1280_248 : Index := 1280#32
  ![v657.toNat, 768, 1280]
def k0_off213 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v672 : Index := Scalar.indexCast v84
  let c0_251 : Index := 0#32
  let c1536 : Index := 1536#32
  ![v672.toNat, 0, 1536]
def k0_off214 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v679 : Index := Scalar.indexCast v341
  let c1536_253 : Index := 1536#32
  ![v679.toNat, 1536]
def k0_off215 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v682 : Index := Scalar.indexCast v84
  let c0_254 : Index := 0#32
  let c1536_255 : Index := 1536#32
  ![v682.toNat, 0, 1536]
def k0_off216 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v692 : Index := Scalar.indexCast v84
  let c256_257 : Index := 256#32
  let c1536_258 : Index := 1536#32
  ![v692.toNat, 256, 1536]
def k0_off217 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v702 : Index := Scalar.indexCast v84
  let c512_260 : Index := 512#32
  let c1536_261 : Index := 1536#32
  ![v702.toNat, 512, 1536]
def k0_off218 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v712 : Index := Scalar.indexCast v84
  let c768_263 : Index := 768#32
  let c1536_264 : Index := 1536#32
  ![v712.toNat, 768, 1536]
def k0_off219 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v727 : Index := Scalar.indexCast v84
  let c0_267 : Index := 0#32
  let c1792 : Index := 1792#32
  ![v727.toNat, 0, 1792]
def k0_off220 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v734 : Index := Scalar.indexCast v341
  let c1792_269 : Index := 1792#32
  ![v734.toNat, 1792]
def k0_off221 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v737 : Index := Scalar.indexCast v84
  let c0_270 : Index := 0#32
  let c1792_271 : Index := 1792#32
  ![v737.toNat, 0, 1792]
def k0_off222 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v747 : Index := Scalar.indexCast v84
  let c256_273 : Index := 256#32
  let c1792_274 : Index := 1792#32
  ![v747.toNat, 256, 1792]
def k0_off223 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v757 : Index := Scalar.indexCast v84
  let c512_276 : Index := 512#32
  let c1792_277 : Index := 1792#32
  ![v757.toNat, 512, 1792]
def k0_off224 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v767 : Index := Scalar.indexCast v84
  let c768_279 : Index := 768#32
  let c1792_280 : Index := 1792#32
  ![v767.toNat, 768, 1792]
def k0_mult166 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off225 (v56 : BitVec 32) (v58 : BitVec 32) (k0_t8 : Fin k0_t8_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond3 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c4_i32_69 : BitVec 32 := 4#32
  let v123 : BitVec 1 := Scalar.cmpi .sgt v72 c4_i32_69
  let c8_i32 : BitVec 32 := 8#32
  let v124 : BitVec 1 := Scalar.cmpi .sle v72 c8_i32
  let v125 : BitVec 1 := Scalar.andi v123 v124
  let v126 : BitVec 32 := Scalar.extui v125
  let c0_i32_70 : BitVec 32 := 0#32
  let v127 : BitVec 1 := Scalar.cmpi .ne v126 c0_i32_70
  v127

def k0_mult167 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult168 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult169 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult170 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult171 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult172 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult173 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult174 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_117 : BitVec 32 := 1024#32
  let v240 : BitVec 32 := Scalar.muli arg18 c1024_i32_117
  let c256_i32 : BitVec 32 := 256#32
  let v241 : BitVec 32 := Scalar.addi v240 c256_i32
  v241
def k0_mult175 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_121 : BitVec 32 := 1024#32
  let v252 : BitVec 32 := Scalar.muli arg18 c1024_i32_121
  let c256_i32_122 : BitVec 32 := 256#32
  let v253 : BitVec 32 := Scalar.addi v252 c256_i32_122
  v253
def k0_mult176 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_126 : BitVec 32 := 1024#32
  let v264 : BitVec 32 := Scalar.muli arg18 c1024_i32_126
  let c256_i32_127 : BitVec 32 := 256#32
  let v265 : BitVec 32 := Scalar.addi v264 c256_i32_127
  v265
def k0_mult177 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_131 : BitVec 32 := 1024#32
  let v276 : BitVec 32 := Scalar.muli arg18 c1024_i32_131
  let c256_i32_132 : BitVec 32 := 256#32
  let v277 : BitVec 32 := Scalar.addi v276 c256_i32_132
  v277
def k0_mult178 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_136 : BitVec 32 := 1024#32
  let v288 : BitVec 32 := Scalar.muli arg18 c1024_i32_136
  let c256_i32_137 : BitVec 32 := 256#32
  let v289 : BitVec 32 := Scalar.addi v288 c256_i32_137
  v289
def k0_mult179 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_141 : BitVec 32 := 1024#32
  let v300 : BitVec 32 := Scalar.muli arg18 c1024_i32_141
  let c256_i32_142 : BitVec 32 := 256#32
  let v301 : BitVec 32 := Scalar.addi v300 c256_i32_142
  v301
def k0_mult180 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_146 : BitVec 32 := 1024#32
  let v312 : BitVec 32 := Scalar.muli arg18 c1024_i32_146
  let c256_i32_147 : BitVec 32 := 256#32
  let v313 : BitVec 32 := Scalar.addi v312 c256_i32_147
  v313
def k0_mult181 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_151 : BitVec 32 := 1024#32
  let v324 : BitVec 32 := Scalar.muli arg18 c1024_i32_151
  let c256_i32_152 : BitVec 32 := 256#32
  let v325 : BitVec 32 := Scalar.addi v324 c256_i32_152
  v325
def k0_mult182 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_156 : BitVec 32 := 1024#32
  let v338 : BitVec 32 := Scalar.muli arg18 c1024_i32_156
  let c512_i32 : BitVec 32 := 512#32
  let v339 : BitVec 32 := Scalar.addi v338 c512_i32
  v339
def k0_mult183 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_160 : BitVec 32 := 1024#32
  let v350 : BitVec 32 := Scalar.muli arg18 c1024_i32_160
  let c512_i32_161 : BitVec 32 := 512#32
  let v351 : BitVec 32 := Scalar.addi v350 c512_i32_161
  v351
def k0_mult184 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_165 : BitVec 32 := 1024#32
  let v362 : BitVec 32 := Scalar.muli arg18 c1024_i32_165
  let c512_i32_166 : BitVec 32 := 512#32
  let v363 : BitVec 32 := Scalar.addi v362 c512_i32_166
  v363
def k0_mult185 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_170 : BitVec 32 := 1024#32
  let v374 : BitVec 32 := Scalar.muli arg18 c1024_i32_170
  let c512_i32_171 : BitVec 32 := 512#32
  let v375 : BitVec 32 := Scalar.addi v374 c512_i32_171
  v375
def k0_mult186 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_175 : BitVec 32 := 1024#32
  let v386 : BitVec 32 := Scalar.muli arg18 c1024_i32_175
  let c512_i32_176 : BitVec 32 := 512#32
  let v387 : BitVec 32 := Scalar.addi v386 c512_i32_176
  v387
def k0_mult187 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_180 : BitVec 32 := 1024#32
  let v398 : BitVec 32 := Scalar.muli arg18 c1024_i32_180
  let c512_i32_181 : BitVec 32 := 512#32
  let v399 : BitVec 32 := Scalar.addi v398 c512_i32_181
  v399
def k0_mult188 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_185 : BitVec 32 := 1024#32
  let v410 : BitVec 32 := Scalar.muli arg18 c1024_i32_185
  let c512_i32_186 : BitVec 32 := 512#32
  let v411 : BitVec 32 := Scalar.addi v410 c512_i32_186
  v411
def k0_mult189 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_190 : BitVec 32 := 1024#32
  let v422 : BitVec 32 := Scalar.muli arg18 c1024_i32_190
  let c512_i32_191 : BitVec 32 := 512#32
  let v423 : BitVec 32 := Scalar.addi v422 c512_i32_191
  v423
def k0_mult190 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_195 : BitVec 32 := 1024#32
  let v436 : BitVec 32 := Scalar.muli arg18 c1024_i32_195
  let c768_i32 : BitVec 32 := 768#32
  let v437 : BitVec 32 := Scalar.addi v436 c768_i32
  v437
def k0_mult191 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_199 : BitVec 32 := 1024#32
  let v448 : BitVec 32 := Scalar.muli arg18 c1024_i32_199
  let c768_i32_200 : BitVec 32 := 768#32
  let v449 : BitVec 32 := Scalar.addi v448 c768_i32_200
  v449
def k0_mult192 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_204 : BitVec 32 := 1024#32
  let v460 : BitVec 32 := Scalar.muli arg18 c1024_i32_204
  let c768_i32_205 : BitVec 32 := 768#32
  let v461 : BitVec 32 := Scalar.addi v460 c768_i32_205
  v461
def k0_mult193 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_209 : BitVec 32 := 1024#32
  let v472 : BitVec 32 := Scalar.muli arg18 c1024_i32_209
  let c768_i32_210 : BitVec 32 := 768#32
  let v473 : BitVec 32 := Scalar.addi v472 c768_i32_210
  v473
def k0_mult194 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_214 : BitVec 32 := 1024#32
  let v484 : BitVec 32 := Scalar.muli arg18 c1024_i32_214
  let c768_i32_215 : BitVec 32 := 768#32
  let v485 : BitVec 32 := Scalar.addi v484 c768_i32_215
  v485
def k0_mult195 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_219 : BitVec 32 := 1024#32
  let v496 : BitVec 32 := Scalar.muli arg18 c1024_i32_219
  let c768_i32_220 : BitVec 32 := 768#32
  let v497 : BitVec 32 := Scalar.addi v496 c768_i32_220
  v497
def k0_mult196 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_224 : BitVec 32 := 1024#32
  let v508 : BitVec 32 := Scalar.muli arg18 c1024_i32_224
  let c768_i32_225 : BitVec 32 := 768#32
  let v509 : BitVec 32 := Scalar.addi v508 c768_i32_225
  v509
def k0_mult197 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_229 : BitVec 32 := 1024#32
  let v520 : BitVec 32 := Scalar.muli arg18 c1024_i32_229
  let c768_i32_230 : BitVec 32 := 768#32
  let v521 : BitVec 32 := Scalar.addi v520 c768_i32_230
  v521
def k0_mult198 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  v532
def k0_off226 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v534 : Index := Scalar.indexCast v84
  let c0_233 : Index := 0#32
  let c0_234 : Index := 0#32
  ![v534.toNat, 0, 0]
def k0_off227 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v541 : Index := Scalar.indexCast v533
  let c0_235 : Index := 0#32
  ![v541.toNat, 0]
def k0_off228 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v544 : Index := Scalar.indexCast v84
  let c0_236 : Index := 0#32
  let c0_237 : Index := 0#32
  ![v544.toNat, 0, 0]
def k0_off229 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v554 : Index := Scalar.indexCast v84
  let c256 : Index := 256#32
  let c0_239 : Index := 0#32
  ![v554.toNat, 256, 0]
def k0_off230 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v564 : Index := Scalar.indexCast v84
  let c512 : Index := 512#32
  let c0_241 : Index := 0#32
  ![v564.toNat, 512, 0]
def k0_off231 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v574 : Index := Scalar.indexCast v84
  let c768 : Index := 768#32
  let c0_243 : Index := 0#32
  ![v574.toNat, 768, 0]
def k0_off232 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v589 : Index := Scalar.indexCast v84
  let c0_246 : Index := 0#32
  let c256_247 : Index := 256#32
  ![v589.toNat, 0, 256]
def k0_off233 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v596 : Index := Scalar.indexCast v533
  let c256_249 : Index := 256#32
  ![v596.toNat, 256]
def k0_off234 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v599 : Index := Scalar.indexCast v84
  let c0_250 : Index := 0#32
  let c256_251 : Index := 256#32
  ![v599.toNat, 0, 256]
def k0_off235 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v609 : Index := Scalar.indexCast v84
  let c256_253 : Index := 256#32
  let c256_254 : Index := 256#32
  ![v609.toNat, 256, 256]
def k0_off236 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v619 : Index := Scalar.indexCast v84
  let c512_256 : Index := 512#32
  let c256_257 : Index := 256#32
  ![v619.toNat, 512, 256]
def k0_off237 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v629 : Index := Scalar.indexCast v84
  let c768_259 : Index := 768#32
  let c256_260 : Index := 256#32
  ![v629.toNat, 768, 256]
def k0_off238 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v644 : Index := Scalar.indexCast v84
  let c0_263 : Index := 0#32
  let c512_264 : Index := 512#32
  ![v644.toNat, 0, 512]
def k0_off239 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v651 : Index := Scalar.indexCast v533
  let c512_266 : Index := 512#32
  ![v651.toNat, 512]
def k0_off240 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v654 : Index := Scalar.indexCast v84
  let c0_267 : Index := 0#32
  let c512_268 : Index := 512#32
  ![v654.toNat, 0, 512]
def k0_off241 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v664 : Index := Scalar.indexCast v84
  let c256_270 : Index := 256#32
  let c512_271 : Index := 512#32
  ![v664.toNat, 256, 512]
def k0_off242 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v674 : Index := Scalar.indexCast v84
  let c512_273 : Index := 512#32
  let c512_274 : Index := 512#32
  ![v674.toNat, 512, 512]
def k0_off243 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v684 : Index := Scalar.indexCast v84
  let c768_276 : Index := 768#32
  let c512_277 : Index := 512#32
  ![v684.toNat, 768, 512]
def k0_off244 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v699 : Index := Scalar.indexCast v84
  let c0_280 : Index := 0#32
  let c768_281 : Index := 768#32
  ![v699.toNat, 0, 768]
def k0_off245 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v706 : Index := Scalar.indexCast v533
  let c768_283 : Index := 768#32
  ![v706.toNat, 768]
def k0_off246 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v709 : Index := Scalar.indexCast v84
  let c0_284 : Index := 0#32
  let c768_285 : Index := 768#32
  ![v709.toNat, 0, 768]
def k0_off247 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v719 : Index := Scalar.indexCast v84
  let c256_287 : Index := 256#32
  let c768_288 : Index := 768#32
  ![v719.toNat, 256, 768]
def k0_off248 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v729 : Index := Scalar.indexCast v84
  let c512_290 : Index := 512#32
  let c768_291 : Index := 768#32
  ![v729.toNat, 512, 768]
def k0_off249 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v739 : Index := Scalar.indexCast v84
  let c768_293 : Index := 768#32
  let c768_294 : Index := 768#32
  ![v739.toNat, 768, 768]
def k0_off250 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v754 : Index := Scalar.indexCast v84
  let c0_297 : Index := 0#32
  let c1024 : Index := 1024#32
  ![v754.toNat, 0, 1024]
def k0_off251 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v761 : Index := Scalar.indexCast v533
  let c1024_299 : Index := 1024#32
  ![v761.toNat, 1024]
def k0_off252 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v764 : Index := Scalar.indexCast v84
  let c0_300 : Index := 0#32
  let c1024_301 : Index := 1024#32
  ![v764.toNat, 0, 1024]
def k0_off253 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v774 : Index := Scalar.indexCast v84
  let c256_303 : Index := 256#32
  let c1024_304 : Index := 1024#32
  ![v774.toNat, 256, 1024]
def k0_off254 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v784 : Index := Scalar.indexCast v84
  let c512_306 : Index := 512#32
  let c1024_307 : Index := 1024#32
  ![v784.toNat, 512, 1024]
def k0_off255 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v794 : Index := Scalar.indexCast v84
  let c768_309 : Index := 768#32
  let c1024_310 : Index := 1024#32
  ![v794.toNat, 768, 1024]
def k0_off256 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v809 : Index := Scalar.indexCast v84
  let c0_313 : Index := 0#32
  let c1280 : Index := 1280#32
  ![v809.toNat, 0, 1280]
def k0_off257 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v816 : Index := Scalar.indexCast v533
  let c1280_315 : Index := 1280#32
  ![v816.toNat, 1280]
def k0_off258 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v819 : Index := Scalar.indexCast v84
  let c0_316 : Index := 0#32
  let c1280_317 : Index := 1280#32
  ![v819.toNat, 0, 1280]
def k0_off259 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v829 : Index := Scalar.indexCast v84
  let c256_319 : Index := 256#32
  let c1280_320 : Index := 1280#32
  ![v829.toNat, 256, 1280]
def k0_off260 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v839 : Index := Scalar.indexCast v84
  let c512_322 : Index := 512#32
  let c1280_323 : Index := 1280#32
  ![v839.toNat, 512, 1280]
def k0_off261 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v849 : Index := Scalar.indexCast v84
  let c768_325 : Index := 768#32
  let c1280_326 : Index := 1280#32
  ![v849.toNat, 768, 1280]
def k0_off262 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v864 : Index := Scalar.indexCast v84
  let c0_329 : Index := 0#32
  let c1536 : Index := 1536#32
  ![v864.toNat, 0, 1536]
def k0_off263 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v871 : Index := Scalar.indexCast v533
  let c1536_331 : Index := 1536#32
  ![v871.toNat, 1536]
def k0_off264 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v874 : Index := Scalar.indexCast v84
  let c0_332 : Index := 0#32
  let c1536_333 : Index := 1536#32
  ![v874.toNat, 0, 1536]
def k0_off265 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v884 : Index := Scalar.indexCast v84
  let c256_335 : Index := 256#32
  let c1536_336 : Index := 1536#32
  ![v884.toNat, 256, 1536]
def k0_off266 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v894 : Index := Scalar.indexCast v84
  let c512_338 : Index := 512#32
  let c1536_339 : Index := 1536#32
  ![v894.toNat, 512, 1536]
def k0_off267 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v904 : Index := Scalar.indexCast v84
  let c768_341 : Index := 768#32
  let c1536_342 : Index := 1536#32
  ![v904.toNat, 768, 1536]
def k0_off268 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v919 : Index := Scalar.indexCast v84
  let c0_345 : Index := 0#32
  let c1792 : Index := 1792#32
  ![v919.toNat, 0, 1792]
def k0_off269 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v926 : Index := Scalar.indexCast v533
  let c1792_347 : Index := 1792#32
  ![v926.toNat, 1792]
def k0_off270 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v929 : Index := Scalar.indexCast v84
  let c0_348 : Index := 0#32
  let c1792_349 : Index := 1792#32
  ![v929.toNat, 0, 1792]
def k0_off271 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v939 : Index := Scalar.indexCast v84
  let c256_351 : Index := 256#32
  let c1792_352 : Index := 1792#32
  ![v939.toNat, 256, 1792]
def k0_off272 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v949 : Index := Scalar.indexCast v84
  let c512_354 : Index := 512#32
  let c1792_355 : Index := 1792#32
  ![v949.toNat, 512, 1792]
def k0_off273 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v959 : Index := Scalar.indexCast v84
  let c768_357 : Index := 768#32
  let c1792_358 : Index := 1792#32
  ![v959.toNat, 768, 1792]
def k0_mult199 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off274 (v56 : BitVec 32) (v58 : BitVec 32) (k0_t8 : Fin k0_t8_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t8
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond4 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c8_i32_71 : BitVec 32 := 8#32
  let v128 : BitVec 1 := Scalar.cmpi .sgt v72 c8_i32_71
  let c16_i32_72 : BitVec 32 := 16#32
  let v129 : BitVec 1 := Scalar.cmpi .sle v72 c16_i32_72
  let v130 : BitVec 1 := Scalar.andi v128 v129
  let v131 : BitVec 32 := Scalar.extui v130
  let c0_i32_73 : BitVec 32 := 0#32
  let v132 : BitVec 1 := Scalar.cmpi .ne v131 c0_i32_73
  v132

def k0_mult200 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult201 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult202 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult203 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult204 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult205 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult206 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult207 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult208 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult209 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult210 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult211 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult212 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult213 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult214 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult215 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_152 : BitVec 32 := 1024#32
  let v336 : BitVec 32 := Scalar.muli arg18 c1024_i32_152
  let c256_i32 : BitVec 32 := 256#32
  let v337 : BitVec 32 := Scalar.addi v336 c256_i32
  v337
def k0_mult216 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult217 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult218 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult219 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult220 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult221 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult222 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult223 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult224 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult225 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult226 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult227 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult228 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult229 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult230 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult231 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_231 : BitVec 32 := 1024#32
  let v530 : BitVec 32 := Scalar.muli arg18 c1024_i32_231
  let c512_i32 : BitVec 32 := 512#32
  let v531 : BitVec 32 := Scalar.addi v530 c512_i32
  v531
def k0_mult232 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult233 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult234 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult235 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult236 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult237 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult238 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult239 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult240 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult241 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult242 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult243 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult244 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult245 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult246 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult247 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_310 : BitVec 32 := 1024#32
  let v724 : BitVec 32 := Scalar.muli arg18 c1024_i32_310
  let c768_i32 : BitVec 32 := 768#32
  let v725 : BitVec 32 := Scalar.addi v724 c768_i32
  v725
def k0_mult248 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult249 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult250 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult251 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult252 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult253 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult254 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult255 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult256 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult257 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult258 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult259 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult260 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult261 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult262 (k0_t8 : Fin k0_t8_loop.trips) : BitVec 32 :=
  let c0_i32_38 : BitVec 32 := 0#32
  let c1_i32_40 : BitVec 32 := 1#32
  let arg18 : BitVec 32 := Scf.iv c0_i32_38 c1_i32_40 k0_t8
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult263 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  v916
def k0_off275 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off276 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off277 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off278 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off279 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off280 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off281 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off282 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off283 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off284 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off285 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off286 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off287 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off288 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off289 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off290 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off291 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off292 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off293 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off294 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off295 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off296 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off297 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off298 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off299 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off300 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off301 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off302 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off303 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off304 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off305 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off306 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off307 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off308 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off309 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off310 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off311 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off312 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off313 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off314 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off315 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off316 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off317 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off318 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off319 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off320 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off321 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off322 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
def k0_off323 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c7_i32_79 : BitVec 32 := 7#32
  let v139 : BitVec 32 := Scalar.divsi v137 c7_i32_79
  let v140 : Index := Scalar.indexCast v139
  ![v140.toNat]
def k0_cond5 (v1_0 : BitVec 32) (k0_t5 : Fin (k0_t5_loop v1_0).trips) (k0_t8 : Fin k0_t8_loop.trips) : BitVec 1 :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_74 : BitVec 32 := 10#32
  let v133 : BitVec 32 := Scalar.addi v83 c10_i32_74
  let c7_i32 : BitVec 32 := 7#32
  let v2 : BitVec 32 := Scalar.muli v1_0 c7_i32
  let v134 : BitVec 1 := Scalar.cmpi .slt v133 v2
  let v135 : BitVec 32 := Scalar.extui v134
  let c0_i32_75 : BitVec 32 := 0#32
  let v136 : BitVec 1 := Scalar.cmpi .ne v135 c0_i32_75
  v136

def k0_mult264 (v1_0 : BitVec 32) (k0_t5 : Fin (k0_t5_loop v1_0).trips) (k0_t8 : Fin k0_t8_loop.trips) : BitVec 32 :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c1024_i32_81 : BitVec 32 := 1024#32
  let v143 : BitVec 32 := Scalar.muli v142 c1024_i32_81
  v143
def k0_mult265 (v1_0 : BitVec 32) (k0_t5 : Fin (k0_t5_loop v1_0).trips) (k0_t8 : Fin k0_t8_loop.trips) : BitVec 32 :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c32_i32_82 : BitVec 32 := 32#32
  let v145 : BitVec 32 := Scalar.muli v142 c32_i32_82
  v145
def k0_off324 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  ![v138.toNat]
def k0_off325 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  let c0_i32_83 : BitVec 32 := 0#32
  let c0_i32_84 : BitVec 32 := 0#32
  ![v138.toNat, 0, 0]
def k0_off326 (v1_0 : BitVec 32) (k0_t5 : Fin (k0_t5_loop v1_0).trips) (k0_t8 : Fin k0_t8_loop.trips) (v141 : BitVec 32) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c1024_i32_81 : BitVec 32 := 1024#32
  let v143 : BitVec 32 := Scalar.muli v142 c1024_i32_81
  let v144 : BitVec 32 := v143
  let c0_i32_85 : BitVec 32 := 0#32
  ![v141.toNat, v144.toNat, 0]

def k0_off327 (v1_0 : BitVec 32) (k0_t5 : Fin (k0_t5_loop v1_0).trips) (k0_t8 : Fin k0_t8_loop.trips) : Fin 1 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  ![v138.toNat]
def k0_off328 (v1_0 : BitVec 32) (k0_t5 : Fin (k0_t5_loop v1_0).trips) (k0_t8 : Fin k0_t8_loop.trips) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  let c0_i32_86 : BitVec 32 := 0#32
  let c0_i32_87 : BitVec 32 := 0#32
  ![v138.toNat, 0, 0]
def k0_off329 (v1_0 : BitVec 32) (k0_t5 : Fin (k0_t5_loop v1_0).trips) (k0_t8 : Fin k0_t8_loop.trips) (v141 : BitVec 32) : Fin 3 → Nat :=
  let c0_i32_18 : BitVec 32 := 0#32
  let c1_i32_21 : BitVec 32 := 1#32
  let arg16 : BitVec 32 := Scf.iv c0_i32_18 c1_i32_21 k0_t5
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t8
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c32_i32_82 : BitVec 32 := 32#32
  let v145 : BitVec 32 := Scalar.muli v142 c32_i32_82
  let v146 : BitVec 32 := v145
  let c0_i32_88 : BitVec 32 := 0#32
  ![v141.toNat, v146.toNat, 0]

def k0_chk8 (v1_0 : BitVec 32) (k0_t5 : Fin (k0_t5_loop v1_0).trips) (k0_t8 : Fin k0_t8_loop.trips) (v141 : BitVec 32) : Prop :=
  (∀ (k0_h5 : k0_cond5 v1_0 k0_t5 k0_t8 = 1#1), ∀ a, (k0_off326 v1_0 k0_t5 k0_t8 v141) a + S1x1024x2048.size a ≤ S12x7168x2048.size a) ∧
  (∀ (k0_h5 : k0_cond5 v1_0 k0_t5 k0_t8 = 1#1), ∀ (hinb : ∀ a, (k0_off326 v1_0 k0_t5 k0_t8 v141) a + S1x1024x2048.size a ≤ S12x7168x2048.size a), (Rect.unit (s := S12x7168x2048) (k0_off326 v1_0 k0_t5 k0_t8 v141) S1x1024x2048.size hinb).WholeWords (EltTy.packing .fp8e4m3)) ∧
  (∀ (k0_h5 : k0_cond5 v1_0 k0_t5 k0_t8 = 1#1), ∀ a, (k0_off329 v1_0 k0_t5 k0_t8 v141) a + S1x32x2048.size a ≤ S12x224x2048.size a) ∧
  (∀ (k0_h5 : k0_cond5 v1_0 k0_t5 k0_t8 = 1#1), ∀ (hinb : ∀ a, (k0_off329 v1_0 k0_t5 k0_t8 v141) a + S1x32x2048.size a ≤ S12x224x2048.size a), (Rect.unit (s := S12x224x2048) (k0_off329 v1_0 k0_t5 k0_t8 v141) S1x32x2048.size hinb).WholeWords (EltTy.packing .i8))
theorem k0_off326_inb : ∀ (v1_0 : BitVec 32) (k0_t5 : Fin (k0_t5_loop v1_0).trips) (k0_t8 : Fin k0_t8_loop.trips) (v141 : BitVec 32) (k0_hw8 : k0_chk8 v1_0 k0_t5 k0_t8 v141), ∀ (k0_h5 : k0_cond5 v1_0 k0_t5 k0_t8 = 1#1), ∀ a, (k0_off326 v1_0 k0_t5 k0_t8 v141) a + S1x1024x2048.size a ≤ S12x7168x2048.size a := fun v1_0 k0_t5 k0_t8 v141 k0_hw8 k0_h5 => k0_hw8.1 k0_h5
theorem k0_off326_wordsfp8e4m3 : ∀ (v1_0 : BitVec 32) (k0_t5 : Fin (k0_t5_loop v1_0).trips) (k0_t8 : Fin k0_t8_loop.trips) (v141 : BitVec 32) (k0_hw8 : k0_chk8 v1_0 k0_t5 k0_t8 v141), ∀ (k0_h5 : k0_cond5 v1_0 k0_t5 k0_t8 = 1#1), (Rect.unit (s := S12x7168x2048) (k0_off326 v1_0 k0_t5 k0_t8 v141) S1x1024x2048.size (k0_off326_inb v1_0 k0_t5 k0_t8 v141 k0_hw8 k0_h5)).WholeWords (EltTy.packing .fp8e4m3) := fun v1_0 k0_t5 k0_t8 v141 k0_hw8 k0_h5 => k0_hw8.2.1 k0_h5 (k0_off326_inb v1_0 k0_t5 k0_t8 v141 k0_hw8 k0_h5)
theorem k0_off329_inb : ∀ (v1_0 : BitVec 32) (k0_t5 : Fin (k0_t5_loop v1_0).trips) (k0_t8 : Fin k0_t8_loop.trips) (v141 : BitVec 32) (k0_hw8 : k0_chk8 v1_0 k0_t5 k0_t8 v141), ∀ (k0_h5 : k0_cond5 v1_0 k0_t5 k0_t8 = 1#1), ∀ a, (k0_off329 v1_0 k0_t5 k0_t8 v141) a + S1x32x2048.size a ≤ S12x224x2048.size a := fun v1_0 k0_t5 k0_t8 v141 k0_hw8 k0_h5 => k0_hw8.2.2.1 k0_h5
theorem k0_off329_wordsi8 : ∀ (v1_0 : BitVec 32) (k0_t5 : Fin (k0_t5_loop v1_0).trips) (k0_t8 : Fin k0_t8_loop.trips) (v141 : BitVec 32) (k0_hw8 : k0_chk8 v1_0 k0_t5 k0_t8 v141), ∀ (k0_h5 : k0_cond5 v1_0 k0_t5 k0_t8 = 1#1), (Rect.unit (s := S12x224x2048) (k0_off329 v1_0 k0_t5 k0_t8 v141) S1x32x2048.size (k0_off329_inb v1_0 k0_t5 k0_t8 v141 k0_hw8 k0_h5)).WholeWords (EltTy.packing .i8) := fun v1_0 k0_t5 k0_t8 v141 k0_hw8 k0_h5 => k0_hw8.2.2.2 k0_h5 (k0_off329_inb v1_0 k0_t5 k0_t8 v141 k0_hw8 k0_h5)

@[reducible] def k0_t11_loop (v58 : BitVec 32) : Scf.Loop 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_45 : BitVec 32 := 1#32
  ⟨c0_i32_42, v79, c1_i32_45⟩
def k0_mult266 (v58 : BitVec 32) (k0_t11 : Fin (k0_t11_loop v58).trips) : BitVec 32 :=
  let c0_i32_42 : BitVec 32 := 0#32
  let c1_i32_45 : BitVec 32 := 1#32
  let arg18 : BitVec 32 := Scf.iv c0_i32_42 c1_i32_45 k0_t11
  let c8_i32 : BitVec 32 := 8#32
  let v82 : BitVec 32 := Scalar.muli arg18 c8_i32
  v82
def k0_off330 (v58 : BitVec 32) (k0_t11 : Fin (k0_t11_loop v58).trips) : Fin 2 → Nat :=
  let c0_i32_42 : BitVec 32 := 0#32
  let c1_i32_45 : BitVec 32 := 1#32
  let arg18 : BitVec 32 := Scf.iv c0_i32_42 c1_i32_45 k0_t11
  let c8_i32 : BitVec 32 := 8#32
  let v82 : BitVec 32 := Scalar.muli arg18 c8_i32
  let v83 : BitVec 32 := v82
  let v84 : Index := Scalar.indexCast v83
  let c0_48 : Index := 0#32
  ![v84.toNat, 0]
def k0_off331 (v56 : BitVec 32) (v58 : BitVec 32) (k0_t11 : Fin (k0_t11_loop v58).trips) : Fin 2 → Nat :=
  let c0_i32_42 : BitVec 32 := 0#32
  let c1_i32_45 : BitVec 32 := 1#32
  let arg18 : BitVec 32 := Scf.iv c0_i32_42 c1_i32_45 k0_t11
  let v88 : BitVec 32 := Scalar.addi v56 arg18
  let v89 : Index := Scalar.indexCast v88
  let c0_50 : Index := 0#32
  ![v89.toNat, 0]
@[reducible] def k0_t12_loop (v58 : BitVec 32) : Scf.Loop 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let v76 : BitVec 32 := Scalar.addi c0_i32_42 v75
  let c1_i32_46 : BitVec 32 := 1#32
  ⟨v79, v76, c1_i32_46⟩
def k0_mult267 (v58 : BitVec 32) (k0_t12 : Fin (k0_t12_loop v58).trips) : BitVec 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t12
  let c8_i32 : BitVec 32 := 8#32
  let v82 : BitVec 32 := Scalar.muli arg18 c8_i32
  v82
def k0_off332 (v58 : BitVec 32) (k0_t12 : Fin (k0_t12_loop v58).trips) : Fin 2 → Nat :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t12
  let c8_i32 : BitVec 32 := 8#32
  let v82 : BitVec 32 := Scalar.muli arg18 c8_i32
  let v83 : BitVec 32 := v82
  let v84 : Index := Scalar.indexCast v83
  let c0_48 : Index := 0#32
  ![v84.toNat, 0]
def k0_off333 (v56 : BitVec 32) (v58 : BitVec 32) (k0_t12 : Fin (k0_t12_loop v58).trips) : Fin 2 → Nat :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t12
  let v88 : BitVec 32 := Scalar.addi v56 arg18
  let v89 : Index := Scalar.indexCast v88
  let c0_50 : Index := 0#32
  ![v89.toNat, 0]

def k0_chk6_0 (v1_0 : BitVec 32) (k0_t5 : Fin (k0_t5_loop v1_0).trips) (v56 : BitVec 32) (v58 : BitVec 32) : Prop :=
  ((k0_t6_loop v58).OK) ∧
  (∀ k0_t6 : Fin (k0_t6_loop v58).trips, 8 ∣ (k0_mult6 v58 k0_t6).toNat) ∧
  (∀ k0_t6 : Fin (k0_t6_loop v58).trips, ∀ a, (k0_off20 v58 k0_t6) a + S8x2048.size a ≤ S256x2048.size a) ∧
  ((k0_t7_loop v58).OK) ∧
  (∀ k0_t7 : Fin (k0_t7_loop v58).trips, 8 ∣ (k0_mult7 v58 k0_t7).toNat) ∧
  (∀ k0_t7 : Fin (k0_t7_loop v58).trips, ∀ a, (k0_off21 v58 k0_t7) a + S8x2048.size a ≤ S256x2048.size a) ∧
  ((k0_t9_loop v58).OK) ∧
  (∀ (k0_t8 : Fin k0_t8_loop.trips) (k0_t9 : Fin (k0_t9_loop v58).trips), ∀ (r₁ : Fin 16) (r₂ : Fin 4), ∀ a, (k0_off29 v56 v58 k0_t8 k0_t9 (BitVec.ofNat 32 r₁.val) (BitVec.ofNat 32 (256 * r₂.val))) a + S1x256.size a ≤ S32x7168.size a) ∧
  (∀ k0_t9 : Fin (k0_t9_loop v58).trips, 8 ∣ (k0_mult74 v58 k0_t9).toNat) ∧
  (∀ (k0_t8 : Fin k0_t8_loop.trips) (k0_t9 : Fin (k0_t9_loop v58).trips), ∀ a, (k0_off30 v1_0 k0_t5 k0_t8) a + S1x32x256.size a ≤ S10x32x2048.size a) ∧
  (∀ k0_t9 : Fin (k0_t9_loop v58).trips, ∀ a, (k0_off31 v58 k0_t9) a + S128x256.size a ≤ S256x2048.size a) ∧
  (∀ (k0_t8 : Fin k0_t8_loop.trips) (k0_t9 : Fin (k0_t9_loop v58).trips), ∀ a, (k0_off32 v1_0 k0_t5 k0_t8) a + S1x256x256.size a ≤ S10x1024x2048.size a) ∧
  (∀ (k0_t8 : Fin k0_t8_loop.trips) (k0_t9 : Fin (k0_t9_loop v58).trips), ∀ a, (k0_off33 v1_0 k0_t5 k0_t8) a + S1x256x256.size a ≤ S10x1024x2048.size a) ∧
  (∀ (k0_t8 : Fin k0_t8_loop.trips) (k0_t9 : Fin (k0_t9_loop v58).trips), ∀ a, (k0_off34 v1_0 k0_t5 k0_t8) a + S1x256x256.size a ≤ S10x1024x2048.size a) ∧
  (∀ (k0_t8 : Fin k0_t8_loop.trips) (k0_t9 : Fin (k0_t9_loop v58).trips), ∀ a, (k0_off35 v1_0 k0_t5 k0_t8) a + S1x256x256.size a ≤ S10x1024x2048.size a) ∧
  (∀ (k0_t8 : Fin k0_t8_loop.trips) (k0_t9 : Fin (k0_t9_loop v58).trips), ∀ a, (k0_off36 v1_0 k0_t5 k0_t8) a + S1x32x256.size a ≤ S10x32x2048.size a) ∧
  (∀ k0_t9 : Fin (k0_t9_loop v58).trips, ∀ a, (k0_off37 v58 k0_t9) a + S128x256.size a ≤ S256x2048.size a) ∧
  (∀ (k0_t8 : Fin k0_t8_loop.trips) (k0_t9 : Fin (k0_t9_loop v58).trips), ∀ a, (k0_off38 v1_0 k0_t5 k0_t8) a + S1x256x256.size a ≤ S10x1024x2048.size a) ∧
  (∀ (k0_t8 : Fin k0_t8_loop.trips) (k0_t9 : Fin (k0_t9_loop v58).trips), ∀ a, (k0_off39 v1_0 k0_t5 k0_t8) a + S1x256x256.size a ≤ S10x1024x2048.size a) ∧
  (∀ (k0_t8 : Fin k0_t8_loop.trips) (k0_t9 : Fin (k0_t9_loop v58).trips), ∀ a, (k0_off40 v1_0 k0_t5 k0_t8) a + S1x256x256.size a ≤ S10x1024x2048.size a) ∧
  (∀ (k0_t8 : Fin k0_t8_loop.trips) (k0_t9 : Fin (k0_t9_loop v58).trips), ∀ a, (k0_off41 v1_0 k0_t5 k0_t8) a + S1x256x256.size a ≤ S10x1024x2048.size a) ∧
  (∀ (k0_t8 : Fin k0_t8_loop.trips) (k0_t9 : Fin (k0_t9_loop v58).trips), ∀ a, (k0_off42 v1_0 k0_t5 k0_t8) a + S1x32x256.size a ≤ S10x32x2048.size a) ∧
  (∀ k0_t9 : Fin (k0_t9_loop v58).trips, ∀ a, (k0_off43 v58 k0_t9) a + S128x256.size a ≤ S256x2048.size a) ∧
  (∀ (k0_t8 : Fin k0_t8_loop.trips) (k0_t9 : Fin (k0_t9_loop v58).trips), ∀ a, (k0_off44 v1_0 k0_t5 k0_t8) a + S1x256x256.size a ≤ S10x1024x2048.size a) ∧
  (∀ (k0_t8 : Fin k0_t8_loop.trips) (k0_t9 : Fin (k0_t9_loop v58).trips), ∀ a, (k0_off45 v1_0 k0_t5 k0_t8) a + S1x256x256.size a ≤ S10x1024x2048.size a) ∧
  (∀ (k0_t8 : Fin k0_t8_loop.trips) (k0_t9 : Fin (k0_t9_loop v58).trips), ∀ a, (k0_off46 v1_0 k0_t5 k0_t8) a + S1x256x256.size a ≤ S10x1024x2048.size a) ∧
  (∀ (k0_t8 : Fin k0_t8_loop.trips) (k0_t9 : Fin (k0_t9_loop v58).trips), ∀ a, (k0_off47 v1_0 k0_t5 k0_t8) a + S1x256x256.size a ≤ S10x1024x2048.size a) ∧
  (∀ (k0_t8 : Fin k0_t8_loop.trips) (k0_t9 : Fin (k0_t9_loop v58).trips), ∀ a, (k0_off48 v1_0 k0_t5 k0_t8) a + S1x32x256.size a ≤ S10x32x2048.size a) ∧
  (∀ k0_t9 : Fin (k0_t9_loop v58).trips, ∀ a, (k0_off49 v58 k0_t9) a + S128x256.size a ≤ S256x2048.size a) ∧
  (∀ (k0_t8 : Fin k0_t8_loop.trips) (k0_t9 : Fin (k0_t9_loop v58).trips), ∀ a, (k0_off50 v1_0 k0_t5 k0_t8) a + S1x256x256.size a ≤ S10x1024x2048.size a) ∧
  (∀ (k0_t8 : Fin k0_t8_loop.trips) (k0_t9 : Fin (k0_t9_loop v58).trips), ∀ a, (k0_off51 v1_0 k0_t5 k0_t8) a + S1x256x256.size a ≤ S10x1024x2048.size a) ∧
  (∀ (k0_t8 : Fin k0_t8_loop.trips) (k0_t9 : Fin (k0_t9_loop v58).trips), ∀ a, (k0_off52 v1_0 k0_t5 k0_t8) a + S1x256x256.size a ≤ S10x1024x2048.size a)
def k0_chk6_1 (v1_0 : BitVec 32) (k0_t5 : Fin (k0_t5_loop v1_0).trips) (v56 : BitVec 32) (v58 : BitVec 32) : Prop :=
  (∀ (k0_t8 : Fin k0_t8_loop.trips) (k0_t9 : Fin (k0_t9_loop v58).trips), ∀ a, (k0_off53 v1_0 k0_t5 k0_t8) a + S1x256x256.size a ≤ S10x1024x2048.size a) ∧
  (∀ (k0_t8 : Fin k0_t8_loop.trips) (k0_t9 : Fin (k0_t9_loop v58).trips), ∀ a, (k0_off54 v1_0 k0_t5 k0_t8) a + S1x32x256.size a ≤ S10x32x2048.size a) ∧
  (∀ k0_t9 : Fin (k0_t9_loop v58).trips, ∀ a, (k0_off55 v58 k0_t9) a + S128x256.size a ≤ S256x2048.size a) ∧
  (∀ (k0_t8 : Fin k0_t8_loop.trips) (k0_t9 : Fin (k0_t9_loop v58).trips), ∀ a, (k0_off56 v1_0 k0_t5 k0_t8) a + S1x256x256.size a ≤ S10x1024x2048.size a) ∧
  (∀ (k0_t8 : Fin k0_t8_loop.trips) (k0_t9 : Fin (k0_t9_loop v58).trips), ∀ a, (k0_off57 v1_0 k0_t5 k0_t8) a + S1x256x256.size a ≤ S10x1024x2048.size a) ∧
  (∀ (k0_t8 : Fin k0_t8_loop.trips) (k0_t9 : Fin (k0_t9_loop v58).trips), ∀ a, (k0_off58 v1_0 k0_t5 k0_t8) a + S1x256x256.size a ≤ S10x1024x2048.size a) ∧
  (∀ (k0_t8 : Fin k0_t8_loop.trips) (k0_t9 : Fin (k0_t9_loop v58).trips), ∀ a, (k0_off59 v1_0 k0_t5 k0_t8) a + S1x256x256.size a ≤ S10x1024x2048.size a) ∧
  (∀ (k0_t8 : Fin k0_t8_loop.trips) (k0_t9 : Fin (k0_t9_loop v58).trips), ∀ a, (k0_off60 v1_0 k0_t5 k0_t8) a + S1x32x256.size a ≤ S10x32x2048.size a) ∧
  (∀ k0_t9 : Fin (k0_t9_loop v58).trips, ∀ a, (k0_off61 v58 k0_t9) a + S128x256.size a ≤ S256x2048.size a) ∧
  (∀ (k0_t8 : Fin k0_t8_loop.trips) (k0_t9 : Fin (k0_t9_loop v58).trips), ∀ a, (k0_off62 v1_0 k0_t5 k0_t8) a + S1x256x256.size a ≤ S10x1024x2048.size a) ∧
  (∀ (k0_t8 : Fin k0_t8_loop.trips) (k0_t9 : Fin (k0_t9_loop v58).trips), ∀ a, (k0_off63 v1_0 k0_t5 k0_t8) a + S1x256x256.size a ≤ S10x1024x2048.size a) ∧
  (∀ (k0_t8 : Fin k0_t8_loop.trips) (k0_t9 : Fin (k0_t9_loop v58).trips), ∀ a, (k0_off64 v1_0 k0_t5 k0_t8) a + S1x256x256.size a ≤ S10x1024x2048.size a) ∧
  (∀ (k0_t8 : Fin k0_t8_loop.trips) (k0_t9 : Fin (k0_t9_loop v58).trips), ∀ a, (k0_off65 v1_0 k0_t5 k0_t8) a + S1x256x256.size a ≤ S10x1024x2048.size a) ∧
  (∀ (k0_t8 : Fin k0_t8_loop.trips) (k0_t9 : Fin (k0_t9_loop v58).trips), ∀ a, (k0_off66 v1_0 k0_t5 k0_t8) a + S1x32x256.size a ≤ S10x32x2048.size a) ∧
  (∀ k0_t9 : Fin (k0_t9_loop v58).trips, ∀ a, (k0_off67 v58 k0_t9) a + S128x256.size a ≤ S256x2048.size a) ∧
  (∀ (k0_t8 : Fin k0_t8_loop.trips) (k0_t9 : Fin (k0_t9_loop v58).trips), ∀ a, (k0_off68 v1_0 k0_t5 k0_t8) a + S1x256x256.size a ≤ S10x1024x2048.size a) ∧
  (∀ (k0_t8 : Fin k0_t8_loop.trips) (k0_t9 : Fin (k0_t9_loop v58).trips), ∀ a, (k0_off69 v1_0 k0_t5 k0_t8) a + S1x256x256.size a ≤ S10x1024x2048.size a) ∧
  (∀ (k0_t8 : Fin k0_t8_loop.trips) (k0_t9 : Fin (k0_t9_loop v58).trips), ∀ a, (k0_off70 v1_0 k0_t5 k0_t8) a + S1x256x256.size a ≤ S10x1024x2048.size a) ∧
  (∀ (k0_t8 : Fin k0_t8_loop.trips) (k0_t9 : Fin (k0_t9_loop v58).trips), ∀ a, (k0_off71 v1_0 k0_t5 k0_t8) a + S1x256x256.size a ≤ S10x1024x2048.size a) ∧
  (∀ (k0_t8 : Fin k0_t8_loop.trips) (k0_t9 : Fin (k0_t9_loop v58).trips), ∀ a, (k0_off72 v1_0 k0_t5 k0_t8) a + S1x32x256.size a ≤ S10x32x2048.size a) ∧
  (∀ k0_t9 : Fin (k0_t9_loop v58).trips, ∀ a, (k0_off73 v58 k0_t9) a + S128x256.size a ≤ S256x2048.size a) ∧
  (∀ (k0_t8 : Fin k0_t8_loop.trips) (k0_t9 : Fin (k0_t9_loop v58).trips), ∀ a, (k0_off74 v1_0 k0_t5 k0_t8) a + S1x256x256.size a ≤ S10x1024x2048.size a) ∧
  (∀ (k0_t8 : Fin k0_t8_loop.trips) (k0_t9 : Fin (k0_t9_loop v58).trips), ∀ a, (k0_off75 v1_0 k0_t5 k0_t8) a + S1x256x256.size a ≤ S10x1024x2048.size a) ∧
  (∀ (k0_t8 : Fin k0_t8_loop.trips) (k0_t9 : Fin (k0_t9_loop v58).trips), ∀ a, (k0_off76 v1_0 k0_t5 k0_t8) a + S1x256x256.size a ≤ S10x1024x2048.size a) ∧
  (∀ (k0_t8 : Fin k0_t8_loop.trips) (k0_t9 : Fin (k0_t9_loop v58).trips), ∀ a, (k0_off77 v1_0 k0_t5 k0_t8) a + S1x256x256.size a ≤ S10x1024x2048.size a) ∧
  ((k0_t10_loop v58).OK) ∧
  (∀ (k0_t8 : Fin k0_t8_loop.trips) (k0_t10 : Fin (k0_t10_loop v58).trips), ∀ (r₁ : Fin 16) (r₂ : Fin 4), ∀ a, (k0_off78 v56 v58 k0_t8 k0_t10 (BitVec.ofNat 32 r₁.val) (BitVec.ofNat 32 (256 * r₂.val))) a + S1x256.size a ≤ S32x7168.size a) ∧
  (∀ k0_t10 : Fin (k0_t10_loop v58).trips, 8 ∣ (k0_mult139 v58 k0_t10).toNat) ∧
  (∀ (k0_t8 : Fin k0_t8_loop.trips) (k0_t10 : Fin (k0_t10_loop v58).trips), ∀ a, (k0_off79 v1_0 k0_t5 k0_t8) a + S1x32x256.size a ≤ S10x32x2048.size a) ∧
  (∀ k0_t10 : Fin (k0_t10_loop v58).trips, ∀ a, (k0_off80 v58 k0_t10) a + S128x256.size a ≤ S256x2048.size a) ∧
  (∀ (k0_t8 : Fin k0_t8_loop.trips) (k0_t10 : Fin (k0_t10_loop v58).trips), ∀ a, (k0_off81 v1_0 k0_t5 k0_t8) a + S1x256x256.size a ≤ S10x1024x2048.size a) ∧
  (∀ (k0_t8 : Fin k0_t8_loop.trips) (k0_t10 : Fin (k0_t10_loop v58).trips), ∀ a, (k0_off82 v1_0 k0_t5 k0_t8) a + S1x256x256.size a ≤ S10x1024x2048.size a)
def k0_chk6_2 (v1_0 : BitVec 32) (k0_t5 : Fin (k0_t5_loop v1_0).trips) (v56 : BitVec 32) (v58 : BitVec 32) : Prop :=
  (∀ (k0_t8 : Fin k0_t8_loop.trips) (k0_t10 : Fin (k0_t10_loop v58).trips), ∀ a, (k0_off83 v1_0 k0_t5 k0_t8) a + S1x256x256.size a ≤ S10x1024x2048.size a) ∧
  (∀ (k0_t8 : Fin k0_t8_loop.trips) (k0_t10 : Fin (k0_t10_loop v58).trips), ∀ a, (k0_off84 v1_0 k0_t5 k0_t8) a + S1x256x256.size a ≤ S10x1024x2048.size a) ∧
  (∀ (k0_t8 : Fin k0_t8_loop.trips) (k0_t10 : Fin (k0_t10_loop v58).trips), ∀ a, (k0_off85 v1_0 k0_t5 k0_t8) a + S1x32x256.size a ≤ S10x32x2048.size a) ∧
  (∀ k0_t10 : Fin (k0_t10_loop v58).trips, ∀ a, (k0_off86 v58 k0_t10) a + S128x256.size a ≤ S256x2048.size a) ∧
  (∀ (k0_t8 : Fin k0_t8_loop.trips) (k0_t10 : Fin (k0_t10_loop v58).trips), ∀ a, (k0_off87 v1_0 k0_t5 k0_t8) a + S1x256x256.size a ≤ S10x1024x2048.size a) ∧
  (∀ (k0_t8 : Fin k0_t8_loop.trips) (k0_t10 : Fin (k0_t10_loop v58).trips), ∀ a, (k0_off88 v1_0 k0_t5 k0_t8) a + S1x256x256.size a ≤ S10x1024x2048.size a) ∧
  (∀ (k0_t8 : Fin k0_t8_loop.trips) (k0_t10 : Fin (k0_t10_loop v58).trips), ∀ a, (k0_off89 v1_0 k0_t5 k0_t8) a + S1x256x256.size a ≤ S10x1024x2048.size a) ∧
  (∀ (k0_t8 : Fin k0_t8_loop.trips) (k0_t10 : Fin (k0_t10_loop v58).trips), ∀ a, (k0_off90 v1_0 k0_t5 k0_t8) a + S1x256x256.size a ≤ S10x1024x2048.size a) ∧
  (∀ (k0_t8 : Fin k0_t8_loop.trips) (k0_t10 : Fin (k0_t10_loop v58).trips), ∀ a, (k0_off91 v1_0 k0_t5 k0_t8) a + S1x32x256.size a ≤ S10x32x2048.size a) ∧
  (∀ k0_t10 : Fin (k0_t10_loop v58).trips, ∀ a, (k0_off92 v58 k0_t10) a + S128x256.size a ≤ S256x2048.size a) ∧
  (∀ (k0_t8 : Fin k0_t8_loop.trips) (k0_t10 : Fin (k0_t10_loop v58).trips), ∀ a, (k0_off93 v1_0 k0_t5 k0_t8) a + S1x256x256.size a ≤ S10x1024x2048.size a) ∧
  (∀ (k0_t8 : Fin k0_t8_loop.trips) (k0_t10 : Fin (k0_t10_loop v58).trips), ∀ a, (k0_off94 v1_0 k0_t5 k0_t8) a + S1x256x256.size a ≤ S10x1024x2048.size a) ∧
  (∀ (k0_t8 : Fin k0_t8_loop.trips) (k0_t10 : Fin (k0_t10_loop v58).trips), ∀ a, (k0_off95 v1_0 k0_t5 k0_t8) a + S1x256x256.size a ≤ S10x1024x2048.size a) ∧
  (∀ (k0_t8 : Fin k0_t8_loop.trips) (k0_t10 : Fin (k0_t10_loop v58).trips), ∀ a, (k0_off96 v1_0 k0_t5 k0_t8) a + S1x256x256.size a ≤ S10x1024x2048.size a) ∧
  (∀ (k0_t8 : Fin k0_t8_loop.trips) (k0_t10 : Fin (k0_t10_loop v58).trips), ∀ a, (k0_off97 v1_0 k0_t5 k0_t8) a + S1x32x256.size a ≤ S10x32x2048.size a) ∧
  (∀ k0_t10 : Fin (k0_t10_loop v58).trips, ∀ a, (k0_off98 v58 k0_t10) a + S128x256.size a ≤ S256x2048.size a) ∧
  (∀ (k0_t8 : Fin k0_t8_loop.trips) (k0_t10 : Fin (k0_t10_loop v58).trips), ∀ a, (k0_off99 v1_0 k0_t5 k0_t8) a + S1x256x256.size a ≤ S10x1024x2048.size a) ∧
  (∀ (k0_t8 : Fin k0_t8_loop.trips) (k0_t10 : Fin (k0_t10_loop v58).trips), ∀ a, (k0_off100 v1_0 k0_t5 k0_t8) a + S1x256x256.size a ≤ S10x1024x2048.size a) ∧
  (∀ (k0_t8 : Fin k0_t8_loop.trips) (k0_t10 : Fin (k0_t10_loop v58).trips), ∀ a, (k0_off101 v1_0 k0_t5 k0_t8) a + S1x256x256.size a ≤ S10x1024x2048.size a) ∧
  (∀ (k0_t8 : Fin k0_t8_loop.trips) (k0_t10 : Fin (k0_t10_loop v58).trips), ∀ a, (k0_off102 v1_0 k0_t5 k0_t8) a + S1x256x256.size a ≤ S10x1024x2048.size a) ∧
  (∀ (k0_t8 : Fin k0_t8_loop.trips) (k0_t10 : Fin (k0_t10_loop v58).trips), ∀ a, (k0_off103 v1_0 k0_t5 k0_t8) a + S1x32x256.size a ≤ S10x32x2048.size a) ∧
  (∀ k0_t10 : Fin (k0_t10_loop v58).trips, ∀ a, (k0_off104 v58 k0_t10) a + S128x256.size a ≤ S256x2048.size a) ∧
  (∀ (k0_t8 : Fin k0_t8_loop.trips) (k0_t10 : Fin (k0_t10_loop v58).trips), ∀ a, (k0_off105 v1_0 k0_t5 k0_t8) a + S1x256x256.size a ≤ S10x1024x2048.size a) ∧
  (∀ (k0_t8 : Fin k0_t8_loop.trips) (k0_t10 : Fin (k0_t10_loop v58).trips), ∀ a, (k0_off106 v1_0 k0_t5 k0_t8) a + S1x256x256.size a ≤ S10x1024x2048.size a) ∧
  (∀ (k0_t8 : Fin k0_t8_loop.trips) (k0_t10 : Fin (k0_t10_loop v58).trips), ∀ a, (k0_off107 v1_0 k0_t5 k0_t8) a + S1x256x256.size a ≤ S10x1024x2048.size a) ∧
  (∀ (k0_t8 : Fin k0_t8_loop.trips) (k0_t10 : Fin (k0_t10_loop v58).trips), ∀ a, (k0_off108 v1_0 k0_t5 k0_t8) a + S1x256x256.size a ≤ S10x1024x2048.size a) ∧
  (∀ (k0_t8 : Fin k0_t8_loop.trips) (k0_t10 : Fin (k0_t10_loop v58).trips), ∀ a, (k0_off109 v1_0 k0_t5 k0_t8) a + S1x32x256.size a ≤ S10x32x2048.size a) ∧
  (∀ k0_t10 : Fin (k0_t10_loop v58).trips, ∀ a, (k0_off110 v58 k0_t10) a + S128x256.size a ≤ S256x2048.size a) ∧
  (∀ (k0_t8 : Fin k0_t8_loop.trips) (k0_t10 : Fin (k0_t10_loop v58).trips), ∀ a, (k0_off111 v1_0 k0_t5 k0_t8) a + S1x256x256.size a ≤ S10x1024x2048.size a) ∧
  (∀ (k0_t8 : Fin k0_t8_loop.trips) (k0_t10 : Fin (k0_t10_loop v58).trips), ∀ a, (k0_off112 v1_0 k0_t5 k0_t8) a + S1x256x256.size a ≤ S10x1024x2048.size a) ∧
  (∀ (k0_t8 : Fin k0_t8_loop.trips) (k0_t10 : Fin (k0_t10_loop v58).trips), ∀ a, (k0_off113 v1_0 k0_t5 k0_t8) a + S1x256x256.size a ≤ S10x1024x2048.size a) ∧
  (∀ (k0_t8 : Fin k0_t8_loop.trips) (k0_t10 : Fin (k0_t10_loop v58).trips), ∀ a, (k0_off114 v1_0 k0_t5 k0_t8) a + S1x256x256.size a ≤ S10x1024x2048.size a)
def k0_chk6_3 (v1_0 : BitVec 32) (k0_t5 : Fin (k0_t5_loop v1_0).trips) (v56 : BitVec 32) (v58 : BitVec 32) : Prop :=
  (∀ (k0_t8 : Fin k0_t8_loop.trips) (k0_t10 : Fin (k0_t10_loop v58).trips), ∀ a, (k0_off115 v1_0 k0_t5 k0_t8) a + S1x32x256.size a ≤ S10x32x2048.size a) ∧
  (∀ k0_t10 : Fin (k0_t10_loop v58).trips, ∀ a, (k0_off116 v58 k0_t10) a + S128x256.size a ≤ S256x2048.size a) ∧
  (∀ (k0_t8 : Fin k0_t8_loop.trips) (k0_t10 : Fin (k0_t10_loop v58).trips), ∀ a, (k0_off117 v1_0 k0_t5 k0_t8) a + S1x256x256.size a ≤ S10x1024x2048.size a) ∧
  (∀ (k0_t8 : Fin k0_t8_loop.trips) (k0_t10 : Fin (k0_t10_loop v58).trips), ∀ a, (k0_off118 v1_0 k0_t5 k0_t8) a + S1x256x256.size a ≤ S10x1024x2048.size a) ∧
  (∀ (k0_t8 : Fin k0_t8_loop.trips) (k0_t10 : Fin (k0_t10_loop v58).trips), ∀ a, (k0_off119 v1_0 k0_t5 k0_t8) a + S1x256x256.size a ≤ S10x1024x2048.size a) ∧
  (∀ (k0_t8 : Fin k0_t8_loop.trips) (k0_t10 : Fin (k0_t10_loop v58).trips), ∀ a, (k0_off120 v1_0 k0_t5 k0_t8) a + S1x256x256.size a ≤ S10x1024x2048.size a) ∧
  (∀ (k0_t8 : Fin k0_t8_loop.trips) (k0_t10 : Fin (k0_t10_loop v58).trips), ∀ a, (k0_off121 v1_0 k0_t5 k0_t8) a + S1x32x256.size a ≤ S10x32x2048.size a) ∧
  (∀ k0_t10 : Fin (k0_t10_loop v58).trips, ∀ a, (k0_off122 v58 k0_t10) a + S128x256.size a ≤ S256x2048.size a) ∧
  (∀ (k0_t8 : Fin k0_t8_loop.trips) (k0_t10 : Fin (k0_t10_loop v58).trips), ∀ a, (k0_off123 v1_0 k0_t5 k0_t8) a + S1x256x256.size a ≤ S10x1024x2048.size a) ∧
  (∀ (k0_t8 : Fin k0_t8_loop.trips) (k0_t10 : Fin (k0_t10_loop v58).trips), ∀ a, (k0_off124 v1_0 k0_t5 k0_t8) a + S1x256x256.size a ≤ S10x1024x2048.size a) ∧
  (∀ (k0_t8 : Fin k0_t8_loop.trips) (k0_t10 : Fin (k0_t10_loop v58).trips), ∀ a, (k0_off125 v1_0 k0_t5 k0_t8) a + S1x256x256.size a ≤ S10x1024x2048.size a) ∧
  (∀ (k0_t8 : Fin k0_t8_loop.trips) (k0_t10 : Fin (k0_t10_loop v58).trips), ∀ a, (k0_off126 v1_0 k0_t5 k0_t8) a + S1x256x256.size a ≤ S10x1024x2048.size a) ∧
  (∀ k0_t8 : Fin k0_t8_loop.trips, ∀ (k0_h1 : k0_cond1 v58 = 1#1), ∀ (r₁ : Fin 2) (r₂ : Fin 4), ∀ a, (k0_off127 v56 v58 k0_t8 (BitVec.ofNat 32 r₁.val) (BitVec.ofNat 32 (256 * r₂.val))) a + S1x256.size a ≤ S32x7168.size a) ∧
  (∀ (k0_h1 : k0_cond1 v58 = 1#1), 8 ∣ (k0_mult148 v58).toNat) ∧
  (∀ k0_t8 : Fin k0_t8_loop.trips, ∀ (k0_h1 : k0_cond1 v58 = 1#1), ∀ a, (k0_off128 v1_0 k0_t5 k0_t8) a + S1x32x256.size a ≤ S10x32x2048.size a) ∧
  (∀ (k0_h1 : k0_cond1 v58 = 1#1), ∀ a, (k0_off129 v58) a + S16x256.size a ≤ S256x2048.size a) ∧
  (∀ k0_t8 : Fin k0_t8_loop.trips, ∀ (k0_h1 : k0_cond1 v58 = 1#1), ∀ a, (k0_off130 v1_0 k0_t5 k0_t8) a + S1x256x256.size a ≤ S10x1024x2048.size a) ∧
  (∀ k0_t8 : Fin k0_t8_loop.trips, ∀ (k0_h1 : k0_cond1 v58 = 1#1), ∀ a, (k0_off131 v1_0 k0_t5 k0_t8) a + S1x256x256.size a ≤ S10x1024x2048.size a) ∧
  (∀ k0_t8 : Fin k0_t8_loop.trips, ∀ (k0_h1 : k0_cond1 v58 = 1#1), ∀ a, (k0_off132 v1_0 k0_t5 k0_t8) a + S1x256x256.size a ≤ S10x1024x2048.size a) ∧
  (∀ k0_t8 : Fin k0_t8_loop.trips, ∀ (k0_h1 : k0_cond1 v58 = 1#1), ∀ a, (k0_off133 v1_0 k0_t5 k0_t8) a + S1x256x256.size a ≤ S10x1024x2048.size a) ∧
  (∀ k0_t8 : Fin k0_t8_loop.trips, ∀ (k0_h1 : k0_cond1 v58 = 1#1), ∀ a, (k0_off134 v1_0 k0_t5 k0_t8) a + S1x32x256.size a ≤ S10x32x2048.size a) ∧
  (∀ (k0_h1 : k0_cond1 v58 = 1#1), ∀ a, (k0_off135 v58) a + S16x256.size a ≤ S256x2048.size a) ∧
  (∀ k0_t8 : Fin k0_t8_loop.trips, ∀ (k0_h1 : k0_cond1 v58 = 1#1), ∀ a, (k0_off136 v1_0 k0_t5 k0_t8) a + S1x256x256.size a ≤ S10x1024x2048.size a) ∧
  (∀ k0_t8 : Fin k0_t8_loop.trips, ∀ (k0_h1 : k0_cond1 v58 = 1#1), ∀ a, (k0_off137 v1_0 k0_t5 k0_t8) a + S1x256x256.size a ≤ S10x1024x2048.size a) ∧
  (∀ k0_t8 : Fin k0_t8_loop.trips, ∀ (k0_h1 : k0_cond1 v58 = 1#1), ∀ a, (k0_off138 v1_0 k0_t5 k0_t8) a + S1x256x256.size a ≤ S10x1024x2048.size a) ∧
  (∀ k0_t8 : Fin k0_t8_loop.trips, ∀ (k0_h1 : k0_cond1 v58 = 1#1), ∀ a, (k0_off139 v1_0 k0_t5 k0_t8) a + S1x256x256.size a ≤ S10x1024x2048.size a) ∧
  (∀ k0_t8 : Fin k0_t8_loop.trips, ∀ (k0_h1 : k0_cond1 v58 = 1#1), ∀ a, (k0_off140 v1_0 k0_t5 k0_t8) a + S1x32x256.size a ≤ S10x32x2048.size a) ∧
  (∀ (k0_h1 : k0_cond1 v58 = 1#1), ∀ a, (k0_off141 v58) a + S16x256.size a ≤ S256x2048.size a) ∧
  (∀ k0_t8 : Fin k0_t8_loop.trips, ∀ (k0_h1 : k0_cond1 v58 = 1#1), ∀ a, (k0_off142 v1_0 k0_t5 k0_t8) a + S1x256x256.size a ≤ S10x1024x2048.size a) ∧
  (∀ k0_t8 : Fin k0_t8_loop.trips, ∀ (k0_h1 : k0_cond1 v58 = 1#1), ∀ a, (k0_off143 v1_0 k0_t5 k0_t8) a + S1x256x256.size a ≤ S10x1024x2048.size a) ∧
  (∀ k0_t8 : Fin k0_t8_loop.trips, ∀ (k0_h1 : k0_cond1 v58 = 1#1), ∀ a, (k0_off144 v1_0 k0_t5 k0_t8) a + S1x256x256.size a ≤ S10x1024x2048.size a) ∧
  (∀ k0_t8 : Fin k0_t8_loop.trips, ∀ (k0_h1 : k0_cond1 v58 = 1#1), ∀ a, (k0_off145 v1_0 k0_t5 k0_t8) a + S1x256x256.size a ≤ S10x1024x2048.size a)
def k0_chk6_4 (v1_0 : BitVec 32) (k0_t5 : Fin (k0_t5_loop v1_0).trips) (v56 : BitVec 32) (v58 : BitVec 32) : Prop :=
  (∀ k0_t8 : Fin k0_t8_loop.trips, ∀ (k0_h1 : k0_cond1 v58 = 1#1), ∀ a, (k0_off146 v1_0 k0_t5 k0_t8) a + S1x32x256.size a ≤ S10x32x2048.size a) ∧
  (∀ (k0_h1 : k0_cond1 v58 = 1#1), ∀ a, (k0_off147 v58) a + S16x256.size a ≤ S256x2048.size a) ∧
  (∀ k0_t8 : Fin k0_t8_loop.trips, ∀ (k0_h1 : k0_cond1 v58 = 1#1), ∀ a, (k0_off148 v1_0 k0_t5 k0_t8) a + S1x256x256.size a ≤ S10x1024x2048.size a) ∧
  (∀ k0_t8 : Fin k0_t8_loop.trips, ∀ (k0_h1 : k0_cond1 v58 = 1#1), ∀ a, (k0_off149 v1_0 k0_t5 k0_t8) a + S1x256x256.size a ≤ S10x1024x2048.size a) ∧
  (∀ k0_t8 : Fin k0_t8_loop.trips, ∀ (k0_h1 : k0_cond1 v58 = 1#1), ∀ a, (k0_off150 v1_0 k0_t5 k0_t8) a + S1x256x256.size a ≤ S10x1024x2048.size a) ∧
  (∀ k0_t8 : Fin k0_t8_loop.trips, ∀ (k0_h1 : k0_cond1 v58 = 1#1), ∀ a, (k0_off151 v1_0 k0_t5 k0_t8) a + S1x256x256.size a ≤ S10x1024x2048.size a) ∧
  (∀ k0_t8 : Fin k0_t8_loop.trips, ∀ (k0_h1 : k0_cond1 v58 = 1#1), ∀ a, (k0_off152 v1_0 k0_t5 k0_t8) a + S1x32x256.size a ≤ S10x32x2048.size a) ∧
  (∀ (k0_h1 : k0_cond1 v58 = 1#1), ∀ a, (k0_off153 v58) a + S16x256.size a ≤ S256x2048.size a) ∧
  (∀ k0_t8 : Fin k0_t8_loop.trips, ∀ (k0_h1 : k0_cond1 v58 = 1#1), ∀ a, (k0_off154 v1_0 k0_t5 k0_t8) a + S1x256x256.size a ≤ S10x1024x2048.size a) ∧
  (∀ k0_t8 : Fin k0_t8_loop.trips, ∀ (k0_h1 : k0_cond1 v58 = 1#1), ∀ a, (k0_off155 v1_0 k0_t5 k0_t8) a + S1x256x256.size a ≤ S10x1024x2048.size a) ∧
  (∀ k0_t8 : Fin k0_t8_loop.trips, ∀ (k0_h1 : k0_cond1 v58 = 1#1), ∀ a, (k0_off156 v1_0 k0_t5 k0_t8) a + S1x256x256.size a ≤ S10x1024x2048.size a) ∧
  (∀ k0_t8 : Fin k0_t8_loop.trips, ∀ (k0_h1 : k0_cond1 v58 = 1#1), ∀ a, (k0_off157 v1_0 k0_t5 k0_t8) a + S1x256x256.size a ≤ S10x1024x2048.size a) ∧
  (∀ k0_t8 : Fin k0_t8_loop.trips, ∀ (k0_h1 : k0_cond1 v58 = 1#1), ∀ a, (k0_off158 v1_0 k0_t5 k0_t8) a + S1x32x256.size a ≤ S10x32x2048.size a) ∧
  (∀ (k0_h1 : k0_cond1 v58 = 1#1), ∀ a, (k0_off159 v58) a + S16x256.size a ≤ S256x2048.size a) ∧
  (∀ k0_t8 : Fin k0_t8_loop.trips, ∀ (k0_h1 : k0_cond1 v58 = 1#1), ∀ a, (k0_off160 v1_0 k0_t5 k0_t8) a + S1x256x256.size a ≤ S10x1024x2048.size a) ∧
  (∀ k0_t8 : Fin k0_t8_loop.trips, ∀ (k0_h1 : k0_cond1 v58 = 1#1), ∀ a, (k0_off161 v1_0 k0_t5 k0_t8) a + S1x256x256.size a ≤ S10x1024x2048.size a) ∧
  (∀ k0_t8 : Fin k0_t8_loop.trips, ∀ (k0_h1 : k0_cond1 v58 = 1#1), ∀ a, (k0_off162 v1_0 k0_t5 k0_t8) a + S1x256x256.size a ≤ S10x1024x2048.size a) ∧
  (∀ k0_t8 : Fin k0_t8_loop.trips, ∀ (k0_h1 : k0_cond1 v58 = 1#1), ∀ a, (k0_off163 v1_0 k0_t5 k0_t8) a + S1x256x256.size a ≤ S10x1024x2048.size a) ∧
  (∀ k0_t8 : Fin k0_t8_loop.trips, ∀ (k0_h1 : k0_cond1 v58 = 1#1), ∀ a, (k0_off164 v1_0 k0_t5 k0_t8) a + S1x32x256.size a ≤ S10x32x2048.size a) ∧
  (∀ (k0_h1 : k0_cond1 v58 = 1#1), ∀ a, (k0_off165 v58) a + S16x256.size a ≤ S256x2048.size a) ∧
  (∀ k0_t8 : Fin k0_t8_loop.trips, ∀ (k0_h1 : k0_cond1 v58 = 1#1), ∀ a, (k0_off166 v1_0 k0_t5 k0_t8) a + S1x256x256.size a ≤ S10x1024x2048.size a) ∧
  (∀ k0_t8 : Fin k0_t8_loop.trips, ∀ (k0_h1 : k0_cond1 v58 = 1#1), ∀ a, (k0_off167 v1_0 k0_t5 k0_t8) a + S1x256x256.size a ≤ S10x1024x2048.size a) ∧
  (∀ k0_t8 : Fin k0_t8_loop.trips, ∀ (k0_h1 : k0_cond1 v58 = 1#1), ∀ a, (k0_off168 v1_0 k0_t5 k0_t8) a + S1x256x256.size a ≤ S10x1024x2048.size a) ∧
  (∀ k0_t8 : Fin k0_t8_loop.trips, ∀ (k0_h1 : k0_cond1 v58 = 1#1), ∀ a, (k0_off169 v1_0 k0_t5 k0_t8) a + S1x256x256.size a ≤ S10x1024x2048.size a) ∧
  (∀ k0_t8 : Fin k0_t8_loop.trips, ∀ (k0_h1 : k0_cond1 v58 = 1#1), ∀ a, (k0_off170 v1_0 k0_t5 k0_t8) a + S1x32x256.size a ≤ S10x32x2048.size a) ∧
  (∀ (k0_h1 : k0_cond1 v58 = 1#1), ∀ a, (k0_off171 v58) a + S16x256.size a ≤ S256x2048.size a) ∧
  (∀ k0_t8 : Fin k0_t8_loop.trips, ∀ (k0_h1 : k0_cond1 v58 = 1#1), ∀ a, (k0_off172 v1_0 k0_t5 k0_t8) a + S1x256x256.size a ≤ S10x1024x2048.size a) ∧
  (∀ k0_t8 : Fin k0_t8_loop.trips, ∀ (k0_h1 : k0_cond1 v58 = 1#1), ∀ a, (k0_off173 v1_0 k0_t5 k0_t8) a + S1x256x256.size a ≤ S10x1024x2048.size a) ∧
  (∀ k0_t8 : Fin k0_t8_loop.trips, ∀ (k0_h1 : k0_cond1 v58 = 1#1), ∀ a, (k0_off174 v1_0 k0_t5 k0_t8) a + S1x256x256.size a ≤ S10x1024x2048.size a) ∧
  (∀ k0_t8 : Fin k0_t8_loop.trips, ∀ (k0_h1 : k0_cond1 v58 = 1#1), ∀ a, (k0_off175 v1_0 k0_t5 k0_t8) a + S1x256x256.size a ≤ S10x1024x2048.size a) ∧
  (∀ k0_t8 : Fin k0_t8_loop.trips, ∀ (k0_h2 : k0_cond2 v58 = 1#1), ∀ (r₁ : Fin 4) (r₂ : Fin 4), ∀ a, (k0_off176 v56 v58 k0_t8 (BitVec.ofNat 32 r₁.val) (BitVec.ofNat 32 (256 * r₂.val))) a + S1x256.size a ≤ S32x7168.size a) ∧
  (∀ (k0_h2 : k0_cond2 v58 = 1#1), 8 ∣ (k0_mult165 v58).toNat)
def k0_chk6_5 (v1_0 : BitVec 32) (k0_t5 : Fin (k0_t5_loop v1_0).trips) (v56 : BitVec 32) (v58 : BitVec 32) : Prop :=
  (∀ k0_t8 : Fin k0_t8_loop.trips, ∀ (k0_h2 : k0_cond2 v58 = 1#1), ∀ a, (k0_off177 v1_0 k0_t5 k0_t8) a + S1x32x256.size a ≤ S10x32x2048.size a) ∧
  (∀ (k0_h2 : k0_cond2 v58 = 1#1), ∀ a, (k0_off178 v58) a + S32x256.size a ≤ S256x2048.size a) ∧
  (∀ k0_t8 : Fin k0_t8_loop.trips, ∀ (k0_h2 : k0_cond2 v58 = 1#1), ∀ a, (k0_off179 v1_0 k0_t5 k0_t8) a + S1x256x256.size a ≤ S10x1024x2048.size a) ∧
  (∀ k0_t8 : Fin k0_t8_loop.trips, ∀ (k0_h2 : k0_cond2 v58 = 1#1), ∀ a, (k0_off180 v1_0 k0_t5 k0_t8) a + S1x256x256.size a ≤ S10x1024x2048.size a) ∧
  (∀ k0_t8 : Fin k0_t8_loop.trips, ∀ (k0_h2 : k0_cond2 v58 = 1#1), ∀ a, (k0_off181 v1_0 k0_t5 k0_t8) a + S1x256x256.size a ≤ S10x1024x2048.size a) ∧
  (∀ k0_t8 : Fin k0_t8_loop.trips, ∀ (k0_h2 : k0_cond2 v58 = 1#1), ∀ a, (k0_off182 v1_0 k0_t5 k0_t8) a + S1x256x256.size a ≤ S10x1024x2048.size a) ∧
  (∀ k0_t8 : Fin k0_t8_loop.trips, ∀ (k0_h2 : k0_cond2 v58 = 1#1), ∀ a, (k0_off183 v1_0 k0_t5 k0_t8) a + S1x32x256.size a ≤ S10x32x2048.size a) ∧
  (∀ (k0_h2 : k0_cond2 v58 = 1#1), ∀ a, (k0_off184 v58) a + S32x256.size a ≤ S256x2048.size a) ∧
  (∀ k0_t8 : Fin k0_t8_loop.trips, ∀ (k0_h2 : k0_cond2 v58 = 1#1), ∀ a, (k0_off185 v1_0 k0_t5 k0_t8) a + S1x256x256.size a ≤ S10x1024x2048.size a) ∧
  (∀ k0_t8 : Fin k0_t8_loop.trips, ∀ (k0_h2 : k0_cond2 v58 = 1#1), ∀ a, (k0_off186 v1_0 k0_t5 k0_t8) a + S1x256x256.size a ≤ S10x1024x2048.size a) ∧
  (∀ k0_t8 : Fin k0_t8_loop.trips, ∀ (k0_h2 : k0_cond2 v58 = 1#1), ∀ a, (k0_off187 v1_0 k0_t5 k0_t8) a + S1x256x256.size a ≤ S10x1024x2048.size a) ∧
  (∀ k0_t8 : Fin k0_t8_loop.trips, ∀ (k0_h2 : k0_cond2 v58 = 1#1), ∀ a, (k0_off188 v1_0 k0_t5 k0_t8) a + S1x256x256.size a ≤ S10x1024x2048.size a) ∧
  (∀ k0_t8 : Fin k0_t8_loop.trips, ∀ (k0_h2 : k0_cond2 v58 = 1#1), ∀ a, (k0_off189 v1_0 k0_t5 k0_t8) a + S1x32x256.size a ≤ S10x32x2048.size a) ∧
  (∀ (k0_h2 : k0_cond2 v58 = 1#1), ∀ a, (k0_off190 v58) a + S32x256.size a ≤ S256x2048.size a) ∧
  (∀ k0_t8 : Fin k0_t8_loop.trips, ∀ (k0_h2 : k0_cond2 v58 = 1#1), ∀ a, (k0_off191 v1_0 k0_t5 k0_t8) a + S1x256x256.size a ≤ S10x1024x2048.size a) ∧
  (∀ k0_t8 : Fin k0_t8_loop.trips, ∀ (k0_h2 : k0_cond2 v58 = 1#1), ∀ a, (k0_off192 v1_0 k0_t5 k0_t8) a + S1x256x256.size a ≤ S10x1024x2048.size a) ∧
  (∀ k0_t8 : Fin k0_t8_loop.trips, ∀ (k0_h2 : k0_cond2 v58 = 1#1), ∀ a, (k0_off193 v1_0 k0_t5 k0_t8) a + S1x256x256.size a ≤ S10x1024x2048.size a) ∧
  (∀ k0_t8 : Fin k0_t8_loop.trips, ∀ (k0_h2 : k0_cond2 v58 = 1#1), ∀ a, (k0_off194 v1_0 k0_t5 k0_t8) a + S1x256x256.size a ≤ S10x1024x2048.size a) ∧
  (∀ k0_t8 : Fin k0_t8_loop.trips, ∀ (k0_h2 : k0_cond2 v58 = 1#1), ∀ a, (k0_off195 v1_0 k0_t5 k0_t8) a + S1x32x256.size a ≤ S10x32x2048.size a) ∧
  (∀ (k0_h2 : k0_cond2 v58 = 1#1), ∀ a, (k0_off196 v58) a + S32x256.size a ≤ S256x2048.size a) ∧
  (∀ k0_t8 : Fin k0_t8_loop.trips, ∀ (k0_h2 : k0_cond2 v58 = 1#1), ∀ a, (k0_off197 v1_0 k0_t5 k0_t8) a + S1x256x256.size a ≤ S10x1024x2048.size a) ∧
  (∀ k0_t8 : Fin k0_t8_loop.trips, ∀ (k0_h2 : k0_cond2 v58 = 1#1), ∀ a, (k0_off198 v1_0 k0_t5 k0_t8) a + S1x256x256.size a ≤ S10x1024x2048.size a) ∧
  (∀ k0_t8 : Fin k0_t8_loop.trips, ∀ (k0_h2 : k0_cond2 v58 = 1#1), ∀ a, (k0_off199 v1_0 k0_t5 k0_t8) a + S1x256x256.size a ≤ S10x1024x2048.size a) ∧
  (∀ k0_t8 : Fin k0_t8_loop.trips, ∀ (k0_h2 : k0_cond2 v58 = 1#1), ∀ a, (k0_off200 v1_0 k0_t5 k0_t8) a + S1x256x256.size a ≤ S10x1024x2048.size a) ∧
  (∀ k0_t8 : Fin k0_t8_loop.trips, ∀ (k0_h2 : k0_cond2 v58 = 1#1), ∀ a, (k0_off201 v1_0 k0_t5 k0_t8) a + S1x32x256.size a ≤ S10x32x2048.size a) ∧
  (∀ (k0_h2 : k0_cond2 v58 = 1#1), ∀ a, (k0_off202 v58) a + S32x256.size a ≤ S256x2048.size a) ∧
  (∀ k0_t8 : Fin k0_t8_loop.trips, ∀ (k0_h2 : k0_cond2 v58 = 1#1), ∀ a, (k0_off203 v1_0 k0_t5 k0_t8) a + S1x256x256.size a ≤ S10x1024x2048.size a) ∧
  (∀ k0_t8 : Fin k0_t8_loop.trips, ∀ (k0_h2 : k0_cond2 v58 = 1#1), ∀ a, (k0_off204 v1_0 k0_t5 k0_t8) a + S1x256x256.size a ≤ S10x1024x2048.size a) ∧
  (∀ k0_t8 : Fin k0_t8_loop.trips, ∀ (k0_h2 : k0_cond2 v58 = 1#1), ∀ a, (k0_off205 v1_0 k0_t5 k0_t8) a + S1x256x256.size a ≤ S10x1024x2048.size a) ∧
  (∀ k0_t8 : Fin k0_t8_loop.trips, ∀ (k0_h2 : k0_cond2 v58 = 1#1), ∀ a, (k0_off206 v1_0 k0_t5 k0_t8) a + S1x256x256.size a ≤ S10x1024x2048.size a) ∧
  (∀ k0_t8 : Fin k0_t8_loop.trips, ∀ (k0_h2 : k0_cond2 v58 = 1#1), ∀ a, (k0_off207 v1_0 k0_t5 k0_t8) a + S1x32x256.size a ≤ S10x32x2048.size a) ∧
  (∀ (k0_h2 : k0_cond2 v58 = 1#1), ∀ a, (k0_off208 v58) a + S32x256.size a ≤ S256x2048.size a)
def k0_chk6_6 (v1_0 : BitVec 32) (k0_t5 : Fin (k0_t5_loop v1_0).trips) (v56 : BitVec 32) (v58 : BitVec 32) : Prop :=
  (∀ k0_t8 : Fin k0_t8_loop.trips, ∀ (k0_h2 : k0_cond2 v58 = 1#1), ∀ a, (k0_off209 v1_0 k0_t5 k0_t8) a + S1x256x256.size a ≤ S10x1024x2048.size a) ∧
  (∀ k0_t8 : Fin k0_t8_loop.trips, ∀ (k0_h2 : k0_cond2 v58 = 1#1), ∀ a, (k0_off210 v1_0 k0_t5 k0_t8) a + S1x256x256.size a ≤ S10x1024x2048.size a) ∧
  (∀ k0_t8 : Fin k0_t8_loop.trips, ∀ (k0_h2 : k0_cond2 v58 = 1#1), ∀ a, (k0_off211 v1_0 k0_t5 k0_t8) a + S1x256x256.size a ≤ S10x1024x2048.size a) ∧
  (∀ k0_t8 : Fin k0_t8_loop.trips, ∀ (k0_h2 : k0_cond2 v58 = 1#1), ∀ a, (k0_off212 v1_0 k0_t5 k0_t8) a + S1x256x256.size a ≤ S10x1024x2048.size a) ∧
  (∀ k0_t8 : Fin k0_t8_loop.trips, ∀ (k0_h2 : k0_cond2 v58 = 1#1), ∀ a, (k0_off213 v1_0 k0_t5 k0_t8) a + S1x32x256.size a ≤ S10x32x2048.size a) ∧
  (∀ (k0_h2 : k0_cond2 v58 = 1#1), ∀ a, (k0_off214 v58) a + S32x256.size a ≤ S256x2048.size a) ∧
  (∀ k0_t8 : Fin k0_t8_loop.trips, ∀ (k0_h2 : k0_cond2 v58 = 1#1), ∀ a, (k0_off215 v1_0 k0_t5 k0_t8) a + S1x256x256.size a ≤ S10x1024x2048.size a) ∧
  (∀ k0_t8 : Fin k0_t8_loop.trips, ∀ (k0_h2 : k0_cond2 v58 = 1#1), ∀ a, (k0_off216 v1_0 k0_t5 k0_t8) a + S1x256x256.size a ≤ S10x1024x2048.size a) ∧
  (∀ k0_t8 : Fin k0_t8_loop.trips, ∀ (k0_h2 : k0_cond2 v58 = 1#1), ∀ a, (k0_off217 v1_0 k0_t5 k0_t8) a + S1x256x256.size a ≤ S10x1024x2048.size a) ∧
  (∀ k0_t8 : Fin k0_t8_loop.trips, ∀ (k0_h2 : k0_cond2 v58 = 1#1), ∀ a, (k0_off218 v1_0 k0_t5 k0_t8) a + S1x256x256.size a ≤ S10x1024x2048.size a) ∧
  (∀ k0_t8 : Fin k0_t8_loop.trips, ∀ (k0_h2 : k0_cond2 v58 = 1#1), ∀ a, (k0_off219 v1_0 k0_t5 k0_t8) a + S1x32x256.size a ≤ S10x32x2048.size a) ∧
  (∀ (k0_h2 : k0_cond2 v58 = 1#1), ∀ a, (k0_off220 v58) a + S32x256.size a ≤ S256x2048.size a) ∧
  (∀ k0_t8 : Fin k0_t8_loop.trips, ∀ (k0_h2 : k0_cond2 v58 = 1#1), ∀ a, (k0_off221 v1_0 k0_t5 k0_t8) a + S1x256x256.size a ≤ S10x1024x2048.size a) ∧
  (∀ k0_t8 : Fin k0_t8_loop.trips, ∀ (k0_h2 : k0_cond2 v58 = 1#1), ∀ a, (k0_off222 v1_0 k0_t5 k0_t8) a + S1x256x256.size a ≤ S10x1024x2048.size a) ∧
  (∀ k0_t8 : Fin k0_t8_loop.trips, ∀ (k0_h2 : k0_cond2 v58 = 1#1), ∀ a, (k0_off223 v1_0 k0_t5 k0_t8) a + S1x256x256.size a ≤ S10x1024x2048.size a) ∧
  (∀ k0_t8 : Fin k0_t8_loop.trips, ∀ (k0_h2 : k0_cond2 v58 = 1#1), ∀ a, (k0_off224 v1_0 k0_t5 k0_t8) a + S1x256x256.size a ≤ S10x1024x2048.size a) ∧
  (∀ k0_t8 : Fin k0_t8_loop.trips, ∀ (k0_h3 : k0_cond3 v58 = 1#1), ∀ (r₁ : Fin 8) (r₂ : Fin 4), ∀ a, (k0_off225 v56 v58 k0_t8 (BitVec.ofNat 32 r₁.val) (BitVec.ofNat 32 (256 * r₂.val))) a + S1x256.size a ≤ S32x7168.size a) ∧
  (∀ (k0_h3 : k0_cond3 v58 = 1#1), 8 ∣ (k0_mult198 v58).toNat) ∧
  (∀ k0_t8 : Fin k0_t8_loop.trips, ∀ (k0_h3 : k0_cond3 v58 = 1#1), ∀ a, (k0_off226 v1_0 k0_t5 k0_t8) a + S1x32x256.size a ≤ S10x32x2048.size a) ∧
  (∀ (k0_h3 : k0_cond3 v58 = 1#1), ∀ a, (k0_off227 v58) a + S64x256.size a ≤ S256x2048.size a) ∧
  (∀ k0_t8 : Fin k0_t8_loop.trips, ∀ (k0_h3 : k0_cond3 v58 = 1#1), ∀ a, (k0_off228 v1_0 k0_t5 k0_t8) a + S1x256x256.size a ≤ S10x1024x2048.size a) ∧
  (∀ k0_t8 : Fin k0_t8_loop.trips, ∀ (k0_h3 : k0_cond3 v58 = 1#1), ∀ a, (k0_off229 v1_0 k0_t5 k0_t8) a + S1x256x256.size a ≤ S10x1024x2048.size a) ∧
  (∀ k0_t8 : Fin k0_t8_loop.trips, ∀ (k0_h3 : k0_cond3 v58 = 1#1), ∀ a, (k0_off230 v1_0 k0_t5 k0_t8) a + S1x256x256.size a ≤ S10x1024x2048.size a) ∧
  (∀ k0_t8 : Fin k0_t8_loop.trips, ∀ (k0_h3 : k0_cond3 v58 = 1#1), ∀ a, (k0_off231 v1_0 k0_t5 k0_t8) a + S1x256x256.size a ≤ S10x1024x2048.size a) ∧
  (∀ k0_t8 : Fin k0_t8_loop.trips, ∀ (k0_h3 : k0_cond3 v58 = 1#1), ∀ a, (k0_off232 v1_0 k0_t5 k0_t8) a + S1x32x256.size a ≤ S10x32x2048.size a) ∧
  (∀ (k0_h3 : k0_cond3 v58 = 1#1), ∀ a, (k0_off233 v58) a + S64x256.size a ≤ S256x2048.size a) ∧
  (∀ k0_t8 : Fin k0_t8_loop.trips, ∀ (k0_h3 : k0_cond3 v58 = 1#1), ∀ a, (k0_off234 v1_0 k0_t5 k0_t8) a + S1x256x256.size a ≤ S10x1024x2048.size a) ∧
  (∀ k0_t8 : Fin k0_t8_loop.trips, ∀ (k0_h3 : k0_cond3 v58 = 1#1), ∀ a, (k0_off235 v1_0 k0_t5 k0_t8) a + S1x256x256.size a ≤ S10x1024x2048.size a) ∧
  (∀ k0_t8 : Fin k0_t8_loop.trips, ∀ (k0_h3 : k0_cond3 v58 = 1#1), ∀ a, (k0_off236 v1_0 k0_t5 k0_t8) a + S1x256x256.size a ≤ S10x1024x2048.size a) ∧
  (∀ k0_t8 : Fin k0_t8_loop.trips, ∀ (k0_h3 : k0_cond3 v58 = 1#1), ∀ a, (k0_off237 v1_0 k0_t5 k0_t8) a + S1x256x256.size a ≤ S10x1024x2048.size a) ∧
  (∀ k0_t8 : Fin k0_t8_loop.trips, ∀ (k0_h3 : k0_cond3 v58 = 1#1), ∀ a, (k0_off238 v1_0 k0_t5 k0_t8) a + S1x32x256.size a ≤ S10x32x2048.size a) ∧
  (∀ (k0_h3 : k0_cond3 v58 = 1#1), ∀ a, (k0_off239 v58) a + S64x256.size a ≤ S256x2048.size a)
def k0_chk6_7 (v1_0 : BitVec 32) (k0_t5 : Fin (k0_t5_loop v1_0).trips) (v56 : BitVec 32) (v58 : BitVec 32) : Prop :=
  (∀ k0_t8 : Fin k0_t8_loop.trips, ∀ (k0_h3 : k0_cond3 v58 = 1#1), ∀ a, (k0_off240 v1_0 k0_t5 k0_t8) a + S1x256x256.size a ≤ S10x1024x2048.size a) ∧
  (∀ k0_t8 : Fin k0_t8_loop.trips, ∀ (k0_h3 : k0_cond3 v58 = 1#1), ∀ a, (k0_off241 v1_0 k0_t5 k0_t8) a + S1x256x256.size a ≤ S10x1024x2048.size a) ∧
  (∀ k0_t8 : Fin k0_t8_loop.trips, ∀ (k0_h3 : k0_cond3 v58 = 1#1), ∀ a, (k0_off242 v1_0 k0_t5 k0_t8) a + S1x256x256.size a ≤ S10x1024x2048.size a) ∧
  (∀ k0_t8 : Fin k0_t8_loop.trips, ∀ (k0_h3 : k0_cond3 v58 = 1#1), ∀ a, (k0_off243 v1_0 k0_t5 k0_t8) a + S1x256x256.size a ≤ S10x1024x2048.size a) ∧
  (∀ k0_t8 : Fin k0_t8_loop.trips, ∀ (k0_h3 : k0_cond3 v58 = 1#1), ∀ a, (k0_off244 v1_0 k0_t5 k0_t8) a + S1x32x256.size a ≤ S10x32x2048.size a) ∧
  (∀ (k0_h3 : k0_cond3 v58 = 1#1), ∀ a, (k0_off245 v58) a + S64x256.size a ≤ S256x2048.size a) ∧
  (∀ k0_t8 : Fin k0_t8_loop.trips, ∀ (k0_h3 : k0_cond3 v58 = 1#1), ∀ a, (k0_off246 v1_0 k0_t5 k0_t8) a + S1x256x256.size a ≤ S10x1024x2048.size a) ∧
  (∀ k0_t8 : Fin k0_t8_loop.trips, ∀ (k0_h3 : k0_cond3 v58 = 1#1), ∀ a, (k0_off247 v1_0 k0_t5 k0_t8) a + S1x256x256.size a ≤ S10x1024x2048.size a) ∧
  (∀ k0_t8 : Fin k0_t8_loop.trips, ∀ (k0_h3 : k0_cond3 v58 = 1#1), ∀ a, (k0_off248 v1_0 k0_t5 k0_t8) a + S1x256x256.size a ≤ S10x1024x2048.size a) ∧
  (∀ k0_t8 : Fin k0_t8_loop.trips, ∀ (k0_h3 : k0_cond3 v58 = 1#1), ∀ a, (k0_off249 v1_0 k0_t5 k0_t8) a + S1x256x256.size a ≤ S10x1024x2048.size a) ∧
  (∀ k0_t8 : Fin k0_t8_loop.trips, ∀ (k0_h3 : k0_cond3 v58 = 1#1), ∀ a, (k0_off250 v1_0 k0_t5 k0_t8) a + S1x32x256.size a ≤ S10x32x2048.size a) ∧
  (∀ (k0_h3 : k0_cond3 v58 = 1#1), ∀ a, (k0_off251 v58) a + S64x256.size a ≤ S256x2048.size a) ∧
  (∀ k0_t8 : Fin k0_t8_loop.trips, ∀ (k0_h3 : k0_cond3 v58 = 1#1), ∀ a, (k0_off252 v1_0 k0_t5 k0_t8) a + S1x256x256.size a ≤ S10x1024x2048.size a) ∧
  (∀ k0_t8 : Fin k0_t8_loop.trips, ∀ (k0_h3 : k0_cond3 v58 = 1#1), ∀ a, (k0_off253 v1_0 k0_t5 k0_t8) a + S1x256x256.size a ≤ S10x1024x2048.size a) ∧
  (∀ k0_t8 : Fin k0_t8_loop.trips, ∀ (k0_h3 : k0_cond3 v58 = 1#1), ∀ a, (k0_off254 v1_0 k0_t5 k0_t8) a + S1x256x256.size a ≤ S10x1024x2048.size a) ∧
  (∀ k0_t8 : Fin k0_t8_loop.trips, ∀ (k0_h3 : k0_cond3 v58 = 1#1), ∀ a, (k0_off255 v1_0 k0_t5 k0_t8) a + S1x256x256.size a ≤ S10x1024x2048.size a) ∧
  (∀ k0_t8 : Fin k0_t8_loop.trips, ∀ (k0_h3 : k0_cond3 v58 = 1#1), ∀ a, (k0_off256 v1_0 k0_t5 k0_t8) a + S1x32x256.size a ≤ S10x32x2048.size a) ∧
  (∀ (k0_h3 : k0_cond3 v58 = 1#1), ∀ a, (k0_off257 v58) a + S64x256.size a ≤ S256x2048.size a) ∧
  (∀ k0_t8 : Fin k0_t8_loop.trips, ∀ (k0_h3 : k0_cond3 v58 = 1#1), ∀ a, (k0_off258 v1_0 k0_t5 k0_t8) a + S1x256x256.size a ≤ S10x1024x2048.size a) ∧
  (∀ k0_t8 : Fin k0_t8_loop.trips, ∀ (k0_h3 : k0_cond3 v58 = 1#1), ∀ a, (k0_off259 v1_0 k0_t5 k0_t8) a + S1x256x256.size a ≤ S10x1024x2048.size a) ∧
  (∀ k0_t8 : Fin k0_t8_loop.trips, ∀ (k0_h3 : k0_cond3 v58 = 1#1), ∀ a, (k0_off260 v1_0 k0_t5 k0_t8) a + S1x256x256.size a ≤ S10x1024x2048.size a) ∧
  (∀ k0_t8 : Fin k0_t8_loop.trips, ∀ (k0_h3 : k0_cond3 v58 = 1#1), ∀ a, (k0_off261 v1_0 k0_t5 k0_t8) a + S1x256x256.size a ≤ S10x1024x2048.size a) ∧
  (∀ k0_t8 : Fin k0_t8_loop.trips, ∀ (k0_h3 : k0_cond3 v58 = 1#1), ∀ a, (k0_off262 v1_0 k0_t5 k0_t8) a + S1x32x256.size a ≤ S10x32x2048.size a) ∧
  (∀ (k0_h3 : k0_cond3 v58 = 1#1), ∀ a, (k0_off263 v58) a + S64x256.size a ≤ S256x2048.size a) ∧
  (∀ k0_t8 : Fin k0_t8_loop.trips, ∀ (k0_h3 : k0_cond3 v58 = 1#1), ∀ a, (k0_off264 v1_0 k0_t5 k0_t8) a + S1x256x256.size a ≤ S10x1024x2048.size a) ∧
  (∀ k0_t8 : Fin k0_t8_loop.trips, ∀ (k0_h3 : k0_cond3 v58 = 1#1), ∀ a, (k0_off265 v1_0 k0_t5 k0_t8) a + S1x256x256.size a ≤ S10x1024x2048.size a) ∧
  (∀ k0_t8 : Fin k0_t8_loop.trips, ∀ (k0_h3 : k0_cond3 v58 = 1#1), ∀ a, (k0_off266 v1_0 k0_t5 k0_t8) a + S1x256x256.size a ≤ S10x1024x2048.size a) ∧
  (∀ k0_t8 : Fin k0_t8_loop.trips, ∀ (k0_h3 : k0_cond3 v58 = 1#1), ∀ a, (k0_off267 v1_0 k0_t5 k0_t8) a + S1x256x256.size a ≤ S10x1024x2048.size a) ∧
  (∀ k0_t8 : Fin k0_t8_loop.trips, ∀ (k0_h3 : k0_cond3 v58 = 1#1), ∀ a, (k0_off268 v1_0 k0_t5 k0_t8) a + S1x32x256.size a ≤ S10x32x2048.size a) ∧
  (∀ (k0_h3 : k0_cond3 v58 = 1#1), ∀ a, (k0_off269 v58) a + S64x256.size a ≤ S256x2048.size a) ∧
  (∀ k0_t8 : Fin k0_t8_loop.trips, ∀ (k0_h3 : k0_cond3 v58 = 1#1), ∀ a, (k0_off270 v1_0 k0_t5 k0_t8) a + S1x256x256.size a ≤ S10x1024x2048.size a) ∧
  (∀ k0_t8 : Fin k0_t8_loop.trips, ∀ (k0_h3 : k0_cond3 v58 = 1#1), ∀ a, (k0_off271 v1_0 k0_t5 k0_t8) a + S1x256x256.size a ≤ S10x1024x2048.size a)
def k0_chk6_8 (v1_0 : BitVec 32) (k0_t5 : Fin (k0_t5_loop v1_0).trips) (v56 : BitVec 32) (v58 : BitVec 32) : Prop :=
  (∀ k0_t8 : Fin k0_t8_loop.trips, ∀ (k0_h3 : k0_cond3 v58 = 1#1), ∀ a, (k0_off272 v1_0 k0_t5 k0_t8) a + S1x256x256.size a ≤ S10x1024x2048.size a) ∧
  (∀ k0_t8 : Fin k0_t8_loop.trips, ∀ (k0_h3 : k0_cond3 v58 = 1#1), ∀ a, (k0_off273 v1_0 k0_t5 k0_t8) a + S1x256x256.size a ≤ S10x1024x2048.size a) ∧
  (∀ k0_t8 : Fin k0_t8_loop.trips, ∀ (k0_h4 : k0_cond4 v58 = 1#1), ∀ (r₁ : Fin 16) (r₂ : Fin 4), ∀ a, (k0_off274 v56 v58 k0_t8 (BitVec.ofNat 32 r₁.val) (BitVec.ofNat 32 (256 * r₂.val))) a + S1x256.size a ≤ S32x7168.size a) ∧
  (∀ (k0_h4 : k0_cond4 v58 = 1#1), 8 ∣ (k0_mult263 v58).toNat) ∧
  (∀ k0_t8 : Fin k0_t8_loop.trips, ∀ (k0_h4 : k0_cond4 v58 = 1#1), ∀ a, (k0_off275 v1_0 k0_t5 k0_t8) a + S1x32x256.size a ≤ S10x32x2048.size a) ∧
  (∀ (k0_h4 : k0_cond4 v58 = 1#1), ∀ a, (k0_off276 v58) a + S128x256.size a ≤ S256x2048.size a) ∧
  (∀ k0_t8 : Fin k0_t8_loop.trips, ∀ (k0_h4 : k0_cond4 v58 = 1#1), ∀ a, (k0_off277 v1_0 k0_t5 k0_t8) a + S1x256x256.size a ≤ S10x1024x2048.size a) ∧
  (∀ k0_t8 : Fin k0_t8_loop.trips, ∀ (k0_h4 : k0_cond4 v58 = 1#1), ∀ a, (k0_off278 v1_0 k0_t5 k0_t8) a + S1x256x256.size a ≤ S10x1024x2048.size a) ∧
  (∀ k0_t8 : Fin k0_t8_loop.trips, ∀ (k0_h4 : k0_cond4 v58 = 1#1), ∀ a, (k0_off279 v1_0 k0_t5 k0_t8) a + S1x256x256.size a ≤ S10x1024x2048.size a) ∧
  (∀ k0_t8 : Fin k0_t8_loop.trips, ∀ (k0_h4 : k0_cond4 v58 = 1#1), ∀ a, (k0_off280 v1_0 k0_t5 k0_t8) a + S1x256x256.size a ≤ S10x1024x2048.size a) ∧
  (∀ k0_t8 : Fin k0_t8_loop.trips, ∀ (k0_h4 : k0_cond4 v58 = 1#1), ∀ a, (k0_off281 v1_0 k0_t5 k0_t8) a + S1x32x256.size a ≤ S10x32x2048.size a) ∧
  (∀ (k0_h4 : k0_cond4 v58 = 1#1), ∀ a, (k0_off282 v58) a + S128x256.size a ≤ S256x2048.size a) ∧
  (∀ k0_t8 : Fin k0_t8_loop.trips, ∀ (k0_h4 : k0_cond4 v58 = 1#1), ∀ a, (k0_off283 v1_0 k0_t5 k0_t8) a + S1x256x256.size a ≤ S10x1024x2048.size a) ∧
  (∀ k0_t8 : Fin k0_t8_loop.trips, ∀ (k0_h4 : k0_cond4 v58 = 1#1), ∀ a, (k0_off284 v1_0 k0_t5 k0_t8) a + S1x256x256.size a ≤ S10x1024x2048.size a) ∧
  (∀ k0_t8 : Fin k0_t8_loop.trips, ∀ (k0_h4 : k0_cond4 v58 = 1#1), ∀ a, (k0_off285 v1_0 k0_t5 k0_t8) a + S1x256x256.size a ≤ S10x1024x2048.size a) ∧
  (∀ k0_t8 : Fin k0_t8_loop.trips, ∀ (k0_h4 : k0_cond4 v58 = 1#1), ∀ a, (k0_off286 v1_0 k0_t5 k0_t8) a + S1x256x256.size a ≤ S10x1024x2048.size a) ∧
  (∀ k0_t8 : Fin k0_t8_loop.trips, ∀ (k0_h4 : k0_cond4 v58 = 1#1), ∀ a, (k0_off287 v1_0 k0_t5 k0_t8) a + S1x32x256.size a ≤ S10x32x2048.size a) ∧
  (∀ (k0_h4 : k0_cond4 v58 = 1#1), ∀ a, (k0_off288 v58) a + S128x256.size a ≤ S256x2048.size a) ∧
  (∀ k0_t8 : Fin k0_t8_loop.trips, ∀ (k0_h4 : k0_cond4 v58 = 1#1), ∀ a, (k0_off289 v1_0 k0_t5 k0_t8) a + S1x256x256.size a ≤ S10x1024x2048.size a) ∧
  (∀ k0_t8 : Fin k0_t8_loop.trips, ∀ (k0_h4 : k0_cond4 v58 = 1#1), ∀ a, (k0_off290 v1_0 k0_t5 k0_t8) a + S1x256x256.size a ≤ S10x1024x2048.size a) ∧
  (∀ k0_t8 : Fin k0_t8_loop.trips, ∀ (k0_h4 : k0_cond4 v58 = 1#1), ∀ a, (k0_off291 v1_0 k0_t5 k0_t8) a + S1x256x256.size a ≤ S10x1024x2048.size a) ∧
  (∀ k0_t8 : Fin k0_t8_loop.trips, ∀ (k0_h4 : k0_cond4 v58 = 1#1), ∀ a, (k0_off292 v1_0 k0_t5 k0_t8) a + S1x256x256.size a ≤ S10x1024x2048.size a) ∧
  (∀ k0_t8 : Fin k0_t8_loop.trips, ∀ (k0_h4 : k0_cond4 v58 = 1#1), ∀ a, (k0_off293 v1_0 k0_t5 k0_t8) a + S1x32x256.size a ≤ S10x32x2048.size a) ∧
  (∀ (k0_h4 : k0_cond4 v58 = 1#1), ∀ a, (k0_off294 v58) a + S128x256.size a ≤ S256x2048.size a) ∧
  (∀ k0_t8 : Fin k0_t8_loop.trips, ∀ (k0_h4 : k0_cond4 v58 = 1#1), ∀ a, (k0_off295 v1_0 k0_t5 k0_t8) a + S1x256x256.size a ≤ S10x1024x2048.size a) ∧
  (∀ k0_t8 : Fin k0_t8_loop.trips, ∀ (k0_h4 : k0_cond4 v58 = 1#1), ∀ a, (k0_off296 v1_0 k0_t5 k0_t8) a + S1x256x256.size a ≤ S10x1024x2048.size a) ∧
  (∀ k0_t8 : Fin k0_t8_loop.trips, ∀ (k0_h4 : k0_cond4 v58 = 1#1), ∀ a, (k0_off297 v1_0 k0_t5 k0_t8) a + S1x256x256.size a ≤ S10x1024x2048.size a) ∧
  (∀ k0_t8 : Fin k0_t8_loop.trips, ∀ (k0_h4 : k0_cond4 v58 = 1#1), ∀ a, (k0_off298 v1_0 k0_t5 k0_t8) a + S1x256x256.size a ≤ S10x1024x2048.size a) ∧
  (∀ k0_t8 : Fin k0_t8_loop.trips, ∀ (k0_h4 : k0_cond4 v58 = 1#1), ∀ a, (k0_off299 v1_0 k0_t5 k0_t8) a + S1x32x256.size a ≤ S10x32x2048.size a) ∧
  (∀ (k0_h4 : k0_cond4 v58 = 1#1), ∀ a, (k0_off300 v58) a + S128x256.size a ≤ S256x2048.size a) ∧
  (∀ k0_t8 : Fin k0_t8_loop.trips, ∀ (k0_h4 : k0_cond4 v58 = 1#1), ∀ a, (k0_off301 v1_0 k0_t5 k0_t8) a + S1x256x256.size a ≤ S10x1024x2048.size a) ∧
  (∀ k0_t8 : Fin k0_t8_loop.trips, ∀ (k0_h4 : k0_cond4 v58 = 1#1), ∀ a, (k0_off302 v1_0 k0_t5 k0_t8) a + S1x256x256.size a ≤ S10x1024x2048.size a)
def k0_chk6_9 (v1_0 : BitVec 32) (k0_t5 : Fin (k0_t5_loop v1_0).trips) (v56 : BitVec 32) (v58 : BitVec 32) : Prop :=
  (∀ k0_t8 : Fin k0_t8_loop.trips, ∀ (k0_h4 : k0_cond4 v58 = 1#1), ∀ a, (k0_off303 v1_0 k0_t5 k0_t8) a + S1x256x256.size a ≤ S10x1024x2048.size a) ∧
  (∀ k0_t8 : Fin k0_t8_loop.trips, ∀ (k0_h4 : k0_cond4 v58 = 1#1), ∀ a, (k0_off304 v1_0 k0_t5 k0_t8) a + S1x256x256.size a ≤ S10x1024x2048.size a) ∧
  (∀ k0_t8 : Fin k0_t8_loop.trips, ∀ (k0_h4 : k0_cond4 v58 = 1#1), ∀ a, (k0_off305 v1_0 k0_t5 k0_t8) a + S1x32x256.size a ≤ S10x32x2048.size a) ∧
  (∀ (k0_h4 : k0_cond4 v58 = 1#1), ∀ a, (k0_off306 v58) a + S128x256.size a ≤ S256x2048.size a) ∧
  (∀ k0_t8 : Fin k0_t8_loop.trips, ∀ (k0_h4 : k0_cond4 v58 = 1#1), ∀ a, (k0_off307 v1_0 k0_t5 k0_t8) a + S1x256x256.size a ≤ S10x1024x2048.size a) ∧
  (∀ k0_t8 : Fin k0_t8_loop.trips, ∀ (k0_h4 : k0_cond4 v58 = 1#1), ∀ a, (k0_off308 v1_0 k0_t5 k0_t8) a + S1x256x256.size a ≤ S10x1024x2048.size a) ∧
  (∀ k0_t8 : Fin k0_t8_loop.trips, ∀ (k0_h4 : k0_cond4 v58 = 1#1), ∀ a, (k0_off309 v1_0 k0_t5 k0_t8) a + S1x256x256.size a ≤ S10x1024x2048.size a) ∧
  (∀ k0_t8 : Fin k0_t8_loop.trips, ∀ (k0_h4 : k0_cond4 v58 = 1#1), ∀ a, (k0_off310 v1_0 k0_t5 k0_t8) a + S1x256x256.size a ≤ S10x1024x2048.size a) ∧
  (∀ k0_t8 : Fin k0_t8_loop.trips, ∀ (k0_h4 : k0_cond4 v58 = 1#1), ∀ a, (k0_off311 v1_0 k0_t5 k0_t8) a + S1x32x256.size a ≤ S10x32x2048.size a) ∧
  (∀ (k0_h4 : k0_cond4 v58 = 1#1), ∀ a, (k0_off312 v58) a + S128x256.size a ≤ S256x2048.size a) ∧
  (∀ k0_t8 : Fin k0_t8_loop.trips, ∀ (k0_h4 : k0_cond4 v58 = 1#1), ∀ a, (k0_off313 v1_0 k0_t5 k0_t8) a + S1x256x256.size a ≤ S10x1024x2048.size a) ∧
  (∀ k0_t8 : Fin k0_t8_loop.trips, ∀ (k0_h4 : k0_cond4 v58 = 1#1), ∀ a, (k0_off314 v1_0 k0_t5 k0_t8) a + S1x256x256.size a ≤ S10x1024x2048.size a) ∧
  (∀ k0_t8 : Fin k0_t8_loop.trips, ∀ (k0_h4 : k0_cond4 v58 = 1#1), ∀ a, (k0_off315 v1_0 k0_t5 k0_t8) a + S1x256x256.size a ≤ S10x1024x2048.size a) ∧
  (∀ k0_t8 : Fin k0_t8_loop.trips, ∀ (k0_h4 : k0_cond4 v58 = 1#1), ∀ a, (k0_off316 v1_0 k0_t5 k0_t8) a + S1x256x256.size a ≤ S10x1024x2048.size a) ∧
  (∀ k0_t8 : Fin k0_t8_loop.trips, ∀ (k0_h4 : k0_cond4 v58 = 1#1), ∀ a, (k0_off317 v1_0 k0_t5 k0_t8) a + S1x32x256.size a ≤ S10x32x2048.size a) ∧
  (∀ (k0_h4 : k0_cond4 v58 = 1#1), ∀ a, (k0_off318 v58) a + S128x256.size a ≤ S256x2048.size a) ∧
  (∀ k0_t8 : Fin k0_t8_loop.trips, ∀ (k0_h4 : k0_cond4 v58 = 1#1), ∀ a, (k0_off319 v1_0 k0_t5 k0_t8) a + S1x256x256.size a ≤ S10x1024x2048.size a) ∧
  (∀ k0_t8 : Fin k0_t8_loop.trips, ∀ (k0_h4 : k0_cond4 v58 = 1#1), ∀ a, (k0_off320 v1_0 k0_t5 k0_t8) a + S1x256x256.size a ≤ S10x1024x2048.size a) ∧
  (∀ k0_t8 : Fin k0_t8_loop.trips, ∀ (k0_h4 : k0_cond4 v58 = 1#1), ∀ a, (k0_off321 v1_0 k0_t5 k0_t8) a + S1x256x256.size a ≤ S10x1024x2048.size a) ∧
  (∀ k0_t8 : Fin k0_t8_loop.trips, ∀ (k0_h4 : k0_cond4 v58 = 1#1), ∀ a, (k0_off322 v1_0 k0_t5 k0_t8) a + S1x256x256.size a ≤ S10x1024x2048.size a) ∧
  ((k0_t11_loop v58).OK) ∧
  (∀ k0_t11 : Fin (k0_t11_loop v58).trips, 8 ∣ (k0_mult266 v58 k0_t11).toNat) ∧
  (∀ k0_t11 : Fin (k0_t11_loop v58).trips, ∀ a, (k0_off330 v58 k0_t11) a + S8x2048.size a ≤ S256x2048.size a) ∧
  (∀ k0_t11 : Fin (k0_t11_loop v58).trips, ∀ a, (k0_off331 v56 v58 k0_t11) a + S1x2048.size a ≤ S32x2048.size a) ∧
  ((k0_t12_loop v58).OK) ∧
  (∀ k0_t12 : Fin (k0_t12_loop v58).trips, 8 ∣ (k0_mult267 v58 k0_t12).toNat) ∧
  (∀ k0_t12 : Fin (k0_t12_loop v58).trips, ∀ a, (k0_off332 v58 k0_t12) a + S8x2048.size a ≤ S256x2048.size a) ∧
  (∀ k0_t12 : Fin (k0_t12_loop v58).trips, ∀ a, (k0_off333 v56 v58 k0_t12) a + S1x2048.size a ≤ S32x2048.size a)
def k0_chk6 (v1_0 : BitVec 32) (k0_t5 : Fin (k0_t5_loop v1_0).trips) (v56 : BitVec 32) (v58 : BitVec 32) : Prop :=
  k0_chk6_0 v1_0 k0_t5 v56 v58 ∧
  k0_chk6_1 v1_0 k0_t5 v56 v58 ∧
  k0_chk6_2 v1_0 k0_t5 v56 v58 ∧
  k0_chk6_3 v1_0 k0_t5 v56 v58 ∧
  k0_chk6_4 v1_0 k0_t5 v56 v58 ∧
  k0_chk6_5 v1_0 k0_t5 v56 v58 ∧
  k0_chk6_6 v1_0 k0_t5 v56 v58 ∧
  k0_chk6_7 v1_0 k0_t5 v56 v58 ∧
  k0_chk6_8 v1_0 k0_t5 v56 v58 ∧
  k0_chk6_9 v1_0 k0_t5 v56 v58
theorem k0_t6_ok : ∀ (v1_0 : BitVec 32) (k0_t5 : Fin (k0_t5_loop v1_0).trips) (v56 : BitVec 32) (v58 : BitVec 32) (k0_hw6 : k0_chk6 v1_0 k0_t5 v56 v58), (k0_t6_loop v58).OK := fun v1_0 k0_t5 v56 v58 k0_hw6 => k0_hw6.1.1
theorem k0_mult6_dvd : ∀ (v1_0 : BitVec 32) (k0_t5 : Fin (k0_t5_loop v1_0).trips) (v56 : BitVec 32) (v58 : BitVec 32) (k0_hw6 : k0_chk6 v1_0 k0_t5 v56 v58) (k0_t6 : Fin (k0_t6_loop v58).trips), 8 ∣ (k0_mult6 v58 k0_t6).toNat := fun v1_0 k0_t5 v56 v58 k0_hw6 k0_t6 => k0_hw6.1.2.1 k0_t6
theorem k0_off20_inb : ∀ (v1_0 : BitVec 32) (k0_t5 : Fin (k0_t5_loop v1_0).trips) (v56 : BitVec 32) (v58 : BitVec 32) (k0_hw6 : k0_chk6 v1_0 k0_t5 v56 v58) (k0_t6 : Fin (k0_t6_loop v58).trips), ∀ a, (k0_off20 v58 k0_t6) a + S8x2048.size a ≤ S256x2048.size a := fun v1_0 k0_t5 v56 v58 k0_hw6 k0_t6 => k0_hw6.1.2.2.1 k0_t6
theorem k0_t7_ok : ∀ (v1_0 : BitVec 32) (k0_t5 : Fin (k0_t5_loop v1_0).trips) (v56 : BitVec 32) (v58 : BitVec 32) (k0_hw6 : k0_chk6 v1_0 k0_t5 v56 v58), (k0_t7_loop v58).OK := fun v1_0 k0_t5 v56 v58 k0_hw6 => k0_hw6.1.2.2.2.1
theorem k0_mult7_dvd : ∀ (v1_0 : BitVec 32) (k0_t5 : Fin (k0_t5_loop v1_0).trips) (v56 : BitVec 32) (v58 : BitVec 32) (k0_hw6 : k0_chk6 v1_0 k0_t5 v56 v58) (k0_t7 : Fin (k0_t7_loop v58).trips), 8 ∣ (k0_mult7 v58 k0_t7).toNat := fun v1_0 k0_t5 v56 v58 k0_hw6 k0_t7 => k0_hw6.1.2.2.2.2.1 k0_t7
theorem k0_off21_inb : ∀ (v1_0 : BitVec 32) (k0_t5 : Fin (k0_t5_loop v1_0).trips) (v56 : BitVec 32) (v58 : BitVec 32) (k0_hw6 : k0_chk6 v1_0 k0_t5 v56 v58) (k0_t7 : Fin (k0_t7_loop v58).trips), ∀ a, (k0_off21 v58 k0_t7) a + S8x2048.size a ≤ S256x2048.size a := fun v1_0 k0_t5 v56 v58 k0_hw6 k0_t7 => k0_hw6.1.2.2.2.2.2.1 k0_t7
theorem k0_t9_ok : ∀ (v1_0 : BitVec 32) (k0_t5 : Fin (k0_t5_loop v1_0).trips) (v56 : BitVec 32) (v58 : BitVec 32) (k0_hw6 : k0_chk6 v1_0 k0_t5 v56 v58), (k0_t9_loop v58).OK := fun v1_0 k0_t5 v56 v58 k0_hw6 => k0_hw6.1.2.2.2.2.2.2.1
theorem k0_off29_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ (r₁ : Fin 16) (r₂ : Fin 4), ∀ a, (k0_off29 v56 v58 k0_t8 k0_t9 (BitVec.ofNat 32 r₁.val) (BitVec.ofNat 32 (256 * r₂.val))) a + S1x256.size a ≤ S32x7168.size a := fun v1_0 k0_t5 v56 v58 k0_hw6 k0_t8 k0_t9 r₁ r₂ => k0_hw6.1.2.2.2.2.2.2.2.1 k0_t8 k0_t9 r₁ r₂
theorem k0_mult74_dvd : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), 8 ∣ (k0_mult74 v58 k0_t9).toNat := fun v1_0 k0_t5 v56 v58 k0_hw6 k0_t9 => k0_hw6.1.2.2.2.2.2.2.2.2.1 k0_t9
theorem k0_off30_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off30 v1_0 k0_t5 k0_t8) a + S1x32x256.size a ≤ S10x32x2048.size a := fun v1_0 k0_t5 v56 v58 k0_hw6 k0_t8 k0_t9 => k0_hw6.1.2.2.2.2.2.2.2.2.2.1 k0_t8 k0_t9
theorem k0_off31_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off31 v58 k0_t9) a + S128x256.size a ≤ S256x2048.size a := fun v1_0 k0_t5 v56 v58 k0_hw6 k0_t9 => k0_hw6.1.2.2.2.2.2.2.2.2.2.2.1 k0_t9
theorem k0_off32_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off32 v1_0 k0_t5 k0_t8) a + S1x256x256.size a ≤ S10x1024x2048.size a := fun v1_0 k0_t5 v56 v58 k0_hw6 k0_t8 k0_t9 => k0_hw6.1.2.2.2.2.2.2.2.2.2.2.2.1 k0_t8 k0_t9
theorem k0_off33_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off33 v1_0 k0_t5 k0_t8) a + S1x256x256.size a ≤ S10x1024x2048.size a := fun v1_0 k0_t5 v56 v58 k0_hw6 k0_t8 k0_t9 => k0_hw6.1.2.2.2.2.2.2.2.2.2.2.2.2.1 k0_t8 k0_t9
theorem k0_off34_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off34 v1_0 k0_t5 k0_t8) a + S1x256x256.size a ≤ S10x1024x2048.size a := fun v1_0 k0_t5 v56 v58 k0_hw6 k0_t8 k0_t9 => k0_hw6.1.2.2.2.2.2.2.2.2.2.2.2.2.2.1 k0_t8 k0_t9
theorem k0_off35_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off35 v1_0 k0_t5 k0_t8) a + S1x256x256.size a ≤ S10x1024x2048.size a := fun v1_0 k0_t5 v56 v58 k0_hw6 k0_t8 k0_t9 => k0_hw6.1.2.2.2.2.2.2.2.2.2.2.2.2.2.2.1 k0_t8 k0_t9
theorem k0_off36_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off36 v1_0 k0_t5 k0_t8) a + S1x32x256.size a ≤ S10x32x2048.size a := fun v1_0 k0_t5 v56 v58 k0_hw6 k0_t8 k0_t9 => k0_hw6.1.2.2.2.2.2.2.2.2.2.2.2.2.2.2.2.1 k0_t8 k0_t9
theorem k0_off37_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off37 v58 k0_t9) a + S128x256.size a ≤ S256x2048.size a := fun v1_0 k0_t5 v56 v58 k0_hw6 k0_t9 => k0_hw6.1.2.2.2.2.2.2.2.2.2.2.2.2.2.2.2.2.1 k0_t9
theorem k0_off38_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off38 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.1 k0_t8 k0_t9
theorem k0_off39_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off39 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.1 k0_t8 k0_t9
theorem k0_off40_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off40 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.1 k0_t8 k0_t9
theorem k0_off41_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off41 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.1 k0_t8 k0_t9
theorem k0_off42_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off42 v1_0 k0_t5 k0_t8) a + S1x32x256.size a ≤ S10x32x2048.size a := fun v1_0 k0_t5 v56 v58 k0_hw6 k0_t8 k0_t9 => k0_hw6.1.2.2.2.2.2.2.2.2.2.2.2.2.2.2.2.2.2.2.2.2.2.1 k0_t8 k0_t9
theorem k0_off43_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off43 v58 k0_t9) a + S128x256.size a ≤ S256x2048.size a := fun v1_0 k0_t5 v56 v58 k0_hw6 k0_t9 => k0_hw6.1.2.2.2.2.2.2.2.2.2.2.2.2.2.2.2.2.2.2.2.2.2.2.1 k0_t9
theorem k0_off44_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off44 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.1 k0_t8 k0_t9
theorem k0_off45_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off45 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.1 k0_t8 k0_t9
theorem k0_off46_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off46 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.2.1 k0_t8 k0_t9
theorem k0_off47_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off47 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.2.2.1 k0_t8 k0_t9
theorem k0_off48_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off48 v1_0 k0_t5 k0_t8) a + S1x32x256.size a ≤ S10x32x2048.size a := fun v1_0 k0_t5 v56 v58 k0_hw6 k0_t8 k0_t9 => k0_hw6.1.2.2.2.2.2.2.2.2.2.2.2.2.2.2.2.2.2.2.2.2.2.2.2.2.2.2.2.1 k0_t8 k0_t9
theorem k0_off49_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off49 v58 k0_t9) a + S128x256.size a ≤ S256x2048.size a := fun v1_0 k0_t5 v56 v58 k0_hw6 k0_t9 => k0_hw6.1.2.2.2.2.2.2.2.2.2.2.2.2.2.2.2.2.2.2.2.2.2.2.2.2.2.2.2.2.1 k0_t9
theorem k0_off50_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off50 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.2.2.2.2.2.1 k0_t8 k0_t9
theorem k0_off51_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off51 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.2.2.2.2.2.2.1 k0_t8 k0_t9
theorem k0_off52_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off52 v1_0 k0_t5 k0_t8) a + S1x256x256.size a ≤ S10x1024x2048.size a := fun v1_0 k0_t5 v56 v58 k0_hw6 k0_t8 k0_t9 => k0_hw6.1.2.2.2.2.2.2.2.2.2.2.2.2.2.2.2.2.2.2.2.2.2.2.2.2.2.2.2.2.2.2.2 k0_t8 k0_t9
theorem k0_off53_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off53 v1_0 k0_t5 k0_t8) a + S1x256x256.size a ≤ S10x1024x2048.size a := fun v1_0 k0_t5 v56 v58 k0_hw6 k0_t8 k0_t9 => k0_hw6.2.1.1 k0_t8 k0_t9
theorem k0_off54_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off54 v1_0 k0_t5 k0_t8) a + S1x32x256.size a ≤ S10x32x2048.size a := fun v1_0 k0_t5 v56 v58 k0_hw6 k0_t8 k0_t9 => k0_hw6.2.1.2.1 k0_t8 k0_t9
theorem k0_off55_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off55 v58 k0_t9) a + S128x256.size a ≤ S256x2048.size a := fun v1_0 k0_t5 v56 v58 k0_hw6 k0_t9 => k0_hw6.2.1.2.2.1 k0_t9
theorem k0_off56_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off56 v1_0 k0_t5 k0_t8) a + S1x256x256.size a ≤ S10x1024x2048.size a := fun v1_0 k0_t5 v56 v58 k0_hw6 k0_t8 k0_t9 => k0_hw6.2.1.2.2.2.1 k0_t8 k0_t9
theorem k0_off57_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off57 v1_0 k0_t5 k0_t8) a + S1x256x256.size a ≤ S10x1024x2048.size a := fun v1_0 k0_t5 v56 v58 k0_hw6 k0_t8 k0_t9 => k0_hw6.2.1.2.2.2.2.1 k0_t8 k0_t9
theorem k0_off58_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off58 v1_0 k0_t5 k0_t8) a + S1x256x256.size a ≤ S10x1024x2048.size a := fun v1_0 k0_t5 v56 v58 k0_hw6 k0_t8 k0_t9 => k0_hw6.2.1.2.2.2.2.2.1 k0_t8 k0_t9
theorem k0_off59_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off59 v1_0 k0_t5 k0_t8) a + S1x256x256.size a ≤ S10x1024x2048.size a := fun v1_0 k0_t5 v56 v58 k0_hw6 k0_t8 k0_t9 => k0_hw6.2.1.2.2.2.2.2.2.1 k0_t8 k0_t9
theorem k0_off60_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off60 v1_0 k0_t5 k0_t8) a + S1x32x256.size a ≤ S10x32x2048.size a := fun v1_0 k0_t5 v56 v58 k0_hw6 k0_t8 k0_t9 => k0_hw6.2.1.2.2.2.2.2.2.2.1 k0_t8 k0_t9
theorem k0_off61_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off61 v58 k0_t9) a + S128x256.size a ≤ S256x2048.size a := fun v1_0 k0_t5 v56 v58 k0_hw6 k0_t9 => k0_hw6.2.1.2.2.2.2.2.2.2.2.1 k0_t9
theorem k0_off62_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off62 v1_0 k0_t5 k0_t8) a + S1x256x256.size a ≤ S10x1024x2048.size a := fun v1_0 k0_t5 v56 v58 k0_hw6 k0_t8 k0_t9 => k0_hw6.2.1.2.2.2.2.2.2.2.2.2.1 k0_t8 k0_t9
theorem k0_off63_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off63 v1_0 k0_t5 k0_t8) a + S1x256x256.size a ≤ S10x1024x2048.size a := fun v1_0 k0_t5 v56 v58 k0_hw6 k0_t8 k0_t9 => k0_hw6.2.1.2.2.2.2.2.2.2.2.2.2.1 k0_t8 k0_t9
theorem k0_off64_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off64 v1_0 k0_t5 k0_t8) a + S1x256x256.size a ≤ S10x1024x2048.size a := fun v1_0 k0_t5 v56 v58 k0_hw6 k0_t8 k0_t9 => k0_hw6.2.1.2.2.2.2.2.2.2.2.2.2.2.1 k0_t8 k0_t9
theorem k0_off65_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off65 v1_0 k0_t5 k0_t8) a + S1x256x256.size a ≤ S10x1024x2048.size a := fun v1_0 k0_t5 v56 v58 k0_hw6 k0_t8 k0_t9 => k0_hw6.2.1.2.2.2.2.2.2.2.2.2.2.2.2.1 k0_t8 k0_t9
theorem k0_off66_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off66 v1_0 k0_t5 k0_t8) a + S1x32x256.size a ≤ S10x32x2048.size a := fun v1_0 k0_t5 v56 v58 k0_hw6 k0_t8 k0_t9 => k0_hw6.2.1.2.2.2.2.2.2.2.2.2.2.2.2.2.1 k0_t8 k0_t9
theorem k0_off67_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off67 v58 k0_t9) a + S128x256.size a ≤ S256x2048.size a := fun v1_0 k0_t5 v56 v58 k0_hw6 k0_t9 => k0_hw6.2.1.2.2.2.2.2.2.2.2.2.2.2.2.2.2.1 k0_t9
theorem k0_off68_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off68 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.1 k0_t8 k0_t9
theorem k0_off69_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off69 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.1 k0_t8 k0_t9
theorem k0_off70_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off70 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.1 k0_t8 k0_t9
theorem k0_off71_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off71 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.2.1 k0_t8 k0_t9
theorem k0_off72_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off72 v1_0 k0_t5 k0_t8) a + S1x32x256.size a ≤ S10x32x2048.size a := fun v1_0 k0_t5 v56 v58 k0_hw6 k0_t8 k0_t9 => k0_hw6.2.1.2.2.2.2.2.2.2.2.2.2.2.2.2.2.2.2.2.2.2.1 k0_t8 k0_t9
theorem k0_off73_inb : ∀ (v1_0 : BitVec 32) (k0_t5 : Fin (k0_t5_loop v1_0).trips) (v56 : BitVec 32) (v58 : BitVec 32) (k0_hw6 : k0_chk6 v1_0 k0_t5 v56 v58) (k0_t9 : Fin (k0_t9_loop v58).trips), ∀ a, (k0_off73 v58 k0_t9) a + S128x256.size a ≤ S256x2048.size a := fun v1_0 k0_t5 v56 v58 k0_hw6 k0_t9 => k0_hw6.2.1.2.2.2.2.2.2.2.2.2.2.2.2.2.2.2.2.2.2.2.2.1 k0_t9
theorem k0_off74_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off74 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.2.2.2.2.1 k0_t8 k0_t9
theorem k0_off75_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off75 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.2.2.2.2.2.1 k0_t8 k0_t9
theorem k0_off76_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off76 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.2.2.2.2.2.2.1 k0_t8 k0_t9
theorem k0_off77_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t9 : Fin (k0_t9_loop v58).trips), ∀ a, (k0_off77 v1_0 k0_t5 k0_t8) a + S1x256x256.size a ≤ S10x1024x2048.size a := fun v1_0 k0_t5 v56 v58 k0_hw6 k0_t8 k0_t9 => k0_hw6.2.1.2.2.2.2.2.2.2.2.2.2.2.2.2.2.2.2.2.2.2.2.2.2.2.2.1 k0_t8 k0_t9
theorem k0_t10_ok : ∀ (v1_0 : BitVec 32) (k0_t5 : Fin (k0_t5_loop v1_0).trips) (v56 : BitVec 32) (v58 : BitVec 32) (k0_hw6 : k0_chk6 v1_0 k0_t5 v56 v58), (k0_t10_loop v58).OK := fun v1_0 k0_t5 v56 v58 k0_hw6 => k0_hw6.2.1.2.2.2.2.2.2.2.2.2.2.2.2.2.2.2.2.2.2.2.2.2.2.2.2.2.1
theorem k0_off78_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ (r₁ : Fin 16) (r₂ : Fin 4), ∀ a, (k0_off78 v56 v58 k0_t8 k0_t10 (BitVec.ofNat 32 r₁.val) (BitVec.ofNat 32 (256 * r₂.val))) a + S1x256.size a ≤ S32x7168.size a := fun v1_0 k0_t5 v56 v58 k0_hw6 k0_t8 k0_t10 r₁ r₂ => k0_hw6.2.1.2.2.2.2.2.2.2.2.2.2.2.2.2.2.2.2.2.2.2.2.2.2.2.2.2.2.1 k0_t8 k0_t10 r₁ r₂
theorem k0_mult139_dvd : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), 8 ∣ (k0_mult139 v58 k0_t10).toNat := fun v1_0 k0_t5 v56 v58 k0_hw6 k0_t10 => k0_hw6.2.1.2.2.2.2.2.2.2.2.2.2.2.2.2.2.2.2.2.2.2.2.2.2.2.2.2.2.2.1 k0_t10
theorem k0_off79_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off79 v1_0 k0_t5 k0_t8) a + S1x32x256.size a ≤ S10x32x2048.size a := fun v1_0 k0_t5 v56 v58 k0_hw6 k0_t8 k0_t10 => k0_hw6.2.1.2.2.2.2.2.2.2.2.2.2.2.2.2.2.2.2.2.2.2.2.2.2.2.2.2.2.2.2.1 k0_t8 k0_t10
theorem k0_off80_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off80 v58 k0_t10) a + S128x256.size a ≤ S256x2048.size a := fun v1_0 k0_t5 v56 v58 k0_hw6 k0_t10 => k0_hw6.2.1.2.2.2.2.2.2.2.2.2.2.2.2.2.2.2.2.2.2.2.2.2.2.2.2.2.2.2.2.2.1 k0_t10
theorem k0_off81_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off81 v1_0 k0_t5 k0_t8) a + S1x256x256.size a ≤ S10x1024x2048.size a := fun v1_0 k0_t5 v56 v58 k0_hw6 k0_t8 k0_t10 => k0_hw6.2.1.2.2.2.2.2.2.2.2.2.2.2.2.2.2.2.2.2.2.2.2.2.2.2.2.2.2.2.2.2.2.1 k0_t8 k0_t10
theorem k0_off82_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off82 v1_0 k0_t5 k0_t8) a + S1x256x256.size a ≤ S10x1024x2048.size a := fun v1_0 k0_t5 v56 v58 k0_hw6 k0_t8 k0_t10 => k0_hw6.2.1.2.2.2.2.2.2.2.2.2.2.2.2.2.2.2.2.2.2.2.2.2.2.2.2.2.2.2.2.2.2.2 k0_t8 k0_t10
theorem k0_off83_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off83 v1_0 k0_t5 k0_t8) a + S1x256x256.size a ≤ S10x1024x2048.size a := fun v1_0 k0_t5 v56 v58 k0_hw6 k0_t8 k0_t10 => k0_hw6.2.2.1.1 k0_t8 k0_t10
theorem k0_off84_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off84 v1_0 k0_t5 k0_t8) a + S1x256x256.size a ≤ S10x1024x2048.size a := fun v1_0 k0_t5 v56 v58 k0_hw6 k0_t8 k0_t10 => k0_hw6.2.2.1.2.1 k0_t8 k0_t10
theorem k0_off85_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off85 v1_0 k0_t5 k0_t8) a + S1x32x256.size a ≤ S10x32x2048.size a := fun v1_0 k0_t5 v56 v58 k0_hw6 k0_t8 k0_t10 => k0_hw6.2.2.1.2.2.1 k0_t8 k0_t10
theorem k0_off86_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off86 v58 k0_t10) a + S128x256.size a ≤ S256x2048.size a := fun v1_0 k0_t5 v56 v58 k0_hw6 k0_t10 => k0_hw6.2.2.1.2.2.2.1 k0_t10
theorem k0_off87_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off87 v1_0 k0_t5 k0_t8) a + S1x256x256.size a ≤ S10x1024x2048.size a := fun v1_0 k0_t5 v56 v58 k0_hw6 k0_t8 k0_t10 => k0_hw6.2.2.1.2.2.2.2.1 k0_t8 k0_t10
theorem k0_off88_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off88 v1_0 k0_t5 k0_t8) a + S1x256x256.size a ≤ S10x1024x2048.size a := fun v1_0 k0_t5 v56 v58 k0_hw6 k0_t8 k0_t10 => k0_hw6.2.2.1.2.2.2.2.2.1 k0_t8 k0_t10
theorem k0_off89_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off89 v1_0 k0_t5 k0_t8) a + S1x256x256.size a ≤ S10x1024x2048.size a := fun v1_0 k0_t5 v56 v58 k0_hw6 k0_t8 k0_t10 => k0_hw6.2.2.1.2.2.2.2.2.2.1 k0_t8 k0_t10
theorem k0_off90_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off90 v1_0 k0_t5 k0_t8) a + S1x256x256.size a ≤ S10x1024x2048.size a := fun v1_0 k0_t5 v56 v58 k0_hw6 k0_t8 k0_t10 => k0_hw6.2.2.1.2.2.2.2.2.2.2.1 k0_t8 k0_t10
theorem k0_off91_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off91 v1_0 k0_t5 k0_t8) a + S1x32x256.size a ≤ S10x32x2048.size a := fun v1_0 k0_t5 v56 v58 k0_hw6 k0_t8 k0_t10 => k0_hw6.2.2.1.2.2.2.2.2.2.2.2.1 k0_t8 k0_t10
theorem k0_off92_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off92 v58 k0_t10) a + S128x256.size a ≤ S256x2048.size a := fun v1_0 k0_t5 v56 v58 k0_hw6 k0_t10 => k0_hw6.2.2.1.2.2.2.2.2.2.2.2.2.1 k0_t10
theorem k0_off93_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off93 v1_0 k0_t5 k0_t8) a + S1x256x256.size a ≤ S10x1024x2048.size a := fun v1_0 k0_t5 v56 v58 k0_hw6 k0_t8 k0_t10 => k0_hw6.2.2.1.2.2.2.2.2.2.2.2.2.2.1 k0_t8 k0_t10
theorem k0_off94_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off94 v1_0 k0_t5 k0_t8) a + S1x256x256.size a ≤ S10x1024x2048.size a := fun v1_0 k0_t5 v56 v58 k0_hw6 k0_t8 k0_t10 => k0_hw6.2.2.1.2.2.2.2.2.2.2.2.2.2.2.1 k0_t8 k0_t10
theorem k0_off95_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off95 v1_0 k0_t5 k0_t8) a + S1x256x256.size a ≤ S10x1024x2048.size a := fun v1_0 k0_t5 v56 v58 k0_hw6 k0_t8 k0_t10 => k0_hw6.2.2.1.2.2.2.2.2.2.2.2.2.2.2.2.1 k0_t8 k0_t10
theorem k0_off96_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off96 v1_0 k0_t5 k0_t8) a + S1x256x256.size a ≤ S10x1024x2048.size a := fun v1_0 k0_t5 v56 v58 k0_hw6 k0_t8 k0_t10 => k0_hw6.2.2.1.2.2.2.2.2.2.2.2.2.2.2.2.2.1 k0_t8 k0_t10
theorem k0_off97_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off97 v1_0 k0_t5 k0_t8) a + S1x32x256.size a ≤ S10x32x2048.size a := fun v1_0 k0_t5 v56 v58 k0_hw6 k0_t8 k0_t10 => k0_hw6.2.2.1.2.2.2.2.2.2.2.2.2.2.2.2.2.2.1 k0_t8 k0_t10
theorem k0_off98_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off98 v58 k0_t10) a + S128x256.size a ≤ S256x2048.size a := fun v1_0 k0_t5 v56 v58 k0_hw6 k0_t10 => k0_hw6.2.2.1.2.2.2.2.2.2.2.2.2.2.2.2.2.2.2.1 k0_t10
theorem k0_off99_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off99 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.1 k0_t8 k0_t10
theorem k0_off100_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off100 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.1 k0_t8 k0_t10
theorem k0_off101_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off101 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.1 k0_t8 k0_t10
theorem k0_off102_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off102 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.1 k0_t8 k0_t10
theorem k0_off103_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off103 v1_0 k0_t5 k0_t8) a + S1x32x256.size a ≤ S10x32x2048.size a := fun v1_0 k0_t5 v56 v58 k0_hw6 k0_t8 k0_t10 => k0_hw6.2.2.1.2.2.2.2.2.2.2.2.2.2.2.2.2.2.2.2.2.2.2.2.1 k0_t8 k0_t10
theorem k0_off104_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off104 v58 k0_t10) a + S128x256.size a ≤ S256x2048.size a := fun v1_0 k0_t5 v56 v58 k0_hw6 k0_t10 => k0_hw6.2.2.1.2.2.2.2.2.2.2.2.2.2.2.2.2.2.2.2.2.2.2.2.2.1 k0_t10
theorem k0_off105_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off105 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.1 k0_t8 k0_t10
theorem k0_off106_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off106 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.1 k0_t8 k0_t10
theorem k0_off107_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off107 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.1 k0_t8 k0_t10
theorem k0_off108_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off108 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.2.1 k0_t8 k0_t10
theorem k0_off109_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off109 v1_0 k0_t5 k0_t8) a + S1x32x256.size a ≤ S10x32x2048.size a := fun v1_0 k0_t5 v56 v58 k0_hw6 k0_t8 k0_t10 => k0_hw6.2.2.1.2.2.2.2.2.2.2.2.2.2.2.2.2.2.2.2.2.2.2.2.2.2.2.2.2.2.1 k0_t8 k0_t10
theorem k0_off110_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off110 v58 k0_t10) a + S128x256.size a ≤ S256x2048.size a := fun v1_0 k0_t5 v56 v58 k0_hw6 k0_t10 => k0_hw6.2.2.1.2.2.2.2.2.2.2.2.2.2.2.2.2.2.2.2.2.2.2.2.2.2.2.2.2.2.2.1 k0_t10
theorem k0_off111_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off111 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.2.2.2.2.1 k0_t8 k0_t10
theorem k0_off112_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off112 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.2.2.2.2.2.1 k0_t8 k0_t10
theorem k0_off113_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off113 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.2.2.2.2.2.2.1 k0_t8 k0_t10
theorem k0_off114_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off114 v1_0 k0_t5 k0_t8) a + S1x256x256.size a ≤ S10x1024x2048.size a := fun v1_0 k0_t5 v56 v58 k0_hw6 k0_t8 k0_t10 => k0_hw6.2.2.1.2.2.2.2.2.2.2.2.2.2.2.2.2.2.2.2.2.2.2.2.2.2.2.2.2.2.2.2.2.2.2 k0_t8 k0_t10
theorem k0_off115_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off115 v1_0 k0_t5 k0_t8) a + S1x32x256.size a ≤ S10x32x2048.size a := fun v1_0 k0_t5 v56 v58 k0_hw6 k0_t8 k0_t10 => k0_hw6.2.2.2.1.1 k0_t8 k0_t10
theorem k0_off116_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off116 v58 k0_t10) a + S128x256.size a ≤ S256x2048.size a := fun v1_0 k0_t5 v56 v58 k0_hw6 k0_t10 => k0_hw6.2.2.2.1.2.1 k0_t10
theorem k0_off117_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off117 v1_0 k0_t5 k0_t8) a + S1x256x256.size a ≤ S10x1024x2048.size a := fun v1_0 k0_t5 v56 v58 k0_hw6 k0_t8 k0_t10 => k0_hw6.2.2.2.1.2.2.1 k0_t8 k0_t10
theorem k0_off118_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off118 v1_0 k0_t5 k0_t8) a + S1x256x256.size a ≤ S10x1024x2048.size a := fun v1_0 k0_t5 v56 v58 k0_hw6 k0_t8 k0_t10 => k0_hw6.2.2.2.1.2.2.2.1 k0_t8 k0_t10
theorem k0_off119_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off119 v1_0 k0_t5 k0_t8) a + S1x256x256.size a ≤ S10x1024x2048.size a := fun v1_0 k0_t5 v56 v58 k0_hw6 k0_t8 k0_t10 => k0_hw6.2.2.2.1.2.2.2.2.1 k0_t8 k0_t10
theorem k0_off120_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off120 v1_0 k0_t5 k0_t8) a + S1x256x256.size a ≤ S10x1024x2048.size a := fun v1_0 k0_t5 v56 v58 k0_hw6 k0_t8 k0_t10 => k0_hw6.2.2.2.1.2.2.2.2.2.1 k0_t8 k0_t10
theorem k0_off121_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off121 v1_0 k0_t5 k0_t8) a + S1x32x256.size a ≤ S10x32x2048.size a := fun v1_0 k0_t5 v56 v58 k0_hw6 k0_t8 k0_t10 => k0_hw6.2.2.2.1.2.2.2.2.2.2.1 k0_t8 k0_t10
theorem k0_off122_inb : ∀ (v1_0 : BitVec 32) (k0_t5 : Fin (k0_t5_loop v1_0).trips) (v56 : BitVec 32) (v58 : BitVec 32) (k0_hw6 : k0_chk6 v1_0 k0_t5 v56 v58) (k0_t10 : Fin (k0_t10_loop v58).trips), ∀ a, (k0_off122 v58 k0_t10) a + S128x256.size a ≤ S256x2048.size a := fun v1_0 k0_t5 v56 v58 k0_hw6 k0_t10 => k0_hw6.2.2.2.1.2.2.2.2.2.2.2.1 k0_t10
theorem k0_off123_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off123 v1_0 k0_t5 k0_t8) a + S1x256x256.size a ≤ S10x1024x2048.size a := fun v1_0 k0_t5 v56 v58 k0_hw6 k0_t8 k0_t10 => k0_hw6.2.2.2.1.2.2.2.2.2.2.2.2.1 k0_t8 k0_t10
theorem k0_off124_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off124 v1_0 k0_t5 k0_t8) a + S1x256x256.size a ≤ S10x1024x2048.size a := fun v1_0 k0_t5 v56 v58 k0_hw6 k0_t8 k0_t10 => k0_hw6.2.2.2.1.2.2.2.2.2.2.2.2.2.1 k0_t8 k0_t10
theorem k0_off125_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off125 v1_0 k0_t5 k0_t8) a + S1x256x256.size a ≤ S10x1024x2048.size a := fun v1_0 k0_t5 v56 v58 k0_hw6 k0_t8 k0_t10 => k0_hw6.2.2.2.1.2.2.2.2.2.2.2.2.2.2.1 k0_t8 k0_t10
theorem k0_off126_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips) (k0_t10 : Fin (k0_t10_loop v58).trips), ∀ a, (k0_off126 v1_0 k0_t5 k0_t8) a + S1x256x256.size a ≤ S10x1024x2048.size a := fun v1_0 k0_t5 v56 v58 k0_hw6 k0_t8 k0_t10 => k0_hw6.2.2.2.1.2.2.2.2.2.2.2.2.2.2.2.1 k0_t8 k0_t10
theorem k0_off127_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ (r₁ : Fin 2) (r₂ : Fin 4), ∀ a, (k0_off127 v56 v58 k0_t8 (BitVec.ofNat 32 r₁.val) (BitVec.ofNat 32 (256 * r₂.val))) a + S1x256.size a ≤ S32x7168.size a := fun v1_0 k0_t5 v56 v58 k0_hw6 k0_t8 k0_h1 r₁ r₂ => k0_hw6.2.2.2.1.2.2.2.2.2.2.2.2.2.2.2.2.1 k0_t8 k0_h1 r₁ r₂
theorem k0_mult148_dvd : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), 8 ∣ (k0_mult148 v58).toNat := fun v1_0 k0_t5 v56 v58 k0_hw6 k0_h1 => k0_hw6.2.2.2.1.2.2.2.2.2.2.2.2.2.2.2.2.2.1 k0_h1
theorem k0_off128_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off128 v1_0 k0_t5 k0_t8) a + S1x32x256.size a ≤ S10x32x2048.size a := fun v1_0 k0_t5 v56 v58 k0_hw6 k0_t8 k0_h1 => k0_hw6.2.2.2.1.2.2.2.2.2.2.2.2.2.2.2.2.2.2.1 k0_t8 k0_h1
theorem k0_off129_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off129 v58) a + S16x256.size a ≤ S256x2048.size a := fun v1_0 k0_t5 v56 v58 k0_hw6 k0_h1 => k0_hw6.2.2.2.1.2.2.2.2.2.2.2.2.2.2.2.2.2.2.2.1 k0_h1
theorem k0_off130_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off130 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.1 k0_t8 k0_h1
theorem k0_off131_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off131 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.1 k0_t8 k0_h1
theorem k0_off132_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off132 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.1 k0_t8 k0_h1
theorem k0_off133_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off133 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.1 k0_t8 k0_h1
theorem k0_off134_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off134 v1_0 k0_t5 k0_t8) a + S1x32x256.size a ≤ S10x32x2048.size a := fun v1_0 k0_t5 v56 v58 k0_hw6 k0_t8 k0_h1 => k0_hw6.2.2.2.1.2.2.2.2.2.2.2.2.2.2.2.2.2.2.2.2.2.2.2.2.1 k0_t8 k0_h1
theorem k0_off135_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off135 v58) a + S16x256.size a ≤ S256x2048.size a := fun v1_0 k0_t5 v56 v58 k0_hw6 k0_h1 => k0_hw6.2.2.2.1.2.2.2.2.2.2.2.2.2.2.2.2.2.2.2.2.2.2.2.2.2.1 k0_h1
theorem k0_off136_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off136 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.1 k0_t8 k0_h1
theorem k0_off137_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off137 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.1 k0_t8 k0_h1
theorem k0_off138_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off138 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.1 k0_t8 k0_h1
theorem k0_off139_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off139 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.2.1 k0_t8 k0_h1
theorem k0_off140_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off140 v1_0 k0_t5 k0_t8) a + S1x32x256.size a ≤ S10x32x2048.size a := fun v1_0 k0_t5 v56 v58 k0_hw6 k0_t8 k0_h1 => k0_hw6.2.2.2.1.2.2.2.2.2.2.2.2.2.2.2.2.2.2.2.2.2.2.2.2.2.2.2.2.2.2.1 k0_t8 k0_h1
theorem k0_off141_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off141 v58) a + S16x256.size a ≤ S256x2048.size a := fun v1_0 k0_t5 v56 v58 k0_hw6 k0_h1 => k0_hw6.2.2.2.1.2.2.2.2.2.2.2.2.2.2.2.2.2.2.2.2.2.2.2.2.2.2.2.2.2.2.2.1 k0_h1
theorem k0_off142_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off142 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.2.2.2.2.1 k0_t8 k0_h1
theorem k0_off143_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off143 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.2.2.2.2.2.1 k0_t8 k0_h1
theorem k0_off144_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off144 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.2.2.2.2.2.2.1 k0_t8 k0_h1
theorem k0_off145_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off145 v1_0 k0_t5 k0_t8) a + S1x256x256.size a ≤ S10x1024x2048.size a := fun v1_0 k0_t5 v56 v58 k0_hw6 k0_t8 k0_h1 => k0_hw6.2.2.2.1.2.2.2.2.2.2.2.2.2.2.2.2.2.2.2.2.2.2.2.2.2.2.2.2.2.2.2.2.2.2.2 k0_t8 k0_h1
theorem k0_off146_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off146 v1_0 k0_t5 k0_t8) a + S1x32x256.size a ≤ S10x32x2048.size a := fun v1_0 k0_t5 v56 v58 k0_hw6 k0_t8 k0_h1 => k0_hw6.2.2.2.2.1.1 k0_t8 k0_h1
theorem k0_off147_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off147 v58) a + S16x256.size a ≤ S256x2048.size a := fun v1_0 k0_t5 v56 v58 k0_hw6 k0_h1 => k0_hw6.2.2.2.2.1.2.1 k0_h1
theorem k0_off148_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off148 v1_0 k0_t5 k0_t8) a + S1x256x256.size a ≤ S10x1024x2048.size a := fun v1_0 k0_t5 v56 v58 k0_hw6 k0_t8 k0_h1 => k0_hw6.2.2.2.2.1.2.2.1 k0_t8 k0_h1
theorem k0_off149_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off149 v1_0 k0_t5 k0_t8) a + S1x256x256.size a ≤ S10x1024x2048.size a := fun v1_0 k0_t5 v56 v58 k0_hw6 k0_t8 k0_h1 => k0_hw6.2.2.2.2.1.2.2.2.1 k0_t8 k0_h1
theorem k0_off150_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off150 v1_0 k0_t5 k0_t8) a + S1x256x256.size a ≤ S10x1024x2048.size a := fun v1_0 k0_t5 v56 v58 k0_hw6 k0_t8 k0_h1 => k0_hw6.2.2.2.2.1.2.2.2.2.1 k0_t8 k0_h1
theorem k0_off151_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off151 v1_0 k0_t5 k0_t8) a + S1x256x256.size a ≤ S10x1024x2048.size a := fun v1_0 k0_t5 v56 v58 k0_hw6 k0_t8 k0_h1 => k0_hw6.2.2.2.2.1.2.2.2.2.2.1 k0_t8 k0_h1
theorem k0_off152_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off152 v1_0 k0_t5 k0_t8) a + S1x32x256.size a ≤ S10x32x2048.size a := fun v1_0 k0_t5 v56 v58 k0_hw6 k0_t8 k0_h1 => k0_hw6.2.2.2.2.1.2.2.2.2.2.2.1 k0_t8 k0_h1
theorem k0_off153_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off153 v58) a + S16x256.size a ≤ S256x2048.size a := fun v1_0 k0_t5 v56 v58 k0_hw6 k0_h1 => k0_hw6.2.2.2.2.1.2.2.2.2.2.2.2.1 k0_h1
theorem k0_off154_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off154 v1_0 k0_t5 k0_t8) a + S1x256x256.size a ≤ S10x1024x2048.size a := fun v1_0 k0_t5 v56 v58 k0_hw6 k0_t8 k0_h1 => k0_hw6.2.2.2.2.1.2.2.2.2.2.2.2.2.1 k0_t8 k0_h1
theorem k0_off155_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off155 v1_0 k0_t5 k0_t8) a + S1x256x256.size a ≤ S10x1024x2048.size a := fun v1_0 k0_t5 v56 v58 k0_hw6 k0_t8 k0_h1 => k0_hw6.2.2.2.2.1.2.2.2.2.2.2.2.2.2.1 k0_t8 k0_h1
theorem k0_off156_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off156 v1_0 k0_t5 k0_t8) a + S1x256x256.size a ≤ S10x1024x2048.size a := fun v1_0 k0_t5 v56 v58 k0_hw6 k0_t8 k0_h1 => k0_hw6.2.2.2.2.1.2.2.2.2.2.2.2.2.2.2.1 k0_t8 k0_h1
theorem k0_off157_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off157 v1_0 k0_t5 k0_t8) a + S1x256x256.size a ≤ S10x1024x2048.size a := fun v1_0 k0_t5 v56 v58 k0_hw6 k0_t8 k0_h1 => k0_hw6.2.2.2.2.1.2.2.2.2.2.2.2.2.2.2.2.1 k0_t8 k0_h1
theorem k0_off158_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off158 v1_0 k0_t5 k0_t8) a + S1x32x256.size a ≤ S10x32x2048.size a := fun v1_0 k0_t5 v56 v58 k0_hw6 k0_t8 k0_h1 => k0_hw6.2.2.2.2.1.2.2.2.2.2.2.2.2.2.2.2.2.1 k0_t8 k0_h1
theorem k0_off159_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off159 v58) a + S16x256.size a ≤ S256x2048.size a := fun v1_0 k0_t5 v56 v58 k0_hw6 k0_h1 => k0_hw6.2.2.2.2.1.2.2.2.2.2.2.2.2.2.2.2.2.2.1 k0_h1
theorem k0_off160_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off160 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.1 k0_t8 k0_h1
theorem k0_off161_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off161 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.1 k0_t8 k0_h1
theorem k0_off162_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off162 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.1 k0_t8 k0_h1
theorem k0_off163_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off163 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.1 k0_t8 k0_h1
theorem k0_off164_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off164 v1_0 k0_t5 k0_t8) a + S1x32x256.size a ≤ S10x32x2048.size a := fun v1_0 k0_t5 v56 v58 k0_hw6 k0_t8 k0_h1 => k0_hw6.2.2.2.2.1.2.2.2.2.2.2.2.2.2.2.2.2.2.2.2.2.2.2.1 k0_t8 k0_h1
theorem k0_off165_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off165 v58) a + S16x256.size a ≤ S256x2048.size a := fun v1_0 k0_t5 v56 v58 k0_hw6 k0_h1 => k0_hw6.2.2.2.2.1.2.2.2.2.2.2.2.2.2.2.2.2.2.2.2.2.2.2.2.1 k0_h1
theorem k0_off166_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off166 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.1 k0_t8 k0_h1
theorem k0_off167_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off167 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.1 k0_t8 k0_h1
theorem k0_off168_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off168 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.1 k0_t8 k0_h1
theorem k0_off169_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off169 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.2.1 k0_t8 k0_h1
theorem k0_off170_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off170 v1_0 k0_t5 k0_t8) a + S1x32x256.size a ≤ S10x32x2048.size a := fun v1_0 k0_t5 v56 v58 k0_hw6 k0_t8 k0_h1 => k0_hw6.2.2.2.2.1.2.2.2.2.2.2.2.2.2.2.2.2.2.2.2.2.2.2.2.2.2.2.2.2.1 k0_t8 k0_h1
theorem k0_off171_inb : ∀ (v1_0 : BitVec 32) (k0_t5 : Fin (k0_t5_loop v1_0).trips) (v56 : BitVec 32) (v58 : BitVec 32) (k0_hw6 : k0_chk6 v1_0 k0_t5 v56 v58), ∀ (k0_h1 : k0_cond1 v58 = 1#1), ∀ a, (k0_off171 v58) a + S16x256.size a ≤ S256x2048.size a := fun v1_0 k0_t5 v56 v58 k0_hw6 k0_h1 => k0_hw6.2.2.2.2.1.2.2.2.2.2.2.2.2.2.2.2.2.2.2.2.2.2.2.2.2.2.2.2.2.2.1 k0_h1
theorem k0_off172_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off172 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.2.2.2.2.1 k0_t8 k0_h1
theorem k0_off173_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off173 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.2.2.2.2.2.1 k0_t8 k0_h1
theorem k0_off174_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off174 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.2.2.2.2.2.2.1 k0_t8 k0_h1
theorem k0_off175_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h1 : k0_cond1 v58 = 1#1), ∀ a, (k0_off175 v1_0 k0_t5 k0_t8) a + S1x256x256.size a ≤ S10x1024x2048.size a := fun v1_0 k0_t5 v56 v58 k0_hw6 k0_t8 k0_h1 => k0_hw6.2.2.2.2.1.2.2.2.2.2.2.2.2.2.2.2.2.2.2.2.2.2.2.2.2.2.2.2.2.2.2.2.2.2.1 k0_t8 k0_h1
theorem k0_off176_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ (r₁ : Fin 4) (r₂ : Fin 4), ∀ a, (k0_off176 v56 v58 k0_t8 (BitVec.ofNat 32 r₁.val) (BitVec.ofNat 32 (256 * r₂.val))) a + S1x256.size a ≤ S32x7168.size a := fun v1_0 k0_t5 v56 v58 k0_hw6 k0_t8 k0_h2 r₁ r₂ => k0_hw6.2.2.2.2.1.2.2.2.2.2.2.2.2.2.2.2.2.2.2.2.2.2.2.2.2.2.2.2.2.2.2.2.2.2.2.1 k0_t8 k0_h2 r₁ r₂
theorem k0_mult165_dvd : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), 8 ∣ (k0_mult165 v58).toNat := fun v1_0 k0_t5 v56 v58 k0_hw6 k0_h2 => k0_hw6.2.2.2.2.1.2.2.2.2.2.2.2.2.2.2.2.2.2.2.2.2.2.2.2.2.2.2.2.2.2.2.2.2.2.2.2 k0_h2
theorem k0_off177_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off177 v1_0 k0_t5 k0_t8) a + S1x32x256.size a ≤ S10x32x2048.size a := fun v1_0 k0_t5 v56 v58 k0_hw6 k0_t8 k0_h2 => k0_hw6.2.2.2.2.2.1.1 k0_t8 k0_h2
theorem k0_off178_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off178 v58) a + S32x256.size a ≤ S256x2048.size a := fun v1_0 k0_t5 v56 v58 k0_hw6 k0_h2 => k0_hw6.2.2.2.2.2.1.2.1 k0_h2
theorem k0_off179_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off179 v1_0 k0_t5 k0_t8) a + S1x256x256.size a ≤ S10x1024x2048.size a := fun v1_0 k0_t5 v56 v58 k0_hw6 k0_t8 k0_h2 => k0_hw6.2.2.2.2.2.1.2.2.1 k0_t8 k0_h2
theorem k0_off180_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off180 v1_0 k0_t5 k0_t8) a + S1x256x256.size a ≤ S10x1024x2048.size a := fun v1_0 k0_t5 v56 v58 k0_hw6 k0_t8 k0_h2 => k0_hw6.2.2.2.2.2.1.2.2.2.1 k0_t8 k0_h2
theorem k0_off181_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off181 v1_0 k0_t5 k0_t8) a + S1x256x256.size a ≤ S10x1024x2048.size a := fun v1_0 k0_t5 v56 v58 k0_hw6 k0_t8 k0_h2 => k0_hw6.2.2.2.2.2.1.2.2.2.2.1 k0_t8 k0_h2
theorem k0_off182_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off182 v1_0 k0_t5 k0_t8) a + S1x256x256.size a ≤ S10x1024x2048.size a := fun v1_0 k0_t5 v56 v58 k0_hw6 k0_t8 k0_h2 => k0_hw6.2.2.2.2.2.1.2.2.2.2.2.1 k0_t8 k0_h2
theorem k0_off183_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off183 v1_0 k0_t5 k0_t8) a + S1x32x256.size a ≤ S10x32x2048.size a := fun v1_0 k0_t5 v56 v58 k0_hw6 k0_t8 k0_h2 => k0_hw6.2.2.2.2.2.1.2.2.2.2.2.2.1 k0_t8 k0_h2
theorem k0_off184_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off184 v58) a + S32x256.size a ≤ S256x2048.size a := fun v1_0 k0_t5 v56 v58 k0_hw6 k0_h2 => k0_hw6.2.2.2.2.2.1.2.2.2.2.2.2.2.1 k0_h2
theorem k0_off185_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off185 v1_0 k0_t5 k0_t8) a + S1x256x256.size a ≤ S10x1024x2048.size a := fun v1_0 k0_t5 v56 v58 k0_hw6 k0_t8 k0_h2 => k0_hw6.2.2.2.2.2.1.2.2.2.2.2.2.2.2.1 k0_t8 k0_h2
theorem k0_off186_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off186 v1_0 k0_t5 k0_t8) a + S1x256x256.size a ≤ S10x1024x2048.size a := fun v1_0 k0_t5 v56 v58 k0_hw6 k0_t8 k0_h2 => k0_hw6.2.2.2.2.2.1.2.2.2.2.2.2.2.2.2.1 k0_t8 k0_h2
theorem k0_off187_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off187 v1_0 k0_t5 k0_t8) a + S1x256x256.size a ≤ S10x1024x2048.size a := fun v1_0 k0_t5 v56 v58 k0_hw6 k0_t8 k0_h2 => k0_hw6.2.2.2.2.2.1.2.2.2.2.2.2.2.2.2.2.1 k0_t8 k0_h2
theorem k0_off188_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off188 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.1 k0_t8 k0_h2
theorem k0_off189_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off189 v1_0 k0_t5 k0_t8) a + S1x32x256.size a ≤ S10x32x2048.size a := fun v1_0 k0_t5 v56 v58 k0_hw6 k0_t8 k0_h2 => k0_hw6.2.2.2.2.2.1.2.2.2.2.2.2.2.2.2.2.2.2.1 k0_t8 k0_h2
theorem k0_off190_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off190 v58) a + S32x256.size a ≤ S256x2048.size a := fun v1_0 k0_t5 v56 v58 k0_hw6 k0_h2 => k0_hw6.2.2.2.2.2.1.2.2.2.2.2.2.2.2.2.2.2.2.2.1 k0_h2
theorem k0_off191_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off191 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.1 k0_t8 k0_h2
theorem k0_off192_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off192 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.1 k0_t8 k0_h2
theorem k0_off193_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off193 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.1 k0_t8 k0_h2
theorem k0_off194_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off194 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.1 k0_t8 k0_h2
theorem k0_off195_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off195 v1_0 k0_t5 k0_t8) a + S1x32x256.size a ≤ S10x32x2048.size a := fun v1_0 k0_t5 v56 v58 k0_hw6 k0_t8 k0_h2 => k0_hw6.2.2.2.2.2.1.2.2.2.2.2.2.2.2.2.2.2.2.2.2.2.2.2.2.1 k0_t8 k0_h2
theorem k0_off196_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off196 v58) a + S32x256.size a ≤ S256x2048.size a := fun v1_0 k0_t5 v56 v58 k0_hw6 k0_h2 => k0_hw6.2.2.2.2.2.1.2.2.2.2.2.2.2.2.2.2.2.2.2.2.2.2.2.2.2.1 k0_h2
theorem k0_off197_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off197 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.1 k0_t8 k0_h2
theorem k0_off198_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off198 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.1 k0_t8 k0_h2
theorem k0_off199_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off199 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.1 k0_t8 k0_h2
theorem k0_off200_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off200 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.2.1 k0_t8 k0_h2
theorem k0_off201_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off201 v1_0 k0_t5 k0_t8) a + S1x32x256.size a ≤ S10x32x2048.size a := fun v1_0 k0_t5 v56 v58 k0_hw6 k0_t8 k0_h2 => k0_hw6.2.2.2.2.2.1.2.2.2.2.2.2.2.2.2.2.2.2.2.2.2.2.2.2.2.2.2.2.2.2.1 k0_t8 k0_h2
theorem k0_off202_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off202 v58) a + S32x256.size a ≤ S256x2048.size a := fun v1_0 k0_t5 v56 v58 k0_hw6 k0_h2 => k0_hw6.2.2.2.2.2.1.2.2.2.2.2.2.2.2.2.2.2.2.2.2.2.2.2.2.2.2.2.2.2.2.2.1 k0_h2
theorem k0_off203_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off203 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.2.2.2.2.1 k0_t8 k0_h2
theorem k0_off204_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off204 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.2.2.2.2.2.1 k0_t8 k0_h2
theorem k0_off205_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off205 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.2.2.2.2.2.2.1 k0_t8 k0_h2
theorem k0_off206_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off206 v1_0 k0_t5 k0_t8) a + S1x256x256.size a ≤ S10x1024x2048.size a := fun v1_0 k0_t5 v56 v58 k0_hw6 k0_t8 k0_h2 => k0_hw6.2.2.2.2.2.1.2.2.2.2.2.2.2.2.2.2.2.2.2.2.2.2.2.2.2.2.2.2.2.2.2.2.2.2.2.1 k0_t8 k0_h2
theorem k0_off207_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off207 v1_0 k0_t5 k0_t8) a + S1x32x256.size a ≤ S10x32x2048.size a := fun v1_0 k0_t5 v56 v58 k0_hw6 k0_t8 k0_h2 => k0_hw6.2.2.2.2.2.1.2.2.2.2.2.2.2.2.2.2.2.2.2.2.2.2.2.2.2.2.2.2.2.2.2.2.2.2.2.2.1 k0_t8 k0_h2
theorem k0_off208_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off208 v58) a + S32x256.size a ≤ S256x2048.size a := fun v1_0 k0_t5 v56 v58 k0_hw6 k0_h2 => k0_hw6.2.2.2.2.2.1.2.2.2.2.2.2.2.2.2.2.2.2.2.2.2.2.2.2.2.2.2.2.2.2.2.2.2.2.2.2.2 k0_h2
theorem k0_off209_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off209 v1_0 k0_t5 k0_t8) a + S1x256x256.size a ≤ S10x1024x2048.size a := fun v1_0 k0_t5 v56 v58 k0_hw6 k0_t8 k0_h2 => k0_hw6.2.2.2.2.2.2.1.1 k0_t8 k0_h2
theorem k0_off210_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off210 v1_0 k0_t5 k0_t8) a + S1x256x256.size a ≤ S10x1024x2048.size a := fun v1_0 k0_t5 v56 v58 k0_hw6 k0_t8 k0_h2 => k0_hw6.2.2.2.2.2.2.1.2.1 k0_t8 k0_h2
theorem k0_off211_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off211 v1_0 k0_t5 k0_t8) a + S1x256x256.size a ≤ S10x1024x2048.size a := fun v1_0 k0_t5 v56 v58 k0_hw6 k0_t8 k0_h2 => k0_hw6.2.2.2.2.2.2.1.2.2.1 k0_t8 k0_h2
theorem k0_off212_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off212 v1_0 k0_t5 k0_t8) a + S1x256x256.size a ≤ S10x1024x2048.size a := fun v1_0 k0_t5 v56 v58 k0_hw6 k0_t8 k0_h2 => k0_hw6.2.2.2.2.2.2.1.2.2.2.1 k0_t8 k0_h2
theorem k0_off213_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off213 v1_0 k0_t5 k0_t8) a + S1x32x256.size a ≤ S10x32x2048.size a := fun v1_0 k0_t5 v56 v58 k0_hw6 k0_t8 k0_h2 => k0_hw6.2.2.2.2.2.2.1.2.2.2.2.1 k0_t8 k0_h2
theorem k0_off214_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off214 v58) a + S32x256.size a ≤ S256x2048.size a := fun v1_0 k0_t5 v56 v58 k0_hw6 k0_h2 => k0_hw6.2.2.2.2.2.2.1.2.2.2.2.2.1 k0_h2
theorem k0_off215_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off215 v1_0 k0_t5 k0_t8) a + S1x256x256.size a ≤ S10x1024x2048.size a := fun v1_0 k0_t5 v56 v58 k0_hw6 k0_t8 k0_h2 => k0_hw6.2.2.2.2.2.2.1.2.2.2.2.2.2.1 k0_t8 k0_h2
theorem k0_off216_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off216 v1_0 k0_t5 k0_t8) a + S1x256x256.size a ≤ S10x1024x2048.size a := fun v1_0 k0_t5 v56 v58 k0_hw6 k0_t8 k0_h2 => k0_hw6.2.2.2.2.2.2.1.2.2.2.2.2.2.2.1 k0_t8 k0_h2
theorem k0_off217_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off217 v1_0 k0_t5 k0_t8) a + S1x256x256.size a ≤ S10x1024x2048.size a := fun v1_0 k0_t5 v56 v58 k0_hw6 k0_t8 k0_h2 => k0_hw6.2.2.2.2.2.2.1.2.2.2.2.2.2.2.2.1 k0_t8 k0_h2
theorem k0_off218_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off218 v1_0 k0_t5 k0_t8) a + S1x256x256.size a ≤ S10x1024x2048.size a := fun v1_0 k0_t5 v56 v58 k0_hw6 k0_t8 k0_h2 => k0_hw6.2.2.2.2.2.2.1.2.2.2.2.2.2.2.2.2.1 k0_t8 k0_h2
theorem k0_off219_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off219 v1_0 k0_t5 k0_t8) a + S1x32x256.size a ≤ S10x32x2048.size a := fun v1_0 k0_t5 v56 v58 k0_hw6 k0_t8 k0_h2 => k0_hw6.2.2.2.2.2.2.1.2.2.2.2.2.2.2.2.2.2.1 k0_t8 k0_h2
theorem k0_off220_inb : ∀ (v1_0 : BitVec 32) (k0_t5 : Fin (k0_t5_loop v1_0).trips) (v56 : BitVec 32) (v58 : BitVec 32) (k0_hw6 : k0_chk6 v1_0 k0_t5 v56 v58), ∀ (k0_h2 : k0_cond2 v58 = 1#1), ∀ a, (k0_off220 v58) a + S32x256.size a ≤ S256x2048.size a := fun v1_0 k0_t5 v56 v58 k0_hw6 k0_h2 => k0_hw6.2.2.2.2.2.2.1.2.2.2.2.2.2.2.2.2.2.2.1 k0_h2
theorem k0_off221_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off221 v1_0 k0_t5 k0_t8) a + S1x256x256.size a ≤ S10x1024x2048.size a := fun v1_0 k0_t5 v56 v58 k0_hw6 k0_t8 k0_h2 => k0_hw6.2.2.2.2.2.2.1.2.2.2.2.2.2.2.2.2.2.2.2.1 k0_t8 k0_h2
theorem k0_off222_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off222 v1_0 k0_t5 k0_t8) a + S1x256x256.size a ≤ S10x1024x2048.size a := fun v1_0 k0_t5 v56 v58 k0_hw6 k0_t8 k0_h2 => k0_hw6.2.2.2.2.2.2.1.2.2.2.2.2.2.2.2.2.2.2.2.2.1 k0_t8 k0_h2
theorem k0_off223_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off223 v1_0 k0_t5 k0_t8) a + S1x256x256.size a ≤ S10x1024x2048.size a := fun v1_0 k0_t5 v56 v58 k0_hw6 k0_t8 k0_h2 => k0_hw6.2.2.2.2.2.2.1.2.2.2.2.2.2.2.2.2.2.2.2.2.2.1 k0_t8 k0_h2
theorem k0_off224_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h2 : k0_cond2 v58 = 1#1), ∀ a, (k0_off224 v1_0 k0_t5 k0_t8) a + S1x256x256.size a ≤ S10x1024x2048.size a := fun v1_0 k0_t5 v56 v58 k0_hw6 k0_t8 k0_h2 => k0_hw6.2.2.2.2.2.2.1.2.2.2.2.2.2.2.2.2.2.2.2.2.2.2.1 k0_t8 k0_h2
theorem k0_off225_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ (r₁ : Fin 8) (r₂ : Fin 4), ∀ a, (k0_off225 v56 v58 k0_t8 (BitVec.ofNat 32 r₁.val) (BitVec.ofNat 32 (256 * r₂.val))) a + S1x256.size a ≤ S32x7168.size a := fun v1_0 k0_t5 v56 v58 k0_hw6 k0_t8 k0_h3 r₁ r₂ => k0_hw6.2.2.2.2.2.2.1.2.2.2.2.2.2.2.2.2.2.2.2.2.2.2.2.1 k0_t8 k0_h3 r₁ r₂
theorem k0_mult198_dvd : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), 8 ∣ (k0_mult198 v58).toNat := fun v1_0 k0_t5 v56 v58 k0_hw6 k0_h3 => k0_hw6.2.2.2.2.2.2.1.2.2.2.2.2.2.2.2.2.2.2.2.2.2.2.2.2.1 k0_h3
theorem k0_off226_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off226 v1_0 k0_t5 k0_t8) a + S1x32x256.size a ≤ S10x32x2048.size a := fun v1_0 k0_t5 v56 v58 k0_hw6 k0_t8 k0_h3 => k0_hw6.2.2.2.2.2.2.1.2.2.2.2.2.2.2.2.2.2.2.2.2.2.2.2.2.2.1 k0_t8 k0_h3
theorem k0_off227_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off227 v58) a + S64x256.size a ≤ S256x2048.size a := fun v1_0 k0_t5 v56 v58 k0_hw6 k0_h3 => k0_hw6.2.2.2.2.2.2.1.2.2.2.2.2.2.2.2.2.2.2.2.2.2.2.2.2.2.2.1 k0_h3
theorem k0_off228_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off228 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.1 k0_t8 k0_h3
theorem k0_off229_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off229 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.1 k0_t8 k0_h3
theorem k0_off230_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off230 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.1 k0_t8 k0_h3
theorem k0_off231_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off231 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.2.1 k0_t8 k0_h3
theorem k0_off232_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off232 v1_0 k0_t5 k0_t8) a + S1x32x256.size a ≤ S10x32x2048.size a := fun v1_0 k0_t5 v56 v58 k0_hw6 k0_t8 k0_h3 => k0_hw6.2.2.2.2.2.2.1.2.2.2.2.2.2.2.2.2.2.2.2.2.2.2.2.2.2.2.2.2.2.2.2.1 k0_t8 k0_h3
theorem k0_off233_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off233 v58) a + S64x256.size a ≤ S256x2048.size a := fun v1_0 k0_t5 v56 v58 k0_hw6 k0_h3 => k0_hw6.2.2.2.2.2.2.1.2.2.2.2.2.2.2.2.2.2.2.2.2.2.2.2.2.2.2.2.2.2.2.2.2.1 k0_h3
theorem k0_off234_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off234 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.2.2.2.2.1 k0_t8 k0_h3
theorem k0_off235_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off235 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.2.2.2.2.2.1 k0_t8 k0_h3
theorem k0_off236_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off236 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.2.2.2.2.2.2.1 k0_t8 k0_h3
theorem k0_off237_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off237 v1_0 k0_t5 k0_t8) a + S1x256x256.size a ≤ S10x1024x2048.size a := fun v1_0 k0_t5 v56 v58 k0_hw6 k0_t8 k0_h3 => k0_hw6.2.2.2.2.2.2.1.2.2.2.2.2.2.2.2.2.2.2.2.2.2.2.2.2.2.2.2.2.2.2.2.2.2.2.2.2.1 k0_t8 k0_h3
theorem k0_off238_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off238 v1_0 k0_t5 k0_t8) a + S1x32x256.size a ≤ S10x32x2048.size a := fun v1_0 k0_t5 v56 v58 k0_hw6 k0_t8 k0_h3 => k0_hw6.2.2.2.2.2.2.1.2.2.2.2.2.2.2.2.2.2.2.2.2.2.2.2.2.2.2.2.2.2.2.2.2.2.2.2.2.2.1 k0_t8 k0_h3
theorem k0_off239_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off239 v58) a + S64x256.size a ≤ S256x2048.size a := fun v1_0 k0_t5 v56 v58 k0_hw6 k0_h3 => k0_hw6.2.2.2.2.2.2.1.2.2.2.2.2.2.2.2.2.2.2.2.2.2.2.2.2.2.2.2.2.2.2.2.2.2.2.2.2.2.2 k0_h3
theorem k0_off240_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off240 v1_0 k0_t5 k0_t8) a + S1x256x256.size a ≤ S10x1024x2048.size a := fun v1_0 k0_t5 v56 v58 k0_hw6 k0_t8 k0_h3 => k0_hw6.2.2.2.2.2.2.2.1.1 k0_t8 k0_h3
theorem k0_off241_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off241 v1_0 k0_t5 k0_t8) a + S1x256x256.size a ≤ S10x1024x2048.size a := fun v1_0 k0_t5 v56 v58 k0_hw6 k0_t8 k0_h3 => k0_hw6.2.2.2.2.2.2.2.1.2.1 k0_t8 k0_h3
theorem k0_off242_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off242 v1_0 k0_t5 k0_t8) a + S1x256x256.size a ≤ S10x1024x2048.size a := fun v1_0 k0_t5 v56 v58 k0_hw6 k0_t8 k0_h3 => k0_hw6.2.2.2.2.2.2.2.1.2.2.1 k0_t8 k0_h3
theorem k0_off243_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off243 v1_0 k0_t5 k0_t8) a + S1x256x256.size a ≤ S10x1024x2048.size a := fun v1_0 k0_t5 v56 v58 k0_hw6 k0_t8 k0_h3 => k0_hw6.2.2.2.2.2.2.2.1.2.2.2.1 k0_t8 k0_h3
theorem k0_off244_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off244 v1_0 k0_t5 k0_t8) a + S1x32x256.size a ≤ S10x32x2048.size a := fun v1_0 k0_t5 v56 v58 k0_hw6 k0_t8 k0_h3 => k0_hw6.2.2.2.2.2.2.2.1.2.2.2.2.1 k0_t8 k0_h3
theorem k0_off245_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off245 v58) a + S64x256.size a ≤ S256x2048.size a := fun v1_0 k0_t5 v56 v58 k0_hw6 k0_h3 => k0_hw6.2.2.2.2.2.2.2.1.2.2.2.2.2.1 k0_h3
theorem k0_off246_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off246 v1_0 k0_t5 k0_t8) a + S1x256x256.size a ≤ S10x1024x2048.size a := fun v1_0 k0_t5 v56 v58 k0_hw6 k0_t8 k0_h3 => k0_hw6.2.2.2.2.2.2.2.1.2.2.2.2.2.2.1 k0_t8 k0_h3
theorem k0_off247_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off247 v1_0 k0_t5 k0_t8) a + S1x256x256.size a ≤ S10x1024x2048.size a := fun v1_0 k0_t5 v56 v58 k0_hw6 k0_t8 k0_h3 => k0_hw6.2.2.2.2.2.2.2.1.2.2.2.2.2.2.2.1 k0_t8 k0_h3
theorem k0_off248_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off248 v1_0 k0_t5 k0_t8) a + S1x256x256.size a ≤ S10x1024x2048.size a := fun v1_0 k0_t5 v56 v58 k0_hw6 k0_t8 k0_h3 => k0_hw6.2.2.2.2.2.2.2.1.2.2.2.2.2.2.2.2.1 k0_t8 k0_h3
theorem k0_off249_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off249 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.1 k0_t8 k0_h3
theorem k0_off250_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off250 v1_0 k0_t5 k0_t8) a + S1x32x256.size a ≤ S10x32x2048.size a := fun v1_0 k0_t5 v56 v58 k0_hw6 k0_t8 k0_h3 => k0_hw6.2.2.2.2.2.2.2.1.2.2.2.2.2.2.2.2.2.2.1 k0_t8 k0_h3
theorem k0_off251_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off251 v58) a + S64x256.size a ≤ S256x2048.size a := fun v1_0 k0_t5 v56 v58 k0_hw6 k0_h3 => k0_hw6.2.2.2.2.2.2.2.1.2.2.2.2.2.2.2.2.2.2.2.1 k0_h3
theorem k0_off252_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off252 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.1 k0_t8 k0_h3
theorem k0_off253_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off253 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.1 k0_t8 k0_h3
theorem k0_off254_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off254 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.1 k0_t8 k0_h3
theorem k0_off255_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off255 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.1 k0_t8 k0_h3
theorem k0_off256_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off256 v1_0 k0_t5 k0_t8) a + S1x32x256.size a ≤ S10x32x2048.size a := fun v1_0 k0_t5 v56 v58 k0_hw6 k0_t8 k0_h3 => k0_hw6.2.2.2.2.2.2.2.1.2.2.2.2.2.2.2.2.2.2.2.2.2.2.2.2.1 k0_t8 k0_h3
theorem k0_off257_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off257 v58) a + S64x256.size a ≤ S256x2048.size a := fun v1_0 k0_t5 v56 v58 k0_hw6 k0_h3 => k0_hw6.2.2.2.2.2.2.2.1.2.2.2.2.2.2.2.2.2.2.2.2.2.2.2.2.2.1 k0_h3
theorem k0_off258_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off258 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.1 k0_t8 k0_h3
theorem k0_off259_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off259 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.1 k0_t8 k0_h3
theorem k0_off260_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off260 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.1 k0_t8 k0_h3
theorem k0_off261_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off261 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.1 k0_t8 k0_h3
theorem k0_off262_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off262 v1_0 k0_t5 k0_t8) a + S1x32x256.size a ≤ S10x32x2048.size a := fun v1_0 k0_t5 v56 v58 k0_hw6 k0_t8 k0_h3 => k0_hw6.2.2.2.2.2.2.2.1.2.2.2.2.2.2.2.2.2.2.2.2.2.2.2.2.2.2.2.2.2.2.1 k0_t8 k0_h3
theorem k0_off263_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off263 v58) a + S64x256.size a ≤ S256x2048.size a := fun v1_0 k0_t5 v56 v58 k0_hw6 k0_h3 => k0_hw6.2.2.2.2.2.2.2.1.2.2.2.2.2.2.2.2.2.2.2.2.2.2.2.2.2.2.2.2.2.2.2.1 k0_h3
theorem k0_off264_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off264 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.1 k0_t8 k0_h3
theorem k0_off265_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off265 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.2.1 k0_t8 k0_h3
theorem k0_off266_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off266 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.2.2.1 k0_t8 k0_h3
theorem k0_off267_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off267 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.2.2.2.1 k0_t8 k0_h3
theorem k0_off268_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off268 v1_0 k0_t5 k0_t8) a + S1x32x256.size a ≤ S10x32x2048.size a := fun v1_0 k0_t5 v56 v58 k0_hw6 k0_t8 k0_h3 => k0_hw6.2.2.2.2.2.2.2.1.2.2.2.2.2.2.2.2.2.2.2.2.2.2.2.2.2.2.2.2.2.2.2.2.2.2.2.2.1 k0_t8 k0_h3
theorem k0_off269_inb : ∀ (v1_0 : BitVec 32) (k0_t5 : Fin (k0_t5_loop v1_0).trips) (v56 : BitVec 32) (v58 : BitVec 32) (k0_hw6 : k0_chk6 v1_0 k0_t5 v56 v58), ∀ (k0_h3 : k0_cond3 v58 = 1#1), ∀ a, (k0_off269 v58) a + S64x256.size a ≤ S256x2048.size a := fun v1_0 k0_t5 v56 v58 k0_hw6 k0_h3 => k0_hw6.2.2.2.2.2.2.2.1.2.2.2.2.2.2.2.2.2.2.2.2.2.2.2.2.2.2.2.2.2.2.2.2.2.2.2.2.2.1 k0_h3
theorem k0_off270_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off270 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.2.2.2.2.2.2.1 k0_t8 k0_h3
theorem k0_off271_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off271 v1_0 k0_t5 k0_t8) a + S1x256x256.size a ≤ S10x1024x2048.size a := fun v1_0 k0_t5 v56 v58 k0_hw6 k0_t8 k0_h3 => k0_hw6.2.2.2.2.2.2.2.1.2.2.2.2.2.2.2.2.2.2.2.2.2.2.2.2.2.2.2.2.2.2.2.2.2.2.2.2.2.2.2 k0_t8 k0_h3
theorem k0_off272_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off272 v1_0 k0_t5 k0_t8) a + S1x256x256.size a ≤ S10x1024x2048.size a := fun v1_0 k0_t5 v56 v58 k0_hw6 k0_t8 k0_h3 => k0_hw6.2.2.2.2.2.2.2.2.1.1 k0_t8 k0_h3
theorem k0_off273_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h3 : k0_cond3 v58 = 1#1), ∀ a, (k0_off273 v1_0 k0_t5 k0_t8) a + S1x256x256.size a ≤ S10x1024x2048.size a := fun v1_0 k0_t5 v56 v58 k0_hw6 k0_t8 k0_h3 => k0_hw6.2.2.2.2.2.2.2.2.1.2.1 k0_t8 k0_h3
theorem k0_off274_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ (r₁ : Fin 16) (r₂ : Fin 4), ∀ a, (k0_off274 v56 v58 k0_t8 (BitVec.ofNat 32 r₁.val) (BitVec.ofNat 32 (256 * r₂.val))) a + S1x256.size a ≤ S32x7168.size a := fun v1_0 k0_t5 v56 v58 k0_hw6 k0_t8 k0_h4 r₁ r₂ => k0_hw6.2.2.2.2.2.2.2.2.1.2.2.1 k0_t8 k0_h4 r₁ r₂
theorem k0_mult263_dvd : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), 8 ∣ (k0_mult263 v58).toNat := fun v1_0 k0_t5 v56 v58 k0_hw6 k0_h4 => k0_hw6.2.2.2.2.2.2.2.2.1.2.2.2.1 k0_h4
theorem k0_off275_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off275 v1_0 k0_t5 k0_t8) a + S1x32x256.size a ≤ S10x32x2048.size a := fun v1_0 k0_t5 v56 v58 k0_hw6 k0_t8 k0_h4 => k0_hw6.2.2.2.2.2.2.2.2.1.2.2.2.2.1 k0_t8 k0_h4
theorem k0_off276_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off276 v58) a + S128x256.size a ≤ S256x2048.size a := fun v1_0 k0_t5 v56 v58 k0_hw6 k0_h4 => k0_hw6.2.2.2.2.2.2.2.2.1.2.2.2.2.2.1 k0_h4
theorem k0_off277_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off277 v1_0 k0_t5 k0_t8) a + S1x256x256.size a ≤ S10x1024x2048.size a := fun v1_0 k0_t5 v56 v58 k0_hw6 k0_t8 k0_h4 => k0_hw6.2.2.2.2.2.2.2.2.1.2.2.2.2.2.2.1 k0_t8 k0_h4
theorem k0_off278_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off278 v1_0 k0_t5 k0_t8) a + S1x256x256.size a ≤ S10x1024x2048.size a := fun v1_0 k0_t5 v56 v58 k0_hw6 k0_t8 k0_h4 => k0_hw6.2.2.2.2.2.2.2.2.1.2.2.2.2.2.2.2.1 k0_t8 k0_h4
theorem k0_off279_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off279 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.1 k0_t8 k0_h4
theorem k0_off280_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off280 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.1 k0_t8 k0_h4
theorem k0_off281_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off281 v1_0 k0_t5 k0_t8) a + S1x32x256.size a ≤ S10x32x2048.size a := fun v1_0 k0_t5 v56 v58 k0_hw6 k0_t8 k0_h4 => k0_hw6.2.2.2.2.2.2.2.2.1.2.2.2.2.2.2.2.2.2.2.1 k0_t8 k0_h4
theorem k0_off282_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off282 v58) a + S128x256.size a ≤ S256x2048.size a := fun v1_0 k0_t5 v56 v58 k0_hw6 k0_h4 => k0_hw6.2.2.2.2.2.2.2.2.1.2.2.2.2.2.2.2.2.2.2.2.1 k0_h4
theorem k0_off283_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off283 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.1 k0_t8 k0_h4
theorem k0_off284_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off284 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.1 k0_t8 k0_h4
theorem k0_off285_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off285 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.1 k0_t8 k0_h4
theorem k0_off286_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off286 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.1 k0_t8 k0_h4
theorem k0_off287_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off287 v1_0 k0_t5 k0_t8) a + S1x32x256.size a ≤ S10x32x2048.size a := fun v1_0 k0_t5 v56 v58 k0_hw6 k0_t8 k0_h4 => k0_hw6.2.2.2.2.2.2.2.2.1.2.2.2.2.2.2.2.2.2.2.2.2.2.2.2.2.1 k0_t8 k0_h4
theorem k0_off288_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off288 v58) a + S128x256.size a ≤ S256x2048.size a := fun v1_0 k0_t5 v56 v58 k0_hw6 k0_h4 => k0_hw6.2.2.2.2.2.2.2.2.1.2.2.2.2.2.2.2.2.2.2.2.2.2.2.2.2.2.1 k0_h4
theorem k0_off289_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off289 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.1 k0_t8 k0_h4
theorem k0_off290_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off290 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.1 k0_t8 k0_h4
theorem k0_off291_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off291 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.1 k0_t8 k0_h4
theorem k0_off292_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off292 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.1 k0_t8 k0_h4
theorem k0_off293_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off293 v1_0 k0_t5 k0_t8) a + S1x32x256.size a ≤ S10x32x2048.size a := fun v1_0 k0_t5 v56 v58 k0_hw6 k0_t8 k0_h4 => k0_hw6.2.2.2.2.2.2.2.2.1.2.2.2.2.2.2.2.2.2.2.2.2.2.2.2.2.2.2.2.2.2.2.1 k0_t8 k0_h4
theorem k0_off294_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off294 v58) a + S128x256.size a ≤ S256x2048.size a := fun v1_0 k0_t5 v56 v58 k0_hw6 k0_h4 => k0_hw6.2.2.2.2.2.2.2.2.1.2.2.2.2.2.2.2.2.2.2.2.2.2.2.2.2.2.2.2.2.2.2.2.1 k0_h4
theorem k0_off295_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off295 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.1 k0_t8 k0_h4
theorem k0_off296_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off296 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.2.1 k0_t8 k0_h4
theorem k0_off297_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off297 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.2.2.1 k0_t8 k0_h4
theorem k0_off298_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off298 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.2.2.2.1 k0_t8 k0_h4
theorem k0_off299_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off299 v1_0 k0_t5 k0_t8) a + S1x32x256.size a ≤ S10x32x2048.size a := fun v1_0 k0_t5 v56 v58 k0_hw6 k0_t8 k0_h4 => k0_hw6.2.2.2.2.2.2.2.2.1.2.2.2.2.2.2.2.2.2.2.2.2.2.2.2.2.2.2.2.2.2.2.2.2.2.2.2.2.1 k0_t8 k0_h4
theorem k0_off300_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off300 v58) a + S128x256.size a ≤ S256x2048.size a := fun v1_0 k0_t5 v56 v58 k0_hw6 k0_h4 => k0_hw6.2.2.2.2.2.2.2.2.1.2.2.2.2.2.2.2.2.2.2.2.2.2.2.2.2.2.2.2.2.2.2.2.2.2.2.2.2.2.1 k0_h4
theorem k0_off301_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off301 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.2.2.2.2.2.2.1 k0_t8 k0_h4
theorem k0_off302_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off302 v1_0 k0_t5 k0_t8) a + S1x256x256.size a ≤ S10x1024x2048.size a := fun v1_0 k0_t5 v56 v58 k0_hw6 k0_t8 k0_h4 => k0_hw6.2.2.2.2.2.2.2.2.1.2.2.2.2.2.2.2.2.2.2.2.2.2.2.2.2.2.2.2.2.2.2.2.2.2.2.2.2.2.2.2 k0_t8 k0_h4
theorem k0_off303_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off303 v1_0 k0_t5 k0_t8) a + S1x256x256.size a ≤ S10x1024x2048.size a := fun v1_0 k0_t5 v56 v58 k0_hw6 k0_t8 k0_h4 => k0_hw6.2.2.2.2.2.2.2.2.2.1 k0_t8 k0_h4
theorem k0_off304_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off304 v1_0 k0_t5 k0_t8) a + S1x256x256.size a ≤ S10x1024x2048.size a := fun v1_0 k0_t5 v56 v58 k0_hw6 k0_t8 k0_h4 => k0_hw6.2.2.2.2.2.2.2.2.2.2.1 k0_t8 k0_h4
theorem k0_off305_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off305 v1_0 k0_t5 k0_t8) a + S1x32x256.size a ≤ S10x32x2048.size a := fun v1_0 k0_t5 v56 v58 k0_hw6 k0_t8 k0_h4 => k0_hw6.2.2.2.2.2.2.2.2.2.2.2.1 k0_t8 k0_h4
theorem k0_off306_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off306 v58) a + S128x256.size a ≤ S256x2048.size a := fun v1_0 k0_t5 v56 v58 k0_hw6 k0_h4 => k0_hw6.2.2.2.2.2.2.2.2.2.2.2.2.1 k0_h4
theorem k0_off307_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off307 v1_0 k0_t5 k0_t8) a + S1x256x256.size a ≤ S10x1024x2048.size a := fun v1_0 k0_t5 v56 v58 k0_hw6 k0_t8 k0_h4 => k0_hw6.2.2.2.2.2.2.2.2.2.2.2.2.2.1 k0_t8 k0_h4
theorem k0_off308_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off308 v1_0 k0_t5 k0_t8) a + S1x256x256.size a ≤ S10x1024x2048.size a := fun v1_0 k0_t5 v56 v58 k0_hw6 k0_t8 k0_h4 => k0_hw6.2.2.2.2.2.2.2.2.2.2.2.2.2.2.1 k0_t8 k0_h4
theorem k0_off309_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off309 v1_0 k0_t5 k0_t8) a + S1x256x256.size a ≤ S10x1024x2048.size a := fun v1_0 k0_t5 v56 v58 k0_hw6 k0_t8 k0_h4 => k0_hw6.2.2.2.2.2.2.2.2.2.2.2.2.2.2.2.1 k0_t8 k0_h4
theorem k0_off310_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off310 v1_0 k0_t5 k0_t8) a + S1x256x256.size a ≤ S10x1024x2048.size a := fun v1_0 k0_t5 v56 v58 k0_hw6 k0_t8 k0_h4 => k0_hw6.2.2.2.2.2.2.2.2.2.2.2.2.2.2.2.2.1 k0_t8 k0_h4
theorem k0_off311_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off311 v1_0 k0_t5 k0_t8) a + S1x32x256.size a ≤ S10x32x2048.size a := fun v1_0 k0_t5 v56 v58 k0_hw6 k0_t8 k0_h4 => k0_hw6.2.2.2.2.2.2.2.2.2.2.2.2.2.2.2.2.2.1 k0_t8 k0_h4
theorem k0_off312_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off312 v58) a + S128x256.size a ≤ S256x2048.size a := fun v1_0 k0_t5 v56 v58 k0_hw6 k0_h4 => k0_hw6.2.2.2.2.2.2.2.2.2.2.2.2.2.2.2.2.2.2.1 k0_h4
theorem k0_off313_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off313 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.1 k0_t8 k0_h4
theorem k0_off314_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off314 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.1 k0_t8 k0_h4
theorem k0_off315_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off315 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.1 k0_t8 k0_h4
theorem k0_off316_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off316 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.2.1 k0_t8 k0_h4
theorem k0_off317_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off317 v1_0 k0_t5 k0_t8) a + S1x32x256.size a ≤ S10x32x2048.size a := fun v1_0 k0_t5 v56 v58 k0_hw6 k0_t8 k0_h4 => k0_hw6.2.2.2.2.2.2.2.2.2.2.2.2.2.2.2.2.2.2.2.2.2.2.2.1 k0_t8 k0_h4
theorem k0_off318_inb : ∀ (v1_0 : BitVec 32) (k0_t5 : Fin (k0_t5_loop v1_0).trips) (v56 : BitVec 32) (v58 : BitVec 32) (k0_hw6 : k0_chk6 v1_0 k0_t5 v56 v58), ∀ (k0_h4 : k0_cond4 v58 = 1#1), ∀ a, (k0_off318 v58) a + S128x256.size a ≤ S256x2048.size a := fun v1_0 k0_t5 v56 v58 k0_hw6 k0_h4 => k0_hw6.2.2.2.2.2.2.2.2.2.2.2.2.2.2.2.2.2.2.2.2.2.2.2.2.1 k0_h4
theorem k0_off319_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off319 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.2.2.2.2.1 k0_t8 k0_h4
theorem k0_off320_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off320 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.2.2.2.2.2.1 k0_t8 k0_h4
theorem k0_off321_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off321 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.2.2.2.2.2.2.1 k0_t8 k0_h4
theorem k0_off322_inb : ∀ (v1_0 : BitVec 32) (k0_t5 : Fin (k0_t5_loop v1_0).trips) (v56 : BitVec 32) (v58 : BitVec 32) (k0_hw6 : k0_chk6 v1_0 k0_t5 v56 v58) (k0_t8 : Fin k0_t8_loop.trips), ∀ (k0_h4 : k0_cond4 v58 = 1#1), ∀ a, (k0_off322 v1_0 k0_t5 k0_t8) a + S1x256x256.size a ≤ S10x1024x2048.size a := fun v1_0 k0_t5 v56 v58 k0_hw6 k0_t8 k0_h4 => k0_hw6.2.2.2.2.2.2.2.2.2.2.2.2.2.2.2.2.2.2.2.2.2.2.2.2.2.2.2.2.1 k0_t8 k0_h4
theorem k0_t11_ok : ∀ (v1_0 : BitVec 32) (k0_t5 : Fin (k0_t5_loop v1_0).trips) (v56 : BitVec 32) (v58 : BitVec 32) (k0_hw6 : k0_chk6 v1_0 k0_t5 v56 v58), (k0_t11_loop v58).OK := fun v1_0 k0_t5 v56 v58 k0_hw6 => k0_hw6.2.2.2.2.2.2.2.2.2.2.2.2.2.2.2.2.2.2.2.2.2.2.2.2.2.2.2.2.2.1
theorem k0_mult266_dvd : ∀ (v1_0 : BitVec 32) (k0_t5 : Fin (k0_t5_loop v1_0).trips) (v56 : BitVec 32) (v58 : BitVec 32) (k0_hw6 : k0_chk6 v1_0 k0_t5 v56 v58) (k0_t11 : Fin (k0_t11_loop v58).trips), 8 ∣ (k0_mult266 v58 k0_t11).toNat := fun v1_0 k0_t5 v56 v58 k0_hw6 k0_t11 => k0_hw6.2.2.2.2.2.2.2.2.2.2.2.2.2.2.2.2.2.2.2.2.2.2.2.2.2.2.2.2.2.2.1 k0_t11
theorem k0_off330_inb : ∀ (v1_0 : BitVec 32) (k0_t5 : Fin (k0_t5_loop v1_0).trips) (v56 : BitVec 32) (v58 : BitVec 32) (k0_hw6 : k0_chk6 v1_0 k0_t5 v56 v58) (k0_t11 : Fin (k0_t11_loop v58).trips), ∀ a, (k0_off330 v58 k0_t11) a + S8x2048.size a ≤ S256x2048.size a := fun v1_0 k0_t5 v56 v58 k0_hw6 k0_t11 => k0_hw6.2.2.2.2.2.2.2.2.2.2.2.2.2.2.2.2.2.2.2.2.2.2.2.2.2.2.2.2.2.2.2.1 k0_t11
theorem k0_off331_inb : ∀ (v1_0 : BitVec 32) (k0_t5 : Fin (k0_t5_loop v1_0).trips) (v56 : BitVec 32) (v58 : BitVec 32) (k0_hw6 : k0_chk6 v1_0 k0_t5 v56 v58) (k0_t11 : Fin (k0_t11_loop v58).trips), ∀ a, (k0_off331 v56 v58 k0_t11) a + S1x2048.size a ≤ S32x2048.size a := fun v1_0 k0_t5 v56 v58 k0_hw6 k0_t11 => k0_hw6.2.2.2.2.2.2.2.2.2.2.2.2.2.2.2.2.2.2.2.2.2.2.2.2.2.2.2.2.2.2.2.2.1 k0_t11
theorem k0_t12_ok : ∀ (v1_0 : BitVec 32) (k0_t5 : Fin (k0_t5_loop v1_0).trips) (v56 : BitVec 32) (v58 : BitVec 32) (k0_hw6 : k0_chk6 v1_0 k0_t5 v56 v58), (k0_t12_loop v58).OK := fun v1_0 k0_t5 v56 v58 k0_hw6 => k0_hw6.2.2.2.2.2.2.2.2.2.2.2.2.2.2.2.2.2.2.2.2.2.2.2.2.2.2.2.2.2.2.2.2.2.1
theorem k0_mult267_dvd : ∀ (v1_0 : BitVec 32) (k0_t5 : Fin (k0_t5_loop v1_0).trips) (v56 : BitVec 32) (v58 : BitVec 32) (k0_hw6 : k0_chk6 v1_0 k0_t5 v56 v58) (k0_t12 : Fin (k0_t12_loop v58).trips), 8 ∣ (k0_mult267 v58 k0_t12).toNat := fun v1_0 k0_t5 v56 v58 k0_hw6 k0_t12 => k0_hw6.2.2.2.2.2.2.2.2.2.2.2.2.2.2.2.2.2.2.2.2.2.2.2.2.2.2.2.2.2.2.2.2.2.2.1 k0_t12
theorem k0_off332_inb : ∀ (v1_0 : BitVec 32) (k0_t5 : Fin (k0_t5_loop v1_0).trips) (v56 : BitVec 32) (v58 : BitVec 32) (k0_hw6 : k0_chk6 v1_0 k0_t5 v56 v58) (k0_t12 : Fin (k0_t12_loop v58).trips), ∀ a, (k0_off332 v58 k0_t12) a + S8x2048.size a ≤ S256x2048.size a := fun v1_0 k0_t5 v56 v58 k0_hw6 k0_t12 => k0_hw6.2.2.2.2.2.2.2.2.2.2.2.2.2.2.2.2.2.2.2.2.2.2.2.2.2.2.2.2.2.2.2.2.2.2.2.1 k0_t12
theorem k0_off333_inb : ∀ (v1_0 : BitVec 32) (k0_t5 : Fin (k0_t5_loop v1_0).trips) (v56 : BitVec 32) (v58 : BitVec 32) (k0_hw6 : k0_chk6 v1_0 k0_t5 v56 v58) (k0_t12 : Fin (k0_t12_loop v58).trips), ∀ a, (k0_off333 v56 v58 k0_t12) a + S1x2048.size a ≤ S32x2048.size a := fun v1_0 k0_t5 v56 v58 k0_hw6 k0_t12 => k0_hw6.2.2.2.2.2.2.2.2.2.2.2.2.2.2.2.2.2.2.2.2.2.2.2.2.2.2.2.2.2.2.2.2.2.2.2.2 k0_t12

@[reducible] def k0_t13_loop (v1_0 : BitVec 32) : Scf.Loop 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let v44 : BitVec 32 := Scalar.addi c0_i32_18 v43
  let c1_i32_22 : BitVec 32 := 1#32
  ⟨v47, v44, c1_i32_22⟩
def k0_off334 (v1_0 : BitVec 32) (k0_t13 : Fin (k0_t13_loop v1_0).trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let v53 : Index := Scalar.indexCast arg16
  ![v53.toNat]
def k0_off335 (v54 : BitVec 32) : Fin 1 → Nat :=
  let v57 : Index := Scalar.indexCast v54
  ![v57.toNat]

def k0_chk9 (v54 : BitVec 32) : Prop :=
  (∀ a, (k0_off335 v54) a + S1.size a ≤ S12.size a)
theorem k0_off335_inb : ∀ (v54 : BitVec 32) (k0_hw9 : k0_chk9 v54), ∀ a, (k0_off335 v54) a + S1.size a ≤ S12.size a := fun v54 k0_hw9 => k0_hw9

@[reducible] def k0_t14_loop (v58 : BitVec 32) : Scf.Loop 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_33 : BitVec 32 := 1#32
  ⟨c0_i32_30, v67, c1_i32_33⟩

def k0_mult268 (v58 : BitVec 32) (k0_t14 : Fin (k0_t14_loop v58).trips) : BitVec 32 :=
  let c0_i32_30 : BitVec 32 := 0#32
  let c1_i32_33 : BitVec 32 := 1#32
  let arg18 : BitVec 32 := Scf.iv c0_i32_30 c1_i32_33 k0_t14
  let c8_i32 : BitVec 32 := 8#32
  let v83 : BitVec 32 := Scalar.muli arg18 c8_i32
  v83
def k0_off336 (v58 : BitVec 32) (k0_t14 : Fin (k0_t14_loop v58).trips) : Fin 2 → Nat :=
  let c0_i32_30 : BitVec 32 := 0#32
  let c1_i32_33 : BitVec 32 := 1#32
  let arg18 : BitVec 32 := Scf.iv c0_i32_30 c1_i32_33 k0_t14
  let c8_i32 : BitVec 32 := 8#32
  let v83 : BitVec 32 := Scalar.muli arg18 c8_i32
  let v84 : BitVec 32 := v83
  let v85 : Index := Scalar.indexCast v84
  let c0_49 : Index := 0#32
  ![v85.toNat, 0]
@[reducible] def k0_t15_loop (v58 : BitVec 32) : Scf.Loop 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let v64 : BitVec 32 := Scalar.addi c0_i32_30 v63
  let c1_i32_34 : BitVec 32 := 1#32
  ⟨v67, v64, c1_i32_34⟩
def k0_mult269 (v58 : BitVec 32) (k0_t15 : Fin (k0_t15_loop v58).trips) : BitVec 32 :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_34 : BitVec 32 := 1#32
  let arg18 : BitVec 32 := Scf.iv v67 c1_i32_34 k0_t15
  let c8_i32 : BitVec 32 := 8#32
  let v83 : BitVec 32 := Scalar.muli arg18 c8_i32
  v83
def k0_off337 (v58 : BitVec 32) (k0_t15 : Fin (k0_t15_loop v58).trips) : Fin 2 → Nat :=
  let c0_i32_30 : BitVec 32 := 0#32
  let c16_i32 : BitVec 32 := 16#32
  let v59 : BitVec 32 := Scalar.addi v58 c16_i32
  let c1_i32_27 : BitVec 32 := 1#32
  let v60 : BitVec 32 := Scalar.subi v59 c1_i32_27
  let c16_i32_28 : BitVec 32 := 16#32
  let v61 : BitVec 32 := Scalar.divsi v60 c16_i32_28
  let c16_i32_29 : BitVec 32 := 16#32
  let v62 : BitVec 32 := Scalar.muli v61 c16_i32_29
  let v63 : BitVec 32 := Scalar.subi v62 c0_i32_30
  let c1_i32_32 : BitVec 32 := 1#32
  let v65 : BitVec 32 := Scalar.divsi v63 c1_i32_32
  let v66 : BitVec 32 := Scalar.muli v65 c1_i32_32
  let v67 : BitVec 32 := Scalar.addi c0_i32_30 v66
  let c1_i32_34 : BitVec 32 := 1#32
  let arg18 : BitVec 32 := Scf.iv v67 c1_i32_34 k0_t15
  let c8_i32 : BitVec 32 := 8#32
  let v83 : BitVec 32 := Scalar.muli arg18 c8_i32
  let v84 : BitVec 32 := v83
  let v85 : Index := Scalar.indexCast v84
  let c0_49 : Index := 0#32
  ![v85.toNat, 0]
@[reducible] def k0_t16_loop : Scf.Loop 32 :=
  let c0_i32_38 : BitVec 32 := 0#32
  let c7_i32_39 : BitVec 32 := 7#32
  let v73 : BitVec 32 := Scalar.addi c0_i32_38 c7_i32_39
  let c1_i32_40 : BitVec 32 := 1#32
  ⟨c0_i32_38, v73, c1_i32_40⟩
def k0_off338 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c7_i32_51 : BitVec 32 := 7#32
  let v86 : BitVec 32 := Scalar.divsi v83 c7_i32_51
  let v87 : Index := Scalar.indexCast v86
  ![v87.toNat]
def k0_mult270 (v1_0 : BitVec 32) (k0_t13 : Fin (k0_t13_loop v1_0).trips) (k0_t16 : Fin k0_t16_loop.trips) : BitVec 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c7_i32_52 : BitVec 32 := 7#32
  let v89 : BitVec 32 := Scalar.remsi v83 c7_i32_52
  let c1024_i32 : BitVec 32 := 1024#32
  let v90 : BitVec 32 := Scalar.muli v89 c1024_i32
  v90
def k0_mult271 (v1_0 : BitVec 32) (k0_t13 : Fin (k0_t13_loop v1_0).trips) (k0_t16 : Fin k0_t16_loop.trips) : BitVec 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c7_i32_52 : BitVec 32 := 7#32
  let v89 : BitVec 32 := Scalar.remsi v83 c7_i32_52
  let c32_i32_53 : BitVec 32 := 32#32
  let v92 : BitVec 32 := Scalar.muli v89 c32_i32_53
  v92
def k0_off339 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_50 : BitVec 32 := 10#32
  let v85 : BitVec 32 := Scalar.remsi v83 c10_i32_50
  ![v85.toNat]
def k0_off340 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_50 : BitVec 32 := 10#32
  let v85 : BitVec 32 := Scalar.remsi v83 c10_i32_50
  let c0_i32_54 : BitVec 32 := 0#32
  let c0_i32_55 : BitVec 32 := 0#32
  ![v85.toNat, 0, 0]
def k0_off341 (v1_0 : BitVec 32) (k0_t13 : Fin (k0_t13_loop v1_0).trips) (k0_t16 : Fin k0_t16_loop.trips) (v88 : BitVec 32) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c7_i32_52 : BitVec 32 := 7#32
  let v89 : BitVec 32 := Scalar.remsi v83 c7_i32_52
  let c1024_i32 : BitVec 32 := 1024#32
  let v90 : BitVec 32 := Scalar.muli v89 c1024_i32
  let v91 : BitVec 32 := v90
  let c0_i32_56 : BitVec 32 := 0#32
  ![v88.toNat, v91.toNat, 0]

def k0_off342 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_50 : BitVec 32 := 10#32
  let v85 : BitVec 32 := Scalar.remsi v83 c10_i32_50
  ![v85.toNat]
def k0_off343 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_50 : BitVec 32 := 10#32
  let v85 : BitVec 32 := Scalar.remsi v83 c10_i32_50
  let c0_i32_57 : BitVec 32 := 0#32
  let c0_i32_58 : BitVec 32 := 0#32
  ![v85.toNat, 0, 0]
def k0_off344 (v1_0 : BitVec 32) (k0_t13 : Fin (k0_t13_loop v1_0).trips) (k0_t16 : Fin k0_t16_loop.trips) (v88 : BitVec 32) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c7_i32_52 : BitVec 32 := 7#32
  let v89 : BitVec 32 := Scalar.remsi v83 c7_i32_52
  let c32_i32_53 : BitVec 32 := 32#32
  let v92 : BitVec 32 := Scalar.muli v89 c32_i32_53
  let v93 : BitVec 32 := v92
  let c0_i32_59 : BitVec 32 := 0#32
  ![v88.toNat, v93.toNat, 0]

def k0_chk11 (v1_0 : BitVec 32) (k0_t13 : Fin (k0_t13_loop v1_0).trips) (k0_t16 : Fin k0_t16_loop.trips) (v88 : BitVec 32) : Prop :=
  (∀ a, (k0_off341 v1_0 k0_t13 k0_t16 v88) a + S1x1024x2048.size a ≤ S12x7168x2048.size a) ∧
  (∀ (hinb : ∀ a, (k0_off341 v1_0 k0_t13 k0_t16 v88) a + S1x1024x2048.size a ≤ S12x7168x2048.size a), (Rect.unit (s := S12x7168x2048) (k0_off341 v1_0 k0_t13 k0_t16 v88) S1x1024x2048.size hinb).WholeWords (EltTy.packing .fp8e4m3)) ∧
  (∀ a, (k0_off344 v1_0 k0_t13 k0_t16 v88) a + S1x32x2048.size a ≤ S12x224x2048.size a) ∧
  (∀ (hinb : ∀ a, (k0_off344 v1_0 k0_t13 k0_t16 v88) a + S1x32x2048.size a ≤ S12x224x2048.size a), (Rect.unit (s := S12x224x2048) (k0_off344 v1_0 k0_t13 k0_t16 v88) S1x32x2048.size hinb).WholeWords (EltTy.packing .i8))
theorem k0_off341_inb : ∀ (v1_0 : BitVec 32) (k0_t13 : Fin (k0_t13_loop v1_0).trips) (k0_t16 : Fin k0_t16_loop.trips) (v88 : BitVec 32) (k0_hw11 : k0_chk11 v1_0 k0_t13 k0_t16 v88), ∀ a, (k0_off341 v1_0 k0_t13 k0_t16 v88) a + S1x1024x2048.size a ≤ S12x7168x2048.size a := fun v1_0 k0_t13 k0_t16 v88 k0_hw11 => k0_hw11.1
theorem k0_off341_wordsfp8e4m3 : ∀ (v1_0 : BitVec 32) (k0_t13 : Fin (k0_t13_loop v1_0).trips) (k0_t16 : Fin k0_t16_loop.trips) (v88 : BitVec 32) (k0_hw11 : k0_chk11 v1_0 k0_t13 k0_t16 v88), (Rect.unit (s := S12x7168x2048) (k0_off341 v1_0 k0_t13 k0_t16 v88) S1x1024x2048.size (k0_off341_inb v1_0 k0_t13 k0_t16 v88 k0_hw11)).WholeWords (EltTy.packing .fp8e4m3) := fun v1_0 k0_t13 k0_t16 v88 k0_hw11 => k0_hw11.2.1 (k0_off341_inb v1_0 k0_t13 k0_t16 v88 k0_hw11)
theorem k0_off344_inb : ∀ (v1_0 : BitVec 32) (k0_t13 : Fin (k0_t13_loop v1_0).trips) (k0_t16 : Fin k0_t16_loop.trips) (v88 : BitVec 32) (k0_hw11 : k0_chk11 v1_0 k0_t13 k0_t16 v88), ∀ a, (k0_off344 v1_0 k0_t13 k0_t16 v88) a + S1x32x2048.size a ≤ S12x224x2048.size a := fun v1_0 k0_t13 k0_t16 v88 k0_hw11 => k0_hw11.2.2.1
theorem k0_off344_wordsi8 : ∀ (v1_0 : BitVec 32) (k0_t13 : Fin (k0_t13_loop v1_0).trips) (k0_t16 : Fin k0_t16_loop.trips) (v88 : BitVec 32) (k0_hw11 : k0_chk11 v1_0 k0_t13 k0_t16 v88), (Rect.unit (s := S12x224x2048) (k0_off344 v1_0 k0_t13 k0_t16 v88) S1x32x2048.size (k0_off344_inb v1_0 k0_t13 k0_t16 v88 k0_hw11)).WholeWords (EltTy.packing .i8) := fun v1_0 k0_t13 k0_t16 v88 k0_hw11 => k0_hw11.2.2.2 (k0_off344_inb v1_0 k0_t13 k0_t16 v88 k0_hw11)

@[reducible] def k0_t17_loop (v58 : BitVec 32) : Scf.Loop 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_63 : BitVec 32 := 1#32
  ⟨c0_i32_60, v110, c1_i32_63⟩
def k0_mult272 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off345 (v56 : BitVec 32) (v58 : BitVec 32) (k0_t16 : Fin k0_t16_loop.trips) (k0_t17 : Fin (k0_t17_loop v58).trips) (c0_i32_79 : BitVec 32) (c0_i32_81 : BitVec 32) : Fin 2 → Nat :=
  let c0_i32_60 : BitVec 32 := 0#32
  let c1_i32_63 : BitVec 32 := 1#32
  let arg20 : BitVec 32 := Scf.iv c0_i32_60 c1_i32_63 k0_t17
  let c16_i32_78 : BitVec 32 := 16#32
  let v138 : BitVec 32 := Scalar.muli arg20 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_mult273 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult274 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult275 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult276 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult277 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult278 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult279 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult280 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult281 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult282 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult283 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult284 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult285 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult286 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult287 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult288 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_152 : BitVec 32 := 1024#32
  let v336 : BitVec 32 := Scalar.muli arg18 c1024_i32_152
  let c256_i32 : BitVec 32 := 256#32
  let v337 : BitVec 32 := Scalar.addi v336 c256_i32
  v337
def k0_mult289 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult290 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult291 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult292 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult293 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult294 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult295 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult296 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult297 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult298 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult299 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult300 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult301 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult302 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult303 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult304 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_231 : BitVec 32 := 1024#32
  let v530 : BitVec 32 := Scalar.muli arg18 c1024_i32_231
  let c512_i32 : BitVec 32 := 512#32
  let v531 : BitVec 32 := Scalar.addi v530 c512_i32
  v531
def k0_mult305 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult306 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult307 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult308 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult309 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult310 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult311 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult312 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult313 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult314 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult315 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult316 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult317 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult318 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult319 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult320 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_310 : BitVec 32 := 1024#32
  let v724 : BitVec 32 := Scalar.muli arg18 c1024_i32_310
  let c768_i32 : BitVec 32 := 768#32
  let v725 : BitVec 32 := Scalar.addi v724 c768_i32
  v725
def k0_mult321 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult322 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult323 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult324 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult325 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult326 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult327 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult328 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult329 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult330 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult331 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult332 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult333 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult334 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult335 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult336 (v58 : BitVec 32) (k0_t17 : Fin (k0_t17_loop v58).trips) : BitVec 32 :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  v916
def k0_off346 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off347 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off348 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off349 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off350 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off351 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off352 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off353 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off354 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off355 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off356 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off357 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off358 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off359 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off360 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off361 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off362 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off363 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off364 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off365 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off366 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off367 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off368 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off369 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off370 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off371 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off372 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off373 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off374 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off375 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off376 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off377 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off378 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off379 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off380 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off381 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off382 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off383 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off384 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off385 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off386 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off387 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off388 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off389 (v58 : BitVec 32) (k0_t17 : Fin (k0_t17_loop v58).trips) : Fin 2 → Nat :=
  let c0_i32_60 : BitVec 32 := 0#32
  let c1_i32_63 : BitVec 32 := 1#32
  let arg20 : BitVec 32 := Scf.iv c0_i32_60 c1_i32_63 k0_t17
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off390 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off391 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off392 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off393 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
@[reducible] def k0_t18_loop (v58 : BitVec 32) : Scf.Loop 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let v107 : BitVec 32 := Scalar.addi c0_i32_60 v106
  let c1_i32_64 : BitVec 32 := 1#32
  ⟨v110, v107, c1_i32_64⟩
def k0_mult337 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off394 (v56 : BitVec 32) (v58 : BitVec 32) (k0_t16 : Fin k0_t16_loop.trips) (k0_t18 : Fin (k0_t18_loop v58).trips) (c0_i32_79 : BitVec 32) (c0_i32_81 : BitVec 32) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_78 : BitVec 32 := 16#32
  let v138 : BitVec 32 := Scalar.muli arg20 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_mult338 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult339 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult340 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult341 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult342 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult343 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult344 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult345 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult346 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult347 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult348 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult349 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult350 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult351 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult352 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult353 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_152 : BitVec 32 := 1024#32
  let v336 : BitVec 32 := Scalar.muli arg18 c1024_i32_152
  let c256_i32 : BitVec 32 := 256#32
  let v337 : BitVec 32 := Scalar.addi v336 c256_i32
  v337
def k0_mult354 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult355 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult356 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult357 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult358 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult359 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult360 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult361 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult362 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult363 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult364 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult365 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult366 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult367 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult368 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult369 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_231 : BitVec 32 := 1024#32
  let v530 : BitVec 32 := Scalar.muli arg18 c1024_i32_231
  let c512_i32 : BitVec 32 := 512#32
  let v531 : BitVec 32 := Scalar.addi v530 c512_i32
  v531
def k0_mult370 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult371 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult372 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult373 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult374 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult375 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult376 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult377 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult378 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult379 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult380 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult381 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult382 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult383 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult384 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult385 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_310 : BitVec 32 := 1024#32
  let v724 : BitVec 32 := Scalar.muli arg18 c1024_i32_310
  let c768_i32 : BitVec 32 := 768#32
  let v725 : BitVec 32 := Scalar.addi v724 c768_i32
  v725
def k0_mult386 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult387 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult388 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult389 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult390 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult391 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult392 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult393 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult394 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult395 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult396 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult397 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult398 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult399 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult400 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult401 (v58 : BitVec 32) (k0_t18 : Fin (k0_t18_loop v58).trips) : BitVec 32 :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  v916
def k0_off395 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off396 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off397 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off398 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off399 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off400 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off401 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off402 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off403 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off404 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off405 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off406 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off407 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off408 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off409 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off410 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off411 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off412 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off413 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off414 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off415 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off416 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off417 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off418 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off419 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off420 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off421 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off422 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off423 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off424 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off425 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off426 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off427 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off428 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off429 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off430 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off431 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off432 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off433 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off434 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off435 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off436 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off437 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off438 (v58 : BitVec 32) (k0_t18 : Fin (k0_t18_loop v58).trips) : Fin 2 → Nat :=
  let c0_i32_60 : BitVec 32 := 0#32
  let c16_i32_35 : BitVec 32 := 16#32
  let v70 : BitVec 32 := Scalar.divsi v58 c16_i32_35
  let v106 : BitVec 32 := Scalar.subi v70 c0_i32_60
  let c1_i32_62 : BitVec 32 := 1#32
  let v108 : BitVec 32 := Scalar.divsi v106 c1_i32_62
  let v109 : BitVec 32 := Scalar.muli v108 c1_i32_62
  let v110 : BitVec 32 := Scalar.addi c0_i32_60 v109
  let c1_i32_64 : BitVec 32 := 1#32
  let arg20 : BitVec 32 := Scf.iv v110 c1_i32_64 k0_t18
  let c16_i32_77 : BitVec 32 := 16#32
  let v137 : BitVec 32 := Scalar.muli arg20 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off439 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off440 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off441 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off442 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
def k0_mult402 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off443 (v56 : BitVec 32) (v58 : BitVec 32) (k0_t16 : Fin k0_t16_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond6 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c0_i32_65 : BitVec 32 := 0#32
  let v113 : BitVec 1 := Scalar.cmpi .sgt v72 c0_i32_65
  let c2_i32 : BitVec 32 := 2#32
  let v114 : BitVec 1 := Scalar.cmpi .sle v72 c2_i32
  let v115 : BitVec 1 := Scalar.andi v113 v114
  let v116 : BitVec 32 := Scalar.extui v115
  let c0_i32_66 : BitVec 32 := 0#32
  let v117 : BitVec 1 := Scalar.cmpi .ne v116 c0_i32_66
  v117

def k0_mult403 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult404 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v168 : BitVec 32 := Scalar.muli arg18 c1024_i32_90
  let c256_i32 : BitVec 32 := 256#32
  let v169 : BitVec 32 := Scalar.addi v168 c256_i32
  v169
def k0_mult405 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v180 : BitVec 32 := Scalar.muli arg18 c1024_i32_94
  let c256_i32_95 : BitVec 32 := 256#32
  let v181 : BitVec 32 := Scalar.addi v180 c256_i32_95
  v181
def k0_mult406 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v194 : BitVec 32 := Scalar.muli arg18 c1024_i32_99
  let c512_i32 : BitVec 32 := 512#32
  let v195 : BitVec 32 := Scalar.addi v194 c512_i32
  v195
def k0_mult407 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v206 : BitVec 32 := Scalar.muli arg18 c1024_i32_103
  let c512_i32_104 : BitVec 32 := 512#32
  let v207 : BitVec 32 := Scalar.addi v206 c512_i32_104
  v207
def k0_mult408 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_108 : BitVec 32 := 1024#32
  let v220 : BitVec 32 := Scalar.muli arg18 c1024_i32_108
  let c768_i32 : BitVec 32 := 768#32
  let v221 : BitVec 32 := Scalar.addi v220 c768_i32
  v221
def k0_mult409 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_112 : BitVec 32 := 1024#32
  let v232 : BitVec 32 := Scalar.muli arg18 c1024_i32_112
  let c768_i32_113 : BitVec 32 := 768#32
  let v233 : BitVec 32 := Scalar.addi v232 c768_i32_113
  v233
def k0_mult410 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  v244
def k0_off444 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v246 : Index := Scalar.indexCast v84
  let c0_116 : Index := 0#32
  let c0_117 : Index := 0#32
  ![v246.toNat, 0, 0]
def k0_off445 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v253 : Index := Scalar.indexCast v245
  let c0_118 : Index := 0#32
  ![v253.toNat, 0]
def k0_off446 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v256 : Index := Scalar.indexCast v84
  let c0_119 : Index := 0#32
  let c0_120 : Index := 0#32
  ![v256.toNat, 0, 0]
def k0_off447 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v266 : Index := Scalar.indexCast v84
  let c256 : Index := 256#32
  let c0_122 : Index := 0#32
  ![v266.toNat, 256, 0]
def k0_off448 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v276 : Index := Scalar.indexCast v84
  let c512 : Index := 512#32
  let c0_124 : Index := 0#32
  ![v276.toNat, 512, 0]
def k0_off449 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v286 : Index := Scalar.indexCast v84
  let c768 : Index := 768#32
  let c0_126 : Index := 0#32
  ![v286.toNat, 768, 0]
def k0_off450 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v301 : Index := Scalar.indexCast v84
  let c0_129 : Index := 0#32
  let c256_130 : Index := 256#32
  ![v301.toNat, 0, 256]
def k0_off451 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v308 : Index := Scalar.indexCast v245
  let c256_132 : Index := 256#32
  ![v308.toNat, 256]
def k0_off452 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v311 : Index := Scalar.indexCast v84
  let c0_133 : Index := 0#32
  let c256_134 : Index := 256#32
  ![v311.toNat, 0, 256]
def k0_off453 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v321 : Index := Scalar.indexCast v84
  let c256_136 : Index := 256#32
  let c256_137 : Index := 256#32
  ![v321.toNat, 256, 256]
def k0_off454 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v331 : Index := Scalar.indexCast v84
  let c512_139 : Index := 512#32
  let c256_140 : Index := 256#32
  ![v331.toNat, 512, 256]
def k0_off455 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v341 : Index := Scalar.indexCast v84
  let c768_142 : Index := 768#32
  let c256_143 : Index := 256#32
  ![v341.toNat, 768, 256]
def k0_off456 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v356 : Index := Scalar.indexCast v84
  let c0_146 : Index := 0#32
  let c512_147 : Index := 512#32
  ![v356.toNat, 0, 512]
def k0_off457 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v363 : Index := Scalar.indexCast v245
  let c512_149 : Index := 512#32
  ![v363.toNat, 512]
def k0_off458 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v366 : Index := Scalar.indexCast v84
  let c0_150 : Index := 0#32
  let c512_151 : Index := 512#32
  ![v366.toNat, 0, 512]
def k0_off459 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v376 : Index := Scalar.indexCast v84
  let c256_153 : Index := 256#32
  let c512_154 : Index := 512#32
  ![v376.toNat, 256, 512]
def k0_off460 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v386 : Index := Scalar.indexCast v84
  let c512_156 : Index := 512#32
  let c512_157 : Index := 512#32
  ![v386.toNat, 512, 512]
def k0_off461 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v396 : Index := Scalar.indexCast v84
  let c768_159 : Index := 768#32
  let c512_160 : Index := 512#32
  ![v396.toNat, 768, 512]
def k0_off462 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v411 : Index := Scalar.indexCast v84
  let c0_163 : Index := 0#32
  let c768_164 : Index := 768#32
  ![v411.toNat, 0, 768]
def k0_off463 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v418 : Index := Scalar.indexCast v245
  let c768_166 : Index := 768#32
  ![v418.toNat, 768]
def k0_off464 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v421 : Index := Scalar.indexCast v84
  let c0_167 : Index := 0#32
  let c768_168 : Index := 768#32
  ![v421.toNat, 0, 768]
def k0_off465 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v431 : Index := Scalar.indexCast v84
  let c256_170 : Index := 256#32
  let c768_171 : Index := 768#32
  ![v431.toNat, 256, 768]
def k0_off466 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v441 : Index := Scalar.indexCast v84
  let c512_173 : Index := 512#32
  let c768_174 : Index := 768#32
  ![v441.toNat, 512, 768]
def k0_off467 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v451 : Index := Scalar.indexCast v84
  let c768_176 : Index := 768#32
  let c768_177 : Index := 768#32
  ![v451.toNat, 768, 768]
def k0_off468 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v466 : Index := Scalar.indexCast v84
  let c0_180 : Index := 0#32
  let c1024 : Index := 1024#32
  ![v466.toNat, 0, 1024]
def k0_off469 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v473 : Index := Scalar.indexCast v245
  let c1024_182 : Index := 1024#32
  ![v473.toNat, 1024]
def k0_off470 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v476 : Index := Scalar.indexCast v84
  let c0_183 : Index := 0#32
  let c1024_184 : Index := 1024#32
  ![v476.toNat, 0, 1024]
def k0_off471 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v486 : Index := Scalar.indexCast v84
  let c256_186 : Index := 256#32
  let c1024_187 : Index := 1024#32
  ![v486.toNat, 256, 1024]
def k0_off472 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v496 : Index := Scalar.indexCast v84
  let c512_189 : Index := 512#32
  let c1024_190 : Index := 1024#32
  ![v496.toNat, 512, 1024]
def k0_off473 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v506 : Index := Scalar.indexCast v84
  let c768_192 : Index := 768#32
  let c1024_193 : Index := 1024#32
  ![v506.toNat, 768, 1024]
def k0_off474 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v521 : Index := Scalar.indexCast v84
  let c0_196 : Index := 0#32
  let c1280 : Index := 1280#32
  ![v521.toNat, 0, 1280]
def k0_off475 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v528 : Index := Scalar.indexCast v245
  let c1280_198 : Index := 1280#32
  ![v528.toNat, 1280]
def k0_off476 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v531 : Index := Scalar.indexCast v84
  let c0_199 : Index := 0#32
  let c1280_200 : Index := 1280#32
  ![v531.toNat, 0, 1280]
def k0_off477 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v541 : Index := Scalar.indexCast v84
  let c256_202 : Index := 256#32
  let c1280_203 : Index := 1280#32
  ![v541.toNat, 256, 1280]
def k0_off478 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v551 : Index := Scalar.indexCast v84
  let c512_205 : Index := 512#32
  let c1280_206 : Index := 1280#32
  ![v551.toNat, 512, 1280]
def k0_off479 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v561 : Index := Scalar.indexCast v84
  let c768_208 : Index := 768#32
  let c1280_209 : Index := 1280#32
  ![v561.toNat, 768, 1280]
def k0_off480 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v576 : Index := Scalar.indexCast v84
  let c0_212 : Index := 0#32
  let c1536 : Index := 1536#32
  ![v576.toNat, 0, 1536]
def k0_off481 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v583 : Index := Scalar.indexCast v245
  let c1536_214 : Index := 1536#32
  ![v583.toNat, 1536]
def k0_off482 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v586 : Index := Scalar.indexCast v84
  let c0_215 : Index := 0#32
  let c1536_216 : Index := 1536#32
  ![v586.toNat, 0, 1536]
def k0_off483 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v596 : Index := Scalar.indexCast v84
  let c256_218 : Index := 256#32
  let c1536_219 : Index := 1536#32
  ![v596.toNat, 256, 1536]
def k0_off484 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v606 : Index := Scalar.indexCast v84
  let c512_221 : Index := 512#32
  let c1536_222 : Index := 1536#32
  ![v606.toNat, 512, 1536]
def k0_off485 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v616 : Index := Scalar.indexCast v84
  let c768_224 : Index := 768#32
  let c1536_225 : Index := 1536#32
  ![v616.toNat, 768, 1536]
def k0_off486 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v631 : Index := Scalar.indexCast v84
  let c0_228 : Index := 0#32
  let c1792 : Index := 1792#32
  ![v631.toNat, 0, 1792]
def k0_off487 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_115 : BitVec 32 := 8#32
  let v244 : BitVec 32 := Scalar.muli v137 c8_i32_115
  let v245 : BitVec 32 := v244
  let v638 : Index := Scalar.indexCast v245
  let c1792_230 : Index := 1792#32
  ![v638.toNat, 1792]
def k0_off488 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v641 : Index := Scalar.indexCast v84
  let c0_231 : Index := 0#32
  let c1792_232 : Index := 1792#32
  ![v641.toNat, 0, 1792]
def k0_off489 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v651 : Index := Scalar.indexCast v84
  let c256_234 : Index := 256#32
  let c1792_235 : Index := 1792#32
  ![v651.toNat, 256, 1792]
def k0_off490 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v661 : Index := Scalar.indexCast v84
  let c512_237 : Index := 512#32
  let c1792_238 : Index := 1792#32
  ![v661.toNat, 512, 1792]
def k0_off491 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v671 : Index := Scalar.indexCast v84
  let c768_240 : Index := 768#32
  let c1792_241 : Index := 1792#32
  ![v671.toNat, 768, 1792]
def k0_mult411 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off492 (v56 : BitVec 32) (v58 : BitVec 32) (k0_t16 : Fin k0_t16_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond7 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c2_i32_67 : BitVec 32 := 2#32
  let v118 : BitVec 1 := Scalar.cmpi .sgt v72 c2_i32_67
  let c4_i32 : BitVec 32 := 4#32
  let v119 : BitVec 1 := Scalar.cmpi .sle v72 c4_i32
  let v120 : BitVec 1 := Scalar.andi v118 v119
  let v121 : BitVec 32 := Scalar.extui v120
  let c0_i32_68 : BitVec 32 := 0#32
  let v122 : BitVec 1 := Scalar.cmpi .ne v121 c0_i32_68
  v122

def k0_mult412 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult413 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult414 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult415 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v192 : BitVec 32 := Scalar.muli arg18 c1024_i32_99
  let c256_i32 : BitVec 32 := 256#32
  let v193 : BitVec 32 := Scalar.addi v192 c256_i32
  v193
def k0_mult416 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v204 : BitVec 32 := Scalar.muli arg18 c1024_i32_103
  let c256_i32_104 : BitVec 32 := 256#32
  let v205 : BitVec 32 := Scalar.addi v204 c256_i32_104
  v205
def k0_mult417 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_108 : BitVec 32 := 1024#32
  let v216 : BitVec 32 := Scalar.muli arg18 c1024_i32_108
  let c256_i32_109 : BitVec 32 := 256#32
  let v217 : BitVec 32 := Scalar.addi v216 c256_i32_109
  v217
def k0_mult418 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_113 : BitVec 32 := 1024#32
  let v228 : BitVec 32 := Scalar.muli arg18 c1024_i32_113
  let c256_i32_114 : BitVec 32 := 256#32
  let v229 : BitVec 32 := Scalar.addi v228 c256_i32_114
  v229
def k0_mult419 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_118 : BitVec 32 := 1024#32
  let v242 : BitVec 32 := Scalar.muli arg18 c1024_i32_118
  let c512_i32 : BitVec 32 := 512#32
  let v243 : BitVec 32 := Scalar.addi v242 c512_i32
  v243
def k0_mult420 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_122 : BitVec 32 := 1024#32
  let v254 : BitVec 32 := Scalar.muli arg18 c1024_i32_122
  let c512_i32_123 : BitVec 32 := 512#32
  let v255 : BitVec 32 := Scalar.addi v254 c512_i32_123
  v255
def k0_mult421 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_127 : BitVec 32 := 1024#32
  let v266 : BitVec 32 := Scalar.muli arg18 c1024_i32_127
  let c512_i32_128 : BitVec 32 := 512#32
  let v267 : BitVec 32 := Scalar.addi v266 c512_i32_128
  v267
def k0_mult422 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_132 : BitVec 32 := 1024#32
  let v278 : BitVec 32 := Scalar.muli arg18 c1024_i32_132
  let c512_i32_133 : BitVec 32 := 512#32
  let v279 : BitVec 32 := Scalar.addi v278 c512_i32_133
  v279
def k0_mult423 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_137 : BitVec 32 := 1024#32
  let v292 : BitVec 32 := Scalar.muli arg18 c1024_i32_137
  let c768_i32 : BitVec 32 := 768#32
  let v293 : BitVec 32 := Scalar.addi v292 c768_i32
  v293
def k0_mult424 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_141 : BitVec 32 := 1024#32
  let v304 : BitVec 32 := Scalar.muli arg18 c1024_i32_141
  let c768_i32_142 : BitVec 32 := 768#32
  let v305 : BitVec 32 := Scalar.addi v304 c768_i32_142
  v305
def k0_mult425 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_146 : BitVec 32 := 1024#32
  let v316 : BitVec 32 := Scalar.muli arg18 c1024_i32_146
  let c768_i32_147 : BitVec 32 := 768#32
  let v317 : BitVec 32 := Scalar.addi v316 c768_i32_147
  v317
def k0_mult426 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_151 : BitVec 32 := 1024#32
  let v328 : BitVec 32 := Scalar.muli arg18 c1024_i32_151
  let c768_i32_152 : BitVec 32 := 768#32
  let v329 : BitVec 32 := Scalar.addi v328 c768_i32_152
  v329
def k0_mult427 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  v340
def k0_off493 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v342 : Index := Scalar.indexCast v84
  let c0_155 : Index := 0#32
  let c0_156 : Index := 0#32
  ![v342.toNat, 0, 0]
def k0_off494 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v349 : Index := Scalar.indexCast v341
  let c0_157 : Index := 0#32
  ![v349.toNat, 0]
def k0_off495 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v352 : Index := Scalar.indexCast v84
  let c0_158 : Index := 0#32
  let c0_159 : Index := 0#32
  ![v352.toNat, 0, 0]
def k0_off496 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v362 : Index := Scalar.indexCast v84
  let c256 : Index := 256#32
  let c0_161 : Index := 0#32
  ![v362.toNat, 256, 0]
def k0_off497 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v372 : Index := Scalar.indexCast v84
  let c512 : Index := 512#32
  let c0_163 : Index := 0#32
  ![v372.toNat, 512, 0]
def k0_off498 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v382 : Index := Scalar.indexCast v84
  let c768 : Index := 768#32
  let c0_165 : Index := 0#32
  ![v382.toNat, 768, 0]
def k0_off499 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v397 : Index := Scalar.indexCast v84
  let c0_168 : Index := 0#32
  let c256_169 : Index := 256#32
  ![v397.toNat, 0, 256]
def k0_off500 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v404 : Index := Scalar.indexCast v341
  let c256_171 : Index := 256#32
  ![v404.toNat, 256]
def k0_off501 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v407 : Index := Scalar.indexCast v84
  let c0_172 : Index := 0#32
  let c256_173 : Index := 256#32
  ![v407.toNat, 0, 256]
def k0_off502 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v417 : Index := Scalar.indexCast v84
  let c256_175 : Index := 256#32
  let c256_176 : Index := 256#32
  ![v417.toNat, 256, 256]
def k0_off503 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v427 : Index := Scalar.indexCast v84
  let c512_178 : Index := 512#32
  let c256_179 : Index := 256#32
  ![v427.toNat, 512, 256]
def k0_off504 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v437 : Index := Scalar.indexCast v84
  let c768_181 : Index := 768#32
  let c256_182 : Index := 256#32
  ![v437.toNat, 768, 256]
def k0_off505 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v452 : Index := Scalar.indexCast v84
  let c0_185 : Index := 0#32
  let c512_186 : Index := 512#32
  ![v452.toNat, 0, 512]
def k0_off506 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v459 : Index := Scalar.indexCast v341
  let c512_188 : Index := 512#32
  ![v459.toNat, 512]
def k0_off507 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v462 : Index := Scalar.indexCast v84
  let c0_189 : Index := 0#32
  let c512_190 : Index := 512#32
  ![v462.toNat, 0, 512]
def k0_off508 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v472 : Index := Scalar.indexCast v84
  let c256_192 : Index := 256#32
  let c512_193 : Index := 512#32
  ![v472.toNat, 256, 512]
def k0_off509 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v482 : Index := Scalar.indexCast v84
  let c512_195 : Index := 512#32
  let c512_196 : Index := 512#32
  ![v482.toNat, 512, 512]
def k0_off510 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v492 : Index := Scalar.indexCast v84
  let c768_198 : Index := 768#32
  let c512_199 : Index := 512#32
  ![v492.toNat, 768, 512]
def k0_off511 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v507 : Index := Scalar.indexCast v84
  let c0_202 : Index := 0#32
  let c768_203 : Index := 768#32
  ![v507.toNat, 0, 768]
def k0_off512 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v514 : Index := Scalar.indexCast v341
  let c768_205 : Index := 768#32
  ![v514.toNat, 768]
def k0_off513 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v517 : Index := Scalar.indexCast v84
  let c0_206 : Index := 0#32
  let c768_207 : Index := 768#32
  ![v517.toNat, 0, 768]
def k0_off514 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v527 : Index := Scalar.indexCast v84
  let c256_209 : Index := 256#32
  let c768_210 : Index := 768#32
  ![v527.toNat, 256, 768]
def k0_off515 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v537 : Index := Scalar.indexCast v84
  let c512_212 : Index := 512#32
  let c768_213 : Index := 768#32
  ![v537.toNat, 512, 768]
def k0_off516 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v547 : Index := Scalar.indexCast v84
  let c768_215 : Index := 768#32
  let c768_216 : Index := 768#32
  ![v547.toNat, 768, 768]
def k0_off517 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v562 : Index := Scalar.indexCast v84
  let c0_219 : Index := 0#32
  let c1024 : Index := 1024#32
  ![v562.toNat, 0, 1024]
def k0_off518 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v569 : Index := Scalar.indexCast v341
  let c1024_221 : Index := 1024#32
  ![v569.toNat, 1024]
def k0_off519 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v572 : Index := Scalar.indexCast v84
  let c0_222 : Index := 0#32
  let c1024_223 : Index := 1024#32
  ![v572.toNat, 0, 1024]
def k0_off520 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v582 : Index := Scalar.indexCast v84
  let c256_225 : Index := 256#32
  let c1024_226 : Index := 1024#32
  ![v582.toNat, 256, 1024]
def k0_off521 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v592 : Index := Scalar.indexCast v84
  let c512_228 : Index := 512#32
  let c1024_229 : Index := 1024#32
  ![v592.toNat, 512, 1024]
def k0_off522 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v602 : Index := Scalar.indexCast v84
  let c768_231 : Index := 768#32
  let c1024_232 : Index := 1024#32
  ![v602.toNat, 768, 1024]
def k0_off523 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v617 : Index := Scalar.indexCast v84
  let c0_235 : Index := 0#32
  let c1280 : Index := 1280#32
  ![v617.toNat, 0, 1280]
def k0_off524 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v624 : Index := Scalar.indexCast v341
  let c1280_237 : Index := 1280#32
  ![v624.toNat, 1280]
def k0_off525 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v627 : Index := Scalar.indexCast v84
  let c0_238 : Index := 0#32
  let c1280_239 : Index := 1280#32
  ![v627.toNat, 0, 1280]
def k0_off526 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v637 : Index := Scalar.indexCast v84
  let c256_241 : Index := 256#32
  let c1280_242 : Index := 1280#32
  ![v637.toNat, 256, 1280]
def k0_off527 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v647 : Index := Scalar.indexCast v84
  let c512_244 : Index := 512#32
  let c1280_245 : Index := 1280#32
  ![v647.toNat, 512, 1280]
def k0_off528 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v657 : Index := Scalar.indexCast v84
  let c768_247 : Index := 768#32
  let c1280_248 : Index := 1280#32
  ![v657.toNat, 768, 1280]
def k0_off529 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v672 : Index := Scalar.indexCast v84
  let c0_251 : Index := 0#32
  let c1536 : Index := 1536#32
  ![v672.toNat, 0, 1536]
def k0_off530 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v679 : Index := Scalar.indexCast v341
  let c1536_253 : Index := 1536#32
  ![v679.toNat, 1536]
def k0_off531 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v682 : Index := Scalar.indexCast v84
  let c0_254 : Index := 0#32
  let c1536_255 : Index := 1536#32
  ![v682.toNat, 0, 1536]
def k0_off532 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v692 : Index := Scalar.indexCast v84
  let c256_257 : Index := 256#32
  let c1536_258 : Index := 1536#32
  ![v692.toNat, 256, 1536]
def k0_off533 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v702 : Index := Scalar.indexCast v84
  let c512_260 : Index := 512#32
  let c1536_261 : Index := 1536#32
  ![v702.toNat, 512, 1536]
def k0_off534 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v712 : Index := Scalar.indexCast v84
  let c768_263 : Index := 768#32
  let c1536_264 : Index := 1536#32
  ![v712.toNat, 768, 1536]
def k0_off535 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v727 : Index := Scalar.indexCast v84
  let c0_267 : Index := 0#32
  let c1792 : Index := 1792#32
  ![v727.toNat, 0, 1792]
def k0_off536 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_154 : BitVec 32 := 8#32
  let v340 : BitVec 32 := Scalar.muli v137 c8_i32_154
  let v341 : BitVec 32 := v340
  let v734 : Index := Scalar.indexCast v341
  let c1792_269 : Index := 1792#32
  ![v734.toNat, 1792]
def k0_off537 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v737 : Index := Scalar.indexCast v84
  let c0_270 : Index := 0#32
  let c1792_271 : Index := 1792#32
  ![v737.toNat, 0, 1792]
def k0_off538 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v747 : Index := Scalar.indexCast v84
  let c256_273 : Index := 256#32
  let c1792_274 : Index := 1792#32
  ![v747.toNat, 256, 1792]
def k0_off539 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v757 : Index := Scalar.indexCast v84
  let c512_276 : Index := 512#32
  let c1792_277 : Index := 1792#32
  ![v757.toNat, 512, 1792]
def k0_off540 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v767 : Index := Scalar.indexCast v84
  let c768_279 : Index := 768#32
  let c1792_280 : Index := 1792#32
  ![v767.toNat, 768, 1792]
def k0_mult428 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off541 (v56 : BitVec 32) (v58 : BitVec 32) (k0_t16 : Fin k0_t16_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond8 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c4_i32_69 : BitVec 32 := 4#32
  let v123 : BitVec 1 := Scalar.cmpi .sgt v72 c4_i32_69
  let c8_i32 : BitVec 32 := 8#32
  let v124 : BitVec 1 := Scalar.cmpi .sle v72 c8_i32
  let v125 : BitVec 1 := Scalar.andi v123 v124
  let v126 : BitVec 32 := Scalar.extui v125
  let c0_i32_70 : BitVec 32 := 0#32
  let v127 : BitVec 1 := Scalar.cmpi .ne v126 c0_i32_70
  v127

def k0_mult429 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult430 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult431 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult432 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult433 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult434 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult435 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult436 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_117 : BitVec 32 := 1024#32
  let v240 : BitVec 32 := Scalar.muli arg18 c1024_i32_117
  let c256_i32 : BitVec 32 := 256#32
  let v241 : BitVec 32 := Scalar.addi v240 c256_i32
  v241
def k0_mult437 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_121 : BitVec 32 := 1024#32
  let v252 : BitVec 32 := Scalar.muli arg18 c1024_i32_121
  let c256_i32_122 : BitVec 32 := 256#32
  let v253 : BitVec 32 := Scalar.addi v252 c256_i32_122
  v253
def k0_mult438 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_126 : BitVec 32 := 1024#32
  let v264 : BitVec 32 := Scalar.muli arg18 c1024_i32_126
  let c256_i32_127 : BitVec 32 := 256#32
  let v265 : BitVec 32 := Scalar.addi v264 c256_i32_127
  v265
def k0_mult439 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_131 : BitVec 32 := 1024#32
  let v276 : BitVec 32 := Scalar.muli arg18 c1024_i32_131
  let c256_i32_132 : BitVec 32 := 256#32
  let v277 : BitVec 32 := Scalar.addi v276 c256_i32_132
  v277
def k0_mult440 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_136 : BitVec 32 := 1024#32
  let v288 : BitVec 32 := Scalar.muli arg18 c1024_i32_136
  let c256_i32_137 : BitVec 32 := 256#32
  let v289 : BitVec 32 := Scalar.addi v288 c256_i32_137
  v289
def k0_mult441 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_141 : BitVec 32 := 1024#32
  let v300 : BitVec 32 := Scalar.muli arg18 c1024_i32_141
  let c256_i32_142 : BitVec 32 := 256#32
  let v301 : BitVec 32 := Scalar.addi v300 c256_i32_142
  v301
def k0_mult442 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_146 : BitVec 32 := 1024#32
  let v312 : BitVec 32 := Scalar.muli arg18 c1024_i32_146
  let c256_i32_147 : BitVec 32 := 256#32
  let v313 : BitVec 32 := Scalar.addi v312 c256_i32_147
  v313
def k0_mult443 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_151 : BitVec 32 := 1024#32
  let v324 : BitVec 32 := Scalar.muli arg18 c1024_i32_151
  let c256_i32_152 : BitVec 32 := 256#32
  let v325 : BitVec 32 := Scalar.addi v324 c256_i32_152
  v325
def k0_mult444 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_156 : BitVec 32 := 1024#32
  let v338 : BitVec 32 := Scalar.muli arg18 c1024_i32_156
  let c512_i32 : BitVec 32 := 512#32
  let v339 : BitVec 32 := Scalar.addi v338 c512_i32
  v339
def k0_mult445 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_160 : BitVec 32 := 1024#32
  let v350 : BitVec 32 := Scalar.muli arg18 c1024_i32_160
  let c512_i32_161 : BitVec 32 := 512#32
  let v351 : BitVec 32 := Scalar.addi v350 c512_i32_161
  v351
def k0_mult446 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_165 : BitVec 32 := 1024#32
  let v362 : BitVec 32 := Scalar.muli arg18 c1024_i32_165
  let c512_i32_166 : BitVec 32 := 512#32
  let v363 : BitVec 32 := Scalar.addi v362 c512_i32_166
  v363
def k0_mult447 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_170 : BitVec 32 := 1024#32
  let v374 : BitVec 32 := Scalar.muli arg18 c1024_i32_170
  let c512_i32_171 : BitVec 32 := 512#32
  let v375 : BitVec 32 := Scalar.addi v374 c512_i32_171
  v375
def k0_mult448 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_175 : BitVec 32 := 1024#32
  let v386 : BitVec 32 := Scalar.muli arg18 c1024_i32_175
  let c512_i32_176 : BitVec 32 := 512#32
  let v387 : BitVec 32 := Scalar.addi v386 c512_i32_176
  v387
def k0_mult449 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_180 : BitVec 32 := 1024#32
  let v398 : BitVec 32 := Scalar.muli arg18 c1024_i32_180
  let c512_i32_181 : BitVec 32 := 512#32
  let v399 : BitVec 32 := Scalar.addi v398 c512_i32_181
  v399
def k0_mult450 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_185 : BitVec 32 := 1024#32
  let v410 : BitVec 32 := Scalar.muli arg18 c1024_i32_185
  let c512_i32_186 : BitVec 32 := 512#32
  let v411 : BitVec 32 := Scalar.addi v410 c512_i32_186
  v411
def k0_mult451 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_190 : BitVec 32 := 1024#32
  let v422 : BitVec 32 := Scalar.muli arg18 c1024_i32_190
  let c512_i32_191 : BitVec 32 := 512#32
  let v423 : BitVec 32 := Scalar.addi v422 c512_i32_191
  v423
def k0_mult452 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_195 : BitVec 32 := 1024#32
  let v436 : BitVec 32 := Scalar.muli arg18 c1024_i32_195
  let c768_i32 : BitVec 32 := 768#32
  let v437 : BitVec 32 := Scalar.addi v436 c768_i32
  v437
def k0_mult453 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_199 : BitVec 32 := 1024#32
  let v448 : BitVec 32 := Scalar.muli arg18 c1024_i32_199
  let c768_i32_200 : BitVec 32 := 768#32
  let v449 : BitVec 32 := Scalar.addi v448 c768_i32_200
  v449
def k0_mult454 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_204 : BitVec 32 := 1024#32
  let v460 : BitVec 32 := Scalar.muli arg18 c1024_i32_204
  let c768_i32_205 : BitVec 32 := 768#32
  let v461 : BitVec 32 := Scalar.addi v460 c768_i32_205
  v461
def k0_mult455 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_209 : BitVec 32 := 1024#32
  let v472 : BitVec 32 := Scalar.muli arg18 c1024_i32_209
  let c768_i32_210 : BitVec 32 := 768#32
  let v473 : BitVec 32 := Scalar.addi v472 c768_i32_210
  v473
def k0_mult456 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_214 : BitVec 32 := 1024#32
  let v484 : BitVec 32 := Scalar.muli arg18 c1024_i32_214
  let c768_i32_215 : BitVec 32 := 768#32
  let v485 : BitVec 32 := Scalar.addi v484 c768_i32_215
  v485
def k0_mult457 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_219 : BitVec 32 := 1024#32
  let v496 : BitVec 32 := Scalar.muli arg18 c1024_i32_219
  let c768_i32_220 : BitVec 32 := 768#32
  let v497 : BitVec 32 := Scalar.addi v496 c768_i32_220
  v497
def k0_mult458 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_224 : BitVec 32 := 1024#32
  let v508 : BitVec 32 := Scalar.muli arg18 c1024_i32_224
  let c768_i32_225 : BitVec 32 := 768#32
  let v509 : BitVec 32 := Scalar.addi v508 c768_i32_225
  v509
def k0_mult459 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_229 : BitVec 32 := 1024#32
  let v520 : BitVec 32 := Scalar.muli arg18 c1024_i32_229
  let c768_i32_230 : BitVec 32 := 768#32
  let v521 : BitVec 32 := Scalar.addi v520 c768_i32_230
  v521
def k0_mult460 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  v532
def k0_off542 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v534 : Index := Scalar.indexCast v84
  let c0_233 : Index := 0#32
  let c0_234 : Index := 0#32
  ![v534.toNat, 0, 0]
def k0_off543 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v541 : Index := Scalar.indexCast v533
  let c0_235 : Index := 0#32
  ![v541.toNat, 0]
def k0_off544 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v544 : Index := Scalar.indexCast v84
  let c0_236 : Index := 0#32
  let c0_237 : Index := 0#32
  ![v544.toNat, 0, 0]
def k0_off545 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v554 : Index := Scalar.indexCast v84
  let c256 : Index := 256#32
  let c0_239 : Index := 0#32
  ![v554.toNat, 256, 0]
def k0_off546 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v564 : Index := Scalar.indexCast v84
  let c512 : Index := 512#32
  let c0_241 : Index := 0#32
  ![v564.toNat, 512, 0]
def k0_off547 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v574 : Index := Scalar.indexCast v84
  let c768 : Index := 768#32
  let c0_243 : Index := 0#32
  ![v574.toNat, 768, 0]
def k0_off548 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v589 : Index := Scalar.indexCast v84
  let c0_246 : Index := 0#32
  let c256_247 : Index := 256#32
  ![v589.toNat, 0, 256]
def k0_off549 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v596 : Index := Scalar.indexCast v533
  let c256_249 : Index := 256#32
  ![v596.toNat, 256]
def k0_off550 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v599 : Index := Scalar.indexCast v84
  let c0_250 : Index := 0#32
  let c256_251 : Index := 256#32
  ![v599.toNat, 0, 256]
def k0_off551 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v609 : Index := Scalar.indexCast v84
  let c256_253 : Index := 256#32
  let c256_254 : Index := 256#32
  ![v609.toNat, 256, 256]
def k0_off552 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v619 : Index := Scalar.indexCast v84
  let c512_256 : Index := 512#32
  let c256_257 : Index := 256#32
  ![v619.toNat, 512, 256]
def k0_off553 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v629 : Index := Scalar.indexCast v84
  let c768_259 : Index := 768#32
  let c256_260 : Index := 256#32
  ![v629.toNat, 768, 256]
def k0_off554 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v644 : Index := Scalar.indexCast v84
  let c0_263 : Index := 0#32
  let c512_264 : Index := 512#32
  ![v644.toNat, 0, 512]
def k0_off555 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v651 : Index := Scalar.indexCast v533
  let c512_266 : Index := 512#32
  ![v651.toNat, 512]
def k0_off556 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v654 : Index := Scalar.indexCast v84
  let c0_267 : Index := 0#32
  let c512_268 : Index := 512#32
  ![v654.toNat, 0, 512]
def k0_off557 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v664 : Index := Scalar.indexCast v84
  let c256_270 : Index := 256#32
  let c512_271 : Index := 512#32
  ![v664.toNat, 256, 512]
def k0_off558 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v674 : Index := Scalar.indexCast v84
  let c512_273 : Index := 512#32
  let c512_274 : Index := 512#32
  ![v674.toNat, 512, 512]
def k0_off559 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v684 : Index := Scalar.indexCast v84
  let c768_276 : Index := 768#32
  let c512_277 : Index := 512#32
  ![v684.toNat, 768, 512]
def k0_off560 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v699 : Index := Scalar.indexCast v84
  let c0_280 : Index := 0#32
  let c768_281 : Index := 768#32
  ![v699.toNat, 0, 768]
def k0_off561 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v706 : Index := Scalar.indexCast v533
  let c768_283 : Index := 768#32
  ![v706.toNat, 768]
def k0_off562 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v709 : Index := Scalar.indexCast v84
  let c0_284 : Index := 0#32
  let c768_285 : Index := 768#32
  ![v709.toNat, 0, 768]
def k0_off563 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v719 : Index := Scalar.indexCast v84
  let c256_287 : Index := 256#32
  let c768_288 : Index := 768#32
  ![v719.toNat, 256, 768]
def k0_off564 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v729 : Index := Scalar.indexCast v84
  let c512_290 : Index := 512#32
  let c768_291 : Index := 768#32
  ![v729.toNat, 512, 768]
def k0_off565 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v739 : Index := Scalar.indexCast v84
  let c768_293 : Index := 768#32
  let c768_294 : Index := 768#32
  ![v739.toNat, 768, 768]
def k0_off566 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v754 : Index := Scalar.indexCast v84
  let c0_297 : Index := 0#32
  let c1024 : Index := 1024#32
  ![v754.toNat, 0, 1024]
def k0_off567 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v761 : Index := Scalar.indexCast v533
  let c1024_299 : Index := 1024#32
  ![v761.toNat, 1024]
def k0_off568 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v764 : Index := Scalar.indexCast v84
  let c0_300 : Index := 0#32
  let c1024_301 : Index := 1024#32
  ![v764.toNat, 0, 1024]
def k0_off569 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v774 : Index := Scalar.indexCast v84
  let c256_303 : Index := 256#32
  let c1024_304 : Index := 1024#32
  ![v774.toNat, 256, 1024]
def k0_off570 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v784 : Index := Scalar.indexCast v84
  let c512_306 : Index := 512#32
  let c1024_307 : Index := 1024#32
  ![v784.toNat, 512, 1024]
def k0_off571 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v794 : Index := Scalar.indexCast v84
  let c768_309 : Index := 768#32
  let c1024_310 : Index := 1024#32
  ![v794.toNat, 768, 1024]
def k0_off572 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v809 : Index := Scalar.indexCast v84
  let c0_313 : Index := 0#32
  let c1280 : Index := 1280#32
  ![v809.toNat, 0, 1280]
def k0_off573 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v816 : Index := Scalar.indexCast v533
  let c1280_315 : Index := 1280#32
  ![v816.toNat, 1280]
def k0_off574 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v819 : Index := Scalar.indexCast v84
  let c0_316 : Index := 0#32
  let c1280_317 : Index := 1280#32
  ![v819.toNat, 0, 1280]
def k0_off575 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v829 : Index := Scalar.indexCast v84
  let c256_319 : Index := 256#32
  let c1280_320 : Index := 1280#32
  ![v829.toNat, 256, 1280]
def k0_off576 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v839 : Index := Scalar.indexCast v84
  let c512_322 : Index := 512#32
  let c1280_323 : Index := 1280#32
  ![v839.toNat, 512, 1280]
def k0_off577 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v849 : Index := Scalar.indexCast v84
  let c768_325 : Index := 768#32
  let c1280_326 : Index := 1280#32
  ![v849.toNat, 768, 1280]
def k0_off578 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v864 : Index := Scalar.indexCast v84
  let c0_329 : Index := 0#32
  let c1536 : Index := 1536#32
  ![v864.toNat, 0, 1536]
def k0_off579 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v871 : Index := Scalar.indexCast v533
  let c1536_331 : Index := 1536#32
  ![v871.toNat, 1536]
def k0_off580 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v874 : Index := Scalar.indexCast v84
  let c0_332 : Index := 0#32
  let c1536_333 : Index := 1536#32
  ![v874.toNat, 0, 1536]
def k0_off581 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v884 : Index := Scalar.indexCast v84
  let c256_335 : Index := 256#32
  let c1536_336 : Index := 1536#32
  ![v884.toNat, 256, 1536]
def k0_off582 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v894 : Index := Scalar.indexCast v84
  let c512_338 : Index := 512#32
  let c1536_339 : Index := 1536#32
  ![v894.toNat, 512, 1536]
def k0_off583 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v904 : Index := Scalar.indexCast v84
  let c768_341 : Index := 768#32
  let c1536_342 : Index := 1536#32
  ![v904.toNat, 768, 1536]
def k0_off584 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v919 : Index := Scalar.indexCast v84
  let c0_345 : Index := 0#32
  let c1792 : Index := 1792#32
  ![v919.toNat, 0, 1792]
def k0_off585 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_232 : BitVec 32 := 8#32
  let v532 : BitVec 32 := Scalar.muli v137 c8_i32_232
  let v533 : BitVec 32 := v532
  let v926 : Index := Scalar.indexCast v533
  let c1792_347 : Index := 1792#32
  ![v926.toNat, 1792]
def k0_off586 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v929 : Index := Scalar.indexCast v84
  let c0_348 : Index := 0#32
  let c1792_349 : Index := 1792#32
  ![v929.toNat, 0, 1792]
def k0_off587 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v939 : Index := Scalar.indexCast v84
  let c256_351 : Index := 256#32
  let c1792_352 : Index := 1792#32
  ![v939.toNat, 256, 1792]
def k0_off588 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v949 : Index := Scalar.indexCast v84
  let c512_354 : Index := 512#32
  let c1792_355 : Index := 1792#32
  ![v949.toNat, 512, 1792]
def k0_off589 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v959 : Index := Scalar.indexCast v84
  let c768_357 : Index := 768#32
  let c1792_358 : Index := 1792#32
  ![v959.toNat, 768, 1792]
def k0_mult461 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let c0_i32_81 : BitVec 32 := 0#32
  let v143 : BitVec 32 := Scalar.addi v142 c0_i32_81
  v143
def k0_off590 (v56 : BitVec 32) (v58 : BitVec 32) (k0_t16 : Fin k0_t16_loop.trips) (c0_i32_79 : BitVec 32) (c0_i32_81 : BitVec 32) : Fin 2 → Nat :=
  let c16_i32_35 : BitVec 32 := 16#32
  let v70 : BitVec 32 := Scalar.divsi v58 c16_i32_35
  let c16_i32_78 : BitVec 32 := 16#32
  let v138 : BitVec 32 := Scalar.muli v70 c16_i32_78
  let v139 : BitVec 32 := Scalar.addi v56 v138
  let v140 : BitVec 32 := Scalar.addi v139 c0_i32_79
  let c31_i32 : BitVec 32 := 31#32
  let v141 : BitVec 32 := Scalar.minsi v140 c31_i32
  let v145 : Index := Scalar.indexCast v141
  let c0_i32_38 : BitVec 32 := 0#32
  let c1_i32_40 : BitVec 32 := 1#32
  let arg18 : BitVec 32 := Scf.iv c0_i32_38 c1_i32_40 k0_t16
  let c1024_i32_80 : BitVec 32 := 1024#32
  let v142 : BitVec 32 := Scalar.muli arg18 c1024_i32_80
  let v143 : BitVec 32 := Scalar.addi v142 c0_i32_81
  let v144 : BitVec 32 := v143
  let v146 : Index := Scalar.indexCast v144
  ![v145.toNat, v146.toNat]
def k0_cond9 (v58 : BitVec 32) : BitVec 1 :=
  let c16_i32_35 : BitVec 32 := 16#32
  let v70 : BitVec 32 := Scalar.divsi v58 c16_i32_35
  let c16_i32_36 : BitVec 32 := 16#32
  let v71 : BitVec 32 := Scalar.muli v70 c16_i32_36
  let v72 : BitVec 32 := Scalar.subi v58 v71
  let c8_i32_71 : BitVec 32 := 8#32
  let v128 : BitVec 1 := Scalar.cmpi .sgt v72 c8_i32_71
  let c16_i32_72 : BitVec 32 := 16#32
  let v129 : BitVec 1 := Scalar.cmpi .sle v72 c16_i32_72
  let v130 : BitVec 1 := Scalar.andi v128 v129
  let v131 : BitVec 32 := Scalar.extui v130
  let c0_i32_73 : BitVec 32 := 0#32
  let v132 : BitVec 1 := Scalar.cmpi .ne v131 c0_i32_73
  v132

def k0_mult462 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_85 : BitVec 32 := 1024#32
  let v154 : BitVec 32 := Scalar.muli arg18 c1024_i32_85
  let c0_i32_86 : BitVec 32 := 0#32
  let v155 : BitVec 32 := Scalar.addi v154 c0_i32_86
  v155
def k0_mult463 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_90 : BitVec 32 := 1024#32
  let v166 : BitVec 32 := Scalar.muli arg18 c1024_i32_90
  let c0_i32_91 : BitVec 32 := 0#32
  let v167 : BitVec 32 := Scalar.addi v166 c0_i32_91
  v167
def k0_mult464 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_94 : BitVec 32 := 1024#32
  let v178 : BitVec 32 := Scalar.muli arg18 c1024_i32_94
  let c0_i32_95 : BitVec 32 := 0#32
  let v179 : BitVec 32 := Scalar.addi v178 c0_i32_95
  v179
def k0_mult465 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_99 : BitVec 32 := 1024#32
  let v190 : BitVec 32 := Scalar.muli arg18 c1024_i32_99
  let c0_i32_100 : BitVec 32 := 0#32
  let v191 : BitVec 32 := Scalar.addi v190 c0_i32_100
  v191
def k0_mult466 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_103 : BitVec 32 := 1024#32
  let v202 : BitVec 32 := Scalar.muli arg18 c1024_i32_103
  let c0_i32_104 : BitVec 32 := 0#32
  let v203 : BitVec 32 := Scalar.addi v202 c0_i32_104
  v203
def k0_mult467 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_107 : BitVec 32 := 1024#32
  let v214 : BitVec 32 := Scalar.muli arg18 c1024_i32_107
  let c0_i32_108 : BitVec 32 := 0#32
  let v215 : BitVec 32 := Scalar.addi v214 c0_i32_108
  v215
def k0_mult468 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_112 : BitVec 32 := 1024#32
  let v226 : BitVec 32 := Scalar.muli arg18 c1024_i32_112
  let c0_i32_113 : BitVec 32 := 0#32
  let v227 : BitVec 32 := Scalar.addi v226 c0_i32_113
  v227
def k0_mult469 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_117 : BitVec 32 := 1024#32
  let v238 : BitVec 32 := Scalar.muli arg18 c1024_i32_117
  let c0_i32_118 : BitVec 32 := 0#32
  let v239 : BitVec 32 := Scalar.addi v238 c0_i32_118
  v239
def k0_mult470 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_121 : BitVec 32 := 1024#32
  let v250 : BitVec 32 := Scalar.muli arg18 c1024_i32_121
  let c0_i32_122 : BitVec 32 := 0#32
  let v251 : BitVec 32 := Scalar.addi v250 c0_i32_122
  v251
def k0_mult471 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_126 : BitVec 32 := 1024#32
  let v262 : BitVec 32 := Scalar.muli arg18 c1024_i32_126
  let c0_i32_127 : BitVec 32 := 0#32
  let v263 : BitVec 32 := Scalar.addi v262 c0_i32_127
  v263
def k0_mult472 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_130 : BitVec 32 := 1024#32
  let v274 : BitVec 32 := Scalar.muli arg18 c1024_i32_130
  let c0_i32_131 : BitVec 32 := 0#32
  let v275 : BitVec 32 := Scalar.addi v274 c0_i32_131
  v275
def k0_mult473 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_135 : BitVec 32 := 1024#32
  let v286 : BitVec 32 := Scalar.muli arg18 c1024_i32_135
  let c0_i32_136 : BitVec 32 := 0#32
  let v287 : BitVec 32 := Scalar.addi v286 c0_i32_136
  v287
def k0_mult474 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_139 : BitVec 32 := 1024#32
  let v298 : BitVec 32 := Scalar.muli arg18 c1024_i32_139
  let c0_i32_140 : BitVec 32 := 0#32
  let v299 : BitVec 32 := Scalar.addi v298 c0_i32_140
  v299
def k0_mult475 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_143 : BitVec 32 := 1024#32
  let v310 : BitVec 32 := Scalar.muli arg18 c1024_i32_143
  let c0_i32_144 : BitVec 32 := 0#32
  let v311 : BitVec 32 := Scalar.addi v310 c0_i32_144
  v311
def k0_mult476 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_147 : BitVec 32 := 1024#32
  let v322 : BitVec 32 := Scalar.muli arg18 c1024_i32_147
  let c0_i32_148 : BitVec 32 := 0#32
  let v323 : BitVec 32 := Scalar.addi v322 c0_i32_148
  v323
def k0_mult477 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_152 : BitVec 32 := 1024#32
  let v336 : BitVec 32 := Scalar.muli arg18 c1024_i32_152
  let c256_i32 : BitVec 32 := 256#32
  let v337 : BitVec 32 := Scalar.addi v336 c256_i32
  v337
def k0_mult478 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_156 : BitVec 32 := 1024#32
  let v348 : BitVec 32 := Scalar.muli arg18 c1024_i32_156
  let c256_i32_157 : BitVec 32 := 256#32
  let v349 : BitVec 32 := Scalar.addi v348 c256_i32_157
  v349
def k0_mult479 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_161 : BitVec 32 := 1024#32
  let v360 : BitVec 32 := Scalar.muli arg18 c1024_i32_161
  let c256_i32_162 : BitVec 32 := 256#32
  let v361 : BitVec 32 := Scalar.addi v360 c256_i32_162
  v361
def k0_mult480 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_166 : BitVec 32 := 1024#32
  let v372 : BitVec 32 := Scalar.muli arg18 c1024_i32_166
  let c256_i32_167 : BitVec 32 := 256#32
  let v373 : BitVec 32 := Scalar.addi v372 c256_i32_167
  v373
def k0_mult481 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_171 : BitVec 32 := 1024#32
  let v384 : BitVec 32 := Scalar.muli arg18 c1024_i32_171
  let c256_i32_172 : BitVec 32 := 256#32
  let v385 : BitVec 32 := Scalar.addi v384 c256_i32_172
  v385
def k0_mult482 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_176 : BitVec 32 := 1024#32
  let v396 : BitVec 32 := Scalar.muli arg18 c1024_i32_176
  let c256_i32_177 : BitVec 32 := 256#32
  let v397 : BitVec 32 := Scalar.addi v396 c256_i32_177
  v397
def k0_mult483 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_181 : BitVec 32 := 1024#32
  let v408 : BitVec 32 := Scalar.muli arg18 c1024_i32_181
  let c256_i32_182 : BitVec 32 := 256#32
  let v409 : BitVec 32 := Scalar.addi v408 c256_i32_182
  v409
def k0_mult484 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_186 : BitVec 32 := 1024#32
  let v420 : BitVec 32 := Scalar.muli arg18 c1024_i32_186
  let c256_i32_187 : BitVec 32 := 256#32
  let v421 : BitVec 32 := Scalar.addi v420 c256_i32_187
  v421
def k0_mult485 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_191 : BitVec 32 := 1024#32
  let v432 : BitVec 32 := Scalar.muli arg18 c1024_i32_191
  let c256_i32_192 : BitVec 32 := 256#32
  let v433 : BitVec 32 := Scalar.addi v432 c256_i32_192
  v433
def k0_mult486 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_196 : BitVec 32 := 1024#32
  let v444 : BitVec 32 := Scalar.muli arg18 c1024_i32_196
  let c256_i32_197 : BitVec 32 := 256#32
  let v445 : BitVec 32 := Scalar.addi v444 c256_i32_197
  v445
def k0_mult487 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_201 : BitVec 32 := 1024#32
  let v456 : BitVec 32 := Scalar.muli arg18 c1024_i32_201
  let c256_i32_202 : BitVec 32 := 256#32
  let v457 : BitVec 32 := Scalar.addi v456 c256_i32_202
  v457
def k0_mult488 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_206 : BitVec 32 := 1024#32
  let v468 : BitVec 32 := Scalar.muli arg18 c1024_i32_206
  let c256_i32_207 : BitVec 32 := 256#32
  let v469 : BitVec 32 := Scalar.addi v468 c256_i32_207
  v469
def k0_mult489 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_211 : BitVec 32 := 1024#32
  let v480 : BitVec 32 := Scalar.muli arg18 c1024_i32_211
  let c256_i32_212 : BitVec 32 := 256#32
  let v481 : BitVec 32 := Scalar.addi v480 c256_i32_212
  v481
def k0_mult490 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_216 : BitVec 32 := 1024#32
  let v492 : BitVec 32 := Scalar.muli arg18 c1024_i32_216
  let c256_i32_217 : BitVec 32 := 256#32
  let v493 : BitVec 32 := Scalar.addi v492 c256_i32_217
  v493
def k0_mult491 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_221 : BitVec 32 := 1024#32
  let v504 : BitVec 32 := Scalar.muli arg18 c1024_i32_221
  let c256_i32_222 : BitVec 32 := 256#32
  let v505 : BitVec 32 := Scalar.addi v504 c256_i32_222
  v505
def k0_mult492 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_226 : BitVec 32 := 1024#32
  let v516 : BitVec 32 := Scalar.muli arg18 c1024_i32_226
  let c256_i32_227 : BitVec 32 := 256#32
  let v517 : BitVec 32 := Scalar.addi v516 c256_i32_227
  v517
def k0_mult493 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_231 : BitVec 32 := 1024#32
  let v530 : BitVec 32 := Scalar.muli arg18 c1024_i32_231
  let c512_i32 : BitVec 32 := 512#32
  let v531 : BitVec 32 := Scalar.addi v530 c512_i32
  v531
def k0_mult494 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_235 : BitVec 32 := 1024#32
  let v542 : BitVec 32 := Scalar.muli arg18 c1024_i32_235
  let c512_i32_236 : BitVec 32 := 512#32
  let v543 : BitVec 32 := Scalar.addi v542 c512_i32_236
  v543
def k0_mult495 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_240 : BitVec 32 := 1024#32
  let v554 : BitVec 32 := Scalar.muli arg18 c1024_i32_240
  let c512_i32_241 : BitVec 32 := 512#32
  let v555 : BitVec 32 := Scalar.addi v554 c512_i32_241
  v555
def k0_mult496 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_245 : BitVec 32 := 1024#32
  let v566 : BitVec 32 := Scalar.muli arg18 c1024_i32_245
  let c512_i32_246 : BitVec 32 := 512#32
  let v567 : BitVec 32 := Scalar.addi v566 c512_i32_246
  v567
def k0_mult497 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_250 : BitVec 32 := 1024#32
  let v578 : BitVec 32 := Scalar.muli arg18 c1024_i32_250
  let c512_i32_251 : BitVec 32 := 512#32
  let v579 : BitVec 32 := Scalar.addi v578 c512_i32_251
  v579
def k0_mult498 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_255 : BitVec 32 := 1024#32
  let v590 : BitVec 32 := Scalar.muli arg18 c1024_i32_255
  let c512_i32_256 : BitVec 32 := 512#32
  let v591 : BitVec 32 := Scalar.addi v590 c512_i32_256
  v591
def k0_mult499 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_260 : BitVec 32 := 1024#32
  let v602 : BitVec 32 := Scalar.muli arg18 c1024_i32_260
  let c512_i32_261 : BitVec 32 := 512#32
  let v603 : BitVec 32 := Scalar.addi v602 c512_i32_261
  v603
def k0_mult500 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_265 : BitVec 32 := 1024#32
  let v614 : BitVec 32 := Scalar.muli arg18 c1024_i32_265
  let c512_i32_266 : BitVec 32 := 512#32
  let v615 : BitVec 32 := Scalar.addi v614 c512_i32_266
  v615
def k0_mult501 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_270 : BitVec 32 := 1024#32
  let v626 : BitVec 32 := Scalar.muli arg18 c1024_i32_270
  let c512_i32_271 : BitVec 32 := 512#32
  let v627 : BitVec 32 := Scalar.addi v626 c512_i32_271
  v627
def k0_mult502 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_275 : BitVec 32 := 1024#32
  let v638 : BitVec 32 := Scalar.muli arg18 c1024_i32_275
  let c512_i32_276 : BitVec 32 := 512#32
  let v639 : BitVec 32 := Scalar.addi v638 c512_i32_276
  v639
def k0_mult503 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_280 : BitVec 32 := 1024#32
  let v650 : BitVec 32 := Scalar.muli arg18 c1024_i32_280
  let c512_i32_281 : BitVec 32 := 512#32
  let v651 : BitVec 32 := Scalar.addi v650 c512_i32_281
  v651
def k0_mult504 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_285 : BitVec 32 := 1024#32
  let v662 : BitVec 32 := Scalar.muli arg18 c1024_i32_285
  let c512_i32_286 : BitVec 32 := 512#32
  let v663 : BitVec 32 := Scalar.addi v662 c512_i32_286
  v663
def k0_mult505 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_290 : BitVec 32 := 1024#32
  let v674 : BitVec 32 := Scalar.muli arg18 c1024_i32_290
  let c512_i32_291 : BitVec 32 := 512#32
  let v675 : BitVec 32 := Scalar.addi v674 c512_i32_291
  v675
def k0_mult506 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_295 : BitVec 32 := 1024#32
  let v686 : BitVec 32 := Scalar.muli arg18 c1024_i32_295
  let c512_i32_296 : BitVec 32 := 512#32
  let v687 : BitVec 32 := Scalar.addi v686 c512_i32_296
  v687
def k0_mult507 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_300 : BitVec 32 := 1024#32
  let v698 : BitVec 32 := Scalar.muli arg18 c1024_i32_300
  let c512_i32_301 : BitVec 32 := 512#32
  let v699 : BitVec 32 := Scalar.addi v698 c512_i32_301
  v699
def k0_mult508 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_305 : BitVec 32 := 1024#32
  let v710 : BitVec 32 := Scalar.muli arg18 c1024_i32_305
  let c512_i32_306 : BitVec 32 := 512#32
  let v711 : BitVec 32 := Scalar.addi v710 c512_i32_306
  v711
def k0_mult509 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_310 : BitVec 32 := 1024#32
  let v724 : BitVec 32 := Scalar.muli arg18 c1024_i32_310
  let c768_i32 : BitVec 32 := 768#32
  let v725 : BitVec 32 := Scalar.addi v724 c768_i32
  v725
def k0_mult510 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_314 : BitVec 32 := 1024#32
  let v736 : BitVec 32 := Scalar.muli arg18 c1024_i32_314
  let c768_i32_315 : BitVec 32 := 768#32
  let v737 : BitVec 32 := Scalar.addi v736 c768_i32_315
  v737
def k0_mult511 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_319 : BitVec 32 := 1024#32
  let v748 : BitVec 32 := Scalar.muli arg18 c1024_i32_319
  let c768_i32_320 : BitVec 32 := 768#32
  let v749 : BitVec 32 := Scalar.addi v748 c768_i32_320
  v749
def k0_mult512 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_324 : BitVec 32 := 1024#32
  let v760 : BitVec 32 := Scalar.muli arg18 c1024_i32_324
  let c768_i32_325 : BitVec 32 := 768#32
  let v761 : BitVec 32 := Scalar.addi v760 c768_i32_325
  v761
def k0_mult513 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_329 : BitVec 32 := 1024#32
  let v772 : BitVec 32 := Scalar.muli arg18 c1024_i32_329
  let c768_i32_330 : BitVec 32 := 768#32
  let v773 : BitVec 32 := Scalar.addi v772 c768_i32_330
  v773
def k0_mult514 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_334 : BitVec 32 := 1024#32
  let v784 : BitVec 32 := Scalar.muli arg18 c1024_i32_334
  let c768_i32_335 : BitVec 32 := 768#32
  let v785 : BitVec 32 := Scalar.addi v784 c768_i32_335
  v785
def k0_mult515 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_339 : BitVec 32 := 1024#32
  let v796 : BitVec 32 := Scalar.muli arg18 c1024_i32_339
  let c768_i32_340 : BitVec 32 := 768#32
  let v797 : BitVec 32 := Scalar.addi v796 c768_i32_340
  v797
def k0_mult516 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_344 : BitVec 32 := 1024#32
  let v808 : BitVec 32 := Scalar.muli arg18 c1024_i32_344
  let c768_i32_345 : BitVec 32 := 768#32
  let v809 : BitVec 32 := Scalar.addi v808 c768_i32_345
  v809
def k0_mult517 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_349 : BitVec 32 := 1024#32
  let v820 : BitVec 32 := Scalar.muli arg18 c1024_i32_349
  let c768_i32_350 : BitVec 32 := 768#32
  let v821 : BitVec 32 := Scalar.addi v820 c768_i32_350
  v821
def k0_mult518 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_354 : BitVec 32 := 1024#32
  let v832 : BitVec 32 := Scalar.muli arg18 c1024_i32_354
  let c768_i32_355 : BitVec 32 := 768#32
  let v833 : BitVec 32 := Scalar.addi v832 c768_i32_355
  v833
def k0_mult519 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_359 : BitVec 32 := 1024#32
  let v844 : BitVec 32 := Scalar.muli arg18 c1024_i32_359
  let c768_i32_360 : BitVec 32 := 768#32
  let v845 : BitVec 32 := Scalar.addi v844 c768_i32_360
  v845
def k0_mult520 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_364 : BitVec 32 := 1024#32
  let v856 : BitVec 32 := Scalar.muli arg18 c1024_i32_364
  let c768_i32_365 : BitVec 32 := 768#32
  let v857 : BitVec 32 := Scalar.addi v856 c768_i32_365
  v857
def k0_mult521 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_369 : BitVec 32 := 1024#32
  let v868 : BitVec 32 := Scalar.muli arg18 c1024_i32_369
  let c768_i32_370 : BitVec 32 := 768#32
  let v869 : BitVec 32 := Scalar.addi v868 c768_i32_370
  v869
def k0_mult522 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_374 : BitVec 32 := 1024#32
  let v880 : BitVec 32 := Scalar.muli arg18 c1024_i32_374
  let c768_i32_375 : BitVec 32 := 768#32
  let v881 : BitVec 32 := Scalar.addi v880 c768_i32_375
  v881
def k0_mult523 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_379 : BitVec 32 := 1024#32
  let v892 : BitVec 32 := Scalar.muli arg18 c1024_i32_379
  let c768_i32_380 : BitVec 32 := 768#32
  let v893 : BitVec 32 := Scalar.addi v892 c768_i32_380
  v893
def k0_mult524 (k0_t16 : Fin k0_t16_loop.trips) : BitVec 32 :=
  let c0_i32_38 : BitVec 32 := 0#32
  let c1_i32_40 : BitVec 32 := 1#32
  let arg18 : BitVec 32 := Scf.iv c0_i32_38 c1_i32_40 k0_t16
  let c1024_i32_384 : BitVec 32 := 1024#32
  let v904 : BitVec 32 := Scalar.muli arg18 c1024_i32_384
  let c768_i32_385 : BitVec 32 := 768#32
  let v905 : BitVec 32 := Scalar.addi v904 c768_i32_385
  v905
def k0_mult525 (v58 : BitVec 32) : BitVec 32 :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  v916
def k0_off591 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v918 : Index := Scalar.indexCast v84
  let c0_388 : Index := 0#32
  let c0_389 : Index := 0#32
  ![v918.toNat, 0, 0]
def k0_off592 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v925 : Index := Scalar.indexCast v917
  let c0_390 : Index := 0#32
  ![v925.toNat, 0]
def k0_off593 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v928 : Index := Scalar.indexCast v84
  let c0_391 : Index := 0#32
  let c0_392 : Index := 0#32
  ![v928.toNat, 0, 0]
def k0_off594 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v938 : Index := Scalar.indexCast v84
  let c256 : Index := 256#32
  let c0_394 : Index := 0#32
  ![v938.toNat, 256, 0]
def k0_off595 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v948 : Index := Scalar.indexCast v84
  let c512 : Index := 512#32
  let c0_396 : Index := 0#32
  ![v948.toNat, 512, 0]
def k0_off596 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v958 : Index := Scalar.indexCast v84
  let c768 : Index := 768#32
  let c0_398 : Index := 0#32
  ![v958.toNat, 768, 0]
def k0_off597 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v973 : Index := Scalar.indexCast v84
  let c0_401 : Index := 0#32
  let c256_402 : Index := 256#32
  ![v973.toNat, 0, 256]
def k0_off598 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v980 : Index := Scalar.indexCast v917
  let c256_404 : Index := 256#32
  ![v980.toNat, 256]
def k0_off599 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v983 : Index := Scalar.indexCast v84
  let c0_405 : Index := 0#32
  let c256_406 : Index := 256#32
  ![v983.toNat, 0, 256]
def k0_off600 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v993 : Index := Scalar.indexCast v84
  let c256_408 : Index := 256#32
  let c256_409 : Index := 256#32
  ![v993.toNat, 256, 256]
def k0_off601 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1003 : Index := Scalar.indexCast v84
  let c512_411 : Index := 512#32
  let c256_412 : Index := 256#32
  ![v1003.toNat, 512, 256]
def k0_off602 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1013 : Index := Scalar.indexCast v84
  let c768_414 : Index := 768#32
  let c256_415 : Index := 256#32
  ![v1013.toNat, 768, 256]
def k0_off603 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1028 : Index := Scalar.indexCast v84
  let c0_418 : Index := 0#32
  let c512_419 : Index := 512#32
  ![v1028.toNat, 0, 512]
def k0_off604 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1035 : Index := Scalar.indexCast v917
  let c512_421 : Index := 512#32
  ![v1035.toNat, 512]
def k0_off605 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1038 : Index := Scalar.indexCast v84
  let c0_422 : Index := 0#32
  let c512_423 : Index := 512#32
  ![v1038.toNat, 0, 512]
def k0_off606 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1048 : Index := Scalar.indexCast v84
  let c256_425 : Index := 256#32
  let c512_426 : Index := 512#32
  ![v1048.toNat, 256, 512]
def k0_off607 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1058 : Index := Scalar.indexCast v84
  let c512_428 : Index := 512#32
  let c512_429 : Index := 512#32
  ![v1058.toNat, 512, 512]
def k0_off608 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1068 : Index := Scalar.indexCast v84
  let c768_431 : Index := 768#32
  let c512_432 : Index := 512#32
  ![v1068.toNat, 768, 512]
def k0_off609 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1083 : Index := Scalar.indexCast v84
  let c0_435 : Index := 0#32
  let c768_436 : Index := 768#32
  ![v1083.toNat, 0, 768]
def k0_off610 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1090 : Index := Scalar.indexCast v917
  let c768_438 : Index := 768#32
  ![v1090.toNat, 768]
def k0_off611 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1093 : Index := Scalar.indexCast v84
  let c0_439 : Index := 0#32
  let c768_440 : Index := 768#32
  ![v1093.toNat, 0, 768]
def k0_off612 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1103 : Index := Scalar.indexCast v84
  let c256_442 : Index := 256#32
  let c768_443 : Index := 768#32
  ![v1103.toNat, 256, 768]
def k0_off613 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1113 : Index := Scalar.indexCast v84
  let c512_445 : Index := 512#32
  let c768_446 : Index := 768#32
  ![v1113.toNat, 512, 768]
def k0_off614 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1123 : Index := Scalar.indexCast v84
  let c768_448 : Index := 768#32
  let c768_449 : Index := 768#32
  ![v1123.toNat, 768, 768]
def k0_off615 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1138 : Index := Scalar.indexCast v84
  let c0_452 : Index := 0#32
  let c1024 : Index := 1024#32
  ![v1138.toNat, 0, 1024]
def k0_off616 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1145 : Index := Scalar.indexCast v917
  let c1024_454 : Index := 1024#32
  ![v1145.toNat, 1024]
def k0_off617 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1148 : Index := Scalar.indexCast v84
  let c0_455 : Index := 0#32
  let c1024_456 : Index := 1024#32
  ![v1148.toNat, 0, 1024]
def k0_off618 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1158 : Index := Scalar.indexCast v84
  let c256_458 : Index := 256#32
  let c1024_459 : Index := 1024#32
  ![v1158.toNat, 256, 1024]
def k0_off619 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1168 : Index := Scalar.indexCast v84
  let c512_461 : Index := 512#32
  let c1024_462 : Index := 1024#32
  ![v1168.toNat, 512, 1024]
def k0_off620 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1178 : Index := Scalar.indexCast v84
  let c768_464 : Index := 768#32
  let c1024_465 : Index := 1024#32
  ![v1178.toNat, 768, 1024]
def k0_off621 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1193 : Index := Scalar.indexCast v84
  let c0_468 : Index := 0#32
  let c1280 : Index := 1280#32
  ![v1193.toNat, 0, 1280]
def k0_off622 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1200 : Index := Scalar.indexCast v917
  let c1280_470 : Index := 1280#32
  ![v1200.toNat, 1280]
def k0_off623 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1203 : Index := Scalar.indexCast v84
  let c0_471 : Index := 0#32
  let c1280_472 : Index := 1280#32
  ![v1203.toNat, 0, 1280]
def k0_off624 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1213 : Index := Scalar.indexCast v84
  let c256_474 : Index := 256#32
  let c1280_475 : Index := 1280#32
  ![v1213.toNat, 256, 1280]
def k0_off625 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1223 : Index := Scalar.indexCast v84
  let c512_477 : Index := 512#32
  let c1280_478 : Index := 1280#32
  ![v1223.toNat, 512, 1280]
def k0_off626 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1233 : Index := Scalar.indexCast v84
  let c768_480 : Index := 768#32
  let c1280_481 : Index := 1280#32
  ![v1233.toNat, 768, 1280]
def k0_off627 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1248 : Index := Scalar.indexCast v84
  let c0_484 : Index := 0#32
  let c1536 : Index := 1536#32
  ![v1248.toNat, 0, 1536]
def k0_off628 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1255 : Index := Scalar.indexCast v917
  let c1536_486 : Index := 1536#32
  ![v1255.toNat, 1536]
def k0_off629 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1258 : Index := Scalar.indexCast v84
  let c0_487 : Index := 0#32
  let c1536_488 : Index := 1536#32
  ![v1258.toNat, 0, 1536]
def k0_off630 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1268 : Index := Scalar.indexCast v84
  let c256_490 : Index := 256#32
  let c1536_491 : Index := 1536#32
  ![v1268.toNat, 256, 1536]
def k0_off631 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1278 : Index := Scalar.indexCast v84
  let c512_493 : Index := 512#32
  let c1536_494 : Index := 1536#32
  ![v1278.toNat, 512, 1536]
def k0_off632 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1288 : Index := Scalar.indexCast v84
  let c768_496 : Index := 768#32
  let c1536_497 : Index := 1536#32
  ![v1288.toNat, 768, 1536]
def k0_off633 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1303 : Index := Scalar.indexCast v84
  let c0_500 : Index := 0#32
  let c1792 : Index := 1792#32
  ![v1303.toNat, 0, 1792]
def k0_off634 (v58 : BitVec 32) : Fin 2 → Nat :=
  let c16_i32_35 : BitVec 32 := 16#32
  let v70 : BitVec 32 := Scalar.divsi v58 c16_i32_35
  let c16_i32_77 : BitVec 32 := 16#32
  let v137 : BitVec 32 := Scalar.muli v70 c16_i32_77
  let c8_i32_387 : BitVec 32 := 8#32
  let v916 : BitVec 32 := Scalar.muli v137 c8_i32_387
  let v917 : BitVec 32 := v916
  let v1310 : Index := Scalar.indexCast v917
  let c1792_502 : Index := 1792#32
  ![v1310.toNat, 1792]
def k0_off635 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1313 : Index := Scalar.indexCast v84
  let c0_503 : Index := 0#32
  let c1792_504 : Index := 1792#32
  ![v1313.toNat, 0, 1792]
def k0_off636 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1323 : Index := Scalar.indexCast v84
  let c256_506 : Index := 256#32
  let c1792_507 : Index := 1792#32
  ![v1323.toNat, 256, 1792]
def k0_off637 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1333 : Index := Scalar.indexCast v84
  let c512_509 : Index := 512#32
  let c1792_510 : Index := 1792#32
  ![v1333.toNat, 512, 1792]
def k0_off638 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_49 : BitVec 32 := 10#32
  let v84 : BitVec 32 := Scalar.remsi v83 c10_i32_49
  let v1343 : Index := Scalar.indexCast v84
  let c768_512 : Index := 768#32
  let c1792_513 : Index := 1792#32
  ![v1343.toNat, 768, 1792]
def k0_off639 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c7_i32_79 : BitVec 32 := 7#32
  let v139 : BitVec 32 := Scalar.divsi v137 c7_i32_79
  let v140 : Index := Scalar.indexCast v139
  ![v140.toNat]
def k0_cond10 (v1_0 : BitVec 32) (k0_t13 : Fin (k0_t13_loop v1_0).trips) (k0_t16 : Fin k0_t16_loop.trips) : BitVec 1 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_74 : BitVec 32 := 10#32
  let v133 : BitVec 32 := Scalar.addi v83 c10_i32_74
  let c7_i32 : BitVec 32 := 7#32
  let v2 : BitVec 32 := Scalar.muli v1_0 c7_i32
  let v134 : BitVec 1 := Scalar.cmpi .slt v133 v2
  let v135 : BitVec 32 := Scalar.extui v134
  let c0_i32_75 : BitVec 32 := 0#32
  let v136 : BitVec 1 := Scalar.cmpi .ne v135 c0_i32_75
  v136

def k0_mult526 (v1_0 : BitVec 32) (k0_t13 : Fin (k0_t13_loop v1_0).trips) (k0_t16 : Fin k0_t16_loop.trips) : BitVec 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c1024_i32_81 : BitVec 32 := 1024#32
  let v143 : BitVec 32 := Scalar.muli v142 c1024_i32_81
  v143
def k0_mult527 (v1_0 : BitVec 32) (k0_t13 : Fin (k0_t13_loop v1_0).trips) (k0_t16 : Fin k0_t16_loop.trips) : BitVec 32 :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c32_i32_82 : BitVec 32 := 32#32
  let v145 : BitVec 32 := Scalar.muli v142 c32_i32_82
  v145
def k0_off640 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  ![v138.toNat]
def k0_off641 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  let c0_i32_83 : BitVec 32 := 0#32
  let c0_i32_84 : BitVec 32 := 0#32
  ![v138.toNat, 0, 0]
def k0_off642 (v1_0 : BitVec 32) (k0_t13 : Fin (k0_t13_loop v1_0).trips) (k0_t16 : Fin k0_t16_loop.trips) (v141 : BitVec 32) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c1024_i32_81 : BitVec 32 := 1024#32
  let v143 : BitVec 32 := Scalar.muli v142 c1024_i32_81
  let v144 : BitVec 32 := v143
  let c0_i32_85 : BitVec 32 := 0#32
  ![v141.toNat, v144.toNat, 0]

def k0_off643 (v1_0 : BitVec 32) (k0_t13 : Fin (k0_t13_loop v1_0).trips) (k0_t16 : Fin k0_t16_loop.trips) : Fin 1 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  ![v138.toNat]
def k0_off644 (v1_0 : BitVec 32) (k0_t13 : Fin (k0_t13_loop v1_0).trips) (k0_t16 : Fin k0_t16_loop.trips) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c10_i32_78 : BitVec 32 := 10#32
  let v138 : BitVec 32 := Scalar.remsi v137 c10_i32_78
  let c0_i32_86 : BitVec 32 := 0#32
  let c0_i32_87 : BitVec 32 := 0#32
  ![v138.toNat, 0, 0]
def k0_off645 (v1_0 : BitVec 32) (k0_t13 : Fin (k0_t13_loop v1_0).trips) (k0_t16 : Fin k0_t16_loop.trips) (v141 : BitVec 32) : Fin 3 → Nat :=
  let c0_i32_18 : BitVec 32 := 0#32
  let v43 : BitVec 32 := Scalar.subi v1_0 c0_i32_18
  let c1_i32_20 : BitVec 32 := 1#32
  let v45 : BitVec 32 := Scalar.divsi v43 c1_i32_20
  let v46 : BitVec 32 := Scalar.muli v45 c1_i32_20
  let v47 : BitVec 32 := Scalar.addi c0_i32_18 v46
  let c1_i32_22 : BitVec 32 := 1#32
  let arg16 : BitVec 32 := Scf.iv v47 c1_i32_22 k0_t13
  let c7_i32_48 : BitVec 32 := 7#32
  let v82 : BitVec 32 := Scalar.muli arg16 c7_i32_48
  let c0_i32_38 : BitVec 32 := 0#32
  let c1_i32_40 : BitVec 32 := 1#32
  let arg18 : BitVec 32 := Scf.iv c0_i32_38 c1_i32_40 k0_t16
  let v83 : BitVec 32 := Scalar.addi v82 arg18
  let c10_i32_77 : BitVec 32 := 10#32
  let v137 : BitVec 32 := Scalar.addi v83 c10_i32_77
  let c7_i32_80 : BitVec 32 := 7#32
  let v142 : BitVec 32 := Scalar.remsi v137 c7_i32_80
  let c32_i32_82 : BitVec 32 := 32#32
  let v145 : BitVec 32 := Scalar.muli v142 c32_i32_82
  let v146 : BitVec 32 := v145
  let c0_i32_88 : BitVec 32 := 0#32
  ![v141.toNat, v146.toNat, 0]

def k0_chk12 (v1_0 : BitVec 32) (k0_t13 : Fin (k0_t13_loop v1_0).trips) (k0_t16 : Fin k0_t16_loop.trips) (v141 : BitVec 32) : Prop :=
  (∀ (k0_h10 : k0_cond10 v1_0 k0_t13 k0_t16 = 1#1), ∀ a, (k0_off642 v1_0 k0_t13 k0_t16 v141) a + S1x1024x2048.size a ≤ S12x7168x2048.size a) ∧
  (∀ (k0_h10 : k0_cond10 v1_0 k0_t13 k0_t16 = 1#1), ∀ (hinb : ∀ a, (k0_off642 v1_0 k0_t13 k0_t16 v141) a + S1x1024x2048.size a ≤ S12x7168x2048.size a), (Rect.unit (s := S12x7168x2048) (k0_off642 v1_0 k0_t13 k0_t16 v141) S1x1024x2048.size hinb).WholeWords (EltTy.packing .fp8e4m3)) ∧
  (∀ (k0_h10 : k0_cond10 v1_0 k0_t13 k0_t16 = 1#1), ∀ a, (k0_off645 v1_0 k0_t13 k0_t16 v141) a + S1x32x2048.size a ≤ S12x224x2048.size a) ∧
  (∀ (k0_h10 : k0_cond10 v1_0 k0_t13 k0_t16 = 1#1), ∀ (hinb : ∀ a, (k0_off645 v1_0 k0_t13 k0_t16 v141) a + S1x32x2048.size a ≤ S12x224x2048.size a), (Rect.unit (s := S12x224x2048) (k0_off645 v1_0 k0_t13 k0_t16 v141) S1x32x2048.size hinb).WholeWords (EltTy.packing .i8))
theorem k0_off642_inb : ∀ (v1_0 : BitVec 32) (k0_t13 : Fin (k0_t13_loop v1_0).trips) (k0_t16 : Fin k0_t16_loop.trips) (v141 : BitVec 32) (k0_hw12 : k0_chk12 v1_0 k0_t13 k0_t16 v141), ∀ (k0_h10 : k0_cond10 v1_0 k0_t13 k0_t16 = 1#1), ∀ a, (k0_off642 v1_0 k0_t13 k0_t16 v141) a + S1x1024x2048.size a ≤ S12x7168x2048.size a := fun v1_0 k0_t13 k0_t16 v141 k0_hw12 k0_h10 => k0_hw12.1 k0_h10
theorem k0_off642_wordsfp8e4m3 : ∀ (v1_0 : BitVec 32) (k0_t13 : Fin (k0_t13_loop v1_0).trips) (k0_t16 : Fin k0_t16_loop.trips) (v141 : BitVec 32) (k0_hw12 : k0_chk12 v1_0 k0_t13 k0_t16 v141), ∀ (k0_h10 : k0_cond10 v1_0 k0_t13 k0_t16 = 1#1), (Rect.unit (s := S12x7168x2048) (k0_off642 v1_0 k0_t13 k0_t16 v141) S1x1024x2048.size (k0_off642_inb v1_0 k0_t13 k0_t16 v141 k0_hw12 k0_h10)).WholeWords (EltTy.packing .fp8e4m3) := fun v1_0 k0_t13 k0_t16 v141 k0_hw12 k0_h10 => k0_hw12.2.1 k0_h10 (k0_off642_inb v1_0 k0_t13 k0_t16 v141 k0_hw12 k0_h10)
theorem k0_off645_inb : ∀ (v1_0 : BitVec 32) (k0_t13 : Fin (k0_t13_loop v1_0).trips) (k0_t16 : Fin k0_t16_loop.trips) (v141 : BitVec 32) (k0_hw12 : k0_chk12 v1_0 k0_t13 k0_t16 v141), ∀ (k0_h10 : k0_cond10 v1_0 k0_t13 k0_t16 = 1#1), ∀ a, (k0_off645 v1_0 k0_t13 k0_t16 v141) a + S1x32x2048.size a ≤ S12x224x2048.size a := fun v1_0 k0_t13 k0_t16 v141 k0_hw12 k0_h10 => k0_hw12.2.2.1 k0_h10
theorem k0_off645_wordsi8 : ∀ (v1_0 : BitVec 32) (k0_t13 : Fin (k0_t13_loop v1_0).trips) (k0_t16 : Fin k0_t16_loop.trips) (v141 : BitVec 32) (k0_hw12 : k0_chk12 v1_0 k0_t13 k0_t16 v141), ∀ (k0_h10 : k0_cond10 v1_0 k0_t13 k0_t16 = 1#1), (Rect.unit (s := S12x224x2048) (k0_off645 v1_0 k0_t13 k0_t16 v141) S1x32x2048.size (k0_off645_inb v1_0 k0_t13 k0_t16 v141 k0_hw12 k0_h10)).WholeWords (EltTy.packing .i8) := fun v1_0 k0_t13 k0_t16 v141 k0_hw12 k0_h10 => k0_hw12.2.2.2 k0_h10 (k0_off645_inb v1_0 k0_t13 k0_t16 v141 k0_hw12 k0_h10)

def k0_chk2_0 (v1_0 : BitVec 32) : Prop :=
  ((k0_t2_loop v1_0).OK) ∧
  (∀ k0_t2 : Fin (k0_t2_loop v1_0).trips, ∀ a, (k0_off3 v1_0 k0_t2) a + S1.size a ≤ S13.size a) ∧
  (∀ k0_t2 : Fin (k0_t2_loop v1_0).trips, 1024 ∣ (k0_mult1 v1_0 k0_t2).toNat) ∧
  (∀ k0_t2 : Fin (k0_t2_loop v1_0).trips, 32 ∣ (k0_mult2 v1_0 k0_t2).toNat) ∧
  (∀ k0_t2 : Fin (k0_t2_loop v1_0).trips, ∀ a, (k0_off4 v1_0 k0_t2) a + S1.size a ≤ S10.size a) ∧
  (∀ k0_t2 : Fin (k0_t2_loop v1_0).trips, ∀ a, (k0_off5 v1_0 k0_t2) a + S1x1024x2048.size a ≤ S10x1024x2048.size a) ∧
  (∀ k0_t2 : Fin (k0_t2_loop v1_0).trips, ∀ (hinb : ∀ a, (k0_off5 v1_0 k0_t2) a + S1x1024x2048.size a ≤ S10x1024x2048.size a), (Rect.unit (s := S10x1024x2048) (k0_off5 v1_0 k0_t2) S1x1024x2048.size hinb).WholeWords (EltTy.packing .fp8e4m3)) ∧
  (∀ k0_t2 : Fin (k0_t2_loop v1_0).trips, ∀ a, (k0_off7 v1_0 k0_t2) a + S1.size a ≤ S10.size a) ∧
  (∀ k0_t2 : Fin (k0_t2_loop v1_0).trips, ∀ a, (k0_off8 v1_0 k0_t2) a + S1x32x2048.size a ≤ S10x32x2048.size a) ∧
  (∀ k0_t2 : Fin (k0_t2_loop v1_0).trips, ∀ (hinb : ∀ a, (k0_off8 v1_0 k0_t2) a + S1x32x2048.size a ≤ S10x32x2048.size a), (Rect.unit (s := S10x32x2048) (k0_off8 v1_0 k0_t2) S1x32x2048.size hinb).WholeWords (EltTy.packing .i8)) ∧
  ((k0_t3_loop v1_0).OK) ∧
  (∀ k0_t3 : Fin (k0_t3_loop v1_0).trips, ∀ a, (k0_off10 v1_0 k0_t3) a + S1.size a ≤ S13.size a) ∧
  (∀ k0_t3 : Fin (k0_t3_loop v1_0).trips, 1024 ∣ (k0_mult3 v1_0 k0_t3).toNat) ∧
  (∀ k0_t3 : Fin (k0_t3_loop v1_0).trips, 32 ∣ (k0_mult4 v1_0 k0_t3).toNat) ∧
  (∀ k0_t3 : Fin (k0_t3_loop v1_0).trips, ∀ a, (k0_off11 v1_0 k0_t3) a + S1.size a ≤ S10.size a) ∧
  (∀ k0_t3 : Fin (k0_t3_loop v1_0).trips, ∀ a, (k0_off12 v1_0 k0_t3) a + S1x1024x2048.size a ≤ S10x1024x2048.size a) ∧
  (∀ k0_t3 : Fin (k0_t3_loop v1_0).trips, ∀ (hinb : ∀ a, (k0_off12 v1_0 k0_t3) a + S1x1024x2048.size a ≤ S10x1024x2048.size a), (Rect.unit (s := S10x1024x2048) (k0_off12 v1_0 k0_t3) S1x1024x2048.size hinb).WholeWords (EltTy.packing .fp8e4m3)) ∧
  (∀ k0_t3 : Fin (k0_t3_loop v1_0).trips, ∀ a, (k0_off14 v1_0 k0_t3) a + S1.size a ≤ S10.size a) ∧
  (∀ k0_t3 : Fin (k0_t3_loop v1_0).trips, ∀ a, (k0_off15 v1_0 k0_t3) a + S1x32x2048.size a ≤ S10x32x2048.size a) ∧
  (∀ k0_t3 : Fin (k0_t3_loop v1_0).trips, ∀ (hinb : ∀ a, (k0_off15 v1_0 k0_t3) a + S1x32x2048.size a ≤ S10x32x2048.size a), (Rect.unit (s := S10x32x2048) (k0_off15 v1_0 k0_t3) S1x32x2048.size hinb).WholeWords (EltTy.packing .i8)) ∧
  ((k0_t5_loop v1_0).OK) ∧
  (∀ k0_t5 : Fin (k0_t5_loop v1_0).trips, ∀ a, (k0_off18 v1_0 k0_t5) a + S1.size a ≤ S13.size a) ∧
  (∀ (k0_t5 : Fin (k0_t5_loop v1_0).trips) (k0_t8 : Fin k0_t8_loop.trips), ∀ a, (k0_off22 v1_0 k0_t5 k0_t8) a + S1.size a ≤ S13.size a) ∧
  (∀ (k0_t5 : Fin (k0_t5_loop v1_0).trips) (k0_t8 : Fin k0_t8_loop.trips), 1024 ∣ (k0_mult8 v1_0 k0_t5 k0_t8).toNat) ∧
  (∀ (k0_t5 : Fin (k0_t5_loop v1_0).trips) (k0_t8 : Fin k0_t8_loop.trips), 32 ∣ (k0_mult9 v1_0 k0_t5 k0_t8).toNat) ∧
  (∀ (k0_t5 : Fin (k0_t5_loop v1_0).trips) (k0_t8 : Fin k0_t8_loop.trips), ∀ a, (k0_off23 v1_0 k0_t5 k0_t8) a + S1.size a ≤ S10.size a) ∧
  (∀ (k0_t5 : Fin (k0_t5_loop v1_0).trips) (k0_t8 : Fin k0_t8_loop.trips), ∀ a, (k0_off24 v1_0 k0_t5 k0_t8) a + S1x1024x2048.size a ≤ S10x1024x2048.size a) ∧
  (∀ (k0_t5 : Fin (k0_t5_loop v1_0).trips) (k0_t8 : Fin k0_t8_loop.trips), ∀ (hinb : ∀ a, (k0_off24 v1_0 k0_t5 k0_t8) a + S1x1024x2048.size a ≤ S10x1024x2048.size a), (Rect.unit (s := S10x1024x2048) (k0_off24 v1_0 k0_t5 k0_t8) S1x1024x2048.size hinb).WholeWords (EltTy.packing .fp8e4m3)) ∧
  (∀ (k0_t5 : Fin (k0_t5_loop v1_0).trips) (k0_t8 : Fin k0_t8_loop.trips), ∀ a, (k0_off26 v1_0 k0_t5 k0_t8) a + S1.size a ≤ S10.size a) ∧
  (∀ (k0_t5 : Fin (k0_t5_loop v1_0).trips) (k0_t8 : Fin k0_t8_loop.trips), ∀ a, (k0_off27 v1_0 k0_t5 k0_t8) a + S1x32x2048.size a ≤ S10x32x2048.size a) ∧
  (∀ (k0_t5 : Fin (k0_t5_loop v1_0).trips) (k0_t8 : Fin k0_t8_loop.trips), ∀ (hinb : ∀ a, (k0_off27 v1_0 k0_t5 k0_t8) a + S1x32x2048.size a ≤ S10x32x2048.size a), (Rect.unit (s := S10x32x2048) (k0_off27 v1_0 k0_t5 k0_t8) S1x32x2048.size hinb).WholeWords (EltTy.packing .i8)) ∧
  (∀ (k0_t5 : Fin (k0_t5_loop v1_0).trips) (k0_t8 : Fin k0_t8_loop.trips), ∀ (k0_h5 : k0_cond5 v1_0 k0_t5 k0_t8 = 1#1), ∀ a, (k0_off323 v1_0 k0_t5 k0_t8) a + S1.size a ≤ S13.size a)
def k0_chk2_1 (v1_0 : BitVec 32) : Prop :=
  (∀ (k0_t5 : Fin (k0_t5_loop v1_0).trips) (k0_t8 : Fin k0_t8_loop.trips), ∀ (k0_h5 : k0_cond5 v1_0 k0_t5 k0_t8 = 1#1), 1024 ∣ (k0_mult264 v1_0 k0_t5 k0_t8).toNat) ∧
  (∀ (k0_t5 : Fin (k0_t5_loop v1_0).trips) (k0_t8 : Fin k0_t8_loop.trips), ∀ (k0_h5 : k0_cond5 v1_0 k0_t5 k0_t8 = 1#1), 32 ∣ (k0_mult265 v1_0 k0_t5 k0_t8).toNat) ∧
  (∀ (k0_t5 : Fin (k0_t5_loop v1_0).trips) (k0_t8 : Fin k0_t8_loop.trips), ∀ (k0_h5 : k0_cond5 v1_0 k0_t5 k0_t8 = 1#1), ∀ a, (k0_off324 v1_0 k0_t5 k0_t8) a + S1.size a ≤ S10.size a) ∧
  (∀ (k0_t5 : Fin (k0_t5_loop v1_0).trips) (k0_t8 : Fin k0_t8_loop.trips), ∀ (k0_h5 : k0_cond5 v1_0 k0_t5 k0_t8 = 1#1), ∀ a, (k0_off325 v1_0 k0_t5 k0_t8) a + S1x1024x2048.size a ≤ S10x1024x2048.size a) ∧
  (∀ (k0_t5 : Fin (k0_t5_loop v1_0).trips) (k0_t8 : Fin k0_t8_loop.trips), ∀ (k0_h5 : k0_cond5 v1_0 k0_t5 k0_t8 = 1#1), ∀ (hinb : ∀ a, (k0_off325 v1_0 k0_t5 k0_t8) a + S1x1024x2048.size a ≤ S10x1024x2048.size a), (Rect.unit (s := S10x1024x2048) (k0_off325 v1_0 k0_t5 k0_t8) S1x1024x2048.size hinb).WholeWords (EltTy.packing .fp8e4m3)) ∧
  (∀ (k0_t5 : Fin (k0_t5_loop v1_0).trips) (k0_t8 : Fin k0_t8_loop.trips), ∀ (k0_h5 : k0_cond5 v1_0 k0_t5 k0_t8 = 1#1), ∀ a, (k0_off327 v1_0 k0_t5 k0_t8) a + S1.size a ≤ S10.size a) ∧
  (∀ (k0_t5 : Fin (k0_t5_loop v1_0).trips) (k0_t8 : Fin k0_t8_loop.trips), ∀ (k0_h5 : k0_cond5 v1_0 k0_t5 k0_t8 = 1#1), ∀ a, (k0_off328 v1_0 k0_t5 k0_t8) a + S1x32x2048.size a ≤ S10x32x2048.size a) ∧
  (∀ (k0_t5 : Fin (k0_t5_loop v1_0).trips) (k0_t8 : Fin k0_t8_loop.trips), ∀ (k0_h5 : k0_cond5 v1_0 k0_t5 k0_t8 = 1#1), ∀ (hinb : ∀ a, (k0_off328 v1_0 k0_t5 k0_t8) a + S1x32x2048.size a ≤ S10x32x2048.size a), (Rect.unit (s := S10x32x2048) (k0_off328 v1_0 k0_t5 k0_t8) S1x32x2048.size hinb).WholeWords (EltTy.packing .i8)) ∧
  ((k0_t13_loop v1_0).OK) ∧
  (∀ k0_t13 : Fin (k0_t13_loop v1_0).trips, ∀ a, (k0_off334 v1_0 k0_t13) a + S1.size a ≤ S13.size a) ∧
  (∀ (k0_t13 : Fin (k0_t13_loop v1_0).trips) (k0_t16 : Fin k0_t16_loop.trips), ∀ a, (k0_off338 v1_0 k0_t13 k0_t16) a + S1.size a ≤ S13.size a) ∧
  (∀ (k0_t13 : Fin (k0_t13_loop v1_0).trips) (k0_t16 : Fin k0_t16_loop.trips), 1024 ∣ (k0_mult270 v1_0 k0_t13 k0_t16).toNat) ∧
  (∀ (k0_t13 : Fin (k0_t13_loop v1_0).trips) (k0_t16 : Fin k0_t16_loop.trips), 32 ∣ (k0_mult271 v1_0 k0_t13 k0_t16).toNat) ∧
  (∀ (k0_t13 : Fin (k0_t13_loop v1_0).trips) (k0_t16 : Fin k0_t16_loop.trips), ∀ a, (k0_off339 v1_0 k0_t13 k0_t16) a + S1.size a ≤ S10.size a) ∧
  (∀ (k0_t13 : Fin (k0_t13_loop v1_0).trips) (k0_t16 : Fin k0_t16_loop.trips), ∀ a, (k0_off340 v1_0 k0_t13 k0_t16) a + S1x1024x2048.size a ≤ S10x1024x2048.size a) ∧
  (∀ (k0_t13 : Fin (k0_t13_loop v1_0).trips) (k0_t16 : Fin k0_t16_loop.trips), ∀ (hinb : ∀ a, (k0_off340 v1_0 k0_t13 k0_t16) a + S1x1024x2048.size a ≤ S10x1024x2048.size a), (Rect.unit (s := S10x1024x2048) (k0_off340 v1_0 k0_t13 k0_t16) S1x1024x2048.size hinb).WholeWords (EltTy.packing .fp8e4m3)) ∧
  (∀ (k0_t13 : Fin (k0_t13_loop v1_0).trips) (k0_t16 : Fin k0_t16_loop.trips), ∀ a, (k0_off342 v1_0 k0_t13 k0_t16) a + S1.size a ≤ S10.size a) ∧
  (∀ (k0_t13 : Fin (k0_t13_loop v1_0).trips) (k0_t16 : Fin k0_t16_loop.trips), ∀ a, (k0_off343 v1_0 k0_t13 k0_t16) a + S1x32x2048.size a ≤ S10x32x2048.size a) ∧
  (∀ (k0_t13 : Fin (k0_t13_loop v1_0).trips) (k0_t16 : Fin k0_t16_loop.trips), ∀ (hinb : ∀ a, (k0_off343 v1_0 k0_t13 k0_t16) a + S1x32x2048.size a ≤ S10x32x2048.size a), (Rect.unit (s := S10x32x2048) (k0_off343 v1_0 k0_t13 k0_t16) S1x32x2048.size hinb).WholeWords (EltTy.packing .i8)) ∧
  (∀ (k0_t13 : Fin (k0_t13_loop v1_0).trips) (k0_t16 : Fin k0_t16_loop.trips), ∀ (k0_h10 : k0_cond10 v1_0 k0_t13 k0_t16 = 1#1), ∀ a, (k0_off639 v1_0 k0_t13 k0_t16) a + S1.size a ≤ S13.size a) ∧
  (∀ (k0_t13 : Fin (k0_t13_loop v1_0).trips) (k0_t16 : Fin k0_t16_loop.trips), ∀ (k0_h10 : k0_cond10 v1_0 k0_t13 k0_t16 = 1#1), 1024 ∣ (k0_mult526 v1_0 k0_t13 k0_t16).toNat) ∧
  (∀ (k0_t13 : Fin (k0_t13_loop v1_0).trips) (k0_t16 : Fin k0_t16_loop.trips), ∀ (k0_h10 : k0_cond10 v1_0 k0_t13 k0_t16 = 1#1), 32 ∣ (k0_mult527 v1_0 k0_t13 k0_t16).toNat) ∧
  (∀ (k0_t13 : Fin (k0_t13_loop v1_0).trips) (k0_t16 : Fin k0_t16_loop.trips), ∀ (k0_h10 : k0_cond10 v1_0 k0_t13 k0_t16 = 1#1), ∀ a, (k0_off640 v1_0 k0_t13 k0_t16) a + S1.size a ≤ S10.size a) ∧
  (∀ (k0_t13 : Fin (k0_t13_loop v1_0).trips) (k0_t16 : Fin k0_t16_loop.trips), ∀ (k0_h10 : k0_cond10 v1_0 k0_t13 k0_t16 = 1#1), ∀ a, (k0_off641 v1_0 k0_t13 k0_t16) a + S1x1024x2048.size a ≤ S10x1024x2048.size a) ∧
  (∀ (k0_t13 : Fin (k0_t13_loop v1_0).trips) (k0_t16 : Fin k0_t16_loop.trips), ∀ (k0_h10 : k0_cond10 v1_0 k0_t13 k0_t16 = 1#1), ∀ (hinb : ∀ a, (k0_off641 v1_0 k0_t13 k0_t16) a + S1x1024x2048.size a ≤ S10x1024x2048.size a), (Rect.unit (s := S10x1024x2048) (k0_off641 v1_0 k0_t13 k0_t16) S1x1024x2048.size hinb).WholeWords (EltTy.packing .fp8e4m3)) ∧
  (∀ (k0_t13 : Fin (k0_t13_loop v1_0).trips) (k0_t16 : Fin k0_t16_loop.trips), ∀ (k0_h10 : k0_cond10 v1_0 k0_t13 k0_t16 = 1#1), ∀ a, (k0_off643 v1_0 k0_t13 k0_t16) a + S1.size a ≤ S10.size a) ∧
  (∀ (k0_t13 : Fin (k0_t13_loop v1_0).trips) (k0_t16 : Fin k0_t16_loop.trips), ∀ (k0_h10 : k0_cond10 v1_0 k0_t13 k0_t16 = 1#1), ∀ a, (k0_off644 v1_0 k0_t13 k0_t16) a + S1x32x2048.size a ≤ S10x32x2048.size a) ∧
  (∀ (k0_t13 : Fin (k0_t13_loop v1_0).trips) (k0_t16 : Fin k0_t16_loop.trips), ∀ (k0_h10 : k0_cond10 v1_0 k0_t13 k0_t16 = 1#1), ∀ (hinb : ∀ a, (k0_off644 v1_0 k0_t13 k0_t16) a + S1x32x2048.size a ≤ S10x32x2048.size a), (Rect.unit (s := S10x32x2048) (k0_off644 v1_0 k0_t13 k0_t16) S1x32x2048.size hinb).WholeWords (EltTy.packing .i8))
def k0_chk2 (v1_0 : BitVec 32) : Prop :=
  k0_chk2_0 v1_0 ∧
  k0_chk2_1 v1_0
theorem k0_t2_ok : ∀ (v1_0 : BitVec 32) (k0_hw2 : k0_chk2 v1_0), (k0_t2_loop v1_0).OK := fun v1_0 k0_hw2 => k0_hw2.1.1
theorem k0_off3_inb : ∀ (v1_0 : BitVec 32) (k0_hw2 : k0_chk2 v1_0) (k0_t2 : Fin (k0_t2_loop v1_0).trips), ∀ a, (k0_off3 v1_0 k0_t2) a + S1.size a ≤ S13.size a := fun v1_0 k0_hw2 k0_t2 => k0_hw2.1.2.1 k0_t2
theorem k0_mult1_dvd : ∀ (v1_0 : BitVec 32) (k0_hw2 : k0_chk2 v1_0) (k0_t2 : Fin (k0_t2_loop v1_0).trips), 1024 ∣ (k0_mult1 v1_0 k0_t2).toNat := fun v1_0 k0_hw2 k0_t2 => k0_hw2.1.2.2.1 k0_t2
theorem k0_mult2_dvd : ∀ (v1_0 : BitVec 32) (k0_hw2 : k0_chk2 v1_0) (k0_t2 : Fin (k0_t2_loop v1_0).trips), 32 ∣ (k0_mult2 v1_0 k0_t2).toNat := fun v1_0 k0_hw2 k0_t2 => k0_hw2.1.2.2.2.1 k0_t2
theorem k0_off4_inb : ∀ (v1_0 : BitVec 32) (k0_hw2 : k0_chk2 v1_0) (k0_t2 : Fin (k0_t2_loop v1_0).trips), ∀ a, (k0_off4 v1_0 k0_t2) a + S1.size a ≤ S10.size a := fun v1_0 k0_hw2 k0_t2 => k0_hw2.1.2.2.2.2.1 k0_t2
theorem k0_off5_inb : ∀ (v1_0 : BitVec 32) (k0_hw2 : k0_chk2 v1_0) (k0_t2 : Fin (k0_t2_loop v1_0).trips), ∀ a, (k0_off5 v1_0 k0_t2) a + S1x1024x2048.size a ≤ S10x1024x2048.size a := fun v1_0 k0_hw2 k0_t2 => k0_hw2.1.2.2.2.2.2.1 k0_t2
theorem k0_off5_wordsfp8e4m3 : ∀ (v1_0 : BitVec 32) (k0_hw2 : k0_chk2 v1_0) (k0_t2 : Fin (k0_t2_loop v1_0).trips), (Rect.unit (s := S10x1024x2048) (k0_off5 v1_0 k0_t2) S1x1024x2048.size (k0_off5_inb v1_0 k0_hw2 k0_t2)).WholeWords (EltTy.packing .fp8e4m3) := fun v1_0 k0_hw2 k0_t2 => k0_hw2.1.2.2.2.2.2.2.1 k0_t2 (k0_off5_inb v1_0 k0_hw2 k0_t2)
theorem k0_off7_inb : ∀ (v1_0 : BitVec 32) (k0_hw2 : k0_chk2 v1_0) (k0_t2 : Fin (k0_t2_loop v1_0).trips), ∀ a, (k0_off7 v1_0 k0_t2) a + S1.size a ≤ S10.size a := fun v1_0 k0_hw2 k0_t2 => k0_hw2.1.2.2.2.2.2.2.2.1 k0_t2
theorem k0_off8_inb : ∀ (v1_0 : BitVec 32) (k0_hw2 : k0_chk2 v1_0) (k0_t2 : Fin (k0_t2_loop v1_0).trips), ∀ a, (k0_off8 v1_0 k0_t2) a + S1x32x2048.size a ≤ S10x32x2048.size a := fun v1_0 k0_hw2 k0_t2 => k0_hw2.1.2.2.2.2.2.2.2.2.1 k0_t2
theorem k0_off8_wordsi8 : ∀ (v1_0 : BitVec 32) (k0_hw2 : k0_chk2 v1_0) (k0_t2 : Fin (k0_t2_loop v1_0).trips), (Rect.unit (s := S10x32x2048) (k0_off8 v1_0 k0_t2) S1x32x2048.size (k0_off8_inb v1_0 k0_hw2 k0_t2)).WholeWords (EltTy.packing .i8) := fun v1_0 k0_hw2 k0_t2 => k0_hw2.1.2.2.2.2.2.2.2.2.2.1 k0_t2 (k0_off8_inb v1_0 k0_hw2 k0_t2)
theorem k0_t3_ok : ∀ (v1_0 : BitVec 32) (k0_hw2 : k0_chk2 v1_0), (k0_t3_loop v1_0).OK := fun v1_0 k0_hw2 => k0_hw2.1.2.2.2.2.2.2.2.2.2.2.1
theorem k0_off10_inb : ∀ (v1_0 : BitVec 32) (k0_hw2 : k0_chk2 v1_0) (k0_t3 : Fin (k0_t3_loop v1_0).trips), ∀ a, (k0_off10 v1_0 k0_t3) a + S1.size a ≤ S13.size a := fun v1_0 k0_hw2 k0_t3 => k0_hw2.1.2.2.2.2.2.2.2.2.2.2.2.1 k0_t3
theorem k0_mult3_dvd : ∀ (v1_0 : BitVec 32) (k0_hw2 : k0_chk2 v1_0) (k0_t3 : Fin (k0_t3_loop v1_0).trips), 1024 ∣ (k0_mult3 v1_0 k0_t3).toNat := fun v1_0 k0_hw2 k0_t3 => k0_hw2.1.2.2.2.2.2.2.2.2.2.2.2.2.1 k0_t3
theorem k0_mult4_dvd : ∀ (v1_0 : BitVec 32) (k0_hw2 : k0_chk2 v1_0) (k0_t3 : Fin (k0_t3_loop v1_0).trips), 32 ∣ (k0_mult4 v1_0 k0_t3).toNat := fun v1_0 k0_hw2 k0_t3 => k0_hw2.1.2.2.2.2.2.2.2.2.2.2.2.2.2.1 k0_t3
theorem k0_off11_inb : ∀ (v1_0 : BitVec 32) (k0_hw2 : k0_chk2 v1_0) (k0_t3 : Fin (k0_t3_loop v1_0).trips), ∀ a, (k0_off11 v1_0 k0_t3) a + S1.size a ≤ S10.size a := fun v1_0 k0_hw2 k0_t3 => k0_hw2.1.2.2.2.2.2.2.2.2.2.2.2.2.2.2.1 k0_t3
theorem k0_off12_inb : ∀ (v1_0 : BitVec 32) (k0_hw2 : k0_chk2 v1_0) (k0_t3 : Fin (k0_t3_loop v1_0).trips), ∀ a, (k0_off12 v1_0 k0_t3) a + S1x1024x2048.size a ≤ S10x1024x2048.size a := fun v1_0 k0_hw2 k0_t3 => k0_hw2.1.2.2.2.2.2.2.2.2.2.2.2.2.2.2.2.1 k0_t3
theorem k0_off12_wordsfp8e4m3 : ∀ (v1_0 : BitVec 32) (k0_hw2 : k0_chk2 v1_0) (k0_t3 : Fin (k0_t3_loop v1_0).trips), (Rect.unit (s := S10x1024x2048) (k0_off12 v1_0 k0_t3) S1x1024x2048.size (k0_off12_inb v1_0 k0_hw2 k0_t3)).WholeWords (EltTy.packing .fp8e4m3) := fun v1_0 k0_hw2 k0_t3 => k0_hw2.1.2.2.2.2.2.2.2.2.2.2.2.2.2.2.2.2.1 k0_t3 (k0_off12_inb v1_0 k0_hw2 k0_t3)
theorem k0_off14_inb : ∀ (v1_0 : BitVec 32) (k0_hw2 : k0_chk2 v1_0) (k0_t3 : Fin (k0_t3_loop v1_0).trips), ∀ a, (k0_off14 v1_0 k0_t3) a + S1.size a ≤ S10.size a := fun v1_0 k0_hw2 k0_t3 => k0_hw2.1.2.2.2.2.2.2.2.2.2.2.2.2.2.2.2.2.2.1 k0_t3
theorem k0_off15_inb : ∀ (v1_0 : BitVec 32) (k0_hw2 : k0_chk2 v1_0) (k0_t3 : Fin (k0_t3_loop v1_0).trips), ∀ a, (k0_off15 v1_0 k0_t3) a + S1x32x2048.size a ≤ S10x32x2048.size a := fun v1_0 k0_hw2 k0_t3 => k0_hw2.1.2.2.2.2.2.2.2.2.2.2.2.2.2.2.2.2.2.2.1 k0_t3
theorem k0_off15_wordsi8 : ∀ (v1_0 : BitVec 32) (k0_hw2 : k0_chk2 v1_0) (k0_t3 : Fin (k0_t3_loop v1_0).trips), (Rect.unit (s := S10x32x2048) (k0_off15 v1_0 k0_t3) S1x32x2048.size (k0_off15_inb v1_0 k0_hw2 k0_t3)).WholeWords (EltTy.packing .i8) := fun v1_0 k0_hw2 k0_t3 => k0_hw2.1.2.2.2.2.2.2.2.2.2.2.2.2.2.2.2.2.2.2.2.1 k0_t3 (k0_off15_inb v1_0 k0_hw2 k0_t3)
theorem k0_t5_ok : ∀ (v1_0 : BitVec 32) (k0_hw2 : k0_chk2 v1_0), (k0_t5_loop v1_0).OK := fun v1_0 k0_hw2 => k0_hw2.1.2.2.2.2.2.2.2.2.2.2.2.2.2.2.2.2.2.2.2.2.1
theorem k0_off18_inb : ∀ (v1_0 : BitVec 32) (k0_hw2 : k0_chk2 v1_0) (k0_t5 : Fin (k0_t5_loop v1_0).trips), ∀ a, (k0_off18 v1_0 k0_t5) a + S1.size a ≤ S13.size a := fun v1_0 k0_hw2 k0_t5 => k0_hw2.1.2.2.2.2.2.2.2.2.2.2.2.2.2.2.2.2.2.2.2.2.2.1 k0_t5
theorem k0_off22_inb : ∀ (v1_0 : BitVec 32) (k0_hw2 : k0_chk2 v1_0) (k0_t5 : Fin (k0_t5_loop v1_0).trips) (k0_t8 : Fin k0_t8_loop.trips), ∀ a, (k0_off22 v1_0 k0_t5 k0_t8) a + S1.size a ≤ S13.size a := fun v1_0 k0_hw2 k0_t5 k0_t8 => k0_hw2.1.2.2.2.2.2.2.2.2.2.2.2.2.2.2.2.2.2.2.2.2.2.2.1 k0_t5 k0_t8
theorem k0_mult8_dvd : ∀ (v1_0 : BitVec 32) (k0_hw2 : k0_chk2 v1_0) (k0_t5 : Fin (k0_t5_loop v1_0).trips) (k0_t8 : Fin k0_t8_loop.trips), 1024 ∣ (k0_mult8 v1_0 k0_t5 k0_t8).toNat := fun v1_0 k0_hw2 k0_t5 k0_t8 => k0_hw2.1.2.2.2.2.2.2.2.2.2.2.2.2.2.2.2.2.2.2.2.2.2.2.2.1 k0_t5 k0_t8
theorem k0_mult9_dvd : ∀ (v1_0 : BitVec 32) (k0_hw2 : k0_chk2 v1_0) (k0_t5 : Fin (k0_t5_loop v1_0).trips) (k0_t8 : Fin k0_t8_loop.trips), 32 ∣ (k0_mult9 v1_0 k0_t5 k0_t8).toNat := fun v1_0 k0_hw2 k0_t5 k0_t8 => k0_hw2.1.2.2.2.2.2.2.2.2.2.2.2.2.2.2.2.2.2.2.2.2.2.2.2.2.1 k0_t5 k0_t8
theorem k0_off23_inb : ∀ (v1_0 : BitVec 32) (k0_hw2 : k0_chk2 v1_0) (k0_t5 : Fin (k0_t5_loop v1_0).trips) (k0_t8 : Fin k0_t8_loop.trips), ∀ a, (k0_off23 v1_0 k0_t5 k0_t8) a + S1.size a ≤ S10.size a := fun v1_0 k0_hw2 k0_t5 k0_t8 => k0_hw2.1.2.2.2.2.2.2.2.2.2.2.2.2.2.2.2.2.2.2.2.2.2.2.2.2.2.1 k0_t5 k0_t8
theorem k0_off24_inb : ∀ (v1_0 : BitVec 32) (k0_hw2 : k0_chk2 v1_0) (k0_t5 : Fin (k0_t5_loop v1_0).trips) (k0_t8 : Fin k0_t8_loop.trips), ∀ a, (k0_off24 v1_0 k0_t5 k0_t8) a + S1x1024x2048.size a ≤ S10x1024x2048.size a := fun v1_0 k0_hw2 k0_t5 k0_t8 => k0_hw2.1.2.2.2.2.2.2.2.2.2.2.2.2.2.2.2.2.2.2.2.2.2.2.2.2.2.2.1 k0_t5 k0_t8
theorem k0_off24_wordsfp8e4m3 : ∀ (v1_0 : BitVec 32) (k0_hw2 : k0_chk2 v1_0) (k0_t5 : Fin (k0_t5_loop v1_0).trips) (k0_t8 : Fin k0_t8_loop.trips), (Rect.unit (s := S10x1024x2048) (k0_off24 v1_0 k0_t5 k0_t8) S1x1024x2048.size (k0_off24_inb v1_0 k0_hw2 k0_t5 k0_t8)).WholeWords (EltTy.packing .fp8e4m3) := fun v1_0 k0_hw2 k0_t5 k0_t8 => k0_hw2.1.2.2.2.2.2.2.2.2.2.2.2.2.2.2.2.2.2.2.2.2.2.2.2.2.2.2.2.1 k0_t5 k0_t8 (k0_off24_inb v1_0 k0_hw2 k0_t5 k0_t8)
theorem k0_off26_inb : ∀ (v1_0 : BitVec 32) (k0_hw2 : k0_chk2 v1_0) (k0_t5 : Fin (k0_t5_loop v1_0).trips) (k0_t8 : Fin k0_t8_loop.trips), ∀ a, (k0_off26 v1_0 k0_t5 k0_t8) a + S1.size a ≤ S10.size a := fun v1_0 k0_hw2 k0_t5 k0_t8 => k0_hw2.1.2.2.2.2.2.2.2.2.2.2.2.2.2.2.2.2.2.2.2.2.2.2.2.2.2.2.2.2.1 k0_t5 k0_t8
theorem k0_off27_inb : ∀ (v1_0 : BitVec 32) (k0_hw2 : k0_chk2 v1_0) (k0_t5 : Fin (k0_t5_loop v1_0).trips) (k0_t8 : Fin k0_t8_loop.trips), ∀ a, (k0_off27 v1_0 k0_t5 k0_t8) a + S1x32x2048.size a ≤ S10x32x2048.size a := fun v1_0 k0_hw2 k0_t5 k0_t8 => k0_hw2.1.2.2.2.2.2.2.2.2.2.2.2.2.2.2.2.2.2.2.2.2.2.2.2.2.2.2.2.2.2.1 k0_t5 k0_t8
theorem k0_off27_wordsi8 : ∀ (v1_0 : BitVec 32) (k0_hw2 : k0_chk2 v1_0) (k0_t5 : Fin (k0_t5_loop v1_0).trips) (k0_t8 : Fin k0_t8_loop.trips), (Rect.unit (s := S10x32x2048) (k0_off27 v1_0 k0_t5 k0_t8) S1x32x2048.size (k0_off27_inb v1_0 k0_hw2 k0_t5 k0_t8)).WholeWords (EltTy.packing .i8) := fun v1_0 k0_hw2 k0_t5 k0_t8 => k0_hw2.1.2.2.2.2.2.2.2.2.2.2.2.2.2.2.2.2.2.2.2.2.2.2.2.2.2.2.2.2.2.2.1 k0_t5 k0_t8 (k0_off27_inb v1_0 k0_hw2 k0_t5 k0_t8)
theorem k0_off323_inb : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), ∀ a, (k0_off323 v1_0 k0_t5 k0_t8) a + S1.size a ≤ S13.size a := fun v1_0 k0_hw2 k0_t5 k0_t8 k0_h5 => k0_hw2.1.2.2.2.2.2.2.2.2.2.2.2.2.2.2.2.2.2.2.2.2.2.2.2.2.2.2.2.2.2.2.2 k0_t5 k0_t8 k0_h5
theorem k0_mult264_dvd : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), 1024 ∣ (k0_mult264 v1_0 k0_t5 k0_t8).toNat := fun v1_0 k0_hw2 k0_t5 k0_t8 k0_h5 => k0_hw2.2.1 k0_t5 k0_t8 k0_h5
theorem k0_mult265_dvd : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), 32 ∣ (k0_mult265 v1_0 k0_t5 k0_t8).toNat := fun v1_0 k0_hw2 k0_t5 k0_t8 k0_h5 => k0_hw2.2.2.1 k0_t5 k0_t8 k0_h5
theorem k0_off324_inb : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), ∀ a, (k0_off324 v1_0 k0_t5 k0_t8) a + S1.size a ≤ S10.size a := fun v1_0 k0_hw2 k0_t5 k0_t8 k0_h5 => k0_hw2.2.2.2.1 k0_t5 k0_t8 k0_h5
theorem k0_off325_inb : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), ∀ a, (k0_off325 v1_0 k0_t5 k0_t8) a + S1x1024x2048.size a ≤ S10x1024x2048.size a := fun v1_0 k0_hw2 k0_t5 k0_t8 k0_h5 => k0_hw2.2.2.2.2.1 k0_t5 k0_t8 k0_h5
theorem k0_off325_wordsfp8e4m3 : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), (Rect.unit (s := S10x1024x2048) (k0_off325 v1_0 k0_t5 k0_t8) S1x1024x2048.size (k0_off325_inb v1_0 k0_hw2 k0_t5 k0_t8 k0_h5)).WholeWords (EltTy.packing .fp8e4m3) := fun v1_0 k0_hw2 k0_t5 k0_t8 k0_h5 => k0_hw2.2.2.2.2.2.1 k0_t5 k0_t8 k0_h5 (k0_off325_inb v1_0 k0_hw2 k0_t5 k0_t8 k0_h5)
theorem k0_off327_inb : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), ∀ a, (k0_off327 v1_0 k0_t5 k0_t8) a + S1.size a ≤ S10.size a := fun v1_0 k0_hw2 k0_t5 k0_t8 k0_h5 => k0_hw2.2.2.2.2.2.2.1 k0_t5 k0_t8 k0_h5
theorem k0_off328_inb : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), ∀ a, (k0_off328 v1_0 k0_t5 k0_t8) a + S1x32x2048.size a ≤ S10x32x2048.size a := fun v1_0 k0_hw2 k0_t5 k0_t8 k0_h5 => k0_hw2.2.2.2.2.2.2.2.1 k0_t5 k0_t8 k0_h5
theorem k0_off328_wordsi8 : ∀ (v1_0 : BitVec 32) (k0_hw2 : k0_chk2 v1_0) (k0_t5 : Fin (k0_t5_loop v1_0).trips) (k0_t8 : Fin k0_t8_loop.trips), ∀ (k0_h5 : k0_cond5 v1_0 k0_t5 k0_t8 = 1#1), (Rect.unit (s := S10x32x2048) (k0_off328 v1_0 k0_t5 k0_t8) S1x32x2048.size (k0_off328_inb v1_0 k0_hw2 k0_t5 k0_t8 k0_h5)).WholeWords (EltTy.packing .i8) := fun v1_0 k0_hw2 k0_t5 k0_t8 k0_h5 => k0_hw2.2.2.2.2.2.2.2.2.1 k0_t5 k0_t8 k0_h5 (k0_off328_inb v1_0 k0_hw2 k0_t5 k0_t8 k0_h5)
theorem k0_t13_ok : ∀ (v1_0 : BitVec 32) (k0_hw2 : k0_chk2 v1_0), (k0_t13_loop v1_0).OK := fun v1_0 k0_hw2 => k0_hw2.2.2.2.2.2.2.2.2.2.1
theorem k0_off334_inb : ∀ (v1_0 : BitVec 32) (k0_hw2 : k0_chk2 v1_0) (k0_t13 : Fin (k0_t13_loop v1_0).trips), ∀ a, (k0_off334 v1_0 k0_t13) a + S1.size a ≤ S13.size a := fun v1_0 k0_hw2 k0_t13 => k0_hw2.2.2.2.2.2.2.2.2.2.2.1 k0_t13
theorem k0_off338_inb : ∀ (v1_0 : BitVec 32) (k0_hw2 : k0_chk2 v1_0) (k0_t13 : Fin (k0_t13_loop v1_0).trips) (k0_t16 : Fin k0_t16_loop.trips), ∀ a, (k0_off338 v1_0 k0_t13 k0_t16) a + S1.size a ≤ S13.size a := fun v1_0 k0_hw2 k0_t13 k0_t16 => k0_hw2.2.2.2.2.2.2.2.2.2.2.2.1 k0_t13 k0_t16
theorem k0_mult270_dvd : ∀ (v1_0 : BitVec 32) (k0_hw2 : k0_chk2 v1_0) (k0_t13 : Fin (k0_t13_loop v1_0).trips) (k0_t16 : Fin k0_t16_loop.trips), 1024 ∣ (k0_mult270 v1_0 k0_t13 k0_t16).toNat := fun v1_0 k0_hw2 k0_t13 k0_t16 => k0_hw2.2.2.2.2.2.2.2.2.2.2.2.2.1 k0_t13 k0_t16
theorem k0_mult271_dvd : ∀ (v1_0 : BitVec 32) (k0_hw2 : k0_chk2 v1_0) (k0_t13 : Fin (k0_t13_loop v1_0).trips) (k0_t16 : Fin k0_t16_loop.trips), 32 ∣ (k0_mult271 v1_0 k0_t13 k0_t16).toNat := fun v1_0 k0_hw2 k0_t13 k0_t16 => k0_hw2.2.2.2.2.2.2.2.2.2.2.2.2.2.1 k0_t13 k0_t16
theorem k0_off339_inb : ∀ (v1_0 : BitVec 32) (k0_hw2 : k0_chk2 v1_0) (k0_t13 : Fin (k0_t13_loop v1_0).trips) (k0_t16 : Fin k0_t16_loop.trips), ∀ a, (k0_off339 v1_0 k0_t13 k0_t16) a + S1.size a ≤ S10.size a := fun v1_0 k0_hw2 k0_t13 k0_t16 => k0_hw2.2.2.2.2.2.2.2.2.2.2.2.2.2.2.1 k0_t13 k0_t16
theorem k0_off340_inb : ∀ (v1_0 : BitVec 32) (k0_hw2 : k0_chk2 v1_0) (k0_t13 : Fin (k0_t13_loop v1_0).trips) (k0_t16 : Fin k0_t16_loop.trips), ∀ a, (k0_off340 v1_0 k0_t13 k0_t16) a + S1x1024x2048.size a ≤ S10x1024x2048.size a := fun v1_0 k0_hw2 k0_t13 k0_t16 => k0_hw2.2.2.2.2.2.2.2.2.2.2.2.2.2.2.2.1 k0_t13 k0_t16
theorem k0_off340_wordsfp8e4m3 : ∀ (v1_0 : BitVec 32) (k0_hw2 : k0_chk2 v1_0) (k0_t13 : Fin (k0_t13_loop v1_0).trips) (k0_t16 : Fin k0_t16_loop.trips), (Rect.unit (s := S10x1024x2048) (k0_off340 v1_0 k0_t13 k0_t16) S1x1024x2048.size (k0_off340_inb v1_0 k0_hw2 k0_t13 k0_t16)).WholeWords (EltTy.packing .fp8e4m3) := fun v1_0 k0_hw2 k0_t13 k0_t16 => k0_hw2.2.2.2.2.2.2.2.2.2.2.2.2.2.2.2.2.1 k0_t13 k0_t16 (k0_off340_inb v1_0 k0_hw2 k0_t13 k0_t16)
theorem k0_off342_inb : ∀ (v1_0 : BitVec 32) (k0_hw2 : k0_chk2 v1_0) (k0_t13 : Fin (k0_t13_loop v1_0).trips) (k0_t16 : Fin k0_t16_loop.trips), ∀ a, (k0_off342 v1_0 k0_t13 k0_t16) a + S1.size a ≤ S10.size a := fun v1_0 k0_hw2 k0_t13 k0_t16 => k0_hw2.2.2.2.2.2.2.2.2.2.2.2.2.2.2.2.2.2.1 k0_t13 k0_t16
theorem k0_off343_inb : ∀ (v1_0 : BitVec 32) (k0_hw2 : k0_chk2 v1_0) (k0_t13 : Fin (k0_t13_loop v1_0).trips) (k0_t16 : Fin k0_t16_loop.trips), ∀ a, (k0_off343 v1_0 k0_t13 k0_t16) a + S1x32x2048.size a ≤ S10x32x2048.size a := fun v1_0 k0_hw2 k0_t13 k0_t16 => k0_hw2.2.2.2.2.2.2.2.2.2.2.2.2.2.2.2.2.2.2.1 k0_t13 k0_t16
theorem k0_off343_wordsi8 : ∀ (v1_0 : BitVec 32) (k0_hw2 : k0_chk2 v1_0) (k0_t13 : Fin (k0_t13_loop v1_0).trips) (k0_t16 : Fin k0_t16_loop.trips), (Rect.unit (s := S10x32x2048) (k0_off343 v1_0 k0_t13 k0_t16) S1x32x2048.size (k0_off343_inb v1_0 k0_hw2 k0_t13 k0_t16)).WholeWords (EltTy.packing .i8) := fun v1_0 k0_hw2 k0_t13 k0_t16 => k0_hw2.2.2.2.2.2.2.2.2.2.2.2.2.2.2.2.2.2.2.2.1 k0_t13 k0_t16 (k0_off343_inb v1_0 k0_hw2 k0_t13 k0_t16)
theorem k0_off639_inb : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), ∀ a, (k0_off639 v1_0 k0_t13 k0_t16) a + S1.size a ≤ S13.size a := fun v1_0 k0_hw2 k0_t13 k0_t16 k0_h10 => k0_hw2.2.2.2.2.2.2.2.2.2.2.2.2.2.2.2.2.2.2.2.2.1 k0_t13 k0_t16 k0_h10
theorem k0_mult526_dvd : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), 1024 ∣ (k0_mult526 v1_0 k0_t13 k0_t16).toNat := fun v1_0 k0_hw2 k0_t13 k0_t16 k0_h10 => k0_hw2.2.2.2.2.2.2.2.2.2.2.2.2.2.2.2.2.2.2.2.2.2.1 k0_t13 k0_t16 k0_h10
theorem k0_mult527_dvd : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), 32 ∣ (k0_mult527 v1_0 k0_t13 k0_t16).toNat := fun v1_0 k0_hw2 k0_t13 k0_t16 k0_h10 => k0_hw2.2.2.2.2.2.2.2.2.2.2.2.2.2.2.2.2.2.2.2.2.2.2.1 k0_t13 k0_t16 k0_h10
theorem k0_off640_inb : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), ∀ a, (k0_off640 v1_0 k0_t13 k0_t16) a + S1.size a ≤ S10.size a := fun v1_0 k0_hw2 k0_t13 k0_t16 k0_h10 => k0_hw2.2.2.2.2.2.2.2.2.2.2.2.2.2.2.2.2.2.2.2.2.2.2.2.1 k0_t13 k0_t16 k0_h10
theorem k0_off641_inb : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), ∀ a, (k0_off641 v1_0 k0_t13 k0_t16) a + S1x1024x2048.size a ≤ S10x1024x2048.size a := fun v1_0 k0_hw2 k0_t13 k0_t16 k0_h10 => k0_hw2.2.2.2.2.2.2.2.2.2.2.2.2.2.2.2.2.2.2.2.2.2.2.2.2.1 k0_t13 k0_t16 k0_h10
theorem k0_off641_wordsfp8e4m3 : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), (Rect.unit (s := S10x1024x2048) (k0_off641 v1_0 k0_t13 k0_t16) S1x1024x2048.size (k0_off641_inb v1_0 k0_hw2 k0_t13 k0_t16 k0_h10)).WholeWords (EltTy.packing .fp8e4m3) := fun v1_0 k0_hw2 k0_t13 k0_t16 k0_h10 => k0_hw2.2.2.2.2.2.2.2.2.2.2.2.2.2.2.2.2.2.2.2.2.2.2.2.2.2.1 k0_t13 k0_t16 k0_h10 (k0_off641_inb v1_0 k0_hw2 k0_t13 k0_t16 k0_h10)
theorem k0_off643_inb : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), ∀ a, (k0_off643 v1_0 k0_t13 k0_t16) a + S1.size a ≤ S10.size a := fun v1_0 k0_hw2 k0_t13 k0_t16 k0_h10 => k0_hw2.2.2.2.2.2.2.2.2.2.2.2.2.2.2.2.2.2.2.2.2.2.2.2.2.2.2.1 k0_t13 k0_t16 k0_h10
theorem k0_off644_inb : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), ∀ a, (k0_off644 v1_0 k0_t13 k0_t16) a + S1x32x2048.size a ≤ S10x32x2048.size a := fun v1_0 k0_hw2 k0_t13 k0_t16 k0_h10 => k0_hw2.2.2.2.2.2.2.2.2.2.2.2.2.2.2.2.2.2.2.2.2.2.2.2.2.2.2.2.1 k0_t13 k0_t16 k0_h10
theorem k0_off644_wordsi8 : ∀ (v1_0 : BitVec 32) (k0_hw2 : k0_chk2 v1_0) (k0_t13 : Fin (k0_t13_loop v1_0).trips) (k0_t16 : Fin k0_t16_loop.trips), ∀ (k0_h10 : k0_cond10 v1_0 k0_t13 k0_t16 = 1#1), (Rect.unit (s := S10x32x2048) (k0_off644 v1_0 k0_t13 k0_t16) S1x32x2048.size (k0_off644_inb v1_0 k0_hw2 k0_t13 k0_t16 k0_h10)).WholeWords (EltTy.packing .i8) := fun v1_0 k0_hw2 k0_t13 k0_t16 k0_h10 => k0_hw2.2.2.2.2.2.2.2.2.2.2.2.2.2.2.2.2.2.2.2.2.2.2.2.2.2.2.2.2 k0_t13 k0_t16 k0_h10 (k0_off644_inb v1_0 k0_hw2 k0_t13 k0_t16 k0_h10)

@[reducible] def k0_t19_loop (v58 : BitVec 32) : Scf.Loop 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_45 : BitVec 32 := 1#32
  ⟨c0_i32_42, v79, c1_i32_45⟩
def k0_mult528 (v58 : BitVec 32) (k0_t19 : Fin (k0_t19_loop v58).trips) : BitVec 32 :=
  let c0_i32_42 : BitVec 32 := 0#32
  let c1_i32_45 : BitVec 32 := 1#32
  let arg18 : BitVec 32 := Scf.iv c0_i32_42 c1_i32_45 k0_t19
  let c8_i32 : BitVec 32 := 8#32
  let v82 : BitVec 32 := Scalar.muli arg18 c8_i32
  v82
def k0_off646 (v58 : BitVec 32) (k0_t19 : Fin (k0_t19_loop v58).trips) : Fin 2 → Nat :=
  let c0_i32_42 : BitVec 32 := 0#32
  let c1_i32_45 : BitVec 32 := 1#32
  let arg18 : BitVec 32 := Scf.iv c0_i32_42 c1_i32_45 k0_t19
  let c8_i32 : BitVec 32 := 8#32
  let v82 : BitVec 32 := Scalar.muli arg18 c8_i32
  let v83 : BitVec 32 := v82
  let v84 : Index := Scalar.indexCast v83
  let c0_48 : Index := 0#32
  ![v84.toNat, 0]
def k0_off647 (v56 : BitVec 32) (v58 : BitVec 32) (k0_t19 : Fin (k0_t19_loop v58).trips) : Fin 2 → Nat :=
  let c0_i32_42 : BitVec 32 := 0#32
  let c1_i32_45 : BitVec 32 := 1#32
  let arg18 : BitVec 32 := Scf.iv c0_i32_42 c1_i32_45 k0_t19
  let v88 : BitVec 32 := Scalar.addi v56 arg18
  let v89 : Index := Scalar.indexCast v88
  let c0_50 : Index := 0#32
  ![v89.toNat, 0]
@[reducible] def k0_t20_loop (v58 : BitVec 32) : Scf.Loop 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let v76 : BitVec 32 := Scalar.addi c0_i32_42 v75
  let c1_i32_46 : BitVec 32 := 1#32
  ⟨v79, v76, c1_i32_46⟩
def k0_mult529 (v58 : BitVec 32) (k0_t20 : Fin (k0_t20_loop v58).trips) : BitVec 32 :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t20
  let c8_i32 : BitVec 32 := 8#32
  let v82 : BitVec 32 := Scalar.muli arg18 c8_i32
  v82
def k0_off648 (v58 : BitVec 32) (k0_t20 : Fin (k0_t20_loop v58).trips) : Fin 2 → Nat :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t20
  let c8_i32 : BitVec 32 := 8#32
  let v82 : BitVec 32 := Scalar.muli arg18 c8_i32
  let v83 : BitVec 32 := v82
  let v84 : Index := Scalar.indexCast v83
  let c0_48 : Index := 0#32
  ![v84.toNat, 0]
def k0_off649 (v56 : BitVec 32) (v58 : BitVec 32) (k0_t20 : Fin (k0_t20_loop v58).trips) : Fin 2 → Nat :=
  let c0_i32_42 : BitVec 32 := 0#32
  let v75 : BitVec 32 := Scalar.subi v58 c0_i32_42
  let c1_i32_44 : BitVec 32 := 1#32
  let v77 : BitVec 32 := Scalar.divsi v75 c1_i32_44
  let v78 : BitVec 32 := Scalar.muli v77 c1_i32_44
  let v79 : BitVec 32 := Scalar.addi c0_i32_42 v78
  let c1_i32_46 : BitVec 32 := 1#32
  let arg18 : BitVec 32 := Scf.iv v79 c1_i32_46 k0_t20
  let v88 : BitVec 32 := Scalar.addi v56 arg18
  let v89 : Index := Scalar.indexCast v88
  let c0_50 : Index := 0#32
  ![v89.toNat, 0]

def k0_chk10_0 (v1_0 : BitVec 32) (k0_t13 : Fin (k0_t13_loop v1_0).trips) (v56 : BitVec 32) (v58 : BitVec 32) : Prop :=
  ((k0_t14_loop v58).OK) ∧
  (∀ k0_t14 : Fin (k0_t14_loop v58).trips, 8 ∣ (k0_mult268 v58 k0_t14).toNat) ∧
  (∀ k0_t14 : Fin (k0_t14_loop v58).trips, ∀ a, (k0_off336 v58 k0_t14) a + S8x2048.size a ≤ S256x2048.size a) ∧
  ((k0_t15_loop v58).OK) ∧
  (∀ k0_t15 : Fin (k0_t15_loop v58).trips, 8 ∣ (k0_mult269 v58 k0_t15).toNat) ∧
  (∀ k0_t15 : Fin (k0_t15_loop v58).trips, ∀ a, (k0_off337 v58 k0_t15) a + S8x2048.size a ≤ S256x2048.size a) ∧
  ((k0_t17_loop v58).OK) ∧
  (∀ (k0_t16 : Fin k0_t16_loop.trips) (k0_t17 : Fin (k0_t17_loop v58).trips), ∀ (r₁ : Fin 16) (r₂ : Fin 4), ∀ a, (k0_off345 v56 v58 k0_t16 k0_t17 (BitVec.ofNat 32 r₁.val) (BitVec.ofNat 32 (256 * r₂.val))) a + S1x256.size a ≤ S32x7168.size a) ∧
  (∀ k0_t17 : Fin (k0_t17_loop v58).trips, 8 ∣ (k0_mult336 v58 k0_t17).toNat) ∧
  (∀ (k0_t16 : Fin k0_t16_loop.trips) (k0_t17 : Fin (k0_t17_loop v58).trips), ∀ a, (k0_off346 v1_0 k0_t13 k0_t16) a + S1x32x256.size a ≤ S10x32x2048.size a) ∧
  (∀ k0_t17 : Fin (k0_t17_loop v58).trips, ∀ a, (k0_off347 v58 k0_t17) a + S128x256.size a ≤ S256x2048.size a) ∧
  (∀ (k0_t16 : Fin k0_t16_loop.trips) (k0_t17 : Fin (k0_t17_loop v58).trips), ∀ a, (k0_off348 v1_0 k0_t13 k0_t16) a + S1x256x256.size a ≤ S10x1024x2048.size a) ∧
  (∀ (k0_t16 : Fin k0_t16_loop.trips) (k0_t17 : Fin (k0_t17_loop v58).trips), ∀ a, (k0_off349 v1_0 k0_t13 k0_t16) a + S1x256x256.size a ≤ S10x1024x2048.size a) ∧
  (∀ (k0_t16 : Fin k0_t16_loop.trips) (k0_t17 : Fin (k0_t17_loop v58).trips), ∀ a, (k0_off350 v1_0 k0_t13 k0_t16) a + S1x256x256.size a ≤ S10x1024x2048.size a) ∧
  (∀ (k0_t16 : Fin k0_t16_loop.trips) (k0_t17 : Fin (k0_t17_loop v58).trips), ∀ a, (k0_off351 v1_0 k0_t13 k0_t16) a + S1x256x256.size a ≤ S10x1024x2048.size a) ∧
  (∀ (k0_t16 : Fin k0_t16_loop.trips) (k0_t17 : Fin (k0_t17_loop v58).trips), ∀ a, (k0_off352 v1_0 k0_t13 k0_t16) a + S1x32x256.size a ≤ S10x32x2048.size a) ∧
  (∀ k0_t17 : Fin (k0_t17_loop v58).trips, ∀ a, (k0_off353 v58 k0_t17) a + S128x256.size a ≤ S256x2048.size a) ∧
  (∀ (k0_t16 : Fin k0_t16_loop.trips) (k0_t17 : Fin (k0_t17_loop v58).trips), ∀ a, (k0_off354 v1_0 k0_t13 k0_t16) a + S1x256x256.size a ≤ S10x1024x2048.size a) ∧
  (∀ (k0_t16 : Fin k0_t16_loop.trips) (k0_t17 : Fin (k0_t17_loop v58).trips), ∀ a, (k0_off355 v1_0 k0_t13 k0_t16) a + S1x256x256.size a ≤ S10x1024x2048.size a) ∧
  (∀ (k0_t16 : Fin k0_t16_loop.trips) (k0_t17 : Fin (k0_t17_loop v58).trips), ∀ a, (k0_off356 v1_0 k0_t13 k0_t16) a + S1x256x256.size a ≤ S10x1024x2048.size a) ∧
  (∀ (k0_t16 : Fin k0_t16_loop.trips) (k0_t17 : Fin (k0_t17_loop v58).trips), ∀ a, (k0_off357 v1_0 k0_t13 k0_t16) a + S1x256x256.size a ≤ S10x1024x2048.size a) ∧
  (∀ (k0_t16 : Fin k0_t16_loop.trips) (k0_t17 : Fin (k0_t17_loop v58).trips), ∀ a, (k0_off358 v1_0 k0_t13 k0_t16) a + S1x32x256.size a ≤ S10x32x2048.size a) ∧
  (∀ k0_t17 : Fin (k0_t17_loop v58).trips, ∀ a, (k0_off359 v58 k0_t17) a + S128x256.size a ≤ S256x2048.size a) ∧
  (∀ (k0_t16 : Fin k0_t16_loop.trips) (k0_t17 : Fin (k0_t17_loop v58).trips), ∀ a, (k0_off360 v1_0 k0_t13 k0_t16) a + S1x256x256.size a ≤ S10x1024x2048.size a) ∧
  (∀ (k0_t16 : Fin k0_t16_loop.trips) (k0_t17 : Fin (k0_t17_loop v58).trips), ∀ a, (k0_off361 v1_0 k0_t13 k0_t16) a + S1x256x256.size a ≤ S10x1024x2048.size a) ∧
  (∀ (k0_t16 : Fin k0_t16_loop.trips) (k0_t17 : Fin (k0_t17_loop v58).trips), ∀ a, (k0_off362 v1_0 k0_t13 k0_t16) a + S1x256x256.size a ≤ S10x1024x2048.size a) ∧
  (∀ (k0_t16 : Fin k0_t16_loop.trips) (k0_t17 : Fin (k0_t17_loop v58).trips), ∀ a, (k0_off363 v1_0 k0_t13 k0_t16) a + S1x256x256.size a ≤ S10x1024x2048.size a) ∧
  (∀ (k0_t16 : Fin k0_t16_loop.trips) (k0_t17 : Fin (k0_t17_loop v58).trips), ∀ a, (k0_off364 v1_0 k0_t13 k0_t16) a + S1x32x256.size a ≤ S10x32x2048.size a) ∧
  (∀ k0_t17 : Fin (k0_t17_loop v58).trips, ∀ a, (k0_off365 v58 k0_t17) a + S128x256.size a ≤ S256x2048.size a) ∧
  (∀ (k0_t16 : Fin k0_t16_loop.trips) (k0_t17 : Fin (k0_t17_loop v58).trips), ∀ a, (k0_off366 v1_0 k0_t13 k0_t16) a + S1x256x256.size a ≤ S10x1024x2048.size a) ∧
  (∀ (k0_t16 : Fin k0_t16_loop.trips) (k0_t17 : Fin (k0_t17_loop v58).trips), ∀ a, (k0_off367 v1_0 k0_t13 k0_t16) a + S1x256x256.size a ≤ S10x1024x2048.size a) ∧
  (∀ (k0_t16 : Fin k0_t16_loop.trips) (k0_t17 : Fin (k0_t17_loop v58).trips), ∀ a, (k0_off368 v1_0 k0_t13 k0_t16) a + S1x256x256.size a ≤ S10x1024x2048.size a)
def k0_chk10_1 (v1_0 : BitVec 32) (k0_t13 : Fin (k0_t13_loop v1_0).trips) (v56 : BitVec 32) (v58 : BitVec 32) : Prop :=
  (∀ (k0_t16 : Fin k0_t16_loop.trips) (k0_t17 : Fin (k0_t17_loop v58).trips), ∀ a, (k0_off369 v1_0 k0_t13 k0_t16) a + S1x256x256.size a ≤ S10x1024x2048.size a) ∧
  (∀ (k0_t16 : Fin k0_t16_loop.trips) (k0_t17 : Fin (k0_t17_loop v58).trips), ∀ a, (k0_off370 v1_0 k0_t13 k0_t16) a + S1x32x256.size a ≤ S10x32x2048.size a) ∧
  (∀ k0_t17 : Fin (k0_t17_loop v58).trips, ∀ a, (k0_off371 v58 k0_t17) a + S128x256.size a ≤ S256x2048.size a) ∧
  (∀ (k0_t16 : Fin k0_t16_loop.trips) (k0_t17 : Fin (k0_t17_loop v58).trips), ∀ a, (k0_off372 v1_0 k0_t13 k0_t16) a + S1x256x256.size a ≤ S10x1024x2048.size a) ∧
  (∀ (k0_t16 : Fin k0_t16_loop.trips) (k0_t17 : Fin (k0_t17_loop v58).trips), ∀ a, (k0_off373 v1_0 k0_t13 k0_t16) a + S1x256x256.size a ≤ S10x1024x2048.size a) ∧
  (∀ (k0_t16 : Fin k0_t16_loop.trips) (k0_t17 : Fin (k0_t17_loop v58).trips), ∀ a, (k0_off374 v1_0 k0_t13 k0_t16) a + S1x256x256.size a ≤ S10x1024x2048.size a) ∧
  (∀ (k0_t16 : Fin k0_t16_loop.trips) (k0_t17 : Fin (k0_t17_loop v58).trips), ∀ a, (k0_off375 v1_0 k0_t13 k0_t16) a + S1x256x256.size a ≤ S10x1024x2048.size a) ∧
  (∀ (k0_t16 : Fin k0_t16_loop.trips) (k0_t17 : Fin (k0_t17_loop v58).trips), ∀ a, (k0_off376 v1_0 k0_t13 k0_t16) a + S1x32x256.size a ≤ S10x32x2048.size a) ∧
  (∀ k0_t17 : Fin (k0_t17_loop v58).trips, ∀ a, (k0_off377 v58 k0_t17) a + S128x256.size a ≤ S256x2048.size a) ∧
  (∀ (k0_t16 : Fin k0_t16_loop.trips) (k0_t17 : Fin (k0_t17_loop v58).trips), ∀ a, (k0_off378 v1_0 k0_t13 k0_t16) a + S1x256x256.size a ≤ S10x1024x2048.size a) ∧
  (∀ (k0_t16 : Fin k0_t16_loop.trips) (k0_t17 : Fin (k0_t17_loop v58).trips), ∀ a, (k0_off379 v1_0 k0_t13 k0_t16) a + S1x256x256.size a ≤ S10x1024x2048.size a) ∧
  (∀ (k0_t16 : Fin k0_t16_loop.trips) (k0_t17 : Fin (k0_t17_loop v58).trips), ∀ a, (k0_off380 v1_0 k0_t13 k0_t16) a + S1x256x256.size a ≤ S10x1024x2048.size a) ∧
  (∀ (k0_t16 : Fin k0_t16_loop.trips) (k0_t17 : Fin (k0_t17_loop v58).trips), ∀ a, (k0_off381 v1_0 k0_t13 k0_t16) a + S1x256x256.size a ≤ S10x1024x2048.size a) ∧
  (∀ (k0_t16 : Fin k0_t16_loop.trips) (k0_t17 : Fin (k0_t17_loop v58).trips), ∀ a, (k0_off382 v1_0 k0_t13 k0_t16) a + S1x32x256.size a ≤ S10x32x2048.size a) ∧
  (∀ k0_t17 : Fin (k0_t17_loop v58).trips, ∀ a, (k0_off383 v58 k0_t17) a + S128x256.size a ≤ S256x2048.size a) ∧
  (∀ (k0_t16 : Fin k0_t16_loop.trips) (k0_t17 : Fin (k0_t17_loop v58).trips), ∀ a, (k0_off384 v1_0 k0_t13 k0_t16) a + S1x256x256.size a ≤ S10x1024x2048.size a) ∧
  (∀ (k0_t16 : Fin k0_t16_loop.trips) (k0_t17 : Fin (k0_t17_loop v58).trips), ∀ a, (k0_off385 v1_0 k0_t13 k0_t16) a + S1x256x256.size a ≤ S10x1024x2048.size a) ∧
  (∀ (k0_t16 : Fin k0_t16_loop.trips) (k0_t17 : Fin (k0_t17_loop v58).trips), ∀ a, (k0_off386 v1_0 k0_t13 k0_t16) a + S1x256x256.size a ≤ S10x1024x2048.size a) ∧
  (∀ (k0_t16 : Fin k0_t16_loop.trips) (k0_t17 : Fin (k0_t17_loop v58).trips), ∀ a, (k0_off387 v1_0 k0_t13 k0_t16) a + S1x256x256.size a ≤ S10x1024x2048.size a) ∧
  (∀ (k0_t16 : Fin k0_t16_loop.trips) (k0_t17 : Fin (k0_t17_loop v58).trips), ∀ a, (k0_off388 v1_0 k0_t13 k0_t16) a + S1x32x256.size a ≤ S10x32x2048.size a) ∧
  (∀ k0_t17 : Fin (k0_t17_loop v58).trips, ∀ a, (k0_off389 v58 k0_t17) a + S128x256.size a ≤ S256x2048.size a) ∧
  (∀ (k0_t16 : Fin k0_t16_loop.trips) (k0_t17 : Fin (k0_t17_loop v58).trips), ∀ a, (k0_off390 v1_0 k0_t13 k0_t16) a + S1x256x256.size a ≤ S10x1024x2048.size a) ∧
  (∀ (k0_t16 : Fin k0_t16_loop.trips) (k0_t17 : Fin (k0_t17_loop v58).trips), ∀ a, (k0_off391 v1_0 k0_t13 k0_t16) a + S1x256x256.size a ≤ S10x1024x2048.size a) ∧
  (∀ (k0_t16 : Fin k0_t16_loop.trips) (k0_t17 : Fin (k0_t17_loop v58).trips), ∀ a, (k0_off392 v1_0 k0_t13 k0_t16) a + S1x256x256.size a ≤ S10x1024x2048.size a) ∧
  (∀ (k0_t16 : Fin k0_t16_loop.trips) (k0_t17 : Fin (k0_t17_loop v58).trips), ∀ a, (k0_off393 v1_0 k0_t13 k0_t16) a + S1x256x256.size a ≤ S10x1024x2048.size a) ∧
  ((k0_t18_loop v58).OK) ∧
  (∀ (k0_t16 : Fin k0_t16_loop.trips) (k0_t18 : Fin (k0_t18_loop v58).trips), ∀ (r₁ : Fin 16) (r₂ : Fin 4), ∀ a, (k0_off394 v56 v58 k0_t16 k0_t18 (BitVec.ofNat 32 r₁.val) (BitVec.ofNat 32 (256 * r₂.val))) a + S1x256.size a ≤ S32x7168.size a) ∧
  (∀ k0_t18 : Fin (k0_t18_loop v58).trips, 8 ∣ (k0_mult401 v58 k0_t18).toNat) ∧
  (∀ (k0_t16 : Fin k0_t16_loop.trips) (k0_t18 : Fin (k0_t18_loop v58).trips), ∀ a, (k0_off395 v1_0 k0_t13 k0_t16) a + S1x32x256.size a ≤ S10x32x2048.size a) ∧
  (∀ k0_t18 : Fin (k0_t18_loop v58).trips, ∀ a, (k0_off396 v58 k0_t18) a + S128x256.size a ≤ S256x2048.size a) ∧
  (∀ (k0_t16 : Fin k0_t16_loop.trips) (k0_t18 : Fin (k0_t18_loop v58).trips), ∀ a, (k0_off397 v1_0 k0_t13 k0_t16) a + S1x256x256.size a ≤ S10x1024x2048.size a) ∧
  (∀ (k0_t16 : Fin k0_t16_loop.trips) (k0_t18 : Fin (k0_t18_loop v58).trips), ∀ a, (k0_off398 v1_0 k0_t13 k0_t16) a + S1x256x256.size a ≤ S10x1024x2048.size a)
def k0_chk10_2 (v1_0 : BitVec 32) (k0_t13 : Fin (k0_t13_loop v1_0).trips) (v56 : BitVec 32) (v58 : BitVec 32) : Prop :=
  (∀ (k0_t16 : Fin k0_t16_loop.trips) (k0_t18 : Fin (k0_t18_loop v58).trips), ∀ a, (k0_off399 v1_0 k0_t13 k0_t16) a + S1x256x256.size a ≤ S10x1024x2048.size a) ∧
  (∀ (k0_t16 : Fin k0_t16_loop.trips) (k0_t18 : Fin (k0_t18_loop v58).trips), ∀ a, (k0_off400 v1_0 k0_t13 k0_t16) a + S1x256x256.size a ≤ S10x1024x2048.size a) ∧
  (∀ (k0_t16 : Fin k0_t16_loop.trips) (k0_t18 : Fin (k0_t18_loop v58).trips), ∀ a, (k0_off401 v1_0 k0_t13 k0_t16) a + S1x32x256.size a ≤ S10x32x2048.size a) ∧
  (∀ k0_t18 : Fin (k0_t18_loop v58).trips, ∀ a, (k0_off402 v58 k0_t18) a + S128x256.size a ≤ S256x2048.size a) ∧
  (∀ (k0_t16 : Fin k0_t16_loop.trips) (k0_t18 : Fin (k0_t18_loop v58).trips), ∀ a, (k0_off403 v1_0 k0_t13 k0_t16) a + S1x256x256.size a ≤ S10x1024x2048.size a) ∧
  (∀ (k0_t16 : Fin k0_t16_loop.trips) (k0_t18 : Fin (k0_t18_loop v58).trips), ∀ a, (k0_off404 v1_0 k0_t13 k0_t16) a + S1x256x256.size a ≤ S10x1024x2048.size a) ∧
  (∀ (k0_t16 : Fin k0_t16_loop.trips) (k0_t18 : Fin (k0_t18_loop v58).trips), ∀ a, (k0_off405 v1_0 k0_t13 k0_t16) a + S1x256x256.size a ≤ S10x1024x2048.size a) ∧
  (∀ (k0_t16 : Fin k0_t16_loop.trips) (k0_t18 : Fin (k0_t18_loop v58).trips), ∀ a, (k0_off406 v1_0 k0_t13 k0_t16) a + S1x256x256.size a ≤ S10x1024x2048.size a) ∧
  (∀ (k0_t16 : Fin k0_t16_loop.trips) (k0_t18 : Fin (k0_t18_loop v58).trips), ∀ a, (k0_off407 v1_0 k0_t13 k0_t16) a + S1x32x256.size a ≤ S10x32x2048.size a) ∧
  (∀ k0_t18 : Fin (k0_t18_loop v58).trips, ∀ a, (k0_off408 v58 k0_t18) a + S128x256.size a ≤ S256x2048.size a) ∧
  (∀ (k0_t16 : Fin k0_t16_loop.trips) (k0_t18 : Fin (k0_t18_loop v58).trips), ∀ a, (k0_off409 v1_0 k0_t13 k0_t16) a + S1x256x256.size a ≤ S10x1024x2048.size a) ∧
  (∀ (k0_t16 : Fin k0_t16_loop.trips) (k0_t18 : Fin (k0_t18_loop v58).trips), ∀ a, (k0_off410 v1_0 k0_t13 k0_t16) a + S1x256x256.size a ≤ S10x1024x2048.size a) ∧
  (∀ (k0_t16 : Fin k0_t16_loop.trips) (k0_t18 : Fin (k0_t18_loop v58).trips), ∀ a, (k0_off411 v1_0 k0_t13 k0_t16) a + S1x256x256.size a ≤ S10x1024x2048.size a) ∧
  (∀ (k0_t16 : Fin k0_t16_loop.trips) (k0_t18 : Fin (k0_t18_loop v58).trips), ∀ a, (k0_off412 v1_0 k0_t13 k0_t16) a + S1x256x256.size a ≤ S10x1024x2048.size a) ∧
  (∀ (k0_t16 : Fin k0_t16_loop.trips) (k0_t18 : Fin (k0_t18_loop v58).trips), ∀ a, (k0_off413 v1_0 k0_t13 k0_t16) a + S1x32x256.size a ≤ S10x32x2048.size a) ∧
  (∀ k0_t18 : Fin (k0_t18_loop v58).trips, ∀ a, (k0_off414 v58 k0_t18) a + S128x256.size a ≤ S256x2048.size a) ∧
  (∀ (k0_t16 : Fin k0_t16_loop.trips) (k0_t18 : Fin (k0_t18_loop v58).trips), ∀ a, (k0_off415 v1_0 k0_t13 k0_t16) a + S1x256x256.size a ≤ S10x1024x2048.size a) ∧
  (∀ (k0_t16 : Fin k0_t16_loop.trips) (k0_t18 : Fin (k0_t18_loop v58).trips), ∀ a, (k0_off416 v1_0 k0_t13 k0_t16) a + S1x256x256.size a ≤ S10x1024x2048.size a) ∧
  (∀ (k0_t16 : Fin k0_t16_loop.trips) (k0_t18 : Fin (k0_t18_loop v58).trips), ∀ a, (k0_off417 v1_0 k0_t13 k0_t16) a + S1x256x256.size a ≤ S10x1024x2048.size a) ∧
  (∀ (k0_t16 : Fin k0_t16_loop.trips) (k0_t18 : Fin (k0_t18_loop v58).trips), ∀ a, (k0_off418 v1_0 k0_t13 k0_t16) a + S1x256x256.size a ≤ S10x1024x2048.size a) ∧
  (∀ (k0_t16 : Fin k0_t16_loop.trips) (k0_t18 : Fin (k0_t18_loop v58).trips), ∀ a, (k0_off419 v1_0 k0_t13 k0_t16) a + S1x32x256.size a ≤ S10x32x2048.size a) ∧
  (∀ k0_t18 : Fin (k0_t18_loop v58).trips, ∀ a, (k0_off420 v58 k0_t18) a + S128x256.size a ≤ S256x2048.size a) ∧
  (∀ (k0_t16 : Fin k0_t16_loop.trips) (k0_t18 : Fin (k0_t18_loop v58).trips), ∀ a, (k0_off421 v1_0 k0_t13 k0_t16) a + S1x256x256.size a ≤ S10x1024x2048.size a) ∧
  (∀ (k0_t16 : Fin k0_t16_loop.trips) (k0_t18 : Fin (k0_t18_loop v58).trips), ∀ a, (k0_off422 v1_0 k0_t13 k0_t16) a + S1x256x256.size a ≤ S10x1024x2048.size a) ∧
  (∀ (k0_t16 : Fin k0_t16_loop.trips) (k0_t18 : Fin (k0_t18_loop v58).trips), ∀ a, (k0_off423 v1_0 k0_t13 k0_t16) a + S1x256x256.size a ≤ S10x1024x2048.size a) ∧
  (∀ (k0_t16 : Fin k0_t16_loop.trips) (k0_t18 : Fin (k0_t18_loop v58).trips), ∀ a, (k0_off424 v1_0 k0_t13 k0_t16) a + S1x256x256.size a ≤ S10x1024x2048.size a) ∧
  (∀ (k0_t16 : Fin k0_t16_loop.trips) (k0_t18 : Fin (k0_t18_loop v58).trips), ∀ a, (k0_off425 v1_0 k0_t13 k0_t16) a + S1x32x256.size a ≤ S10x32x2048.size a) ∧
  (∀ k0_t18 : Fin (k0_t18_loop v58).trips, ∀ a, (k0_off426 v58 k0_t18) a + S128x256.size a ≤ S256x2048.size a) ∧
  (∀ (k0_t16 : Fin k0_t16_loop.trips) (k0_t18 : Fin (k0_t18_loop v58).trips), ∀ a, (k0_off427 v1_0 k0_t13 k0_t16) a + S1x256x256.size a ≤ S10x1024x2048.size a) ∧
  (∀ (k0_t16 : Fin k0_t16_loop.trips) (k0_t18 : Fin (k0_t18_loop v58).trips), ∀ a, (k0_off428 v1_0 k0_t13 k0_t16) a + S1x256x256.size a ≤ S10x1024x2048.size a) ∧
  (∀ (k0_t16 : Fin k0_t16_loop.trips) (k0_t18 : Fin (k0_t18_loop v58).trips), ∀ a, (k0_off429 v1_0 k0_t13 k0_t16) a + S1x256x256.size a ≤ S10x1024x2048.size a) ∧
  (∀ (k0_t16 : Fin k0_t16_loop.trips) (k0_t18 : Fin (k0_t18_loop v58).trips), ∀ a, (k0_off430 v1_0 k0_t13 k0_t16) a + S1x256x256.size a ≤ S10x1024x2048.size a)
def k0_chk10_3 (v1_0 : BitVec 32) (k0_t13 : Fin (k0_t13_loop v1_0).trips) (v56 : BitVec 32) (v58 : BitVec 32) : Prop :=
  (∀ (k0_t16 : Fin k0_t16_loop.trips) (k0_t18 : Fin (k0_t18_loop v58).trips), ∀ a, (k0_off431 v1_0 k0_t13 k0_t16) a + S1x32x256.size a ≤ S10x32x2048.size a) ∧
  (∀ k0_t18 : Fin (k0_t18_loop v58).trips, ∀ a, (k0_off432 v58 k0_t18) a + S128x256.size a ≤ S256x2048.size a) ∧
  (∀ (k0_t16 : Fin k0_t16_loop.trips) (k0_t18 : Fin (k0_t18_loop v58).trips), ∀ a, (k0_off433 v1_0 k0_t13 k0_t16) a + S1x256x256.size a ≤ S10x1024x2048.size a) ∧
  (∀ (k0_t16 : Fin k0_t16_loop.trips) (k0_t18 : Fin (k0_t18_loop v58).trips), ∀ a, (k0_off434 v1_0 k0_t13 k0_t16) a + S1x256x256.size a ≤ S10x1024x2048.size a) ∧
  (∀ (k0_t16 : Fin k0_t16_loop.trips) (k0_t18 : Fin (k0_t18_loop v58).trips), ∀ a, (k0_off435 v1_0 k0_t13 k0_t16) a + S1x256x256.size a ≤ S10x1024x2048.size a) ∧
  (∀ (k0_t16 : Fin k0_t16_loop.trips) (k0_t18 : Fin (k0_t18_loop v58).trips), ∀ a, (k0_off436 v1_0 k0_t13 k0_t16) a + S1x256x256.size a ≤ S10x1024x2048.size a) ∧
  (∀ (k0_t16 : Fin k0_t16_loop.trips) (k0_t18 : Fin (k0_t18_loop v58).trips), ∀ a, (k0_off437 v1_0 k0_t13 k0_t16) a + S1x32x256.size a ≤ S10x32x2048.size a) ∧
  (∀ k0_t18 : Fin (k0_t18_loop v58).trips, ∀ a, (k0_off438 v58 k0_t18) a + S128x256.size a ≤ S256x2048.size a) ∧
  (∀ (k0_t16 : Fin k0_t16_loop.trips) (k0_t18 : Fin (k0_t18_loop v58).trips), ∀ a, (k0_off439 v1_0 k0_t13 k0_t16) a + S1x256x256.size a ≤ S10x1024x2048.size a) ∧
  (∀ (k0_t16 : Fin k0_t16_loop.trips) (k0_t18 : Fin (k0_t18_loop v58).trips), ∀ a, (k0_off440 v1_0 k0_t13 k0_t16) a + S1x256x256.size a ≤ S10x1024x2048.size a) ∧
  (∀ (k0_t16 : Fin k0_t16_loop.trips) (k0_t18 : Fin (k0_t18_loop v58).trips), ∀ a, (k0_off441 v1_0 k0_t13 k0_t16) a + S1x256x256.size a ≤ S10x1024x2048.size a) ∧
  (∀ (k0_t16 : Fin k0_t16_loop.trips) (k0_t18 : Fin (k0_t18_loop v58).trips), ∀ a, (k0_off442 v1_0 k0_t13 k0_t16) a + S1x256x256.size a ≤ S10x1024x2048.size a) ∧
  (∀ k0_t16 : Fin k0_t16_loop.trips, ∀ (k0_h6 : k0_cond6 v58 = 1#1), ∀ (r₁ : Fin 2) (r₂ : Fin 4), ∀ a, (k0_off443 v56 v58 k0_t16 (BitVec.ofNat 32 r₁.val) (BitVec.ofNat 32 (256 * r₂.val))) a + S1x256.size a ≤ S32x7168.size a) ∧
  (∀ (k0_h6 : k0_cond6 v58 = 1#1), 8 ∣ (k0_mult410 v58).toNat) ∧
  (∀ k0_t16 : Fin k0_t16_loop.trips, ∀ (k0_h6 : k0_cond6 v58 = 1#1), ∀ a, (k0_off444 v1_0 k0_t13 k0_t16) a + S1x32x256.size a ≤ S10x32x2048.size a) ∧
  (∀ (k0_h6 : k0_cond6 v58 = 1#1), ∀ a, (k0_off445 v58) a + S16x256.size a ≤ S256x2048.size a) ∧
  (∀ k0_t16 : Fin k0_t16_loop.trips, ∀ (k0_h6 : k0_cond6 v58 = 1#1), ∀ a, (k0_off446 v1_0 k0_t13 k0_t16) a + S1x256x256.size a ≤ S10x1024x2048.size a) ∧
  (∀ k0_t16 : Fin k0_t16_loop.trips, ∀ (k0_h6 : k0_cond6 v58 = 1#1), ∀ a, (k0_off447 v1_0 k0_t13 k0_t16) a + S1x256x256.size a ≤ S10x1024x2048.size a) ∧
  (∀ k0_t16 : Fin k0_t16_loop.trips, ∀ (k0_h6 : k0_cond6 v58 = 1#1), ∀ a, (k0_off448 v1_0 k0_t13 k0_t16) a + S1x256x256.size a ≤ S10x1024x2048.size a) ∧
  (∀ k0_t16 : Fin k0_t16_loop.trips, ∀ (k0_h6 : k0_cond6 v58 = 1#1), ∀ a, (k0_off449 v1_0 k0_t13 k0_t16) a + S1x256x256.size a ≤ S10x1024x2048.size a) ∧
  (∀ k0_t16 : Fin k0_t16_loop.trips, ∀ (k0_h6 : k0_cond6 v58 = 1#1), ∀ a, (k0_off450 v1_0 k0_t13 k0_t16) a + S1x32x256.size a ≤ S10x32x2048.size a) ∧
  (∀ (k0_h6 : k0_cond6 v58 = 1#1), ∀ a, (k0_off451 v58) a + S16x256.size a ≤ S256x2048.size a) ∧
  (∀ k0_t16 : Fin k0_t16_loop.trips, ∀ (k0_h6 : k0_cond6 v58 = 1#1), ∀ a, (k0_off452 v1_0 k0_t13 k0_t16) a + S1x256x256.size a ≤ S10x1024x2048.size a) ∧
  (∀ k0_t16 : Fin k0_t16_loop.trips, ∀ (k0_h6 : k0_cond6 v58 = 1#1), ∀ a, (k0_off453 v1_0 k0_t13 k0_t16) a + S1x256x256.size a ≤ S10x1024x2048.size a) ∧
  (∀ k0_t16 : Fin k0_t16_loop.trips, ∀ (k0_h6 : k0_cond6 v58 = 1#1), ∀ a, (k0_off454 v1_0 k0_t13 k0_t16) a + S1x256x256.size a ≤ S10x1024x2048.size a) ∧
  (∀ k0_t16 : Fin k0_t16_loop.trips, ∀ (k0_h6 : k0_cond6 v58 = 1#1), ∀ a, (k0_off455 v1_0 k0_t13 k0_t16) a + S1x256x256.size a ≤ S10x1024x2048.size a) ∧
  (∀ k0_t16 : Fin k0_t16_loop.trips, ∀ (k0_h6 : k0_cond6 v58 = 1#1), ∀ a, (k0_off456 v1_0 k0_t13 k0_t16) a + S1x32x256.size a ≤ S10x32x2048.size a) ∧
  (∀ (k0_h6 : k0_cond6 v58 = 1#1), ∀ a, (k0_off457 v58) a + S16x256.size a ≤ S256x2048.size a) ∧
  (∀ k0_t16 : Fin k0_t16_loop.trips, ∀ (k0_h6 : k0_cond6 v58 = 1#1), ∀ a, (k0_off458 v1_0 k0_t13 k0_t16) a + S1x256x256.size a ≤ S10x1024x2048.size a) ∧
  (∀ k0_t16 : Fin k0_t16_loop.trips, ∀ (k0_h6 : k0_cond6 v58 = 1#1), ∀ a, (k0_off459 v1_0 k0_t13 k0_t16) a + S1x256x256.size a ≤ S10x1024x2048.size a) ∧
  (∀ k0_t16 : Fin k0_t16_loop.trips, ∀ (k0_h6 : k0_cond6 v58 = 1#1), ∀ a, (k0_off460 v1_0 k0_t13 k0_t16) a + S1x256x256.size a ≤ S10x1024x2048.size a) ∧
  (∀ k0_t16 : Fin k0_t16_loop.trips, ∀ (k0_h6 : k0_cond6 v58 = 1#1), ∀ a, (k0_off461 v1_0 k0_t13 k0_t16) a + S1x256x256.size a ≤ S10x1024x2048.size a)
def k0_chk10_4 (v1_0 : BitVec 32) (k0_t13 : Fin (k0_t13_loop v1_0).trips) (v56 : BitVec 32) (v58 : BitVec 32) : Prop :=
  (∀ k0_t16 : Fin k0_t16_loop.trips, ∀ (k0_h6 : k0_cond6 v58 = 1#1), ∀ a, (k0_off462 v1_0 k0_t13 k0_t16) a + S1x32x256.size a ≤ S10x32x2048.size a) ∧
  (∀ (k0_h6 : k0_cond6 v58 = 1#1), ∀ a, (k0_off463 v58) a + S16x256.size a ≤ S256x2048.size a) ∧
  (∀ k0_t16 : Fin k0_t16_loop.trips, ∀ (k0_h6 : k0_cond6 v58 = 1#1), ∀ a, (k0_off464 v1_0 k0_t13 k0_t16) a + S1x256x256.size a ≤ S10x1024x2048.size a) ∧
  (∀ k0_t16 : Fin k0_t16_loop.trips, ∀ (k0_h6 : k0_cond6 v58 = 1#1), ∀ a, (k0_off465 v1_0 k0_t13 k0_t16) a + S1x256x256.size a ≤ S10x1024x2048.size a) ∧
  (∀ k0_t16 : Fin k0_t16_loop.trips, ∀ (k0_h6 : k0_cond6 v58 = 1#1), ∀ a, (k0_off466 v1_0 k0_t13 k0_t16) a + S1x256x256.size a ≤ S10x1024x2048.size a) ∧
  (∀ k0_t16 : Fin k0_t16_loop.trips, ∀ (k0_h6 : k0_cond6 v58 = 1#1), ∀ a, (k0_off467 v1_0 k0_t13 k0_t16) a + S1x256x256.size a ≤ S10x1024x2048.size a) ∧
  (∀ k0_t16 : Fin k0_t16_loop.trips, ∀ (k0_h6 : k0_cond6 v58 = 1#1), ∀ a, (k0_off468 v1_0 k0_t13 k0_t16) a + S1x32x256.size a ≤ S10x32x2048.size a) ∧
  (∀ (k0_h6 : k0_cond6 v58 = 1#1), ∀ a, (k0_off469 v58) a + S16x256.size a ≤ S256x2048.size a) ∧
  (∀ k0_t16 : Fin k0_t16_loop.trips, ∀ (k0_h6 : k0_cond6 v58 = 1#1), ∀ a, (k0_off470 v1_0 k0_t13 k0_t16) a + S1x256x256.size a ≤ S10x1024x2048.size a) ∧
  (∀ k0_t16 : Fin k0_t16_loop.trips, ∀ (k0_h6 : k0_cond6 v58 = 1#1), ∀ a, (k0_off471 v1_0 k0_t13 k0_t16) a + S1x256x256.size a ≤ S10x1024x2048.size a) ∧
  (∀ k0_t16 : Fin k0_t16_loop.trips, ∀ (k0_h6 : k0_cond6 v58 = 1#1), ∀ a, (k0_off472 v1_0 k0_t13 k0_t16) a + S1x256x256.size a ≤ S10x1024x2048.size a) ∧
  (∀ k0_t16 : Fin k0_t16_loop.trips, ∀ (k0_h6 : k0_cond6 v58 = 1#1), ∀ a, (k0_off473 v1_0 k0_t13 k0_t16) a + S1x256x256.size a ≤ S10x1024x2048.size a) ∧
  (∀ k0_t16 : Fin k0_t16_loop.trips, ∀ (k0_h6 : k0_cond6 v58 = 1#1), ∀ a, (k0_off474 v1_0 k0_t13 k0_t16) a + S1x32x256.size a ≤ S10x32x2048.size a) ∧
  (∀ (k0_h6 : k0_cond6 v58 = 1#1), ∀ a, (k0_off475 v58) a + S16x256.size a ≤ S256x2048.size a) ∧
  (∀ k0_t16 : Fin k0_t16_loop.trips, ∀ (k0_h6 : k0_cond6 v58 = 1#1), ∀ a, (k0_off476 v1_0 k0_t13 k0_t16) a + S1x256x256.size a ≤ S10x1024x2048.size a) ∧
  (∀ k0_t16 : Fin k0_t16_loop.trips, ∀ (k0_h6 : k0_cond6 v58 = 1#1), ∀ a, (k0_off477 v1_0 k0_t13 k0_t16) a + S1x256x256.size a ≤ S10x1024x2048.size a) ∧
  (∀ k0_t16 : Fin k0_t16_loop.trips, ∀ (k0_h6 : k0_cond6 v58 = 1#1), ∀ a, (k0_off478 v1_0 k0_t13 k0_t16) a + S1x256x256.size a ≤ S10x1024x2048.size a) ∧
  (∀ k0_t16 : Fin k0_t16_loop.trips, ∀ (k0_h6 : k0_cond6 v58 = 1#1), ∀ a, (k0_off479 v1_0 k0_t13 k0_t16) a + S1x256x256.size a ≤ S10x1024x2048.size a) ∧
  (∀ k0_t16 : Fin k0_t16_loop.trips, ∀ (k0_h6 : k0_cond6 v58 = 1#1), ∀ a, (k0_off480 v1_0 k0_t13 k0_t16) a + S1x32x256.size a ≤ S10x32x2048.size a) ∧
  (∀ (k0_h6 : k0_cond6 v58 = 1#1), ∀ a, (k0_off481 v58) a + S16x256.size a ≤ S256x2048.size a) ∧
  (∀ k0_t16 : Fin k0_t16_loop.trips, ∀ (k0_h6 : k0_cond6 v58 = 1#1), ∀ a, (k0_off482 v1_0 k0_t13 k0_t16) a + S1x256x256.size a ≤ S10x1024x2048.size a) ∧
  (∀ k0_t16 : Fin k0_t16_loop.trips, ∀ (k0_h6 : k0_cond6 v58 = 1#1), ∀ a, (k0_off483 v1_0 k0_t13 k0_t16) a + S1x256x256.size a ≤ S10x1024x2048.size a) ∧
  (∀ k0_t16 : Fin k0_t16_loop.trips, ∀ (k0_h6 : k0_cond6 v58 = 1#1), ∀ a, (k0_off484 v1_0 k0_t13 k0_t16) a + S1x256x256.size a ≤ S10x1024x2048.size a) ∧
  (∀ k0_t16 : Fin k0_t16_loop.trips, ∀ (k0_h6 : k0_cond6 v58 = 1#1), ∀ a, (k0_off485 v1_0 k0_t13 k0_t16) a + S1x256x256.size a ≤ S10x1024x2048.size a) ∧
  (∀ k0_t16 : Fin k0_t16_loop.trips, ∀ (k0_h6 : k0_cond6 v58 = 1#1), ∀ a, (k0_off486 v1_0 k0_t13 k0_t16) a + S1x32x256.size a ≤ S10x32x2048.size a) ∧
  (∀ (k0_h6 : k0_cond6 v58 = 1#1), ∀ a, (k0_off487 v58) a + S16x256.size a ≤ S256x2048.size a) ∧
  (∀ k0_t16 : Fin k0_t16_loop.trips, ∀ (k0_h6 : k0_cond6 v58 = 1#1), ∀ a, (k0_off488 v1_0 k0_t13 k0_t16) a + S1x256x256.size a ≤ S10x1024x2048.size a) ∧
  (∀ k0_t16 : Fin k0_t16_loop.trips, ∀ (k0_h6 : k0_cond6 v58 = 1#1), ∀ a, (k0_off489 v1_0 k0_t13 k0_t16) a + S1x256x256.size a ≤ S10x1024x2048.size a) ∧
  (∀ k0_t16 : Fin k0_t16_loop.trips, ∀ (k0_h6 : k0_cond6 v58 = 1#1), ∀ a, (k0_off490 v1_0 k0_t13 k0_t16) a + S1x256x256.size a ≤ S10x1024x2048.size a) ∧
  (∀ k0_t16 : Fin k0_t16_loop.trips, ∀ (k0_h6 : k0_cond6 v58 = 1#1), ∀ a, (k0_off491 v1_0 k0_t13 k0_t16) a + S1x256x256.size a ≤ S10x1024x2048.size a) ∧
  (∀ k0_t16 : Fin k0_t16_loop.trips, ∀ (k0_h7 : k0_cond7 v58 = 1#1), ∀ (r₁ : Fin 4) (r₂ : Fin 4), ∀ a, (k0_off492 v56 v58 k0_t16 (BitVec.ofNat 32 r₁.val) (BitVec.ofNat 32 (256 * r₂.val))) a + S1x256.size a ≤ S32x7168.size a) ∧
  (∀ (k0_h7 : k0_cond7 v58 = 1#1), 8 ∣ (k0_mult427 v58).toNat)
def k0_chk10_5 (v1_0 : BitVec 32) (k0_t13 : Fin (k0_t13_loop v1_0).trips) (v56 : BitVec 32) (v58 : BitVec 32) : Prop :=
  (∀ k0_t16 : Fin k0_t16_loop.trips, ∀ (k0_h7 : k0_cond7 v58 = 1#1), ∀ a, (k0_off493 v1_0 k0_t13 k0_t16) a + S1x32x256.size a ≤ S10x32x2048.size a) ∧
  (∀ (k0_h7 : k0_cond7 v58 = 1#1), ∀ a, (k0_off494 v58) a + S32x256.size a ≤ S256x2048.size a) ∧
  (∀ k0_t16 : Fin k0_t16_loop.trips, ∀ (k0_h7 : k0_cond7 v58 = 1#1), ∀ a, (k0_off495 v1_0 k0_t13 k0_t16) a + S1x256x256.size a ≤ S10x1024x2048.size a) ∧
  (∀ k0_t16 : Fin k0_t16_loop.trips, ∀ (k0_h7 : k0_cond7 v58 = 1#1), ∀ a, (k0_off496 v1_0 k0_t13 k0_t16) a + S1x256x256.size a ≤ S10x1024x2048.size a) ∧
  (∀ k0_t16 : Fin k0_t16_loop.trips, ∀ (k0_h7 : k0_cond7 v58 = 1#1), ∀ a, (k0_off497 v1_0 k0_t13 k0_t16) a + S1x256x256.size a ≤ S10x1024x2048.size a) ∧
  (∀ k0_t16 : Fin k0_t16_loop.trips, ∀ (k0_h7 : k0_cond7 v58 = 1#1), ∀ a, (k0_off498 v1_0 k0_t13 k0_t16) a + S1x256x256.size a ≤ S10x1024x2048.size a) ∧
  (∀ k0_t16 : Fin k0_t16_loop.trips, ∀ (k0_h7 : k0_cond7 v58 = 1#1), ∀ a, (k0_off499 v1_0 k0_t13 k0_t16) a + S1x32x256.size a ≤ S10x32x2048.size a) ∧
  (∀ (k0_h7 : k0_cond7 v58 = 1#1), ∀ a, (k0_off500 v58) a + S32x256.size a ≤ S256x2048.size a) ∧
  (∀ k0_t16 : Fin k0_t16_loop.trips, ∀ (k0_h7 : k0_cond7 v58 = 1#1), ∀ a, (k0_off501 v1_0 k0_t13 k0_t16) a + S1x256x256.size a ≤ S10x1024x2048.size a) ∧
  (∀ k0_t16 : Fin k0_t16_loop.trips, ∀ (k0_h7 : k0_cond7 v58 = 1#1), ∀ a, (k0_off502 v1_0 k0_t13 k0_t16) a + S1x256x256.size a ≤ S10x1024x2048.size a) ∧
  (∀ k0_t16 : Fin k0_t16_loop.trips, ∀ (k0_h7 : k0_cond7 v58 = 1#1), ∀ a, (k0_off503 v1_0 k0_t13 k0_t16) a + S1x256x256.size a ≤ S10x1024x2048.size a) ∧
  (∀ k0_t16 : Fin k0_t16_loop.trips, ∀ (k0_h7 : k0_cond7 v58 = 1#1), ∀ a, (k0_off504 v1_0 k0_t13 k0_t16) a + S1x256x256.size a ≤ S10x1024x2048.size a) ∧
  (∀ k0_t16 : Fin k0_t16_loop.trips, ∀ (k0_h7 : k0_cond7 v58 = 1#1), ∀ a, (k0_off505 v1_0 k0_t13 k0_t16) a + S1x32x256.size a ≤ S10x32x2048.size a) ∧
  (∀ (k0_h7 : k0_cond7 v58 = 1#1), ∀ a, (k0_off506 v58) a + S32x256.size a ≤ S256x2048.size a) ∧
  (∀ k0_t16 : Fin k0_t16_loop.trips, ∀ (k0_h7 : k0_cond7 v58 = 1#1), ∀ a, (k0_off507 v1_0 k0_t13 k0_t16) a + S1x256x256.size a ≤ S10x1024x2048.size a) ∧
  (∀ k0_t16 : Fin k0_t16_loop.trips, ∀ (k0_h7 : k0_cond7 v58 = 1#1), ∀ a, (k0_off508 v1_0 k0_t13 k0_t16) a + S1x256x256.size a ≤ S10x1024x2048.size a) ∧
  (∀ k0_t16 : Fin k0_t16_loop.trips, ∀ (k0_h7 : k0_cond7 v58 = 1#1), ∀ a, (k0_off509 v1_0 k0_t13 k0_t16) a + S1x256x256.size a ≤ S10x1024x2048.size a) ∧
  (∀ k0_t16 : Fin k0_t16_loop.trips, ∀ (k0_h7 : k0_cond7 v58 = 1#1), ∀ a, (k0_off510 v1_0 k0_t13 k0_t16) a + S1x256x256.size a ≤ S10x1024x2048.size a) ∧
  (∀ k0_t16 : Fin k0_t16_loop.trips, ∀ (k0_h7 : k0_cond7 v58 = 1#1), ∀ a, (k0_off511 v1_0 k0_t13 k0_t16) a + S1x32x256.size a ≤ S10x32x2048.size a) ∧
  (∀ (k0_h7 : k0_cond7 v58 = 1#1), ∀ a, (k0_off512 v58) a + S32x256.size a ≤ S256x2048.size a) ∧
  (∀ k0_t16 : Fin k0_t16_loop.trips, ∀ (k0_h7 : k0_cond7 v58 = 1#1), ∀ a, (k0_off513 v1_0 k0_t13 k0_t16) a + S1x256x256.size a ≤ S10x1024x2048.size a) ∧
  (∀ k0_t16 : Fin k0_t16_loop.trips, ∀ (k0_h7 : k0_cond7 v58 = 1#1), ∀ a, (k0_off514 v1_0 k0_t13 k0_t16) a + S1x256x256.size a ≤ S10x1024x2048.size a) ∧
  (∀ k0_t16 : Fin k0_t16_loop.trips, ∀ (k0_h7 : k0_cond7 v58 = 1#1), ∀ a, (k0_off515 v1_0 k0_t13 k0_t16) a + S1x256x256.size a ≤ S10x1024x2048.size a) ∧
  (∀ k0_t16 : Fin k0_t16_loop.trips, ∀ (k0_h7 : k0_cond7 v58 = 1#1), ∀ a, (k0_off516 v1_0 k0_t13 k0_t16) a + S1x256x256.size a ≤ S10x1024x2048.size a) ∧
  (∀ k0_t16 : Fin k0_t16_loop.trips, ∀ (k0_h7 : k0_cond7 v58 = 1#1), ∀ a, (k0_off517 v1_0 k0_t13 k0_t16) a + S1x32x256.size a ≤ S10x32x2048.size a) ∧
  (∀ (k0_h7 : k0_cond7 v58 = 1#1), ∀ a, (k0_off518 v58) a + S32x256.size a ≤ S256x2048.size a) ∧
  (∀ k0_t16 : Fin k0_t16_loop.trips, ∀ (k0_h7 : k0_cond7 v58 = 1#1), ∀ a, (k0_off519 v1_0 k0_t13 k0_t16) a + S1x256x256.size a ≤ S10x1024x2048.size a) ∧
  (∀ k0_t16 : Fin k0_t16_loop.trips, ∀ (k0_h7 : k0_cond7 v58 = 1#1), ∀ a, (k0_off520 v1_0 k0_t13 k0_t16) a + S1x256x256.size a ≤ S10x1024x2048.size a) ∧
  (∀ k0_t16 : Fin k0_t16_loop.trips, ∀ (k0_h7 : k0_cond7 v58 = 1#1), ∀ a, (k0_off521 v1_0 k0_t13 k0_t16) a + S1x256x256.size a ≤ S10x1024x2048.size a) ∧
  (∀ k0_t16 : Fin k0_t16_loop.trips, ∀ (k0_h7 : k0_cond7 v58 = 1#1), ∀ a, (k0_off522 v1_0 k0_t13 k0_t16) a + S1x256x256.size a ≤ S10x1024x2048.size a) ∧
  (∀ k0_t16 : Fin k0_t16_loop.trips, ∀ (k0_h7 : k0_cond7 v58 = 1#1), ∀ a, (k0_off523 v1_0 k0_t13 k0_t16) a + S1x32x256.size a ≤ S10x32x2048.size a) ∧
  (∀ (k0_h7 : k0_cond7 v58 = 1#1), ∀ a, (k0_off524 v58) a + S32x256.size a ≤ S256x2048.size a)
def k0_chk10_6 (v1_0 : BitVec 32) (k0_t13 : Fin (k0_t13_loop v1_0).trips) (v56 : BitVec 32) (v58 : BitVec 32) : Prop :=
  (∀ k0_t16 : Fin k0_t16_loop.trips, ∀ (k0_h7 : k0_cond7 v58 = 1#1), ∀ a, (k0_off525 v1_0 k0_t13 k0_t16) a + S1x256x256.size a ≤ S10x1024x2048.size a) ∧
  (∀ k0_t16 : Fin k0_t16_loop.trips, ∀ (k0_h7 : k0_cond7 v58 = 1#1), ∀ a, (k0_off526 v1_0 k0_t13 k0_t16) a + S1x256x256.size a ≤ S10x1024x2048.size a) ∧
  (∀ k0_t16 : Fin k0_t16_loop.trips, ∀ (k0_h7 : k0_cond7 v58 = 1#1), ∀ a, (k0_off527 v1_0 k0_t13 k0_t16) a + S1x256x256.size a ≤ S10x1024x2048.size a) ∧
  (∀ k0_t16 : Fin k0_t16_loop.trips, ∀ (k0_h7 : k0_cond7 v58 = 1#1), ∀ a, (k0_off528 v1_0 k0_t13 k0_t16) a + S1x256x256.size a ≤ S10x1024x2048.size a) ∧
  (∀ k0_t16 : Fin k0_t16_loop.trips, ∀ (k0_h7 : k0_cond7 v58 = 1#1), ∀ a, (k0_off529 v1_0 k0_t13 k0_t16) a + S1x32x256.size a ≤ S10x32x2048.size a) ∧
  (∀ (k0_h7 : k0_cond7 v58 = 1#1), ∀ a, (k0_off530 v58) a + S32x256.size a ≤ S256x2048.size a) ∧
  (∀ k0_t16 : Fin k0_t16_loop.trips, ∀ (k0_h7 : k0_cond7 v58 = 1#1), ∀ a, (k0_off531 v1_0 k0_t13 k0_t16) a + S1x256x256.size a ≤ S10x1024x2048.size a) ∧
  (∀ k0_t16 : Fin k0_t16_loop.trips, ∀ (k0_h7 : k0_cond7 v58 = 1#1), ∀ a, (k0_off532 v1_0 k0_t13 k0_t16) a + S1x256x256.size a ≤ S10x1024x2048.size a) ∧
  (∀ k0_t16 : Fin k0_t16_loop.trips, ∀ (k0_h7 : k0_cond7 v58 = 1#1), ∀ a, (k0_off533 v1_0 k0_t13 k0_t16) a + S1x256x256.size a ≤ S10x1024x2048.size a) ∧
  (∀ k0_t16 : Fin k0_t16_loop.trips, ∀ (k0_h7 : k0_cond7 v58 = 1#1), ∀ a, (k0_off534 v1_0 k0_t13 k0_t16) a + S1x256x256.size a ≤ S10x1024x2048.size a) ∧
  (∀ k0_t16 : Fin k0_t16_loop.trips, ∀ (k0_h7 : k0_cond7 v58 = 1#1), ∀ a, (k0_off535 v1_0 k0_t13 k0_t16) a + S1x32x256.size a ≤ S10x32x2048.size a) ∧
  (∀ (k0_h7 : k0_cond7 v58 = 1#1), ∀ a, (k0_off536 v58) a + S32x256.size a ≤ S256x2048.size a) ∧
  (∀ k0_t16 : Fin k0_t16_loop.trips, ∀ (k0_h7 : k0_cond7 v58 = 1#1), ∀ a, (k0_off537 v1_0 k0_t13 k0_t16) a + S1x256x256.size a ≤ S10x1024x2048.size a) ∧
  (∀ k0_t16 : Fin k0_t16_loop.trips, ∀ (k0_h7 : k0_cond7 v58 = 1#1), ∀ a, (k0_off538 v1_0 k0_t13 k0_t16) a + S1x256x256.size a ≤ S10x1024x2048.size a) ∧
  (∀ k0_t16 : Fin k0_t16_loop.trips, ∀ (k0_h7 : k0_cond7 v58 = 1#1), ∀ a, (k0_off539 v1_0 k0_t13 k0_t16) a + S1x256x256.size a ≤ S10x1024x2048.size a) ∧
  (∀ k0_t16 : Fin k0_t16_loop.trips, ∀ (k0_h7 : k0_cond7 v58 = 1#1), ∀ a, (k0_off540 v1_0 k0_t13 k0_t16) a + S1x256x256.size a ≤ S10x1024x2048.size a) ∧
  (∀ k0_t16 : Fin k0_t16_loop.trips, ∀ (k0_h8 : k0_cond8 v58 = 1#1), ∀ (r₁ : Fin 8) (r₂ : Fin 4), ∀ a, (k0_off541 v56 v58 k0_t16 (BitVec.ofNat 32 r₁.val) (BitVec.ofNat 32 (256 * r₂.val))) a + S1x256.size a ≤ S32x7168.size a) ∧
  (∀ (k0_h8 : k0_cond8 v58 = 1#1), 8 ∣ (k0_mult460 v58).toNat) ∧
  (∀ k0_t16 : Fin k0_t16_loop.trips, ∀ (k0_h8 : k0_cond8 v58 = 1#1), ∀ a, (k0_off542 v1_0 k0_t13 k0_t16) a + S1x32x256.size a ≤ S10x32x2048.size a) ∧
  (∀ (k0_h8 : k0_cond8 v58 = 1#1), ∀ a, (k0_off543 v58) a + S64x256.size a ≤ S256x2048.size a) ∧
  (∀ k0_t16 : Fin k0_t16_loop.trips, ∀ (k0_h8 : k0_cond8 v58 = 1#1), ∀ a, (k0_off544 v1_0 k0_t13 k0_t16) a + S1x256x256.size a ≤ S10x1024x2048.size a) ∧
  (∀ k0_t16 : Fin k0_t16_loop.trips, ∀ (k0_h8 : k0_cond8 v58 = 1#1), ∀ a, (k0_off545 v1_0 k0_t13 k0_t16) a + S1x256x256.size a ≤ S10x1024x2048.size a) ∧
  (∀ k0_t16 : Fin k0_t16_loop.trips, ∀ (k0_h8 : k0_cond8 v58 = 1#1), ∀ a, (k0_off546 v1_0 k0_t13 k0_t16) a + S1x256x256.size a ≤ S10x1024x2048.size a) ∧
  (∀ k0_t16 : Fin k0_t16_loop.trips, ∀ (k0_h8 : k0_cond8 v58 = 1#1), ∀ a, (k0_off547 v1_0 k0_t13 k0_t16) a + S1x256x256.size a ≤ S10x1024x2048.size a) ∧
  (∀ k0_t16 : Fin k0_t16_loop.trips, ∀ (k0_h8 : k0_cond8 v58 = 1#1), ∀ a, (k0_off548 v1_0 k0_t13 k0_t16) a + S1x32x256.size a ≤ S10x32x2048.size a) ∧
  (∀ (k0_h8 : k0_cond8 v58 = 1#1), ∀ a, (k0_off549 v58) a + S64x256.size a ≤ S256x2048.size a) ∧
  (∀ k0_t16 : Fin k0_t16_loop.trips, ∀ (k0_h8 : k0_cond8 v58 = 1#1), ∀ a, (k0_off550 v1_0 k0_t13 k0_t16) a + S1x256x256.size a ≤ S10x1024x2048.size a) ∧
  (∀ k0_t16 : Fin k0_t16_loop.trips, ∀ (k0_h8 : k0_cond8 v58 = 1#1), ∀ a, (k0_off551 v1_0 k0_t13 k0_t16) a + S1x256x256.size a ≤ S10x1024x2048.size a) ∧
  (∀ k0_t16 : Fin k0_t16_loop.trips, ∀ (k0_h8 : k0_cond8 v58 = 1#1), ∀ a, (k0_off552 v1_0 k0_t13 k0_t16) a + S1x256x256.size a ≤ S10x1024x2048.size a) ∧
  (∀ k0_t16 : Fin k0_t16_loop.trips, ∀ (k0_h8 : k0_cond8 v58 = 1#1), ∀ a, (k0_off553 v1_0 k0_t13 k0_t16) a + S1x256x256.size a ≤ S10x1024x2048.size a) ∧
  (∀ k0_t16 : Fin k0_t16_loop.trips, ∀ (k0_h8 : k0_cond8 v58 = 1#1), ∀ a, (k0_off554 v1_0 k0_t13 k0_t16) a + S1x32x256.size a ≤ S10x32x2048.size a) ∧
  (∀ (k0_h8 : k0_cond8 v58 = 1#1), ∀ a, (k0_off555 v58) a + S64x256.size a ≤ S256x2048.size a)
def k0_chk10_7 (v1_0 : BitVec 32) (k0_t13 : Fin (k0_t13_loop v1_0).trips) (v56 : BitVec 32) (v58 : BitVec 32) : Prop :=
  (∀ k0_t16 : Fin k0_t16_loop.trips, ∀ (k0_h8 : k0_cond8 v58 = 1#1), ∀ a, (k0_off556 v1_0 k0_t13 k0_t16) a + S1x256x256.size a ≤ S10x1024x2048.size a) ∧
  (∀ k0_t16 : Fin k0_t16_loop.trips, ∀ (k0_h8 : k0_cond8 v58 = 1#1), ∀ a, (k0_off557 v1_0 k0_t13 k0_t16) a + S1x256x256.size a ≤ S10x1024x2048.size a) ∧
  (∀ k0_t16 : Fin k0_t16_loop.trips, ∀ (k0_h8 : k0_cond8 v58 = 1#1), ∀ a, (k0_off558 v1_0 k0_t13 k0_t16) a + S1x256x256.size a ≤ S10x1024x2048.size a) ∧
  (∀ k0_t16 : Fin k0_t16_loop.trips, ∀ (k0_h8 : k0_cond8 v58 = 1#1), ∀ a, (k0_off559 v1_0 k0_t13 k0_t16) a + S1x256x256.size a ≤ S10x1024x2048.size a) ∧
  (∀ k0_t16 : Fin k0_t16_loop.trips, ∀ (k0_h8 : k0_cond8 v58 = 1#1), ∀ a, (k0_off560 v1_0 k0_t13 k0_t16) a + S1x32x256.size a ≤ S10x32x2048.size a) ∧
  (∀ (k0_h8 : k0_cond8 v58 = 1#1), ∀ a, (k0_off561 v58) a + S64x256.size a ≤ S256x2048.size a) ∧
  (∀ k0_t16 : Fin k0_t16_loop.trips, ∀ (k0_h8 : k0_cond8 v58 = 1#1), ∀ a, (k0_off562 v1_0 k0_t13 k0_t16) a + S1x256x256.size a ≤ S10x1024x2048.size a) ∧
  (∀ k0_t16 : Fin k0_t16_loop.trips, ∀ (k0_h8 : k0_cond8 v58 = 1#1), ∀ a, (k0_off563 v1_0 k0_t13 k0_t16) a + S1x256x256.size a ≤ S10x1024x2048.size a) ∧
  (∀ k0_t16 : Fin k0_t16_loop.trips, ∀ (k0_h8 : k0_cond8 v58 = 1#1), ∀ a, (k0_off564 v1_0 k0_t13 k0_t16) a + S1x256x256.size a ≤ S10x1024x2048.size a) ∧
  (∀ k0_t16 : Fin k0_t16_loop.trips, ∀ (k0_h8 : k0_cond8 v58 = 1#1), ∀ a, (k0_off565 v1_0 k0_t13 k0_t16) a + S1x256x256.size a ≤ S10x1024x2048.size a) ∧
  (∀ k0_t16 : Fin k0_t16_loop.trips, ∀ (k0_h8 : k0_cond8 v58 = 1#1), ∀ a, (k0_off566 v1_0 k0_t13 k0_t16) a + S1x32x256.size a ≤ S10x32x2048.size a) ∧
  (∀ (k0_h8 : k0_cond8 v58 = 1#1), ∀ a, (k0_off567 v58) a + S64x256.size a ≤ S256x2048.size a) ∧
  (∀ k0_t16 : Fin k0_t16_loop.trips, ∀ (k0_h8 : k0_cond8 v58 = 1#1), ∀ a, (k0_off568 v1_0 k0_t13 k0_t16) a + S1x256x256.size a ≤ S10x1024x2048.size a) ∧
  (∀ k0_t16 : Fin k0_t16_loop.trips, ∀ (k0_h8 : k0_cond8 v58 = 1#1), ∀ a, (k0_off569 v1_0 k0_t13 k0_t16) a + S1x256x256.size a ≤ S10x1024x2048.size a) ∧
  (∀ k0_t16 : Fin k0_t16_loop.trips, ∀ (k0_h8 : k0_cond8 v58 = 1#1), ∀ a, (k0_off570 v1_0 k0_t13 k0_t16) a + S1x256x256.size a ≤ S10x1024x2048.size a) ∧
  (∀ k0_t16 : Fin k0_t16_loop.trips, ∀ (k0_h8 : k0_cond8 v58 = 1#1), ∀ a, (k0_off571 v1_0 k0_t13 k0_t16) a + S1x256x256.size a ≤ S10x1024x2048.size a) ∧
  (∀ k0_t16 : Fin k0_t16_loop.trips, ∀ (k0_h8 : k0_cond8 v58 = 1#1), ∀ a, (k0_off572 v1_0 k0_t13 k0_t16) a + S1x32x256.size a ≤ S10x32x2048.size a) ∧
  (∀ (k0_h8 : k0_cond8 v58 = 1#1), ∀ a, (k0_off573 v58) a + S64x256.size a ≤ S256x2048.size a) ∧
  (∀ k0_t16 : Fin k0_t16_loop.trips, ∀ (k0_h8 : k0_cond8 v58 = 1#1), ∀ a, (k0_off574 v1_0 k0_t13 k0_t16) a + S1x256x256.size a ≤ S10x1024x2048.size a) ∧
  (∀ k0_t16 : Fin k0_t16_loop.trips, ∀ (k0_h8 : k0_cond8 v58 = 1#1), ∀ a, (k0_off575 v1_0 k0_t13 k0_t16) a + S1x256x256.size a ≤ S10x1024x2048.size a) ∧
  (∀ k0_t16 : Fin k0_t16_loop.trips, ∀ (k0_h8 : k0_cond8 v58 = 1#1), ∀ a, (k0_off576 v1_0 k0_t13 k0_t16) a + S1x256x256.size a ≤ S10x1024x2048.size a) ∧
  (∀ k0_t16 : Fin k0_t16_loop.trips, ∀ (k0_h8 : k0_cond8 v58 = 1#1), ∀ a, (k0_off577 v1_0 k0_t13 k0_t16) a + S1x256x256.size a ≤ S10x1024x2048.size a) ∧
  (∀ k0_t16 : Fin k0_t16_loop.trips, ∀ (k0_h8 : k0_cond8 v58 = 1#1), ∀ a, (k0_off578 v1_0 k0_t13 k0_t16) a + S1x32x256.size a ≤ S10x32x2048.size a) ∧
  (∀ (k0_h8 : k0_cond8 v58 = 1#1), ∀ a, (k0_off579 v58) a + S64x256.size a ≤ S256x2048.size a) ∧
  (∀ k0_t16 : Fin k0_t16_loop.trips, ∀ (k0_h8 : k0_cond8 v58 = 1#1), ∀ a, (k0_off580 v1_0 k0_t13 k0_t16) a + S1x256x256.size a ≤ S10x1024x2048.size a) ∧
  (∀ k0_t16 : Fin k0_t16_loop.trips, ∀ (k0_h8 : k0_cond8 v58 = 1#1), ∀ a, (k0_off581 v1_0 k0_t13 k0_t16) a + S1x256x256.size a ≤ S10x1024x2048.size a) ∧
  (∀ k0_t16 : Fin k0_t16_loop.trips, ∀ (k0_h8 : k0_cond8 v58 = 1#1), ∀ a, (k0_off582 v1_0 k0_t13 k0_t16) a + S1x256x256.size a ≤ S10x1024x2048.size a) ∧
  (∀ k0_t16 : Fin k0_t16_loop.trips, ∀ (k0_h8 : k0_cond8 v58 = 1#1), ∀ a, (k0_off583 v1_0 k0_t13 k0_t16) a + S1x256x256.size a ≤ S10x1024x2048.size a) ∧
  (∀ k0_t16 : Fin k0_t16_loop.trips, ∀ (k0_h8 : k0_cond8 v58 = 1#1), ∀ a, (k0_off584 v1_0 k0_t13 k0_t16) a + S1x32x256.size a ≤ S10x32x2048.size a) ∧
  (∀ (k0_h8 : k0_cond8 v58 = 1#1), ∀ a, (k0_off585 v58) a + S64x256.size a ≤ S256x2048.size a) ∧
  (∀ k0_t16 : Fin k0_t16_loop.trips, ∀ (k0_h8 : k0_cond8 v58 = 1#1), ∀ a, (k0_off586 v1_0 k0_t13 k0_t16) a + S1x256x256.size a ≤ S10x1024x2048.size a) ∧
  (∀ k0_t16 : Fin k0_t16_loop.trips, ∀ (k0_h8 : k0_cond8 v58 = 1#1), ∀ a, (k0_off587 v1_0 k0_t13 k0_t16) a + S1x256x256.size a ≤ S10x1024x2048.size a)
def k0_chk10_8 (v1_0 : BitVec 32) (k0_t13 : Fin (k0_t13_loop v1_0).trips) (v56 : BitVec 32) (v58 : BitVec 32) : Prop :=
  (∀ k0_t16 : Fin k0_t16_loop.trips, ∀ (k0_h8 : k0_cond8 v58 = 1#1), ∀ a, (k0_off588 v1_0 k0_t13 k0_t16) a + S1x256x256.size a ≤ S10x1024x2048.size a) ∧
  (∀ k0_t16 : Fin k0_t16_loop.trips, ∀ (k0_h8 : k0_cond8 v58 = 1#1), ∀ a, (k0_off589 v1_0 k0_t13 k0_t16) a + S1x256x256.size a ≤ S10x1024x2048.size a) ∧
  (∀ k0_t16 : Fin k0_t16_loop.trips, ∀ (k0_h9 : k0_cond9 v58 = 1#1), ∀ (r₁ : Fin 16) (r₂ : Fin 4), ∀ a, (k0_off590 v56 v58 k0_t16 (BitVec.ofNat 32 r₁.val) (BitVec.ofNat 32 (256 * r₂.val))) a + S1x256.size a ≤ S32x7168.size a) ∧
  (∀ (k0_h9 : k0_cond9 v58 = 1#1), 8 ∣ (k0_mult525 v58).toNat) ∧
  (∀ k0_t16 : Fin k0_t16_loop.trips, ∀ (k0_h9 : k0_cond9 v58 = 1#1), ∀ a, (k0_off591 v1_0 k0_t13 k0_t16) a + S1x32x256.size a ≤ S10x32x2048.size a) ∧
  (∀ (k0_h9 : k0_cond9 v58 = 1#1), ∀ a, (k0_off592 v58) a + S128x256.size a ≤ S256x2048.size a) ∧
  (∀ k0_t16 : Fin k0_t16_loop.trips, ∀ (k0_h9 : k0_cond9 v58 = 1#1), ∀ a, (k0_off593 v1_0 k0_t13 k0_t16) a + S1x256x256.size a ≤ S10x1024x2048.size a) ∧
  (∀ k0_t16 : Fin k0_t16_loop.trips, ∀ (k0_h9 : k0_cond9 v58 = 1#1), ∀ a, (k0_off594 v1_0 k0_t13 k0_t16) a + S1x256x256.size a ≤ S10x1024x2048.size a) ∧
  (∀ k0_t16 : Fin k0_t16_loop.trips, ∀ (k0_h9 : k0_cond9 v58 = 1#1), ∀ a, (k0_off595 v1_0 k0_t13 k0_t16) a + S1x256x256.size a ≤ S10x1024x2048.size a) ∧
  (∀ k0_t16 : Fin k0_t16_loop.trips, ∀ (k0_h9 : k0_cond9 v58 = 1#1), ∀ a, (k0_off596 v1_0 k0_t13 k0_t16) a + S1x256x256.size a ≤ S10x1024x2048.size a) ∧
  (∀ k0_t16 : Fin k0_t16_loop.trips, ∀ (k0_h9 : k0_cond9 v58 = 1#1), ∀ a, (k0_off597 v1_0 k0_t13 k0_t16) a + S1x32x256.size a ≤ S10x32x2048.size a) ∧
  (∀ (k0_h9 : k0_cond9 v58 = 1#1), ∀ a, (k0_off598 v58) a + S128x256.size a ≤ S256x2048.size a) ∧
  (∀ k0_t16 : Fin k0_t16_loop.trips, ∀ (k0_h9 : k0_cond9 v58 = 1#1), ∀ a, (k0_off599 v1_0 k0_t13 k0_t16) a + S1x256x256.size a ≤ S10x1024x2048.size a) ∧
  (∀ k0_t16 : Fin k0_t16_loop.trips, ∀ (k0_h9 : k0_cond9 v58 = 1#1), ∀ a, (k0_off600 v1_0 k0_t13 k0_t16) a + S1x256x256.size a ≤ S10x1024x2048.size a) ∧
  (∀ k0_t16 : Fin k0_t16_loop.trips, ∀ (k0_h9 : k0_cond9 v58 = 1#1), ∀ a, (k0_off601 v1_0 k0_t13 k0_t16) a + S1x256x256.size a ≤ S10x1024x2048.size a) ∧
  (∀ k0_t16 : Fin k0_t16_loop.trips, ∀ (k0_h9 : k0_cond9 v58 = 1#1), ∀ a, (k0_off602 v1_0 k0_t13 k0_t16) a + S1x256x256.size a ≤ S10x1024x2048.size a) ∧
  (∀ k0_t16 : Fin k0_t16_loop.trips, ∀ (k0_h9 : k0_cond9 v58 = 1#1), ∀ a, (k0_off603 v1_0 k0_t13 k0_t16) a + S1x32x256.size a ≤ S10x32x2048.size a) ∧
  (∀ (k0_h9 : k0_cond9 v58 = 1#1), ∀ a, (k0_off604 v58) a + S128x256.size a ≤ S256x2048.size a) ∧
  (∀ k0_t16 : Fin k0_t16_loop.trips, ∀ (k0_h9 : k0_cond9 v58 = 1#1), ∀ a, (k0_off605 v1_0 k0_t13 k0_t16) a + S1x256x256.size a ≤ S10x1024x2048.size a) ∧
  (∀ k0_t16 : Fin k0_t16_loop.trips, ∀ (k0_h9 : k0_cond9 v58 = 1#1), ∀ a, (k0_off606 v1_0 k0_t13 k0_t16) a + S1x256x256.size a ≤ S10x1024x2048.size a) ∧
  (∀ k0_t16 : Fin k0_t16_loop.trips, ∀ (k0_h9 : k0_cond9 v58 = 1#1), ∀ a, (k0_off607 v1_0 k0_t13 k0_t16) a + S1x256x256.size a ≤ S10x1024x2048.size a) ∧
  (∀ k0_t16 : Fin k0_t16_loop.trips, ∀ (k0_h9 : k0_cond9 v58 = 1#1), ∀ a, (k0_off608 v1_0 k0_t13 k0_t16) a + S1x256x256.size a ≤ S10x1024x2048.size a) ∧
  (∀ k0_t16 : Fin k0_t16_loop.trips, ∀ (k0_h9 : k0_cond9 v58 = 1#1), ∀ a, (k0_off609 v1_0 k0_t13 k0_t16) a + S1x32x256.size a ≤ S10x32x2048.size a) ∧
  (∀ (k0_h9 : k0_cond9 v58 = 1#1), ∀ a, (k0_off610 v58) a + S128x256.size a ≤ S256x2048.size a) ∧
  (∀ k0_t16 : Fin k0_t16_loop.trips, ∀ (k0_h9 : k0_cond9 v58 = 1#1), ∀ a, (k0_off611 v1_0 k0_t13 k0_t16) a + S1x256x256.size a ≤ S10x1024x2048.size a) ∧
  (∀ k0_t16 : Fin k0_t16_loop.trips, ∀ (k0_h9 : k0_cond9 v58 = 1#1), ∀ a, (k0_off612 v1_0 k0_t13 k0_t16) a + S1x256x256.size a ≤ S10x1024x2048.size a) ∧
  (∀ k0_t16 : Fin k0_t16_loop.trips, ∀ (k0_h9 : k0_cond9 v58 = 1#1), ∀ a, (k0_off613 v1_0 k0_t13 k0_t16) a + S1x256x256.size a ≤ S10x1024x2048.size a) ∧
  (∀ k0_t16 : Fin k0_t16_loop.trips, ∀ (k0_h9 : k0_cond9 v58 = 1#1), ∀ a, (k0_off614 v1_0 k0_t13 k0_t16) a + S1x256x256.size a ≤ S10x1024x2048.size a) ∧
  (∀ k0_t16 : Fin k0_t16_loop.trips, ∀ (k0_h9 : k0_cond9 v58 = 1#1), ∀ a, (k0_off615 v1_0 k0_t13 k0_t16) a + S1x32x256.size a ≤ S10x32x2048.size a) ∧
  (∀ (k0_h9 : k0_cond9 v58 = 1#1), ∀ a, (k0_off616 v58) a + S128x256.size a ≤ S256x2048.size a) ∧
  (∀ k0_t16 : Fin k0_t16_loop.trips, ∀ (k0_h9 : k0_cond9 v58 = 1#1), ∀ a, (k0_off617 v1_0 k0_t13 k0_t16) a + S1x256x256.size a ≤ S10x1024x2048.size a) ∧
  (∀ k0_t16 : Fin k0_t16_loop.trips, ∀ (k0_h9 : k0_cond9 v58 = 1#1), ∀ a, (k0_off618 v1_0 k0_t13 k0_t16) a + S1x256x256.size a ≤ S10x1024x2048.size a)
def k0_chk10_9 (v1_0 : BitVec 32) (k0_t13 : Fin (k0_t13_loop v1_0).trips) (v56 : BitVec 32) (v58 : BitVec 32) : Prop :=
  (∀ k0_t16 : Fin k0_t16_loop.trips, ∀ (k0_h9 : k0_cond9 v58 = 1#1), ∀ a, (k0_off619 v1_0 k0_t13 k0_t16) a + S1x256x256.size a ≤ S10x1024x2048.size a) ∧
  (∀ k0_t16 : Fin k0_t16_loop.trips, ∀ (k0_h9 : k0_cond9 v58 = 1#1), ∀ a, (k0_off620 v1_0 k0_t13 k0_t16) a + S1x256x256.size a ≤ S10x1024x2048.size a) ∧
  (∀ k0_t16 : Fin k0_t16_loop.trips, ∀ (k0_h9 : k0_cond9 v58 = 1#1), ∀ a, (k0_off621 v1_0 k0_t13 k0_t16) a + S1x32x256.size a ≤ S10x32x2048.size a) ∧
  (∀ (k0_h9 : k0_cond9 v58 = 1#1), ∀ a, (k0_off622 v58) a + S128x256.size a ≤ S256x2048.size a) ∧
  (∀ k0_t16 : Fin k0_t16_loop.trips, ∀ (k0_h9 : k0_cond9 v58 = 1#1), ∀ a, (k0_off623 v1_0 k0_t13 k0_t16) a + S1x256x256.size a ≤ S10x1024x2048.size a) ∧
  (∀ k0_t16 : Fin k0_t16_loop.trips, ∀ (k0_h9 : k0_cond9 v58 = 1#1), ∀ a, (k0_off624 v1_0 k0_t13 k0_t16) a + S1x256x256.size a ≤ S10x1024x2048.size a) ∧
  (∀ k0_t16 : Fin k0_t16_loop.trips, ∀ (k0_h9 : k0_cond9 v58 = 1#1), ∀ a, (k0_off625 v1_0 k0_t13 k0_t16) a + S1x256x256.size a ≤ S10x1024x2048.size a) ∧
  (∀ k0_t16 : Fin k0_t16_loop.trips, ∀ (k0_h9 : k0_cond9 v58 = 1#1), ∀ a, (k0_off626 v1_0 k0_t13 k0_t16) a + S1x256x256.size a ≤ S10x1024x2048.size a) ∧
  (∀ k0_t16 : Fin k0_t16_loop.trips, ∀ (k0_h9 : k0_cond9 v58 = 1#1), ∀ a, (k0_off627 v1_0 k0_t13 k0_t16) a + S1x32x256.size a ≤ S10x32x2048.size a) ∧
  (∀ (k0_h9 : k0_cond9 v58 = 1#1), ∀ a, (k0_off628 v58) a + S128x256.size a ≤ S256x2048.size a) ∧
  (∀ k0_t16 : Fin k0_t16_loop.trips, ∀ (k0_h9 : k0_cond9 v58 = 1#1), ∀ a, (k0_off629 v1_0 k0_t13 k0_t16) a + S1x256x256.size a ≤ S10x1024x2048.size a) ∧
  (∀ k0_t16 : Fin k0_t16_loop.trips, ∀ (k0_h9 : k0_cond9 v58 = 1#1), ∀ a, (k0_off630 v1_0 k0_t13 k0_t16) a + S1x256x256.size a ≤ S10x1024x2048.size a) ∧
  (∀ k0_t16 : Fin k0_t16_loop.trips, ∀ (k0_h9 : k0_cond9 v58 = 1#1), ∀ a, (k0_off631 v1_0 k0_t13 k0_t16) a + S1x256x256.size a ≤ S10x1024x2048.size a) ∧
  (∀ k0_t16 : Fin k0_t16_loop.trips, ∀ (k0_h9 : k0_cond9 v58 = 1#1), ∀ a, (k0_off632 v1_0 k0_t13 k0_t16) a + S1x256x256.size a ≤ S10x1024x2048.size a) ∧
  (∀ k0_t16 : Fin k0_t16_loop.trips, ∀ (k0_h9 : k0_cond9 v58 = 1#1), ∀ a, (k0_off633 v1_0 k0_t13 k0_t16) a + S1x32x256.size a ≤ S10x32x2048.size a) ∧
  (∀ (k0_h9 : k0_cond9 v58 = 1#1), ∀ a, (k0_off634 v58) a + S128x256.size a ≤ S256x2048.size a) ∧
  (∀ k0_t16 : Fin k0_t16_loop.trips, ∀ (k0_h9 : k0_cond9 v58 = 1#1), ∀ a, (k0_off635 v1_0 k0_t13 k0_t16) a + S1x256x256.size a ≤ S10x1024x2048.size a) ∧
  (∀ k0_t16 : Fin k0_t16_loop.trips, ∀ (k0_h9 : k0_cond9 v58 = 1#1), ∀ a, (k0_off636 v1_0 k0_t13 k0_t16) a + S1x256x256.size a ≤ S10x1024x2048.size a) ∧
  (∀ k0_t16 : Fin k0_t16_loop.trips, ∀ (k0_h9 : k0_cond9 v58 = 1#1), ∀ a, (k0_off637 v1_0 k0_t13 k0_t16) a + S1x256x256.size a ≤ S10x1024x2048.size a) ∧
  (∀ k0_t16 : Fin k0_t16_loop.trips, ∀ (k0_h9 : k0_cond9 v58 = 1#1), ∀ a, (k0_off638 v1_0 k0_t13 k0_t16) a + S1x256x256.size a ≤ S10x1024x2048.size a) ∧
  ((k0_t19_loop v58).OK) ∧
  (∀ k0_t19 : Fin (k0_t19_loop v58).trips, 8 ∣ (k0_mult528 v58 k0_t19).toNat) ∧
  (∀ k0_t19 : Fin (k0_t19_loop v58).trips, ∀ a, (k0_off646 v58 k0_t19) a + S8x2048.size a ≤ S256x2048.size a) ∧
  (∀ k0_t19 : Fin (k0_t19_loop v58).trips, ∀ a, (k0_off647 v56 v58 k0_t19) a + S1x2048.size a ≤ S32x2048.size a) ∧
  ((k0_t20_loop v58).OK) ∧
  (∀ k0_t20 : Fin (k0_t20_loop v58).trips, 8 ∣ (k0_mult529 v58 k0_t20).toNat) ∧
  (∀ k0_t20 : Fin (k0_t20_loop v58).trips, ∀ a, (k0_off648 v58 k0_t20) a + S8x2048.size a ≤ S256x2048.size a) ∧
  (∀ k0_t20 : Fin (k0_t20_loop v58).trips, ∀ a, (k0_off649 v56 v58 k0_t20) a + S1x2048.size a ≤ S32x2048.size a)
def k0_chk10 (v1_0 : BitVec 32) (k0_t13 : Fin (k0_t13_loop v1_0).trips) (v56 : BitVec 32) (v58 : BitVec 32) : Prop :=
  k0_chk10_0 v1_0 k0_t13 v56 v58 ∧
  k0_chk10_1 v1_0 k0_t13 v56 v58 ∧
  k0_chk10_2 v1_0 k0_t13 v56 v58 ∧
  k0_chk10_3 v1_0 k0_t13 v56 v58 ∧
  k0_chk10_4 v1_0 k0_t13 v56 v58 ∧
  k0_chk10_5 v1_0 k0_t13 v56 v58 ∧
  k0_chk10_6 v1_0 k0_t13 v56 v58 ∧
  k0_chk10_7 v1_0 k0_t13 v56 v58 ∧
  k0_chk10_8 v1_0 k0_t13 v56 v58 ∧
  k0_chk10_9 v1_0 k0_t13 v56 v58
theorem k0_t14_ok : ∀ (v1_0 : BitVec 32) (k0_t13 : Fin (k0_t13_loop v1_0).trips) (v56 : BitVec 32) (v58 : BitVec 32) (k0_hw10 : k0_chk10 v1_0 k0_t13 v56 v58), (k0_t14_loop v58).OK := fun v1_0 k0_t13 v56 v58 k0_hw10 => k0_hw10.1.1
theorem k0_mult268_dvd : ∀ (v1_0 : BitVec 32) (k0_t13 : Fin (k0_t13_loop v1_0).trips) (v56 : BitVec 32) (v58 : BitVec 32) (k0_hw10 : k0_chk10 v1_0 k0_t13 v56 v58) (k0_t14 : Fin (k0_t14_loop v58).trips), 8 ∣ (k0_mult268 v58 k0_t14).toNat := fun v1_0 k0_t13 v56 v58 k0_hw10 k0_t14 => k0_hw10.1.2.1 k0_t14
theorem k0_off336_inb : ∀ (v1_0 : BitVec 32) (k0_t13 : Fin (k0_t13_loop v1_0).trips) (v56 : BitVec 32) (v58 : BitVec 32) (k0_hw10 : k0_chk10 v1_0 k0_t13 v56 v58) (k0_t14 : Fin (k0_t14_loop v58).trips), ∀ a, (k0_off336 v58 k0_t14) a + S8x2048.size a ≤ S256x2048.size a := fun v1_0 k0_t13 v56 v58 k0_hw10 k0_t14 => k0_hw10.1.2.2.1 k0_t14
theorem k0_t15_ok : ∀ (v1_0 : BitVec 32) (k0_t13 : Fin (k0_t13_loop v1_0).trips) (v56 : BitVec 32) (v58 : BitVec 32) (k0_hw10 : k0_chk10 v1_0 k0_t13 v56 v58), (k0_t15_loop v58).OK := fun v1_0 k0_t13 v56 v58 k0_hw10 => k0_hw10.1.2.2.2.1
theorem k0_mult269_dvd : ∀ (v1_0 : BitVec 32) (k0_t13 : Fin (k0_t13_loop v1_0).trips) (v56 : BitVec 32) (v58 : BitVec 32) (k0_hw10 : k0_chk10 v1_0 k0_t13 v56 v58) (k0_t15 : Fin (k0_t15_loop v58).trips), 8 ∣ (k0_mult269 v58 k0_t15).toNat := fun v1_0 k0_t13 v56 v58 k0_hw10 k0_t15 => k0_hw10.1.2.2.2.2.1 k0_t15
theorem k0_off337_inb : ∀ (v1_0 : BitVec 32) (k0_t13 : Fin (k0_t13_loop v1_0).trips) (v56 : BitVec 32) (v58 : BitVec 32) (k0_hw10 : k0_chk10 v1_0 k0_t13 v56 v58) (k0_t15 : Fin (k0_t15_loop v58).trips), ∀ a, (k0_off337 v58 k0_t15) a + S8x2048.size a ≤ S256x2048.size a := fun v1_0 k0_t13 v56 v58 k0_hw10 k0_t15 => k0_hw10.1.2.2.2.2.2.1 k0_t15
theorem k0_t17_ok : ∀ (v1_0 : BitVec 32) (k0_t13 : Fin (k0_t13_loop v1_0).trips) (v56 : BitVec 32) (v58 : BitVec 32) (k0_hw10 : k0_chk10 v1_0 k0_t13 v56 v58), (k0_t17_loop v58).OK := fun v1_0 k0_t13 v56 v58 k0_hw10 => k0_hw10.1.2.2.2.2.2.2.1
theorem k0_off345_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ (r₁ : Fin 16) (r₂ : Fin 4), ∀ a, (k0_off345 v56 v58 k0_t16 k0_t17 (BitVec.ofNat 32 r₁.val) (BitVec.ofNat 32 (256 * r₂.val))) a + S1x256.size a ≤ S32x7168.size a := fun v1_0 k0_t13 v56 v58 k0_hw10 k0_t16 k0_t17 r₁ r₂ => k0_hw10.1.2.2.2.2.2.2.2.1 k0_t16 k0_t17 r₁ r₂
theorem k0_mult336_dvd : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), 8 ∣ (k0_mult336 v58 k0_t17).toNat := fun v1_0 k0_t13 v56 v58 k0_hw10 k0_t17 => k0_hw10.1.2.2.2.2.2.2.2.2.1 k0_t17
theorem k0_off346_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off346 v1_0 k0_t13 k0_t16) a + S1x32x256.size a ≤ S10x32x2048.size a := fun v1_0 k0_t13 v56 v58 k0_hw10 k0_t16 k0_t17 => k0_hw10.1.2.2.2.2.2.2.2.2.2.1 k0_t16 k0_t17
theorem k0_off347_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off347 v58 k0_t17) a + S128x256.size a ≤ S256x2048.size a := fun v1_0 k0_t13 v56 v58 k0_hw10 k0_t17 => k0_hw10.1.2.2.2.2.2.2.2.2.2.2.1 k0_t17
theorem k0_off348_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off348 v1_0 k0_t13 k0_t16) a + S1x256x256.size a ≤ S10x1024x2048.size a := fun v1_0 k0_t13 v56 v58 k0_hw10 k0_t16 k0_t17 => k0_hw10.1.2.2.2.2.2.2.2.2.2.2.2.1 k0_t16 k0_t17
theorem k0_off349_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off349 v1_0 k0_t13 k0_t16) a + S1x256x256.size a ≤ S10x1024x2048.size a := fun v1_0 k0_t13 v56 v58 k0_hw10 k0_t16 k0_t17 => k0_hw10.1.2.2.2.2.2.2.2.2.2.2.2.2.1 k0_t16 k0_t17
theorem k0_off350_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off350 v1_0 k0_t13 k0_t16) a + S1x256x256.size a ≤ S10x1024x2048.size a := fun v1_0 k0_t13 v56 v58 k0_hw10 k0_t16 k0_t17 => k0_hw10.1.2.2.2.2.2.2.2.2.2.2.2.2.2.1 k0_t16 k0_t17
theorem k0_off351_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off351 v1_0 k0_t13 k0_t16) a + S1x256x256.size a ≤ S10x1024x2048.size a := fun v1_0 k0_t13 v56 v58 k0_hw10 k0_t16 k0_t17 => k0_hw10.1.2.2.2.2.2.2.2.2.2.2.2.2.2.2.1 k0_t16 k0_t17
theorem k0_off352_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off352 v1_0 k0_t13 k0_t16) a + S1x32x256.size a ≤ S10x32x2048.size a := fun v1_0 k0_t13 v56 v58 k0_hw10 k0_t16 k0_t17 => k0_hw10.1.2.2.2.2.2.2.2.2.2.2.2.2.2.2.2.1 k0_t16 k0_t17
theorem k0_off353_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off353 v58 k0_t17) a + S128x256.size a ≤ S256x2048.size a := fun v1_0 k0_t13 v56 v58 k0_hw10 k0_t17 => k0_hw10.1.2.2.2.2.2.2.2.2.2.2.2.2.2.2.2.2.1 k0_t17
theorem k0_off354_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off354 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.1 k0_t16 k0_t17
theorem k0_off355_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off355 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.1 k0_t16 k0_t17
theorem k0_off356_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off356 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.1 k0_t16 k0_t17
theorem k0_off357_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off357 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.1 k0_t16 k0_t17
theorem k0_off358_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off358 v1_0 k0_t13 k0_t16) a + S1x32x256.size a ≤ S10x32x2048.size a := fun v1_0 k0_t13 v56 v58 k0_hw10 k0_t16 k0_t17 => k0_hw10.1.2.2.2.2.2.2.2.2.2.2.2.2.2.2.2.2.2.2.2.2.2.1 k0_t16 k0_t17
theorem k0_off359_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off359 v58 k0_t17) a + S128x256.size a ≤ S256x2048.size a := fun v1_0 k0_t13 v56 v58 k0_hw10 k0_t17 => k0_hw10.1.2.2.2.2.2.2.2.2.2.2.2.2.2.2.2.2.2.2.2.2.2.2.1 k0_t17
theorem k0_off360_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off360 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.1 k0_t16 k0_t17
theorem k0_off361_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off361 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.1 k0_t16 k0_t17
theorem k0_off362_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off362 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.2.1 k0_t16 k0_t17
theorem k0_off363_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off363 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.2.2.1 k0_t16 k0_t17
theorem k0_off364_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off364 v1_0 k0_t13 k0_t16) a + S1x32x256.size a ≤ S10x32x2048.size a := fun v1_0 k0_t13 v56 v58 k0_hw10 k0_t16 k0_t17 => k0_hw10.1.2.2.2.2.2.2.2.2.2.2.2.2.2.2.2.2.2.2.2.2.2.2.2.2.2.2.2.1 k0_t16 k0_t17
theorem k0_off365_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off365 v58 k0_t17) a + S128x256.size a ≤ S256x2048.size a := fun v1_0 k0_t13 v56 v58 k0_hw10 k0_t17 => k0_hw10.1.2.2.2.2.2.2.2.2.2.2.2.2.2.2.2.2.2.2.2.2.2.2.2.2.2.2.2.2.1 k0_t17
theorem k0_off366_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off366 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.2.2.2.2.2.1 k0_t16 k0_t17
theorem k0_off367_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off367 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.2.2.2.2.2.2.1 k0_t16 k0_t17
theorem k0_off368_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off368 v1_0 k0_t13 k0_t16) a + S1x256x256.size a ≤ S10x1024x2048.size a := fun v1_0 k0_t13 v56 v58 k0_hw10 k0_t16 k0_t17 => k0_hw10.1.2.2.2.2.2.2.2.2.2.2.2.2.2.2.2.2.2.2.2.2.2.2.2.2.2.2.2.2.2.2.2 k0_t16 k0_t17
theorem k0_off369_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off369 v1_0 k0_t13 k0_t16) a + S1x256x256.size a ≤ S10x1024x2048.size a := fun v1_0 k0_t13 v56 v58 k0_hw10 k0_t16 k0_t17 => k0_hw10.2.1.1 k0_t16 k0_t17
theorem k0_off370_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off370 v1_0 k0_t13 k0_t16) a + S1x32x256.size a ≤ S10x32x2048.size a := fun v1_0 k0_t13 v56 v58 k0_hw10 k0_t16 k0_t17 => k0_hw10.2.1.2.1 k0_t16 k0_t17
theorem k0_off371_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off371 v58 k0_t17) a + S128x256.size a ≤ S256x2048.size a := fun v1_0 k0_t13 v56 v58 k0_hw10 k0_t17 => k0_hw10.2.1.2.2.1 k0_t17
theorem k0_off372_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off372 v1_0 k0_t13 k0_t16) a + S1x256x256.size a ≤ S10x1024x2048.size a := fun v1_0 k0_t13 v56 v58 k0_hw10 k0_t16 k0_t17 => k0_hw10.2.1.2.2.2.1 k0_t16 k0_t17
theorem k0_off373_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off373 v1_0 k0_t13 k0_t16) a + S1x256x256.size a ≤ S10x1024x2048.size a := fun v1_0 k0_t13 v56 v58 k0_hw10 k0_t16 k0_t17 => k0_hw10.2.1.2.2.2.2.1 k0_t16 k0_t17
theorem k0_off374_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off374 v1_0 k0_t13 k0_t16) a + S1x256x256.size a ≤ S10x1024x2048.size a := fun v1_0 k0_t13 v56 v58 k0_hw10 k0_t16 k0_t17 => k0_hw10.2.1.2.2.2.2.2.1 k0_t16 k0_t17
theorem k0_off375_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off375 v1_0 k0_t13 k0_t16) a + S1x256x256.size a ≤ S10x1024x2048.size a := fun v1_0 k0_t13 v56 v58 k0_hw10 k0_t16 k0_t17 => k0_hw10.2.1.2.2.2.2.2.2.1 k0_t16 k0_t17
theorem k0_off376_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off376 v1_0 k0_t13 k0_t16) a + S1x32x256.size a ≤ S10x32x2048.size a := fun v1_0 k0_t13 v56 v58 k0_hw10 k0_t16 k0_t17 => k0_hw10.2.1.2.2.2.2.2.2.2.1 k0_t16 k0_t17
theorem k0_off377_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off377 v58 k0_t17) a + S128x256.size a ≤ S256x2048.size a := fun v1_0 k0_t13 v56 v58 k0_hw10 k0_t17 => k0_hw10.2.1.2.2.2.2.2.2.2.2.1 k0_t17
theorem k0_off378_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off378 v1_0 k0_t13 k0_t16) a + S1x256x256.size a ≤ S10x1024x2048.size a := fun v1_0 k0_t13 v56 v58 k0_hw10 k0_t16 k0_t17 => k0_hw10.2.1.2.2.2.2.2.2.2.2.2.1 k0_t16 k0_t17
theorem k0_off379_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off379 v1_0 k0_t13 k0_t16) a + S1x256x256.size a ≤ S10x1024x2048.size a := fun v1_0 k0_t13 v56 v58 k0_hw10 k0_t16 k0_t17 => k0_hw10.2.1.2.2.2.2.2.2.2.2.2.2.1 k0_t16 k0_t17
theorem k0_off380_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off380 v1_0 k0_t13 k0_t16) a + S1x256x256.size a ≤ S10x1024x2048.size a := fun v1_0 k0_t13 v56 v58 k0_hw10 k0_t16 k0_t17 => k0_hw10.2.1.2.2.2.2.2.2.2.2.2.2.2.1 k0_t16 k0_t17
theorem k0_off381_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off381 v1_0 k0_t13 k0_t16) a + S1x256x256.size a ≤ S10x1024x2048.size a := fun v1_0 k0_t13 v56 v58 k0_hw10 k0_t16 k0_t17 => k0_hw10.2.1.2.2.2.2.2.2.2.2.2.2.2.2.1 k0_t16 k0_t17
theorem k0_off382_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off382 v1_0 k0_t13 k0_t16) a + S1x32x256.size a ≤ S10x32x2048.size a := fun v1_0 k0_t13 v56 v58 k0_hw10 k0_t16 k0_t17 => k0_hw10.2.1.2.2.2.2.2.2.2.2.2.2.2.2.2.1 k0_t16 k0_t17
theorem k0_off383_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off383 v58 k0_t17) a + S128x256.size a ≤ S256x2048.size a := fun v1_0 k0_t13 v56 v58 k0_hw10 k0_t17 => k0_hw10.2.1.2.2.2.2.2.2.2.2.2.2.2.2.2.2.1 k0_t17
theorem k0_off384_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off384 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.1 k0_t16 k0_t17
theorem k0_off385_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off385 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.1 k0_t16 k0_t17
theorem k0_off386_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off386 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.1 k0_t16 k0_t17
theorem k0_off387_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off387 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.2.1 k0_t16 k0_t17
theorem k0_off388_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off388 v1_0 k0_t13 k0_t16) a + S1x32x256.size a ≤ S10x32x2048.size a := fun v1_0 k0_t13 v56 v58 k0_hw10 k0_t16 k0_t17 => k0_hw10.2.1.2.2.2.2.2.2.2.2.2.2.2.2.2.2.2.2.2.2.2.1 k0_t16 k0_t17
theorem k0_off389_inb : ∀ (v1_0 : BitVec 32) (k0_t13 : Fin (k0_t13_loop v1_0).trips) (v56 : BitVec 32) (v58 : BitVec 32) (k0_hw10 : k0_chk10 v1_0 k0_t13 v56 v58) (k0_t17 : Fin (k0_t17_loop v58).trips), ∀ a, (k0_off389 v58 k0_t17) a + S128x256.size a ≤ S256x2048.size a := fun v1_0 k0_t13 v56 v58 k0_hw10 k0_t17 => k0_hw10.2.1.2.2.2.2.2.2.2.2.2.2.2.2.2.2.2.2.2.2.2.2.1 k0_t17
theorem k0_off390_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off390 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.2.2.2.2.1 k0_t16 k0_t17
theorem k0_off391_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off391 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.2.2.2.2.2.1 k0_t16 k0_t17
theorem k0_off392_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off392 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.2.2.2.2.2.2.1 k0_t16 k0_t17
theorem k0_off393_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t17 : Fin (k0_t17_loop v58).trips), ∀ a, (k0_off393 v1_0 k0_t13 k0_t16) a + S1x256x256.size a ≤ S10x1024x2048.size a := fun v1_0 k0_t13 v56 v58 k0_hw10 k0_t16 k0_t17 => k0_hw10.2.1.2.2.2.2.2.2.2.2.2.2.2.2.2.2.2.2.2.2.2.2.2.2.2.2.1 k0_t16 k0_t17
theorem k0_t18_ok : ∀ (v1_0 : BitVec 32) (k0_t13 : Fin (k0_t13_loop v1_0).trips) (v56 : BitVec 32) (v58 : BitVec 32) (k0_hw10 : k0_chk10 v1_0 k0_t13 v56 v58), (k0_t18_loop v58).OK := fun v1_0 k0_t13 v56 v58 k0_hw10 => k0_hw10.2.1.2.2.2.2.2.2.2.2.2.2.2.2.2.2.2.2.2.2.2.2.2.2.2.2.2.1
theorem k0_off394_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ (r₁ : Fin 16) (r₂ : Fin 4), ∀ a, (k0_off394 v56 v58 k0_t16 k0_t18 (BitVec.ofNat 32 r₁.val) (BitVec.ofNat 32 (256 * r₂.val))) a + S1x256.size a ≤ S32x7168.size a := fun v1_0 k0_t13 v56 v58 k0_hw10 k0_t16 k0_t18 r₁ r₂ => k0_hw10.2.1.2.2.2.2.2.2.2.2.2.2.2.2.2.2.2.2.2.2.2.2.2.2.2.2.2.2.1 k0_t16 k0_t18 r₁ r₂
theorem k0_mult401_dvd : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), 8 ∣ (k0_mult401 v58 k0_t18).toNat := fun v1_0 k0_t13 v56 v58 k0_hw10 k0_t18 => k0_hw10.2.1.2.2.2.2.2.2.2.2.2.2.2.2.2.2.2.2.2.2.2.2.2.2.2.2.2.2.2.1 k0_t18
theorem k0_off395_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off395 v1_0 k0_t13 k0_t16) a + S1x32x256.size a ≤ S10x32x2048.size a := fun v1_0 k0_t13 v56 v58 k0_hw10 k0_t16 k0_t18 => k0_hw10.2.1.2.2.2.2.2.2.2.2.2.2.2.2.2.2.2.2.2.2.2.2.2.2.2.2.2.2.2.2.1 k0_t16 k0_t18
theorem k0_off396_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off396 v58 k0_t18) a + S128x256.size a ≤ S256x2048.size a := fun v1_0 k0_t13 v56 v58 k0_hw10 k0_t18 => k0_hw10.2.1.2.2.2.2.2.2.2.2.2.2.2.2.2.2.2.2.2.2.2.2.2.2.2.2.2.2.2.2.2.1 k0_t18
theorem k0_off397_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off397 v1_0 k0_t13 k0_t16) a + S1x256x256.size a ≤ S10x1024x2048.size a := fun v1_0 k0_t13 v56 v58 k0_hw10 k0_t16 k0_t18 => k0_hw10.2.1.2.2.2.2.2.2.2.2.2.2.2.2.2.2.2.2.2.2.2.2.2.2.2.2.2.2.2.2.2.2.1 k0_t16 k0_t18
theorem k0_off398_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off398 v1_0 k0_t13 k0_t16) a + S1x256x256.size a ≤ S10x1024x2048.size a := fun v1_0 k0_t13 v56 v58 k0_hw10 k0_t16 k0_t18 => k0_hw10.2.1.2.2.2.2.2.2.2.2.2.2.2.2.2.2.2.2.2.2.2.2.2.2.2.2.2.2.2.2.2.2.2 k0_t16 k0_t18
theorem k0_off399_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off399 v1_0 k0_t13 k0_t16) a + S1x256x256.size a ≤ S10x1024x2048.size a := fun v1_0 k0_t13 v56 v58 k0_hw10 k0_t16 k0_t18 => k0_hw10.2.2.1.1 k0_t16 k0_t18
theorem k0_off400_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off400 v1_0 k0_t13 k0_t16) a + S1x256x256.size a ≤ S10x1024x2048.size a := fun v1_0 k0_t13 v56 v58 k0_hw10 k0_t16 k0_t18 => k0_hw10.2.2.1.2.1 k0_t16 k0_t18
theorem k0_off401_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off401 v1_0 k0_t13 k0_t16) a + S1x32x256.size a ≤ S10x32x2048.size a := fun v1_0 k0_t13 v56 v58 k0_hw10 k0_t16 k0_t18 => k0_hw10.2.2.1.2.2.1 k0_t16 k0_t18
theorem k0_off402_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off402 v58 k0_t18) a + S128x256.size a ≤ S256x2048.size a := fun v1_0 k0_t13 v56 v58 k0_hw10 k0_t18 => k0_hw10.2.2.1.2.2.2.1 k0_t18
theorem k0_off403_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off403 v1_0 k0_t13 k0_t16) a + S1x256x256.size a ≤ S10x1024x2048.size a := fun v1_0 k0_t13 v56 v58 k0_hw10 k0_t16 k0_t18 => k0_hw10.2.2.1.2.2.2.2.1 k0_t16 k0_t18
theorem k0_off404_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off404 v1_0 k0_t13 k0_t16) a + S1x256x256.size a ≤ S10x1024x2048.size a := fun v1_0 k0_t13 v56 v58 k0_hw10 k0_t16 k0_t18 => k0_hw10.2.2.1.2.2.2.2.2.1 k0_t16 k0_t18
theorem k0_off405_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off405 v1_0 k0_t13 k0_t16) a + S1x256x256.size a ≤ S10x1024x2048.size a := fun v1_0 k0_t13 v56 v58 k0_hw10 k0_t16 k0_t18 => k0_hw10.2.2.1.2.2.2.2.2.2.1 k0_t16 k0_t18
theorem k0_off406_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off406 v1_0 k0_t13 k0_t16) a + S1x256x256.size a ≤ S10x1024x2048.size a := fun v1_0 k0_t13 v56 v58 k0_hw10 k0_t16 k0_t18 => k0_hw10.2.2.1.2.2.2.2.2.2.2.1 k0_t16 k0_t18
theorem k0_off407_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off407 v1_0 k0_t13 k0_t16) a + S1x32x256.size a ≤ S10x32x2048.size a := fun v1_0 k0_t13 v56 v58 k0_hw10 k0_t16 k0_t18 => k0_hw10.2.2.1.2.2.2.2.2.2.2.2.1 k0_t16 k0_t18
theorem k0_off408_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off408 v58 k0_t18) a + S128x256.size a ≤ S256x2048.size a := fun v1_0 k0_t13 v56 v58 k0_hw10 k0_t18 => k0_hw10.2.2.1.2.2.2.2.2.2.2.2.2.1 k0_t18
theorem k0_off409_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off409 v1_0 k0_t13 k0_t16) a + S1x256x256.size a ≤ S10x1024x2048.size a := fun v1_0 k0_t13 v56 v58 k0_hw10 k0_t16 k0_t18 => k0_hw10.2.2.1.2.2.2.2.2.2.2.2.2.2.1 k0_t16 k0_t18
theorem k0_off410_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off410 v1_0 k0_t13 k0_t16) a + S1x256x256.size a ≤ S10x1024x2048.size a := fun v1_0 k0_t13 v56 v58 k0_hw10 k0_t16 k0_t18 => k0_hw10.2.2.1.2.2.2.2.2.2.2.2.2.2.2.1 k0_t16 k0_t18
theorem k0_off411_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off411 v1_0 k0_t13 k0_t16) a + S1x256x256.size a ≤ S10x1024x2048.size a := fun v1_0 k0_t13 v56 v58 k0_hw10 k0_t16 k0_t18 => k0_hw10.2.2.1.2.2.2.2.2.2.2.2.2.2.2.2.1 k0_t16 k0_t18
theorem k0_off412_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off412 v1_0 k0_t13 k0_t16) a + S1x256x256.size a ≤ S10x1024x2048.size a := fun v1_0 k0_t13 v56 v58 k0_hw10 k0_t16 k0_t18 => k0_hw10.2.2.1.2.2.2.2.2.2.2.2.2.2.2.2.2.1 k0_t16 k0_t18
theorem k0_off413_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off413 v1_0 k0_t13 k0_t16) a + S1x32x256.size a ≤ S10x32x2048.size a := fun v1_0 k0_t13 v56 v58 k0_hw10 k0_t16 k0_t18 => k0_hw10.2.2.1.2.2.2.2.2.2.2.2.2.2.2.2.2.2.1 k0_t16 k0_t18
theorem k0_off414_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off414 v58 k0_t18) a + S128x256.size a ≤ S256x2048.size a := fun v1_0 k0_t13 v56 v58 k0_hw10 k0_t18 => k0_hw10.2.2.1.2.2.2.2.2.2.2.2.2.2.2.2.2.2.2.1 k0_t18
theorem k0_off415_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off415 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.1 k0_t16 k0_t18
theorem k0_off416_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off416 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.1 k0_t16 k0_t18
theorem k0_off417_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off417 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.1 k0_t16 k0_t18
theorem k0_off418_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off418 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.1 k0_t16 k0_t18
theorem k0_off419_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off419 v1_0 k0_t13 k0_t16) a + S1x32x256.size a ≤ S10x32x2048.size a := fun v1_0 k0_t13 v56 v58 k0_hw10 k0_t16 k0_t18 => k0_hw10.2.2.1.2.2.2.2.2.2.2.2.2.2.2.2.2.2.2.2.2.2.2.2.1 k0_t16 k0_t18
theorem k0_off420_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off420 v58 k0_t18) a + S128x256.size a ≤ S256x2048.size a := fun v1_0 k0_t13 v56 v58 k0_hw10 k0_t18 => k0_hw10.2.2.1.2.2.2.2.2.2.2.2.2.2.2.2.2.2.2.2.2.2.2.2.2.1 k0_t18
theorem k0_off421_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off421 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.1 k0_t16 k0_t18
theorem k0_off422_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off422 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.1 k0_t16 k0_t18
theorem k0_off423_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off423 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.1 k0_t16 k0_t18
theorem k0_off424_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off424 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.2.1 k0_t16 k0_t18
theorem k0_off425_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off425 v1_0 k0_t13 k0_t16) a + S1x32x256.size a ≤ S10x32x2048.size a := fun v1_0 k0_t13 v56 v58 k0_hw10 k0_t16 k0_t18 => k0_hw10.2.2.1.2.2.2.2.2.2.2.2.2.2.2.2.2.2.2.2.2.2.2.2.2.2.2.2.2.2.1 k0_t16 k0_t18
theorem k0_off426_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off426 v58 k0_t18) a + S128x256.size a ≤ S256x2048.size a := fun v1_0 k0_t13 v56 v58 k0_hw10 k0_t18 => k0_hw10.2.2.1.2.2.2.2.2.2.2.2.2.2.2.2.2.2.2.2.2.2.2.2.2.2.2.2.2.2.2.1 k0_t18
theorem k0_off427_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off427 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.2.2.2.2.1 k0_t16 k0_t18
theorem k0_off428_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off428 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.2.2.2.2.2.1 k0_t16 k0_t18
theorem k0_off429_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off429 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.2.2.2.2.2.2.1 k0_t16 k0_t18
theorem k0_off430_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off430 v1_0 k0_t13 k0_t16) a + S1x256x256.size a ≤ S10x1024x2048.size a := fun v1_0 k0_t13 v56 v58 k0_hw10 k0_t16 k0_t18 => k0_hw10.2.2.1.2.2.2.2.2.2.2.2.2.2.2.2.2.2.2.2.2.2.2.2.2.2.2.2.2.2.2.2.2.2.2 k0_t16 k0_t18
theorem k0_off431_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off431 v1_0 k0_t13 k0_t16) a + S1x32x256.size a ≤ S10x32x2048.size a := fun v1_0 k0_t13 v56 v58 k0_hw10 k0_t16 k0_t18 => k0_hw10.2.2.2.1.1 k0_t16 k0_t18
theorem k0_off432_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off432 v58 k0_t18) a + S128x256.size a ≤ S256x2048.size a := fun v1_0 k0_t13 v56 v58 k0_hw10 k0_t18 => k0_hw10.2.2.2.1.2.1 k0_t18
theorem k0_off433_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off433 v1_0 k0_t13 k0_t16) a + S1x256x256.size a ≤ S10x1024x2048.size a := fun v1_0 k0_t13 v56 v58 k0_hw10 k0_t16 k0_t18 => k0_hw10.2.2.2.1.2.2.1 k0_t16 k0_t18
theorem k0_off434_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off434 v1_0 k0_t13 k0_t16) a + S1x256x256.size a ≤ S10x1024x2048.size a := fun v1_0 k0_t13 v56 v58 k0_hw10 k0_t16 k0_t18 => k0_hw10.2.2.2.1.2.2.2.1 k0_t16 k0_t18
theorem k0_off435_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off435 v1_0 k0_t13 k0_t16) a + S1x256x256.size a ≤ S10x1024x2048.size a := fun v1_0 k0_t13 v56 v58 k0_hw10 k0_t16 k0_t18 => k0_hw10.2.2.2.1.2.2.2.2.1 k0_t16 k0_t18
theorem k0_off436_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off436 v1_0 k0_t13 k0_t16) a + S1x256x256.size a ≤ S10x1024x2048.size a := fun v1_0 k0_t13 v56 v58 k0_hw10 k0_t16 k0_t18 => k0_hw10.2.2.2.1.2.2.2.2.2.1 k0_t16 k0_t18
theorem k0_off437_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off437 v1_0 k0_t13 k0_t16) a + S1x32x256.size a ≤ S10x32x2048.size a := fun v1_0 k0_t13 v56 v58 k0_hw10 k0_t16 k0_t18 => k0_hw10.2.2.2.1.2.2.2.2.2.2.1 k0_t16 k0_t18
theorem k0_off438_inb : ∀ (v1_0 : BitVec 32) (k0_t13 : Fin (k0_t13_loop v1_0).trips) (v56 : BitVec 32) (v58 : BitVec 32) (k0_hw10 : k0_chk10 v1_0 k0_t13 v56 v58) (k0_t18 : Fin (k0_t18_loop v58).trips), ∀ a, (k0_off438 v58 k0_t18) a + S128x256.size a ≤ S256x2048.size a := fun v1_0 k0_t13 v56 v58 k0_hw10 k0_t18 => k0_hw10.2.2.2.1.2.2.2.2.2.2.2.1 k0_t18
theorem k0_off439_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off439 v1_0 k0_t13 k0_t16) a + S1x256x256.size a ≤ S10x1024x2048.size a := fun v1_0 k0_t13 v56 v58 k0_hw10 k0_t16 k0_t18 => k0_hw10.2.2.2.1.2.2.2.2.2.2.2.2.1 k0_t16 k0_t18
theorem k0_off440_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off440 v1_0 k0_t13 k0_t16) a + S1x256x256.size a ≤ S10x1024x2048.size a := fun v1_0 k0_t13 v56 v58 k0_hw10 k0_t16 k0_t18 => k0_hw10.2.2.2.1.2.2.2.2.2.2.2.2.2.1 k0_t16 k0_t18
theorem k0_off441_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off441 v1_0 k0_t13 k0_t16) a + S1x256x256.size a ≤ S10x1024x2048.size a := fun v1_0 k0_t13 v56 v58 k0_hw10 k0_t16 k0_t18 => k0_hw10.2.2.2.1.2.2.2.2.2.2.2.2.2.2.1 k0_t16 k0_t18
theorem k0_off442_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips) (k0_t18 : Fin (k0_t18_loop v58).trips), ∀ a, (k0_off442 v1_0 k0_t13 k0_t16) a + S1x256x256.size a ≤ S10x1024x2048.size a := fun v1_0 k0_t13 v56 v58 k0_hw10 k0_t16 k0_t18 => k0_hw10.2.2.2.1.2.2.2.2.2.2.2.2.2.2.2.1 k0_t16 k0_t18
theorem k0_off443_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ (r₁ : Fin 2) (r₂ : Fin 4), ∀ a, (k0_off443 v56 v58 k0_t16 (BitVec.ofNat 32 r₁.val) (BitVec.ofNat 32 (256 * r₂.val))) a + S1x256.size a ≤ S32x7168.size a := fun v1_0 k0_t13 v56 v58 k0_hw10 k0_t16 k0_h6 r₁ r₂ => k0_hw10.2.2.2.1.2.2.2.2.2.2.2.2.2.2.2.2.1 k0_t16 k0_h6 r₁ r₂
theorem k0_mult410_dvd : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), 8 ∣ (k0_mult410 v58).toNat := fun v1_0 k0_t13 v56 v58 k0_hw10 k0_h6 => k0_hw10.2.2.2.1.2.2.2.2.2.2.2.2.2.2.2.2.2.1 k0_h6
theorem k0_off444_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off444 v1_0 k0_t13 k0_t16) a + S1x32x256.size a ≤ S10x32x2048.size a := fun v1_0 k0_t13 v56 v58 k0_hw10 k0_t16 k0_h6 => k0_hw10.2.2.2.1.2.2.2.2.2.2.2.2.2.2.2.2.2.2.1 k0_t16 k0_h6
theorem k0_off445_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off445 v58) a + S16x256.size a ≤ S256x2048.size a := fun v1_0 k0_t13 v56 v58 k0_hw10 k0_h6 => k0_hw10.2.2.2.1.2.2.2.2.2.2.2.2.2.2.2.2.2.2.2.1 k0_h6
theorem k0_off446_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off446 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.1 k0_t16 k0_h6
theorem k0_off447_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off447 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.1 k0_t16 k0_h6
theorem k0_off448_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off448 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.1 k0_t16 k0_h6
theorem k0_off449_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off449 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.1 k0_t16 k0_h6
theorem k0_off450_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off450 v1_0 k0_t13 k0_t16) a + S1x32x256.size a ≤ S10x32x2048.size a := fun v1_0 k0_t13 v56 v58 k0_hw10 k0_t16 k0_h6 => k0_hw10.2.2.2.1.2.2.2.2.2.2.2.2.2.2.2.2.2.2.2.2.2.2.2.2.1 k0_t16 k0_h6
theorem k0_off451_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off451 v58) a + S16x256.size a ≤ S256x2048.size a := fun v1_0 k0_t13 v56 v58 k0_hw10 k0_h6 => k0_hw10.2.2.2.1.2.2.2.2.2.2.2.2.2.2.2.2.2.2.2.2.2.2.2.2.2.1 k0_h6
theorem k0_off452_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off452 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.1 k0_t16 k0_h6
theorem k0_off453_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off453 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.1 k0_t16 k0_h6
theorem k0_off454_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off454 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.1 k0_t16 k0_h6
theorem k0_off455_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off455 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.2.1 k0_t16 k0_h6
theorem k0_off456_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off456 v1_0 k0_t13 k0_t16) a + S1x32x256.size a ≤ S10x32x2048.size a := fun v1_0 k0_t13 v56 v58 k0_hw10 k0_t16 k0_h6 => k0_hw10.2.2.2.1.2.2.2.2.2.2.2.2.2.2.2.2.2.2.2.2.2.2.2.2.2.2.2.2.2.2.1 k0_t16 k0_h6
theorem k0_off457_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off457 v58) a + S16x256.size a ≤ S256x2048.size a := fun v1_0 k0_t13 v56 v58 k0_hw10 k0_h6 => k0_hw10.2.2.2.1.2.2.2.2.2.2.2.2.2.2.2.2.2.2.2.2.2.2.2.2.2.2.2.2.2.2.2.1 k0_h6
theorem k0_off458_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off458 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.2.2.2.2.1 k0_t16 k0_h6
theorem k0_off459_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off459 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.2.2.2.2.2.1 k0_t16 k0_h6
theorem k0_off460_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off460 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.2.2.2.2.2.2.1 k0_t16 k0_h6
theorem k0_off461_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off461 v1_0 k0_t13 k0_t16) a + S1x256x256.size a ≤ S10x1024x2048.size a := fun v1_0 k0_t13 v56 v58 k0_hw10 k0_t16 k0_h6 => k0_hw10.2.2.2.1.2.2.2.2.2.2.2.2.2.2.2.2.2.2.2.2.2.2.2.2.2.2.2.2.2.2.2.2.2.2.2 k0_t16 k0_h6
theorem k0_off462_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off462 v1_0 k0_t13 k0_t16) a + S1x32x256.size a ≤ S10x32x2048.size a := fun v1_0 k0_t13 v56 v58 k0_hw10 k0_t16 k0_h6 => k0_hw10.2.2.2.2.1.1 k0_t16 k0_h6
theorem k0_off463_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off463 v58) a + S16x256.size a ≤ S256x2048.size a := fun v1_0 k0_t13 v56 v58 k0_hw10 k0_h6 => k0_hw10.2.2.2.2.1.2.1 k0_h6
theorem k0_off464_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off464 v1_0 k0_t13 k0_t16) a + S1x256x256.size a ≤ S10x1024x2048.size a := fun v1_0 k0_t13 v56 v58 k0_hw10 k0_t16 k0_h6 => k0_hw10.2.2.2.2.1.2.2.1 k0_t16 k0_h6
theorem k0_off465_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off465 v1_0 k0_t13 k0_t16) a + S1x256x256.size a ≤ S10x1024x2048.size a := fun v1_0 k0_t13 v56 v58 k0_hw10 k0_t16 k0_h6 => k0_hw10.2.2.2.2.1.2.2.2.1 k0_t16 k0_h6
theorem k0_off466_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off466 v1_0 k0_t13 k0_t16) a + S1x256x256.size a ≤ S10x1024x2048.size a := fun v1_0 k0_t13 v56 v58 k0_hw10 k0_t16 k0_h6 => k0_hw10.2.2.2.2.1.2.2.2.2.1 k0_t16 k0_h6
theorem k0_off467_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off467 v1_0 k0_t13 k0_t16) a + S1x256x256.size a ≤ S10x1024x2048.size a := fun v1_0 k0_t13 v56 v58 k0_hw10 k0_t16 k0_h6 => k0_hw10.2.2.2.2.1.2.2.2.2.2.1 k0_t16 k0_h6
theorem k0_off468_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off468 v1_0 k0_t13 k0_t16) a + S1x32x256.size a ≤ S10x32x2048.size a := fun v1_0 k0_t13 v56 v58 k0_hw10 k0_t16 k0_h6 => k0_hw10.2.2.2.2.1.2.2.2.2.2.2.1 k0_t16 k0_h6
theorem k0_off469_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off469 v58) a + S16x256.size a ≤ S256x2048.size a := fun v1_0 k0_t13 v56 v58 k0_hw10 k0_h6 => k0_hw10.2.2.2.2.1.2.2.2.2.2.2.2.1 k0_h6
theorem k0_off470_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off470 v1_0 k0_t13 k0_t16) a + S1x256x256.size a ≤ S10x1024x2048.size a := fun v1_0 k0_t13 v56 v58 k0_hw10 k0_t16 k0_h6 => k0_hw10.2.2.2.2.1.2.2.2.2.2.2.2.2.1 k0_t16 k0_h6
theorem k0_off471_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off471 v1_0 k0_t13 k0_t16) a + S1x256x256.size a ≤ S10x1024x2048.size a := fun v1_0 k0_t13 v56 v58 k0_hw10 k0_t16 k0_h6 => k0_hw10.2.2.2.2.1.2.2.2.2.2.2.2.2.2.1 k0_t16 k0_h6
theorem k0_off472_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off472 v1_0 k0_t13 k0_t16) a + S1x256x256.size a ≤ S10x1024x2048.size a := fun v1_0 k0_t13 v56 v58 k0_hw10 k0_t16 k0_h6 => k0_hw10.2.2.2.2.1.2.2.2.2.2.2.2.2.2.2.1 k0_t16 k0_h6
theorem k0_off473_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off473 v1_0 k0_t13 k0_t16) a + S1x256x256.size a ≤ S10x1024x2048.size a := fun v1_0 k0_t13 v56 v58 k0_hw10 k0_t16 k0_h6 => k0_hw10.2.2.2.2.1.2.2.2.2.2.2.2.2.2.2.2.1 k0_t16 k0_h6
theorem k0_off474_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off474 v1_0 k0_t13 k0_t16) a + S1x32x256.size a ≤ S10x32x2048.size a := fun v1_0 k0_t13 v56 v58 k0_hw10 k0_t16 k0_h6 => k0_hw10.2.2.2.2.1.2.2.2.2.2.2.2.2.2.2.2.2.1 k0_t16 k0_h6
theorem k0_off475_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off475 v58) a + S16x256.size a ≤ S256x2048.size a := fun v1_0 k0_t13 v56 v58 k0_hw10 k0_h6 => k0_hw10.2.2.2.2.1.2.2.2.2.2.2.2.2.2.2.2.2.2.1 k0_h6
theorem k0_off476_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off476 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.1 k0_t16 k0_h6
theorem k0_off477_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off477 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.1 k0_t16 k0_h6
theorem k0_off478_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off478 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.1 k0_t16 k0_h6
theorem k0_off479_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off479 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.1 k0_t16 k0_h6
theorem k0_off480_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off480 v1_0 k0_t13 k0_t16) a + S1x32x256.size a ≤ S10x32x2048.size a := fun v1_0 k0_t13 v56 v58 k0_hw10 k0_t16 k0_h6 => k0_hw10.2.2.2.2.1.2.2.2.2.2.2.2.2.2.2.2.2.2.2.2.2.2.2.1 k0_t16 k0_h6
theorem k0_off481_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off481 v58) a + S16x256.size a ≤ S256x2048.size a := fun v1_0 k0_t13 v56 v58 k0_hw10 k0_h6 => k0_hw10.2.2.2.2.1.2.2.2.2.2.2.2.2.2.2.2.2.2.2.2.2.2.2.2.1 k0_h6
theorem k0_off482_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off482 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.1 k0_t16 k0_h6
theorem k0_off483_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off483 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.1 k0_t16 k0_h6
theorem k0_off484_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off484 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.1 k0_t16 k0_h6
theorem k0_off485_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off485 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.2.1 k0_t16 k0_h6
theorem k0_off486_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off486 v1_0 k0_t13 k0_t16) a + S1x32x256.size a ≤ S10x32x2048.size a := fun v1_0 k0_t13 v56 v58 k0_hw10 k0_t16 k0_h6 => k0_hw10.2.2.2.2.1.2.2.2.2.2.2.2.2.2.2.2.2.2.2.2.2.2.2.2.2.2.2.2.2.1 k0_t16 k0_h6
theorem k0_off487_inb : ∀ (v1_0 : BitVec 32) (k0_t13 : Fin (k0_t13_loop v1_0).trips) (v56 : BitVec 32) (v58 : BitVec 32) (k0_hw10 : k0_chk10 v1_0 k0_t13 v56 v58), ∀ (k0_h6 : k0_cond6 v58 = 1#1), ∀ a, (k0_off487 v58) a + S16x256.size a ≤ S256x2048.size a := fun v1_0 k0_t13 v56 v58 k0_hw10 k0_h6 => k0_hw10.2.2.2.2.1.2.2.2.2.2.2.2.2.2.2.2.2.2.2.2.2.2.2.2.2.2.2.2.2.2.1 k0_h6
theorem k0_off488_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off488 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.2.2.2.2.1 k0_t16 k0_h6
theorem k0_off489_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off489 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.2.2.2.2.2.1 k0_t16 k0_h6
theorem k0_off490_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off490 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.2.2.2.2.2.2.1 k0_t16 k0_h6
theorem k0_off491_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h6 : k0_cond6 v58 = 1#1), ∀ a, (k0_off491 v1_0 k0_t13 k0_t16) a + S1x256x256.size a ≤ S10x1024x2048.size a := fun v1_0 k0_t13 v56 v58 k0_hw10 k0_t16 k0_h6 => k0_hw10.2.2.2.2.1.2.2.2.2.2.2.2.2.2.2.2.2.2.2.2.2.2.2.2.2.2.2.2.2.2.2.2.2.2.1 k0_t16 k0_h6
theorem k0_off492_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ (r₁ : Fin 4) (r₂ : Fin 4), ∀ a, (k0_off492 v56 v58 k0_t16 (BitVec.ofNat 32 r₁.val) (BitVec.ofNat 32 (256 * r₂.val))) a + S1x256.size a ≤ S32x7168.size a := fun v1_0 k0_t13 v56 v58 k0_hw10 k0_t16 k0_h7 r₁ r₂ => k0_hw10.2.2.2.2.1.2.2.2.2.2.2.2.2.2.2.2.2.2.2.2.2.2.2.2.2.2.2.2.2.2.2.2.2.2.2.1 k0_t16 k0_h7 r₁ r₂
theorem k0_mult427_dvd : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), 8 ∣ (k0_mult427 v58).toNat := fun v1_0 k0_t13 v56 v58 k0_hw10 k0_h7 => k0_hw10.2.2.2.2.1.2.2.2.2.2.2.2.2.2.2.2.2.2.2.2.2.2.2.2.2.2.2.2.2.2.2.2.2.2.2.2 k0_h7
theorem k0_off493_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off493 v1_0 k0_t13 k0_t16) a + S1x32x256.size a ≤ S10x32x2048.size a := fun v1_0 k0_t13 v56 v58 k0_hw10 k0_t16 k0_h7 => k0_hw10.2.2.2.2.2.1.1 k0_t16 k0_h7
theorem k0_off494_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off494 v58) a + S32x256.size a ≤ S256x2048.size a := fun v1_0 k0_t13 v56 v58 k0_hw10 k0_h7 => k0_hw10.2.2.2.2.2.1.2.1 k0_h7
theorem k0_off495_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off495 v1_0 k0_t13 k0_t16) a + S1x256x256.size a ≤ S10x1024x2048.size a := fun v1_0 k0_t13 v56 v58 k0_hw10 k0_t16 k0_h7 => k0_hw10.2.2.2.2.2.1.2.2.1 k0_t16 k0_h7
theorem k0_off496_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off496 v1_0 k0_t13 k0_t16) a + S1x256x256.size a ≤ S10x1024x2048.size a := fun v1_0 k0_t13 v56 v58 k0_hw10 k0_t16 k0_h7 => k0_hw10.2.2.2.2.2.1.2.2.2.1 k0_t16 k0_h7
theorem k0_off497_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off497 v1_0 k0_t13 k0_t16) a + S1x256x256.size a ≤ S10x1024x2048.size a := fun v1_0 k0_t13 v56 v58 k0_hw10 k0_t16 k0_h7 => k0_hw10.2.2.2.2.2.1.2.2.2.2.1 k0_t16 k0_h7
theorem k0_off498_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off498 v1_0 k0_t13 k0_t16) a + S1x256x256.size a ≤ S10x1024x2048.size a := fun v1_0 k0_t13 v56 v58 k0_hw10 k0_t16 k0_h7 => k0_hw10.2.2.2.2.2.1.2.2.2.2.2.1 k0_t16 k0_h7
theorem k0_off499_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off499 v1_0 k0_t13 k0_t16) a + S1x32x256.size a ≤ S10x32x2048.size a := fun v1_0 k0_t13 v56 v58 k0_hw10 k0_t16 k0_h7 => k0_hw10.2.2.2.2.2.1.2.2.2.2.2.2.1 k0_t16 k0_h7
theorem k0_off500_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off500 v58) a + S32x256.size a ≤ S256x2048.size a := fun v1_0 k0_t13 v56 v58 k0_hw10 k0_h7 => k0_hw10.2.2.2.2.2.1.2.2.2.2.2.2.2.1 k0_h7
theorem k0_off501_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off501 v1_0 k0_t13 k0_t16) a + S1x256x256.size a ≤ S10x1024x2048.size a := fun v1_0 k0_t13 v56 v58 k0_hw10 k0_t16 k0_h7 => k0_hw10.2.2.2.2.2.1.2.2.2.2.2.2.2.2.1 k0_t16 k0_h7
theorem k0_off502_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off502 v1_0 k0_t13 k0_t16) a + S1x256x256.size a ≤ S10x1024x2048.size a := fun v1_0 k0_t13 v56 v58 k0_hw10 k0_t16 k0_h7 => k0_hw10.2.2.2.2.2.1.2.2.2.2.2.2.2.2.2.1 k0_t16 k0_h7
theorem k0_off503_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off503 v1_0 k0_t13 k0_t16) a + S1x256x256.size a ≤ S10x1024x2048.size a := fun v1_0 k0_t13 v56 v58 k0_hw10 k0_t16 k0_h7 => k0_hw10.2.2.2.2.2.1.2.2.2.2.2.2.2.2.2.2.1 k0_t16 k0_h7
theorem k0_off504_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off504 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.1 k0_t16 k0_h7
theorem k0_off505_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off505 v1_0 k0_t13 k0_t16) a + S1x32x256.size a ≤ S10x32x2048.size a := fun v1_0 k0_t13 v56 v58 k0_hw10 k0_t16 k0_h7 => k0_hw10.2.2.2.2.2.1.2.2.2.2.2.2.2.2.2.2.2.2.1 k0_t16 k0_h7
theorem k0_off506_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off506 v58) a + S32x256.size a ≤ S256x2048.size a := fun v1_0 k0_t13 v56 v58 k0_hw10 k0_h7 => k0_hw10.2.2.2.2.2.1.2.2.2.2.2.2.2.2.2.2.2.2.2.1 k0_h7
theorem k0_off507_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off507 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.1 k0_t16 k0_h7
theorem k0_off508_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off508 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.1 k0_t16 k0_h7
theorem k0_off509_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off509 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.1 k0_t16 k0_h7
theorem k0_off510_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off510 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.1 k0_t16 k0_h7
theorem k0_off511_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off511 v1_0 k0_t13 k0_t16) a + S1x32x256.size a ≤ S10x32x2048.size a := fun v1_0 k0_t13 v56 v58 k0_hw10 k0_t16 k0_h7 => k0_hw10.2.2.2.2.2.1.2.2.2.2.2.2.2.2.2.2.2.2.2.2.2.2.2.2.1 k0_t16 k0_h7
theorem k0_off512_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off512 v58) a + S32x256.size a ≤ S256x2048.size a := fun v1_0 k0_t13 v56 v58 k0_hw10 k0_h7 => k0_hw10.2.2.2.2.2.1.2.2.2.2.2.2.2.2.2.2.2.2.2.2.2.2.2.2.2.1 k0_h7
theorem k0_off513_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off513 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.1 k0_t16 k0_h7
theorem k0_off514_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off514 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.1 k0_t16 k0_h7
theorem k0_off515_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off515 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.1 k0_t16 k0_h7
theorem k0_off516_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off516 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.2.1 k0_t16 k0_h7
theorem k0_off517_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off517 v1_0 k0_t13 k0_t16) a + S1x32x256.size a ≤ S10x32x2048.size a := fun v1_0 k0_t13 v56 v58 k0_hw10 k0_t16 k0_h7 => k0_hw10.2.2.2.2.2.1.2.2.2.2.2.2.2.2.2.2.2.2.2.2.2.2.2.2.2.2.2.2.2.2.1 k0_t16 k0_h7
theorem k0_off518_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off518 v58) a + S32x256.size a ≤ S256x2048.size a := fun v1_0 k0_t13 v56 v58 k0_hw10 k0_h7 => k0_hw10.2.2.2.2.2.1.2.2.2.2.2.2.2.2.2.2.2.2.2.2.2.2.2.2.2.2.2.2.2.2.2.1 k0_h7
theorem k0_off519_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off519 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.2.2.2.2.1 k0_t16 k0_h7
theorem k0_off520_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off520 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.2.2.2.2.2.1 k0_t16 k0_h7
theorem k0_off521_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off521 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.2.2.2.2.2.2.1 k0_t16 k0_h7
theorem k0_off522_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off522 v1_0 k0_t13 k0_t16) a + S1x256x256.size a ≤ S10x1024x2048.size a := fun v1_0 k0_t13 v56 v58 k0_hw10 k0_t16 k0_h7 => k0_hw10.2.2.2.2.2.1.2.2.2.2.2.2.2.2.2.2.2.2.2.2.2.2.2.2.2.2.2.2.2.2.2.2.2.2.2.1 k0_t16 k0_h7
theorem k0_off523_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off523 v1_0 k0_t13 k0_t16) a + S1x32x256.size a ≤ S10x32x2048.size a := fun v1_0 k0_t13 v56 v58 k0_hw10 k0_t16 k0_h7 => k0_hw10.2.2.2.2.2.1.2.2.2.2.2.2.2.2.2.2.2.2.2.2.2.2.2.2.2.2.2.2.2.2.2.2.2.2.2.2.1 k0_t16 k0_h7
theorem k0_off524_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off524 v58) a + S32x256.size a ≤ S256x2048.size a := fun v1_0 k0_t13 v56 v58 k0_hw10 k0_h7 => k0_hw10.2.2.2.2.2.1.2.2.2.2.2.2.2.2.2.2.2.2.2.2.2.2.2.2.2.2.2.2.2.2.2.2.2.2.2.2.2 k0_h7
theorem k0_off525_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off525 v1_0 k0_t13 k0_t16) a + S1x256x256.size a ≤ S10x1024x2048.size a := fun v1_0 k0_t13 v56 v58 k0_hw10 k0_t16 k0_h7 => k0_hw10.2.2.2.2.2.2.1.1 k0_t16 k0_h7
theorem k0_off526_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off526 v1_0 k0_t13 k0_t16) a + S1x256x256.size a ≤ S10x1024x2048.size a := fun v1_0 k0_t13 v56 v58 k0_hw10 k0_t16 k0_h7 => k0_hw10.2.2.2.2.2.2.1.2.1 k0_t16 k0_h7
theorem k0_off527_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off527 v1_0 k0_t13 k0_t16) a + S1x256x256.size a ≤ S10x1024x2048.size a := fun v1_0 k0_t13 v56 v58 k0_hw10 k0_t16 k0_h7 => k0_hw10.2.2.2.2.2.2.1.2.2.1 k0_t16 k0_h7
theorem k0_off528_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off528 v1_0 k0_t13 k0_t16) a + S1x256x256.size a ≤ S10x1024x2048.size a := fun v1_0 k0_t13 v56 v58 k0_hw10 k0_t16 k0_h7 => k0_hw10.2.2.2.2.2.2.1.2.2.2.1 k0_t16 k0_h7
theorem k0_off529_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off529 v1_0 k0_t13 k0_t16) a + S1x32x256.size a ≤ S10x32x2048.size a := fun v1_0 k0_t13 v56 v58 k0_hw10 k0_t16 k0_h7 => k0_hw10.2.2.2.2.2.2.1.2.2.2.2.1 k0_t16 k0_h7
theorem k0_off530_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off530 v58) a + S32x256.size a ≤ S256x2048.size a := fun v1_0 k0_t13 v56 v58 k0_hw10 k0_h7 => k0_hw10.2.2.2.2.2.2.1.2.2.2.2.2.1 k0_h7
theorem k0_off531_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off531 v1_0 k0_t13 k0_t16) a + S1x256x256.size a ≤ S10x1024x2048.size a := fun v1_0 k0_t13 v56 v58 k0_hw10 k0_t16 k0_h7 => k0_hw10.2.2.2.2.2.2.1.2.2.2.2.2.2.1 k0_t16 k0_h7
theorem k0_off532_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off532 v1_0 k0_t13 k0_t16) a + S1x256x256.size a ≤ S10x1024x2048.size a := fun v1_0 k0_t13 v56 v58 k0_hw10 k0_t16 k0_h7 => k0_hw10.2.2.2.2.2.2.1.2.2.2.2.2.2.2.1 k0_t16 k0_h7
theorem k0_off533_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off533 v1_0 k0_t13 k0_t16) a + S1x256x256.size a ≤ S10x1024x2048.size a := fun v1_0 k0_t13 v56 v58 k0_hw10 k0_t16 k0_h7 => k0_hw10.2.2.2.2.2.2.1.2.2.2.2.2.2.2.2.1 k0_t16 k0_h7
theorem k0_off534_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off534 v1_0 k0_t13 k0_t16) a + S1x256x256.size a ≤ S10x1024x2048.size a := fun v1_0 k0_t13 v56 v58 k0_hw10 k0_t16 k0_h7 => k0_hw10.2.2.2.2.2.2.1.2.2.2.2.2.2.2.2.2.1 k0_t16 k0_h7
theorem k0_off535_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off535 v1_0 k0_t13 k0_t16) a + S1x32x256.size a ≤ S10x32x2048.size a := fun v1_0 k0_t13 v56 v58 k0_hw10 k0_t16 k0_h7 => k0_hw10.2.2.2.2.2.2.1.2.2.2.2.2.2.2.2.2.2.1 k0_t16 k0_h7
theorem k0_off536_inb : ∀ (v1_0 : BitVec 32) (k0_t13 : Fin (k0_t13_loop v1_0).trips) (v56 : BitVec 32) (v58 : BitVec 32) (k0_hw10 : k0_chk10 v1_0 k0_t13 v56 v58), ∀ (k0_h7 : k0_cond7 v58 = 1#1), ∀ a, (k0_off536 v58) a + S32x256.size a ≤ S256x2048.size a := fun v1_0 k0_t13 v56 v58 k0_hw10 k0_h7 => k0_hw10.2.2.2.2.2.2.1.2.2.2.2.2.2.2.2.2.2.2.1 k0_h7
theorem k0_off537_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off537 v1_0 k0_t13 k0_t16) a + S1x256x256.size a ≤ S10x1024x2048.size a := fun v1_0 k0_t13 v56 v58 k0_hw10 k0_t16 k0_h7 => k0_hw10.2.2.2.2.2.2.1.2.2.2.2.2.2.2.2.2.2.2.2.1 k0_t16 k0_h7
theorem k0_off538_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off538 v1_0 k0_t13 k0_t16) a + S1x256x256.size a ≤ S10x1024x2048.size a := fun v1_0 k0_t13 v56 v58 k0_hw10 k0_t16 k0_h7 => k0_hw10.2.2.2.2.2.2.1.2.2.2.2.2.2.2.2.2.2.2.2.2.1 k0_t16 k0_h7
theorem k0_off539_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off539 v1_0 k0_t13 k0_t16) a + S1x256x256.size a ≤ S10x1024x2048.size a := fun v1_0 k0_t13 v56 v58 k0_hw10 k0_t16 k0_h7 => k0_hw10.2.2.2.2.2.2.1.2.2.2.2.2.2.2.2.2.2.2.2.2.2.1 k0_t16 k0_h7
theorem k0_off540_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h7 : k0_cond7 v58 = 1#1), ∀ a, (k0_off540 v1_0 k0_t13 k0_t16) a + S1x256x256.size a ≤ S10x1024x2048.size a := fun v1_0 k0_t13 v56 v58 k0_hw10 k0_t16 k0_h7 => k0_hw10.2.2.2.2.2.2.1.2.2.2.2.2.2.2.2.2.2.2.2.2.2.2.1 k0_t16 k0_h7
theorem k0_off541_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ (r₁ : Fin 8) (r₂ : Fin 4), ∀ a, (k0_off541 v56 v58 k0_t16 (BitVec.ofNat 32 r₁.val) (BitVec.ofNat 32 (256 * r₂.val))) a + S1x256.size a ≤ S32x7168.size a := fun v1_0 k0_t13 v56 v58 k0_hw10 k0_t16 k0_h8 r₁ r₂ => k0_hw10.2.2.2.2.2.2.1.2.2.2.2.2.2.2.2.2.2.2.2.2.2.2.2.1 k0_t16 k0_h8 r₁ r₂
theorem k0_mult460_dvd : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), 8 ∣ (k0_mult460 v58).toNat := fun v1_0 k0_t13 v56 v58 k0_hw10 k0_h8 => k0_hw10.2.2.2.2.2.2.1.2.2.2.2.2.2.2.2.2.2.2.2.2.2.2.2.2.1 k0_h8
theorem k0_off542_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off542 v1_0 k0_t13 k0_t16) a + S1x32x256.size a ≤ S10x32x2048.size a := fun v1_0 k0_t13 v56 v58 k0_hw10 k0_t16 k0_h8 => k0_hw10.2.2.2.2.2.2.1.2.2.2.2.2.2.2.2.2.2.2.2.2.2.2.2.2.2.1 k0_t16 k0_h8
theorem k0_off543_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off543 v58) a + S64x256.size a ≤ S256x2048.size a := fun v1_0 k0_t13 v56 v58 k0_hw10 k0_h8 => k0_hw10.2.2.2.2.2.2.1.2.2.2.2.2.2.2.2.2.2.2.2.2.2.2.2.2.2.2.1 k0_h8
theorem k0_off544_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off544 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.1 k0_t16 k0_h8
theorem k0_off545_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off545 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.1 k0_t16 k0_h8
theorem k0_off546_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off546 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.1 k0_t16 k0_h8
theorem k0_off547_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off547 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.2.1 k0_t16 k0_h8
theorem k0_off548_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off548 v1_0 k0_t13 k0_t16) a + S1x32x256.size a ≤ S10x32x2048.size a := fun v1_0 k0_t13 v56 v58 k0_hw10 k0_t16 k0_h8 => k0_hw10.2.2.2.2.2.2.1.2.2.2.2.2.2.2.2.2.2.2.2.2.2.2.2.2.2.2.2.2.2.2.2.1 k0_t16 k0_h8
theorem k0_off549_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off549 v58) a + S64x256.size a ≤ S256x2048.size a := fun v1_0 k0_t13 v56 v58 k0_hw10 k0_h8 => k0_hw10.2.2.2.2.2.2.1.2.2.2.2.2.2.2.2.2.2.2.2.2.2.2.2.2.2.2.2.2.2.2.2.2.1 k0_h8
theorem k0_off550_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off550 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.2.2.2.2.1 k0_t16 k0_h8
theorem k0_off551_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off551 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.2.2.2.2.2.1 k0_t16 k0_h8
theorem k0_off552_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off552 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.2.2.2.2.2.2.1 k0_t16 k0_h8
theorem k0_off553_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off553 v1_0 k0_t13 k0_t16) a + S1x256x256.size a ≤ S10x1024x2048.size a := fun v1_0 k0_t13 v56 v58 k0_hw10 k0_t16 k0_h8 => k0_hw10.2.2.2.2.2.2.1.2.2.2.2.2.2.2.2.2.2.2.2.2.2.2.2.2.2.2.2.2.2.2.2.2.2.2.2.2.1 k0_t16 k0_h8
theorem k0_off554_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off554 v1_0 k0_t13 k0_t16) a + S1x32x256.size a ≤ S10x32x2048.size a := fun v1_0 k0_t13 v56 v58 k0_hw10 k0_t16 k0_h8 => k0_hw10.2.2.2.2.2.2.1.2.2.2.2.2.2.2.2.2.2.2.2.2.2.2.2.2.2.2.2.2.2.2.2.2.2.2.2.2.2.1 k0_t16 k0_h8
theorem k0_off555_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off555 v58) a + S64x256.size a ≤ S256x2048.size a := fun v1_0 k0_t13 v56 v58 k0_hw10 k0_h8 => k0_hw10.2.2.2.2.2.2.1.2.2.2.2.2.2.2.2.2.2.2.2.2.2.2.2.2.2.2.2.2.2.2.2.2.2.2.2.2.2.2 k0_h8
theorem k0_off556_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off556 v1_0 k0_t13 k0_t16) a + S1x256x256.size a ≤ S10x1024x2048.size a := fun v1_0 k0_t13 v56 v58 k0_hw10 k0_t16 k0_h8 => k0_hw10.2.2.2.2.2.2.2.1.1 k0_t16 k0_h8
theorem k0_off557_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off557 v1_0 k0_t13 k0_t16) a + S1x256x256.size a ≤ S10x1024x2048.size a := fun v1_0 k0_t13 v56 v58 k0_hw10 k0_t16 k0_h8 => k0_hw10.2.2.2.2.2.2.2.1.2.1 k0_t16 k0_h8
theorem k0_off558_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off558 v1_0 k0_t13 k0_t16) a + S1x256x256.size a ≤ S10x1024x2048.size a := fun v1_0 k0_t13 v56 v58 k0_hw10 k0_t16 k0_h8 => k0_hw10.2.2.2.2.2.2.2.1.2.2.1 k0_t16 k0_h8
theorem k0_off559_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off559 v1_0 k0_t13 k0_t16) a + S1x256x256.size a ≤ S10x1024x2048.size a := fun v1_0 k0_t13 v56 v58 k0_hw10 k0_t16 k0_h8 => k0_hw10.2.2.2.2.2.2.2.1.2.2.2.1 k0_t16 k0_h8
theorem k0_off560_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off560 v1_0 k0_t13 k0_t16) a + S1x32x256.size a ≤ S10x32x2048.size a := fun v1_0 k0_t13 v56 v58 k0_hw10 k0_t16 k0_h8 => k0_hw10.2.2.2.2.2.2.2.1.2.2.2.2.1 k0_t16 k0_h8
theorem k0_off561_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off561 v58) a + S64x256.size a ≤ S256x2048.size a := fun v1_0 k0_t13 v56 v58 k0_hw10 k0_h8 => k0_hw10.2.2.2.2.2.2.2.1.2.2.2.2.2.1 k0_h8
theorem k0_off562_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off562 v1_0 k0_t13 k0_t16) a + S1x256x256.size a ≤ S10x1024x2048.size a := fun v1_0 k0_t13 v56 v58 k0_hw10 k0_t16 k0_h8 => k0_hw10.2.2.2.2.2.2.2.1.2.2.2.2.2.2.1 k0_t16 k0_h8
theorem k0_off563_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off563 v1_0 k0_t13 k0_t16) a + S1x256x256.size a ≤ S10x1024x2048.size a := fun v1_0 k0_t13 v56 v58 k0_hw10 k0_t16 k0_h8 => k0_hw10.2.2.2.2.2.2.2.1.2.2.2.2.2.2.2.1 k0_t16 k0_h8
theorem k0_off564_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off564 v1_0 k0_t13 k0_t16) a + S1x256x256.size a ≤ S10x1024x2048.size a := fun v1_0 k0_t13 v56 v58 k0_hw10 k0_t16 k0_h8 => k0_hw10.2.2.2.2.2.2.2.1.2.2.2.2.2.2.2.2.1 k0_t16 k0_h8
theorem k0_off565_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off565 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.1 k0_t16 k0_h8
theorem k0_off566_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off566 v1_0 k0_t13 k0_t16) a + S1x32x256.size a ≤ S10x32x2048.size a := fun v1_0 k0_t13 v56 v58 k0_hw10 k0_t16 k0_h8 => k0_hw10.2.2.2.2.2.2.2.1.2.2.2.2.2.2.2.2.2.2.1 k0_t16 k0_h8
theorem k0_off567_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off567 v58) a + S64x256.size a ≤ S256x2048.size a := fun v1_0 k0_t13 v56 v58 k0_hw10 k0_h8 => k0_hw10.2.2.2.2.2.2.2.1.2.2.2.2.2.2.2.2.2.2.2.1 k0_h8
theorem k0_off568_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off568 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.1 k0_t16 k0_h8
theorem k0_off569_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off569 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.1 k0_t16 k0_h8
theorem k0_off570_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off570 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.1 k0_t16 k0_h8
theorem k0_off571_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off571 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.1 k0_t16 k0_h8
theorem k0_off572_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off572 v1_0 k0_t13 k0_t16) a + S1x32x256.size a ≤ S10x32x2048.size a := fun v1_0 k0_t13 v56 v58 k0_hw10 k0_t16 k0_h8 => k0_hw10.2.2.2.2.2.2.2.1.2.2.2.2.2.2.2.2.2.2.2.2.2.2.2.2.1 k0_t16 k0_h8
theorem k0_off573_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off573 v58) a + S64x256.size a ≤ S256x2048.size a := fun v1_0 k0_t13 v56 v58 k0_hw10 k0_h8 => k0_hw10.2.2.2.2.2.2.2.1.2.2.2.2.2.2.2.2.2.2.2.2.2.2.2.2.2.1 k0_h8
theorem k0_off574_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off574 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.1 k0_t16 k0_h8
theorem k0_off575_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off575 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.1 k0_t16 k0_h8
theorem k0_off576_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off576 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.1 k0_t16 k0_h8
theorem k0_off577_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off577 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.1 k0_t16 k0_h8
theorem k0_off578_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off578 v1_0 k0_t13 k0_t16) a + S1x32x256.size a ≤ S10x32x2048.size a := fun v1_0 k0_t13 v56 v58 k0_hw10 k0_t16 k0_h8 => k0_hw10.2.2.2.2.2.2.2.1.2.2.2.2.2.2.2.2.2.2.2.2.2.2.2.2.2.2.2.2.2.2.1 k0_t16 k0_h8
theorem k0_off579_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off579 v58) a + S64x256.size a ≤ S256x2048.size a := fun v1_0 k0_t13 v56 v58 k0_hw10 k0_h8 => k0_hw10.2.2.2.2.2.2.2.1.2.2.2.2.2.2.2.2.2.2.2.2.2.2.2.2.2.2.2.2.2.2.2.1 k0_h8
theorem k0_off580_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off580 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.1 k0_t16 k0_h8
theorem k0_off581_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off581 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.2.1 k0_t16 k0_h8
theorem k0_off582_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off582 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.2.2.1 k0_t16 k0_h8
theorem k0_off583_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off583 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.2.2.2.1 k0_t16 k0_h8
theorem k0_off584_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off584 v1_0 k0_t13 k0_t16) a + S1x32x256.size a ≤ S10x32x2048.size a := fun v1_0 k0_t13 v56 v58 k0_hw10 k0_t16 k0_h8 => k0_hw10.2.2.2.2.2.2.2.1.2.2.2.2.2.2.2.2.2.2.2.2.2.2.2.2.2.2.2.2.2.2.2.2.2.2.2.2.1 k0_t16 k0_h8
theorem k0_off585_inb : ∀ (v1_0 : BitVec 32) (k0_t13 : Fin (k0_t13_loop v1_0).trips) (v56 : BitVec 32) (v58 : BitVec 32) (k0_hw10 : k0_chk10 v1_0 k0_t13 v56 v58), ∀ (k0_h8 : k0_cond8 v58 = 1#1), ∀ a, (k0_off585 v58) a + S64x256.size a ≤ S256x2048.size a := fun v1_0 k0_t13 v56 v58 k0_hw10 k0_h8 => k0_hw10.2.2.2.2.2.2.2.1.2.2.2.2.2.2.2.2.2.2.2.2.2.2.2.2.2.2.2.2.2.2.2.2.2.2.2.2.2.1 k0_h8
theorem k0_off586_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off586 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.2.2.2.2.2.2.1 k0_t16 k0_h8
theorem k0_off587_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off587 v1_0 k0_t13 k0_t16) a + S1x256x256.size a ≤ S10x1024x2048.size a := fun v1_0 k0_t13 v56 v58 k0_hw10 k0_t16 k0_h8 => k0_hw10.2.2.2.2.2.2.2.1.2.2.2.2.2.2.2.2.2.2.2.2.2.2.2.2.2.2.2.2.2.2.2.2.2.2.2.2.2.2.2 k0_t16 k0_h8
theorem k0_off588_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off588 v1_0 k0_t13 k0_t16) a + S1x256x256.size a ≤ S10x1024x2048.size a := fun v1_0 k0_t13 v56 v58 k0_hw10 k0_t16 k0_h8 => k0_hw10.2.2.2.2.2.2.2.2.1.1 k0_t16 k0_h8
theorem k0_off589_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h8 : k0_cond8 v58 = 1#1), ∀ a, (k0_off589 v1_0 k0_t13 k0_t16) a + S1x256x256.size a ≤ S10x1024x2048.size a := fun v1_0 k0_t13 v56 v58 k0_hw10 k0_t16 k0_h8 => k0_hw10.2.2.2.2.2.2.2.2.1.2.1 k0_t16 k0_h8
theorem k0_off590_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ (r₁ : Fin 16) (r₂ : Fin 4), ∀ a, (k0_off590 v56 v58 k0_t16 (BitVec.ofNat 32 r₁.val) (BitVec.ofNat 32 (256 * r₂.val))) a + S1x256.size a ≤ S32x7168.size a := fun v1_0 k0_t13 v56 v58 k0_hw10 k0_t16 k0_h9 r₁ r₂ => k0_hw10.2.2.2.2.2.2.2.2.1.2.2.1 k0_t16 k0_h9 r₁ r₂
theorem k0_mult525_dvd : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), 8 ∣ (k0_mult525 v58).toNat := fun v1_0 k0_t13 v56 v58 k0_hw10 k0_h9 => k0_hw10.2.2.2.2.2.2.2.2.1.2.2.2.1 k0_h9
theorem k0_off591_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off591 v1_0 k0_t13 k0_t16) a + S1x32x256.size a ≤ S10x32x2048.size a := fun v1_0 k0_t13 v56 v58 k0_hw10 k0_t16 k0_h9 => k0_hw10.2.2.2.2.2.2.2.2.1.2.2.2.2.1 k0_t16 k0_h9
theorem k0_off592_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off592 v58) a + S128x256.size a ≤ S256x2048.size a := fun v1_0 k0_t13 v56 v58 k0_hw10 k0_h9 => k0_hw10.2.2.2.2.2.2.2.2.1.2.2.2.2.2.1 k0_h9
theorem k0_off593_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off593 v1_0 k0_t13 k0_t16) a + S1x256x256.size a ≤ S10x1024x2048.size a := fun v1_0 k0_t13 v56 v58 k0_hw10 k0_t16 k0_h9 => k0_hw10.2.2.2.2.2.2.2.2.1.2.2.2.2.2.2.1 k0_t16 k0_h9
theorem k0_off594_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off594 v1_0 k0_t13 k0_t16) a + S1x256x256.size a ≤ S10x1024x2048.size a := fun v1_0 k0_t13 v56 v58 k0_hw10 k0_t16 k0_h9 => k0_hw10.2.2.2.2.2.2.2.2.1.2.2.2.2.2.2.2.1 k0_t16 k0_h9
theorem k0_off595_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off595 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.1 k0_t16 k0_h9
theorem k0_off596_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off596 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.1 k0_t16 k0_h9
theorem k0_off597_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off597 v1_0 k0_t13 k0_t16) a + S1x32x256.size a ≤ S10x32x2048.size a := fun v1_0 k0_t13 v56 v58 k0_hw10 k0_t16 k0_h9 => k0_hw10.2.2.2.2.2.2.2.2.1.2.2.2.2.2.2.2.2.2.2.1 k0_t16 k0_h9
theorem k0_off598_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off598 v58) a + S128x256.size a ≤ S256x2048.size a := fun v1_0 k0_t13 v56 v58 k0_hw10 k0_h9 => k0_hw10.2.2.2.2.2.2.2.2.1.2.2.2.2.2.2.2.2.2.2.2.1 k0_h9
theorem k0_off599_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off599 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.1 k0_t16 k0_h9
theorem k0_off600_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off600 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.1 k0_t16 k0_h9
theorem k0_off601_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off601 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.1 k0_t16 k0_h9
theorem k0_off602_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off602 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.1 k0_t16 k0_h9
theorem k0_off603_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off603 v1_0 k0_t13 k0_t16) a + S1x32x256.size a ≤ S10x32x2048.size a := fun v1_0 k0_t13 v56 v58 k0_hw10 k0_t16 k0_h9 => k0_hw10.2.2.2.2.2.2.2.2.1.2.2.2.2.2.2.2.2.2.2.2.2.2.2.2.2.1 k0_t16 k0_h9
theorem k0_off604_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off604 v58) a + S128x256.size a ≤ S256x2048.size a := fun v1_0 k0_t13 v56 v58 k0_hw10 k0_h9 => k0_hw10.2.2.2.2.2.2.2.2.1.2.2.2.2.2.2.2.2.2.2.2.2.2.2.2.2.2.1 k0_h9
theorem k0_off605_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off605 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.1 k0_t16 k0_h9
theorem k0_off606_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off606 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.1 k0_t16 k0_h9
theorem k0_off607_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off607 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.1 k0_t16 k0_h9
theorem k0_off608_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off608 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.1 k0_t16 k0_h9
theorem k0_off609_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off609 v1_0 k0_t13 k0_t16) a + S1x32x256.size a ≤ S10x32x2048.size a := fun v1_0 k0_t13 v56 v58 k0_hw10 k0_t16 k0_h9 => k0_hw10.2.2.2.2.2.2.2.2.1.2.2.2.2.2.2.2.2.2.2.2.2.2.2.2.2.2.2.2.2.2.2.1 k0_t16 k0_h9
theorem k0_off610_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off610 v58) a + S128x256.size a ≤ S256x2048.size a := fun v1_0 k0_t13 v56 v58 k0_hw10 k0_h9 => k0_hw10.2.2.2.2.2.2.2.2.1.2.2.2.2.2.2.2.2.2.2.2.2.2.2.2.2.2.2.2.2.2.2.2.1 k0_h9
theorem k0_off611_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off611 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.1 k0_t16 k0_h9
theorem k0_off612_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off612 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.2.1 k0_t16 k0_h9
theorem k0_off613_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off613 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.2.2.1 k0_t16 k0_h9
theorem k0_off614_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off614 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.2.2.2.1 k0_t16 k0_h9
theorem k0_off615_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off615 v1_0 k0_t13 k0_t16) a + S1x32x256.size a ≤ S10x32x2048.size a := fun v1_0 k0_t13 v56 v58 k0_hw10 k0_t16 k0_h9 => k0_hw10.2.2.2.2.2.2.2.2.1.2.2.2.2.2.2.2.2.2.2.2.2.2.2.2.2.2.2.2.2.2.2.2.2.2.2.2.2.1 k0_t16 k0_h9
theorem k0_off616_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off616 v58) a + S128x256.size a ≤ S256x2048.size a := fun v1_0 k0_t13 v56 v58 k0_hw10 k0_h9 => k0_hw10.2.2.2.2.2.2.2.2.1.2.2.2.2.2.2.2.2.2.2.2.2.2.2.2.2.2.2.2.2.2.2.2.2.2.2.2.2.2.1 k0_h9
theorem k0_off617_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off617 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.2.2.2.2.2.2.1 k0_t16 k0_h9
theorem k0_off618_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off618 v1_0 k0_t13 k0_t16) a + S1x256x256.size a ≤ S10x1024x2048.size a := fun v1_0 k0_t13 v56 v58 k0_hw10 k0_t16 k0_h9 => k0_hw10.2.2.2.2.2.2.2.2.1.2.2.2.2.2.2.2.2.2.2.2.2.2.2.2.2.2.2.2.2.2.2.2.2.2.2.2.2.2.2.2 k0_t16 k0_h9
theorem k0_off619_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off619 v1_0 k0_t13 k0_t16) a + S1x256x256.size a ≤ S10x1024x2048.size a := fun v1_0 k0_t13 v56 v58 k0_hw10 k0_t16 k0_h9 => k0_hw10.2.2.2.2.2.2.2.2.2.1 k0_t16 k0_h9
theorem k0_off620_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off620 v1_0 k0_t13 k0_t16) a + S1x256x256.size a ≤ S10x1024x2048.size a := fun v1_0 k0_t13 v56 v58 k0_hw10 k0_t16 k0_h9 => k0_hw10.2.2.2.2.2.2.2.2.2.2.1 k0_t16 k0_h9
theorem k0_off621_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off621 v1_0 k0_t13 k0_t16) a + S1x32x256.size a ≤ S10x32x2048.size a := fun v1_0 k0_t13 v56 v58 k0_hw10 k0_t16 k0_h9 => k0_hw10.2.2.2.2.2.2.2.2.2.2.2.1 k0_t16 k0_h9
theorem k0_off622_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off622 v58) a + S128x256.size a ≤ S256x2048.size a := fun v1_0 k0_t13 v56 v58 k0_hw10 k0_h9 => k0_hw10.2.2.2.2.2.2.2.2.2.2.2.2.1 k0_h9
theorem k0_off623_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off623 v1_0 k0_t13 k0_t16) a + S1x256x256.size a ≤ S10x1024x2048.size a := fun v1_0 k0_t13 v56 v58 k0_hw10 k0_t16 k0_h9 => k0_hw10.2.2.2.2.2.2.2.2.2.2.2.2.2.1 k0_t16 k0_h9
theorem k0_off624_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off624 v1_0 k0_t13 k0_t16) a + S1x256x256.size a ≤ S10x1024x2048.size a := fun v1_0 k0_t13 v56 v58 k0_hw10 k0_t16 k0_h9 => k0_hw10.2.2.2.2.2.2.2.2.2.2.2.2.2.2.1 k0_t16 k0_h9
theorem k0_off625_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off625 v1_0 k0_t13 k0_t16) a + S1x256x256.size a ≤ S10x1024x2048.size a := fun v1_0 k0_t13 v56 v58 k0_hw10 k0_t16 k0_h9 => k0_hw10.2.2.2.2.2.2.2.2.2.2.2.2.2.2.2.1 k0_t16 k0_h9
theorem k0_off626_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off626 v1_0 k0_t13 k0_t16) a + S1x256x256.size a ≤ S10x1024x2048.size a := fun v1_0 k0_t13 v56 v58 k0_hw10 k0_t16 k0_h9 => k0_hw10.2.2.2.2.2.2.2.2.2.2.2.2.2.2.2.2.1 k0_t16 k0_h9
theorem k0_off627_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off627 v1_0 k0_t13 k0_t16) a + S1x32x256.size a ≤ S10x32x2048.size a := fun v1_0 k0_t13 v56 v58 k0_hw10 k0_t16 k0_h9 => k0_hw10.2.2.2.2.2.2.2.2.2.2.2.2.2.2.2.2.2.1 k0_t16 k0_h9
theorem k0_off628_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off628 v58) a + S128x256.size a ≤ S256x2048.size a := fun v1_0 k0_t13 v56 v58 k0_hw10 k0_h9 => k0_hw10.2.2.2.2.2.2.2.2.2.2.2.2.2.2.2.2.2.2.1 k0_h9
theorem k0_off629_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off629 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.1 k0_t16 k0_h9
theorem k0_off630_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off630 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.1 k0_t16 k0_h9
theorem k0_off631_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off631 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.1 k0_t16 k0_h9
theorem k0_off632_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off632 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.2.1 k0_t16 k0_h9
theorem k0_off633_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off633 v1_0 k0_t13 k0_t16) a + S1x32x256.size a ≤ S10x32x2048.size a := fun v1_0 k0_t13 v56 v58 k0_hw10 k0_t16 k0_h9 => k0_hw10.2.2.2.2.2.2.2.2.2.2.2.2.2.2.2.2.2.2.2.2.2.2.2.1 k0_t16 k0_h9
theorem k0_off634_inb : ∀ (v1_0 : BitVec 32) (k0_t13 : Fin (k0_t13_loop v1_0).trips) (v56 : BitVec 32) (v58 : BitVec 32) (k0_hw10 : k0_chk10 v1_0 k0_t13 v56 v58), ∀ (k0_h9 : k0_cond9 v58 = 1#1), ∀ a, (k0_off634 v58) a + S128x256.size a ≤ S256x2048.size a := fun v1_0 k0_t13 v56 v58 k0_hw10 k0_h9 => k0_hw10.2.2.2.2.2.2.2.2.2.2.2.2.2.2.2.2.2.2.2.2.2.2.2.2.1 k0_h9
theorem k0_off635_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off635 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.2.2.2.2.1 k0_t16 k0_h9
theorem k0_off636_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off636 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.2.2.2.2.2.1 k0_t16 k0_h9
theorem k0_off637_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off637 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.2.2.2.2.2.2.1 k0_t16 k0_h9
theorem k0_off638_inb : ∀ (v1_0 : BitVec 32) (k0_t13 : Fin (k0_t13_loop v1_0).trips) (v56 : BitVec 32) (v58 : BitVec 32) (k0_hw10 : k0_chk10 v1_0 k0_t13 v56 v58) (k0_t16 : Fin k0_t16_loop.trips), ∀ (k0_h9 : k0_cond9 v58 = 1#1), ∀ a, (k0_off638 v1_0 k0_t13 k0_t16) a + S1x256x256.size a ≤ S10x1024x2048.size a := fun v1_0 k0_t13 v56 v58 k0_hw10 k0_t16 k0_h9 => k0_hw10.2.2.2.2.2.2.2.2.2.2.2.2.2.2.2.2.2.2.2.2.2.2.2.2.2.2.2.2.1 k0_t16 k0_h9
theorem k0_t19_ok : ∀ (v1_0 : BitVec 32) (k0_t13 : Fin (k0_t13_loop v1_0).trips) (v56 : BitVec 32) (v58 : BitVec 32) (k0_hw10 : k0_chk10 v1_0 k0_t13 v56 v58), (k0_t19_loop v58).OK := fun v1_0 k0_t13 v56 v58 k0_hw10 => k0_hw10.2.2.2.2.2.2.2.2.2.2.2.2.2.2.2.2.2.2.2.2.2.2.2.2.2.2.2.2.2.1
theorem k0_mult528_dvd : ∀ (v1_0 : BitVec 32) (k0_t13 : Fin (k0_t13_loop v1_0).trips) (v56 : BitVec 32) (v58 : BitVec 32) (k0_hw10 : k0_chk10 v1_0 k0_t13 v56 v58) (k0_t19 : Fin (k0_t19_loop v58).trips), 8 ∣ (k0_mult528 v58 k0_t19).toNat := fun v1_0 k0_t13 v56 v58 k0_hw10 k0_t19 => k0_hw10.2.2.2.2.2.2.2.2.2.2.2.2.2.2.2.2.2.2.2.2.2.2.2.2.2.2.2.2.2.2.1 k0_t19
theorem k0_off646_inb : ∀ (v1_0 : BitVec 32) (k0_t13 : Fin (k0_t13_loop v1_0).trips) (v56 : BitVec 32) (v58 : BitVec 32) (k0_hw10 : k0_chk10 v1_0 k0_t13 v56 v58) (k0_t19 : Fin (k0_t19_loop v58).trips), ∀ a, (k0_off646 v58 k0_t19) a + S8x2048.size a ≤ S256x2048.size a := fun v1_0 k0_t13 v56 v58 k0_hw10 k0_t19 => k0_hw10.2.2.2.2.2.2.2.2.2.2.2.2.2.2.2.2.2.2.2.2.2.2.2.2.2.2.2.2.2.2.2.1 k0_t19
theorem k0_off647_inb : ∀ (v1_0 : BitVec 32) (k0_t13 : Fin (k0_t13_loop v1_0).trips) (v56 : BitVec 32) (v58 : BitVec 32) (k0_hw10 : k0_chk10 v1_0 k0_t13 v56 v58) (k0_t19 : Fin (k0_t19_loop v58).trips), ∀ a, (k0_off647 v56 v58 k0_t19) a + S1x2048.size a ≤ S32x2048.size a := fun v1_0 k0_t13 v56 v58 k0_hw10 k0_t19 => k0_hw10.2.2.2.2.2.2.2.2.2.2.2.2.2.2.2.2.2.2.2.2.2.2.2.2.2.2.2.2.2.2.2.2.1 k0_t19
theorem k0_t20_ok : ∀ (v1_0 : BitVec 32) (k0_t13 : Fin (k0_t13_loop v1_0).trips) (v56 : BitVec 32) (v58 : BitVec 32) (k0_hw10 : k0_chk10 v1_0 k0_t13 v56 v58), (k0_t20_loop v58).OK := fun v1_0 k0_t13 v56 v58 k0_hw10 => k0_hw10.2.2.2.2.2.2.2.2.2.2.2.2.2.2.2.2.2.2.2.2.2.2.2.2.2.2.2.2.2.2.2.2.2.1
theorem k0_mult529_dvd : ∀ (v1_0 : BitVec 32) (k0_t13 : Fin (k0_t13_loop v1_0).trips) (v56 : BitVec 32) (v58 : BitVec 32) (k0_hw10 : k0_chk10 v1_0 k0_t13 v56 v58) (k0_t20 : Fin (k0_t20_loop v58).trips), 8 ∣ (k0_mult529 v58 k0_t20).toNat := fun v1_0 k0_t13 v56 v58 k0_hw10 k0_t20 => k0_hw10.2.2.2.2.2.2.2.2.2.2.2.2.2.2.2.2.2.2.2.2.2.2.2.2.2.2.2.2.2.2.2.2.2.2.1 k0_t20
theorem k0_off648_inb : ∀ (v1_0 : BitVec 32) (k0_t13 : Fin (k0_t13_loop v1_0).trips) (v56 : BitVec 32) (v58 : BitVec 32) (k0_hw10 : k0_chk10 v1_0 k0_t13 v56 v58) (k0_t20 : Fin (k0_t20_loop v58).trips), ∀ a, (k0_off648 v58 k0_t20) a + S8x2048.size a ≤ S256x2048.size a := fun v1_0 k0_t13 v56 v58 k0_hw10 k0_t20 => k0_hw10.2.2.2.2.2.2.2.2.2.2.2.2.2.2.2.2.2.2.2.2.2.2.2.2.2.2.2.2.2.2.2.2.2.2.2.1 k0_t20
theorem k0_off649_inb : ∀ (v1_0 : BitVec 32) (k0_t13 : Fin (k0_t13_loop v1_0).trips) (v56 : BitVec 32) (v58 : BitVec 32) (k0_hw10 : k0_chk10 v1_0 k0_t13 v56 v58) (k0_t20 : Fin (k0_t20_loop v58).trips), ∀ a, (k0_off649 v56 v58 k0_t20) a + S1x2048.size a ≤ S32x2048.size a := fun v1_0 k0_t13 v56 v58 k0_hw10 k0_t20 => k0_hw10.2.2.2.2.2.2.2.2.2.2.2.2.2.2.2.2.2.2.2.2.2.2.2.2.2.2.2.2.2.2.2.2.2.2.2.2 k0_t20

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x7168 : Shape := ⟨2, ![32, 7168]⟩
abbrev S12 : Shape := ⟨1, ![12]⟩
abbrev S12x7168x2048 : Shape := ⟨3, ![12, 7168, 2048]⟩
abbrev S12x224x2048 : Shape := ⟨3, ![12, 224, 2048]⟩
abbrev S1x12 : Shape := ⟨2, ![1, 12]⟩
abbrev S32x2048 : Shape := ⟨2, ![32, 2048]⟩
abbrev S32x224x32 : Shape := ⟨3, ![32, 224, 32]⟩
abbrev S32x224 : Shape := ⟨2, ![32, 224]⟩
abbrev S32x224x1 : Shape := ⟨3, ![32, 224, 1]⟩
abbrev S12x224x32x2048 : Shape := ⟨4, ![12, 224, 32, 2048]⟩
abbrev S12x224x1x2048 : Shape := ⟨4, ![12, 224, 1, 2048]⟩
abbrev S1x32x7168 : Shape := ⟨3, ![1, 32, 7168]⟩
abbrev S12x32x7168 : Shape := ⟨3, ![12, 32, 7168]⟩
abbrev S12x32x2048 : Shape := ⟨3, ![12, 32, 2048]⟩
abbrev S12x12 : Shape := ⟨2, ![12, 12]⟩
abbrev S12x1 : Shape := ⟨2, ![12, 1]⟩
abbrev S12x32 : Shape := ⟨2, ![12, 32]⟩
abbrev S12x32x1 : Shape := ⟨3, ![12, 32, 1]⟩

abbrev nBuf : Space → Nat
  | .hbm => 6
  | .vmem => 5
  | .smem => 0
  | _ => 0

abbrev bufTy : (tb : Table) → Fin (tcTables nBuf tb) → BufTy
  | .hbm, ⟨0, _⟩ => ⟨S32x7168, .bf16⟩
  | .hbm, ⟨1, _⟩ => ⟨S12, .i32⟩
  | .hbm, ⟨2, _⟩ => ⟨S12x7168x2048, .fp8e4m3⟩
  | .hbm, ⟨3, _⟩ => ⟨S12x224x2048, .i8⟩
  | .hbm, ⟨4, _⟩ => ⟨S1x12, .i32⟩
  | .hbm, ⟨5, _⟩ => ⟨S32x2048, .bf16⟩
  | .local _ .vmem, ⟨0, _⟩ => ⟨S32x7168, .bf16⟩
  | .local _ .vmem, ⟨1, _⟩ => ⟨S1x12, .i32⟩
  | .local _ .vmem, ⟨2, _⟩ => ⟨S12x7168x2048, .fp8e4m3⟩
  | .local _ .vmem, ⟨3, _⟩ => ⟨S12x224x2048, .i8⟩
  | .local _ .vmem, ⟨4, _⟩ => ⟨S32x2048, .bf16⟩
  | _, _ => ⟨S32x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c_m149_i32_3 : BitVec 32 := 4294967147#32
  let c277_i32 : BitVec 32 := 277#32
  let v11 : BitVec 32 := Scalar.addi c_m149_i32_3 c277_i32
  let c1_i32 : BitVec 32 := 1#32
  ⟨c_m149_i32_3, v11, c1_i32⟩
abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x7168x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x224x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mm.lean ====
/- One block of the grouped product: `nt` tokens times one (expert, chunk) step's weights, as a program and as a
   function of the buffers. The program is the kernel's own sequence of loads and stores, with the number of tokens,
   the offsets and the memrefs as parameters. -/
module

public import Idealize.ShloMosaic.Lib.VecWindow
public import Idealize.ShloMosaic.Lib.Exec
public import Idealize.ShloMosaic.Lib.Tactic

@[expose] public section

set_option maxRecDepth 16384

noncomputable section

namespace Mxfp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev S1x256 : Shape := ⟨2, ![1, 256]⟩
abbrev S8x256 : Shape := ⟨2, ![8, 256]⟩
abbrev S32x256 : Shape := ⟨2, ![32, 256]⟩
abbrev S256x256 : Shape := ⟨2, ![256, 256]⟩
abbrev S32x7168 : Shape := ⟨2, ![32, 7168]⟩
abbrev S256x2048 : Shape := ⟨2, ![256, 2048]⟩
abbrev S1x8x256 : Shape := ⟨3, ![1, 8, 256]⟩
abbrev S1x32x256 : Shape := ⟨3, ![1, 32, 256]⟩
abbrev S1x256x256 : Shape := ⟨3, ![1, 256, 256]⟩
abbrev S10x32x2048 : Shape := ⟨3, ![10, 32, 2048]⟩
abbrev S10x1024x2048 : Shape := ⟨3, ![10, 1024, 2048]⟩
/-- `nt` tokens of eight rows each. -/
abbrev SRow (nt : ℕ) : Shape := ⟨2, ![8 * nt, 256]⟩
/-- The same rows, a token's eight apart. -/
abbrev STok (nt : ℕ) : Shape := ⟨3, ![nt, 8, 256]⟩

/-- The shape facts of a block of `nt` tokens. -/
structure Sides (nt : ℕ) : Prop where
  pos : 0 < nt
  tok : S1x256.ShapeCasts S1x256
  tokB : S1x256.Broadcasts S8x256
  conc : ∀ l : List (FVec F S8x256 .f32), l.length = nt →
    Shape.Concatenates ((l.map fun v => (⟨S8x256, v⟩ : (s : Shape) × (s.Idx → F .f32))).map (·.1)) (SRow nt) 0
  ltf : FTy.bits .bf16 < FTy.bits .f32
  sc : S1x32x256.ShapeCasts S32x256
  lt8 : 8 < 32
  split : (SRow nt).ShapeCasts (STok nt)
  join : (STok nt).ShapeCasts (SRow nt)
  same : (SRow nt).ShapeCasts (SRow nt)
  sq : S1x256x256.ShapeCasts S256x256
  sl : ∀ k : Fin 4, S32x256.Slices ![8 * k.val, 0] S8x256
  one : S8x256.ShapeCasts S1x8x256
  oneB : S1x8x256.Broadcasts (STok nt)
  nRow : 0 < (SRow nt).numel
  nTok : 0 < S1x256.numel
  nSc : 0 < S1x32x256.numel
  nW : 0 < S1x256x256.numel

section Pure

variable {nt : ℕ} (G : Sides (F := F) nt) (d : DotDims (SRow nt) S256x256 (SRow nt))

/-- A token's row over eight rows, kept where the mask is set. -/
def tokVec (G : Sides (F := F) nt) (mask : IVec S8x256 1) (v : Vec F S1x256 .f32) : FVec F S8x256 .f32 :=
  select mask (broadcastTo S8x256 (shapeCast S1x256 v G.tok) G.tokB) (broadcast S8x256 (Scalar.ofBits .f32 0x00000000#32))

/-- The rows of `nt` tokens, one token after the other. -/
def rows (G : Sides (F := F) nt) (l : {l : List (FVec F S8x256 .f32) // l.length = nt}) : FVec F (SRow nt) .bf16 :=
  truncf .bf16 (concatenate (SRow nt) 0 (l.1.map fun v => (⟨S8x256, v⟩ : (s : Shape) × (s.Idx → F .f32))) (G.conc l.1 l.2)) G.ltf

/-- A step's scales, decoded. -/
def scaleVec (G : Sides (F := F) nt) (s : Vec F S1x32x256 .i8) : FVec F S32x256 .f32 :=
  bitcastToFloat .f32 (shli (extui 32 (shapeCast S32x256 (s : IVec S1x32x256 8) G.sc) G.lt8) (broadcast S32x256 23#32))

/-- A quarter of a step's product, scaled and added. -/
def addK (G : Sides (F := F) nt) (d : DotDims (SRow nt) S256x256 (SRow nt)) (k : Fin 4) (sc : FVec F S32x256 .f32)
    (lhs : FVec F (SRow nt) .bf16) (w : Vec F S1x256x256 .fp8e4m3) (a : FVec F (STok nt) .f32) : FVec F (STok nt) .f32 :=
  addf a (mulf (shapeCast (STok nt) (matmul d none lhs (shapeCast S256x256 (w : FVec F S1x256x256 .fp8e4m3) G.sq) (constant (SRow nt) .f32 0x00000000#32)) G.split)
    (broadcastTo (STok nt) (shapeCast S1x8x256 (extractStridedSlice S8x256 ![8 * k.val, 0] sc (G.sl k)) G.one) G.oneB))

/-- What one block of columns of the accumulator becomes. -/
def colVal (G : Sides (F := F) nt) (d : DotDims (SRow nt) S256x256 (SRow nt)) (l0 l1 l2 l3 : FVec F (SRow nt) .bf16)
    (s : Vec F S1x32x256 .i8) (a : Vec F (SRow nt) .f32) (w0 w1 w2 w3 : Vec F S1x256x256 .fp8e4m3) : FVec F (SRow nt) .f32 :=
  shapeCast (SRow nt) (shapeCast (SRow nt)
    (addK G d 3 (scaleVec G s) l3 w3 (addK G d 2 (scaleVec G s) l2 w2 (addK G d 1 (scaleVec G s) l1 w1 (addK G d 0 (scaleVec G s) l0 w0
      (shapeCast (STok nt) (a : FVec F (SRow nt) .f32) G.split))))) G.join) G.same

end Pure

section Prog

variable {nD : ℕ} {τ : Topo} {sig : RefSig} {Λ : Labels}

/-- The offsets of a block: its tokens' rows in the quantised activations, its slot, and its rows in the accumulator. -/
structure Offs where
  X : ℕ → ℕ → Fin 2 → ℕ
  S : ℕ → Fin 3 → ℕ
  W : ℕ → ℕ → Fin 3 → ℕ
  A : ℕ → Fin 2 → ℕ

/-- Every window of a block lies in its buffer. -/
structure Offs.Inb (nt : ℕ) (o : Offs) : Prop where
  X : ∀ t k, t < nt → k < 4 → ∀ a, o.X t k a + S1x256.size a ≤ S32x7168.size a
  S : ∀ n, n < 8 → ∀ a, o.S n a + S1x32x256.size a ≤ S10x32x2048.size a
  W : ∀ n k, n < 8 → k < 4 → ∀ a, o.W n k a + S1x256x256.size a ≤ S10x1024x2048.size a
  A : ∀ n, n < 8 → ∀ a, o.A n a + (SRow nt).size a ≤ S256x2048.size a

/-- The offsets of the block of sixteen tokens numbered `b` of an expert whose tokens start at `v56`, at chunk `c`, its slot `sl`. -/
def offsW (v56 b c sl : BitVec 32) : Offs where
  X t k := ![(Scalar.indexCast (Scalar.minsi (Scalar.addi (Scalar.addi v56 (Scalar.muli b 16#32)) (BitVec.ofNat 32 t)) 31#32)).toNat,
    (Scalar.indexCast (Scalar.addi (Scalar.muli c 1024#32) (BitVec.ofNat 32 (256 * k)))).toNat]
  S n := ![(Scalar.indexCast sl).toNat, 0, 256 * n]
  W n k := ![(Scalar.indexCast sl).toNat, 256 * k, 256 * n]
  A n := ![(Scalar.indexCast (Scalar.muli (Scalar.muli b 16#32) 8#32)).toNat, 256 * n]

variable (nD τ Λ)

/-- Load `m` tokens from the `t`th on, of the `k`th quarter. -/
def gather {nt : ℕ} (G : Sides (F := F) nt) {o : Offs} (I : o.Inb nt) (xs : Memref sig .tc .vmem S32x7168 .f32) (mask : IVec S8x256 1) (k : ℕ) (hk : k < 4) :
    (m t : ℕ) → t + m ≤ nt → Prog (TpuEff nD τ sig (Elt F) Λ .tc) {l : List (FVec F S8x256 .f32) // l.length = m}
  | 0, _, _ => pure ⟨[], rfl⟩
  | m + 1, t, h => do
      let v : Vec F S1x256 .f32 ← Prog.lift (.load xs (Rect.unit (s := S32x7168) (o.X t k) S1x256.size (I.X t k (by omega) hk)).toLoadRect (View.loadsAt_vmem G.nTok))
      let l ← gather G I xs mask k hk m (t + 1) (by omega)
      pure ⟨tokVec G mask v :: l.1, by rw [List.length_cons, l.2]⟩

/-- One block of columns: scales, accumulator, four squares of weights, and the accumulator back. -/
def colStep {nt : ℕ} (G : Sides (F := F) nt) (d : DotDims (SRow nt) S256x256 (SRow nt)) {o : Offs} (I : o.Inb nt)
    (wb : Memref sig .tc .vmem S10x1024x2048 .fp8e4m3) (sb : Memref sig .tc .vmem S10x32x2048 .i8) (acc : Memref sig .tc .vmem S256x2048 .f32)
    (l0 l1 l2 l3 : FVec F (SRow nt) .bf16) (n : ℕ) (hn : n < 8) : Prog (TpuEff nD τ sig (Elt F) Λ .tc) PUnit := do
  let s : Vec F S1x32x256 .i8 ← Prog.lift (.load sb (Rect.unit (s := S10x32x2048) (o.S n) S1x32x256.size (I.S n hn)).toLoadRect (View.loadsAt_vmem G.nSc))
  let a : Vec F (SRow nt) .f32 ← Prog.lift (.load acc (Rect.unit (s := S256x2048) (o.A n) (SRow nt).size (I.A n hn)).toLoadRect (View.loadsAt_vmem G.nRow))
  let w0 : Vec F S1x256x256 .fp8e4m3 ← Prog.lift (.load wb (Rect.unit (s := S10x1024x2048) (o.W n 0) S1x256x256.size (I.W n 0 hn (by omega))).toLoadRect (View.loadsAt_vmem G.nW))
  let w1 : Vec F S1x256x256 .fp8e4m3 ← Prog.lift (.load wb (Rect.unit (s := S10x1024x2048) (o.W n 1) S1x256x256.size (I.W n 1 hn (by omega))).toLoadRect (View.loadsAt_vmem G.nW))
  let w2 : Vec F S1x256x256 .fp8e4m3 ← Prog.lift (.load wb (Rect.unit (s := S10x1024x2048) (o.W n 2) S1x256x256.size (I.W n 2 hn (by omega))).toLoadRect (View.loadsAt_vmem G.nW))
  let w3 : Vec F S1x256x256 .fp8e4m3 ← Prog.lift (.load wb (Rect.unit (s := S10x1024x2048) (o.W n 3) S1x256x256.size (I.W n 3 hn (by omega))).toLoadRect (View.loadsAt_vmem G.nW))
  let _ : Vec F (SRow nt) .f32 ← Prog.lift (.load acc (Rect.unit (s := S256x2048) (o.A n) (SRow nt).size (I.A n hn)).toLoadRect (View.loadsAt_vmem G.nRow))
  Prog.lift (.store acc (Rect.unit (s := S256x2048) (o.A n) (SRow nt).size (I.A n hn)) (colVal G d l0 l1 l2 l3 s a w0 w1 w2 w3) Finset.univ
    (View.stores_vmem_bits_univ G.nRow rfl) (.inl rfl))

/-- The blocks of columns from the `n`th on. -/
def cols {nt : ℕ} (G : Sides (F := F) nt) (d : DotDims (SRow nt) S256x256 (SRow nt)) {o : Offs} (I : o.Inb nt)
    (wb : Memref sig .tc .vmem S10x1024x2048 .fp8e4m3) (sb : Memref sig .tc .vmem S10x32x2048 .i8) (acc : Memref sig .tc .vmem S256x2048 .f32)
    (l0 l1 l2 l3 : FVec F (SRow nt) .bf16) : (m n : ℕ) → n + m ≤ 8 → Prog (TpuEff nD τ sig (Elt F) Λ .tc) PUnit
  | 0, _, _ => pure ⟨⟩
  | m + 1, n, h => do
      colStep nD τ Λ G d I wb sb acc l0 l1 l2 l3 n (by omega)
      cols G d I wb sb acc l0 l1 l2 l3 m (n + 1) (by omega)

/-- One block: the tokens of the four quarters, then the eight blocks of columns. -/
def block {nt : ℕ} (G : Sides (F := F) nt) (d : DotDims (SRow nt) S256x256 (SRow nt)) {o : Offs} (I : o.Inb nt) (mask : IVec S8x256 1)
    (wb : Memref sig .tc .vmem S10x1024x2048 .fp8e4m3) (sb : Memref sig .tc .vmem S10x32x2048 .i8)
    (xs : Memref sig .tc .vmem S32x7168 .f32) (acc : Memref sig .tc .vmem S256x2048 .f32) : Prog (TpuEff nD τ sig (Elt F) Λ .tc) PUnit := do
  let l0 ← gather nD τ Λ G I xs mask 0 (by omega) nt 0 (by omega)
  let l1 ← gather nD τ Λ G I xs mask 1 (by omega) nt 0 (by omega)
  let l2 ← gather nD τ Λ G I xs mask 2 (by omega) nt 0 (by omega)
  let l3 ← gather nD τ Λ G I xs mask 3 (by omega) nt 0 (by omega)
  cols nD τ Λ G d I wb sb acc (rows G l0) (rows G l1) (rows G l2) (rows G l3) 8 0 (by omega)

end Prog

theorem sum_const (l : List (FVec F S8x256 .f32)) (f : Shape → ℕ) (h : f S8x256 = 8) :
    (((l.map fun v => (⟨S8x256, v⟩ : (s : Shape) × (s.Idx → F .f32))).map (·.1)).map f).sum = 8 * l.length := by
  induction l with
  | nil => rfl
  | cons a l ih =>
    simp only [List.map_cons, List.sum_cons, List.length_cons, h] at ih ⊢
    rw [ih]; omega

theorem numel_row (nt : ℕ) : (SRow nt).numel = 8 * nt * 256 := Fin.prod_univ_two _
theorem numel_tok (nt : ℕ) : (STok nt).numel = nt * 8 * 256 := Fin.prod_univ_three _

/-- The shape facts hold for every number of tokens from two on. -/
theorem sides {nt : ℕ} (h2 : 2 ≤ nt) : Sides (F := F) nt where
  pos := by omega
  tok := by decide
  tokB := by decide
  conc := fun l hl => by
    refine ⟨by simp only [List.length_map]; omega, ?_, ?_⟩
    · intro s hs
      simp only [List.map_map, List.mem_map, Function.comp] at hs
      obtain ⟨v, _, rfl⟩ := hs
      refine ⟨rfl, fun b hb => ?_⟩
      match b with
      | ⟨0, _⟩ => exact absurd rfl hb
      | ⟨1, _⟩ => rfl
    · rw [sum_const l _ (by rw [dif_pos rfl]; rfl), hl]; rfl
  ltf := by decide
  sc := by decide
  lt8 := by decide
  split := by
    show Shape.numel _ = Shape.numel _
    rw [numel_row, numel_tok]; omega
  join := by
    show Shape.numel _ = Shape.numel _
    rw [numel_row, numel_tok]; omega
  same := rfl
  sq := by decide
  sl := by decide
  one := by decide
  oneB := ⟨Nat.le_refl 3, fun a => match a with
    | ⟨0, _⟩ => .inl rfl
    | ⟨1, _⟩ => .inr fun _ => rfl
    | ⟨2, _⟩ => .inr fun _ => rfl⟩
  nRow := by rw [numel_row]; omega
  nTok := by decide
  nSc := by decide
  nW := by decide
end Mxfp8
-- ==== Proof.Blk.lean ====
/- What a block does: held at given contents, its buffers are read and the accumulator's rows are rewritten by `blockVal`. -/
module

public import proofs.«01_k».proof.Proof.Mm

@[expose] public section

set_option maxRecDepth 16384

noncomputable section

namespace Mxfp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

universe v

theorem prog_ret_bind {E : Type → Type v} {α β : Type} (a : α) (k : α → Prog E β) : (Prog.ret a).bind k = k a := rfl
theorem prog_pure {E : Type → Type v} {α : Type} (a : α) : (pure a : Prog E α) = Prog.ret a := rfl

section Rules

variable {nD : ℕ} {τ : Topo} {sig : RefSig} {Ix : Type} [DecidableEq Ix] {Val : EltTy → Type} {Name : Type} [DecidableEq Name]
variable {U : Type} [URA U] {Lvl : Type} [Preorder Lvl] {Λ : Labels} [∀ e, Nonempty (Val e)]
variable {defs : Defs nD τ sig Val Λ} (𝒱 : Variants) (c : Thread nD τ) (bd : Option 𝒱.V) {Γ : PendingWaitsCtx sig Ix} (E : Set Name)

local notation "𝕄" => MT nD τ sig Ix Val Name U Lvl

variable {α : Type} {Q : α → sProp (MT nD τ sig Ix Val Name U Lvl)}

/-- A load of a window of a buffer held at known contents. -/
theorem wp_ld {cs : CoreSpace} {s : Shape} {e : EltTy} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    {S : Finset (Idx (m.view.loc c))} {q : PosShare TreeShare} {x : s.Idx → Val e}
    (hS : m.view.setOn (Rect.unit off size inb).toLoadRect.set ⊆ S) :
    (m.view.loc c ↦[S]{q} m.view.rep x : sProp 𝕄)
      ⊢ iprop(((m.view.loc c ↦[S]{q} m.view.rep x) -∗ wp frame (wpE' defs 𝒱 c bd Γ) E (k (window x off size inb)) Q)
        -∗ wp frame (wpE' defs 𝒱 c bd Γ) E (.op (.load m (Rect.unit off size inb).toLoadRect hl) k) Q) := by
  have h := wp_load (defs := defs) 𝒱 c bd (Γ := Γ) E (Q := Q) (m := m) (hl := hl) (k := k) (q := q) (f := m.view.rep x) hS
  rwa [View.readAt_rep_unit m.view x inb rfl inb] at h

/-- A store over a window of a buffer held at known contents. -/
theorem wp_st {cs : CoreSpace} {s : Shape} {e : EltTy} {m : Memref sig c.2.kind cs s e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {x : s.Idx → Val e} :
    (m.view.loc c ↦[m.view.set]{fullShare} m.view.rep x : sProp 𝕄)
      ⊢ iprop(((m.view.loc c ↦[m.view.set]{fullShare} m.view.rep (put x off size w)) -∗ wp frame (wpE' defs 𝒱 c bd Γ) E (k ⟨⟩) Q)
        -∗ wp frame (wpE' defs 𝒱 c bd Γ) E (.op (.store m (Rect.unit off size inb) w Finset.univ hx hm) k) Q) := by
  have h := wp_store (defs := defs) 𝒱 c bd (Γ := Γ) E (Q := Q) (m := m) (r := Rect.unit off size inb) (w := w) (Mk := Finset.univ) (hx := hx) (hm := hm)
    (k := k) (S := m.view.set) (f := m.view.rep x) (by
      rw [View.setOn_univ]; exact View.set_slice_subset m.view (Rect.unit off size inb))
  refine h.trans (wand_mono_left (wand_mono_left ?_))
  refine pointsTo_rep_of_read c m _ fullShare _ ?_
  have h2 := View.read_writes_rep_unit m.view x inb w rfl
  exact h2

end Rules

section Block

variable {F : FTy → Type} [FloatOps F]
variable {nt : ℕ} (G : Sides (F := F) nt) (d : DotDims (SRow nt) S256x256 (SRow nt)) {o : Offs} (I : o.Inb nt) (mask : IVec S8x256 1)

/-- The tokens `gather` collects, of activations `X`. -/
def toks (X : S32x7168.Idx → Elt F .f32) (k : ℕ) (hk : k < 4) : (m t : ℕ) → t + m ≤ nt → {l : List (FVec F S8x256 .f32) // l.length = m}
  | 0, _, _ => ⟨[], rfl⟩
  | m + 1, t, h => ⟨tokVec G mask (window X (o.X t k) S1x256.size (I.X t k (by omega) hk)) :: (toks X k hk m (t + 1) (by omega)).1,
      by rw [List.length_cons, (toks X k hk m (t + 1) (by omega)).2]⟩

/-- The accumulator after one block of columns. -/
def colPut (W : S10x1024x2048.Idx → Elt F .fp8e4m3) (S : S10x32x2048.Idx → Elt F .i8) (l0 l1 l2 l3 : FVec F (SRow nt) .bf16)
    (n : ℕ) (hn : n < 8) (A : S256x2048.Idx → Elt F .f32) : S256x2048.Idx → Elt F .f32 :=
  put A (o.A n) (SRow nt).size (colVal G d l0 l1 l2 l3 (window S (o.S n) S1x32x256.size (I.S n hn)) (window A (o.A n) (SRow nt).size (I.A n hn))
    (window W (o.W n 0) S1x256x256.size (I.W n 0 hn (by omega))) (window W (o.W n 1) S1x256x256.size (I.W n 1 hn (by omega)))
    (window W (o.W n 2) S1x256x256.size (I.W n 2 hn (by omega))) (window W (o.W n 3) S1x256x256.size (I.W n 3 hn (by omega))))

/-- The accumulator after the blocks of columns from the `n`th on. -/
def colsPut (W : S10x1024x2048.Idx → Elt F .fp8e4m3) (S : S10x32x2048.Idx → Elt F .i8) (l0 l1 l2 l3 : FVec F (SRow nt) .bf16) :
    (m n : ℕ) → n + m ≤ 8 → (S256x2048.Idx → Elt F .f32) → S256x2048.Idx → Elt F .f32
  | 0, _, _, A => A
  | m + 1, n, h, A => colsPut W S l0 l1 l2 l3 m (n + 1) (by omega) (colPut G d I W S l0 l1 l2 l3 n (by omega) A)

/-- The accumulator after a block. -/
def blockVal (X : S32x7168.Idx → Elt F .f32) (W : S10x1024x2048.Idx → Elt F .fp8e4m3) (S : S10x32x2048.Idx → Elt F .i8)
    (A : S256x2048.Idx → Elt F .f32) : S256x2048.Idx → Elt F .f32 :=
  colsPut G d I W S (rows G (toks G I mask X 0 (by omega) nt 0 (by omega))) (rows G (toks G I mask X 1 (by omega) nt 0 (by omega)))
    (rows G (toks G I mask X 2 (by omega) nt 0 (by omega))) (rows G (toks G I mask X 3 (by omega) nt 0 (by omega))) 8 0 (by omega) A

variable {nD : ℕ} {τ : Topo} {sig : RefSig} {Ix : Type} [DecidableEq Ix] {Name : Type} [DecidableEq Name]
variable {U : Type} [URA U] {Lvl : Type} [Preorder Lvl] {Λ : Labels}
variable {defs : Defs nD τ sig (Elt F) Λ} (𝒱 : Variants) (c : Dev nD) (bd : Option 𝒱.V) {Γ : PendingWaitsCtx sig Ix} (E : Set Name)

local notation "𝕄" => MT nD τ sig Ix (Elt F) Name U Lvl

variable (xs : Memref sig .tc .vmem S32x7168 .f32) (wb : Memref sig .tc .vmem S10x1024x2048 .fp8e4m3) (sb : Memref sig .tc .vmem S10x32x2048 .i8)
  (acc : Memref sig .tc .vmem S256x2048 .f32)
variable (X : S32x7168.Idx → Elt F .f32) (W : S10x1024x2048.Idx → Elt F .fp8e4m3) (S : S10x32x2048.Idx → Elt F .i8)
  {Sw : Finset (Idx (wb.view.loc (c : Thread nD τ)))} {Ss : Finset (Idx (sb.view.loc (c : Thread nD τ)))} {q qw qs : PosShare TreeShare}

theorem wp_gather (k : ℕ) (hk : k < 4) : ∀ (m t : ℕ) (h : t + m ≤ nt) {Q : {l : List (FVec F S8x256 .f32) // l.length = m} → sProp (MT nD τ sig Ix (Elt F) Name U Lvl)},
    (xs.view.loc (c : Thread nD τ) ↦[xs.view.set]{q} xs.view.rep X : sProp 𝕄)
      ⊢ iprop(((xs.view.loc (c : Thread nD τ) ↦[xs.view.set]{q} xs.view.rep X) -∗ Q (toks G I mask X k hk m t h))
        -∗ wp frame (wpE' defs 𝒱 (c : Thread nD τ) bd Γ) E (gather nD τ Λ G I xs mask k hk m t h) Q)
  | 0, t, h, Q => by
      unfold gather toks
      iintro H K
      try simp only [prog_ret_bind, prog_pure]
      rw [wp_ret]
      imodintro
      iapply K; iexact H
  | m + 1, t, h, Q => by
      unfold gather toks
      iintro H K
      iapply (wp_ld (defs := defs) 𝒱 (c : Thread nD τ) bd E (m := xs) (View.setOn_subset_set _ _)) $$ H
      iintro H
      try simp only [prog_ret_bind]
      rw [wp_bind]
      iapply (wp_gather k hk m (t + 1) _) $$ H
      iintro H
      try simp only [prog_ret_bind, prog_pure]
      rw [wp_ret]
      imodintro
      iapply K; iexact H

theorem wp_colStep (hwb : ∀ n k, ∀ hn : n < 8, ∀ hk : k < 4, wb.view.setOn (Rect.unit (s := S10x1024x2048) (o.W n k) S1x256x256.size (I.W n k hn hk)).toLoadRect.set ⊆ Sw)
    (hsb : ∀ n, ∀ hn : n < 8, sb.view.setOn (Rect.unit (s := S10x32x2048) (o.S n) S1x32x256.size (I.S n hn)).toLoadRect.set ⊆ Ss)
    (l0 l1 l2 l3 : FVec F (SRow nt) .bf16) (n : ℕ) (hn : n < 8) (A : S256x2048.Idx → Elt F .f32) {Q : PUnit → sProp (MT nD τ sig Ix (Elt F) Name U Lvl)} :
    iprop((wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep A) : sProp 𝕄)
      ⊢ iprop((((wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep (colPut G d I W S l0 l1 l2 l3 n hn A))) -∗ Q ⟨⟩)
        -∗ wp frame (wpE' defs 𝒱 (c : Thread nD τ) bd Γ) E (colStep nD τ Λ G d I wb sb acc l0 l1 l2 l3 n hn) Q) := by
  unfold colStep colPut
  iintro ⟨Hw, Hs, Ha⟩ K
  iapply (wp_ld (defs := defs) 𝒱 (c : Thread nD τ) bd E (m := sb) (hsb n hn)) $$ Hs
  iintro Hs
  iapply (wp_ld (defs := defs) 𝒱 (c : Thread nD τ) bd E (m := acc) (View.setOn_subset_set _ _)) $$ Ha
  iintro Ha
  iapply (wp_ld (defs := defs) 𝒱 (c : Thread nD τ) bd E (m := wb) (hwb n 0 hn (by omega))) $$ Hw
  iintro Hw
  iapply (wp_ld (defs := defs) 𝒱 (c : Thread nD τ) bd E (m := wb) (hwb n 1 hn (by omega))) $$ Hw
  iintro Hw
  iapply (wp_ld (defs := defs) 𝒱 (c : Thread nD τ) bd E (m := wb) (hwb n 2 hn (by omega))) $$ Hw
  iintro Hw
  iapply (wp_ld (defs := defs) 𝒱 (c : Thread nD τ) bd E (m := wb) (hwb n 3 hn (by omega))) $$ Hw
  iintro Hw
  iapply (wp_ld (defs := defs) 𝒱 (c : Thread nD τ) bd E (m := acc) (View.setOn_subset_set _ _)) $$ Ha
  iintro Ha
  iapply (wp_st (defs := defs) 𝒱 (c : Thread nD τ) bd E (m := acc)) $$ Ha
  iintro Ha
  try simp only [prog_ret_bind, prog_pure]
  rw [wp_ret]
  imodintro
  iapply K
  isplitl [Hw]; · iexact Hw
  isplitl [Hs]; · iexact Hs
  iexact Ha

theorem wp_cols (hwb : ∀ n k, ∀ hn : n < 8, ∀ hk : k < 4, wb.view.setOn (Rect.unit (s := S10x1024x2048) (o.W n k) S1x256x256.size (I.W n k hn hk)).toLoadRect.set ⊆ Sw)
    (hsb : ∀ n, ∀ hn : n < 8, sb.view.setOn (Rect.unit (s := S10x32x2048) (o.S n) S1x32x256.size (I.S n hn)).toLoadRect.set ⊆ Ss)
    (l0 l1 l2 l3 : FVec F (SRow nt) .bf16) : ∀ (m n : ℕ) (h : n + m ≤ 8) (A : S256x2048.Idx → Elt F .f32) {Q : PUnit → sProp (MT nD τ sig Ix (Elt F) Name U Lvl)},
    iprop((wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep A) : sProp 𝕄)
      ⊢ iprop((((wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep (colsPut G d I W S l0 l1 l2 l3 m n h A))) -∗ Q ⟨⟩)
        -∗ wp frame (wpE' defs 𝒱 (c : Thread nD τ) bd Γ) E (cols nD τ Λ G d I wb sb acc l0 l1 l2 l3 m n h) Q)
  | 0, n, h, A, Q => by
      unfold cols colsPut
      iintro H K
      try simp only [prog_ret_bind, prog_pure]
      rw [wp_ret]
      imodintro
      iapply K; iexact H
  | m + 1, n, h, A, Q => by
      unfold cols colsPut
      iintro H K
      try simp only [prog_ret_bind]
      rw [wp_bind]
      iapply (wp_colStep G d I 𝒱 c bd E wb sb acc W S hwb hsb l0 l1 l2 l3 n _ A) $$ H
      iintro H
      iapply (wp_cols hwb hsb l0 l1 l2 l3 m (n + 1) _) $$ H
      iexact K

/-- A block reads the activations and its slot's weights and scales, and leaves the accumulator at `blockVal`. -/
theorem wp_block (hwb : ∀ n k, ∀ hn : n < 8, ∀ hk : k < 4, wb.view.setOn (Rect.unit (s := S10x1024x2048) (o.W n k) S1x256x256.size (I.W n k hn hk)).toLoadRect.set ⊆ Sw)
    (hsb : ∀ n, ∀ hn : n < 8, sb.view.setOn (Rect.unit (s := S10x32x2048) (o.S n) S1x32x256.size (I.S n hn)).toLoadRect.set ⊆ Ss)
    (A : S256x2048.Idx → Elt F .f32) {Q : PUnit → sProp (MT nD τ sig Ix (Elt F) Name U Lvl)} :
    iprop((xs.view.loc (c : Thread nD τ) ↦[xs.view.set]{q} xs.view.rep X)
        ∗ (wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep A) : sProp 𝕄)
      ⊢ iprop((((xs.view.loc (c : Thread nD τ) ↦[xs.view.set]{q} xs.view.rep X)
        ∗ (wb.view.loc (c : Thread nD τ) ↦[Sw]{qw} wb.view.rep W) ∗ (sb.view.loc (c : Thread nD τ) ↦[Ss]{qs} sb.view.rep S)
        ∗ (acc.view.loc (c : Thread nD τ) ↦[acc.view.set]{fullShare} acc.view.rep (blockVal G d I mask X W S A))) -∗ Q ⟨⟩)
        -∗ wp frame (wpE' defs 𝒱 (c : Thread nD τ) bd Γ) E (block nD τ Λ G d I mask wb sb xs acc) Q) := by
  unfold block blockVal
  iintro ⟨Hx, H⟩ K
  try simp only [prog_ret_bind]
  rw [wp_bind]
  iapply (wp_gather G I mask 𝒱 c bd E xs X 0 _ nt 0 _) $$ Hx
  iintro Hx
  try simp only [prog_ret_bind]
  rw [wp_bind]
  iapply (wp_gather G I mask 𝒱 c bd E xs X 1 _ nt 0 _) $$ Hx
  iintro Hx
  try simp only [prog_ret_bind]
  rw [wp_bind]
  iapply (wp_gather G I mask 𝒱 c bd E xs X 2 _ nt 0 _) $$ Hx
  iintro Hx
  try simp only [prog_ret_bind]
  rw [wp_bind]
  iapply (wp_gather G I mask 𝒱 c bd E xs X 3 _ nt 0 _) $$ Hx
  iintro Hx
  iapply (wp_cols G d I 𝒱 c bd E wb sb acc W S hwb hsb _ _ _ _ 8 0 _ A) $$ H
  iintro H
  iapply K
  isplitl [Hx]; · iexact Hx
  iexact H

end Block

end Mxfp8
-- ==== Proof.Dma.lean ====
/- A transfer of one slab of an array into one slot of a ring of slots, and the wait for it. -/
module

public import proofs.«01_k».proof.Proof.Blk
public import Idealize.ShloMosaic.Lib.Transfers

@[expose] public section

set_option maxRecDepth 16384

noncomputable section

namespace Mxfp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers

section Congr

variable {nD : ℕ} {τ : Topo} {sig : RefSig} {Ix : Type} [DecidableEq Ix] {Val : EltTy → Type} {Name : Type} [DecidableEq Name]
variable {U : Type} [URA U] {Lvl : Type} [Preorder Lvl] [∀ e, Nonempty (Val e)]
variable (c : Thread nD τ)

/-- A view held at two contents that read alike through it. -/
theorem pointsTo_of_read {κs : Space} {s : Shape} {e : EltTy} {m : Memref sig c.2.kind κs s e} {q : PosShare TreeShare}
    {f g : Buf Val (m.view.loc c)} (h : m.view.read Val f = m.view.read Val g) :
    (m.view.loc c ↦[m.view.set]{q} f : sProp (MT nD τ sig Ix Val Name U Lvl)) = (m.view.loc c ↦[m.view.set]{q} g) := by
  refine pointsTo_congr fun i hi => ?_
  obtain ⟨x, -, rfl⟩ := Finset.mem_map.mp hi
  have h2 := congrFun h x
  rw [View.read_apply, View.read_apply] at h2
  exact (cast_inj _).mp h2

end Congr

/-- A ring of ten slots of `R` rows. -/
abbrev SRing (R : ℕ) : Shape := ⟨3, ![10, R, 2048]⟩
/-- One slot as a block of the ring. -/
abbrev SOne (R : ℕ) : Shape := ⟨3, ![1, R, 2048]⟩
/-- One slot. -/
abbrev SSlab (R : ℕ) : Shape := ⟨2, ![R, 2048]⟩
/-- An array of `T` rows for each of twelve experts. -/
abbrev SArr (T : ℕ) : Shape := ⟨3, ![12, T, 2048]⟩
/-- Ten cells. -/
abbrev SCells : Shape := ⟨1, ![10]⟩
/-- One cell of the ten. -/
abbrev SCell : Shape := ⟨1, ![1]⟩
/-- One cell. -/
abbrev SNone : Shape := ⟨0, ![]⟩

/-- The element of expert `e`'s `c`-th slab of `R` rows that lies under an element of a slot. -/
def slabIx (R T : ℕ) (h : 7 * R = T) (e : Fin 12) (c : Fin 7) (i : (SRing R).Idx) : (SArr T).Idx := fun a =>
  match a with
  | ⟨0, _⟩ => e
  | ⟨1, _⟩ => (⟨R * c.val + (i (1 : Fin 3)).val, by
      have h1 : (i (1 : Fin 3)).val < R := (i (1 : Fin 3)).isLt
      have h2 := c.isLt
      have h3 : R * (c.val + 1) ≤ R * 7 := Nat.mul_le_mul_left _ h2
      rw [Nat.mul_add] at h3
      show _ < T
      omega⟩ : Fin T)
  | ⟨2, _⟩ => (i (2 : Fin 3))

/-- The index of the `n`-th of ten cells. -/
def cellIx (n : Fin 10) : SCells.Idx := fun a => match a with | ⟨0, _⟩ => n

theorem slot_inb {R n : ℕ} (hn : n < 10) : ∀ x, (![n, 0, 0] : Fin 3 → ℕ) x + (SOne R).size x ≤ (SRing R).size x := by
  intro x
  match x with
  | ⟨0, _⟩ => show n + 1 ≤ 10; omega
  | ⟨1, _⟩ => show 0 + R ≤ R; omega
  | ⟨2, _⟩ => show 0 + 2048 ≤ 2048; omega

theorem slab_inb {R T : ℕ} (h : 7 * R = T) (e : Fin 12) (k : Fin 7) :
    ∀ x, (![e.val, R * k.val, 0] : Fin 3 → ℕ) x + (SOne R).size x ≤ (SArr T).size x := by
  have h1 : R * (k.val + 1) ≤ R * 7 := Nat.mul_le_mul_left _ k.isLt
  rw [Nat.mul_add] at h1
  have := e.isLt
  intro x
  match x with
  | ⟨0, _⟩ => show e.val + 1 ≤ 12; omega
  | ⟨1, _⟩ => show R * k.val + R ≤ T; omega
  | ⟨2, _⟩ => show 0 + 2048 ≤ 2048; omega

section Slot

variable {nD : ℕ} {τ : Topo} {sig : RefSig} {Ix : Type} [DecidableEq Ix] {Val : EltTy → Type} {Name : Type} [DecidableEq Name] [Infinite Name]
variable {U : Type} [URA U] {Lvl : Type} [Preorder Lvl] {Λ : Labels} [∀ e, Nonempty (Val e)]
variable (EC : UEmb Counters (MT nD τ sig Ix Val Name U Lvl)) [EC.LandsIn (upEmb : UEmb _ (MT nD τ sig Ix Val Name U Lvl))]
variable {defs : Defs nD τ sig Val Λ} (𝒱 : Variants) (c : Thread nD τ) (bd : Option 𝒱.V)
variable {α : Type} {Q : α → sProp (MT nD τ sig Ix Val Name U Lvl)}
variable {R T : ℕ} (hRT : 7 * R = T) {sp sp' : Space} {et : EltTy}
variable (m : Memref sig c.2.kind sp' (SRing R) et) (a : Memref sig c.2.kind sp (SArr T) et) (sm : DmaSems sig SCells)
variable (A : (SArr T).Idx → Val et) (q : PosShare TreeShare) (ι : Ix) (N : ℕ)

/-- Slot `n`'s elements. -/
def slotSet (n : ℕ) (hn : n < 10) : Finset (Idx (m.view.loc c)) :=
  View.set (m.slice (Rect.unit (s := SRing R) ![n, 0, 0] (SOne R).size (slot_inb hn)) (fun _ => rfl)).view

/-- The elements of expert `e`'s `k`-th slab. -/
def slabSet (e : Fin 12) (k : Fin 7) : Finset (Idx (a.view.loc c)) :=
  View.set (a.slice (Rect.unit (s := SArr T) ![e.val, R * k.val, 0] (SOne R).size (slab_inb hRT e k)) (fun _ => rfl)).view

/-- Slot `n`'s transfer of expert `e`'s `k`-th slab, in flight: what arrives, and the rest of the source. -/
def Fly (n : Fin 10) (e : Fin 12) (k : Fin 7) : sProp (MT nD τ sig Ix Val Name U Lvl) :=
  iprop(Flight EC c (.dma (sm.ix (cellIx n))) ι N
      iprop((m.view.loc c ↦[slotSet c m n.val n.isLt]{fullShare} m.view.rep fun i => A (slabIx R T hRT e k i))
        ∗ (a.view.loc c ↦[slabSet c hRT a e k]{q} a.view.rep A))
    ∗ (a.view.loc c ↦[a.view.set \ slabSet c hRT a e k]{q} a.view.rep A))

/-- The cell a one-element slice of the ten names. -/
theorem cell_eq (n : Fin 10) {off : Fin 1 → ℕ} {inb : ∀ x, off x + SCell.size x ≤ SCells.size x} {sq : SCell.Squeezes SNone}
    (h : off = ![n.val]) : ((sm.slice (Rect.unit (s := SCells) off SCell.size inb)).squeeze SNone sq).ix = fun _ => sm.ix (cellIx n) := by
  subst h
  funext j
  show sm.ix ((Rect.unit (s := SCells) ![n.val] SCell.size inb).emb (Shape.reshapeEquiv sq.numel_eq j)) = _
  generalize (Shape.reshapeEquiv sq.numel_eq j : SCell.Idx) = z
  congr 1
  funext x
  match x with
  | ⟨0, _⟩ =>
    refine Fin.ext ?_
    have h2 : (z 0).val < 1 := (z 0).isLt
    show n.val + 1 * (z 0).val = n.val
    omega

/-- Starting slot `n`'s transfer. -/
theorem wp_send {n : Fin 10} {e : Fin 12} {k : Fin 7}
    {od : Fin 3 → ℕ} {id : ∀ x, od x + (SOne R).size x ≤ (SRing R).size x} {sd : (SOne R).Squeezes (SSlab R)}
    {os : Fin 3 → ℕ} {is : ∀ x, os x + (SOne R).size x ≤ (SArr T).size x}
    {sme : DmaSem sig}
    (hod : od = ![n.val, 0, 0]) (hos : os = ![e.val, R * k.val, 0]) (hoc : sme = sm.ix (cellIx n))
    {hsrc} {hdst} {hsem} {kk : PUnit → Prog (TpuEff nD τ sig Val Λ c.2) α}
    (hN : ((m.slice (Rect.unit (s := SRing R) od (SOne R).size id) (fun _ => rfl)).squeeze (SSlab R) sd).view.amount
      (.dma sme) = N) (hN0 : 0 < N)
    (f : Buf Val (m.view.loc c)) :
    iprop((a.view.loc c ↦[a.view.set]{q} a.view.rep A) ∗ (m.view.loc c ↦[slotSet c m n.val n.isLt]{fullShare} f) ∗ semVal (c, .dma (sm.ix (cellIx n))) 0)
      ⊢ iprop((Fly EC c hRT m a sm A q ι N n e k -∗ wp frame (wpE defs 𝒱 c bd) Set.univ (kk ⟨⟩) Q)
          -∗ wp frame (wpE defs 𝒱 c bd) Set.univ (.op (TpuEff.enqueueDma
            ((a.slice (Rect.unit (s := SArr T) os (SOne R).size is) (fun _ => rfl)).squeeze (SSlab R) sd)
            (.here ((m.slice (Rect.unit (s := SRing R) od (SOne R).size id) (fun _ => rfl)).squeeze (SSlab R) sd))
            (.dma sme) hsrc hdst hsem) kk) Q) := by
  subst hod hos hoc
  have hdS : ((m.slice (Rect.unit (s := SRing R) ![n.val, 0, 0] (SOne R).size id) (fun _ => rfl)).squeeze (SSlab R) sd).view.set = slotSet c m n.val n.isLt :=
    View.set_reshape (v := (m.slice (Rect.unit (s := SRing R) ![n.val, 0, 0] (SOne R).size id) (fun _ => rfl)).view) sd.numel_eq
  have hsS : ((a.slice (Rect.unit (s := SArr T) ![e.val, R * k.val, 0] (SOne R).size is) (fun _ => rfl)).squeeze (SSlab R) sd).view.set = slabSet c hRT a e k :=
    View.set_reshape (v := (a.slice (Rect.unit (s := SArr T) ![e.val, R * k.val, 0] (SOne R).size is) (fun _ => rfl)).view) sd.numel_eq
  have hsub : slabSet c hRT a e k ⊆ a.view.set :=
    View.set_slice_subset a.view (Rect.unit (s := SArr T) ![e.val, R * k.val, 0] (SOne R).size is)
  have hw := wp_dmaLocal (defs := defs) EC 𝒱 c bd (Q := Q) (hsrc := hsrc) (hdst := hdst) (hsem := hsem) (k := kk) (q := q) (via := .same)
    (fs := a.view.rep A) (fd := f) (Sd := slotSet c m n.val n.isLt) ι N hN hN0 (le_of_eq hdS)
  have hres : iprop(((m.view.loc c) ↦[slotSet c m n.val n.isLt]{fullShare}
        (((m.slice (Rect.unit (s := SRing R) ![n.val, 0, 0] (SOne R).size id) (fun _ => rfl)).squeeze (SSlab R) sd).view.write Val f
          (((a.slice (Rect.unit (s := SArr T) ![e.val, R * k.val, 0] (SOne R).size is) (fun _ => rfl)).squeeze (SSlab R) sd).view.read Val (a.view.rep A)) Finset.univ) : sProp (MT nD τ sig Ix Val Name U Lvl)))
      = (m.view.loc c ↦[slotSet c m n.val n.isLt]{fullShare} m.view.rep fun i => A (slabIx R T hRT e k i)) := by
    rw [← hdS]
    refine pointsTo_of_read (m := (m.slice (Rect.unit (s := SRing R) ![n.val, 0, 0] (SOne R).size id) (fun _ => rfl)).squeeze (SSlab R) sd) c ?_
    rw [View.read_write_univ]
    funext y
    have e1 : (((a.slice (Rect.unit (s := SArr T) ![e.val, R * k.val, 0] (SOne R).size is) (fun _ => rfl)).squeeze (SSlab R) sd).view.read Val (a.view.rep A)) y
        = a.view.read Val (a.view.rep A) ((Rect.unit (s := SArr T) ![e.val, R * k.val, 0] (SOne R).size is).emb (Shape.reshapeEquiv sd.numel_eq y)) := rfl
    have e2 : (((m.slice (Rect.unit (s := SRing R) ![n.val, 0, 0] (SOne R).size id) (fun _ => rfl)).squeeze (SSlab R) sd).view.read Val (m.view.rep fun i => A (slabIx R T hRT e k i))) y
        = m.view.read Val (m.view.rep fun i => A (slabIx R T hRT e k i)) ((Rect.unit (s := SRing R) ![n.val, 0, 0] (SOne R).size id).emb (Shape.reshapeEquiv sd.numel_eq y)) := rfl
    rw [e1, e2, View.read_rep, View.read_rep]
    generalize (Shape.reshapeEquiv sd.numel_eq y : (SOne R).Idx) = z
    congr 1
    funext x
    refine Fin.ext ?_
    have hz0 : (z 0).val < 1 := (z 0).isLt
    match x with
    | ⟨0, _⟩ => show e.val + 1 * (z 0).val = e.val; omega
    | ⟨1, _⟩ => show R * k.val + 1 * (z 1).val = R * k.val + (0 + 1 * (z 1).val); omega
    | ⟨2, _⟩ => show 0 + 1 * (z 2).val = 0 + 1 * (z 2).val; rfl
  have hsp := (pointsTo_split_subset (q := q) (f := a.view.rep A) (ℓ := a.view.loc c) (Ix := Ix) (Name := Name) (U := U) (Lvl := Lvl) hsub).1
  iintro ⟨Ha, Hm, Hs⟩ Hk
  ihave Ha2 := hsp $$ Ha
  icases Ha2 with ⟨Ha1, Ha2⟩
  iapply hw $$ [Ha1 Hm Hs]
  · rw [hsS]
    isplitl [Ha1]; · iexact Ha1
    isplitl [Hm]; · iexact Hm
    iexact Hs
  · iintro Hf
    iapply Hk
    unfold Fly
    isplitl [Hf]
    · rw [hsS] at *
      iapply (Flight_mono EC c (Entails.of_eq ?_)) $$ Hf
      refine congrArg₂ _ hres rfl
    · iexact Ha2

/-- Waiting for slot `n`'s transfer: the slot at what arrived, the source whole, the cell at zero. -/
theorem wp_recv {n : Fin 10} {e : Fin 12} {k : Fin 7} {W : Waits sig Ix}
    {s' s'' : Shape} {e' e'' : EltTy} {κ' : Kind} {sp1 sp2 : Space}
    {sme : DmaSem sig} (hoc : sme = sm.ix (cellIx n))
    {srcw : Memref sig c.2.kind sp1 s' e'} {dstw : Memref sig κ' sp2 s'' e''} {hsrc : srcw.view.WordExact} {hdst : dstw.view.WordExact}
    {kk : PUnit → Prog (TpuEff nD τ sig Val Λ c.2) α} (hN : dstw.view.dmaCredit = N) :
    iprop(Fly EC c hRT m a sm A q ι N n e k ∗ owes c 0 W)
      ⊢ iprop((iprop((m.view.loc c ↦[slotSet c m n.val n.isLt]{fullShare} m.view.rep fun i => A (slabIx R T hRT e k i))
          ∗ (a.view.loc c ↦[a.view.set]{q} a.view.rep A) ∗ semVal (c, .dma (sm.ix (cellIx n))) 0
          ∗ owes c 0 (insert (SemLoc.dma (sm.ix (cellIx n)), ι) W)) -∗ wp frame (wpE defs 𝒱 c bd) Set.univ (kk ⟨⟩) Q)
        -∗ wp frame (wpE defs 𝒱 c bd) Set.univ (.op (.waitDma2
            sme srcw dstw hsrc hdst) kk) Q) := by
  subst hoc
  have hsub : slabSet c hRT a e k ⊆ a.view.set := View.set_slice_subset a.view _
  have hsp := (pointsTo_split_subset (q := q) (f := a.view.rep A) (ℓ := a.view.loc c) (Ix := Ix) (Name := Name) (U := U) (Lvl := Lvl) hsub).2
  unfold Fly
  iintro ⟨⟨Hf, Hr⟩, Ho⟩ Hk
  iapply (wp_waitLocal (defs := defs) EC 𝒱 c bd (Q := Q) (hsrc := hsrc) (hdst := hdst) (k := kk) ι hN) $$ [Hf Ho]
  · isplitl [Hf] <;> iassumption
  iintro ⟨⟨Hm, Ha⟩, Hs, Ho⟩
  iapply Hk
  isplitl [Hm]; · iexact Hm
  isplitl [Ha Hr]
  · iapply hsp
    isplitl [Ha] <;> iassumption
  isplitl [Hs] <;> iassumption

end Slot

end Mxfp8
-- ==== Proof.Spec.lean ====
/- What the program computes, step by step: the accumulator and the result as functions of what the buffers hold. -/
module

public import proofs.«01_k».proof.Proof.Dma

@[expose] public section

set_option maxRecDepth 16384

noncomputable section

namespace Mxfp8

open Idealize.ShloMosaic Idealize.ShloMosaic.TcCoe Idealize.ShloMosaic.Tactic
open VecWindow (window put)

variable {F : FTy → Type} [FloatOps F]

/-- The accumulator's contents. -/
abbrev Acc (F : FTy → Type) : Type := S256x2048.Idx → Elt F .f32
/-- The contents of the result before its rounding. -/
abbrev Out (F : FTy → Type) : Type := (⟨2, ![32, 2048]⟩ : Shape).Idx → Elt F .f32
abbrev S8x2048 : Shape := ⟨2, ![8, 2048]⟩
abbrev S1x2048 : Shape := ⟨2, ![1, 2048]⟩
abbrev S32x2048 : Shape := ⟨2, ![32, 2048]⟩

/-- The word a counted loop's `n`th trip carries. -/
abbrev ivW (n : ℕ) : BitVec 32 := Scf.iv 0#32 1#32 n
/-- The word of the slot of the `j`th expert's `c`th chunk. -/
abbrev slW (j c : ℕ) : BitVec 32 := Scalar.remsi (Scalar.addi (Scalar.muli (ivW j) 7#32) (ivW c)) 10#32

/-- What the program is made of besides its loops: the products, the mask that puts a group into its row, the zeros and the sum of eight rows. -/
structure Parts (F : FTy → Type) where
  d2 : DotDims (SRow 2) S256x256 (SRow 2)
  d4 : DotDims (SRow 4) S256x256 (SRow 4)
  d8 : DotDims (SRow 8) S256x256 (SRow 8)
  d16 : DotDims (SRow 16) S256x256 (SRow 16)
  mask : IVec S8x256 1
  zero : S8x2048.Idx → Elt F .f32
  sum : (S8x2048.Idx → Elt F .f32) → S1x2048.Idx → Elt F .f32

variable (P : Parts F)
variable (X : S32x7168.Idx → Elt F .f32) (Wv : (SArr 7168).Idx → Elt F .fp8e4m3) (Sv : (SArr 224).Idx → Elt F .i8)

/-- A block's effect on the accumulator. -/
def stepVal {nt : ℕ} (h : 2 ≤ nt) (d : DotDims (SRow nt) S256x256 (SRow nt)) (mask : IVec S8x256 1) (o : Offs)
    (W : S10x1024x2048.Idx → Elt F .fp8e4m3) (S : S10x32x2048.Idx → Elt F .i8) (A : Acc F) : Acc F :=
  open Classical in if I : o.Inb nt then blockVal (sides h) d I mask X W S A else A

theorem stepVal_eq {nt : ℕ} (h : 2 ≤ nt) (d : DotDims (SRow nt) S256x256 (SRow nt)) (mask : IVec S8x256 1) {o : Offs} (I : o.Inb nt)
    (W : S10x1024x2048.Idx → Elt F .fp8e4m3) (S : S10x32x2048.Idx → Elt F .i8) (A : Acc F) :
    stepVal X h d mask o W S A = blockVal (sides h) d I mask X W S A := dif_pos I

section Chunk

variable (v56 v58 : BitVec 32) (j : ℕ) (c : ℕ) (W : S10x1024x2048.Idx → Elt F .fp8e4m3) (S : S10x32x2048.Idx → Elt F .i8)

/-- The whole tiles of a chunk. -/
def tilesVal : ℕ → Acc F → Acc F
  | 0, A => A
  | i + 1, A => stepVal X (nt := 16) (by decide) P.d16 P.mask (offsW v56 (ivW i) (ivW c) (slW j c)) W S (tilesVal i A)

/-- The last tile, when its tokens are more than `lo` and at most `hi`. -/
def tailVal {nt : ℕ} (h : 2 ≤ nt) (d : DotDims (SRow nt) S256x256 (SRow nt)) (lo hi : ℕ) (A : Acc F) : Acc F :=
  if lo < v58.toNat % 16 ∧ v58.toNat % 16 ≤ hi then stepVal X h d P.mask (offsW v56 (Scalar.divsi v58 16#32) (ivW c) (slW j c)) W S A else A

/-- A chunk's effect on the accumulator. -/
def chunkVal (A : Acc F) : Acc F :=
  tailVal P X v56 v58 j c W S (nt := 16) (by decide) P.d16 8 16
    (tailVal P X v56 v58 j c W S (nt := 8) (by decide) P.d8 4 8
      (tailVal P X v56 v58 j c W S (nt := 4) (by decide) P.d4 2 4
        (tailVal P X v56 v58 j c W S (nt := 2) (by decide) P.d2 0 2
          (tilesVal P X v56 j c W S (v58.toNat / 16) A))))

end Chunk

/-- The chunks of an expert. -/
def chunksVal (e : Fin 12) (v56 v58 : BitVec 32) (j : ℕ) : ℕ → Acc F → Acc F
  | 0, A => A
  | c + 1, A => chunkVal P X v56 v58 j c (fun i => Wv (slabIx 1024 7168 rfl e ⟨c % 7, Nat.mod_lt _ (by decide)⟩ i))
      (fun i => Sv (slabIx 32 224 rfl e ⟨c % 7, Nat.mod_lt _ (by decide)⟩ i)) (chunksVal e v56 v58 j c A)

/-- The rows of tokens cleared. -/
def clearVal : ℕ → Acc F → Acc F
  | 0, A => A
  | t + 1, A => put (clearVal t A) ![8 * t, 0] S8x2048.size P.zero

/-- Token `t`'s eight rows. -/
def accRow (A : Acc F) (t : ℕ) : S8x2048.Idx → Elt F .f32 :=
  if h : ∀ a, (![8 * t, 0] : Fin 2 → ℕ) a + S8x2048.size a ≤ S256x2048.size a then window A ![8 * t, 0] S8x2048.size h else P.zero

/-- The results of tokens written. -/
def emitVal (r : ℕ) (A : Acc F) : ℕ → Out F → Out F
  | 0, O => O
  | t + 1, O => put (emitVal r A t O) ![r + t, 0] S1x2048.size (P.sum (accRow P A t))

/-- An expert's accumulator, of its first token and the number of its tokens. -/
def expertAcc (e : Fin 12) (v56 v58 : BitVec 32) (j : ℕ) (A : Acc F) : Acc F :=
  chunksVal P X Wv Sv e v56 v58 j 7 (clearVal P ((v58.toNat + 15) / 16 * 16) A)

variable (act : ℕ → Fin 12) (tok sz : ℕ → BitVec 32)

/-- The accumulator and the result after the first `j` experts that have tokens. -/
def runVal : ℕ → Acc F × Out F → Acc F × Out F
  | 0, s => s
  | j + 1, s => (expertAcc P X Wv Sv (act j) (tok j) (sz j) j (runVal j s).1,
      emitVal P (tok j).toNat (expertAcc P X Wv Sv (act j) (tok j) (sz j) j (runVal j s).1) (sz j).toNat (runVal j s).2)

end Mxfp8
-- ==== Proof.Cast.lean ====
/- The bodies of the kernel's loops over tiles and over chunks, read as blocks. -/
module

public import proofs.«01_k».proof.Proof.Mm
public import proofs.«01_k».proof.Proof.Gen.Kernel
public import proofs.«01_k».proof.Proof.Gen.Kernel.Skeleton
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open Idealize.SL.Sem

variable {F : FTy → Type} [FloatOps F]
/-- The rest of one chunk's work, after the whole tiles: the last tile and the next transfer. -/
def t8Rest (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 : IVec S8x256 32) (v17 : IVec S8x256 32) (c32_i32 : BitVec 32) (v19 : IVec S8x256 32) (v26 : IVec S8x256 32) (v28 : BitVec 32) (v29 : BitVec 1) (k0_t5 : Fin (k0_t5_loop v1_0).trips) (v56 : BitVec 32) (v58 : BitVec 32) (k0_hw6 : k0_chk6 v1_0 k0_t5 v56 v58)
     (I1 : ∀ k0_t8 : Fin k0_t8_loop.trips, k0_cond1 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2) (I2 : ∀ k0_t8 : Fin k0_t8_loop.trips, k0_cond2 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4) (I3 : ∀ k0_t8 : Fin k0_t8_loop.trips, k0_cond3 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8) (I4 : ∀ k0_t8 : Fin k0_t8_loop.trips, k0_cond4 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16) :
    Fin k0_t8_loop.trips → Prog (TpuEff nD τ sig (Elt F) Λ₀ .tc) (BitVec 32) :=
  fun k0_t8 => do
    if k0_h1 : k0_cond1 v58 = 1#1 then (Mxfp8.block nD τ Λ₀ (Mxfp8.sides (F := F) (nt := 2) (by decide)) dot_S16x256_S256x256_S16x256_1_0_0_1_n_n (I1 k0_t8 k0_h1) (k0_pay1 v16 v17 c32_i32 v19 v26 v28 v29) arg7 arg8 arg10 arg11) else pure ⟨⟩
    if k0_h2 : k0_cond2 v58 = 1#1 then (Mxfp8.block nD τ Λ₀ (Mxfp8.sides (F := F) (nt := 4) (by decide)) dot_S32x256_S256x256_S32x256_1_0_0_1_n_n (I2 k0_t8 k0_h2) (k0_pay1 v16 v17 c32_i32 v19 v26 v28 v29) arg7 arg8 arg10 arg11) else pure ⟨⟩
    if k0_h3 : k0_cond3 v58 = 1#1 then (Mxfp8.block nD τ Λ₀ (Mxfp8.sides (F := F) (nt := 8) (by decide)) dot_S64x256_S256x256_S64x256_1_0_0_1_n_n (I3 k0_t8 k0_h3) (k0_pay1 v16 v17 c32_i32 v19 v26 v28 v29) arg7 arg8 arg10 arg11) else pure ⟨⟩
    if k0_h4 : k0_cond4 v58 = 1#1 then (Mxfp8.block nD τ Λ₀ (Mxfp8.sides (F := F) (nt := 16) (by decide)) dot_S128x256_S256x256_S128x256_1_0_0_1_n_n (I4 k0_t8 k0_h4) (k0_pay1 v16 v17 c32_i32 v19 v26 v28 v29) arg7 arg8 arg10 arg11) else pure ⟨⟩
    if k0_h5 : k0_cond5 v1_0 k0_t5 k0_t8 = 1#1 then do

      let v141 : Elt F .i32 ← smemLoad arg5 (Rect.unit (s := S13) (k0_off323 v1_0 k0_t5 k0_t8) S1.size (k0_off323_inb v1_0 k0_hw2 k0_t5 k0_t8 k0_h5)) numel1_S1 rfl
      have k0_hw8 : k0_chk8 v1_0 k0_t5 k0_t8 v141 := (← Prog.lift (TpuEff.assume (k0_chk8 v1_0 k0_t5 k0_t8 v141) (k0_chk8.dec v1_0 k0_t5 k0_t8 v141))).down

      let v147 : DmaSems sig S1 := arg13.slice (Rect.unit (s := S10) (k0_off324 v1_0 k0_t5 k0_t8) S1.size (k0_off324_inb v1_0 k0_hw2 k0_t5 k0_t8 k0_h5))
      let v148 : DmaSems sig S_ := v147.squeeze S_ squeezes_S1_S_
      let v149 : Memref sig .tc .vmem S1x1024x2048 .fp8e4m3 := arg7.slice (Rect.unit (s := S10x1024x2048) (k0_off325 v1_0 k0_t5 k0_t8) S1x1024x2048.size (k0_off325_inb v1_0 k0_hw2 k0_t5 k0_t8 k0_h5)) (fun _ => rfl)
      let v150 : Memref sig .tc .vmem S1024x2048 .fp8e4m3 := v149.squeeze S1024x2048 squeezes_S1x1024x2048_S1024x2048
      let v151 : Memref sig .tc .hbm S1x1024x2048 .fp8e4m3 := arg2.slice (Rect.unit (s := S12x7168x2048) (k0_off326 v1_0 k0_t5 k0_t8 v141) S1x1024x2048.size (k0_off326_inb v1_0 k0_t5 k0_t8 v141 k0_hw8 k0_h5)) (fun _ => rfl)
      let v152 : Memref sig .tc .hbm S1024x2048 .fp8e4m3 := v151.squeeze S1024x2048 squeezes_S1x1024x2048_S1024x2048
      Prog.lift (.enqueueDma v152 (.here v150) (.dma v148.sem) ((harg2.wordExact_slice rfl _ (k0_off326_wordsfp8e4m3 v1_0 k0_t5 k0_t8 v141 k0_hw8 k0_h5)).reshape _ _) ((harg7.wordExact_slice rfl _ (k0_off325_wordsfp8e4m3 v1_0 k0_hw2 k0_t5 k0_t8 k0_h5)).reshape _ _) ⟨Or.inl rfl, trivial⟩)
      let v153 : DmaSems sig S1 := arg14.slice (Rect.unit (s := S10) (k0_off327 v1_0 k0_t5 k0_t8) S1.size (k0_off327_inb v1_0 k0_hw2 k0_t5 k0_t8 k0_h5))
      let v154 : DmaSems sig S_ := v153.squeeze S_ squeezes_S1_S_
      let v155 : Memref sig .tc .vmem S1x32x2048 .i8 := arg8.slice (Rect.unit (s := S10x32x2048) (k0_off328 v1_0 k0_t5 k0_t8) S1x32x2048.size (k0_off328_inb v1_0 k0_hw2 k0_t5 k0_t8 k0_h5)) (fun _ => rfl)
      let v156 : Memref sig .tc .vmem S32x2048 .i8 := v155.squeeze S32x2048 squeezes_S1x32x2048_S32x2048
      let v157 : Memref sig .tc .hbm S1x32x2048 .i8 := arg3.slice (Rect.unit (s := S12x224x2048) (k0_off329 v1_0 k0_t5 k0_t8 v141) S1x32x2048.size (k0_off329_inb v1_0 k0_t5 k0_t8 v141 k0_hw8 k0_h5)) (fun _ => rfl)
      let v158 : Memref sig .tc .hbm S32x2048 .i8 := v157.squeeze S32x2048 squeezes_S1x32x2048_S32x2048
      Prog.lift (.enqueueDma v158 (.here v156) (.dma v154.sem) ((harg3.wordExact_slice rfl _ (k0_off329_wordsi8 v1_0 k0_t5 k0_t8 v141 k0_hw8 k0_h5)).reshape _ _) ((harg8.wordExact_slice rfl _ (k0_off328_wordsi8 v1_0 k0_hw2 k0_t5 k0_t8 k0_h5)).reshape _ _) ⟨Or.inl rfl, trivial⟩)
      pure ⟨⟩
    else do
      pure ⟨⟩
    pure 0#32

set_option maxHeartbeats 8000000 in
/-- The loop body over chunks is the part up to the whole tiles, then `t8Rest`. -/
theorem t8_eq (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 : IVec S8x256 32) (v17 : IVec S8x256 32) (c32_i32 : BitVec 32) (v19 : IVec S8x256 32) (v26 : IVec S8x256 32) (v28 : BitVec 32) (v29 : BitVec 1) (k0_t5 : Fin (k0_t5_loop v1_0).trips) (v56 : BitVec 32) (v58 : BitVec 32) (k0_hw6 : k0_chk6 v1_0 k0_t5 v56 v58)
     (I1 : ∀ k0_t8 : Fin k0_t8_loop.trips, k0_cond1 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2) (I2 : ∀ k0_t8 : Fin k0_t8_loop.trips, k0_cond2 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4) (I3 : ∀ k0_t8 : Fin k0_t8_loop.trips, k0_cond3 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8) (I4 : ∀ k0_t8 : Fin k0_t8_loop.trips, k0_cond4 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16) (k0_t8 : Fin k0_t8_loop.trips) (x : BitVec 32) :
    ∃ K, k0_t8_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 (Scf.iv 0#32 1#32 k0_t5) v56 v58 k0_hw6 (Scalar.divsi v58 16#32) (Scalar.subi v58 (Scalar.muli (Scalar.divsi v58 16#32) 16#32)) k0_t8 x
        = (k0_part133 (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 (k0_pay1 v16 v17 c32_i32 v19 v26 v28 v29) k0_t5 (Scf.iv 0#32 1#32 k0_t5) v56 v58 k0_hw6 (Scalar.divsi v58 16#32) (Scalar.subi v58 (Scalar.muli (Scalar.divsi v58 16#32) 16#32)) 0#32 1#32 k0_t8).bind K
      ∧ K ⟨(Scf.iv 0#32 1#32 k0_t8), (Scalar.addi (Scalar.muli (Scf.iv 0#32 1#32 k0_t5) 7#32) (Scf.iv 0#32 1#32 k0_t8)), (Scalar.remsi (Scalar.addi (Scalar.muli (Scf.iv 0#32 1#32 k0_t5) 7#32) (Scf.iv 0#32 1#32 k0_t8)) 10#32), (Scalar.extui (Scalar.andi (Scalar.cmpi .sgt (Scalar.subi v58 (Scalar.muli (Scalar.divsi v58 16#32) 16#32)) 0#32) (Scalar.cmpi .sle (Scalar.subi v58 (Scalar.muli (Scalar.divsi v58 16#32) 16#32)) 2#32))), 0#32⟩ = t8Rest (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 v56 v58 k0_hw6 I1 I2 I3 I4 k0_t8 := by
  refine ⟨_, rfl, ?_⟩
  sl_kernel_rfl

set_option maxHeartbeats 8000000 in
/-- The loop body over whole tiles is a block of sixteen tokens. -/
theorem t9_eq (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v42 : IVec S8x256 1) (k0_t5 : Fin (k0_t5_loop v1_0).trips) (v56 : BitVec 32) (v58 : BitVec 32) (k0_hw6 : k0_chk6 v1_0 k0_t5 v56 v58) (k0_t8 : Fin k0_t8_loop.trips)
    (k0_t9 : Fin (k0_t9_loop v58).trips) (I : (Mxfp8.offsW v56 (Scf.iv 0#32 1#32 k0_t9) (Scf.iv 0#32 1#32 k0_t8) (Scalar.remsi (Scalar.addi (Scalar.muli (Scf.iv 0#32 1#32 k0_t5) 7#32) (Scf.iv 0#32 1#32 k0_t8)) 10#32)).Inb 16) (x : BitVec 32) :
    k0_t9_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v42 k0_t5 (Scf.iv 0#32 1#32 k0_t5) v56 v58 k0_hw6 (Scalar.divsi v58 16#32) (Scalar.subi v58 (Scalar.muli (Scalar.divsi v58 16#32) 16#32)) 0#32 1#32 k0_t8 (Scf.iv 0#32 1#32 k0_t8) (Scalar.remsi (Scalar.addi (Scalar.muli (Scf.iv 0#32 1#32 k0_t5) 7#32) (Scf.iv 0#32 1#32 k0_t8)) 10#32) k0_t9 x
      = (do Mxfp8.block nD τ Λ₀ (Mxfp8.sides (F := F) (nt := 16) (by decide)) dot_S128x256_S256x256_S128x256_1_0_0_1_n_n I v42 arg7 arg8 arg10 arg11
            pure 0#32) := by
  sl_kernel_rfl

end Cert.Kernel.Gen
-- ==== Proof.Words.lean ====
module

public import proofs.«01_k».proof.Kernel

@[expose] public section

set_option maxRecDepth 16384

namespace Cert.Kernel

open Idealize.ShloMosaic

/-- A word of thirteen values is the word of one of them. -/
theorem word_cases {B : ℕ} {P : BitVec 32 → Prop} (h : ∀ n : Fin B, P (BitVec.ofNat 32 n)) (v : BitVec 32) (hv : v.toNat < B) : P v := by
  have := h ⟨v.toNat, hv⟩
  simpa using this

theorem trips1 : k0_t1_loop.trips = 12 := by decide +kernel
theorem trips4 : k0_t4_loop.trips = 28 := by decide +kernel
theorem trips8 : k0_t8_loop.trips = 7 := by decide +kernel

theorem trips2 (v : BitVec 32) (hv : v.toNat < 13) : (k0_t2_loop v).trips = min (7 * v.toNat) 10 :=
  word_cases (P := fun v => (k0_t2_loop v).trips = min (7 * v.toNat) 10) (B := 13) (by decide +kernel) v hv

theorem trips3 (v : BitVec 32) (hv : v.toNat < 13) : (k0_t3_loop v).trips = 0 :=
  word_cases (P := fun v => (k0_t3_loop v).trips = 0) (B := 13) (by decide +kernel) v hv

theorem trips5 (v : BitVec 32) (hv : v.toNat < 13) : (k0_t5_loop v).trips = v.toNat :=
  word_cases (P := fun v => (k0_t5_loop v).trips = v.toNat) (B := 13) (by decide +kernel) v hv

theorem trips13 (v : BitVec 32) (hv : v.toNat < 13) : (k0_t13_loop v).trips = 0 :=
  word_cases (P := fun v => (k0_t13_loop v).trips = 0) (B := 13) (by decide +kernel) v hv

theorem trips6 (v : BitVec 32) (hv : v.toNat < 33) : (k0_t6_loop v).trips = (v.toNat + 15) / 16 * 16 :=
  word_cases (P := fun v => (k0_t6_loop v).trips = (v.toNat + 15) / 16 * 16) (B := 33) (by decide +kernel) v hv

theorem trips7 (v : BitVec 32) (hv : v.toNat < 33) : (k0_t7_loop v).trips = 0 :=
  word_cases (P := fun v => (k0_t7_loop v).trips = 0) (B := 33) (by decide +kernel) v hv

theorem trips9 (v : BitVec 32) (hv : v.toNat < 33) : (k0_t9_loop v).trips = v.toNat / 16 :=
  word_cases (P := fun v => (k0_t9_loop v).trips = v.toNat / 16) (B := 33) (by decide +kernel) v hv

theorem trips10 (v : BitVec 32) (hv : v.toNat < 33) : (k0_t10_loop v).trips = 0 :=
  word_cases (P := fun v => (k0_t10_loop v).trips = 0) (B := 33) (by decide +kernel) v hv

theorem trips11 (v : BitVec 32) (hv : v.toNat < 33) : (k0_t11_loop v).trips = v.toNat :=
  word_cases (P := fun v => (k0_t11_loop v).trips = v.toNat) (B := 33) (by decide +kernel) v hv

theorem trips12 (v : BitVec 32) (hv : v.toNat < 33) : (k0_t12_loop v).trips = 0 :=
  word_cases (P := fun v => (k0_t12_loop v).trips = 0) (B := 33) (by decide +kernel) v hv

theorem chk2 (v : BitVec 32) (hv : v.toNat < 13) : k0_chk2 v :=
  word_cases (P := k0_chk2) (B := 13) (by decide +kernel) v hv

theorem chk1 (v : BitVec 32) (hv : v.toNat < 13) : k0_chk1 v :=
  word_cases (P := k0_chk1) (B := 13) (by decide +kernel) v hv

theorem chk5 (v : BitVec 32) (hv : v.toNat < 12) : k0_chk5 v :=
  word_cases (P := k0_chk5) (B := 12) (by decide +kernel) v hv

/-- A window of three axes fits when it fits along each. -/
theorem inb3 {o s S : Fin 3 → ℕ} (h0 : o 0 + s 0 ≤ S 0) (h1 : o 1 + s 1 ≤ S 1) (h2 : o 2 + s 2 ≤ S 2) : ∀ a, o a + s a ≤ S a := by
  intro a
  match a with
  | 0 => exact h0
  | 1 => exact h1
  | 2 => exact h2

/-- A window of two axes fits when it fits along each. -/
theorem inb2 {o s S : Fin 2 → ℕ} (h0 : o 0 + s 0 ≤ S 0) (h1 : o 1 + s 1 ≤ S 1) : ∀ a, o a + s a ≤ S a := by
  intro a
  match a with
  | 0 => exact h0
  | 1 => exact h1

/-- The word of the slot that chunk `c` of the active expert `e` lies in. -/
def slotW (e c : ℕ) : BitVec 32 :=
  Scalar.remsi (Scalar.addi (Scalar.muli (Scf.iv 0#32 1#32 e) 7#32) (Scf.iv 0#32 1#32 c)) 10#32

theorem slotW_toNat (e c : ℕ) (he : e < 12) (hc : c < 7) : (slotW e c).toNat = (7 * e + c) % 10 := by
  have : ∀ (e : Fin 12) (c : Fin 7), (slotW e c).toNat = (7 * e.val + c.val) % 10 := by decide +kernel
  exact this ⟨e, he⟩ ⟨c, hc⟩

theorem slot_le (e c : ℕ) (he : e < 12) (hc : c < 7) : (Scalar.indexCast (slotW e c)).toNat + 1 ≤ 10 := by
  have : ∀ (e : Fin 12) (c : Fin 7), (Scalar.indexCast (slotW e c)).toNat + 1 ≤ 10 := by decide +kernel
  exact this ⟨e, he⟩ ⟨c, hc⟩

/-- The row of the token that a block's row stands for, as the kernel clamps it. -/
theorem tok_le (a b : BitVec 32) (n t : ℕ) (h : a.toNat + b.toNat * 16 + t < 2147483648) (hb : b.toNat ≤ 2) (ht : t ≤ 15) (ha : a.toNat ≤ 32) :
    (Scalar.indexCast (Scalar.minsi (Scalar.addi (Scalar.addi a (Scalar.muli b 16#32)) (BitVec.ofNat 32 t)) 31#32)).toNat = min (a.toNat + b.toNat * 16 + t) 31 := by
  have : ∀ (a : Fin 33) (b : Fin 3) (t : Fin 16), (Scalar.indexCast (Scalar.minsi (Scalar.addi (Scalar.addi (BitVec.ofNat 32 a) (Scalar.muli (BitVec.ofNat 32 b) 16#32)) (BitVec.ofNat 32 t)) 31#32)).toNat = min (a.val + b.val * 16 + t) 31 := by decide +kernel
  simpa using this ⟨a.toNat, by omega⟩ ⟨b.toNat, by omega⟩ ⟨t, by omega⟩

theorem col_le (c k : ℕ) (hc : c < 7) (hk : k < 4) :
    (Scalar.indexCast (Scalar.addi (Scalar.muli (Scf.iv 0#32 1#32 c) 1024#32) (BitVec.ofNat 32 (256 * k)))).toNat = 1024 * c + 256 * k := by
  have : ∀ (c : Fin 7) (k : Fin 4), (Scalar.indexCast (Scalar.addi (Scalar.muli (Scf.iv 0#32 1#32 c) 1024#32) (BitVec.ofNat 32 (256 * k.val)))).toNat = 1024 * c.val + 256 * k.val := by decide +kernel
  exact this ⟨c, hc⟩ ⟨k, hk⟩

end Cert.Kernel
-- ==== Proof.Chk.lean ====
module

public import proofs.«01_k».proof.Proof.Words

@[expose] public section

set_option maxRecDepth 16384

namespace Cert.Kernel

open Idealize.ShloMosaic

theorem iv_toNat (n : ℕ) (h : n ≤ 33) : (Scf.iv 0#32 1#32 n).toNat = n := by
  have : ∀ n : Fin 34, (Scf.iv 0#32 1#32 n).toNat = n := by decide +kernel
  exact this ⟨n, by omega⟩

/-- Sixteen times the number of whole tiles of sixteen tokens. -/
theorem tiles_toNat (v : BitVec 32) (hv : v.toNat < 33) : (Scalar.divsi v 16#32).toNat = v.toNat / 16 :=
  word_cases (P := fun v => (Scalar.divsi v 16#32).toNat = v.toNat / 16) (B := 33) (by decide +kernel) v hv

theorem row_toNat (b : BitVec 32) (hb : b.toNat < 3) : (Scalar.indexCast (Scalar.muli (Scalar.muli b 16#32) 8#32)).toNat = 128 * b.toNat :=
  word_cases (P := fun b => (Scalar.indexCast (Scalar.muli (Scalar.muli b 16#32) 8#32)).toNat = 128 * b.toNat) (B := 3) (by decide +kernel) b hb

theorem row_dvd (b : BitVec 32) (hb : b.toNat < 3) : 8 ∣ (Scalar.muli (Scalar.muli b 16#32) 8#32).toNat :=
  word_cases (P := fun b => 8 ∣ (Scalar.muli (Scalar.muli b 16#32) 8#32).toNat) (B := 3) (by decide +kernel) b hb

theorem cond1_iff (v : BitVec 32) (hv : v.toNat < 33) : k0_cond1 v = 1#1 ↔ 0 < v.toNat % 16 ∧ v.toNat % 16 ≤ 2 :=
  word_cases (P := fun v => k0_cond1 v = 1#1 ↔ 0 < v.toNat % 16 ∧ v.toNat % 16 ≤ 2) (B := 33) (by decide +kernel) v hv
theorem cond2_iff (v : BitVec 32) (hv : v.toNat < 33) : k0_cond2 v = 1#1 ↔ 2 < v.toNat % 16 ∧ v.toNat % 16 ≤ 4 :=
  word_cases (P := fun v => k0_cond2 v = 1#1 ↔ 2 < v.toNat % 16 ∧ v.toNat % 16 ≤ 4) (B := 33) (by decide +kernel) v hv
theorem cond3_iff (v : BitVec 32) (hv : v.toNat < 33) : k0_cond3 v = 1#1 ↔ 4 < v.toNat % 16 ∧ v.toNat % 16 ≤ 8 :=
  word_cases (P := fun v => k0_cond3 v = 1#1 ↔ 4 < v.toNat % 16 ∧ v.toNat % 16 ≤ 8) (B := 33) (by decide +kernel) v hv
theorem cond4_iff (v : BitVec 32) (hv : v.toNat < 33) : k0_cond4 v = 1#1 ↔ 8 < v.toNat % 16 :=
  word_cases (P := fun v => k0_cond4 v = 1#1 ↔ 8 < v.toNat % 16) (B := 33) (by decide +kernel) v hv

/-- With a remainder the tiles before it number at most one. -/
theorem tail_row (v : BitVec 32) (hv : v.toNat < 33) (h : 0 < v.toNat % 16) (r : ℕ) (hr : r ≤ 128) :
    (Scalar.indexCast (Scalar.muli (Scalar.muli (Scalar.divsi v 16#32) 16#32) 8#32)).toNat + r ≤ 256 := by
  have h1 := tiles_toNat v hv
  rw [row_toNat _ (by omega), h1]; omega

theorem tile_row (n : ℕ) (hn : n < 2) (r : ℕ) (hr : r ≤ 128) :
    (Scalar.indexCast (Scalar.muli (Scalar.muli (Scf.iv 0#32 1#32 n) 16#32) 8#32)).toNat + r ≤ 256 := by
  have h1 := iv_toNat n (by omega)
  rw [row_toNat _ (by omega), h1]; omega

theorem x_row (a b : BitVec 32) (t : ℕ) (ha : a.toNat ≤ 32) (hb : b.toNat ≤ 2) (ht : t < 16) :
    (Scalar.indexCast (Scalar.minsi (Scalar.addi (Scalar.addi a (Scalar.muli b 16#32)) (BitVec.ofNat 32 t)) 31#32)).toNat + 1 ≤ 32 := by
  rw [tok_le a b 0 t (by omega) hb (by omega) ha]; omega

theorem x_col (c k : ℕ) (hc : c < 7) (hk : k < 4) :
    (Scalar.indexCast (Scalar.addi (Scalar.muli (Scf.iv 0#32 1#32 c) 1024#32) (BitVec.ofNat 32 (256 * k)))).toNat + 256 ≤ 7168 := by
  rw [col_le c k hc hk]; omega

theorem t5_lt {v : BitVec 32} (hv : v.toNat < 13) (t : Fin (k0_t5_loop v).trips) : t.val < 12 := by
  have := t.2.trans_eq (trips5 v hv); omega
theorem t8_lt (t : Fin k0_t8_loop.trips) : t.val < 7 := t.2.trans_eq trips8
theorem t9_lt {v : BitVec 32} (hv : v.toNat < 33) (t : Fin (k0_t9_loop v).trips) : t.val < 2 := by
  have := t.2.trans_eq (trips9 v hv); omega
theorem t7_no {v : BitVec 32} (hv : v.toNat < 33) (t : Fin (k0_t7_loop v).trips) : False := by
  have := t.2.trans_eq (trips7 v hv); omega
theorem t10_no {v : BitVec 32} (hv : v.toNat < 33) (t : Fin (k0_t10_loop v).trips) : False := by
  have := t.2.trans_eq (trips10 v hv); omega
theorem t12_no {v : BitVec 32} (hv : v.toNat < 33) (t : Fin (k0_t12_loop v).trips) : False := by
  have := t.2.trans_eq (trips12 v hv); omega

theorem tile_lt {v : BitVec 32} (hv : v.toNat < 33) (t : Fin (k0_t9_loop v).trips) : (Scf.iv 0#32 1#32 t).toNat < 3 := by
  have h := t9_lt hv t
  rw [iv_toNat _ (by omega)]; omega
theorem pos1 {v : BitVec 32} (hv : v.toNat < 33) (h : k0_cond1 v = 1#1) : 0 < v.toNat % 16 := ((cond1_iff v hv).1 h).1
theorem pos2 {v : BitVec 32} (hv : v.toNat < 33) (h : k0_cond2 v = 1#1) : 0 < v.toNat % 16 := Nat.lt_of_le_of_lt (Nat.zero_le _) ((cond2_iff v hv).1 h).1
theorem pos3 {v : BitVec 32} (hv : v.toNat < 33) (h : k0_cond3 v = 1#1) : 0 < v.toNat % 16 := Nat.lt_of_le_of_lt (Nat.zero_le _) ((cond3_iff v hv).1 h).1
theorem pos4 {v : BitVec 32} (hv : v.toNat < 33) (h : k0_cond4 v = 1#1) : 0 < v.toNat % 16 := Nat.lt_of_le_of_lt (Nat.zero_le _) ((cond4_iff v hv).1 h)

section Six
variable (v1 : BitVec 32) (h1 : v1.toNat < 13) (t5 : Fin (k0_t5_loop v1).trips) (v56 v58 : BitVec 32) (h56 : v56.toNat ≤ 32) (h58 : v58.toNat < 33)
  (hs : v56.toNat + v58.toNat ≤ 32)

theorem chk6_w (v : BitVec 32) (hv : v.toNat < 33) : ((k0_t6_loop v).OK ∧ (∀ t, 8 ∣ (k0_mult6 v t).toNat) ∧
    (∀ t, ∀ a, (k0_off20 v t) a + S8x2048.size a ≤ S256x2048.size a) ∧ (k0_t7_loop v).OK ∧ (k0_t9_loop v).OK ∧ (k0_t10_loop v).OK) ∧
    (k0_t11_loop v).OK ∧ (k0_t12_loop v).OK ∧ (∀ t, 8 ∣ (k0_mult266 v t).toNat) ∧
    (∀ t, ∀ a, (k0_off330 v t) a + S8x2048.size a ≤ S256x2048.size a) :=
  word_cases (P := fun v => ((k0_t6_loop v).OK ∧ (∀ t, 8 ∣ (k0_mult6 v t).toNat) ∧
    (∀ t, ∀ a, (k0_off20 v t) a + S8x2048.size a ≤ S256x2048.size a) ∧ (k0_t7_loop v).OK ∧ (k0_t9_loop v).OK ∧ (k0_t10_loop v).OK) ∧
    (k0_t11_loop v).OK ∧ (k0_t12_loop v).OK ∧ (∀ t, 8 ∣ (k0_mult266 v t).toNat) ∧
    (∀ t, ∀ a, (k0_off330 v t) a + S8x2048.size a ≤ S256x2048.size a)) (B := 33) (by decide +kernel) v hv

theorem out_row (t : ℕ) (ht : t < v58.toNat) (hs : v56.toNat + v58.toNat ≤ 32) :
    (Scalar.indexCast (Scalar.addi v56 (Scf.iv 0#32 1#32 t))).toNat = v56.toNat + t := by
  have h : (Scf.iv 0#32 1#32 t).toNat = t := iv_toNat t (by omega)
  show (v56 + Scf.iv 0#32 1#32 t).toNat = _
  rw [BitVec.toNat_add, h]; omega

theorem out_fits (t : ℕ) (ht : t < v58.toNat) (hs : v56.toNat + v58.toNat ≤ 32) :
    (Scalar.indexCast (Scalar.addi v56 (Scf.iv 0#32 1#32 t))).toNat + 1 ≤ 32 := by
  rw [out_row v56 v58 t ht hs]; omega

set_option maxHeartbeats 1000000 in
include h1 h56 h58 hs in
theorem chk6_0 : k0_chk6_0 v1 t5 v56 v58 := by
  have hw := chk6_w v58 h58
  have he := t5_lt h1 t5
  have hq := tiles_toNat v58 h58
  unfold k0_chk6_0
  refine ⟨hw.1.1, ?_⟩
  refine ⟨hw.1.2.1, ?_⟩
  refine ⟨hw.1.2.2.1, ?_⟩
  refine ⟨hw.1.2.2.2.1, ?_⟩
  iterate 2 refine ⟨fun t => (t7_no h58 t).elim, ?_⟩
  refine ⟨hw.1.2.2.2.2.1, ?_⟩
  refine ⟨fun t8 t r₁ r₂ => inb2 (x_row v56 (Scf.iv 0#32 1#32 t) r₁ h56 (Nat.le_of_lt_succ (tile_lt h58 t)) r₁.2) (x_col t8 r₂ (t8_lt t8) r₂.2), ?_⟩
  refine ⟨fun t => row_dvd (Scf.iv 0#32 1#32 t) (tile_lt h58 t), ?_⟩
  refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 2 refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_1 : k0_chk6_1 v1 t5 v56 v58 := by
  have hw := chk6_w v58 h58
  have he := t5_lt h1 t5
  have hq := tiles_toNat v58 h58
  unfold k0_chk6_1
  iterate 2 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨hw.1.2.2.2.2.2, ?_⟩
  refine ⟨fun _ t => (t10_no h58 t).elim, ?_⟩
  refine ⟨fun t => (t10_no h58 t).elim, ?_⟩
  refine ⟨fun _ t => (t10_no h58 t).elim, ?_⟩
  refine ⟨fun t => (t10_no h58 t).elim, ?_⟩
  refine ⟨fun _ t => (t10_no h58 t).elim, ?_⟩
  exact fun _ t => (t10_no h58 t).elim

set_option maxHeartbeats 1000000 in
include h1 h56 h58 hs in
theorem chk6_2 : k0_chk6_2 v1 t5 v56 v58 := by
  have hw := chk6_w v58 h58
  have he := t5_lt h1 t5
  have hq := tiles_toNat v58 h58
  unfold k0_chk6_2
  iterate 3 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 3 refine ⟨fun _ t => (t10_no h58 t).elim, ?_⟩
  exact fun _ t => (t10_no h58 t).elim

set_option maxHeartbeats 1000000 in
include h1 h56 h58 hs in
theorem chk6_3 : k0_chk6_3 v1 t5 v56 v58 := by
  have hw := chk6_w v58 h58
  have he := t5_lt h1 t5
  have hq := tiles_toNat v58 h58
  unfold k0_chk6_3
  refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 4 refine ⟨fun _ t => (t10_no h58 t).elim, ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 3 refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_4 : k0_chk6_4 v1 t5 v56 v58 := by
  have hw := chk6_w v58 h58
  have he := t5_lt h1 t5
  have hq := tiles_toNat v58 h58
  unfold k0_chk6_4
  refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  exact fun _ => row_dvd (Scalar.divsi v58 16#32) (by omega)

set_option maxHeartbeats 1000000 in
include h1 h56 h58 hs in
theorem chk6_5 : k0_chk6_5 v1 t5 v56 v58 := by
  have hw := chk6_w v58 h58
  have he := t5_lt h1 t5
  have hq := tiles_toNat v58 h58
  unfold k0_chk6_5
  refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  exact fun h => inb2 (tail_row v58 h58 (pos2 h58 h) _ (Nat.le_of_ble_eq_true rfl)) (Nat.le_of_ble_eq_true rfl)

set_option maxHeartbeats 1000000 in
include h1 h56 h58 hs in
theorem chk6_6 : k0_chk6_6 v1 t5 v56 v58 := by
  have hw := chk6_w v58 h58
  have he := t5_lt h1 t5
  have hq := tiles_toNat v58 h58
  unfold k0_chk6_6
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  exact fun h => inb2 (tail_row v58 h58 (pos3 h58 h) _ (Nat.le_of_ble_eq_true rfl)) (Nat.le_of_ble_eq_true rfl)

set_option maxHeartbeats 1000000 in
include h1 h56 h58 hs in
theorem chk6_7 : k0_chk6_7 v1 t5 v56 v58 := by
  have hw := chk6_w v58 h58
  have he := t5_lt h1 t5
  have hq := tiles_toNat v58 h58
  unfold k0_chk6_7
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_8 : k0_chk6_8 v1 t5 v56 v58 := by
  have hw := chk6_w v58 h58
  have he := t5_lt h1 t5
  have hq := tiles_toNat v58 h58
  unfold k0_chk6_8
  iterate 2 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_9 : k0_chk6_9 v1 t5 v56 v58 := by
  have hw := chk6_w v58 h58
  have he := t5_lt h1 t5
  have hq := tiles_toNat v58 h58
  unfold k0_chk6_9
  iterate 3 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨hw.2.1, ?_⟩
  refine ⟨hw.2.2.2.1, ?_⟩
  refine ⟨hw.2.2.2.2, ?_⟩
  refine ⟨fun t => inb2 (out_fits v56 v58 t (t.2.trans_eq (trips11 v58 h58)) hs) (Nat.le_of_ble_eq_true rfl), ?_⟩
  refine ⟨hw.2.2.1, ?_⟩
  iterate 2 refine ⟨fun t => (t12_no h58 t).elim, ?_⟩
  exact fun t => (t12_no h58 t).elim

include h1 h56 h58 hs in
theorem chk6 : k0_chk6 v1 t5 v56 v58 :=
  ⟨chk6_0 v1 h1 t5 v56 v58 h56 h58 hs, chk6_1 v1 h1 t5 v56 v58 h56 h58 hs, chk6_2 v1 h1 t5 v56 v58 h56 h58 hs, chk6_3 v1 h1 t5 v56 v58 h56 h58 hs, chk6_4 v1 h1 t5 v56 v58 h56 h58 hs, chk6_5 v1 h1 t5 v56 v58 h56 h58 hs, chk6_6 v1 h1 t5 v56 v58 h56 h58 hs, chk6_7 v1 h1 t5 v56 v58 h56 h58 hs, chk6_8 v1 h1 t5 v56 v58 h56 h58 hs, chk6_9 v1 h1 t5 v56 v58 h56 h58 hs⟩
end Six

end Cert.Kernel
-- ==== Proof.OffEq.lean ====
/- The kernel's printed offsets as numbers. -/
module

public import proofs.«01_k».proof.Proof.Chk
public import proofs.«01_k».proof.Proof.Mm

@[expose] public section

set_option maxRecDepth 16384

namespace Cert.Kernel

open Idealize.ShloMosaic

theorem off3 (v : BitVec 32) (hv : v.toNat < 13) (t : Fin (k0_t2_loop v).trips) : k0_off3 v t = ![t.val / 7] :=
  word_cases (P := fun v => ∀ t : Fin (k0_t2_loop v).trips, k0_off3 v t = ![t.val / 7]) (B := 13) (by decide +kernel) v hv t
theorem off4 (v : BitVec 32) (hv : v.toNat < 13) (t : Fin (k0_t2_loop v).trips) : k0_off4 v t = ![t.val % 10] :=
  word_cases (P := fun v => ∀ t : Fin (k0_t2_loop v).trips, k0_off4 v t = ![t.val % 10]) (B := 13) (by decide +kernel) v hv t
theorem off5 (v : BitVec 32) (hv : v.toNat < 13) (t : Fin (k0_t2_loop v).trips) : k0_off5 v t = ![t.val % 10, 0, 0] :=
  word_cases (P := fun v => ∀ t : Fin (k0_t2_loop v).trips, k0_off5 v t = ![t.val % 10, 0, 0]) (B := 13) (by decide +kernel) v hv t
theorem off6 (v e : BitVec 32) (hv : v.toNat < 13) (he : e.toNat < 12) (t : Fin (k0_t2_loop v).trips) : k0_off6 v t e = ![e.toNat, 1024 * (t.val % 7), 0] :=
  word_cases (P := fun e => ∀ t : Fin (k0_t2_loop v).trips, k0_off6 v t e = ![e.toNat, 1024 * (t.val % 7), 0])
    (word_cases (P := fun v => ∀ e' : Fin 12, ∀ t : Fin (k0_t2_loop v).trips, k0_off6 v t (BitVec.ofNat 32 e') = ![(BitVec.ofNat 32 e').toNat, 1024 * (t.val % 7), 0]) (B := 13) (by decide +kernel) v hv) e he t
theorem off7 (v : BitVec 32) (hv : v.toNat < 13) (t : Fin (k0_t2_loop v).trips) : k0_off7 v t = ![t.val % 10] :=
  word_cases (P := fun v => ∀ t : Fin (k0_t2_loop v).trips, k0_off7 v t = ![t.val % 10]) (B := 13) (by decide +kernel) v hv t
theorem off8 (v : BitVec 32) (hv : v.toNat < 13) (t : Fin (k0_t2_loop v).trips) : k0_off8 v t = ![t.val % 10, 0, 0] :=
  word_cases (P := fun v => ∀ t : Fin (k0_t2_loop v).trips, k0_off8 v t = ![t.val % 10, 0, 0]) (B := 13) (by decide +kernel) v hv t
theorem off9 (v e : BitVec 32) (hv : v.toNat < 13) (he : e.toNat < 12) (t : Fin (k0_t2_loop v).trips) : k0_off9 v t e = ![e.toNat, 32 * (t.val % 7), 0] :=
  word_cases (P := fun e => ∀ t : Fin (k0_t2_loop v).trips, k0_off9 v t e = ![e.toNat, 32 * (t.val % 7), 0])
    (word_cases (P := fun v => ∀ e' : Fin 12, ∀ t : Fin (k0_t2_loop v).trips, k0_off9 v t (BitVec.ofNat 32 e') = ![(BitVec.ofNat 32 e').toNat, 32 * (t.val % 7), 0]) (B := 13) (by decide +kernel) v hv) e he t
theorem off22 (v : BitVec 32) (hv : v.toNat < 13) (t : Fin (k0_t5_loop v).trips) (u : Fin k0_t8_loop.trips) : k0_off22 v t u = ![t.val] :=
  word_cases (P := fun v => ∀ (t : Fin (k0_t5_loop v).trips) (u : Fin k0_t8_loop.trips), k0_off22 v t u = ![t.val]) (B := 13) (by decide +kernel) v hv t u
theorem off23 (v : BitVec 32) (hv : v.toNat < 13) (t : Fin (k0_t5_loop v).trips) (u : Fin k0_t8_loop.trips) : k0_off23 v t u = ![(7 * t.val + u.val) % 10] :=
  word_cases (P := fun v => ∀ (t : Fin (k0_t5_loop v).trips) (u : Fin k0_t8_loop.trips), k0_off23 v t u = ![(7 * t.val + u.val) % 10]) (B := 13) (by decide +kernel) v hv t u
theorem off26 (v : BitVec 32) (hv : v.toNat < 13) (t : Fin (k0_t5_loop v).trips) (u : Fin k0_t8_loop.trips) : k0_off26 v t u = ![(7 * t.val + u.val) % 10] :=
  word_cases (P := fun v => ∀ (t : Fin (k0_t5_loop v).trips) (u : Fin k0_t8_loop.trips), k0_off26 v t u = ![(7 * t.val + u.val) % 10]) (B := 13) (by decide +kernel) v hv t u
theorem off323 (v : BitVec 32) (hv : v.toNat < 13) (t : Fin (k0_t5_loop v).trips) (u : Fin k0_t8_loop.trips) : k0_off323 v t u = ![((7 * t.val + u.val) + 10) / 7] :=
  word_cases (P := fun v => ∀ (t : Fin (k0_t5_loop v).trips) (u : Fin k0_t8_loop.trips), k0_off323 v t u = ![((7 * t.val + u.val) + 10) / 7]) (B := 13) (by decide +kernel) v hv t u
theorem off324 (v : BitVec 32) (hv : v.toNat < 13) (t : Fin (k0_t5_loop v).trips) (u : Fin k0_t8_loop.trips) : k0_off324 v t u = ![(7 * t.val + u.val) % 10] :=
  word_cases (P := fun v => ∀ (t : Fin (k0_t5_loop v).trips) (u : Fin k0_t8_loop.trips), k0_off324 v t u = ![(7 * t.val + u.val) % 10]) (B := 13) (by decide +kernel) v hv t u
theorem off325 (v : BitVec 32) (hv : v.toNat < 13) (t : Fin (k0_t5_loop v).trips) (u : Fin k0_t8_loop.trips) : k0_off325 v t u = ![(7 * t.val + u.val) % 10, 0, 0] :=
  word_cases (P := fun v => ∀ (t : Fin (k0_t5_loop v).trips) (u : Fin k0_t8_loop.trips), k0_off325 v t u = ![(7 * t.val + u.val) % 10, 0, 0]) (B := 13) (by decide +kernel) v hv t u
theorem off326 (v e : BitVec 32) (hv : v.toNat < 13) (he : e.toNat < 12) (t : Fin (k0_t5_loop v).trips) (u : Fin k0_t8_loop.trips) : k0_off326 v t u e = ![e.toNat, 1024 * (((7 * t.val + u.val) + 10) % 7), 0] :=
  word_cases (P := fun e => ∀ (t : Fin (k0_t5_loop v).trips) (u : Fin k0_t8_loop.trips), k0_off326 v t u e = ![e.toNat, 1024 * (((7 * t.val + u.val) + 10) % 7), 0])
    (word_cases (P := fun v => ∀ e' : Fin 12, ∀ (t : Fin (k0_t5_loop v).trips) (u : Fin k0_t8_loop.trips), k0_off326 v t u (BitVec.ofNat 32 e') = ![(BitVec.ofNat 32 e').toNat, 1024 * (((7 * t.val + u.val) + 10) % 7), 0]) (B := 13) (by decide +kernel) v hv) e he t u
theorem off327 (v : BitVec 32) (hv : v.toNat < 13) (t : Fin (k0_t5_loop v).trips) (u : Fin k0_t8_loop.trips) : k0_off327 v t u = ![(7 * t.val + u.val) % 10] :=
  word_cases (P := fun v => ∀ (t : Fin (k0_t5_loop v).trips) (u : Fin k0_t8_loop.trips), k0_off327 v t u = ![(7 * t.val + u.val) % 10]) (B := 13) (by decide +kernel) v hv t u
theorem off328 (v : BitVec 32) (hv : v.toNat < 13) (t : Fin (k0_t5_loop v).trips) (u : Fin k0_t8_loop.trips) : k0_off328 v t u = ![(7 * t.val + u.val) % 10, 0, 0] :=
  word_cases (P := fun v => ∀ (t : Fin (k0_t5_loop v).trips) (u : Fin k0_t8_loop.trips), k0_off328 v t u = ![(7 * t.val + u.val) % 10, 0, 0]) (B := 13) (by decide +kernel) v hv t u
theorem off329 (v e : BitVec 32) (hv : v.toNat < 13) (he : e.toNat < 12) (t : Fin (k0_t5_loop v).trips) (u : Fin k0_t8_loop.trips) : k0_off329 v t u e = ![e.toNat, 32 * (((7 * t.val + u.val) + 10) % 7), 0] :=
  word_cases (P := fun e => ∀ (t : Fin (k0_t5_loop v).trips) (u : Fin k0_t8_loop.trips), k0_off329 v t u e = ![e.toNat, 32 * (((7 * t.val + u.val) + 10) % 7), 0])
    (word_cases (P := fun v => ∀ e' : Fin 12, ∀ (t : Fin (k0_t5_loop v).trips) (u : Fin k0_t8_loop.trips), k0_off329 v t u (BitVec.ofNat 32 e') = ![(BitVec.ofNat 32 e').toNat, 32 * (((7 * t.val + u.val) + 10) % 7), 0]) (B := 13) (by decide +kernel) v hv) e he t u
theorem cond5_iff (v : BitVec 32) (hv : v.toNat < 13) (t : Fin (k0_t5_loop v).trips) (u : Fin k0_t8_loop.trips) : k0_cond5 v t u = 1#1 ↔ (7 * t.val + u.val) + 10 < 7 * v.toNat :=
  word_cases (P := fun v => ∀ (t : Fin (k0_t5_loop v).trips) (u : Fin k0_t8_loop.trips), k0_cond5 v t u = 1#1 ↔ (7 * t.val + u.val) + 10 < 7 * v.toNat) (B := 13) (by decide +kernel) v hv t u
theorem off1 (t : Fin k0_t1_loop.trips) : k0_off1 t = ![t.val] := by
  have : ∀ t : Fin k0_t1_loop.trips, k0_off1 t = ![t.val] := by decide +kernel
  exact this t
theorem off17 (t : Fin k0_t4_loop.trips) : k0_off17 t = ![0, 256 * t.val] := by
  have : ∀ t : Fin k0_t4_loop.trips, k0_off17 t = ![0, 256 * t.val] := by decide +kernel
  exact this t
theorem off18 (v : BitVec 32) (hv : v.toNat < 13) (t : Fin (k0_t5_loop v).trips) : k0_off18 v t = ![t.val] :=
  word_cases (P := fun v => ∀ t : Fin (k0_t5_loop v).trips, k0_off18 v t = ![t.val]) (B := 13) (by decide +kernel) v hv t
theorem off20 (v : BitVec 32) (hv : v.toNat < 33) (t : Fin (k0_t6_loop v).trips) : k0_off20 v t = ![8 * t.val, 0] :=
  word_cases (P := fun v => ∀ t : Fin (k0_t6_loop v).trips, k0_off20 v t = ![8 * t.val, 0]) (B := 33) (by decide +kernel) v hv t
theorem off330 (v : BitVec 32) (hv : v.toNat < 33) (t : Fin (k0_t11_loop v).trips) : k0_off330 v t = ![8 * t.val, 0] :=
  word_cases (P := fun v => ∀ t : Fin (k0_t11_loop v).trips, k0_off330 v t = ![8 * t.val, 0]) (B := 33) (by decide +kernel) v hv t
theorem off331 (r v : BitVec 32) (hr : r.toNat < 33) (hv : v.toNat < 33) (hs : r.toNat + v.toNat ≤ 32) (t : Fin (k0_t11_loop v).trips) :
    k0_off331 r v t = ![r.toNat + t.val, 0] :=
  word_cases (P := fun r => ∀ t : Fin (k0_t11_loop v).trips, r.toNat + v.toNat ≤ 32 → k0_off331 r v t = ![r.toNat + t.val, 0])
    (word_cases (P := fun v => ∀ r : Fin 33, ∀ t : Fin (k0_t11_loop v).trips, (BitVec.ofNat 32 r).toNat + v.toNat ≤ 32 → k0_off331 (BitVec.ofNat 32 r) v t = ![(BitVec.ofNat 32 r).toNat + t.val, 0])
      (B := 33) (by decide +kernel) v hv) r hr t hs

/-- A block's windows lie in their buffers. -/
theorem inbW (nt : ℕ) (hn : nt ≤ 16) (v56 b : BitVec 32) (j c : ℕ) (hj : j < 12) (hc : c < 7) (h56 : v56.toNat ≤ 32) (hb : b.toNat ≤ 2)
    (hrow : 128 * b.toNat + 8 * nt ≤ 256) : (Mxfp8.offsW v56 b (Scf.iv 0#32 1#32 c)
      (Scalar.remsi (Scalar.addi (Scalar.muli (Scf.iv 0#32 1#32 j) 7#32) (Scf.iv 0#32 1#32 c)) 10#32)).Inb nt where
  X t k ht hk := inb2 (x_row v56 b t h56 hb (by omega)) (x_col c k hc hk)
  S n hn := inb3 (slot_le j c hj hc) (le_refl 32) (by show 256 * n + 256 ≤ 2048; omega)
  W n k hn hk := inb3 (slot_le j c hj hc) (by show 256 * k + 256 ≤ 1024; omega) (by show 256 * n + 256 ≤ 2048; omega)
  A n hn := inb2 (by
      show (Scalar.indexCast (Scalar.muli (Scalar.muli b 16#32) 8#32)).toNat + 8 * nt ≤ 256
      rw [row_toNat b (by omega)]; exact hrow) (by show 256 * n + 256 ≤ 2048; omega)

end Cert.Kernel
-- ==== Proof.ChkDma.lean ====
module

public import proofs.«01_k».proof.Proof.Words

@[expose] public section

set_option maxRecDepth 16384

namespace Cert.Kernel

open Idealize.ShloMosaic

theorem chk3 (v e : BitVec 32) (hv : v.toNat < 13) (he : e.toNat < 12) (t : Fin (k0_t2_loop v).trips) : k0_chk3 v t e :=
  word_cases (P := fun e => ∀ t : Fin (k0_t2_loop v).trips, k0_chk3 v t e)
    (word_cases (P := fun v => ∀ e : Fin 12, ∀ t : Fin (k0_t2_loop v).trips, k0_chk3 v t (BitVec.ofNat 32 e)) (B := 13) (by decide +kernel) v hv) e he t

theorem chk7 (v e : BitVec 32) (hv : v.toNat < 13) (he : e.toNat < 12) (t : Fin (k0_t5_loop v).trips) (u : Fin k0_t8_loop.trips) : k0_chk7 v t u e :=
  word_cases (P := fun e => ∀ (t : Fin (k0_t5_loop v).trips) (u : Fin k0_t8_loop.trips), k0_chk7 v t u e)
    (word_cases (P := fun v => ∀ e : Fin 12, ∀ (t : Fin (k0_t5_loop v).trips) (u : Fin k0_t8_loop.trips), k0_chk7 v t u (BitVec.ofNat 32 e))
      (B := 13) (by decide +kernel) v hv) e he t u

theorem chk8 (v e : BitVec 32) (hv : v.toNat < 13) (he : e.toNat < 12) (t : Fin (k0_t5_loop v).trips) (u : Fin k0_t8_loop.trips) : k0_chk8 v t u e :=
  word_cases (P := fun e => ∀ (t : Fin (k0_t5_loop v).trips) (u : Fin k0_t8_loop.trips), k0_chk8 v t u e)
    (word_cases (P := fun v => ∀ e : Fin 12, ∀ (t : Fin (k0_t5_loop v).trips) (u : Fin k0_t8_loop.trips), k0_chk8 v t u (BitVec.ofNat 32 e))
      (B := 13) (by decide +kernel) v hv) e he t u

end Cert.Kernel
-- ==== Proof.Loops1.lean ====
/- The loops that clear an accumulator and that write an expert's tokens, trip by trip. -/
module

public import proofs.«01_k».proof.Proof.Spec
public import proofs.«01_k».proof.Proof.Cast
public import proofs.«01_k».proof.Proof.OffEq
public import proofs.«01_k».proof.Proof.ChkDma

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- No variants: no loop here is unbounded. -/
abbrev 𝒱₀ : Variants := Variants.none

theorem window_congr {α : Type} {n : ℕ} {dims : Fin n → ℕ} (x : (⟨n, dims⟩ : Shape).Idx → α) {off off' : Fin n → ℕ} (size : Fin n → ℕ) (h : off = off')
    (i : ∀ a, off a + size a ≤ dims a) (i' : ∀ a, off' a + size a ≤ dims a) :
    window (s := ⟨n, dims⟩) x off size i = window (s := ⟨n, dims⟩) x off' size i' := by
  subst h; rfl

/-- One trip of the clearing loop. -/
theorem wp_t6 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_t5 : Fin (k0_t5_loop v1_0).trips) (v56 v58 : BitVec 32) (hv : v58.toNat < 33)
    (k0_hw6 : k0_chk6 v1_0 k0_t5 v56 v58) (t : Fin (k0_t6_loop v58).trips) (x : BitVec 32) (P : Parts F) (hP : P.zero = k0_pay2 (F := F)) (A : Acc F) :
    ((arg11.view.loc (c : Thread nD τ) ↦[arg11.view.set]{fullShare} arg11.view.rep (clearVal P t A)) : sProp (MT nD τ sig Unit (Elt F) ℕ (Pipeline.UD sig nD τ) ℕ))
      ⊢ wp frame (wpE (defs₀ (F := F)) 𝒱₀ (c : Thread nD τ) none) Set.univ (k0_t6_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 k0_hw6 t x)
        fun _ => (arg11.view.loc (c : Thread nD τ) ↦[arg11.view.set]{fullShare} arg11.view.rep (clearVal P (t.val + 1) A)) := by
  unfold k0_t6_body
  rw [show clearVal P (t.val + 1) A = put (clearVal P t A) (k0_off20 v58 t) S8x2048.size (k0_pay2 (F := F)) by
    rw [off20 v58 hv t, ← hP]; rfl]
  iintro H
  iapply (wp_ld (defs := defs₀ (F := F)) 𝒱₀ (c : Thread nD τ) none Set.univ (m := arg11) (View.setOn_subset_set _ _)) $$ H
  iintro H
  iapply (wp_st (defs := defs₀ (F := F)) 𝒱₀ (c : Thread nD τ) none Set.univ (m := arg11)) $$ H
  iintro H
  try simp only [prog_ret_bind, prog_pure]
  rw [wp_ret]
  imodintro
  iexact H

/-- One trip of the loop over an expert's tokens. -/
theorem wp_t11 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_t5 : Fin (k0_t5_loop v1_0).trips) (v56 v58 : BitVec 32) (h56 : v56.toNat < 33) (hv : v58.toNat < 33)
    (hs : v56.toNat + v58.toNat ≤ 32)
    (k0_hw6 : k0_chk6 v1_0 k0_t5 v56 v58) (t : Fin (k0_t11_loop v58).trips) (x : BitVec 32) (P : Parts F) (hP : P.sum = k0_pay8 (F := F)) (A : Acc F) (O : Out F) :
    iprop((arg11.view.loc (c : Thread nD τ) ↦[arg11.view.set]{fullShare} arg11.view.rep A) ∗ (arg12.view.loc (c : Thread nD τ) ↦[arg12.view.set]{fullShare} arg12.view.rep (emitVal P v56.toNat A t O)) : sProp (MT nD τ sig Unit (Elt F) ℕ (Pipeline.UD sig nD τ) ℕ))
      ⊢ wp frame (wpE (defs₀ (F := F)) 𝒱₀ (c : Thread nD τ) none) Set.univ (k0_t11_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 k0_hw6 t x)
        fun _ => iprop((arg11.view.loc (c : Thread nD τ) ↦[arg11.view.set]{fullShare} arg11.view.rep A) ∗ (arg12.view.loc (c : Thread nD τ) ↦[arg12.view.set]{fullShare} arg12.view.rep (emitVal P v56.toNat A (t.val + 1) O))) := by
  have ht : t.val < 32 := by have := t.2.trans_eq (trips11 v58 hv); omega
  have e1 := off330 v58 hv t
  have e2 := off331 v56 v58 h56 hv hs t
  have e3 : emitVal P v56.toNat A (t.val + 1) O = put (emitVal P v56.toNat A t O) (k0_off331 v56 v58 t) S1x2048.size
      (k0_pay8 (F := F) (window A (k0_off330 v58 t) S8x2048.size (k0_off330_inb v1_0 k0_t5 v56 v58 k0_hw6 t))) := by
    rw [e2, ← hP]
    have e4 : accRow P A t = window A (k0_off330 v58 t) S8x2048.size (k0_off330_inb v1_0 k0_t5 v56 v58 k0_hw6 t) := by
      unfold accRow
      rw [dif_pos (show ∀ a, (![8 * t.val, 0] : Fin 2 → ℕ) a + S8x2048.size a ≤ S256x2048.size a by
        intro a
        match a with
        | ⟨0, _⟩ => show 8 * t.val + 8 ≤ 256; omega
        | ⟨1, _⟩ => show 0 + 2048 ≤ 2048; omega)]
      exact window_congr A _ e1.symm _ _
    rw [← e4]
    rfl
  rw [e3]
  unfold k0_t11_body
  iintro ⟨H, H2⟩
  iapply (wp_ld (defs := defs₀ (F := F)) 𝒱₀ (c : Thread nD τ) none Set.univ (m := arg11) (View.setOn_subset_set _ _)) $$ H
  iintro H
  iapply (wp_ld (defs := defs₀ (F := F)) 𝒱₀ (c : Thread nD τ) none Set.univ (m := arg12) (View.setOn_subset_set _ _)) $$ H2
  iintro H2
  iapply (wp_st (defs := defs₀ (F := F)) 𝒱₀ (c : Thread nD τ) none Set.univ (m := arg12)) $$ H2
  iintro H2
  try simp only [prog_ret_bind, prog_pure]
  rw [wp_ret]
  imodintro
  isplitl [H] <;> iassumption

end Cert.Kernel.Gen
-- ==== Proof.Slots.lean ====
/- The two rings of ten slots: what a slot holds when it is free and when its transfers are in flight. -/
module

public import proofs.«01_k».proof.Proof.Spec
public import Idealize.ShloMosaic.Lib.Ring
public import Idealize.ShloMosaic.Lib.Ring.Window

@[expose] public section

set_option maxRecDepth 16384

noncomputable section

namespace Mxfp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers

section Load

variable {nD : ℕ} {τ : Topo} {sig : RefSig} {Ix : Type} [DecidableEq Ix] {Val : EltTy → Type} {Name : Type} [DecidableEq Name]
variable {U : Type} [URA U] {Lvl : Type} [Preorder Lvl] {Λ : Labels} [∀ e, Nonempty (Val e)]
variable {defs : Defs nD τ sig Val Λ} (𝒱 : Variants) (c : Thread nD τ) (bd : Option 𝒱.V) {Γ : PendingWaitsCtx sig Ix} (E : Set Name)
variable {α : Type} {Q : α → sProp (MT nD τ sig Ix Val Name U Lvl)}

/-- The index of word `n` of a row of `k`. -/
def wix {k n : ℕ} (hn : n < k) : (⟨1, ![k]⟩ : Shape).Idx := fun a => match a with | ⟨0, _⟩ => ⟨n, hn⟩

/-- A load of one word of a row of words. -/
theorem wp_word {k : ℕ} {m : Memref sig c.2.kind .smem (⟨1, ![k]⟩ : Shape) .i32} {off : Fin 1 → ℕ} {n : ℕ} (hn : n < k) (ho : off = ![n])
    {inb : ∀ a, off a + SCell.size a ≤ (⟨1, ![k]⟩ : Shape).size a} {h1 : (Rect.unit (s := (⟨1, ![k]⟩ : Shape)) off SCell.size inb).shape.numel = 1} {hp : EltTy.i32.packing = 1}
    {kk : Val .i32 → Prog (TpuEff nD τ sig Val Λ c.2) α} {q : PosShare TreeShare} {x : (⟨1, ![k]⟩ : Shape).Idx → Val .i32} :
    (m.view.loc c ↦[m.view.set]{q} m.view.rep x : sProp (MT nD τ sig Ix Val Name U Lvl))
      ⊢ iprop(((m.view.loc c ↦[m.view.set]{q} m.view.rep x) -∗ wp frame (wpE' defs 𝒱 c bd Γ) E (kk (x (wix hn))) Q)
        -∗ wp frame (wpE' defs 𝒱 c bd Γ) E ((smemLoad m (Rect.unit (s := (⟨1, ![k]⟩ : Shape)) off SCell.size inb) h1 hp).bind kk) Q) := by
  subst ho
  have h := wp_ld (defs := defs) 𝒱 c bd (Γ := Γ) E (Q := Q) (m := m) (inb := inb) (hl := View.loadsAt_rect (View.loads_smem_one hp h1))
    (k := fun f => kk (f (Shape.Idx.first (h1.symm ▸ Nat.one_pos)))) (q := q) (x := x) (View.setOn_subset_set _ _)
  have e : window x ![n] SCell.size inb (Shape.Idx.first (s := SCell) (h1.symm ▸ Nat.one_pos)) = x (wix hn) := by
    generalize (Shape.Idx.first (s := SCell) (h1.symm ▸ Nat.one_pos)) = z
    show x _ = x _
    congr 1
    funext a
    match a with
    | ⟨0, _⟩ =>
      refine Fin.ext ?_
      have h2 : (z 0).val < 1 := (z 0).isLt
      show n + 1 * (z 0).val = n
      omega
  rw [← e]
  exact h

end Load

section Slot

variable {nD : ℕ} {τ : Topo} {sig : RefSig} {Ix : Type} [DecidableEq Ix] {Val : EltTy → Type} {Name : Type} [DecidableEq Name] [Infinite Name]
variable {U : Type} [URA U] {Lvl : Type} [Preorder Lvl] {Λ : Labels} [∀ e, Nonempty (Val e)]
variable (EC : UEmb Counters (MT nD τ sig Ix Val Name U Lvl)) [EC.LandsIn (upEmb : UEmb _ (MT nD τ sig Ix Val Name U Lvl))]
variable (c : Thread nD τ)
variable (wb : Memref sig c.2.kind .vmem (SRing 1024) .fp8e4m3) (sb : Memref sig c.2.kind .vmem (SRing 32) .i8)
variable (w : Memref sig c.2.kind .hbm (SArr 7168) .fp8e4m3) (s : Memref sig c.2.kind .hbm (SArr 224) .i8)
variable (ws ss : DmaSems sig SCells)
variable (Wv : (SArr 7168).Idx → Val .fp8e4m3) (Sv : (SArr 224).Idx → Val .i8) (ι : Ix) (Nw Ns : ℕ) (act : ℕ → Fin 12)

/-- The share of the two arrays that slot `n` reads. -/
abbrev slotShare (n : Fin 10) : PosShare TreeShare := shareTokN fullShare n.val

/-- The chunk of the `u`th transfer. -/
def chOf (u : ℕ) : Fin 7 := ⟨u % 7, Nat.mod_lt _ (by decide)⟩

/-- A free slot but for its contents: its cells at zero, its shares of the arrays. -/
def SlotIdle (n : Fin 10) : sProp (MT nD τ sig Ix Val Name U Lvl) :=
  iprop((w.view.loc c ↦[w.view.set]{slotShare n} w.view.rep Wv) ∗ (s.view.loc c ↦[s.view.set]{slotShare n} s.view.rep Sv)
    ∗ semVal (c, .dma (ws.ix (cellIx n))) 0 ∗ semVal (c, .dma (ss.ix (cellIx n))) 0)

/-- A slot: free, or with its `u`th transfers in flight. -/
def SlotSt (n : Fin 10) (o : Option ℕ) : sProp (MT nD τ sig Ix Val Name U Lvl) :=
  match o with
  | none => iprop((∃ f, wb.view.loc c ↦[slotSet c wb n.val n.isLt]{fullShare} f) ∗ (∃ f, sb.view.loc c ↦[slotSet c sb n.val n.isLt]{fullShare} f)
      ∗ SlotIdle c w s ws ss Wv Sv n)
  | some u => iprop(Fly EC c (R := 1024) (T := 7168) rfl wb w ws Wv (slotShare n) ι Nw n (act (u / 7)) (chOf u)
      ∗ Fly EC c (R := 32) (T := 224) rfl sb s ss Sv (slotShare n) ι Ns n (act (u / 7)) (chOf u))

theorem slotSt_none (n : Fin 10) : SlotSt EC c wb sb w s ws ss Wv Sv ι Nw Ns act n none
    = iprop((∃ f, wb.view.loc c ↦[slotSet c wb n.val n.isLt]{fullShare} f) ∗ (∃ f, sb.view.loc c ↦[slotSet c sb n.val n.isLt]{fullShare} f)
      ∗ SlotIdle c w s ws ss Wv Sv n) := rfl

theorem slotSt_some (n : Fin 10) (u : ℕ) : SlotSt EC c wb sb w s ws ss Wv Sv ι Nw Ns act n (some u)
    = iprop(Fly EC c (R := 1024) (T := 7168) rfl wb w ws Wv (slotShare n) ι Nw n (act (u / 7)) (chOf u)
      ∗ Fly EC c (R := 32) (T := 224) rfl sb s ss Sv (slotShare n) ι Ns n (act (u / 7)) (chOf u)) := rfl

/-- The rings with the transfers from the `lo`th up to the `hi`th in flight. -/
def RingSt (lo hi : ℕ) : sProp (MT nD τ sig Ix Val Name U Lvl) :=
  Ring.AtW (SlotSt EC c wb sb w s ws ss Wv Sv ι Nw Ns act) (Ring.inWin lo hi 10)

end Slot

/-- The window of a slot's buffer lies in the slot. -/
theorem win_slot {nD : ℕ} {τ : Topo} {sig : RefSig} (c : Thread nD τ) {sp : Space} {et : EltTy} {R : ℕ} (m : Memref sig c.2.kind sp (SRing R) et)
    (n : ℕ) (hn : n < 10) {off size : Fin 3 → ℕ} (h0 : off 0 = n) (hs : size 0 = 1) (inb : ∀ a, off a + size a ≤ (SRing R).size a) :
    m.view.setOn (Rect.unit (s := SRing R) off size inb).toLoadRect.set ⊆ slotSet c m n hn := by
  have e : slotSet c m n hn = (Rect.unit (s := SRing R) ![n, 0, 0] (SOne R).size (slot_inb hn)).set.map m.view.emb := View.set_slice m.view _
  rw [e]
  refine Finset.map_subset_map.mpr fun x hx => ?_
  have hx' := Rect.mem_set_unit.mp hx
  refine Rect.mem_set_unit.mpr fun a => ?_
  have h1 := hx' a
  have h2 := inb a
  match a with
  | ⟨0, _⟩ =>
    have h3 : off 0 ≤ (x 0).val ∧ (x 0).val < off 0 + size 0 := hx' 0
    show n ≤ (x 0).val ∧ (x 0).val < n + 1
    omega
  | ⟨1, _⟩ => exact ⟨Nat.zero_le _, by have := (x 1).isLt; show (x 1).val < 0 + R; have h4 : (x 1).val < R := this; omega⟩
  | ⟨2, _⟩ => exact ⟨Nat.zero_le _, by have := (x 2).isLt; show (x 2).val < 0 + 2048; have h4 : (x 2).val < 2048 := this; omega⟩

end Mxfp8
-- ==== Proof.Loops2.lean ====
/- A chunk's blocks, in the slot that holds its weights and scales. -/
module

public import proofs.«01_k».proof.Proof.Loops1
public import proofs.«01_k».proof.Proof.Slots

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- What the kernel is made of besides its loops, of the mask it prepares. -/
def kParts (mask : IVec S8x256 1) : Parts F where
  d2 := dot_S16x256_S256x256_S16x256_1_0_0_1_n_n
  d4 := dot_S32x256_S256x256_S32x256_1_0_0_1_n_n
  d8 := dot_S64x256_S256x256_S64x256_1_0_0_1_n_n
  d16 := dot_S128x256_S256x256_S128x256_1_0_0_1_n_n
  mask := mask
  zero := k0_pay2 (F := F)
  sum := k0_pay8 (F := F)

section Work

variable (c : Dev nD) (xs : Memref sig .tc .vmem Mxfp8.S32x7168 .f32) (wb : Memref sig .tc .vmem Mxfp8.S10x1024x2048 .fp8e4m3) (sb : Memref sig .tc .vmem Mxfp8.S10x32x2048 .i8)
  (acc : Memref sig .tc .vmem Mxfp8.S256x2048 .f32) (q : PosShare TreeShare) (m : ℕ) (hm : m < 10)
  (X : Mxfp8.S32x7168.Idx → Elt F .f32) (W : Mxfp8.S10x1024x2048.Idx → Elt F .fp8e4m3) (S : Mxfp8.S10x32x2048.Idx → Elt F .i8)

/-- A chunk's work: the activations, the slot's weights and scales, and the accumulator. -/
def Work (A : Acc F) : sProp (MT nD τ sig Unit (Elt F) ℕ (Pipeline.UD sig nD τ) ℕ) :=
  iprop((xs.view.loc (c : Thread nD τ) ↦[xs.view.set]{q} xs.view.rep X)
        ∗ (wb.view.loc (c : Thread nD τ) ↦[slotSet (c : Thread nD τ) wb m hm]{fullShare} wb.view.rep W)
        ∗ (sb.view.loc (c : Thread nD τ) ↦[slotSet (c : Thread nD τ) sb m hm]{fullShare} sb.view.rep S)
        ∗ (acc.view.loc (c : Thread nD τ) ↦[acc.view.set]{fullShare} acc.view.rep A) : sProp (MT nD τ sig Unit (Elt F) ℕ (Pipeline.UD sig nD τ) ℕ))

/-- A block, in a slot. -/
theorem wp_work {nt : ℕ} (h2 : 2 ≤ nt) (d : DotDims (SRow nt) Mxfp8.S256x256 (SRow nt)) (mask : IVec Mxfp8.S8x256 1) {v b cc sl : BitVec 32}
    (I : (offsW v b cc sl).Inb nt) (hsl : (Scalar.indexCast sl).toNat = m) (A : Acc F) {Q : PUnit → sProp (MT nD τ sig Unit (Elt F) ℕ (Pipeline.UD sig nD τ) ℕ)} :
    Work c xs wb sb acc q m hm X W S A
      ⊢ iprop((Work c xs wb sb acc q m hm X W S (stepVal X h2 d mask (offsW v b cc sl) W S A) -∗ Q ⟨⟩)
        -∗ wp frame (wpE (defs₀ (F := F)) 𝒱₀ (c : Thread nD τ) none) Set.univ (Mxfp8.block nD τ Λ₀ (Mxfp8.sides (F := F) h2) d I mask wb sb xs acc) Q) := by
  rw [stepVal_eq X h2 d mask I W S A]
  unfold Work
  exact wp_block (Mxfp8.sides h2) d I mask 𝒱₀ c none Set.univ xs wb sb acc X W S
    (fun n k hn hk => win_slot (c : Thread nD τ) wb m hm (show (Scalar.indexCast sl).toNat = m from hsl) rfl (I.W n k hn hk))
    (fun n hn => win_slot (c : Thread nD τ) sb m hm (show (Scalar.indexCast sl).toNat = m from hsl) rfl (I.S n hn)) A

/-- The last tile before what follows it. -/
theorem wp_tail_jp (P : Parts F) {nt : ℕ} (h2 : 2 ≤ nt) (d : DotDims (SRow nt) Mxfp8.S256x256 (SRow nt)) {v56 v58 : BitVec 32} {j cc lo hi : ℕ}
    {cnd : Prop} [Decidable cnd] (hc : cnd ↔ (lo < v58.toNat % 16 ∧ v58.toNat % 16 ≤ hi))
    (I : cnd → (offsW v56 (Scalar.divsi v58 16#32) (ivW cc) (slW j cc)).Inb nt) (hsl : (Scalar.indexCast (slW j cc)).toNat = m) (A : Acc F)
    {β : Type} {J : PUnit → Prog (TpuEff nD τ sig (Elt F) Λ₀ .tc) β} {Q : β → sProp (MT nD τ sig Unit (Elt F) ℕ (Pipeline.UD sig nD τ) ℕ)} :
    Work c xs wb sb acc q m hm X W S A
      ⊢ iprop((Work c xs wb sb acc q m hm X W S (tailVal P X v56 v58 j cc W S h2 d lo hi A) -∗ wp frame (wpE (defs₀ (F := F)) 𝒱₀ (c : Thread nD τ) none) Set.univ (J ⟨⟩) Q)
        -∗ wp frame (wpE (defs₀ (F := F)) 𝒱₀ (c : Thread nD τ) none) Set.univ (if h : cnd then (Mxfp8.block nD τ Λ₀ (Mxfp8.sides (F := F) h2) d (I h) P.mask wb sb xs acc >>= J) else J ⟨⟩) Q) := by
  unfold tailVal
  by_cases h : cnd
  · rw [dif_pos h, if_pos (hc.1 h), wp_bind]
    exact wp_work c xs wb sb acc q m hm X W S h2 d P.mask (I h) hsl A (Q := fun a => wp frame (wpE (defs₀ (F := F)) 𝒱₀ (c : Thread nD τ) none) Set.univ (J a) Q)
  · rw [dif_neg h, if_neg (fun h' => h (hc.2 h'))]
    iintro H K
    iapply K; iexact H

end Work

end Cert.Kernel.Gen
-- ==== Proof.Loops3.lean ====
/- One trip of the chunk loop: wait, multiply, and start the next transfer. -/
module

public import proofs.«01_k».proof.Proof.Loops2
public import Idealize.ShloMosaic.Lib.Pipeline.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The units of a chunk of weights, and of a chunk of scales. -/
abbrev nW (arg7 : Memref sig .tc .vmem S10x1024x2048 .fp8e4m3) : ℕ := sig.dmaCredit .tc (Kind.tc.table .vmem) arg7.view.buf S1024x2048 .fp8e4m3
abbrev nS (arg8 : Memref sig .tc .vmem S10x32x2048 .i8) : ℕ := sig.dmaCredit .tc (Kind.tc.table .vmem) arg8.view.buf S32x2048 .i8

/-- The rings' state with the transfers from the `lo`th to the `hi`th in flight. -/
abbrev KRing (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo hi : ℕ) : sProp (MT nD τ sig Unit (Elt F) ℕ (Pipeline.UD sig nD τ) ℕ) :=
  RingSt (countersEmb (U := Pipeline.UD sig nD τ)) (c : Thread nD τ) arg7 arg8 arg2 arg3 arg13 arg14 Wv Sv () (nW arg7) (nS arg8) act lo hi

/-- What the chunk loop holds after `k` chunks of the `j`th expert. -/
def Inv8 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (n : ℕ) (mask : IVec S8x256 1) (X : Mxfp8.S32x7168.Idx → Elt F .f32) (Wv : (SArr 7168).Idx → Elt F .fp8e4m3) (Sv : (SArr 224).Idx → Elt F .i8)
    (act : ℕ → Fin 12) (A5 : S13.Idx → Elt F .i32) (v56 v58 : BitVec 32) (j : ℕ) (A : Acc F) (k : ℕ) : sProp (MT nD τ sig Unit (Elt F) ℕ (Pipeline.UD sig nD τ) ℕ) :=
  iprop((arg5.view.loc (c : Thread nD τ) ↦[arg5.view.set]{fullShare} arg5.view.rep A5) ∗ (arg10.view.loc (c : Thread nD τ) ↦[arg10.view.set]{fullShare} arg10.view.rep X) ∗ (arg11.view.loc (c : Thread nD τ) ↦[arg11.view.set]{fullShare} arg11.view.rep (chunksVal (kParts mask) X Wv Sv (act j) v56 v58 j k A))
    ∗ KRing c arg2 arg3 arg7 arg8 arg13 arg14 Wv Sv act (7 * j + k) (min (7 * j + k + 10) (7 * n)) ∗ ∃ W, owes (c : Thread nD τ) 0 W)

/-- One trip of the chunk loop. -/
theorem wp_t8 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (hv1 : v1_0.toNat < 13) (k0_hw2 : k0_chk2 v1_0) (v16 v17 : IVec S8x256 32) (c32_i32 : BitVec 32) (v19 v26 : IVec S8x256 32) (v28 : BitVec 32) (v29 : BitVec 1)
    (k0_t5 : Fin (k0_t5_loop v1_0).trips) (v56 v58 : BitVec 32) (h56 : v56.toNat ≤ 32) (h58 : v58.toNat < 33) (hs : v56.toNat + v58.toNat ≤ 32)
    (k0_hw6 : k0_chk6 v1_0 k0_t5 v56 v58) (k0_t8 : Fin k0_t8_loop.trips) (x : BitVec 32)
    (X : Mxfp8.S32x7168.Idx → Elt F .f32) (Wv : (SArr 7168).Idx → Elt F .fp8e4m3) (Sv : (SArr 224).Idx → Elt F .i8)
    (act : ℕ → Fin 12) (A5 : S13.Idx → Elt F .i32)
    (hA5 : ∀ (j : ℕ) (hj : j < 13), j < v1_0.toNat → A5 (wix hj) = BitVec.ofNat 32 (act j).val) (A : Acc F) :
    Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A k0_t8
      ⊢ wp frame (wpE (defs₀ (F := F)) 𝒱₀ (c : Thread nD τ) none) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 (Scf.iv 0#32 1#32 k0_t5) v56 v58 k0_hw6
          (Scalar.divsi v58 16#32) (Scalar.subi v58 (Scalar.muli (Scalar.divsi v58 16#32) 16#32)) k0_t8 x)
        fun _ => Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A (k0_t8.val + 1) := by
  have ht5 : k0_t5.val < v1_0.toNat := k0_t5.2.trans_eq (trips5 v1_0 hv1)
  have ht8 : k0_t8.val < 7 := t8_lt k0_t8
  have hq := tiles_toNat v58 h58
  have hb : (Scalar.divsi v58 16#32).toNat ≤ 2 := by omega
  generalize hu : 7 * k0_t5.val + k0_t8.val = u
  have hu7 : u / 7 = k0_t5.val := by omega
  have hum : u % 7 = k0_t8.val := by omega
  have hun : u < 7 * v1_0.toNat := by omega
  have hslw : (Scalar.indexCast (slW k0_t5 k0_t8)).toNat = (Ring.sl 10 u).val := by
    rw [Ring.sl_val, ← hu]; exact slotW_toNat k0_t5 k0_t8 (by omega) ht8
  have row : ∀ nt, nt ≤ 16 → 0 < v58.toNat % 16 → 128 * (Scalar.divsi v58 16#32).toNat + 8 * nt ≤ 256 := by intro nt h1 h2; omega
  have I1 : ∀ k0_t8 : Fin k0_t8_loop.trips, k0_cond1 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2 :=
    fun t h => inbW 2 (by omega) v56 _ k0_t5 t (by omega) (t8_lt t) h56 hb (row 2 (by omega) (pos1 h58 h))
  have I2 : ∀ k0_t8 : Fin k0_t8_loop.trips, k0_cond2 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4 :=
    fun t h => inbW 4 (by omega) v56 _ k0_t5 t (by omega) (t8_lt t) h56 hb (row 4 (by omega) (pos2 h58 h))
  have I3 : ∀ k0_t8 : Fin k0_t8_loop.trips, k0_cond3 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8 :=
    fun t h => inbW 8 (by omega) v56 _ k0_t5 t (by omega) (t8_lt t) h56 hb (row 8 (by omega) (pos3 h58 h))
  have I4 : ∀ k0_t8 : Fin k0_t8_loop.trips, k0_cond4 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16 :=
    fun t h => inbW 16 (by omega) v56 _ k0_t5 t (by omega) (t8_lt t) h56 hb (row 16 (by omega) (pos4 h58 h))
  obtain ⟨K, hE, hK⟩ := t8_eq (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 v56 v58 k0_hw6 I1 I2 I3 I4 k0_t8 x
  rw [hE, show ∀ p : Prog (TpuEff nD τ sig (Elt F) Λ₀ .tc) _, Prog.bind p K = p >>= K from fun _ => rfl, wp_bind, k0_part133_eq_skeleton]
  unfold Inv8
  rw [hu]
  have hst : Ring.inWin u (min (u + 10) (7 * v1_0.toNat)) 10 (Ring.sl 10 u) = some u := Ring.inWin_lo (by omega) (by omega)
  have hWA : A5 (wix (by omega : k0_t5.val < 13)) = BitVec.ofNat 32 (act k0_t5).val := hA5 _ _ ht5
  have he : (BitVec.ofNat 32 (act k0_t5).val).toNat < 12 := by
    rw [BitVec.toNat_ofNat, Nat.mod_eq_of_lt (by have := (act k0_t5).isLt; omega)]; exact (act k0_t5).isLt
  unfold KRing RingSt
  rw [Ring.AtW_focus _ _ (Ring.sl 10 u), hst, slotSt_some]
  iintro ⟨H5, H10, H11, ⟨Hsl, Hrest⟩, %W, Ho⟩
  unfold k0_part133_skel
  iapply (wp_word (defs := defs₀ (F := F)) 𝒱₀ (c : Thread nD τ) none Set.univ (m := arg5) (by omega : k0_t5.val < 13) (off22 v1_0 hv1 k0_t5 k0_t8)) $$ H5
  iintro H5
  rw [hWA]
  iapply (wp_assume (defs := defs₀ (F := F)) 𝒱₀ (c : Thread nD τ) none Set.univ (chk7 v1_0 _ hv1 he k0_t5 k0_t8))
  have hn : (![(7 * k0_t5.val + k0_t8.val) % 10] : Fin 1 → ℕ) = ![(Ring.sl 10 u).val] := by rw [Ring.sl_val, hu]
  icases Hsl with ⟨Fw, Fs⟩
  iapply (wp_recv (defs := defs₀ (F := F)) countersEmb 𝒱₀ (c : Thread nD τ) none rfl arg7 arg2 arg13 Wv (slotShare (Ring.sl 10 u)) () (nW arg7)
    (congrFun (cell_eq arg13 (Ring.sl 10 u) ((off23 v1_0 hv1 k0_t5 k0_t8).trans hn)) _) rfl) $$ [Fw Ho]
  · isplitl [Fw] <;> iassumption
  iintro ⟨Hw, H2, Hcw, Ho⟩
  iapply (wp_recv (defs := defs₀ (F := F)) countersEmb 𝒱₀ (c : Thread nD τ) none rfl arg8 arg3 arg14 Sv (slotShare (Ring.sl 10 u)) () (nS arg8)
    (congrFun (cell_eq arg14 (Ring.sl 10 u) ((off26 v1_0 hv1 k0_t5 k0_t8).trans hn)) _) rfl) $$ [Fs Ho]
  · isplitl [Fs] <;> iassumption
  iintro ⟨Hs, H3, Hcs, Ho⟩
  have hch : chOf u = (⟨k0_t8.val % 7, Nat.mod_lt _ (by decide)⟩ : Fin 7) := Fin.ext (by show u % 7 = k0_t8.val % 7; omega)
  rw [hu7, hch]
  have hI : ∀ k : Fin (k0_t9_loop v58).trips, (offsW v56 (Scf.iv 0#32 1#32 k) (Scf.iv 0#32 1#32 k0_t8) (Scalar.remsi (Scalar.addi (Scalar.muli (Scf.iv 0#32 1#32 k0_t5) 7#32) (Scf.iv 0#32 1#32 k0_t8)) 10#32)).Inb 16 := by
    intro k
    have hk := t9_lt h58 k
    have hkn := iv_toNat k (by omega)
    exact inbW 16 (by omega) v56 _ k0_t5 k0_t8 (by omega) ht8 h56 (by omega) (by omega)
  generalize hmask : k0_pay1 v16 v17 c32_i32 v19 v26 v28 v29 = mask
  generalize hWc : (fun i => Wv (slabIx 1024 7168 rfl (act k0_t5) (⟨k0_t8.val % 7, Nat.mod_lt _ (by decide)⟩ : Fin 7) i)) = Wc
  generalize hSc : (fun i => Sv (slabIx 32 224 rfl (act k0_t5) (⟨k0_t8.val % 7, Nat.mod_lt _ (by decide)⟩ : Fin 7) i)) = Sc
  generalize hA0 : chunksVal (kParts mask) X Wv Sv (act k0_t5) v56 v58 k0_t5 k0_t8 A = A0
  iapply (Scf.wp_for_bind frame (wpE (defs₀ (F := F)) 𝒱₀ (c : Thread nD τ) none) Set.univ _ _ _ _ _ _
    (fun k _ => Work c arg10 arg7 arg8 arg11 fullShare (Ring.sl 10 u).val (Ring.sl 10 u).isLt X Wc Sc (tilesVal (kParts mask) X v56 k0_t5 k0_t8 Wc Sc k A0)) ?_) $$ [H10 Hw Hs H11]
  · intro k acc
    have h9 := t9_eq (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 mask k0_t5 v56 v58 k0_hw6 k0_t8 k (hI k) acc
    rw [h9, wp_bind]
    iintro H
    iapply (wp_work c arg10 arg7 arg8 arg11 fullShare _ (Ring.sl 10 u).isLt X Wc Sc (nt := 16) (by decide) dot_S128x256_S256x256_S128x256_1_0_0_1_n_n mask (hI k) hslw _) $$ H
    iintro H
    try simp only [prog_ret_bind, prog_pure]
    rw [wp_ret]
    imodintro
    iexact H
  · unfold Work
    isplitl [H10]; · iexact H10
    isplitl [Hw]; · iexact Hw
    isplitl [Hs]; · iexact Hs
    iexact H11
  iintro %_acc HW
  have htr9 : Scf.trips (k0_t9_loop v58).lb (k0_t9_loop v58).ub (k0_t9_loop v58).st = v58.toNat / 16 := trips9 v58 h58
  rw [htr9]
  iapply (Scf.wp_for_bind frame (wpE (defs₀ (F := F)) 𝒱₀ (c : Thread nD τ) none) Set.univ _ _ _ _ _ _
    (fun _ _ => iprop(⌜True⌝)) (fun k _ => (t10_no h58 k).elim)) $$ []
  · ipureintro; trivial
  iintro %_acc2 _
  try simp only [prog_ret_bind, prog_pure]
  rw [wp_ret]
  imodintro
  subst hmask
  rw [hK]
  unfold t8Rest
  iapply (wp_tail_jp c arg10 arg7 arg8 arg11 fullShare _ (Ring.sl 10 u).isLt X Wc Sc (kParts (k0_pay1 v16 v17 c32_i32 v19 v26 v28 v29)) (nt := 2) (by decide)
    dot_S16x256_S256x256_S16x256_1_0_0_1_n_n (cond1_iff v58 h58) (I1 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 4) (by decide)
    dot_S32x256_S256x256_S32x256_1_0_0_1_n_n (cond2_iff v58 h58) (I2 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 8) (by decide)
    dot_S64x256_S256x256_S64x256_1_0_0_1_n_n (cond3_iff v58 h58) (I3 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 16) (by decide)
    dot_S128x256_S256x256_S128x256_1_0_0_1_n_n (show k0_cond4 v58 = 1#1 ↔ (8 < v58.toNat % 16 ∧ v58.toNat % 16 ≤ 16) by
      rw [cond4_iff v58 h58]; omega) (I4 k0_t8) hslw _) $$ HW
  iintro HW
  have hfin : tailVal (kParts (k0_pay1 v16 v17 c32_i32 v19 v26 v28 v29)) X v56 v58 k0_t5 k0_t8 Wc Sc (nt := 16) (by decide) dot_S128x256_S256x256_S128x256_1_0_0_1_n_n 8 16
    (tailVal (kParts (k0_pay1 v16 v17 c32_i32 v19 v26 v28 v29)) X v56 v58 k0_t5 k0_t8 Wc Sc (nt := 8) (by decide) dot_S64x256_S256x256_S64x256_1_0_0_1_n_n 4 8
    (tailVal (kParts (k0_pay1 v16 v17 c32_i32 v19 v26 v28 v29)) X v56 v58 k0_t5 k0_t8 Wc Sc (nt := 4) (by decide) dot_S32x256_S256x256_S32x256_1_0_0_1_n_n 2 4
    (tailVal (kParts (k0_pay1 v16 v17 c32_i32 v19 v26 v28 v29)) X v56 v58 k0_t5 k0_t8 Wc Sc (nt := 2) (by decide) dot_S16x256_S256x256_S16x256_1_0_0_1_n_n 0 2
    (tilesVal (kParts (k0_pay1 v16 v17 c32_i32 v19 v26 v28 v29)) X v56 k0_t5 k0_t8 Wc Sc (v58.toNat / 16) A0)))) = chunksVal (kParts (k0_pay1 v16 v17 c32_i32 v19 v26 v28 v29)) X Wv Sv (act k0_t5) v56 v58 k0_t5 (k0_t8.val + 1) A := by
    subst hWc hSc hA0; rfl
  rw [hfin]
  unfold Work
  icases HW with ⟨H10, Hw, Hs, H11⟩
  rw [show 7 * k0_t5.val + (k0_t8.val + 1) = u + 1 by omega]
  by_cases h5 : k0_cond5 v1_0 k0_t5 k0_t8 = 1#1
  · rw [dif_pos h5]
    have hlt : u + 10 < 7 * v1_0.toNat := by have := (cond5_iff v1_0 hv1 k0_t5 k0_t8).1 h5; omega
    have hW2 : A5 (wix (by omega : (7 * k0_t5.val + k0_t8.val + 10) / 7 < 13)) = BitVec.ofNat 32 (act ((u + 10) / 7)).val := by
      rw [hA5 _ _ (by omega), hu]
    have he2 : (BitVec.ofNat 32 (act ((u + 10) / 7)).val).toNat = (act ((u + 10) / 7)).val := by
      rw [BitVec.toNat_ofNat, Nat.mod_eq_of_lt (by have := (act ((u + 10) / 7)).isLt; omega)]
    have he2' : (BitVec.ofNat 32 (act ((u + 10) / 7)).val).toNat < 12 := by rw [he2]; exact (act ((u + 10) / 7)).isLt
    iapply (wp_word (defs := defs₀ (F := F)) 𝒱₀ (c : Thread nD τ) none Set.univ (m := arg5) (by omega : (7 * k0_t5.val + k0_t8.val + 10) / 7 < 13) (off323 v1_0 hv1 k0_t5 k0_t8)) $$ H5
    iintro H5
    rw [hW2]
    iapply (wp_assume (defs := defs₀ (F := F)) 𝒱₀ (c : Thread nD τ) none Set.univ (chk8 v1_0 _ hv1 he2' k0_t5 k0_t8))
    have hn3 : (![(7 * k0_t5.val + k0_t8.val) % 10, 0, 0] : Fin 3 → ℕ) = ![(Ring.sl 10 u).val, 0, 0] := by rw [Ring.sl_val, hu]
    iapply (wp_send (defs := defs₀ (F := F)) countersEmb 𝒱₀ (c : Thread nD τ) none rfl arg7 arg2 arg13 Wv (slotShare (Ring.sl 10 u)) () (nW arg7)
      (n := Ring.sl 10 u) (e := act ((u + 10) / 7)) (k := chOf (u + 10)) ((off325 v1_0 hv1 k0_t5 k0_t8).trans hn3)
      ((off326 v1_0 _ hv1 he2' k0_t5 k0_t8).trans (by rw [he2, hu]; rfl))
      (congrFun (cell_eq arg13 (Ring.sl 10 u) ((off324 v1_0 hv1 k0_t5 k0_t8).trans hn)) _) rfl (sig.dmaCredit_pos _ _ _ _ _ (by decide)) _) $$ [H2 Hw Hcw]
    · isplitl [H2]; · iexact H2
      isplitl [Hw]; · iexact Hw
      iexact Hcw
    iintro Fw
    iapply (wp_send (defs := defs₀ (F := F)) countersEmb 𝒱₀ (c : Thread nD τ) none rfl arg8 arg3 arg14 Sv (slotShare (Ring.sl 10 u)) () (nS arg8)
      (n := Ring.sl 10 u) (e := act ((u + 10) / 7)) (k := chOf (u + 10)) ((off328 v1_0 hv1 k0_t5 k0_t8).trans hn3)
      ((off329 v1_0 _ hv1 he2' k0_t5 k0_t8).trans (by rw [he2, hu]; rfl))
      (congrFun (cell_eq arg14 (Ring.sl 10 u) ((off327 v1_0 hv1 k0_t5 k0_t8).trans hn)) _) rfl (sig.dmaCredit_pos _ _ _ _ _ (by decide)) _) $$ [H3 Hs Hcs]
    · isplitl [H3]; · iexact H3
      isplitl [Hs]; · iexact Hs
      iexact Hcs
    iintro Fs
    try simp only [prog_ret_bind, prog_pure]
    rw [wp_ret]
    imodintro
    isplitl [H5]; · iexact H5
    isplitl [H10]; · iexact H10
    isplitl [H11]; · iexact H11
    isplitl [Fw Fs Hrest]
    · rw [show min (u + 1 + 10) (7 * v1_0.toNat) = u + 10 + 1 by omega, show min (u + 10) (7 * v1_0.toNat) = u + 10 by omega,
        Ring.inWin_push (lo := u + 1) (hi := u + 10) (by omega) (by omega), Ring.inWin_pop (lo := u) (hi := u + 10) (by omega) (by omega),
        show Ring.sl 10 (u + 10) = Ring.sl 10 u from Fin.ext (by rw [Ring.sl_val, Ring.sl_val]; omega)]
      iapply (Ring.AtW_update _ _ (Ring.sl 10 u) (some (u + 10)))
      rw [Ring.restW_update, slotSt_some]
      isplitl [Fw Fs]
      · isplitl [Fw] <;> iassumption
      · iexact Hrest
    · iexists _; iexact Ho
  · rw [dif_neg h5]
    have hge : 7 * v1_0.toNat ≤ u + 10 := by
      refine Nat.le_of_not_lt fun h => h5 ((cond5_iff v1_0 hv1 k0_t5 k0_t8).2 ?_)
      omega
    try simp only [prog_ret_bind, prog_pure]
    rw [wp_ret]
    imodintro
    isplitl [H5]; · iexact H5
    isplitl [H10]; · iexact H10
    isplitl [H11]; · iexact H11
    isplitl [Hw Hs H2 H3 Hcw Hcs Hrest]
    · rw [show min (u + 1 + 10) (7 * v1_0.toNat) = 7 * v1_0.toNat by omega, show min (u + 10) (7 * v1_0.toNat) = 7 * v1_0.toNat by omega,
        Ring.inWin_pop (by omega) (by omega)]
      iapply (Ring.AtW_update _ _ (Ring.sl 10 u) none)
      rw [slotSt_none]
      unfold SlotIdle
      isplitr [Hrest]
      · isplitl [Hw]; · iexists _; iexact Hw
        isplitl [Hs]; · iexists _; iexact Hs
        isplitl [H2]; · iexact H2
        isplitl [H3]; · iexact H3
        isplitl [Hcw]; · iexact Hcw
        iexact Hcs
      · iexact Hrest
    · iexists _; iexact Ho

end Cert.Kernel.Gen
-- ==== Proof.Loops4.lean ====
/- One trip of the loop over the experts that have tokens. -/
module

public import proofs.«01_k».proof.Proof.Loops3

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The experts that have tokens, as the scratch words list them: the `j`th's number, its first token, the number of its tokens. -/
structure Listed (Sz : S12.Idx → Elt F .i32) (A5 A6 : S13.Idx → Elt F .i32) (n : ℕ) (act : ℕ → Fin 12) (tok sz : ℕ → BitVec 32) : Prop where
  n_lt : n < 13
  a5 : ∀ (j : ℕ) (hj : j < 13), j < n → A5 (wix hj) = BitVec.ofNat 32 (act j).val
  a6 : ∀ (j : ℕ) (hj : j < 13), j < n → A6 (wix hj) = tok j
  size : ∀ j, j < n → Sz (wix (act j).isLt) = sz j
  le : ∀ j, j < n → (tok j).toNat + (sz j).toNat ≤ 32

/-- What the loop over experts holds after `j` of them. -/
def Inv5 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (n : ℕ) (mask : IVec S8x256 1) (Sz : S12.Idx → Elt F .i32) (X : Mxfp8.S32x7168.Idx → Elt F .f32) (Wv : (SArr 7168).Idx → Elt F .fp8e4m3) (Sv : (SArr 224).Idx → Elt F .i8)
    (act : ℕ → Fin 12) (tok sz : ℕ → BitVec 32) (A5 A6 : S13.Idx → Elt F .i32) (s : Acc F × Out F) (j : ℕ) : sProp (MT nD τ sig Unit (Elt F) ℕ (Pipeline.UD sig nD τ) ℕ) :=
  iprop((arg0.view.loc (c : Thread nD τ) ↦[arg0.view.set]{fullShare} arg0.view.rep Sz) ∗ (arg5.view.loc (c : Thread nD τ) ↦[arg5.view.set]{fullShare} arg5.view.rep A5) ∗ (arg6.view.loc (c : Thread nD τ) ↦[arg6.view.set]{fullShare} arg6.view.rep A6) ∗ (arg10.view.loc (c : Thread nD τ) ↦[arg10.view.set]{fullShare} arg10.view.rep X)
    ∗ (arg11.view.loc (c : Thread nD τ) ↦[arg11.view.set]{fullShare} arg11.view.rep (runVal (kParts mask) X Wv Sv act tok sz j s).1) ∗ (arg12.view.loc (c : Thread nD τ) ↦[arg12.view.set]{fullShare} arg12.view.rep (runVal (kParts mask) X Wv Sv act tok sz j s).2)
    ∗ KRing c arg2 arg3 arg7 arg8 arg13 arg14 Wv Sv act (7 * j) (min (7 * j + 10) (7 * n)) ∗ ∃ W, owes (c : Thread nD τ) 0 W)

theorem off19 (v : BitVec 32) : k0_off19 v = ![v.toNat] := rfl

set_option maxHeartbeats 1000000 in
/-- One trip of the loop over experts. -/
theorem wp_t5 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 v17 : IVec S8x256 32) (c32_i32 : BitVec 32) (v19 v26 : IVec S8x256 32) (v28 : BitVec 32) (v29 : BitVec 1)
    (k0_t5 : Fin (k0_t5_loop v1_0).trips) (x : BitVec 32) (Sz : S12.Idx → Elt F .i32)
    (X : Mxfp8.S32x7168.Idx → Elt F .f32) (Wv : (SArr 7168).Idx → Elt F .fp8e4m3) (Sv : (SArr 224).Idx → Elt F .i8)
    (act : ℕ → Fin 12) (tok sz : ℕ → BitVec 32) (A5 A6 : S13.Idx → Elt F .i32) (hL : Listed Sz A5 A6 v1_0.toNat act tok sz) (s : Acc F × Out F) :
    Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) Sz X Wv Sv act tok sz A5 A6 s k0_t5
      ⊢ wp frame (wpE (defs₀ (F := F)) 𝒱₀ (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 x)
        fun _ => Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) Sz X Wv Sv act tok sz A5 A6 s (k0_t5.val + 1) := by
  have hv1 := hL.n_lt
  have ht5 : k0_t5.val < v1_0.toNat := k0_t5.2.trans_eq (trips5 v1_0 hv1)
  have hle := hL.le _ ht5
  have hWA : A5 (wix (by omega : k0_t5.val < 13)) = BitVec.ofNat 32 (act k0_t5).val := hL.a5 _ _ ht5
  have hWB : A6 (wix (by omega : k0_t5.val < 13)) = tok k0_t5 := hL.a6 _ _ ht5
  have hWC : Sz (wix (act k0_t5).isLt) = sz k0_t5 := hL.size _ ht5
  have he' : (BitVec.ofNat 32 (act k0_t5).val).toNat = (act k0_t5).val := by
    rw [BitVec.toNat_ofNat, Nat.mod_eq_of_lt (by have := (act k0_t5).isLt; omega)]
  have he : (BitVec.ofNat 32 (act k0_t5).val).toNat < 12 := by rw [he']; exact (act k0_t5).isLt
  have e1 : (runVal (kParts (k0_pay1 v16 v17 c32_i32 v19 v26 v28 v29)) X Wv Sv act tok sz (k0_t5.val + 1) s).1
    = chunksVal (kParts (k0_pay1 v16 v17 c32_i32 v19 v26 v28 v29)) X Wv Sv (act k0_t5) (tok k0_t5) (sz k0_t5) k0_t5 7
      (clearVal (kParts (k0_pay1 v16 v17 c32_i32 v19 v26 v28 v29)) (((sz k0_t5).toNat + 15) / 16 * 16) (runVal (kParts (k0_pay1 v16 v17 c32_i32 v19 v26 v28 v29)) X Wv Sv act tok sz k0_t5 s).1) := rfl
  have e2 : (runVal (kParts (k0_pay1 v16 v17 c32_i32 v19 v26 v28 v29)) X Wv Sv act tok sz (k0_t5.val + 1) s).2
    = emitVal (kParts (k0_pay1 v16 v17 c32_i32 v19 v26 v28 v29)) (tok k0_t5).toNat (runVal (kParts (k0_pay1 v16 v17 c32_i32 v19 v26 v28 v29)) X Wv Sv act tok sz (k0_t5.val + 1) s).1 (sz k0_t5).toNat
      (runVal (kParts (k0_pay1 v16 v17 c32_i32 v19 v26 v28 v29)) X Wv Sv act tok sz k0_t5 s).2 := rfl
  unfold Inv5 k0_t5_body
  rw [e2, e1]
  generalize hs0 : runVal (kParts (k0_pay1 v16 v17 c32_i32 v19 v26 v28 v29)) X Wv Sv act tok sz k0_t5 s = s0
  generalize hmask : k0_pay1 v16 v17 c32_i32 v19 v26 v28 v29 = mask
  iintro ⟨H0, H5, H6, H10, H11, H12, Hr, Ho⟩
  iapply (wp_word (defs := defs₀ (F := F)) 𝒱₀ (c : Thread nD τ) none Set.univ (m := arg5) (h1 := numel1_S1) (hp := rfl) (by omega : k0_t5.val < 13) (off18 v1_0 hv1 k0_t5)) $$ H5
  iintro H5
  rw [hWA]
  iapply (wp_assume (defs := defs₀ (F := F)) 𝒱₀ (c : Thread nD τ) none Set.univ (chk5 _ he))
  iapply (wp_word (defs := defs₀ (F := F)) 𝒱₀ (c : Thread nD τ) none Set.univ (m := arg6) (h1 := numel1_S1) (hp := rfl) (by omega : k0_t5.val < 13) (off18 v1_0 hv1 k0_t5)) $$ H6
  iintro H6
  rw [hWB]
  iapply (wp_word (defs := defs₀ (F := F)) 𝒱₀ (c : Thread nD τ) none Set.univ (m := arg0) (h1 := numel1_S1) (hp := rfl) (act k0_t5).isLt ((off19 _).trans (by rw [he']))) $$ H0
  iintro H0
  rw [hWC]
  generalize htok : tok k0_t5 = v56
  generalize hsz : sz k0_t5 = v58
  rw [htok, hsz] at hle
  have h56 : v56.toNat ≤ 32 := by omega
  have h58 : v58.toNat < 33 := by omega
  have hw6 := chk6 v1_0 hv1 k0_t5 v56 v58 h56 h58 hle
  iapply (wp_assume (defs := defs₀ (F := F)) 𝒱₀ (c : Thread nD τ) none Set.univ hw6)
  iapply (Scf.wp_for_bind frame (wpE (defs₀ (F := F)) 𝒱₀ (c : Thread nD τ) none) Set.univ _ _ _ _ _ _
    (fun k _ => (arg11.view.loc (c : Thread nD τ) ↦[arg11.view.set]{fullShare} arg11.view.rep (clearVal (kParts mask) k s0.1))) (fun k acc => wp_t6 c arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 h58 hw6 k acc (kParts mask) rfl s0.1)) $$ [H11]
  · iexact H11
  iintro %_acc H11
  have htr6 : Scf.trips (k0_t6_loop v58).lb (k0_t6_loop v58).ub (k0_t6_loop v58).st = (v58.toNat + 15) / 16 * 16 := trips6 v58 h58
  rw [htr6]
  iapply (Scf.wp_for_bind frame (wpE (defs₀ (F := F)) 𝒱₀ (c : Thread nD τ) none) Set.univ _ _ _ _ _ _
    (fun _ _ => iprop(⌜True⌝)) (fun k _ => (t7_no h58 k).elim)) $$ []
  · ipureintro; trivial
  iintro %_acc2 _
  generalize hA1 : clearVal (kParts mask) ((v58.toNat + 15) / 16 * 16) s0.1 = A1
  subst hmask
  iapply (Scf.wp_for_bind frame (wpE (defs₀ (F := F)) 𝒱₀ (c : Thread nD τ) none) Set.univ _ _ _ _ _ _
    (fun k _ => Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A1 k)
    (fun k acc => wp_t8 c arg0 harg0 arg1 harg1 arg2 harg2 arg3 harg3 arg4 harg4 arg5 harg5 arg6 harg6 arg7 harg7 arg8 harg8 arg9 harg9 arg10 harg10 arg11 harg11 arg12 harg12 arg13 arg14 arg15 v1_0 hv1 k0_hw2 v16 v17 c32_i32 v19 v26 v28 v29 k0_t5 v56 v58 h56 h58 hle hw6 k acc X Wv Sv act A5 hL.a5 A1)) $$ [H5 H10 H11 Hr Ho]
  · unfold Inv8
    isplitl [H5]; · iexact H5
    isplitl [H10]; · iexact H10
    isplitl [H11]; · iexact H11
    isplitl [Hr]; · iexact Hr
    iexact Ho
  iintro %_acc3 HI
  have htr8 : Scf.trips k0_t8_loop.lb k0_t8_loop.ub k0_t8_loop.st = 7 := trips8
  rw [htr8]
  unfold Inv8
  icases HI with ⟨H5, H10, H11, Hr, Ho⟩
  generalize hA2 : chunksVal (kParts (k0_pay1 v16 v17 c32_i32 v19 v26 v28 v29)) X Wv Sv (act k0_t5) v56 v58 k0_t5 7 A1 = A2
  iapply (Scf.wp_for_bind frame (wpE (defs₀ (F := F)) 𝒱₀ (c : Thread nD τ) none) Set.univ _ _ _ _ _ _
    (fun k _ => iprop((arg11.view.loc (c : Thread nD τ) ↦[arg11.view.set]{fullShare} arg11.view.rep A2) ∗ (arg12.view.loc (c : Thread nD τ) ↦[arg12.view.set]{fullShare} arg12.view.rep (emitVal (kParts (k0_pay1 v16 v17 c32_i32 v19 v26 v28 v29)) v56.toNat A2 k s0.2))))
    (fun k acc => wp_t11 c arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 (by omega) h58 hle hw6 k acc (kParts (k0_pay1 v16 v17 c32_i32 v19 v26 v28 v29)) rfl A2 s0.2)) $$ [H11 H12]
  · isplitl [H11]; · iexact H11
    iexact H12
  iintro %_acc4 ⟨H11, H12⟩
  have htr11 : Scf.trips (k0_t11_loop v58).lb (k0_t11_loop v58).ub (k0_t11_loop v58).st = v58.toNat := trips11 v58 h58
  rw [htr11]
  iapply (Scf.wp_for_bind frame (wpE (defs₀ (F := F)) 𝒱₀ (c : Thread nD τ) none) Set.univ _ _ _ _ _ _
    (fun _ _ => iprop(⌜True⌝)) (fun k _ => (t12_no h58 k).elim)) $$ []
  · ipureintro; trivial
  iintro %_acc5 _
  try simp only [prog_ret_bind, prog_pure]
  rw [wp_ret]
  imodintro
  isplitl [H0]; · iexact H0
  isplitl [H5]; · iexact H5
  isplitl [H6]; · iexact H6
  isplitl [H10]; · iexact H10
  isplitl [H11]; · iexact H11
  isplitl [H12]; · iexact H12
  isplitl [Hr]; · iexact Hr
  iexact Ho

end Cert.Kernel.Gen
-- ==== Proof.Scan.lean ====
/- The scan of the experts' sizes: which experts have tokens, and where their tokens start. -/
module

public import proofs.«01_k».proof.Proof.Slots

@[expose] public section

set_option maxRecDepth 16384

noncomputable section

namespace Mxfp8

open Idealize.ShloMosaic Idealize.ShloMosaic.TcCoe
open VecWindow (window put)

/-- Twelve words, thirteen words. -/
abbrev S12w : Shape := ⟨1, ![12]⟩
abbrev S13w : Shape := ⟨1, ![13]⟩
abbrev S1w : Shape := ⟨1, ![1]⟩

variable (Sz : S12w.Idx → BitVec 32)

/-- The number of tokens of an expert. -/
def sizeN (e : ℕ) : ℕ := if h : e < 12 then (Sz (wix h)).toNat else 0

/-- The number of the first token of an expert. -/
def startN : ℕ → ℕ
  | 0 => 0
  | e + 1 => startN e + sizeN Sz e

theorem startN_mono {a b : ℕ} (h : a ≤ b) : startN Sz a ≤ startN Sz b := by
  induction h with
  | refl => exact Nat.le_refl _
  | step _ ih => exact ih.trans (Nat.le_add_right _ _)

/-- The sizes are those of at most 32 tokens. -/
def Fits : Prop := startN Sz 12 ≤ 32

variable {Sz}

theorem Fits.start (h : Fits Sz) {e : ℕ} (he : e ≤ 12) : startN Sz e ≤ 32 := (startN_mono Sz he).trans h

theorem Fits.end (h : Fits Sz) {e : ℕ} (he : e < 12) : startN Sz e + sizeN Sz e ≤ 32 := h.start (e := e + 1) he

theorem sizeN_of_lt {e : ℕ} (he : e < 12) : sizeN Sz e = (Sz (wix he)).toNat := dif_pos he

variable (Sz)

/-- What the two rows of words list after the first `k` experts. -/
structure Scan (k : ℕ) (cnt tot : BitVec 32) (A5 A6 : S13w.Idx → BitVec 32) : Prop where
  cnt_le : cnt.toNat ≤ k
  tot_eq : tot.toNat = startN Sz k
  entry : ∀ (j : ℕ) (hj : j < 13), j < cnt.toNat → ∃ e, e < k ∧ A5 (wix hj) = BitVec.ofNat 32 e ∧ A6 (wix hj) = BitVec.ofNat 32 (startN Sz e) ∧ 0 < sizeN Sz e
  found : ∀ e, e < k → 0 < sizeN Sz e → ∃ (j : ℕ) (hj : j < 13), j < cnt.toNat ∧ A5 (wix hj) = BitVec.ofNat 32 e

/-- A word put at its place is read there. -/
theorem put_word_same {α : Type} (x : S13w.Idx → α) {n : ℕ} (hn : n < 13) (w : α) : put x ![n] S1w.size (fun _ => w) (wix hn) = w := by
  unfold put
  rw [dif_pos]
  intro a
  match a with
  | ⟨0, _⟩ => exact ⟨Nat.le_refl n, Nat.lt_succ_self n⟩

/-- A word put at one place leaves the others. -/
theorem put_word_other {α : Type} (x : S13w.Idx → α) {n j : ℕ} (hj : j < 13) (h : j ≠ n) (w : α) : put x ![n] S1w.size (fun _ => w) (wix hj) = x (wix hj) := by
  unfold put
  rw [dif_neg]
  intro hh
  have h0 := hh ⟨0, Nat.zero_lt_one⟩
  have h1 : n ≤ j ∧ j < n + 1 := h0
  omega

theorem count_toNat (v : BitVec 32) (hv : v.toNat < 33) : (Scalar.extui (Scalar.cmpi .sgt v 0#32) : BitVec 32).toNat = if 0 < v.toNat then 1 else 0 := by
  have : ∀ n : Fin 33, (Scalar.extui (Scalar.cmpi .sgt (BitVec.ofNat 32 n) 0#32) : BitVec 32).toNat = if 0 < (BitVec.ofNat 32 n.val).toNat then 1 else 0 := by decide +kernel
  have h := this ⟨v.toNat, hv⟩
  rwa [show BitVec.ofNat 32 ((⟨v.toNat, hv⟩ : Fin 33) : ℕ) = v from BitVec.eq_of_toNat_eq (by simp)] at h

theorem addi_toNat (a b : BitVec 32) (h : a.toNat + b.toNat < 2 ^ 32) : (Scalar.addi a b).toNat = a.toNat + b.toNat := by
  show (a + b).toNat = _
  rw [BitVec.toNat_add, Nat.mod_eq_of_lt h]

/-- One expert more. -/
theorem Scan.step (hf : Fits Sz) {k : ℕ} (hk : k < 12) {cnt tot : BitVec 32} {A5 A6 : S13w.Idx → BitVec 32} (h : Scan Sz k cnt tot A5 A6)
    (iv : BitVec 32) (hiv : iv = BitVec.ofNat 32 k) :
    Scan Sz (k + 1) (Scalar.addi cnt (Scalar.extui (Scalar.cmpi .sgt (Sz (wix hk)) 0#32))) (Scalar.addi tot (Sz (wix hk)))
      (put A5 ![cnt.toNat] S1w.size (fun _ => iv)) (put A6 ![cnt.toNat] S1w.size (fun _ => tot)) := by
  subst hiv
  have hs := sizeN_of_lt (Sz := Sz) hk
  have hend := hf.end hk
  have hc := h.cnt_le
  have htot := h.tot_eq
  have hst : startN Sz (k + 1) = startN Sz k + sizeN Sz k := rfl
  have hcv := count_toNat (Sz (wix hk)) (by omega)
  have hcnt : (Scalar.addi cnt (Scalar.extui (Scalar.cmpi .sgt (Sz (wix hk)) 0#32))).toNat = cnt.toNat + if 0 < sizeN Sz k then 1 else 0 := by
    rw [addi_toNat _ _ (by rw [hcv]; split <;> omega), hcv, hs]
  have htt : tot = BitVec.ofNat 32 (startN Sz k) := by
    rw [← htot]; exact BitVec.eq_of_toNat_eq (by simp)
  refine ⟨?_, ?_, ?_, ?_⟩
  · rw [hcnt]; split <;> omega
  · rw [addi_toNat _ _ (by omega)]; omega
  · intro j hj hjc
    by_cases hjn : j = cnt.toNat
    · subst hjn
      refine ⟨k, Nat.lt_succ_self k, put_word_same A5 hj _, (put_word_same A6 hj _).trans htt, ?_⟩
      rw [hcnt] at hjc
      refine Nat.pos_of_ne_zero fun h0 => ?_
      rw [if_neg (by omega)] at hjc
      omega
    · have hjc' : j < cnt.toNat := by rw [hcnt] at hjc; split at hjc <;> omega
      obtain ⟨e, he, h5, h6, hp⟩ := h.entry j hj hjc'
      exact ⟨e, by omega, (put_word_other A5 hj hjn _).trans h5, (put_word_other A6 hj hjn _).trans h6, hp⟩
  · intro e he hp
    by_cases hek : e = k
    · subst hek
      refine ⟨cnt.toNat, by omega, ?_, put_word_same A5 (by omega) _⟩
      rw [hcnt, if_pos hp]; omega
    · obtain ⟨j, hj, hjc, h5⟩ := h.found e (by omega) hp
      refine ⟨j, hj, ?_, (put_word_other A5 hj (by omega) _).trans h5⟩
      rw [hcnt]; omega

/-- Before the first expert. -/
theorem Scan.init (A5 A6 : S13w.Idx → BitVec 32) : Scan Sz 0 0#32 0#32 A5 A6 :=
  ⟨Nat.le_refl _, rfl, fun _ _ h => absurd h (Nat.not_lt_zero _), fun _ h => absurd h (Nat.not_lt_zero _)⟩

/-- The `j`th listed expert, its first token, the number of its tokens. -/
def actOf (A5 : S13w.Idx → BitVec 32) (j : ℕ) : Fin 12 := if hj : j < 13 then ⟨(A5 (wix hj)).toNat % 12, Nat.mod_lt _ (by decide)⟩ else 0
def tokOf (A6 : S13w.Idx → BitVec 32) (j : ℕ) : BitVec 32 := if hj : j < 13 then A6 (wix hj) else 0
def szOf (A5 : S13w.Idx → BitVec 32) (j : ℕ) : BitVec 32 := Sz (wix (actOf A5 j).isLt)

variable {Sz}

theorem Scan.at (hf : Fits Sz) {cnt tot : BitVec 32} {A5 A6 : S13w.Idx → BitVec 32} (h : Scan Sz 12 cnt tot A5 A6) {j : ℕ} (hj : j < cnt.toNat) :
    ∃ hj' : j < 13, A5 (wix hj') = BitVec.ofNat 32 (actOf A5 j).val ∧ A6 (wix hj') = tokOf A6 j ∧ (tokOf A6 j).toNat = startN Sz (actOf A5 j).val
      ∧ (szOf Sz A5 j).toNat = sizeN Sz (actOf A5 j).val ∧ 0 < sizeN Sz (actOf A5 j).val ∧ (tokOf A6 j).toNat + (szOf Sz A5 j).toNat ≤ 32 := by
  have hc := h.cnt_le
  have hj' : j < 13 := by omega
  obtain ⟨e, he, h5, h6, hp⟩ := h.entry j hj' hj
  have hact : (actOf A5 j).val = e := by
    unfold actOf
    rw [dif_pos hj']
    show (A5 (wix hj')).toNat % 12 = e
    rw [h5, BitVec.toNat_ofNat, Nat.mod_eq_of_lt (by omega : e < 2 ^ 32), Nat.mod_eq_of_lt he]
  have htok : tokOf A6 j = A6 (wix hj') := dif_pos hj'
  have hst := hf.start (e := e) (by omega)
  have htn : (tokOf A6 j).toNat = startN Sz e := by
    rw [htok, h6, BitVec.toNat_ofNat, Nat.mod_eq_of_lt (by omega)]
  have hsz : (szOf Sz A5 j).toNat = sizeN Sz (actOf A5 j).val := (sizeN_of_lt (actOf A5 j).isLt).symm
  have hend := hf.end he
  refine ⟨hj', by rw [hact]; exact h5, htok.symm, by rw [hact]; exact htn, hsz, by rw [hact]; exact hp, ?_⟩
  rw [htn, hsz, hact]; exact hend

/-- Every expert with tokens is listed. -/
theorem Scan.listed (hf : Fits Sz) {cnt tot : BitVec 32} {A5 A6 : S13w.Idx → BitVec 32} (h : Scan Sz 12 cnt tot A5 A6) {e : ℕ} (he : e < 12) (hp : 0 < sizeN Sz e) :
    ∃ j, j < cnt.toNat ∧ (actOf A5 j).val = e := by
  obtain ⟨j, hj, hjc, h5⟩ := h.found e he hp
  refine ⟨j, hjc, ?_⟩
  unfold actOf
  rw [dif_pos hj]
  show (A5 (wix hj)).toNat % 12 = e
  rw [h5, BitVec.toNat_ofNat, Nat.mod_eq_of_lt (by omega : e < 2 ^ 32), Nat.mod_eq_of_lt he]

end Mxfp8
-- ==== Proof.Loops5.lean ====
/- The scan of the experts, the first transfers and the quantiser. -/
module

public import proofs.«01_k».proof.Proof.Loops4
public import proofs.«01_k».proof.Proof.Scan

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

theorem off2 (v : BitVec 32) : k0_off2 v = ![v.toNat] := rfl

/-- What the scan of the experts holds after `k` of them. -/
def Inv1 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (k : ℕ) (acc : BitVec 32 × BitVec 32) : sProp (MT nD τ sig Unit (Elt F) ℕ (Pipeline.UD sig nD τ) ℕ) :=
  iprop(∃ (A5 A6 : S13.Idx → Elt F .i32), ⌜Scan Sz k acc.1 acc.2 A5 A6⌝ ∗ (arg0.view.loc (c : Thread nD τ) ↦[arg0.view.set]{fullShare} arg0.view.rep Sz) ∗ (arg5.view.loc (c : Thread nD τ) ↦[arg5.view.set]{fullShare} arg5.view.rep A5) ∗ (arg6.view.loc (c : Thread nD τ) ↦[arg6.view.set]{fullShare} arg6.view.rep A6))

/-- One expert of the scan. -/
theorem wp_t1 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (hf : Fits Sz) (k0_t1 : Fin k0_t1_loop.trips) (acc : BitVec 32 × BitVec 32) :
    Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz k0_t1 acc
      ⊢ wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 arg14 arg15 k0_t1 acc) fun acc' => Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz (k0_t1.val + 1) acc' := by
  have hk : k0_t1.val < 12 := k0_t1.2.trans_eq trips1
  obtain ⟨a17, a18⟩ := acc
  unfold Inv1 k0_t1_body
  iintro ⟨%A5, %A6, %hS, H0, H5, H6⟩
  have hcl : a17.toNat ≤ k0_t1.val := hS.cnt_le
  have hc : a17.toNat < 13 := by omega
  iapply (wp_assume (defs := defs₀ (F := F)) 𝒱₀ (c : Thread nD τ) none Set.univ (chk1 a17 hc))
  iapply (wp_word (defs := defs₀ (F := F)) 𝒱₀ (c : Thread nD τ) none Set.univ (m := arg0) (h1 := numel1_S1) (hp := rfl) hk (off1 k0_t1)) $$ H0
  iintro H0
  iapply (wp_word (defs := defs₀ (F := F)) 𝒱₀ (c : Thread nD τ) none Set.univ (m := arg5) (h1 := numel1_S1) (hp := rfl) hc (off2 a17)) $$ H5
  iintro H5
  iapply (wp_st (defs := defs₀ (F := F)) 𝒱₀ (c : Thread nD τ) none Set.univ) $$ H5
  iintro H5
  iapply (wp_word (defs := defs₀ (F := F)) 𝒱₀ (c : Thread nD τ) none Set.univ (m := arg6) (h1 := numel1_S1) (hp := rfl) hc (off2 a17)) $$ H6
  iintro H6
  iapply (wp_st (defs := defs₀ (F := F)) 𝒱₀ (c : Thread nD τ) none Set.univ) $$ H6
  iintro H6
  have hiv : Scf.iv 0#32 1#32 k0_t1.val = BitVec.ofNat 32 k0_t1.val := by
    have h := iv_toNat k0_t1.val (by omega)
    refine BitVec.eq_of_toNat_eq ?_
    rw [h, BitVec.toNat_ofNat, Nat.mod_eq_of_lt (by omega)]
  have hS' := hS.step Sz hf hk _ hiv
  try simp only [prog_ret_bind, prog_pure]
  rw [wp_ret]
  imodintro
  iexists _, _
  isplitr
  · ipureintro; exact hS'
  isplitl [H0]; · iexact H0
  isplitl [H5]; · iexact H5
  iexact H6

/-- What the first transfers' loop holds after `k` of them. -/
def Inv2 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Wv : (SArr 7168).Idx → Elt F .fp8e4m3) (Sv : (SArr 224).Idx → Elt F .i8)
    (act : ℕ → Fin 12) (A5 : S13.Idx → Elt F .i32) (k : ℕ) : sProp (MT nD τ sig Unit (Elt F) ℕ (Pipeline.UD sig nD τ) ℕ) :=
  iprop((arg5.view.loc (c : Thread nD τ) ↦[arg5.view.set]{fullShare} arg5.view.rep A5) ∗ KRing c arg2 arg3 arg7 arg8 arg13 arg14 Wv Sv act 0 k)

/-- One of the first transfers. -/
theorem wp_t2 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (hv1 : v1_0.toNat < 13) (k0_hw2 : k0_chk2 v1_0) (k0_t2 : Fin (k0_t2_loop v1_0).trips) (x : BitVec 32)
    (Wv : (SArr 7168).Idx → Elt F .fp8e4m3) (Sv : (SArr 224).Idx → Elt F .i8)
    (act : ℕ → Fin 12) (A5 : S13.Idx → Elt F .i32)
    (hA5 : ∀ (j : ℕ) (hj : j < 13), j < v1_0.toNat → A5 (wix hj) = BitVec.ofNat 32 (act j).val) :
    Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv act A5 k0_t2
      ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 k0_t2 x) fun _ => Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv act A5 (k0_t2.val + 1) := by
  have ht2 : k0_t2.val < min (7 * v1_0.toNat) 10 := k0_t2.2.trans_eq (trips2 v1_0 hv1)
  have hst : Ring.inWin 0 k0_t2.val 10 (Ring.sl 10 k0_t2.val) = none := Ring.inWin_hi (by omega) (by omega)
  have hW2 : A5 (wix (by omega : k0_t2.val / 7 < 13)) = BitVec.ofNat 32 (act (k0_t2.val / 7)).val := hA5 _ _ (by omega)
  have he2 : (BitVec.ofNat 32 (act (k0_t2.val / 7)).val).toNat = (act (k0_t2.val / 7)).val := by
    rw [BitVec.toNat_ofNat, Nat.mod_eq_of_lt (by have := (act (k0_t2.val / 7)).isLt; omega)]
  have he2' : (BitVec.ofNat 32 (act (k0_t2.val / 7)).val).toNat < 12 := by rw [he2]; exact (act (k0_t2.val / 7)).isLt
  unfold Inv2 k0_t2_body KRing RingSt
  rw [Ring.AtW_focus _ _ (Ring.sl 10 k0_t2.val), hst, slotSt_none]
  unfold SlotIdle
  iintro ⟨H5, ⟨⟨%fw, Hw⟩, ⟨%fs, Hs⟩, H2, H3, Hcw, Hcs⟩, Hrest⟩
  iapply (wp_word (defs := defs₀ (F := F)) 𝒱₀ (c : Thread nD τ) none Set.univ (m := arg5) (h1 := numel1_S1) (hp := rfl) (by omega : k0_t2.val / 7 < 13) (off3 v1_0 hv1 k0_t2)) $$ H5
  iintro H5
  rw [hW2]
  iapply (wp_assume (defs := defs₀ (F := F)) 𝒱₀ (c : Thread nD τ) none Set.univ (chk3 v1_0 _ hv1 he2' k0_t2))
  have hn : (![k0_t2.val % 10] : Fin 1 → ℕ) = ![(Ring.sl 10 k0_t2.val).val] := by rw [Ring.sl_val]
  have hn3 : (![k0_t2.val % 10, 0, 0] : Fin 3 → ℕ) = ![(Ring.sl 10 k0_t2.val).val, 0, 0] := by rw [Ring.sl_val]
  iapply (wp_send (defs := defs₀ (F := F)) countersEmb 𝒱₀ (c : Thread nD τ) none rfl arg7 arg2 arg13 Wv (slotShare (Ring.sl 10 k0_t2.val)) () (nW arg7)
    (n := Ring.sl 10 k0_t2.val) (e := act (k0_t2.val / 7)) (k := chOf k0_t2.val) ((off5 v1_0 hv1 k0_t2).trans hn3)
    ((off6 v1_0 _ hv1 he2' k0_t2).trans (by rw [he2]; rfl))
    (congrFun (cell_eq arg13 (Ring.sl 10 k0_t2.val) ((off4 v1_0 hv1 k0_t2).trans hn)) _) rfl (sig.dmaCredit_pos _ _ _ _ _ (by decide)) _) $$ [H2 Hw Hcw]
  · isplitl [H2]; · iexact H2
    isplitl [Hw]; · iexact Hw
    iexact Hcw
  iintro Fw
  iapply (wp_send (defs := defs₀ (F := F)) countersEmb 𝒱₀ (c : Thread nD τ) none rfl arg8 arg3 arg14 Sv (slotShare (Ring.sl 10 k0_t2.val)) () (nS arg8)
    (n := Ring.sl 10 k0_t2.val) (e := act (k0_t2.val / 7)) (k := chOf k0_t2.val) ((off8 v1_0 hv1 k0_t2).trans hn3)
    ((off9 v1_0 _ hv1 he2' k0_t2).trans (by rw [he2]; rfl))
    (congrFun (cell_eq arg14 (Ring.sl 10 k0_t2.val) ((off7 v1_0 hv1 k0_t2).trans hn)) _) rfl (sig.dmaCredit_pos _ _ _ _ _ (by decide)) _) $$ [H3 Hs Hcs]
  · isplitl [H3]; · iexact H3
    isplitl [Hs]; · iexact Hs
    iexact Hcs
  iintro Fs
  try simp only [prog_ret_bind, prog_pure]
  rw [wp_ret]
  imodintro
  isplitl [H5]; · iexact H5
  rw [Ring.inWin_push (lo := 0) (hi := k0_t2.val) (by omega) (by omega)]
  iapply (Ring.AtW_update _ _ (Ring.sl 10 k0_t2.val) (some k0_t2.val))
  rw [slotSt_some]
  isplitl [Fw Fs]
  · isplitl [Fw] <;> iassumption
  · iexact Hrest

/-- What the quantiser puts over a window of columns, of that window of the input. -/
def quantVal (x : S32x256.Idx → Elt F .bf16) : S32x256.Idx → Elt F .f32 :=
  let v59 : IVec S32x256 32 := iota .tc S32x256 32 [1] iota_S32x256_d1_w32
  let v91 := k0_pay20 (F := F) x
  let v92 := k0_pay21 (F := F) x
  let v101 := k0_pay22 v59 v91 v92
  let v129 := k0_pay23 v59 v91 v92
  let v135 := k0_pay24 v59 v91 v92
  k0_pay864 (k0_pay19 x) (k0_pay26 v101 v129 v135 16#32) (k0_pay27 v101 v129 v135 16#32) (k0_pay28 v101 v129 v135 16#32)

theorem inb17 (k : ℕ) (hk : k < 28) : ∀ a, (![0, 256 * k] : Fin 2 → ℕ) a + S32x256.size a ≤ S32x7168.size a := fun a =>
  match a with
  | ⟨0, _⟩ => Nat.le_refl 32
  | ⟨1, _⟩ => show 256 * k + 256 ≤ 7168 by omega

/-- The first `k` windows of columns hold the quantised input. -/
def Quantised (XB : S32x7168.Idx → Elt F .bf16) (Xs : S32x7168.Idx → Elt F .f32) (k : ℕ) : Prop :=
  ∀ (t : ℕ) (ht : t < 28), t < k → window Xs ![0, 256 * t] S32x256.size (inb17 t ht) = quantVal (window XB ![0, 256 * t] S32x256.size (inb17 t ht))

theorem Quantised.step {XB : S32x7168.Idx → Elt F .bf16} {Xs : S32x7168.Idx → Elt F .f32} {k : ℕ} (h : Quantised XB Xs k) (hk : k < 28) :
    Quantised XB (put Xs ![0, 256 * k] S32x256.size (quantVal (window XB ![0, 256 * k] S32x256.size (inb17 k hk)))) (k + 1) := by
  intro t ht htk
  by_cases e : t = k
  · subst e
    exact VecWindow.window_put_same _ _ _ _ _
  · refine (VecWindow.window_put_of_disjoint _ _ _ _ _ _ _ 1 ?_).trans (h t ht (by omega))
    show 256 * t + 256 ≤ 256 * k ∨ 256 * k + 256 ≤ 256 * t
    omega

/-- What the quantiser's loop holds after `k` windows of columns. -/
def Inv4 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (XB : S32x7168.Idx → Elt F .bf16) (k : ℕ) : sProp (MT nD τ sig Unit (Elt F) ℕ (Pipeline.UD sig nD τ) ℕ) :=
  iprop((arg9.view.loc (c : Thread nD τ) ↦[arg9.view.set]{fullShare} arg9.view.rep XB) ∗ ∃ Xs : S32x7168.Idx → Elt F .f32, ⌜Quantised XB Xs k⌝ ∗ (arg10.view.loc (c : Thread nD τ) ↦[arg10.view.set]{fullShare} arg10.view.rep Xs))

/-- One window of columns of the quantiser. -/
theorem wp_t4 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (XB : S32x7168.Idx → Elt F .bf16) (k0_t4 : Fin k0_t4_loop.trips) (u : Unit) :
    Inv4 c arg0 harg0 arg1 harg1 arg2 harg2 arg3 harg3 arg4 harg4 arg5 harg5 arg6 harg6 arg7 harg7 arg8 harg8 arg9 harg9 arg10 harg10 arg11 harg11 arg12 harg12 arg13 arg14 arg15 XB k0_t4
      ⊢ wp frame (wpE (defs₀ (F := F)) 𝒱₀ (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 arg14 arg15 k0_t4 u) fun _ => Inv4 c arg0 harg0 arg1 harg1 arg2 harg2 arg3 harg3 arg4 harg4 arg5 harg5 arg6 harg6 arg7 harg7 arg8 harg8 arg9 harg9 arg10 harg10 arg11 harg11 arg12 harg12 arg13 arg14 arg15 XB (k0_t4.val + 1) := by
  have hk : k0_t4.val < 28 := k0_t4.2.trans_eq trips4
  unfold Inv4 k0_t4_body
  rw [k0_part1_eq_skeleton, k0_part2_eq_skeleton, k0_part3_eq_skeleton]
  unfold k0_part1_skel k0_part2_skel k0_part3_skel
  iintro ⟨H9, %Xs, %hQ, H10⟩
  iapply (wp_ld (defs := defs₀ (F := F)) 𝒱₀ (c : Thread nD τ) none Set.univ (m := arg9) (View.setOn_subset_set _ _)) $$ H9
  iintro H9
  iapply (wp_ld (defs := defs₀ (F := F)) 𝒱₀ (c : Thread nD τ) none Set.univ (m := arg10) (View.setOn_subset_set _ _)) $$ H10
  iintro H10
  iapply (wp_st (defs := defs₀ (F := F)) 𝒱₀ (c : Thread nD τ) none Set.univ) $$ H10
  iintro H10
  have hS' := hQ.step hk
  try simp only [prog_ret_bind, prog_pure]
  rw [wp_ret]
  imodintro
  isplitl [H9]; · iexact H9
  iexists _
  isplitr
  · ipureintro; exact hS'
  rw [← window_congr XB S32x256.size (off17 k0_t4) (k0_off17_inb k0_t4) (inb17 _ hk), ← off17 k0_t4]
  iexact H10

end Cert.Kernel.Gen
-- ==== Proof.Body.lean ====
/- The body of the kernel: what it leaves of what it is given. -/
module

public import proofs.«01_k».proof.Proof.Loops5

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The rings with nothing in flight. -/
def IdleRing (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) : sProp (MT nD τ sig Unit (Elt F) ℕ (Pipeline.UD sig nD τ) ℕ) :=
  bigSep (Finset.univ : Finset (Fin 10)) fun n => iprop((∃ f, arg7.view.loc (c : Thread nD τ) ↦[slotSet (c : Thread nD τ) arg7 n.val n.isLt]{fullShare} f)
    ∗ (∃ f, arg8.view.loc (c : Thread nD τ) ↦[slotSet (c : Thread nD τ) arg8 n.val n.isLt]{fullShare} f)
    ∗ SlotIdle (c : Thread nD τ) arg2 arg3 arg13 arg14 Wv Sv n)

theorem kring_idle (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo : ℕ) :
    KRing c arg2 arg3 arg7 arg8 arg13 arg14 Wv Sv act lo lo = IdleRing c arg2 arg3 arg7 arg8 arg13 arg14 Wv Sv := by
  unfold KRing RingSt IdleRing
  rw [show Ring.inWin lo lo 10 = fun _ => none from funext fun n => (Ring.inWin_eq_none_iff (by omega) n).2 fun x a b _ => by omega]
  rfl

/-- The whole window. -/
theorem window_whole {α : Type} {s : Shape} (x : s.Idx → α) {off : Fin s.rank → ℕ} (h0 : ∀ a, off a = 0) (inb : ∀ a, off a + s.size a ≤ s.size a) : window x off s.size inb = x := by
  funext y
  show x _ = x _
  congr 1
  funext a
  refine Fin.ext ?_
  show off a + 1 * (y a).val = (y a).val
  rw [h0]; omega

theorem put_whole {α : Type} {s : Shape} (x w : s.Idx → α) {off : Fin s.rank → ℕ} (h0 : ∀ a, off a = 0) : put x off s.size w = w := by
  have inb : ∀ a, off a + s.size a ≤ s.size a := fun a => by rw [h0]; omega
  rw [← window_whole (put x off s.size w) h0 inb, VecWindow.window_put_same]

theorem zero2 : ∀ a : Fin 2, (![0, 0] : Fin 2 → ℕ) a = 0 := by decide

/-- The mask that puts a group into its row. -/
def kmask : IVec S8x256 1 :=
  k0_pay1 (iota .tc S8x256 32 [0] iota_S8x256_d0_w32) (iota .tc S8x256 32 [1] iota_S8x256_d1_w32) 32#32 k0_pay865 k0_pay866 (Scalar.extui (Scalar.cmpi .sgt 32#32 0#32)) (Scalar.cmpi .slt 32#32 0#32)

/-- What the body may leave in its result, of the sizes, the input, the weights and the scales. -/
def Result (Sz : S12.Idx → Elt F .i32) (XB : S32x7168.Idx → Elt F .bf16) (Wv : (SArr 7168).Idx → Elt F .fp8e4m3) (Sv : (SArr 224).Idx → Elt F .i8) (y : S32x2048.Idx → Elt F .bf16) : Prop :=
  ∃ (cnt tot : BitVec 32) (A5 A6 : S13.Idx → BitVec 32) (Xs : S32x7168.Idx → Elt F .f32) (A0 : Acc F), Scan Sz 12 cnt tot A5 A6 ∧ Quantised XB Xs 28
    ∧ y = k0_pay18 (runVal (kParts kmask) Xs Wv Sv (actOf A5) (tokOf A6) (szOf Sz A5) cnt.toNat (A0, k0_pay863)).2

theorem kring_idle' (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo hi : ℕ) (h : hi = lo) :
    KRing c arg2 arg3 arg7 arg8 arg13 arg14 Wv Sv act lo hi = IdleRing c arg2 arg3 arg7 arg8 arg13 arg14 Wv Sv := by
  subst h; exact kring_idle c arg2 arg3 arg7 arg8 arg13 arg14 Wv Sv act hi

set_option maxHeartbeats 2000000 in
/-- The body: from the arguments and any contents of the scratch, the arguments again and a result as described. -/
theorem wp_body (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (hf : Fits Sz) (XB : S32x7168.Idx → Elt F .bf16) (Wv : (SArr 7168).Idx → Elt F .fp8e4m3) (Sv : (SArr 224).Idx → Elt F .i8) :
    iprop((arg0.view.loc (c : Thread nD τ) ↦[arg0.view.set]{fullShare} arg0.view.rep Sz) ∗ (arg1.view.loc (c : Thread nD τ) ↦[arg1.view.set]{fullShare} arg1.view.rep XB) ∗ (∃ y, (arg4.view.loc (c : Thread nD τ) ↦[arg4.view.set]{fullShare} arg4.view.rep y)) ∗ (∃ A5, (arg5.view.loc (c : Thread nD τ) ↦[arg5.view.set]{fullShare} arg5.view.rep A5)) ∗ (∃ A6, (arg6.view.loc (c : Thread nD τ) ↦[arg6.view.set]{fullShare} arg6.view.rep A6))
      ∗ (∃ f, arg9.view.loc (c : Thread nD τ) ↦[arg9.view.set]{fullShare} f) ∗ (∃ Xs, (arg10.view.loc (c : Thread nD τ) ↦[arg10.view.set]{fullShare} arg10.view.rep Xs)) ∗ (∃ A, (arg11.view.loc (c : Thread nD τ) ↦[arg11.view.set]{fullShare} arg11.view.rep A)) ∗ (∃ O, (arg12.view.loc (c : Thread nD τ) ↦[arg12.view.set]{fullShare} arg12.view.rep O))
      ∗ IdleRing c arg2 arg3 arg7 arg8 arg13 arg14 Wv Sv ∗ semVal ((c : Thread nD τ), .dma arg15.sem) 0 ∗ (∃ W, owes (c : Thread nD τ) 0 W))
    ⊢ wp frame (wpE (defs₀ (F := F)) 𝒱₀ (c : Thread nD τ) none) Set.univ (cc0_mxfp8_grouped_matmul (F := F) arg0 harg0 arg1 harg1 arg2 harg2 arg3 harg3 arg4 harg4 arg5 harg5 arg6 harg6 arg7 harg7 arg8 harg8 arg9 harg9 arg10 harg10 arg11 harg11 arg12 harg12 arg13 arg14 arg15) fun _ =>
      iprop((arg0.view.loc (c : Thread nD τ) ↦[arg0.view.set]{fullShare} arg0.view.rep Sz) ∗ (arg1.view.loc (c : Thread nD τ) ↦[arg1.view.set]{fullShare} arg1.view.rep XB) ∗ (∃ y, ⌜Result Sz XB Wv Sv y⌝ ∗ (arg4.view.loc (c : Thread nD τ) ↦[arg4.view.set]{fullShare} arg4.view.rep y)) ∗ (∃ A5, (arg5.view.loc (c : Thread nD τ) ↦[arg5.view.set]{fullShare} arg5.view.rep A5)) ∗ (∃ A6, (arg6.view.loc (c : Thread nD τ) ↦[arg6.view.set]{fullShare} arg6.view.rep A6))
      ∗ (∃ f, arg9.view.loc (c : Thread nD τ) ↦[arg9.view.set]{fullShare} f) ∗ (∃ Xs, (arg10.view.loc (c : Thread nD τ) ↦[arg10.view.set]{fullShare} arg10.view.rep Xs)) ∗ (∃ A, (arg11.view.loc (c : Thread nD τ) ↦[arg11.view.set]{fullShare} arg11.view.rep A)) ∗ (∃ O, (arg12.view.loc (c : Thread nD τ) ↦[arg12.view.set]{fullShare} arg12.view.rep O))
      ∗ IdleRing c arg2 arg3 arg7 arg8 arg13 arg14 Wv Sv ∗ semVal ((c : Thread nD τ), .dma arg15.sem) 0 ∗ (∃ W, owes (c : Thread nD τ) 0 W)) := by
  rw [cc0_mxfp8_grouped_matmul_eq_skeleton]
  unfold cc0_mxfp8_grouped_matmul_skel
  rw [wp_bind, k0_part264_eq_skeleton]
  unfold k0_part264_skel
  have hx9 : ∀ f9 : Buf (Elt F) (arg9.view.loc (c : Thread nD τ)), (arg9.view.loc (c : Thread nD τ) ↦[arg9.view.set]{fullShare} (arg9.view.write (Elt F) f9 (ReadAs.same.apply (arg1.view.read (Elt F) (arg1.view.rep XB))) Finset.univ) : sProp (MT nD τ sig Unit (Elt F) ℕ (Pipeline.UD sig nD τ) ℕ))
      = (arg9.view.loc (c : Thread nD τ) ↦[arg9.view.set]{fullShare} arg9.view.rep XB) := fun f9 => by
    refine pointsTo_of_read (m := arg9) (c : Thread nD τ) ?_
    rw [View.read_write_univ, View.read_rep, View.read_rep]
  iintro ⟨H0, H1, ⟨%y0, H4⟩, ⟨%A50, H5⟩, ⟨%A60, H6⟩, ⟨%f9, H9⟩, ⟨%Xs0, H10⟩, ⟨%A0, H11⟩, ⟨%O0, H12⟩, Hr, Hs, Ho⟩
  iapply (Scf.wp_for_bind frame (wpE (defs₀ (F := F)) 𝒱₀ (c : Thread nD τ) none) Set.univ _ _ _ _ _ _
    (fun k acc => Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz k acc) (fun k acc => wp_t1 c arg0 harg0 arg1 harg1 arg2 harg2 arg3 harg3 arg4 harg4 arg5 harg5 arg6 harg6 arg7 harg7 arg8 harg8 arg9 harg9 arg10 harg10 arg11 harg11 arg12 harg12 arg13 arg14 arg15 Sz hf k acc)) $$ [H0 H5 H6]
  · unfold Inv1
    iexists A50, A60
    isplitr
    · ipureintro; exact Scan.init Sz A50 A60
    isplitl [H0]; · iexact H0
    isplitl [H5]; · iexact H5
    iexact H6
  iintro %acc HI
  obtain ⟨v1_0, v1_1⟩ := acc
  have htr1 : Scf.trips k0_t1_loop.lb k0_t1_loop.ub k0_t1_loop.st = 12 := trips1
  rw [htr1]
  unfold Inv1
  icases HI with ⟨%A5, %A6, %hS, H0, H5, H6⟩
  have hcl : v1_0.toNat ≤ 12 := hS.cnt_le
  have hv1 : v1_0.toNat < 13 := by omega
  have hL : Listed (F := F) Sz A5 A6 v1_0.toNat (actOf A5) (tokOf A6) (szOf Sz A5) :=
    ⟨hv1, fun j hj h => (hS.at hf h).2.1, fun j hj h => (hS.at hf h).2.2.1, fun j h => rfl, fun j h => (hS.at hf h).2.2.2.2.2.2⟩
  iapply (wp_assume (defs := defs₀ (F := F)) 𝒱₀ (c : Thread nD τ) none Set.univ (chk2 v1_0 hv1))
  iapply (wp_dmaLocal (defs := defs₀ (F := F)) countersEmb 𝒱₀ (c : Thread nD τ) none (src := arg1) (dst := arg9) (via := .same) (fs := arg1.view.rep XB) (fd := f9) (Sd := arg9.view.set)
    () arg9.view.dmaCredit rfl (sig.dmaCredit_pos _ _ _ _ _ (by decide)) (le_refl _)) $$ [H1 H9 Hs]
  · isplitl [H1]; · iexact H1
    isplitl [H9]; · iexact H9
    iexact Hs
  iintro Hf
  iapply (Scf.wp_for_bind frame (wpE (defs₀ (F := F)) 𝒱₀ (c : Thread nD τ) none) Set.univ _ _ _ _ _ _
    (fun k _ => Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv (actOf A5) A5 k) (fun k acc => wp_t2 c arg0 harg0 arg1 harg1 arg2 harg2 arg3 harg3 arg4 harg4 arg5 harg5 arg6 harg6 arg7 harg7 arg8 harg8 arg9 harg9 arg10 harg10 arg11 harg11 arg12 harg12 arg13 arg14 arg15 v1_0 hv1 (chk2 v1_0 hv1) k acc Wv Sv (actOf A5) A5 hL.a5)) $$ [H5 Hr]
  · unfold Inv2
    rw [kring_idle]
    isplitl [H5]; · iexact H5
    iexact Hr
  iintro %acc2 HI
  have htr2 : Scf.trips (k0_t2_loop v1_0).lb (k0_t2_loop v1_0).ub (k0_t2_loop v1_0).st = min (7 * v1_0.toNat) 10 := trips2 v1_0 hv1
  rw [htr2]
  unfold Inv2
  icases HI with ⟨H5, Hr⟩
  iapply (Scf.wp_for_bind frame (wpE (defs₀ (F := F)) 𝒱₀ (c : Thread nD τ) none) Set.univ _ _ _ _ _ _
    (fun _ _ => iprop(⌜True⌝)) (fun k _ => (Nat.not_lt_zero _ (k.2.trans_eq (trips3 v1_0 hv1))).elim)) $$ []
  · ipureintro; trivial
  iintro %_acc3 _
  iapply (wp_ld (defs := defs₀ (F := F)) 𝒱₀ (c : Thread nD τ) none Set.univ (m := arg12) (View.setOn_subset_set _ _)) $$ H12
  iintro H12
  iapply (wp_st (defs := defs₀ (F := F)) 𝒱₀ (c : Thread nD τ) none Set.univ) $$ H12
  iintro H12
  rw [put_whole O0 (k0_pay863 (F := F)) zero2]
  icases Ho with ⟨%W, Ho⟩
  iapply (wp_waitLocal (defs := defs₀ (F := F)) countersEmb 𝒱₀ (c : Thread nD τ) none () rfl) $$ [Hf Ho]
  · isplitl [Hf] <;> iassumption
  iintro ⟨⟨H9, H1⟩, Hs, Ho⟩
  ihave H9 := (Entails.of_eq (hx9 f9)) $$ H9
  rw [prog_ret_bind]
  iapply (Scf.wp_for_bind frame (wpE (defs₀ (F := F)) 𝒱₀ (c : Thread nD τ) none) Set.univ _ _ _ _ _ _
    (fun k _ => Inv4 c arg0 harg0 arg1 harg1 arg2 harg2 arg3 harg3 arg4 harg4 arg5 harg5 arg6 harg6 arg7 harg7 arg8 harg8 arg9 harg9 arg10 harg10 arg11 harg11 arg12 harg12 arg13 arg14 arg15 XB k) (fun k u => wp_t4 c arg0 harg0 arg1 harg1 arg2 harg2 arg3 harg3 arg4 harg4 arg5 harg5 arg6 harg6 arg7 harg7 arg8 harg8 arg9 harg9 arg10 harg10 arg11 harg11 arg12 harg12 arg13 arg14 arg15 XB k u)) $$ [H9 H10]
  · unfold Inv4
    isplitl [H9]; · iexact H9
    iexists Xs0
    isplitr
    · ipureintro; exact fun t _ h => absurd h (Nat.not_lt_zero _)
    iexact H10
  iintro %acc4 HI
  have htr4 : Scf.trips k0_t4_loop.lb k0_t4_loop.ub k0_t4_loop.st = 28 := trips4
  rw [htr4]
  unfold Inv4
  icases HI with ⟨H9, %Xs, %hQ, H10⟩
  try simp only [prog_ret_bind, prog_pure]
  rw [wp_ret]
  imodintro
  dsimp only
  iapply (Scf.wp_for_bind frame (wpE (defs₀ (F := F)) 𝒱₀ (c : Thread nD τ) none) Set.univ _ _ _ _ _ _
    (fun k _ => Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat kmask Sz Xs Wv Sv (actOf A5) (tokOf A6) (szOf Sz A5) A5 A6 (A0, k0_pay863) k)
    (fun k acc => wp_t5 c arg0 harg0 arg1 harg1 arg2 harg2 arg3 harg3 arg4 harg4 arg5 harg5 arg6 harg6 arg7 harg7 arg8 harg8 arg9 harg9 arg10 harg10 arg11 harg11 arg12 harg12 arg13 arg14 arg15 v1_0 (chk2 v1_0 hv1) _ _ _ _ _ _ _ k acc Sz Xs Wv Sv (actOf A5) (tokOf A6) (szOf Sz A5) A5 A6 hL (A0, k0_pay863))) $$ [H0 H5 H6 H10 H11 H12 Hr Ho]
  · unfold Inv5
    isplitl [H0]; · iexact H0
    isplitl [H5]; · iexact H5
    isplitl [H6]; · iexact H6
    isplitl [H10]; · iexact H10
    isplitl [H11]; · iexact H11
    isplitl [H12]; · iexact H12
    isplitl [Hr]
    · rw [show min (7 * 0 + 10) (7 * v1_0.toNat) = min (7 * v1_0.toNat) 10 by omega]; iexact Hr
    iexists _; iexact Ho
  iintro %acc5 HI
  have htr5 : Scf.trips (k0_t5_loop v1_0).lb (k0_t5_loop v1_0).ub (k0_t5_loop v1_0).st = v1_0.toNat := trips5 v1_0 hv1
  rw [htr5]
  unfold Inv5
  icases HI with ⟨H0, H5, H6, H10, H11, H12, Hr, Ho⟩
  have hmin : min (7 * v1_0.toNat + 10) (7 * v1_0.toNat) = 7 * v1_0.toNat := by omega
  ihave Hr := (Entails.of_eq (show (KRing c arg2 arg3 arg7 arg8 arg13 arg14 Wv Sv (actOf A5) (7 * v1_0.toNat) (min (7 * v1_0.toNat + 10) (7 * v1_0.toNat)) : sProp (MT nD τ sig Unit (Elt F) ℕ (Pipeline.UD sig nD τ) ℕ)) = IdleRing c arg2 arg3 arg7 arg8 arg13 arg14 Wv Sv from kring_idle' c arg2 arg3 arg7 arg8 arg13 arg14 Wv Sv (actOf A5) _ _ hmin)) $$ Hr
  iapply (Scf.wp_for_bind frame (wpE (defs₀ (F := F)) 𝒱₀ (c : Thread nD τ) none) Set.univ (k0_t13_loop v1_0).lb (k0_t13_loop v1_0).ub (k0_t13_loop v1_0).st _ _ _
    (fun _ _ => iprop(⌜True⌝)) (fun k _ => (Nat.not_lt_zero _ (k.2.trans_eq (trips13 v1_0 hv1))).elim)) $$ []
  · ipureintro; trivial
  iintro %_acc6 _
  iapply (wp_ld (defs := defs₀ (F := F)) 𝒱₀ (c : Thread nD τ) none Set.univ (m := arg12) (View.setOn_subset_set _ _)) $$ H12
  iintro H12
  iapply (wp_ld (defs := defs₀ (F := F)) 𝒱₀ (c : Thread nD τ) none Set.univ (m := arg4) (View.setOn_subset_set _ _)) $$ H4
  iintro H4
  iapply (wp_st (defs := defs₀ (F := F)) 𝒱₀ (c : Thread nD τ) none Set.univ) $$ H4
  iintro H4
  rw [put_whole _ _ zero2, window_whole _ zero2]
  try simp only [prog_ret_bind, prog_pure]
  rw [wp_ret]
  imodintro
  isplitl [H0]; · iexact H0
  isplitl [H1]; · iexact H1
  isplitl [H4]
  · iexists _
    isplitr
    · ipureintro; exact ⟨v1_0, v1_1, A5, A6, Xs, A0, hS, hQ, rfl⟩
    iexact H4
  isplitl [H5]; · iexists _; iexact H5
  isplitl [H6]; · iexists _; iexact H6
  isplitl [H9]; · iexists _; iexact H9
  isplitl [H10]; · iexists _; iexact H10
  isplitl [H11]; · iexists _; iexact H11
  isplitl [H12]; · iexists _; iexact H12
  isplitl [Hr]; · iexact Hr
  isplitl [Hs]; · iexact Hs
  iexact Ho

end Cert.Kernel.Gen
-- ==== Proof.Launch.lean ====
/- The kernel on the whole machine: the body from what the launch gives it, and the run of the program. -/
module

public import proofs.«01_k».proof.Proof.Body
public import proofs.«01_k».proof.Proof.Gen.Kernel.Points
public import proofs.«01_k».proof.Proof.Gen.Kernel.Launch

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

local notation "𝕄" => MT nD τ sig Unit (Elt F) ℕ (Pipeline.UD sig nD τ) ℕ

/-- The kernel's own semaphores: the cells of the two rings and the one of the input. -/
abbrev osem0 : Fin 10 ⊕ (Fin 10 ⊕ Unit) → SemLoc sig :=
  Sum.elim (fun n => .dma (cc0_scratch8.ix (cellIx n))) (Sum.elim (fun n => .dma (cc0_scratch9.ix (cellIx n))) fun _ => .dma cc0_scratch10.sem)

theorem ownSemFacts0 : Pipeline.OwnSemFacts spec0 osem0 := by decide +kernel

theorem ownSems0_split (c : Dev nD) :
    (Pipeline.ownSems0 (Ix := Unit) (Name := ℕ) (U := Pipeline.UD sig nD τ) (Lvl := ℕ) (Val := Elt F) (τ := τ) osem0 c : sProp 𝕄)
      = iprop((bigSep Finset.univ fun n : Fin 10 => semVal ((c : Thread nD τ), .dma (cc0_scratch8.ix (cellIx n))) 0)
        ∗ (bigSep Finset.univ fun n : Fin 10 => semVal ((c : Thread nD τ), .dma (cc0_scratch9.ix (cellIx n))) 0)
        ∗ semVal ((c : Thread nD τ), .dma cc0_scratch10.sem) 0) := by
  unfold Pipeline.ownSems0
  rw [bigSep_univ_sum, bigSep_univ_sum, bigSep_univ_of_subsingleton ()]
  rfl

/-- The arrays in HBM that the body reads through its own transfers. -/
def H0 : Finset (Ref sig .tc) := {main_arg0, main_arg2, main_arg3}

theorem H0_sub : H0 ⊆ Pipeline.restRefs sig spec0 := by decide

variable (m : (ℓ : Loc nD τ sig) → Buf (Elt F) ℓ) (ρ : Dev nD → PrngReg)

/-- What a buffer holds when the program starts. -/
abbrev V (c : Dev nD) (b : Ref sig .tc) : Buf (Elt F) ((c : Thread nD τ).loc b) := m ((c : Thread nD τ).loc b)

theorem hbm_split (c : Dev nD) :
    (bigSep H0 (fun b => ((c : Thread nD τ).loc b) ↦{fullShare} V m c b) : sProp 𝕄)
      = iprop(((c : Thread nD τ).loc main_arg0 ↦{fullShare} V m c main_arg0) ∗ ((c : Thread nD τ).loc main_arg2 ↦{fullShare} V m c main_arg2)
          ∗ ((c : Thread nD τ).loc main_arg3 ↦{fullShare} V m c main_arg3)) := by
  rw [BI.bigSep_eq_bigSepL_of_eq [main_arg0, main_arg2, main_arg3] (by decide) (by decide)]; rfl

/-- A whole buffer, and the memref of all of it. -/
theorem whole_held (c : Dev nD) (b : Ref sig .tc) (q : PosShare TreeShare) (f : b.ty.Contents (Elt F)) :
    ((Memref.whole b).view.loc (c : Thread nD τ) ↦[(Memref.whole b).view.set]{q} (Memref.whole b).view.rep f : sProp 𝕄)
      = ((c : Thread nD τ).loc b ↦{q} f) := by
  have h := pointsTo_of_read (Ix := Unit) (Name := ℕ) (U := Pipeline.UD sig nD τ) (Lvl := ℕ) (Val := Elt F) (m := Memref.whole b) (c : Thread nD τ) (q := q)
    (f := (Memref.whole b).view.rep f) (g := f) (by rw [View.read_rep]; rfl)
  rw [h]
  simp only [Memref.view_whole, View.set_whole]

theorem whole_held_ex (c : Dev nD) (b : Ref sig .tc) :
    (iprop(∃ f, (Memref.whole b).view.loc (c : Thread nD τ) ↦[(Memref.whole b).view.set]{fullShare} (Memref.whole b).view.rep f) : sProp 𝕄)
      = iprop(∃ f : Buf (Elt F) ((c : Thread nD τ).loc b), ((c : Thread nD τ).loc b) ↦{fullShare} f) := by
  congr 1; funext f; exact whole_held c b fullShare f

section Ring

variable (c : Dev nD)

/-- The slots of a ring are the ring. -/
theorem slots7 (f₀ : Buf (Elt F) ((c : Thread nD τ).loc cc0_scratch2)) :
    (iprop(∃ f : Buf (Elt F) ((c : Thread nD τ).loc cc0_scratch2), ((c : Thread nD τ).loc cc0_scratch2) ↦{fullShare} f) : sProp 𝕄)
      ⊣⊢ bigSep (Finset.univ : Finset (Fin 10)) fun n => iprop(∃ f, (Memref.whole cc0_scratch2).view.loc (c : Thread nD τ) ↦[slotSet (c : Thread nD τ) (Memref.whole cc0_scratch2) n.val n.isLt]{fullShare} f) := by
  have hs : ∀ n : Fin 10, slotSet (c : Thread nD τ) (Memref.whole cc0_scratch2) n.val n.isLt = (Rect.unit (s := SRing 1024) ![n.val, 0, 0] (SOne 1024).size (slot_inb n.isLt)).set :=
    fun n => View.set_slice_whole cc0_scratch2 _
  have hd := Ring.lead_disjoint (s := SRing 1024) (NB := 10) 0 1 (fun n => ![n.val, 0, 0]) (SOne 1024).size (fun n => slot_inb n.isLt) (fun n => (Nat.one_mul _).symm) rfl
  have hc := Ring.lead_cover (s := SRing 1024) (NB := 10) 0 1 (fun n => ![n.val, 0, 0]) (SOne 1024).size (fun n => slot_inb n.isLt) (fun n => (Nat.one_mul _).symm)
    (by decide +kernel) rfl (by decide) rfl
  simp only [hs]
  constructor
  · iintro ⟨%f, H⟩
    ihave H := (Entails.of_eq (Ring.pointsTo_blocks (ℓ := (c : Thread nD τ).loc cc0_scratch2) _ hd hc f)) $$ H
    have hm : (bigSep (Finset.univ : Finset (Fin 10)) (fun n => ((c : Thread nD τ).loc cc0_scratch2 ↦[(Rect.unit (s := SRing 1024) ![n.val, 0, 0] (SOne 1024).size (slot_inb n.isLt)).set]{fullShare} f)) : sProp 𝕄)
        ⊢ bigSep (Finset.univ : Finset (Fin 10)) (fun n => iprop(∃ f, (c : Thread nD τ).loc cc0_scratch2 ↦[(Rect.unit (s := SRing 1024) ![n.val, 0, 0] (SOne 1024).size (slot_inb n.isLt)).set]{fullShare} f)) :=
      BI.bigSep_mono fun n _ => by
        change iprop((c : Thread nD τ).loc cc0_scratch2 ↦[_]{fullShare} f) ⊢ iprop(∃ f, _)
        iintro H; iexists f; iexact H
    iapply hm $$ H
  · exact Ring.pointsTo_blocks_join_exists (ℓ := (c : Thread nD τ).loc cc0_scratch2) _ hd hc f₀

theorem slots8 (f₀ : Buf (Elt F) ((c : Thread nD τ).loc cc0_scratch3)) :
    (iprop(∃ f : Buf (Elt F) ((c : Thread nD τ).loc cc0_scratch3), ((c : Thread nD τ).loc cc0_scratch3) ↦{fullShare} f) : sProp 𝕄)
      ⊣⊢ bigSep (Finset.univ : Finset (Fin 10)) fun n => iprop(∃ f, (Memref.whole cc0_scratch3).view.loc (c : Thread nD τ) ↦[slotSet (c : Thread nD τ) (Memref.whole cc0_scratch3) n.val n.isLt]{fullShare} f) := by
  have hs : ∀ n : Fin 10, slotSet (c : Thread nD τ) (Memref.whole cc0_scratch3) n.val n.isLt = (Rect.unit (s := SRing 32) ![n.val, 0, 0] (SOne 32).size (slot_inb n.isLt)).set :=
    fun n => View.set_slice_whole cc0_scratch3 _
  have hd := Ring.lead_disjoint (s := SRing 32) (NB := 10) 0 1 (fun n => ![n.val, 0, 0]) (SOne 32).size (fun n => slot_inb n.isLt) (fun n => (Nat.one_mul _).symm) rfl
  have hc := Ring.lead_cover (s := SRing 32) (NB := 10) 0 1 (fun n => ![n.val, 0, 0]) (SOne 32).size (fun n => slot_inb n.isLt) (fun n => (Nat.one_mul _).symm)
    (by decide +kernel) rfl (by decide) rfl
  simp only [hs]
  constructor
  · iintro ⟨%f, H⟩
    ihave H := (Entails.of_eq (Ring.pointsTo_blocks (ℓ := (c : Thread nD τ).loc cc0_scratch3) _ hd hc f)) $$ H
    have hm : (bigSep (Finset.univ : Finset (Fin 10)) (fun n => ((c : Thread nD τ).loc cc0_scratch3 ↦[(Rect.unit (s := SRing 32) ![n.val, 0, 0] (SOne 32).size (slot_inb n.isLt)).set]{fullShare} f)) : sProp 𝕄)
        ⊢ bigSep (Finset.univ : Finset (Fin 10)) (fun n => iprop(∃ f, (c : Thread nD τ).loc cc0_scratch3 ↦[(Rect.unit (s := SRing 32) ![n.val, 0, 0] (SOne 32).size (slot_inb n.isLt)).set]{fullShare} f)) :=
      BI.bigSep_mono fun n _ => by
        change iprop((c : Thread nD τ).loc cc0_scratch3 ↦[_]{fullShare} f) ⊢ iprop(∃ f, _)
        iintro H; iexists f; iexact H
    iapply hm $$ H
  · exact Ring.pointsTo_blocks_join_exists (ℓ := (c : Thread nD τ).loc cc0_scratch3) _ hd hc f₀

/-- The idle rings, part by part. -/
theorem idle_parts (Wv : (SArr 7168).Idx → Elt F .fp8e4m3) (Sv : (SArr 224).Idx → Elt F .i8) :
    IdleRing c (Memref.whole main_arg2) (Memref.whole main_arg3) (Memref.whole cc0_scratch2) (Memref.whole cc0_scratch3) cc0_scratch8 cc0_scratch9 Wv Sv
      = iprop((bigSep (Finset.univ : Finset (Fin 10)) fun n => iprop(∃ f, (Memref.whole cc0_scratch2).view.loc (c : Thread nD τ) ↦[slotSet (c : Thread nD τ) (Memref.whole cc0_scratch2) n.val n.isLt]{fullShare} f))
        ∗ (bigSep (Finset.univ : Finset (Fin 10)) fun n => iprop(∃ f, (Memref.whole cc0_scratch3).view.loc (c : Thread nD τ) ↦[slotSet (c : Thread nD τ) (Memref.whole cc0_scratch3) n.val n.isLt]{fullShare} f))
        ∗ (bigSep (Finset.univ : Finset (Fin 10)) fun n => ((c : Thread nD τ).loc main_arg2 ↦[Finset.univ]{slotShare n} Wv))
        ∗ (bigSep (Finset.univ : Finset (Fin 10)) fun n => ((c : Thread nD τ).loc main_arg3 ↦[Finset.univ]{slotShare n} Sv))
        ∗ (bigSep (Finset.univ : Finset (Fin 10)) fun n => semVal ((c : Thread nD τ), .dma (cc0_scratch8.ix (cellIx n))) 0)
        ∗ (bigSep (Finset.univ : Finset (Fin 10)) fun n => semVal ((c : Thread nD τ), .dma (cc0_scratch9.ix (cellIx n))) 0)) := by
  unfold IdleRing SlotIdle
  rw [bigSep_sep', bigSep_sep', bigSep_sep', bigSep_sep', bigSep_sep']
  rw [show (fun n : Fin 10 => ((Memref.whole main_arg2).view.loc (c : Thread nD τ) ↦[(Memref.whole main_arg2).view.set]{slotShare n} (Memref.whole main_arg2).view.rep Wv : sProp 𝕄))
      = fun n => ((c : Thread nD τ).loc main_arg2 ↦[Finset.univ]{slotShare n} Wv) from funext fun n => whole_held c main_arg2 _ Wv,
    show (fun n : Fin 10 => ((Memref.whole main_arg3).view.loc (c : Thread nD τ) ↦[(Memref.whole main_arg3).view.set]{slotShare n} (Memref.whole main_arg3).view.rep Sv : sProp 𝕄))
      = fun n => ((c : Thread nD τ).loc main_arg3 ↦[Finset.univ]{slotShare n} Sv) from funext fun n => whole_held c main_arg3 _ Sv]

end Ring

/-- The rings idle, from the launch's buffers, cells and arrays; the rest of the arrays is kept. -/
theorem idle_in (c : Dev nD) (Wv : (SArr 7168).Idx → Elt F .fp8e4m3) (Sv : (SArr 224).Idx → Elt F .i8) :
    (iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ ((c : Thread nD τ).loc main_arg2 ↦[Finset.univ]{fullShare} Wv) ∗ ((c : Thread nD τ).loc main_arg3 ↦[Finset.univ]{fullShare} Sv)
      ∗ (bigSep (Finset.univ : Finset (Fin 10)) fun n => semVal ((c : Thread nD τ), .dma (cc0_scratch8.ix (cellIx n))) 0)
      ∗ (bigSep (Finset.univ : Finset (Fin 10)) fun n => semVal ((c : Thread nD τ), .dma (cc0_scratch9.ix (cellIx n))) 0)) : sProp 𝕄)
    ⊢ iprop(IdleRing c (Memref.whole main_arg2) (Memref.whole main_arg3) (Memref.whole cc0_scratch2) (Memref.whole cc0_scratch3) cc0_scratch8 cc0_scratch9 Wv Sv
      ∗ ((c : Thread nD τ).loc main_arg2 ↦[Finset.univ]{shareDrop fullShare 10} Wv) ∗ ((c : Thread nD τ).loc main_arg3 ↦[Finset.univ]{shareDrop fullShare 10} Sv)) := by
  rw [idle_parts]
  iintro ⟨⟨%f7, H7⟩, ⟨%f8, H8⟩, HW, HS, Hw, Hs⟩
  ihave H7 := (slots7 c f7).1 $$ [H7]
  · iexists f7; iexact H7
  ihave H8 := (slots8 c f8).1 $$ [H8]
  · iexists f8; iexact H8
  ihave HW := (pointsTo_toks (ℓ := (c : Thread nD τ).loc main_arg2) fullShare 10).1 $$ HW
  ihave HS := (pointsTo_toks (ℓ := (c : Thread nD τ).loc main_arg3) fullShare 10).1 $$ HS
  icases HW with ⟨HW, HWs⟩
  icases HS with ⟨HS, HSs⟩
  isplitl [H7 H8 HWs HSs Hw Hs]
  · isplitl [H7]; · iexact H7
    isplitl [H8]; · iexact H8
    isplitl [HWs]; · iexact HWs
    isplitl [HSs]; · iexact HSs
    isplitl [Hw]; · iexact Hw
    iexact Hs
  isplitl [HW]; · iexact HW
  iexact HS

/-- And back. -/
theorem idle_out (c : Dev nD) (Wv : (SArr 7168).Idx → Elt F .fp8e4m3) (Sv : (SArr 224).Idx → Elt F .i8)
    (f7 : Buf (Elt F) ((c : Thread nD τ).loc cc0_scratch2)) (f8 : Buf (Elt F) ((c : Thread nD τ).loc cc0_scratch3)) :
    (iprop(IdleRing c (Memref.whole main_arg2) (Memref.whole main_arg3) (Memref.whole cc0_scratch2) (Memref.whole cc0_scratch3) cc0_scratch8 cc0_scratch9 Wv Sv
      ∗ ((c : Thread nD τ).loc main_arg2 ↦[Finset.univ]{shareDrop fullShare 10} Wv) ∗ ((c : Thread nD τ).loc main_arg3 ↦[Finset.univ]{shareDrop fullShare 10} Sv)) : sProp 𝕄)
    ⊢ iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ ((c : Thread nD τ).loc main_arg2 ↦[Finset.univ]{fullShare} Wv) ∗ ((c : Thread nD τ).loc main_arg3 ↦[Finset.univ]{fullShare} Sv)
      ∗ (bigSep (Finset.univ : Finset (Fin 10)) fun n => semVal ((c : Thread nD τ), .dma (cc0_scratch8.ix (cellIx n))) 0)
      ∗ (bigSep (Finset.univ : Finset (Fin 10)) fun n => semVal ((c : Thread nD τ), .dma (cc0_scratch9.ix (cellIx n))) 0)) := by
  rw [idle_parts]
  iintro ⟨⟨H7, H8, HWs, HSs, Hw, Hs⟩, HW, HS⟩
  ihave H7 := (slots7 c f7).2 $$ H7
  ihave H8 := (slots8 c f8).2 $$ H8
  ihave HW := (pointsTo_toks (ℓ := (c : Thread nD τ).loc main_arg2) fullShare 10).2 $$ [HW HWs]
  · isplitl [HW]; · iexact HW
    iexact HWs
  ihave HS := (pointsTo_toks (ℓ := (c : Thread nD τ).loc main_arg3) fullShare 10).2 $$ [HS HSs]
  · isplitl [HS]; · iexact HS
    iexact HSs
  isplitl [H7]; · iexact H7
  isplitl [H8]; · iexact H8
  isplitl [HW]; · iexact HW
  isplitl [HS]; · iexact HS
  isplitl [Hw]; · iexact Hw
  iexact Hs

/-! ## The body at its one point -/

/-- The buffers and cells the launch hands over, one by one. -/
theorem PhiD_parts (c : Dev nD) :
    (Pipeline.ΦD osem0 spec0 H0 (V m) c : sProp 𝕄)
      = iprop(iprop((∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f)
          ∗ (∃ f, (Memref.whole cc0_scratch5).view.loc (c : Thread nD τ) ↦[(Memref.whole cc0_scratch5).view.set]{fullShare} (Memref.whole cc0_scratch5).view.rep f)
          ∗ (∃ f, (Memref.whole cc0_scratch6).view.loc (c : Thread nD τ) ↦[(Memref.whole cc0_scratch6).view.set]{fullShare} (Memref.whole cc0_scratch6).view.rep f)
          ∗ (∃ f, (Memref.whole cc0_scratch7).view.loc (c : Thread nD τ) ↦[(Memref.whole cc0_scratch7).view.set]{fullShare} (Memref.whole cc0_scratch7).view.rep f)
          ∗ (∃ f, (Memref.whole cc0_scratch0).view.loc (c : Thread nD τ) ↦[(Memref.whole cc0_scratch0).view.set]{fullShare} (Memref.whole cc0_scratch0).view.rep f)
          ∗ (∃ f, (Memref.whole cc0_scratch1).view.loc (c : Thread nD τ) ↦[(Memref.whole cc0_scratch1).view.set]{fullShare} (Memref.whole cc0_scratch1).view.rep f))
        ∗ (∃ r, prngReg c r)
        ∗ iprop((bigSep (Finset.univ : Finset (Fin 10)) fun n => semVal ((c : Thread nD τ), .dma (cc0_scratch8.ix (cellIx n))) 0)
          ∗ (bigSep (Finset.univ : Finset (Fin 10)) fun n => semVal ((c : Thread nD τ), .dma (cc0_scratch9.ix (cellIx n))) 0)
          ∗ semVal ((c : Thread nD τ), .dma cc0_scratch10.sem) 0)
        ∗ iprop(((Memref.whole main_arg0).view.loc (c : Thread nD τ) ↦[(Memref.whole main_arg0).view.set]{fullShare} (Memref.whole main_arg0).view.rep (V m c main_arg0))
          ∗ ((c : Thread nD τ).loc main_arg2 ↦{fullShare} V m c main_arg2) ∗ ((c : Thread nD τ).loc main_arg3 ↦{fullShare} V m c main_arg3))) := by
  rw [Pipeline.ΦD_eq, scopedRest0_eq, ownSems0_split, hbm_split, whole_held_ex, whole_held_ex, whole_held_ex, whole_held_ex, whole_held_ex, whole_held]

/-- The sizes the kernel is given. -/
abbrev sizesOf (c : Dev nD) : S12.Idx → Elt F .i32 := V m c main_arg1

/-- The body at its point, from what the launch gives: it gives it back, with a result as described. -/
theorem wp_point (c : Dev nD) (hf : Fits (sizesOf m c)) (t : Fin cfg0.N) :
    iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, owns (c : Thread nD τ) (win0_1.stage (cfg0.slots t 1)) fullShare d))
    ⊢ wp frame (wpE (defs₀ (F := F)) 𝒱₀ (c : Thread nD τ) none) Set.univ (bodyAt0 t) fun _ =>
      iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, ⌜Result (sizesOf m c) (V m c main_arg0) (V m c main_arg2) (V m c main_arg3) d⌝ ∗ owns (c : Thread nD τ) (win0_1.stage (cfg0.slots t 1)) fullShare d)) := by
  rw [PhiD_parts]
  unfold bodyAt0
  iintro ⟨⟨⟨⟨%f7, H7⟩, ⟨%f8, H8⟩, ⟨%f9, H9⟩, H10, H11, H12, H5, H6⟩, Hg, ⟨Hw, Hs, Hx⟩, H1, HW, HS⟩, Ho, H0, ⟨%y0, H4⟩⟩
  unfold owns
  icases H0 with ⟨%f0, %h0, H0⟩
  icases H4 with ⟨%f4, %h4, H4⟩
  ihave H0 := (Entails.of_eq (pointsTo_of_read (m := win0_0.stage (cfg0.slots t 0)) (c : Thread nD τ) (g := (win0_0.stage (cfg0.slots t 0)).view.rep (sizesOf m c)) (by rw [View.read_rep]; exact h0))) $$ H0
  ihave H4 := (Entails.of_eq (pointsTo_of_read (m := win0_1.stage (cfg0.slots t 1)) (c : Thread nD τ) (g := (win0_1.stage (cfg0.slots t 1)).view.rep y0) (by rw [View.read_rep]; exact h4))) $$ H4
  ihave Hr := (idle_in c (V m c main_arg2) (V m c main_arg3)) $$ [H7 H8 HW HS Hw Hs]
  · isplitl [H7]; · iexists f7; iexact H7
    isplitl [H8]; · iexists f8; iexact H8
    isplitl [HW]; · iexact HW
    isplitl [HS]; · iexact HS
    isplitl [Hw]; · iexact Hw
    iexact Hs
  icases Hr with ⟨Hr, HW, HS⟩
  iapply (wp_wand frame (wpE (defs₀ (F := F)) 𝒱₀ (c : Thread nD τ) none) Set.univ) $$ [H0 H1 H4 H5 H6 H9 H10 H11 H12 Hr Hx Ho]
  · iapply (wp_body c _ (hstage0_0 0) (Memref.whole main_arg0) (Memref.isWhole_whole _) (Memref.whole main_arg2) (Memref.isWhole_whole _) (Memref.whole main_arg3) (Memref.isWhole_whole _)
      _ (hstage0_1 0) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) cc0_scratch8 cc0_scratch9 cc0_scratch10
      (sizesOf m c) hf (V m c main_arg0) (V m c main_arg2) (V m c main_arg3))
    isplitl [H0]; · iexact H0
    isplitl [H1]; · iexact H1
    isplitl [H4]; · iexists y0; iexact H4
    isplitl [H5]; · iexact H5
    isplitl [H6]; · iexact H6
    isplitl [H9]
    · iexists f9
      rw [show (Memref.whole cc0_scratch4).view.set = Finset.univ from View.set_whole _]
      iexact H9
    isplitl [H10]; · iexact H10
    isplitl [H11]; · iexact H11
    isplitl [H12]; · iexact H12
    isplitl [Hr]; · iexact Hr
    isplitl [Hx]; · iexact Hx
    iexact Ho
  iintro %_ ⟨H0, H1, ⟨%y, %hy, H4⟩, H5, H6, ⟨%g9, H9⟩, H10, H11, H12, Hr, Hx, Ho⟩
  ihave Hr := (idle_out c (V m c main_arg2) (V m c main_arg3) f7 f8) $$ [Hr HW HS]
  · isplitl [Hr]; · iexact Hr
    isplitl [HW]; · iexact HW
    iexact HS
  icases Hr with ⟨H7, H8, HW, HS, Hw, Hs⟩
  isplitl [H1 H5 H6 H7 H8 H9 H10 H11 H12 Hg Hw Hs Hx HW HS]
  · isplitl [H5 H6 H7 H8 H9 H10 H11 H12]
    · isplitl [H7]; · iexact H7
      isplitl [H8]; · iexact H8
      isplitl [H9]
      · iexists g9
        rw [show (Memref.whole cc0_scratch4).view.set = Finset.univ from View.set_whole _]
        iexact H9
      isplitl [H10]; · iexact H10
      isplitl [H11]; · iexact H11
      isplitl [H12]; · iexact H12
      isplitl [H5]; · iexact H5
      iexact H6
    isplitl [Hg]; · iexact Hg
    isplitl [Hw Hs Hx]
    · isplitl [Hw]; · iexact Hw
      isplitl [Hs]; · iexact Hs
      iexact Hx
    isplitl [H1]; · iexact H1
    isplitl [HW]; · iexact HW
    iexact HS
  isplitl [Ho]; · iexact Ho
  isplitl [H0]
  · iexists _
    isplitr; swap; · iexact H0
    ipureintro; exact View.read_rep _ _
  iexists y
  isplitr
  · ipureintro; exact hy
  iexists _
  isplitr; swap; · iexact H4
  ipureintro; exact View.read_rep _ _

/-! ## The run -/

open Idealize.ShloMosaic.Pipeline (RDat)

/-- The body table's row at the point is the body. -/
theorem defs₀_row (t : Fin cfg0.N) : defs₀ (F := F) .tc cfg0.body (cfg0.bodyArgs t (cfg0.slots t)) = bodyAt0 t := by
  unfold defs₀; rw [Defs.onTc_tc]

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

section Run

/-- What the run is told of the windows: the sizes stay, and the result is one the body may compute. -/
def rdats (c : Dev nD) : RDat τ (Elt F) Unit ℕ (Pipeline.UD sig nD τ) ℕ cfg0 c where
  A w := V m c (Pipeline.arrRef spec0 w)
  after w t Y X := match w with
    | ⟨0, _⟩ => X = Y
    | ⟨1, _⟩ => Result (sizesOf m c) (V m c main_arg0) (V m c main_arg2) (V m c main_arg3) X
    | ⟨_ + 2, h⟩ => absurd h (Nat.not_lt.2 (Nat.le_add_left _ _))
  Φ _ := Pipeline.ΦD osem0 spec0 H0 (V m) c
  q _ := fullShare
  owed _ := 0

theorem A_eq (c : Dev nD) (w : Fin cfg0.W) : (rdats m c).A w = V m c (Pipeline.arrRef spec0 w) := by dsimp only [rdats]

/-- The block of a window that is its whole array is the array. -/
theorem read_sizes (c : Dev nD) (f : Buf (Elt F) ((c : Thread nD τ).loc main_arg1)) : (win0_0.blk t0_0).view.read (Elt F) f = f :=
  Memref.read_access_unit_zero (Elt F) main_arg1
    (show (fun a => (win0_0.index t0_0) a * main_arg1.ty.shape.size a) = fun _ => 0 from
      funext fun a => by fin_cases a <;> decide) (fun a => by fin_cases a <;> decide) f

theorem read_result (c : Dev nD) (f : Buf (Elt F) ((c : Thread nD τ).loc main_v0)) : (win0_1.blk t0_0).view.read (Elt F) f = f :=
  Memref.read_access_unit_zero (Elt F) main_v0
    (show (fun a => (win0_1.index t0_0) a * main_v0.ty.shape.size a) = fun _ => 0 from
      funext fun a => by fin_cases a <;> decide) (fun a => by fin_cases a <;> decide) f

theorem finds_sizes (c : Dev nD) (t : Fin cfg0.N) (Y : (cfg0.win 0).block.Idx → Elt F (cfg0.win 0).elt) (h : (rdats m c).Finds 0 t Y) :
    Y = sizesOf m c := by
  rw [RDat.finds_of_fetch _ (fetch0_0 t)] at h
  obtain ⟨d, rfl⟩ := h
  rw [fin_N0 t]
  exact (show (rdats m c).fetched 0 t0_0 d = (win0_0.blk t0_0).view.read (Elt F) (V m c main_arg1) from rfl).trans (read_sizes c _)

/-- The point, with the core's debts as the pipeline states them. -/
theorem sound_body (c : Dev nD) (hf : Fits (sizesOf m c)) (t : Fin cfg0.N) :
    iprop((rdats m c).Φ t.castSucc ∗ (rdats m c).owesAt () t.castSucc
      ∗ owns (c : Thread nD τ) (win0_0.stage (cfg0.slots t 0)) fullShare (sizesOf m c)
      ∗ (∃ d, owns (c : Thread nD τ) (win0_1.stage (cfg0.slots t 1)) fullShare d))
    ⊢ wp frame (wpE (defs₀ (F := F)) 𝒱₀ (c : Thread nD τ) none) Set.univ (bodyAt0 t) fun _ =>
      iprop((rdats m c).Φ t.succ ∗ (rdats m c).owesAt () t.succ
      ∗ (∃ X, ⌜X = sizesOf m c⌝ ∗ owns (c : Thread nD τ) (win0_0.stage (cfg0.slots t 0)) fullShare X)
      ∗ (∃ d, ⌜Result (sizesOf m c) (V m c main_arg0) (V m c main_arg2) (V m c main_arg3) d⌝ ∗ owns (c : Thread nD τ) (win0_1.stage (cfg0.slots t 1)) fullShare d)) := by
  have hi : iprop((rdats m c).Φ t.castSucc ∗ (rdats m c).owesAt () t.castSucc
      ∗ owns (c : Thread nD τ) (win0_0.stage (cfg0.slots t 0)) fullShare (sizesOf m c)
      ∗ (∃ d, owns (c : Thread nD τ) (win0_1.stage (cfg0.slots t 1)) fullShare d))
      ⊢ iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, owns (c : Thread nD τ) (win0_1.stage (cfg0.slots t 1)) fullShare d)) := by
    unfold RDat.owesAt Pipeline.owesWithin
    dsimp only [rdats]
    iintro ⟨HΦ, ⟨%W, -, HO⟩, H0, H1⟩
    isplitl [HΦ]; · iexact HΦ
    isplitl [HO]; · iexists W; iexact HO
    isplitl [H0]; · iexact H0
    iexact H1
  have ho : iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, ⌜Result (sizesOf m c) (V m c main_arg0) (V m c main_arg2) (V m c main_arg3) d⌝ ∗ owns (c : Thread nD τ) (win0_1.stage (cfg0.slots t 1)) fullShare d))
      ⊢ iprop((rdats m c).Φ t.succ ∗ (rdats m c).owesAt () t.succ
      ∗ (∃ X, ⌜X = sizesOf m c⌝ ∗ owns (c : Thread nD τ) (win0_0.stage (cfg0.slots t 0)) fullShare X)
      ∗ (∃ d, ⌜Result (sizesOf m c) (V m c main_arg0) (V m c main_arg2) (V m c main_arg3) d⌝ ∗ owns (c : Thread nD τ) (win0_1.stage (cfg0.slots t 1)) fullShare d)) := by
    unfold RDat.owesAt Pipeline.owesWithin
    dsimp only [rdats]
    iintro ⟨HΦ, ⟨%W, HO⟩, H0, H1⟩
    isplitl [HΦ]; · iexact HΦ
    isplitl [HO]
    · iexists W
      isplitr; · ipureintro; exact fun _ _ => Or.inl trivial
      iexact HO
    isplitl [H0]
    · iexists _
      isplitr; swap; · iexact H0
      ipureintro; rfl
    iexact H1
  exact hi.trans ((wp_point m c hf t).trans ((wp frame (wpE (defs₀ (F := F)) 𝒱₀ (c : Thread nD τ) none) Set.univ (bodyAt0 t)).mono fun _ => ho))

theorem body_obligation (c : Dev nD) (hf : Fits (sizesOf m c)) :
    (rdats m c).BodyObligation (defs₀ (F := F)) Variants.none () Set.univ := fun t Y hY => by
  have h0 := finds_sizes m c t (Y 0) (hY 0)
  rw [bigSep_W0, bigSep_W0, defs₀_row, h0]
  refine triple_restated (sound_body m c hf t) rfl ?_ fun _ => ?_
  · exact sep_mono .rfl (sep_mono .rfl (sep_mono .rfl (exists_intro (Y 1))))
  · exact .rfl

variable (hf : ∀ c, Fits (sizesOf m c))
include hf

set_option backward.isDefEq.respectTransparency.types false in
/-- From any memory whose sizes fit, every execution ends, with the semaphores at zero, the arrays the program does
    not write as they were, and the result one the body may compute. -/
theorem run_main :
    θ_run defs (onTc (τ := τ) (main (F := F))) (s₀ m ρ)
      (fun r => Pipeline.RDat.FramePost (cfgs 0) (fun c => rdats m c) (V m) r ∧ r.2.sem = fun _ => 0) :=
  Pipeline.RDat.θ_run_frame_dma (Q' := _) cfgs (0 : Fin 1) launch0 osem0 defs₀ Variants.none (fun c => rdats m c) ownSemFacts0 H0 H0_sub m ρ main
    (hbody := fun c => body_obligation m c (hf c)) (hshare := fun c => (rdats m c).share_full fun _ => rfl)
    (howed := fun _ _ => rfl) (V := V m) (hmain := hmainD m Variants.none) (hA := A_eq m)
    (hin := fun _ => .rfl) (hout := fun _ => .rfl)

omit hf in
theorem result_of_arrAt (c : Dev nD) (f : Buf (Elt F) ((c : Thread nD τ).loc main_v0)) (h : (rdats m c).ArrAt 1 cfg0.N f) :
    Result (sizesOf m c) (V m c main_arg0) (V m c main_arg2) (V m c main_arg3) f := by
  have h1 : (rdats m c).ArrAt 1 1 f := h
  unfold RDat.ArrAt at h1
  rw [dif_pos (show 0 < cfg0.N from Nat.one_pos), if_pos (flush0_1 _)] at h1
  obtain ⟨G₀, X, -, ⟨Y, -, hX⟩, e⟩ := h1
  have e' : f = X := (read_result c f).symm.trans (by rw [e]; exact View.read_write_univ _ _)
  rw [e']
  exact hX

/-- The run in the words of the claims. -/
theorem run_ends :
    θ_run defs (onTc (τ := τ) (main (F := F))) (s₀ m ρ) fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ Result (sizesOf m c) (V m c main_arg0) (V m c main_arg2) (V m c main_arg3) (r.2.mem ((c : Thread nD τ).loc main_v0)))
      ∧ r.2.sem = fun _ => 0 :=
  (θ_run defs _ _).mono (fun r h => ⟨fun c => ⟨⟨
      (h.1 c).2 main_arg0 (Pipeline.mem_restRefs_of main_arg0 (by decide) (by decide)),
      by have := (h.1 c).1 0; rw [RDat.ArrAt_in _ 0 rfl] at this; exact this,
      (h.1 c).2 main_arg2 (Pipeline.mem_restRefs_of main_arg2 (by decide) (by decide)),
      (h.1 c).2 main_arg3 (Pipeline.mem_restRefs_of main_arg3 (by decide) (by decide))⟩,
      result_of_arrAt m c _ ((h.1 c).1 1)⟩, h.2⟩) (run_main m ρ hf)

end Run

end Cert.Kernel.Gen
-- ==== Proof.IdealCast.lean ====
/- The bodies of the kernel's loops over tiles and over chunks, read as blocks. -/
module

public import proofs.«01_k».proof.Proof.Mm
public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]
/-- The rest of one chunk's work, after the whole tiles: the last tile and the next transfer. -/
def t8Rest (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 : IVec S8x256 32) (v17 : IVec S8x256 32) (c32_i32 : BitVec 32) (v19 : IVec S8x256 32) (v26 : IVec S8x256 32) (v28 : BitVec 32) (v29 : BitVec 1) (k0_t5 : Fin (k0_t5_loop v1_0).trips) (v56 : BitVec 32) (v58 : BitVec 32) (k0_hw6 : k0_chk6 v1_0 k0_t5 v56 v58)
     (I1 : ∀ k0_t8 : Fin k0_t8_loop.trips, k0_cond1 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2) (I2 : ∀ k0_t8 : Fin k0_t8_loop.trips, k0_cond2 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4) (I3 : ∀ k0_t8 : Fin k0_t8_loop.trips, k0_cond3 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8) (I4 : ∀ k0_t8 : Fin k0_t8_loop.trips, k0_cond4 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16) :
    Fin k0_t8_loop.trips → Prog (TpuEff nD τ sig (Elt F) Λ₀ .tc) (BitVec 32) :=
  fun k0_t8 => do
    if k0_h1 : k0_cond1 v58 = 1#1 then (Mxfp8.block nD τ Λ₀ (Mxfp8.sides (F := F) (nt := 2) (by decide)) dot_S16x256_S256x256_S16x256_1_0_0_1_n_n (I1 k0_t8 k0_h1) (k0_pay1 v16 v17 c32_i32 v19 v26 v28 v29) arg7 arg8 arg10 arg11) else pure ⟨⟩
    if k0_h2 : k0_cond2 v58 = 1#1 then (Mxfp8.block nD τ Λ₀ (Mxfp8.sides (F := F) (nt := 4) (by decide)) dot_S32x256_S256x256_S32x256_1_0_0_1_n_n (I2 k0_t8 k0_h2) (k0_pay1 v16 v17 c32_i32 v19 v26 v28 v29) arg7 arg8 arg10 arg11) else pure ⟨⟩
    if k0_h3 : k0_cond3 v58 = 1#1 then (Mxfp8.block nD τ Λ₀ (Mxfp8.sides (F := F) (nt := 8) (by decide)) dot_S64x256_S256x256_S64x256_1_0_0_1_n_n (I3 k0_t8 k0_h3) (k0_pay1 v16 v17 c32_i32 v19 v26 v28 v29) arg7 arg8 arg10 arg11) else pure ⟨⟩
    if k0_h4 : k0_cond4 v58 = 1#1 then (Mxfp8.block nD τ Λ₀ (Mxfp8.sides (F := F) (nt := 16) (by decide)) dot_S128x256_S256x256_S128x256_1_0_0_1_n_n (I4 k0_t8 k0_h4) (k0_pay1 v16 v17 c32_i32 v19 v26 v28 v29) arg7 arg8 arg10 arg11) else pure ⟨⟩
    if k0_h5 : k0_cond5 v1_0 k0_t5 k0_t8 = 1#1 then do

      let v141 : Elt F .i32 ← smemLoad arg5 (Rect.unit (s := S13) (k0_off323 v1_0 k0_t5 k0_t8) S1.size (k0_off323_inb v1_0 k0_hw2 k0_t5 k0_t8 k0_h5)) numel1_S1 rfl
      have k0_hw8 : k0_chk8 v1_0 k0_t5 k0_t8 v141 := (← Prog.lift (TpuEff.assume (k0_chk8 v1_0 k0_t5 k0_t8 v141) (k0_chk8.dec v1_0 k0_t5 k0_t8 v141))).down

      let v147 : DmaSems sig S1 := arg13.slice (Rect.unit (s := S10) (k0_off324 v1_0 k0_t5 k0_t8) S1.size (k0_off324_inb v1_0 k0_hw2 k0_t5 k0_t8 k0_h5))
      let v148 : DmaSems sig S_ := v147.squeeze S_ squeezes_S1_S_
      let v149 : Memref sig .tc .vmem S1x1024x2048 .fp8e4m3 := arg7.slice (Rect.unit (s := S10x1024x2048) (k0_off325 v1_0 k0_t5 k0_t8) S1x1024x2048.size (k0_off325_inb v1_0 k0_hw2 k0_t5 k0_t8 k0_h5)) (fun _ => rfl)
      let v150 : Memref sig .tc .vmem S1024x2048 .fp8e4m3 := v149.squeeze S1024x2048 squeezes_S1x1024x2048_S1024x2048
      let v151 : Memref sig .tc .hbm S1x1024x2048 .fp8e4m3 := arg2.slice (Rect.unit (s := S12x7168x2048) (k0_off326 v1_0 k0_t5 k0_t8 v141) S1x1024x2048.size (k0_off326_inb v1_0 k0_t5 k0_t8 v141 k0_hw8 k0_h5)) (fun _ => rfl)
      let v152 : Memref sig .tc .hbm S1024x2048 .fp8e4m3 := v151.squeeze S1024x2048 squeezes_S1x1024x2048_S1024x2048
      Prog.lift (.enqueueDma v152 (.here v150) (.dma v148.sem) ((harg2.wordExact_slice rfl _ (k0_off326_wordsfp8e4m3 v1_0 k0_t5 k0_t8 v141 k0_hw8 k0_h5)).reshape _ _) ((harg7.wordExact_slice rfl _ (k0_off325_wordsfp8e4m3 v1_0 k0_hw2 k0_t5 k0_t8 k0_h5)).reshape _ _) ⟨Or.inl rfl, trivial⟩)
      let v153 : DmaSems sig S1 := arg14.slice (Rect.unit (s := S10) (k0_off327 v1_0 k0_t5 k0_t8) S1.size (k0_off327_inb v1_0 k0_hw2 k0_t5 k0_t8 k0_h5))
      let v154 : DmaSems sig S_ := v153.squeeze S_ squeezes_S1_S_
      let v155 : Memref sig .tc .vmem S1x32x2048 .i8 := arg8.slice (Rect.unit (s := S10x32x2048) (k0_off328 v1_0 k0_t5 k0_t8) S1x32x2048.size (k0_off328_inb v1_0 k0_hw2 k0_t5 k0_t8 k0_h5)) (fun _ => rfl)
      let v156 : Memref sig .tc .vmem S32x2048 .i8 := v155.squeeze S32x2048 squeezes_S1x32x2048_S32x2048
      let v157 : Memref sig .tc .hbm S1x32x2048 .i8 := arg3.slice (Rect.unit (s := S12x224x2048) (k0_off329 v1_0 k0_t5 k0_t8 v141) S1x32x2048.size (k0_off329_inb v1_0 k0_t5 k0_t8 v141 k0_hw8 k0_h5)) (fun _ => rfl)
      let v158 : Memref sig .tc .hbm S32x2048 .i8 := v157.squeeze S32x2048 squeezes_S1x32x2048_S32x2048
      Prog.lift (.enqueueDma v158 (.here v156) (.dma v154.sem) ((harg3.wordExact_slice rfl _ (k0_off329_wordsi8 v1_0 k0_t5 k0_t8 v141 k0_hw8 k0_h5)).reshape _ _) ((harg8.wordExact_slice rfl _ (k0_off328_wordsi8 v1_0 k0_hw2 k0_t5 k0_t8 k0_h5)).reshape _ _) ⟨Or.inl rfl, trivial⟩)
      pure ⟨⟩
    else do
      pure ⟨⟩
    pure 0#32

set_option maxHeartbeats 8000000 in
/-- The loop body over chunks is the part up to the whole tiles, then `t8Rest`. -/
theorem t8_eq (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 : IVec S8x256 32) (v17 : IVec S8x256 32) (c32_i32 : BitVec 32) (v19 : IVec S8x256 32) (v26 : IVec S8x256 32) (v28 : BitVec 32) (v29 : BitVec 1) (k0_t5 : Fin (k0_t5_loop v1_0).trips) (v56 : BitVec 32) (v58 : BitVec 32) (k0_hw6 : k0_chk6 v1_0 k0_t5 v56 v58)
     (I1 : ∀ k0_t8 : Fin k0_t8_loop.trips, k0_cond1 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2) (I2 : ∀ k0_t8 : Fin k0_t8_loop.trips, k0_cond2 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4) (I3 : ∀ k0_t8 : Fin k0_t8_loop.trips, k0_cond3 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8) (I4 : ∀ k0_t8 : Fin k0_t8_loop.trips, k0_cond4 v58 = 1#1 → (Mxfp8.offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16) (k0_t8 : Fin k0_t8_loop.trips) (x : BitVec 32) :
    ∃ K, k0_t8_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 (Scf.iv 0#32 1#32 k0_t5) v56 v58 k0_hw6 (Scalar.divsi v58 16#32) (Scalar.subi v58 (Scalar.muli (Scalar.divsi v58 16#32) 16#32)) k0_t8 x
        = (k0_part133 (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 (k0_pay1 v16 v17 c32_i32 v19 v26 v28 v29) k0_t5 (Scf.iv 0#32 1#32 k0_t5) v56 v58 k0_hw6 (Scalar.divsi v58 16#32) (Scalar.subi v58 (Scalar.muli (Scalar.divsi v58 16#32) 16#32)) 0#32 1#32 k0_t8).bind K
      ∧ K ⟨(Scf.iv 0#32 1#32 k0_t8), (Scalar.addi (Scalar.muli (Scf.iv 0#32 1#32 k0_t5) 7#32) (Scf.iv 0#32 1#32 k0_t8)), (Scalar.remsi (Scalar.addi (Scalar.muli (Scf.iv 0#32 1#32 k0_t5) 7#32) (Scf.iv 0#32 1#32 k0_t8)) 10#32), (Scalar.extui (Scalar.andi (Scalar.cmpi .sgt (Scalar.subi v58 (Scalar.muli (Scalar.divsi v58 16#32) 16#32)) 0#32) (Scalar.cmpi .sle (Scalar.subi v58 (Scalar.muli (Scalar.divsi v58 16#32) 16#32)) 2#32))), 0#32⟩ = t8Rest (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 v56 v58 k0_hw6 I1 I2 I3 I4 k0_t8 := by
  refine ⟨_, rfl, ?_⟩
  sl_kernel_rfl

set_option maxHeartbeats 8000000 in
/-- The loop body over whole tiles is a block of sixteen tokens. -/
theorem t9_eq (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v42 : IVec S8x256 1) (k0_t5 : Fin (k0_t5_loop v1_0).trips) (v56 : BitVec 32) (v58 : BitVec 32) (k0_hw6 : k0_chk6 v1_0 k0_t5 v56 v58) (k0_t8 : Fin k0_t8_loop.trips)
    (k0_t9 : Fin (k0_t9_loop v58).trips) (I : (Mxfp8.offsW v56 (Scf.iv 0#32 1#32 k0_t9) (Scf.iv 0#32 1#32 k0_t8) (Scalar.remsi (Scalar.addi (Scalar.muli (Scf.iv 0#32 1#32 k0_t5) 7#32) (Scf.iv 0#32 1#32 k0_t8)) 10#32)).Inb 16) (x : BitVec 32) :
    k0_t9_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v42 k0_t5 (Scf.iv 0#32 1#32 k0_t5) v56 v58 k0_hw6 (Scalar.divsi v58 16#32) (Scalar.subi v58 (Scalar.muli (Scalar.divsi v58 16#32) 16#32)) 0#32 1#32 k0_t8 (Scf.iv 0#32 1#32 k0_t8) (Scalar.remsi (Scalar.addi (Scalar.muli (Scf.iv 0#32 1#32 k0_t5) 7#32) (Scf.iv 0#32 1#32 k0_t8)) 10#32) k0_t9 x
      = (do Mxfp8.block nD τ Λ₀ (Mxfp8.sides (F := F) (nt := 16) (by decide)) dot_S128x256_S256x256_S128x256_1_0_0_1_n_n I v42 arg7 arg8 arg10 arg11
            pure 0#32) := by
  sl_kernel_rfl

end Cert.KernelIdeal.Gen
-- ==== Proof.IdealWords.lean ====
module

public import proofs.«01_k».proof.KernelIdeal

@[expose] public section

set_option maxRecDepth 16384

namespace Cert.KernelIdeal

open Idealize.ShloMosaic

/-- A word of thirteen values is the word of one of them. -/
theorem word_cases {B : ℕ} {P : BitVec 32 → Prop} (h : ∀ n : Fin B, P (BitVec.ofNat 32 n)) (v : BitVec 32) (hv : v.toNat < B) : P v := by
  have := h ⟨v.toNat, hv⟩
  simpa using this

theorem trips1 : k0_t1_loop.trips = 12 := by decide +kernel
theorem trips4 : k0_t4_loop.trips = 28 := by decide +kernel
theorem trips8 : k0_t8_loop.trips = 7 := by decide +kernel

theorem trips2 (v : BitVec 32) (hv : v.toNat < 13) : (k0_t2_loop v).trips = min (7 * v.toNat) 10 :=
  word_cases (P := fun v => (k0_t2_loop v).trips = min (7 * v.toNat) 10) (B := 13) (by decide +kernel) v hv

theorem trips3 (v : BitVec 32) (hv : v.toNat < 13) : (k0_t3_loop v).trips = 0 :=
  word_cases (P := fun v => (k0_t3_loop v).trips = 0) (B := 13) (by decide +kernel) v hv

theorem trips5 (v : BitVec 32) (hv : v.toNat < 13) : (k0_t5_loop v).trips = v.toNat :=
  word_cases (P := fun v => (k0_t5_loop v).trips = v.toNat) (B := 13) (by decide +kernel) v hv

theorem trips13 (v : BitVec 32) (hv : v.toNat < 13) : (k0_t13_loop v).trips = 0 :=
  word_cases (P := fun v => (k0_t13_loop v).trips = 0) (B := 13) (by decide +kernel) v hv

theorem trips6 (v : BitVec 32) (hv : v.toNat < 33) : (k0_t6_loop v).trips = (v.toNat + 15) / 16 * 16 :=
  word_cases (P := fun v => (k0_t6_loop v).trips = (v.toNat + 15) / 16 * 16) (B := 33) (by decide +kernel) v hv

theorem trips7 (v : BitVec 32) (hv : v.toNat < 33) : (k0_t7_loop v).trips = 0 :=
  word_cases (P := fun v => (k0_t7_loop v).trips = 0) (B := 33) (by decide +kernel) v hv

theorem trips9 (v : BitVec 32) (hv : v.toNat < 33) : (k0_t9_loop v).trips = v.toNat / 16 :=
  word_cases (P := fun v => (k0_t9_loop v).trips = v.toNat / 16) (B := 33) (by decide +kernel) v hv

theorem trips10 (v : BitVec 32) (hv : v.toNat < 33) : (k0_t10_loop v).trips = 0 :=
  word_cases (P := fun v => (k0_t10_loop v).trips = 0) (B := 33) (by decide +kernel) v hv

theorem trips11 (v : BitVec 32) (hv : v.toNat < 33) : (k0_t11_loop v).trips = v.toNat :=
  word_cases (P := fun v => (k0_t11_loop v).trips = v.toNat) (B := 33) (by decide +kernel) v hv

theorem trips12 (v : BitVec 32) (hv : v.toNat < 33) : (k0_t12_loop v).trips = 0 :=
  word_cases (P := fun v => (k0_t12_loop v).trips = 0) (B := 33) (by decide +kernel) v hv

theorem chk2 (v : BitVec 32) (hv : v.toNat < 13) : k0_chk2 v :=
  word_cases (P := k0_chk2) (B := 13) (by decide +kernel) v hv

theorem chk1 (v : BitVec 32) (hv : v.toNat < 13) : k0_chk1 v :=
  word_cases (P := k0_chk1) (B := 13) (by decide +kernel) v hv

theorem chk5 (v : BitVec 32) (hv : v.toNat < 12) : k0_chk5 v :=
  word_cases (P := k0_chk5) (B := 12) (by decide +kernel) v hv

/-- A window of three axes fits when it fits along each. -/
theorem inb3 {o s S : Fin 3 → ℕ} (h0 : o 0 + s 0 ≤ S 0) (h1 : o 1 + s 1 ≤ S 1) (h2 : o 2 + s 2 ≤ S 2) : ∀ a, o a + s a ≤ S a := by
  intro a
  match a with
  | 0 => exact h0
  | 1 => exact h1
  | 2 => exact h2

/-- A window of two axes fits when it fits along each. -/
theorem inb2 {o s S : Fin 2 → ℕ} (h0 : o 0 + s 0 ≤ S 0) (h1 : o 1 + s 1 ≤ S 1) : ∀ a, o a + s a ≤ S a := by
  intro a
  match a with
  | 0 => exact h0
  | 1 => exact h1

/-- The word of the slot that chunk `c` of the active expert `e` lies in. -/
def slotW (e c : ℕ) : BitVec 32 :=
  Scalar.remsi (Scalar.addi (Scalar.muli (Scf.iv 0#32 1#32 e) 7#32) (Scf.iv 0#32 1#32 c)) 10#32

theorem slotW_toNat (e c : ℕ) (he : e < 12) (hc : c < 7) : (slotW e c).toNat = (7 * e + c) % 10 := by
  have : ∀ (e : Fin 12) (c : Fin 7), (slotW e c).toNat = (7 * e.val + c.val) % 10 := by decide +kernel
  exact this ⟨e, he⟩ ⟨c, hc⟩

theorem slot_le (e c : ℕ) (he : e < 12) (hc : c < 7) : (Scalar.indexCast (slotW e c)).toNat + 1 ≤ 10 := by
  have : ∀ (e : Fin 12) (c : Fin 7), (Scalar.indexCast (slotW e c)).toNat + 1 ≤ 10 := by decide +kernel
  exact this ⟨e, he⟩ ⟨c, hc⟩

/-- The row of the token that a block's row stands for, as the kernel clamps it. -/
theorem tok_le (a b : BitVec 32) (n t : ℕ) (h : a.toNat + b.toNat * 16 + t < 2147483648) (hb : b.toNat ≤ 2) (ht : t ≤ 15) (ha : a.toNat ≤ 32) :
    (Scalar.indexCast (Scalar.minsi (Scalar.addi (Scalar.addi a (Scalar.muli b 16#32)) (BitVec.ofNat 32 t)) 31#32)).toNat = min (a.toNat + b.toNat * 16 + t) 31 := by
  have : ∀ (a : Fin 33) (b : Fin 3) (t : Fin 16), (Scalar.indexCast (Scalar.minsi (Scalar.addi (Scalar.addi (BitVec.ofNat 32 a) (Scalar.muli (BitVec.ofNat 32 b) 16#32)) (BitVec.ofNat 32 t)) 31#32)).toNat = min (a.val + b.val * 16 + t) 31 := by decide +kernel
  simpa using this ⟨a.toNat, by omega⟩ ⟨b.toNat, by omega⟩ ⟨t, by omega⟩

theorem col_le (c k : ℕ) (hc : c < 7) (hk : k < 4) :
    (Scalar.indexCast (Scalar.addi (Scalar.muli (Scf.iv 0#32 1#32 c) 1024#32) (BitVec.ofNat 32 (256 * k)))).toNat = 1024 * c + 256 * k := by
  have : ∀ (c : Fin 7) (k : Fin 4), (Scalar.indexCast (Scalar.addi (Scalar.muli (Scf.iv 0#32 1#32 c) 1024#32) (BitVec.ofNat 32 (256 * k.val)))).toNat = 1024 * c.val + 256 * k.val := by decide +kernel
  exact this ⟨c, hc⟩ ⟨k, hk⟩

end Cert.KernelIdeal
-- ==== Proof.IdealChk.lean ====
module

public import proofs.«01_k».proof.Proof.IdealWords

@[expose] public section

set_option maxRecDepth 16384

namespace Cert.KernelIdeal

open Idealize.ShloMosaic

theorem iv_toNat (n : ℕ) (h : n ≤ 33) : (Scf.iv 0#32 1#32 n).toNat = n := by
  have : ∀ n : Fin 34, (Scf.iv 0#32 1#32 n).toNat = n := by decide +kernel
  exact this ⟨n, by omega⟩

/-- Sixteen times the number of whole tiles of sixteen tokens. -/
theorem tiles_toNat (v : BitVec 32) (hv : v.toNat < 33) : (Scalar.divsi v 16#32).toNat = v.toNat / 16 :=
  word_cases (P := fun v => (Scalar.divsi v 16#32).toNat = v.toNat / 16) (B := 33) (by decide +kernel) v hv

theorem row_toNat (b : BitVec 32) (hb : b.toNat < 3) : (Scalar.indexCast (Scalar.muli (Scalar.muli b 16#32) 8#32)).toNat = 128 * b.toNat :=
  word_cases (P := fun b => (Scalar.indexCast (Scalar.muli (Scalar.muli b 16#32) 8#32)).toNat = 128 * b.toNat) (B := 3) (by decide +kernel) b hb

theorem row_dvd (b : BitVec 32) (hb : b.toNat < 3) : 8 ∣ (Scalar.muli (Scalar.muli b 16#32) 8#32).toNat :=
  word_cases (P := fun b => 8 ∣ (Scalar.muli (Scalar.muli b 16#32) 8#32).toNat) (B := 3) (by decide +kernel) b hb

theorem cond1_iff (v : BitVec 32) (hv : v.toNat < 33) : k0_cond1 v = 1#1 ↔ 0 < v.toNat % 16 ∧ v.toNat % 16 ≤ 2 :=
  word_cases (P := fun v => k0_cond1 v = 1#1 ↔ 0 < v.toNat % 16 ∧ v.toNat % 16 ≤ 2) (B := 33) (by decide +kernel) v hv
theorem cond2_iff (v : BitVec 32) (hv : v.toNat < 33) : k0_cond2 v = 1#1 ↔ 2 < v.toNat % 16 ∧ v.toNat % 16 ≤ 4 :=
  word_cases (P := fun v => k0_cond2 v = 1#1 ↔ 2 < v.toNat % 16 ∧ v.toNat % 16 ≤ 4) (B := 33) (by decide +kernel) v hv
theorem cond3_iff (v : BitVec 32) (hv : v.toNat < 33) : k0_cond3 v = 1#1 ↔ 4 < v.toNat % 16 ∧ v.toNat % 16 ≤ 8 :=
  word_cases (P := fun v => k0_cond3 v = 1#1 ↔ 4 < v.toNat % 16 ∧ v.toNat % 16 ≤ 8) (B := 33) (by decide +kernel) v hv
theorem cond4_iff (v : BitVec 32) (hv : v.toNat < 33) : k0_cond4 v = 1#1 ↔ 8 < v.toNat % 16 :=
  word_cases (P := fun v => k0_cond4 v = 1#1 ↔ 8 < v.toNat % 16) (B := 33) (by decide +kernel) v hv

/-- With a remainder the tiles before it number at most one. -/
theorem tail_row (v : BitVec 32) (hv : v.toNat < 33) (h : 0 < v.toNat % 16) (r : ℕ) (hr : r ≤ 128) :
    (Scalar.indexCast (Scalar.muli (Scalar.muli (Scalar.divsi v 16#32) 16#32) 8#32)).toNat + r ≤ 256 := by
  have h1 := tiles_toNat v hv
  rw [row_toNat _ (by omega), h1]; omega

theorem tile_row (n : ℕ) (hn : n < 2) (r : ℕ) (hr : r ≤ 128) :
    (Scalar.indexCast (Scalar.muli (Scalar.muli (Scf.iv 0#32 1#32 n) 16#32) 8#32)).toNat + r ≤ 256 := by
  have h1 := iv_toNat n (by omega)
  rw [row_toNat _ (by omega), h1]; omega

theorem x_row (a b : BitVec 32) (t : ℕ) (ha : a.toNat ≤ 32) (hb : b.toNat ≤ 2) (ht : t < 16) :
    (Scalar.indexCast (Scalar.minsi (Scalar.addi (Scalar.addi a (Scalar.muli b 16#32)) (BitVec.ofNat 32 t)) 31#32)).toNat + 1 ≤ 32 := by
  rw [tok_le a b 0 t (by omega) hb (by omega) ha]; omega

theorem x_col (c k : ℕ) (hc : c < 7) (hk : k < 4) :
    (Scalar.indexCast (Scalar.addi (Scalar.muli (Scf.iv 0#32 1#32 c) 1024#32) (BitVec.ofNat 32 (256 * k)))).toNat + 256 ≤ 7168 := by
  rw [col_le c k hc hk]; omega

theorem t5_lt {v : BitVec 32} (hv : v.toNat < 13) (t : Fin (k0_t5_loop v).trips) : t.val < 12 := by
  have := t.2.trans_eq (trips5 v hv); omega
theorem t8_lt (t : Fin k0_t8_loop.trips) : t.val < 7 := t.2.trans_eq trips8
theorem t9_lt {v : BitVec 32} (hv : v.toNat < 33) (t : Fin (k0_t9_loop v).trips) : t.val < 2 := by
  have := t.2.trans_eq (trips9 v hv); omega
theorem t7_no {v : BitVec 32} (hv : v.toNat < 33) (t : Fin (k0_t7_loop v).trips) : False := by
  have := t.2.trans_eq (trips7 v hv); omega
theorem t10_no {v : BitVec 32} (hv : v.toNat < 33) (t : Fin (k0_t10_loop v).trips) : False := by
  have := t.2.trans_eq (trips10 v hv); omega
theorem t12_no {v : BitVec 32} (hv : v.toNat < 33) (t : Fin (k0_t12_loop v).trips) : False := by
  have := t.2.trans_eq (trips12 v hv); omega

theorem tile_lt {v : BitVec 32} (hv : v.toNat < 33) (t : Fin (k0_t9_loop v).trips) : (Scf.iv 0#32 1#32 t).toNat < 3 := by
  have h := t9_lt hv t
  rw [iv_toNat _ (by omega)]; omega
theorem pos1 {v : BitVec 32} (hv : v.toNat < 33) (h : k0_cond1 v = 1#1) : 0 < v.toNat % 16 := ((cond1_iff v hv).1 h).1
theorem pos2 {v : BitVec 32} (hv : v.toNat < 33) (h : k0_cond2 v = 1#1) : 0 < v.toNat % 16 := Nat.lt_of_le_of_lt (Nat.zero_le _) ((cond2_iff v hv).1 h).1
theorem pos3 {v : BitVec 32} (hv : v.toNat < 33) (h : k0_cond3 v = 1#1) : 0 < v.toNat % 16 := Nat.lt_of_le_of_lt (Nat.zero_le _) ((cond3_iff v hv).1 h).1
theorem pos4 {v : BitVec 32} (hv : v.toNat < 33) (h : k0_cond4 v = 1#1) : 0 < v.toNat % 16 := Nat.lt_of_le_of_lt (Nat.zero_le _) ((cond4_iff v hv).1 h)

section Six
variable (v1 : BitVec 32) (h1 : v1.toNat < 13) (t5 : Fin (k0_t5_loop v1).trips) (v56 v58 : BitVec 32) (h56 : v56.toNat ≤ 32) (h58 : v58.toNat < 33)
  (hs : v56.toNat + v58.toNat ≤ 32)

theorem chk6_w (v : BitVec 32) (hv : v.toNat < 33) : ((k0_t6_loop v).OK ∧ (∀ t, 8 ∣ (k0_mult6 v t).toNat) ∧
    (∀ t, ∀ a, (k0_off20 v t) a + S8x2048.size a ≤ S256x2048.size a) ∧ (k0_t7_loop v).OK ∧ (k0_t9_loop v).OK ∧ (k0_t10_loop v).OK) ∧
    (k0_t11_loop v).OK ∧ (k0_t12_loop v).OK ∧ (∀ t, 8 ∣ (k0_mult266 v t).toNat) ∧
    (∀ t, ∀ a, (k0_off330 v t) a + S8x2048.size a ≤ S256x2048.size a) :=
  word_cases (P := fun v => ((k0_t6_loop v).OK ∧ (∀ t, 8 ∣ (k0_mult6 v t).toNat) ∧
    (∀ t, ∀ a, (k0_off20 v t) a + S8x2048.size a ≤ S256x2048.size a) ∧ (k0_t7_loop v).OK ∧ (k0_t9_loop v).OK ∧ (k0_t10_loop v).OK) ∧
    (k0_t11_loop v).OK ∧ (k0_t12_loop v).OK ∧ (∀ t, 8 ∣ (k0_mult266 v t).toNat) ∧
    (∀ t, ∀ a, (k0_off330 v t) a + S8x2048.size a ≤ S256x2048.size a)) (B := 33) (by decide +kernel) v hv

theorem out_row (t : ℕ) (ht : t < v58.toNat) (hs : v56.toNat + v58.toNat ≤ 32) :
    (Scalar.indexCast (Scalar.addi v56 (Scf.iv 0#32 1#32 t))).toNat = v56.toNat + t := by
  have h : (Scf.iv 0#32 1#32 t).toNat = t := iv_toNat t (by omega)
  show (v56 + Scf.iv 0#32 1#32 t).toNat = _
  rw [BitVec.toNat_add, h]; omega

theorem out_fits (t : ℕ) (ht : t < v58.toNat) (hs : v56.toNat + v58.toNat ≤ 32) :
    (Scalar.indexCast (Scalar.addi v56 (Scf.iv 0#32 1#32 t))).toNat + 1 ≤ 32 := by
  rw [out_row v56 v58 t ht hs]; omega

set_option maxHeartbeats 1000000 in
include h1 h56 h58 hs in
theorem chk6_0 : k0_chk6_0 v1 t5 v56 v58 := by
  have hw := chk6_w v58 h58
  have he := t5_lt h1 t5
  have hq := tiles_toNat v58 h58
  unfold k0_chk6_0
  refine ⟨hw.1.1, ?_⟩
  refine ⟨hw.1.2.1, ?_⟩
  refine ⟨hw.1.2.2.1, ?_⟩
  refine ⟨hw.1.2.2.2.1, ?_⟩
  iterate 2 refine ⟨fun t => (t7_no h58 t).elim, ?_⟩
  refine ⟨hw.1.2.2.2.2.1, ?_⟩
  refine ⟨fun t8 t r₁ r₂ => inb2 (x_row v56 (Scf.iv 0#32 1#32 t) r₁ h56 (Nat.le_of_lt_succ (tile_lt h58 t)) r₁.2) (x_col t8 r₂ (t8_lt t8) r₂.2), ?_⟩
  refine ⟨fun t => row_dvd (Scf.iv 0#32 1#32 t) (tile_lt h58 t), ?_⟩
  refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 2 refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_1 : k0_chk6_1 v1 t5 v56 v58 := by
  have hw := chk6_w v58 h58
  have he := t5_lt h1 t5
  have hq := tiles_toNat v58 h58
  unfold k0_chk6_1
  iterate 2 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun t => inb2 (tile_row t (t9_lt h58 t) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨hw.1.2.2.2.2.2, ?_⟩
  refine ⟨fun _ t => (t10_no h58 t).elim, ?_⟩
  refine ⟨fun t => (t10_no h58 t).elim, ?_⟩
  refine ⟨fun _ t => (t10_no h58 t).elim, ?_⟩
  refine ⟨fun t => (t10_no h58 t).elim, ?_⟩
  refine ⟨fun _ t => (t10_no h58 t).elim, ?_⟩
  exact fun _ t => (t10_no h58 t).elim

set_option maxHeartbeats 1000000 in
include h1 h56 h58 hs in
theorem chk6_2 : k0_chk6_2 v1 t5 v56 v58 := by
  have hw := chk6_w v58 h58
  have he := t5_lt h1 t5
  have hq := tiles_toNat v58 h58
  unfold k0_chk6_2
  iterate 3 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 3 refine ⟨fun _ t => (t10_no h58 t).elim, ?_⟩
  exact fun _ t => (t10_no h58 t).elim

set_option maxHeartbeats 1000000 in
include h1 h56 h58 hs in
theorem chk6_3 : k0_chk6_3 v1 t5 v56 v58 := by
  have hw := chk6_w v58 h58
  have he := t5_lt h1 t5
  have hq := tiles_toNat v58 h58
  unfold k0_chk6_3
  refine ⟨fun _ t => (t10_no h58 t).elim, ?_⟩
  refine ⟨fun t => (t10_no h58 t).elim, ?_⟩
  iterate 5 refine ⟨fun _ t => (t10_no h58 t).elim, ?_⟩
  refine ⟨fun t => (t10_no h58 t).elim, ?_⟩
  iterate 4 refine ⟨fun _ t => (t10_no h58 t).elim, ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 3 refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_4 : k0_chk6_4 v1 t5 v56 v58 := by
  have hw := chk6_w v58 h58
  have he := t5_lt h1 t5
  have hq := tiles_toNat v58 h58
  unfold k0_chk6_4
  refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos1 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  exact fun _ => row_dvd (Scalar.divsi v58 16#32) (by omega)

set_option maxHeartbeats 1000000 in
include h1 h56 h58 hs in
theorem chk6_5 : k0_chk6_5 v1 t5 v56 v58 := by
  have hw := chk6_w v58 h58
  have he := t5_lt h1 t5
  have hq := tiles_toNat v58 h58
  unfold k0_chk6_5
  refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  exact fun h => inb2 (tail_row v58 h58 (pos2 h58 h) _ (Nat.le_of_ble_eq_true rfl)) (Nat.le_of_ble_eq_true rfl)

set_option maxHeartbeats 1000000 in
include h1 h56 h58 hs in
theorem chk6_6 : k0_chk6_6 v1 t5 v56 v58 := by
  have hw := chk6_w v58 h58
  have he := t5_lt h1 t5
  have hq := tiles_toNat v58 h58
  unfold k0_chk6_6
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos2 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  exact fun h => inb2 (tail_row v58 h58 (pos3 h58 h) _ (Nat.le_of_ble_eq_true rfl)) (Nat.le_of_ble_eq_true rfl)

set_option maxHeartbeats 1000000 in
include h1 h56 h58 hs in
theorem chk6_7 : k0_chk6_7 v1 t5 v56 v58 := by
  have hw := chk6_w v58 h58
  have he := t5_lt h1 t5
  have hq := tiles_toNat v58 h58
  unfold k0_chk6_7
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos3 h58 h) _ (Nat.le_of_ble_eq_true rfl)) (Nat.le_of_ble_eq_true rfl), ?_⟩
  refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_8 : k0_chk6_8 v1 t5 v56 v58 := by
  have hw := chk6_w v58 h58
  have he := t5_lt h1 t5
  have hq := tiles_toNat v58 h58
  unfold k0_chk6_8
  iterate 2 refine ⟨fun t8 _ => inb3 (slot_le t5 t8 he (t8_lt t8)) (Nat.le_of_ble_eq_true rfl) (Nat.le_of_ble_eq_true rfl), ?_⟩
  refine ⟨fun t8 _ r₁ r₂ => inb2 (x_row v56 (Scalar.divsi v58 16#32) r₁ h56 (by omega) (by omega)) (x_col t8 r₂ (t8_lt t8) r₂.2), ?_⟩
  refine ⟨fun _ => row_dvd (Scalar.divsi v58 16#32) (by omega), ?_⟩
  refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  refine ⟨fun t8 _ => inb3 (slot_le t5 t8 he (t8_lt t8)) (Nat.le_of_ble_eq_true rfl) (Nat.le_of_ble_eq_true rfl), ?_⟩
  exact fun t8 _ => inb3 (slot_le t5 t8 he (t8_lt t8)) (Nat.le_of_ble_eq_true rfl) (Nat.le_of_ble_eq_true rfl)

set_option maxHeartbeats 1000000 in
include h1 h56 h58 hs in
theorem chk6_9 : k0_chk6_9 v1 t5 v56 v58 := by
  have hw := chk6_w v58 h58
  have he := t5_lt h1 t5
  have hq := tiles_toNat v58 h58
  unfold k0_chk6_9
  iterate 3 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 5 refine ⟨fun t8 _ => inb3 (slot_le t5 t8 he (t8_lt t8)) (Nat.le_of_ble_eq_true rfl) (Nat.le_of_ble_eq_true rfl), ?_⟩
  refine ⟨fun h => inb2 (tail_row v58 h58 (pos4 h58 h) _ (Nat.le_of_ble_eq_true rfl)) (Nat.le_of_ble_eq_true rfl), ?_⟩
  iterate 4 refine ⟨fun t8 _ => inb3 (slot_le t5 t8 he (t8_lt t8)) (Nat.le_of_ble_eq_true rfl) (Nat.le_of_ble_eq_true rfl), ?_⟩
  refine ⟨hw.2.1, ?_⟩
  refine ⟨hw.2.2.2.1, ?_⟩
  refine ⟨hw.2.2.2.2, ?_⟩
  refine ⟨fun t => inb2 (out_fits v56 v58 t (t.2.trans_eq (trips11 v58 h58)) hs) (Nat.le_of_ble_eq_true rfl), ?_⟩
  refine ⟨hw.2.2.1, ?_⟩
  iterate 2 refine ⟨fun t => (t12_no h58 t).elim, ?_⟩
  exact fun t => (t12_no h58 t).elim

include h1 h56 h58 hs in
theorem chk6 : k0_chk6 v1 t5 v56 v58 :=
  ⟨chk6_0 v1 h1 t5 v56 v58 h56 h58 hs, chk6_1 v1 h1 t5 v56 v58 h56 h58 hs, chk6_2 v1 h1 t5 v56 v58 h56 h58 hs, chk6_3 v1 h1 t5 v56 v58 h56 h58 hs, chk6_4 v1 h1 t5 v56 v58 h56 h58 hs, chk6_5 v1 h1 t5 v56 v58 h56 h58 hs, chk6_6 v1 h1 t5 v56 v58 h56 h58 hs, chk6_7 v1 h1 t5 v56 v58 h56 h58 hs, chk6_8 v1 h1 t5 v56 v58 h56 h58 hs, chk6_9 v1 h1 t5 v56 v58 h56 h58 hs⟩
end Six

end Cert.KernelIdeal
-- ==== Proof.IdealOffEq.lean ====
/- The kernel's printed offsets as numbers. -/
module

public import proofs.«01_k».proof.Proof.IdealChk
public import proofs.«01_k».proof.Proof.Mm

@[expose] public section

set_option maxRecDepth 16384

namespace Cert.KernelIdeal

open Idealize.ShloMosaic

theorem off3 (v : BitVec 32) (hv : v.toNat < 13) (t : Fin (k0_t2_loop v).trips) : k0_off3 v t = ![t.val / 7] :=
  word_cases (P := fun v => ∀ t : Fin (k0_t2_loop v).trips, k0_off3 v t = ![t.val / 7]) (B := 13) (by decide +kernel) v hv t
theorem off4 (v : BitVec 32) (hv : v.toNat < 13) (t : Fin (k0_t2_loop v).trips) : k0_off4 v t = ![t.val % 10] :=
  word_cases (P := fun v => ∀ t : Fin (k0_t2_loop v).trips, k0_off4 v t = ![t.val % 10]) (B := 13) (by decide +kernel) v hv t
theorem off5 (v : BitVec 32) (hv : v.toNat < 13) (t : Fin (k0_t2_loop v).trips) : k0_off5 v t = ![t.val % 10, 0, 0] :=
  word_cases (P := fun v => ∀ t : Fin (k0_t2_loop v).trips, k0_off5 v t = ![t.val % 10, 0, 0]) (B := 13) (by decide +kernel) v hv t
theorem off6 (v e : BitVec 32) (hv : v.toNat < 13) (he : e.toNat < 12) (t : Fin (k0_t2_loop v).trips) : k0_off6 v t e = ![e.toNat, 1024 * (t.val % 7), 0] :=
  word_cases (P := fun e => ∀ t : Fin (k0_t2_loop v).trips, k0_off6 v t e = ![e.toNat, 1024 * (t.val % 7), 0])
    (word_cases (P := fun v => ∀ e' : Fin 12, ∀ t : Fin (k0_t2_loop v).trips, k0_off6 v t (BitVec.ofNat 32 e') = ![(BitVec.ofNat 32 e').toNat, 1024 * (t.val % 7), 0]) (B := 13) (by decide +kernel) v hv) e he t
theorem off7 (v : BitVec 32) (hv : v.toNat < 13) (t : Fin (k0_t2_loop v).trips) : k0_off7 v t = ![t.val % 10] :=
  word_cases (P := fun v => ∀ t : Fin (k0_t2_loop v).trips, k0_off7 v t = ![t.val % 10]) (B := 13) (by decide +kernel) v hv t
theorem off8 (v : BitVec 32) (hv : v.toNat < 13) (t : Fin (k0_t2_loop v).trips) : k0_off8 v t = ![t.val % 10, 0, 0] :=
  word_cases (P := fun v => ∀ t : Fin (k0_t2_loop v).trips, k0_off8 v t = ![t.val % 10, 0, 0]) (B := 13) (by decide +kernel) v hv t
theorem off9 (v e : BitVec 32) (hv : v.toNat < 13) (he : e.toNat < 12) (t : Fin (k0_t2_loop v).trips) : k0_off9 v t e = ![e.toNat, 32 * (t.val % 7), 0] :=
  word_cases (P := fun e => ∀ t : Fin (k0_t2_loop v).trips, k0_off9 v t e = ![e.toNat, 32 * (t.val % 7), 0])
    (word_cases (P := fun v => ∀ e' : Fin 12, ∀ t : Fin (k0_t2_loop v).trips, k0_off9 v t (BitVec.ofNat 32 e') = ![(BitVec.ofNat 32 e').toNat, 32 * (t.val % 7), 0]) (B := 13) (by decide +kernel) v hv) e he t
theorem off22 (v : BitVec 32) (hv : v.toNat < 13) (t : Fin (k0_t5_loop v).trips) (u : Fin k0_t8_loop.trips) : k0_off22 v t u = ![t.val] :=
  word_cases (P := fun v => ∀ (t : Fin (k0_t5_loop v).trips) (u : Fin k0_t8_loop.trips), k0_off22 v t u = ![t.val]) (B := 13) (by decide +kernel) v hv t u
theorem off23 (v : BitVec 32) (hv : v.toNat < 13) (t : Fin (k0_t5_loop v).trips) (u : Fin k0_t8_loop.trips) : k0_off23 v t u = ![(7 * t.val + u.val) % 10] :=
  word_cases (P := fun v => ∀ (t : Fin (k0_t5_loop v).trips) (u : Fin k0_t8_loop.trips), k0_off23 v t u = ![(7 * t.val + u.val) % 10]) (B := 13) (by decide +kernel) v hv t u
theorem off26 (v : BitVec 32) (hv : v.toNat < 13) (t : Fin (k0_t5_loop v).trips) (u : Fin k0_t8_loop.trips) : k0_off26 v t u = ![(7 * t.val + u.val) % 10] :=
  word_cases (P := fun v => ∀ (t : Fin (k0_t5_loop v).trips) (u : Fin k0_t8_loop.trips), k0_off26 v t u = ![(7 * t.val + u.val) % 10]) (B := 13) (by decide +kernel) v hv t u
theorem off323 (v : BitVec 32) (hv : v.toNat < 13) (t : Fin (k0_t5_loop v).trips) (u : Fin k0_t8_loop.trips) : k0_off323 v t u = ![((7 * t.val + u.val) + 10) / 7] :=
  word_cases (P := fun v => ∀ (t : Fin (k0_t5_loop v).trips) (u : Fin k0_t8_loop.trips), k0_off323 v t u = ![((7 * t.val + u.val) + 10) / 7]) (B := 13) (by decide +kernel) v hv t u
theorem off324 (v : BitVec 32) (hv : v.toNat < 13) (t : Fin (k0_t5_loop v).trips) (u : Fin k0_t8_loop.trips) : k0_off324 v t u = ![(7 * t.val + u.val) % 10] :=
  word_cases (P := fun v => ∀ (t : Fin (k0_t5_loop v).trips) (u : Fin k0_t8_loop.trips), k0_off324 v t u = ![(7 * t.val + u.val) % 10]) (B := 13) (by decide +kernel) v hv t u
theorem off325 (v : BitVec 32) (hv : v.toNat < 13) (t : Fin (k0_t5_loop v).trips) (u : Fin k0_t8_loop.trips) : k0_off325 v t u = ![(7 * t.val + u.val) % 10, 0, 0] :=
  word_cases (P := fun v => ∀ (t : Fin (k0_t5_loop v).trips) (u : Fin k0_t8_loop.trips), k0_off325 v t u = ![(7 * t.val + u.val) % 10, 0, 0]) (B := 13) (by decide +kernel) v hv t u
theorem off326 (v e : BitVec 32) (hv : v.toNat < 13) (he : e.toNat < 12) (t : Fin (k0_t5_loop v).trips) (u : Fin k0_t8_loop.trips) : k0_off326 v t u e = ![e.toNat, 1024 * (((7 * t.val + u.val) + 10) % 7), 0] :=
  word_cases (P := fun e => ∀ (t : Fin (k0_t5_loop v).trips) (u : Fin k0_t8_loop.trips), k0_off326 v t u e = ![e.toNat, 1024 * (((7 * t.val + u.val) + 10) % 7), 0])
    (word_cases (P := fun v => ∀ e' : Fin 12, ∀ (t : Fin (k0_t5_loop v).trips) (u : Fin k0_t8_loop.trips), k0_off326 v t u (BitVec.ofNat 32 e') = ![(BitVec.ofNat 32 e').toNat, 1024 * (((7 * t.val + u.val) + 10) % 7), 0]) (B := 13) (by decide +kernel) v hv) e he t u
theorem off327 (v : BitVec 32) (hv : v.toNat < 13) (t : Fin (k0_t5_loop v).trips) (u : Fin k0_t8_loop.trips) : k0_off327 v t u = ![(7 * t.val + u.val) % 10] :=
  word_cases (P := fun v => ∀ (t : Fin (k0_t5_loop v).trips) (u : Fin k0_t8_loop.trips), k0_off327 v t u = ![(7 * t.val + u.val) % 10]) (B := 13) (by decide +kernel) v hv t u
theorem off328 (v : BitVec 32) (hv : v.toNat < 13) (t : Fin (k0_t5_loop v).trips) (u : Fin k0_t8_loop.trips) : k0_off328 v t u = ![(7 * t.val + u.val) % 10, 0, 0] :=
  word_cases (P := fun v => ∀ (t : Fin (k0_t5_loop v).trips) (u : Fin k0_t8_loop.trips), k0_off328 v t u = ![(7 * t.val + u.val) % 10, 0, 0]) (B := 13) (by decide +kernel) v hv t u
theorem off329 (v e : BitVec 32) (hv : v.toNat < 13) (he : e.toNat < 12) (t : Fin (k0_t5_loop v).trips) (u : Fin k0_t8_loop.trips) : k0_off329 v t u e = ![e.toNat, 32 * (((7 * t.val + u.val) + 10) % 7), 0] :=
  word_cases (P := fun e => ∀ (t : Fin (k0_t5_loop v).trips) (u : Fin k0_t8_loop.trips), k0_off329 v t u e = ![e.toNat, 32 * (((7 * t.val + u.val) + 10) % 7), 0])
    (word_cases (P := fun v => ∀ e' : Fin 12, ∀ (t : Fin (k0_t5_loop v).trips) (u : Fin k0_t8_loop.trips), k0_off329 v t u (BitVec.ofNat 32 e') = ![(BitVec.ofNat 32 e').toNat, 32 * (((7 * t.val + u.val) + 10) % 7), 0]) (B := 13) (by decide +kernel) v hv) e he t u
theorem cond5_iff (v : BitVec 32) (hv : v.toNat < 13) (t : Fin (k0_t5_loop v).trips) (u : Fin k0_t8_loop.trips) : k0_cond5 v t u = 1#1 ↔ (7 * t.val + u.val) + 10 < 7 * v.toNat :=
  word_cases (P := fun v => ∀ (t : Fin (k0_t5_loop v).trips) (u : Fin k0_t8_loop.trips), k0_cond5 v t u = 1#1 ↔ (7 * t.val + u.val) + 10 < 7 * v.toNat) (B := 13) (by decide +kernel) v hv t u
theorem off1 (t : Fin k0_t1_loop.trips) : k0_off1 t = ![t.val] := by
  have : ∀ t : Fin k0_t1_loop.trips, k0_off1 t = ![t.val] := by decide +kernel
  exact this t
theorem off17 (t : Fin k0_t4_loop.trips) : k0_off17 t = ![0, 256 * t.val] := by
  have : ∀ t : Fin k0_t4_loop.trips, k0_off17 t = ![0, 256 * t.val] := by decide +kernel
  exact this t
theorem off18 (v : BitVec 32) (hv : v.toNat < 13) (t : Fin (k0_t5_loop v).trips) : k0_off18 v t = ![t.val] :=
  word_cases (P := fun v => ∀ t : Fin (k0_t5_loop v).trips, k0_off18 v t = ![t.val]) (B := 13) (by decide +kernel) v hv t
theorem off20 (v : BitVec 32) (hv : v.toNat < 33) (t : Fin (k0_t6_loop v).trips) : k0_off20 v t = ![8 * t.val, 0] :=
  word_cases (P := fun v => ∀ t : Fin (k0_t6_loop v).trips, k0_off20 v t = ![8 * t.val, 0]) (B := 33) (by decide +kernel) v hv t
theorem off330 (v : BitVec 32) (hv : v.toNat < 33) (t : Fin (k0_t11_loop v).trips) : k0_off330 v t = ![8 * t.val, 0] :=
  word_cases (P := fun v => ∀ t : Fin (k0_t11_loop v).trips, k0_off330 v t = ![8 * t.val, 0]) (B := 33) (by decide +kernel) v hv t
theorem off331 (r v : BitVec 32) (hr : r.toNat < 33) (hv : v.toNat < 33) (hs : r.toNat + v.toNat ≤ 32) (t : Fin (k0_t11_loop v).trips) :
    k0_off331 r v t = ![r.toNat + t.val, 0] :=
  word_cases (P := fun r => ∀ t : Fin (k0_t11_loop v).trips, r.toNat + v.toNat ≤ 32 → k0_off331 r v t = ![r.toNat + t.val, 0])
    (word_cases (P := fun v => ∀ r : Fin 33, ∀ t : Fin (k0_t11_loop v).trips, (BitVec.ofNat 32 r).toNat + v.toNat ≤ 32 → k0_off331 (BitVec.ofNat 32 r) v t = ![(BitVec.ofNat 32 r).toNat + t.val, 0])
      (B := 33) (by decide +kernel) v hv) r hr t hs

/-- A block's windows lie in their buffers. -/
theorem inbW (nt : ℕ) (hn : nt ≤ 16) (v56 b : BitVec 32) (j c : ℕ) (hj : j < 12) (hc : c < 7) (h56 : v56.toNat ≤ 32) (hb : b.toNat ≤ 2)
    (hrow : 128 * b.toNat + 8 * nt ≤ 256) : (Mxfp8.offsW v56 b (Scf.iv 0#32 1#32 c)
      (Scalar.remsi (Scalar.addi (Scalar.muli (Scf.iv 0#32 1#32 j) 7#32) (Scf.iv 0#32 1#32 c)) 10#32)).Inb nt where
  X t k ht hk := inb2 (x_row v56 b t h56 hb (by omega)) (x_col c k hc hk)
  S n hn := inb3 (slot_le j c hj hc) (le_refl 32) (by show 256 * n + 256 ≤ 2048; omega)
  W n k hn hk := inb3 (slot_le j c hj hc) (by show 256 * k + 256 ≤ 1024; omega) (by show 256 * n + 256 ≤ 2048; omega)
  A n hn := inb2 (by
      show (Scalar.indexCast (Scalar.muli (Scalar.muli b 16#32) 8#32)).toNat + 8 * nt ≤ 256
      rw [row_toNat b (by omega)]; exact hrow) (by show 256 * n + 256 ≤ 2048; omega)

end Cert.KernelIdeal
-- ==== Proof.IdealChkDma.lean ====
module

public import proofs.«01_k».proof.Proof.IdealWords

@[expose] public section

set_option maxRecDepth 16384

namespace Cert.KernelIdeal

open Idealize.ShloMosaic

theorem chk3 (v e : BitVec 32) (hv : v.toNat < 13) (he : e.toNat < 12) (t : Fin (k0_t2_loop v).trips) : k0_chk3 v t e :=
  word_cases (P := fun e => ∀ t : Fin (k0_t2_loop v).trips, k0_chk3 v t e)
    (word_cases (P := fun v => ∀ e : Fin 12, ∀ t : Fin (k0_t2_loop v).trips, k0_chk3 v t (BitVec.ofNat 32 e)) (B := 13) (by decide +kernel) v hv) e he t

theorem chk7 (v e : BitVec 32) (hv : v.toNat < 13) (he : e.toNat < 12) (t : Fin (k0_t5_loop v).trips) (u : Fin k0_t8_loop.trips) : k0_chk7 v t u e :=
  word_cases (P := fun e => ∀ (t : Fin (k0_t5_loop v).trips) (u : Fin k0_t8_loop.trips), k0_chk7 v t u e)
    (word_cases (P := fun v => ∀ e : Fin 12, ∀ (t : Fin (k0_t5_loop v).trips) (u : Fin k0_t8_loop.trips), k0_chk7 v t u (BitVec.ofNat 32 e))
      (B := 13) (by decide +kernel) v hv) e he t u

theorem chk8 (v e : BitVec 32) (hv : v.toNat < 13) (he : e.toNat < 12) (t : Fin (k0_t5_loop v).trips) (u : Fin k0_t8_loop.trips) : k0_chk8 v t u e :=
  word_cases (P := fun e => ∀ (t : Fin (k0_t5_loop v).trips) (u : Fin k0_t8_loop.trips), k0_chk8 v t u e)
    (word_cases (P := fun v => ∀ e : Fin 12, ∀ (t : Fin (k0_t5_loop v).trips) (u : Fin k0_t8_loop.trips), k0_chk8 v t u (BitVec.ofNat 32 e))
      (B := 13) (by decide +kernel) v hv) e he t u

end Cert.KernelIdeal
-- ==== Proof.IdealLoops1.lean ====
/- The loops that clear an accumulator and that write an expert's tokens, trip by trip. -/
module

public import proofs.«01_k».proof.Proof.Spec
public import proofs.«01_k».proof.Proof.IdealCast
public import proofs.«01_k».proof.Proof.IdealOffEq
public import proofs.«01_k».proof.Proof.IdealChkDma

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- No variants: no loop here is unbounded. -/
abbrev 𝒱₀ : Variants := Variants.none

theorem window_congr {α : Type} {n : ℕ} {dims : Fin n → ℕ} (x : (⟨n, dims⟩ : Shape).Idx → α) {off off' : Fin n → ℕ} (size : Fin n → ℕ) (h : off = off')
    (i : ∀ a, off a + size a ≤ dims a) (i' : ∀ a, off' a + size a ≤ dims a) :
    window (s := ⟨n, dims⟩) x off size i = window (s := ⟨n, dims⟩) x off' size i' := by
  subst h; rfl

/-- One trip of the clearing loop. -/
theorem wp_t6 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_t5 : Fin (k0_t5_loop v1_0).trips) (v56 v58 : BitVec 32) (hv : v58.toNat < 33)
    (k0_hw6 : k0_chk6 v1_0 k0_t5 v56 v58) (t : Fin (k0_t6_loop v58).trips) (x : BitVec 32) (P : Parts F) (hP : P.zero = k0_pay2 (F := F)) (A : Acc F) :
    ((arg11.view.loc (c : Thread nD τ) ↦[arg11.view.set]{fullShare} arg11.view.rep (clearVal P t A)) : sProp (MT nD τ sig Unit (Elt F) ℕ (Pipeline.UD sig nD τ) ℕ))
      ⊢ wp frame (wpE (defs₀ (F := F)) 𝒱₀ (c : Thread nD τ) none) Set.univ (k0_t6_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 k0_hw6 t x)
        fun _ => (arg11.view.loc (c : Thread nD τ) ↦[arg11.view.set]{fullShare} arg11.view.rep (clearVal P (t.val + 1) A)) := by
  unfold k0_t6_body
  rw [show clearVal P (t.val + 1) A = put (clearVal P t A) (k0_off20 v58 t) S8x2048.size (k0_pay2 (F := F)) by
    rw [off20 v58 hv t, ← hP]; rfl]
  iintro H
  iapply (wp_ld (defs := defs₀ (F := F)) 𝒱₀ (c : Thread nD τ) none Set.univ (m := arg11) (View.setOn_subset_set _ _)) $$ H
  iintro H
  iapply (wp_st (defs := defs₀ (F := F)) 𝒱₀ (c : Thread nD τ) none Set.univ (m := arg11)) $$ H
  iintro H
  try simp only [prog_ret_bind, prog_pure]
  rw [wp_ret]
  imodintro
  iexact H

/-- One trip of the loop over an expert's tokens. -/
theorem wp_t11 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_t5 : Fin (k0_t5_loop v1_0).trips) (v56 v58 : BitVec 32) (h56 : v56.toNat < 33) (hv : v58.toNat < 33)
    (hs : v56.toNat + v58.toNat ≤ 32)
    (k0_hw6 : k0_chk6 v1_0 k0_t5 v56 v58) (t : Fin (k0_t11_loop v58).trips) (x : BitVec 32) (P : Parts F) (hP : P.sum = k0_pay8 (F := F)) (A : Acc F) (O : Out F) :
    iprop((arg11.view.loc (c : Thread nD τ) ↦[arg11.view.set]{fullShare} arg11.view.rep A) ∗ (arg12.view.loc (c : Thread nD τ) ↦[arg12.view.set]{fullShare} arg12.view.rep (emitVal P v56.toNat A t O)) : sProp (MT nD τ sig Unit (Elt F) ℕ (Pipeline.UD sig nD τ) ℕ))
      ⊢ wp frame (wpE (defs₀ (F := F)) 𝒱₀ (c : Thread nD τ) none) Set.univ (k0_t11_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 k0_hw6 t x)
        fun _ => iprop((arg11.view.loc (c : Thread nD τ) ↦[arg11.view.set]{fullShare} arg11.view.rep A) ∗ (arg12.view.loc (c : Thread nD τ) ↦[arg12.view.set]{fullShare} arg12.view.rep (emitVal P v56.toNat A (t.val + 1) O))) := by
  have ht : t.val < 32 := by have := t.2.trans_eq (trips11 v58 hv); omega
  have e1 := off330 v58 hv t
  have e2 := off331 v56 v58 h56 hv hs t
  have e3 : emitVal P v56.toNat A (t.val + 1) O = put (emitVal P v56.toNat A t O) (k0_off331 v56 v58 t) S1x2048.size
      (k0_pay8 (F := F) (window A (k0_off330 v58 t) S8x2048.size (k0_off330_inb v1_0 k0_t5 v56 v58 k0_hw6 t))) := by
    rw [e2, ← hP]
    have e4 : accRow P A t = window A (k0_off330 v58 t) S8x2048.size (k0_off330_inb v1_0 k0_t5 v56 v58 k0_hw6 t) := by
      unfold accRow
      rw [dif_pos (show ∀ a, (![8 * t.val, 0] : Fin 2 → ℕ) a + S8x2048.size a ≤ S256x2048.size a by
        intro a
        match a with
        | ⟨0, _⟩ => show 8 * t.val + 8 ≤ 256; omega
        | ⟨1, _⟩ => show 0 + 2048 ≤ 2048; omega)]
      exact window_congr A _ e1.symm _ _
    rw [← e4]
    rfl
  rw [e3]
  unfold k0_t11_body
  iintro ⟨H, H2⟩
  iapply (wp_ld (defs := defs₀ (F := F)) 𝒱₀ (c : Thread nD τ) none Set.univ (m := arg11) (View.setOn_subset_set _ _)) $$ H
  iintro H
  iapply (wp_ld (defs := defs₀ (F := F)) 𝒱₀ (c : Thread nD τ) none Set.univ (m := arg12) (View.setOn_subset_set _ _)) $$ H2
  iintro H2
  iapply (wp_st (defs := defs₀ (F := F)) 𝒱₀ (c : Thread nD τ) none Set.univ (m := arg12)) $$ H2
  iintro H2
  try simp only [prog_ret_bind, prog_pure]
  rw [wp_ret]
  imodintro
  isplitl [H] <;> iassumption

end Cert.KernelIdeal.Gen
-- ==== Proof.IdealLoops2.lean ====
/- A chunk's blocks, in the slot that holds its weights and scales. -/
module

public import proofs.«01_k».proof.Proof.IdealLoops1
public import proofs.«01_k».proof.Proof.Slots

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- What the kernel is made of besides its loops, of the mask it prepares. -/
def kParts (mask : IVec S8x256 1) : Parts F where
  d2 := dot_S16x256_S256x256_S16x256_1_0_0_1_n_n
  d4 := dot_S32x256_S256x256_S32x256_1_0_0_1_n_n
  d8 := dot_S64x256_S256x256_S64x256_1_0_0_1_n_n
  d16 := dot_S128x256_S256x256_S128x256_1_0_0_1_n_n
  mask := mask
  zero := k0_pay2 (F := F)
  sum := k0_pay8 (F := F)

section Work

variable (c : Dev nD) (xs : Memref sig .tc .vmem Mxfp8.S32x7168 .f32) (wb : Memref sig .tc .vmem Mxfp8.S10x1024x2048 .fp8e4m3) (sb : Memref sig .tc .vmem Mxfp8.S10x32x2048 .i8)
  (acc : Memref sig .tc .vmem Mxfp8.S256x2048 .f32) (q : PosShare TreeShare) (m : ℕ) (hm : m < 10)
  (X : Mxfp8.S32x7168.Idx → Elt F .f32) (W : Mxfp8.S10x1024x2048.Idx → Elt F .fp8e4m3) (S : Mxfp8.S10x32x2048.Idx → Elt F .i8)

/-- A chunk's work: the activations, the slot's weights and scales, and the accumulator. -/
def Work (A : Acc F) : sProp (MT nD τ sig Unit (Elt F) ℕ (Pipeline.UD sig nD τ) ℕ) :=
  iprop((xs.view.loc (c : Thread nD τ) ↦[xs.view.set]{q} xs.view.rep X)
        ∗ (wb.view.loc (c : Thread nD τ) ↦[slotSet (c : Thread nD τ) wb m hm]{fullShare} wb.view.rep W)
        ∗ (sb.view.loc (c : Thread nD τ) ↦[slotSet (c : Thread nD τ) sb m hm]{fullShare} sb.view.rep S)
        ∗ (acc.view.loc (c : Thread nD τ) ↦[acc.view.set]{fullShare} acc.view.rep A) : sProp (MT nD τ sig Unit (Elt F) ℕ (Pipeline.UD sig nD τ) ℕ))

/-- A block, in a slot. -/
theorem wp_work {nt : ℕ} (h2 : 2 ≤ nt) (d : DotDims (SRow nt) Mxfp8.S256x256 (SRow nt)) (mask : IVec Mxfp8.S8x256 1) {v b cc sl : BitVec 32}
    (I : (offsW v b cc sl).Inb nt) (hsl : (Scalar.indexCast sl).toNat = m) (A : Acc F) {Q : PUnit → sProp (MT nD τ sig Unit (Elt F) ℕ (Pipeline.UD sig nD τ) ℕ)} :
    Work c xs wb sb acc q m hm X W S A
      ⊢ iprop((Work c xs wb sb acc q m hm X W S (stepVal X h2 d mask (offsW v b cc sl) W S A) -∗ Q ⟨⟩)
        -∗ wp frame (wpE (defs₀ (F := F)) 𝒱₀ (c : Thread nD τ) none) Set.univ (Mxfp8.block nD τ Λ₀ (Mxfp8.sides (F := F) h2) d I mask wb sb xs acc) Q) := by
  rw [stepVal_eq X h2 d mask I W S A]
  unfold Work
  exact wp_block (Mxfp8.sides h2) d I mask 𝒱₀ c none Set.univ xs wb sb acc X W S
    (fun n k hn hk => win_slot (c : Thread nD τ) wb m hm (show (Scalar.indexCast sl).toNat = m from hsl) rfl (I.W n k hn hk))
    (fun n hn => win_slot (c : Thread nD τ) sb m hm (show (Scalar.indexCast sl).toNat = m from hsl) rfl (I.S n hn)) A

/-- The last tile before what follows it. -/
theorem wp_tail_jp (P : Parts F) {nt : ℕ} (h2 : 2 ≤ nt) (d : DotDims (SRow nt) Mxfp8.S256x256 (SRow nt)) {v56 v58 : BitVec 32} {j cc lo hi : ℕ}
    {cnd : Prop} [Decidable cnd] (hc : cnd ↔ (lo < v58.toNat % 16 ∧ v58.toNat % 16 ≤ hi))
    (I : cnd → (offsW v56 (Scalar.divsi v58 16#32) (ivW cc) (slW j cc)).Inb nt) (hsl : (Scalar.indexCast (slW j cc)).toNat = m) (A : Acc F)
    {β : Type} {J : PUnit → Prog (TpuEff nD τ sig (Elt F) Λ₀ .tc) β} {Q : β → sProp (MT nD τ sig Unit (Elt F) ℕ (Pipeline.UD sig nD τ) ℕ)} :
    Work c xs wb sb acc q m hm X W S A
      ⊢ iprop((Work c xs wb sb acc q m hm X W S (tailVal P X v56 v58 j cc W S h2 d lo hi A) -∗ wp frame (wpE (defs₀ (F := F)) 𝒱₀ (c : Thread nD τ) none) Set.univ (J ⟨⟩) Q)
        -∗ wp frame (wpE (defs₀ (F := F)) 𝒱₀ (c : Thread nD τ) none) Set.univ (if h : cnd then (Mxfp8.block nD τ Λ₀ (Mxfp8.sides (F := F) h2) d (I h) P.mask wb sb xs acc >>= J) else J ⟨⟩) Q) := by
  unfold tailVal
  by_cases h : cnd
  · rw [dif_pos h, if_pos (hc.1 h), wp_bind]
    exact wp_work c xs wb sb acc q m hm X W S h2 d P.mask (I h) hsl A (Q := fun a => wp frame (wpE (defs₀ (F := F)) 𝒱₀ (c : Thread nD τ) none) Set.univ (J a) Q)
  · rw [dif_neg h, if_neg (fun h' => h (hc.2 h'))]
    iintro H K
    iapply K; iexact H

end Work

end Cert.KernelIdeal.Gen
-- ==== Proof.IdealLoops3.lean ====
/- One trip of the chunk loop: wait, multiply, and start the next transfer. -/
module

public import proofs.«01_k».proof.Proof.IdealLoops2
public import Idealize.ShloMosaic.Lib.Pipeline.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The units of a chunk of weights, and of a chunk of scales. -/
abbrev nW (arg7 : Memref sig .tc .vmem S10x1024x2048 .fp8e4m3) : ℕ := sig.dmaCredit .tc (Kind.tc.table .vmem) arg7.view.buf S1024x2048 .fp8e4m3
abbrev nS (arg8 : Memref sig .tc .vmem S10x32x2048 .i8) : ℕ := sig.dmaCredit .tc (Kind.tc.table .vmem) arg8.view.buf S32x2048 .i8

/-- The rings' state with the transfers from the `lo`th to the `hi`th in flight. -/
abbrev KRing (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo hi : ℕ) : sProp (MT nD τ sig Unit (Elt F) ℕ (Pipeline.UD sig nD τ) ℕ) :=
  RingSt (countersEmb (U := Pipeline.UD sig nD τ)) (c : Thread nD τ) arg7 arg8 arg2 arg3 arg13 arg14 Wv Sv () (nW arg7) (nS arg8) act lo hi

/-- What the chunk loop holds after `k` chunks of the `j`th expert. -/
def Inv8 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (n : ℕ) (mask : IVec S8x256 1) (X : Mxfp8.S32x7168.Idx → Elt F .f32) (Wv : (SArr 7168).Idx → Elt F .fp8e4m3) (Sv : (SArr 224).Idx → Elt F .i8)
    (act : ℕ → Fin 12) (A5 : S13.Idx → Elt F .i32) (v56 v58 : BitVec 32) (j : ℕ) (A : Acc F) (k : ℕ) : sProp (MT nD τ sig Unit (Elt F) ℕ (Pipeline.UD sig nD τ) ℕ) :=
  iprop((arg5.view.loc (c : Thread nD τ) ↦[arg5.view.set]{fullShare} arg5.view.rep A5) ∗ (arg10.view.loc (c : Thread nD τ) ↦[arg10.view.set]{fullShare} arg10.view.rep X) ∗ (arg11.view.loc (c : Thread nD τ) ↦[arg11.view.set]{fullShare} arg11.view.rep (chunksVal (kParts mask) X Wv Sv (act j) v56 v58 j k A))
    ∗ KRing c arg2 arg3 arg7 arg8 arg13 arg14 Wv Sv act (7 * j + k) (min (7 * j + k + 10) (7 * n)) ∗ ∃ W, owes (c : Thread nD τ) 0 W)

/-- One trip of the chunk loop. -/
theorem wp_t8 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (hv1 : v1_0.toNat < 13) (k0_hw2 : k0_chk2 v1_0) (v16 v17 : IVec S8x256 32) (c32_i32 : BitVec 32) (v19 v26 : IVec S8x256 32) (v28 : BitVec 32) (v29 : BitVec 1)
    (k0_t5 : Fin (k0_t5_loop v1_0).trips) (v56 v58 : BitVec 32) (h56 : v56.toNat ≤ 32) (h58 : v58.toNat < 33) (hs : v56.toNat + v58.toNat ≤ 32)
    (k0_hw6 : k0_chk6 v1_0 k0_t5 v56 v58) (k0_t8 : Fin k0_t8_loop.trips) (x : BitVec 32)
    (X : Mxfp8.S32x7168.Idx → Elt F .f32) (Wv : (SArr 7168).Idx → Elt F .fp8e4m3) (Sv : (SArr 224).Idx → Elt F .i8)
    (act : ℕ → Fin 12) (A5 : S13.Idx → Elt F .i32)
    (hA5 : ∀ (j : ℕ) (hj : j < 13), j < v1_0.toNat → A5 (wix hj) = BitVec.ofNat 32 (act j).val) (A : Acc F) :
    Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A k0_t8
      ⊢ wp frame (wpE (defs₀ (F := F)) 𝒱₀ (c : Thread nD τ) none) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 (Scf.iv 0#32 1#32 k0_t5) v56 v58 k0_hw6
          (Scalar.divsi v58 16#32) (Scalar.subi v58 (Scalar.muli (Scalar.divsi v58 16#32) 16#32)) k0_t8 x)
        fun _ => Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A (k0_t8.val + 1) := by
  have ht5 : k0_t5.val < v1_0.toNat := k0_t5.2.trans_eq (trips5 v1_0 hv1)
  have ht8 : k0_t8.val < 7 := t8_lt k0_t8
  have hq := tiles_toNat v58 h58
  have hb : (Scalar.divsi v58 16#32).toNat ≤ 2 := by omega
  generalize hu : 7 * k0_t5.val + k0_t8.val = u
  have hu7 : u / 7 = k0_t5.val := by omega
  have hum : u % 7 = k0_t8.val := by omega
  have hun : u < 7 * v1_0.toNat := by omega
  have hslw : (Scalar.indexCast (slW k0_t5 k0_t8)).toNat = (Ring.sl 10 u).val := by
    rw [Ring.sl_val, ← hu]; exact slotW_toNat k0_t5 k0_t8 (by omega) ht8
  have row : ∀ nt, nt ≤ 16 → 0 < v58.toNat % 16 → 128 * (Scalar.divsi v58 16#32).toNat + 8 * nt ≤ 256 := by intro nt h1 h2; omega
  have I1 : ∀ k0_t8 : Fin k0_t8_loop.trips, k0_cond1 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 2 :=
    fun t h => inbW 2 (by omega) v56 _ k0_t5 t (by omega) (t8_lt t) h56 hb (row 2 (by omega) (pos1 h58 h))
  have I2 : ∀ k0_t8 : Fin k0_t8_loop.trips, k0_cond2 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 4 :=
    fun t h => inbW 4 (by omega) v56 _ k0_t5 t (by omega) (t8_lt t) h56 hb (row 4 (by omega) (pos2 h58 h))
  have I3 : ∀ k0_t8 : Fin k0_t8_loop.trips, k0_cond3 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 8 :=
    fun t h => inbW 8 (by omega) v56 _ k0_t5 t (by omega) (t8_lt t) h56 hb (row 8 (by omega) (pos3 h58 h))
  have I4 : ∀ k0_t8 : Fin k0_t8_loop.trips, k0_cond4 v58 = 1#1 → (offsW v56 (Scalar.divsi v58 16#32) (Scf.iv 0#32 1#32 k0_t8) (Scalar.remsi (Scalar.addi (Scalar.muli (Scf.iv 0#32 1#32 k0_t5) 7#32) (Scf.iv 0#32 1#32 k0_t8)) 10#32)).Inb 16 :=
    fun t h => inbW 16 (by omega) v56 _ k0_t5 t (by omega) (t8_lt t) h56 hb (row 16 (by omega) (pos4 h58 h))
  obtain ⟨K, hE, hK⟩ := t8_eq (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 v56 v58 k0_hw6 I1 I2 I3 I4 k0_t8 x
  rw [hE, show ∀ p : Prog (TpuEff nD τ sig (Elt F) Λ₀ .tc) _, Prog.bind p K = p >>= K from fun _ => rfl, wp_bind, k0_part133_eq_skeleton]
  unfold Inv8
  rw [hu]
  have hst : Ring.inWin u (min (u + 10) (7 * v1_0.toNat)) 10 (Ring.sl 10 u) = some u := Ring.inWin_lo (by omega) (by omega)
  have hWA : A5 (wix (by omega : k0_t5.val < 13)) = BitVec.ofNat 32 (act k0_t5).val := hA5 _ _ ht5
  have he : (BitVec.ofNat 32 (act k0_t5).val).toNat < 12 := by
    rw [BitVec.toNat_ofNat, Nat.mod_eq_of_lt (by have := (act k0_t5).isLt; omega)]; exact (act k0_t5).isLt
  unfold KRing RingSt
  rw [Ring.AtW_focus _ _ (Ring.sl 10 u), hst, slotSt_some]
  iintro ⟨H5, H10, H11, ⟨Hsl, Hrest⟩, %W, Ho⟩
  unfold k0_part133_skel
  iapply (wp_word (defs := defs₀ (F := F)) 𝒱₀ (c : Thread nD τ) none Set.univ (m := arg5) (by omega : k0_t5.val < 13) (off22 v1_0 hv1 k0_t5 k0_t8)) $$ H5
  iintro H5
  rw [hWA]
  iapply (wp_assume (defs := defs₀ (F := F)) 𝒱₀ (c : Thread nD τ) none Set.univ (chk7 v1_0 _ hv1 he k0_t5 k0_t8))
  have hn : (![(7 * k0_t5.val + k0_t8.val) % 10] : Fin 1 → ℕ) = ![(Ring.sl 10 u).val] := by rw [Ring.sl_val, hu]
  icases Hsl with ⟨Fw, Fs⟩
  iapply (wp_recv (defs := defs₀ (F := F)) countersEmb 𝒱₀ (c : Thread nD τ) none rfl arg7 arg2 arg13 Wv (slotShare (Ring.sl 10 u)) () (nW arg7)
    (congrFun (cell_eq arg13 (Ring.sl 10 u) ((off23 v1_0 hv1 k0_t5 k0_t8).trans hn)) _) rfl) $$ [Fw Ho]
  · isplitl [Fw] <;> iassumption
  iintro ⟨Hw, H2, Hcw, Ho⟩
  iapply (wp_recv (defs := defs₀ (F := F)) countersEmb 𝒱₀ (c : Thread nD τ) none rfl arg8 arg3 arg14 Sv (slotShare (Ring.sl 10 u)) () (nS arg8)
    (congrFun (cell_eq arg14 (Ring.sl 10 u) ((off26 v1_0 hv1 k0_t5 k0_t8).trans hn)) _) rfl) $$ [Fs Ho]
  · isplitl [Fs] <;> iassumption
  iintro ⟨Hs, H3, Hcs, Ho⟩
  have hch : chOf u = (⟨k0_t8.val % 7, Nat.mod_lt _ (by decide)⟩ : Fin 7) := Fin.ext (by show u % 7 = k0_t8.val % 7; omega)
  rw [hu7, hch]
  have hI : ∀ k : Fin (k0_t9_loop v58).trips, (offsW v56 (Scf.iv 0#32 1#32 k) (Scf.iv 0#32 1#32 k0_t8) (Scalar.remsi (Scalar.addi (Scalar.muli (Scf.iv 0#32 1#32 k0_t5) 7#32) (Scf.iv 0#32 1#32 k0_t8)) 10#32)).Inb 16 := by
    intro k
    have hk := t9_lt h58 k
    have hkn := iv_toNat k (by omega)
    exact inbW 16 (by omega) v56 _ k0_t5 k0_t8 (by omega) ht8 h56 (by omega) (by omega)
  generalize hmask : k0_pay1 v16 v17 c32_i32 v19 v26 v28 v29 = mask
  generalize hWc : (fun i => Wv (slabIx 1024 7168 rfl (act k0_t5) (⟨k0_t8.val % 7, Nat.mod_lt _ (by decide)⟩ : Fin 7) i)) = Wc
  generalize hSc : (fun i => Sv (slabIx 32 224 rfl (act k0_t5) (⟨k0_t8.val % 7, Nat.mod_lt _ (by decide)⟩ : Fin 7) i)) = Sc
  generalize hA0 : chunksVal (kParts mask) X Wv Sv (act k0_t5) v56 v58 k0_t5 k0_t8 A = A0
  iapply (Scf.wp_for_bind frame (wpE (defs₀ (F := F)) 𝒱₀ (c : Thread nD τ) none) Set.univ _ _ _ _ _ _
    (fun k _ => Work c arg10 arg7 arg8 arg11 fullShare (Ring.sl 10 u).val (Ring.sl 10 u).isLt X Wc Sc (tilesVal (kParts mask) X v56 k0_t5 k0_t8 Wc Sc k A0)) ?_) $$ [H10 Hw Hs H11]
  · intro k acc
    have h9 := t9_eq (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 mask k0_t5 v56 v58 k0_hw6 k0_t8 k (hI k) acc
    rw [h9, wp_bind]
    iintro H
    iapply (wp_work c arg10 arg7 arg8 arg11 fullShare _ (Ring.sl 10 u).isLt X Wc Sc (nt := 16) (by decide) dot_S128x256_S256x256_S128x256_1_0_0_1_n_n mask (hI k) hslw _) $$ H
    iintro H
    try simp only [prog_ret_bind, prog_pure]
    rw [wp_ret]
    imodintro
    iexact H
  · unfold Work
    isplitl [H10]; · iexact H10
    isplitl [Hw]; · iexact Hw
    isplitl [Hs]; · iexact Hs
    iexact H11
  iintro %_acc HW
  have htr9 : Scf.trips (k0_t9_loop v58).lb (k0_t9_loop v58).ub (k0_t9_loop v58).st = v58.toNat / 16 := trips9 v58 h58
  rw [htr9]
  iapply (Scf.wp_for_bind frame (wpE (defs₀ (F := F)) 𝒱₀ (c : Thread nD τ) none) Set.univ _ _ _ _ _ _
    (fun _ _ => iprop(⌜True⌝)) (fun k _ => (t10_no h58 k).elim)) $$ []
  · ipureintro; trivial
  iintro %_acc2 _
  try simp only [prog_ret_bind, prog_pure]
  rw [wp_ret]
  imodintro
  subst hmask
  rw [hK]
  unfold t8Rest
  iapply (wp_tail_jp c arg10 arg7 arg8 arg11 fullShare _ (Ring.sl 10 u).isLt X Wc Sc (kParts (k0_pay1 v16 v17 c32_i32 v19 v26 v28 v29)) (nt := 2) (by decide)
    dot_S16x256_S256x256_S16x256_1_0_0_1_n_n (cond1_iff v58 h58) (I1 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 4) (by decide)
    dot_S32x256_S256x256_S32x256_1_0_0_1_n_n (cond2_iff v58 h58) (I2 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 8) (by decide)
    dot_S64x256_S256x256_S64x256_1_0_0_1_n_n (cond3_iff v58 h58) (I3 k0_t8) hslw _) $$ HW
  iintro HW
  iapply (wp_tail_jp c arg10 arg7 arg8 arg11 fullShare _ (Ring.sl 10 u).isLt X Wc Sc (kParts (k0_pay1 v16 v17 c32_i32 v19 v26 v28 v29)) (nt := 16) (by decide)
    dot_S128x256_S256x256_S128x256_1_0_0_1_n_n (show k0_cond4 v58 = 1#1 ↔ (8 < v58.toNat % 16 ∧ v58.toNat % 16 ≤ 16) by
      rw [cond4_iff v58 h58]; omega) (I4 k0_t8) hslw _) $$ HW
  iintro HW
  have hfin : tailVal (kParts (k0_pay1 v16 v17 c32_i32 v19 v26 v28 v29)) X v56 v58 k0_t5 k0_t8 Wc Sc (nt := 16) (by decide) dot_S128x256_S256x256_S128x256_1_0_0_1_n_n 8 16
    (tailVal (kParts (k0_pay1 v16 v17 c32_i32 v19 v26 v28 v29)) X v56 v58 k0_t5 k0_t8 Wc Sc (nt := 8) (by decide) dot_S64x256_S256x256_S64x256_1_0_0_1_n_n 4 8
    (tailVal (kParts (k0_pay1 v16 v17 c32_i32 v19 v26 v28 v29)) X v56 v58 k0_t5 k0_t8 Wc Sc (nt := 4) (by decide) dot_S32x256_S256x256_S32x256_1_0_0_1_n_n 2 4
    (tailVal (kParts (k0_pay1 v16 v17 c32_i32 v19 v26 v28 v29)) X v56 v58 k0_t5 k0_t8 Wc Sc (nt := 2) (by decide) dot_S16x256_S256x256_S16x256_1_0_0_1_n_n 0 2
    (tilesVal (kParts (k0_pay1 v16 v17 c32_i32 v19 v26 v28 v29)) X v56 k0_t5 k0_t8 Wc Sc (v58.toNat / 16) A0)))) = chunksVal (kParts (k0_pay1 v16 v17 c32_i32 v19 v26 v28 v29)) X Wv Sv (act k0_t5) v56 v58 k0_t5 (k0_t8.val + 1) A := by
    subst hWc hSc hA0; rfl
  rw [hfin]
  unfold Work
  icases HW with ⟨H10, Hw, Hs, H11⟩
  rw [show 7 * k0_t5.val + (k0_t8.val + 1) = u + 1 by omega]
  by_cases h5 : k0_cond5 v1_0 k0_t5 k0_t8 = 1#1
  · rw [dif_pos h5]
    have hlt : u + 10 < 7 * v1_0.toNat := by have := (cond5_iff v1_0 hv1 k0_t5 k0_t8).1 h5; omega
    have hW2 : A5 (wix (by omega : (7 * k0_t5.val + k0_t8.val + 10) / 7 < 13)) = BitVec.ofNat 32 (act ((u + 10) / 7)).val := by
      rw [hA5 _ _ (by omega), hu]
    have he2 : (BitVec.ofNat 32 (act ((u + 10) / 7)).val).toNat = (act ((u + 10) / 7)).val := by
      rw [BitVec.toNat_ofNat, Nat.mod_eq_of_lt (by have := (act ((u + 10) / 7)).isLt; omega)]
    have he2' : (BitVec.ofNat 32 (act ((u + 10) / 7)).val).toNat < 12 := by rw [he2]; exact (act ((u + 10) / 7)).isLt
    iapply (wp_word (defs := defs₀ (F := F)) 𝒱₀ (c : Thread nD τ) none Set.univ (m := arg5) (by omega : (7 * k0_t5.val + k0_t8.val + 10) / 7 < 13) (off323 v1_0 hv1 k0_t5 k0_t8)) $$ H5
    iintro H5
    rw [hW2]
    iapply (wp_assume (defs := defs₀ (F := F)) 𝒱₀ (c : Thread nD τ) none Set.univ (chk8 v1_0 _ hv1 he2' k0_t5 k0_t8))
    have hn3 : (![(7 * k0_t5.val + k0_t8.val) % 10, 0, 0] : Fin 3 → ℕ) = ![(Ring.sl 10 u).val, 0, 0] := by rw [Ring.sl_val, hu]
    iapply (wp_send (defs := defs₀ (F := F)) countersEmb 𝒱₀ (c : Thread nD τ) none rfl arg7 arg2 arg13 Wv (slotShare (Ring.sl 10 u)) () (nW arg7)
      (n := Ring.sl 10 u) (e := act ((u + 10) / 7)) (k := chOf (u + 10)) ((off325 v1_0 hv1 k0_t5 k0_t8).trans hn3)
      ((off326 v1_0 _ hv1 he2' k0_t5 k0_t8).trans (by rw [he2, hu]; rfl))
      (congrFun (cell_eq arg13 (Ring.sl 10 u) ((off324 v1_0 hv1 k0_t5 k0_t8).trans hn)) _) rfl (sig.dmaCredit_pos _ _ _ _ _ (by decide)) _) $$ [H2 Hw Hcw]
    · isplitl [H2]; · iexact H2
      isplitl [Hw]; · iexact Hw
      iexact Hcw
    iintro Fw
    iapply (wp_send (defs := defs₀ (F := F)) countersEmb 𝒱₀ (c : Thread nD τ) none rfl arg8 arg3 arg14 Sv (slotShare (Ring.sl 10 u)) () (nS arg8)
      (n := Ring.sl 10 u) (e := act ((u + 10) / 7)) (k := chOf (u + 10)) ((off328 v1_0 hv1 k0_t5 k0_t8).trans hn3)
      ((off329 v1_0 _ hv1 he2' k0_t5 k0_t8).trans (by rw [he2, hu]; rfl))
      (congrFun (cell_eq arg14 (Ring.sl 10 u) ((off327 v1_0 hv1 k0_t5 k0_t8).trans hn)) _) rfl (sig.dmaCredit_pos _ _ _ _ _ (by decide)) _) $$ [H3 Hs Hcs]
    · isplitl [H3]; · iexact H3
      isplitl [Hs]; · iexact Hs
      iexact Hcs
    iintro Fs
    try simp only [prog_ret_bind, prog_pure]
    rw [wp_ret]
    imodintro
    isplitl [H5]; · iexact H5
    isplitl [H10]; · iexact H10
    isplitl [H11]; · iexact H11
    isplitl [Fw Fs Hrest]
    · rw [show min (u + 1 + 10) (7 * v1_0.toNat) = u + 10 + 1 by omega, show min (u + 10) (7 * v1_0.toNat) = u + 10 by omega,
        Ring.inWin_push (lo := u + 1) (hi := u + 10) (by omega) (by omega), Ring.inWin_pop (lo := u) (hi := u + 10) (by omega) (by omega),
        show Ring.sl 10 (u + 10) = Ring.sl 10 u from Fin.ext (by rw [Ring.sl_val, Ring.sl_val]; omega)]
      iapply (Ring.AtW_update _ _ (Ring.sl 10 u) (some (u + 10)))
      rw [Ring.restW_update, slotSt_some]
      isplitl [Fw Fs]
      · isplitl [Fw] <;> iassumption
      · iexact Hrest
    · iexists _; iexact Ho
  · rw [dif_neg h5]
    have hge : 7 * v1_0.toNat ≤ u + 10 := by
      refine Nat.le_of_not_lt fun h => h5 ((cond5_iff v1_0 hv1 k0_t5 k0_t8).2 ?_)
      omega
    try simp only [prog_ret_bind, prog_pure]
    rw [wp_ret]
    imodintro
    isplitl [H5]; · iexact H5
    isplitl [H10]; · iexact H10
    isplitl [H11]; · iexact H11
    isplitl [Hw Hs H2 H3 Hcw Hcs Hrest]
    · rw [show min (u + 1 + 10) (7 * v1_0.toNat) = 7 * v1_0.toNat by omega, show min (u + 10) (7 * v1_0.toNat) = 7 * v1_0.toNat by omega,
        Ring.inWin_pop (by omega) (by omega)]
      iapply (Ring.AtW_update _ _ (Ring.sl 10 u) none)
      rw [slotSt_none]
      unfold SlotIdle
      isplitr [Hrest]
      · isplitl [Hw]; · iexists _; iexact Hw
        isplitl [Hs]; · iexists _; iexact Hs
        isplitl [H2]; · iexact H2
        isplitl [H3]; · iexact H3
        isplitl [Hcw]; · iexact Hcw
        iexact Hcs
      · iexact Hrest
    · iexists _; iexact Ho

end Cert.KernelIdeal.Gen
-- ==== Proof.IdealLoops4.lean ====
/- One trip of the loop over the experts that have tokens. -/
module

public import proofs.«01_k».proof.Proof.IdealLoops3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The experts that have tokens, as the scratch words list them: the `j`th's number, its first token, the number of its tokens. -/
structure Listed (Sz : S12.Idx → Elt F .i32) (A5 A6 : S13.Idx → Elt F .i32) (n : ℕ) (act : ℕ → Fin 12) (tok sz : ℕ → BitVec 32) : Prop where
  n_lt : n < 13
  a5 : ∀ (j : ℕ) (hj : j < 13), j < n → A5 (wix hj) = BitVec.ofNat 32 (act j).val
  a6 : ∀ (j : ℕ) (hj : j < 13), j < n → A6 (wix hj) = tok j
  size : ∀ j, j < n → Sz (wix (act j).isLt) = sz j
  le : ∀ j, j < n → (tok j).toNat + (sz j).toNat ≤ 32

/-- What the loop over experts holds after `j` of them. -/
def Inv5 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (n : ℕ) (mask : IVec S8x256 1) (Sz : S12.Idx → Elt F .i32) (X : Mxfp8.S32x7168.Idx → Elt F .f32) (Wv : (SArr 7168).Idx → Elt F .fp8e4m3) (Sv : (SArr 224).Idx → Elt F .i8)
    (act : ℕ → Fin 12) (tok sz : ℕ → BitVec 32) (A5 A6 : S13.Idx → Elt F .i32) (s : Acc F × Out F) (j : ℕ) : sProp (MT nD τ sig Unit (Elt F) ℕ (Pipeline.UD sig nD τ) ℕ) :=
  iprop((arg0.view.loc (c : Thread nD τ) ↦[arg0.view.set]{fullShare} arg0.view.rep Sz) ∗ (arg5.view.loc (c : Thread nD τ) ↦[arg5.view.set]{fullShare} arg5.view.rep A5) ∗ (arg6.view.loc (c : Thread nD τ) ↦[arg6.view.set]{fullShare} arg6.view.rep A6) ∗ (arg10.view.loc (c : Thread nD τ) ↦[arg10.view.set]{fullShare} arg10.view.rep X)
    ∗ (arg11.view.loc (c : Thread nD τ) ↦[arg11.view.set]{fullShare} arg11.view.rep (runVal (kParts mask) X Wv Sv act tok sz j s).1) ∗ (arg12.view.loc (c : Thread nD τ) ↦[arg12.view.set]{fullShare} arg12.view.rep (runVal (kParts mask) X Wv Sv act tok sz j s).2)
    ∗ KRing c arg2 arg3 arg7 arg8 arg13 arg14 Wv Sv act (7 * j) (min (7 * j + 10) (7 * n)) ∗ ∃ W, owes (c : Thread nD τ) 0 W)

theorem off19 (v : BitVec 32) : k0_off19 v = ![v.toNat] := rfl

set_option maxHeartbeats 1000000 in
/-- One trip of the loop over experts. -/
theorem wp_t5 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (k0_hw2 : k0_chk2 v1_0) (v16 v17 : IVec S8x256 32) (c32_i32 : BitVec 32) (v19 v26 : IVec S8x256 32) (v28 : BitVec 32) (v29 : BitVec 1)
    (k0_t5 : Fin (k0_t5_loop v1_0).trips) (x : BitVec 32) (Sz : S12.Idx → Elt F .i32)
    (X : Mxfp8.S32x7168.Idx → Elt F .f32) (Wv : (SArr 7168).Idx → Elt F .fp8e4m3) (Sv : (SArr 224).Idx → Elt F .i8)
    (act : ℕ → Fin 12) (tok sz : ℕ → BitVec 32) (A5 A6 : S13.Idx → Elt F .i32) (hL : Listed Sz A5 A6 v1_0.toNat act tok sz) (s : Acc F × Out F) :
    Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) Sz X Wv Sv act tok sz A5 A6 s k0_t5
      ⊢ wp frame (wpE (defs₀ (F := F)) 𝒱₀ (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 v16 v17 c32_i32 v19 v26 v28 v29 k0_t5 x)
        fun _ => Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) Sz X Wv Sv act tok sz A5 A6 s (k0_t5.val + 1) := by
  have hv1 := hL.n_lt
  have ht5 : k0_t5.val < v1_0.toNat := k0_t5.2.trans_eq (trips5 v1_0 hv1)
  have hle := hL.le _ ht5
  have hWA : A5 (wix (by omega : k0_t5.val < 13)) = BitVec.ofNat 32 (act k0_t5).val := hL.a5 _ _ ht5
  have hWB : A6 (wix (by omega : k0_t5.val < 13)) = tok k0_t5 := hL.a6 _ _ ht5
  have hWC : Sz (wix (act k0_t5).isLt) = sz k0_t5 := hL.size _ ht5
  have he' : (BitVec.ofNat 32 (act k0_t5).val).toNat = (act k0_t5).val := by
    rw [BitVec.toNat_ofNat, Nat.mod_eq_of_lt (by have := (act k0_t5).isLt; omega)]
  have he : (BitVec.ofNat 32 (act k0_t5).val).toNat < 12 := by rw [he']; exact (act k0_t5).isLt
  have e1 : (runVal (kParts (k0_pay1 v16 v17 c32_i32 v19 v26 v28 v29)) X Wv Sv act tok sz (k0_t5.val + 1) s).1
    = chunksVal (kParts (k0_pay1 v16 v17 c32_i32 v19 v26 v28 v29)) X Wv Sv (act k0_t5) (tok k0_t5) (sz k0_t5) k0_t5 7
      (clearVal (kParts (k0_pay1 v16 v17 c32_i32 v19 v26 v28 v29)) (((sz k0_t5).toNat + 15) / 16 * 16) (runVal (kParts (k0_pay1 v16 v17 c32_i32 v19 v26 v28 v29)) X Wv Sv act tok sz k0_t5 s).1) := rfl
  have e2 : (runVal (kParts (k0_pay1 v16 v17 c32_i32 v19 v26 v28 v29)) X Wv Sv act tok sz (k0_t5.val + 1) s).2
    = emitVal (kParts (k0_pay1 v16 v17 c32_i32 v19 v26 v28 v29)) (tok k0_t5).toNat (runVal (kParts (k0_pay1 v16 v17 c32_i32 v19 v26 v28 v29)) X Wv Sv act tok sz (k0_t5.val + 1) s).1 (sz k0_t5).toNat
      (runVal (kParts (k0_pay1 v16 v17 c32_i32 v19 v26 v28 v29)) X Wv Sv act tok sz k0_t5 s).2 := rfl
  unfold Inv5 k0_t5_body
  rw [e2, e1]
  generalize hs0 : runVal (kParts (k0_pay1 v16 v17 c32_i32 v19 v26 v28 v29)) X Wv Sv act tok sz k0_t5 s = s0
  generalize hmask : k0_pay1 v16 v17 c32_i32 v19 v26 v28 v29 = mask
  iintro ⟨H0, H5, H6, H10, H11, H12, Hr, Ho⟩
  iapply (wp_word (defs := defs₀ (F := F)) 𝒱₀ (c : Thread nD τ) none Set.univ (m := arg5) (h1 := numel1_S1) (hp := rfl) (by omega : k0_t5.val < 13) (off18 v1_0 hv1 k0_t5)) $$ H5
  iintro H5
  rw [hWA]
  iapply (wp_assume (defs := defs₀ (F := F)) 𝒱₀ (c : Thread nD τ) none Set.univ (chk5 _ he))
  iapply (wp_word (defs := defs₀ (F := F)) 𝒱₀ (c : Thread nD τ) none Set.univ (m := arg6) (h1 := numel1_S1) (hp := rfl) (by omega : k0_t5.val < 13) (off18 v1_0 hv1 k0_t5)) $$ H6
  iintro H6
  rw [hWB]
  iapply (wp_word (defs := defs₀ (F := F)) 𝒱₀ (c : Thread nD τ) none Set.univ (m := arg0) (h1 := numel1_S1) (hp := rfl) (act k0_t5).isLt ((off19 _).trans (by rw [he']))) $$ H0
  iintro H0
  rw [hWC]
  generalize htok : tok k0_t5 = v56
  generalize hsz : sz k0_t5 = v58
  rw [htok, hsz] at hle
  have h56 : v56.toNat ≤ 32 := by omega
  have h58 : v58.toNat < 33 := by omega
  have hw6 := chk6 v1_0 hv1 k0_t5 v56 v58 h56 h58 hle
  iapply (wp_assume (defs := defs₀ (F := F)) 𝒱₀ (c : Thread nD τ) none Set.univ hw6)
  iapply (Scf.wp_for_bind frame (wpE (defs₀ (F := F)) 𝒱₀ (c : Thread nD τ) none) Set.univ _ _ _ _ _ _
    (fun k _ => (arg11.view.loc (c : Thread nD τ) ↦[arg11.view.set]{fullShare} arg11.view.rep (clearVal (kParts mask) k s0.1))) (fun k acc => wp_t6 c arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 h58 hw6 k acc (kParts mask) rfl s0.1)) $$ [H11]
  · iexact H11
  iintro %_acc H11
  have htr6 : Scf.trips (k0_t6_loop v58).lb (k0_t6_loop v58).ub (k0_t6_loop v58).st = (v58.toNat + 15) / 16 * 16 := trips6 v58 h58
  rw [htr6]
  iapply (Scf.wp_for_bind frame (wpE (defs₀ (F := F)) 𝒱₀ (c : Thread nD τ) none) Set.univ _ _ _ _ _ _
    (fun _ _ => iprop(⌜True⌝)) (fun k _ => (t7_no h58 k).elim)) $$ []
  · ipureintro; trivial
  iintro %_acc2 _
  generalize hA1 : clearVal (kParts mask) ((v58.toNat + 15) / 16 * 16) s0.1 = A1
  subst hmask
  iapply (Scf.wp_for_bind frame (wpE (defs₀ (F := F)) 𝒱₀ (c : Thread nD τ) none) Set.univ _ _ _ _ _ _
    (fun k _ => Inv8 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat (k0_pay1 v16 v17 c32_i32 v19 v26 v28 v29) X Wv Sv act A5 v56 v58 k0_t5 A1 k)
    (fun k acc => wp_t8 c arg0 harg0 arg1 harg1 arg2 harg2 arg3 harg3 arg4 harg4 arg5 harg5 arg6 harg6 arg7 harg7 arg8 harg8 arg9 harg9 arg10 harg10 arg11 harg11 arg12 harg12 arg13 arg14 arg15 v1_0 hv1 k0_hw2 v16 v17 c32_i32 v19 v26 v28 v29 k0_t5 v56 v58 h56 h58 hle hw6 k acc X Wv Sv act A5 hL.a5 A1)) $$ [H5 H10 H11 Hr Ho]
  · unfold Inv8
    isplitl [H5]; · iexact H5
    isplitl [H10]; · iexact H10
    isplitl [H11]; · iexact H11
    isplitl [Hr]; · iexact Hr
    iexact Ho
  iintro %_acc3 HI
  have htr8 : Scf.trips k0_t8_loop.lb k0_t8_loop.ub k0_t8_loop.st = 7 := trips8
  rw [htr8]
  unfold Inv8
  icases HI with ⟨H5, H10, H11, Hr, Ho⟩
  generalize hA2 : chunksVal (kParts (k0_pay1 v16 v17 c32_i32 v19 v26 v28 v29)) X Wv Sv (act k0_t5) v56 v58 k0_t5 7 A1 = A2
  iapply (Scf.wp_for_bind frame (wpE (defs₀ (F := F)) 𝒱₀ (c : Thread nD τ) none) Set.univ _ _ _ _ _ _
    (fun k _ => iprop((arg11.view.loc (c : Thread nD τ) ↦[arg11.view.set]{fullShare} arg11.view.rep A2) ∗ (arg12.view.loc (c : Thread nD τ) ↦[arg12.view.set]{fullShare} arg12.view.rep (emitVal (kParts (k0_pay1 v16 v17 c32_i32 v19 v26 v28 v29)) v56.toNat A2 k s0.2))))
    (fun k acc => wp_t11 c arg0 harg0 arg1 harg1 arg2 harg2 arg3 harg3 arg4 harg4 arg5 harg5 arg6 harg6 arg7 harg7 arg8 harg8 arg9 harg9 arg10 harg10 arg11 harg11 arg12 harg12 arg13 arg14 arg15 v1_0 k0_t5 v56 v58 (by omega) h58 hle hw6 k acc (kParts (k0_pay1 v16 v17 c32_i32 v19 v26 v28 v29)) rfl A2 s0.2)) $$ [H11 H12]
  · isplitl [H11]; · iexact H11
    iexact H12
  iintro %_acc4 ⟨H11, H12⟩
  have htr11 : Scf.trips (k0_t11_loop v58).lb (k0_t11_loop v58).ub (k0_t11_loop v58).st = v58.toNat := trips11 v58 h58
  rw [htr11]
  iapply (Scf.wp_for_bind frame (wpE (defs₀ (F := F)) 𝒱₀ (c : Thread nD τ) none) Set.univ _ _ _ _ _ _
    (fun _ _ => iprop(⌜True⌝)) (fun k _ => (t12_no h58 k).elim)) $$ []
  · ipureintro; trivial
  iintro %_acc5 _
  try simp only [prog_ret_bind, prog_pure]
  rw [wp_ret]
  imodintro
  isplitl [H0]; · iexact H0
  isplitl [H5]; · iexact H5
  isplitl [H6]; · iexact H6
  isplitl [H10]; · iexact H10
  isplitl [H11]; · iexact H11
  isplitl [H12]; · iexact H12
  isplitl [Hr]; · iexact Hr
  iexact Ho

end Cert.KernelIdeal.Gen
-- ==== Proof.IdealLoops5.lean ====
/- The scan of the experts, the first transfers and the quantiser. -/
module

public import proofs.«01_k».proof.Proof.IdealLoops4
public import proofs.«01_k».proof.Proof.Scan

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

theorem off2 (v : BitVec 32) : k0_off2 v = ![v.toNat] := rfl

/-- What the scan of the experts holds after `k` of them. -/
def Inv1 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (k : ℕ) (acc : BitVec 32 × BitVec 32) : sProp (MT nD τ sig Unit (Elt F) ℕ (Pipeline.UD sig nD τ) ℕ) :=
  iprop(∃ (A5 A6 : S13.Idx → Elt F .i32), ⌜Scan Sz k acc.1 acc.2 A5 A6⌝ ∗ (arg0.view.loc (c : Thread nD τ) ↦[arg0.view.set]{fullShare} arg0.view.rep Sz) ∗ (arg5.view.loc (c : Thread nD τ) ↦[arg5.view.set]{fullShare} arg5.view.rep A5) ∗ (arg6.view.loc (c : Thread nD τ) ↦[arg6.view.set]{fullShare} arg6.view.rep A6))

/-- One expert of the scan. -/
theorem wp_t1 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (hf : Fits Sz) (k0_t1 : Fin k0_t1_loop.trips) (acc : BitVec 32 × BitVec 32) :
    Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz k0_t1 acc
      ⊢ wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 arg14 arg15 k0_t1 acc) fun acc' => Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz (k0_t1.val + 1) acc' := by
  have hk : k0_t1.val < 12 := k0_t1.2.trans_eq trips1
  obtain ⟨a17, a18⟩ := acc
  unfold Inv1 k0_t1_body
  iintro ⟨%A5, %A6, %hS, H0, H5, H6⟩
  have hcl : a17.toNat ≤ k0_t1.val := hS.cnt_le
  have hc : a17.toNat < 13 := by omega
  iapply (wp_assume (defs := defs₀ (F := F)) 𝒱₀ (c : Thread nD τ) none Set.univ (chk1 a17 hc))
  iapply (wp_word (defs := defs₀ (F := F)) 𝒱₀ (c : Thread nD τ) none Set.univ (m := arg0) (h1 := numel1_S1) (hp := rfl) hk (off1 k0_t1)) $$ H0
  iintro H0
  iapply (wp_word (defs := defs₀ (F := F)) 𝒱₀ (c : Thread nD τ) none Set.univ (m := arg5) (h1 := numel1_S1) (hp := rfl) hc (off2 a17)) $$ H5
  iintro H5
  iapply (wp_st (defs := defs₀ (F := F)) 𝒱₀ (c : Thread nD τ) none Set.univ) $$ H5
  iintro H5
  iapply (wp_word (defs := defs₀ (F := F)) 𝒱₀ (c : Thread nD τ) none Set.univ (m := arg6) (h1 := numel1_S1) (hp := rfl) hc (off2 a17)) $$ H6
  iintro H6
  iapply (wp_st (defs := defs₀ (F := F)) 𝒱₀ (c : Thread nD τ) none Set.univ) $$ H6
  iintro H6
  have hiv : Scf.iv 0#32 1#32 k0_t1.val = BitVec.ofNat 32 k0_t1.val := by
    have h := iv_toNat k0_t1.val (by omega)
    refine BitVec.eq_of_toNat_eq ?_
    rw [h, BitVec.toNat_ofNat, Nat.mod_eq_of_lt (by omega)]
  have hS' := hS.step Sz hf hk _ hiv
  try simp only [prog_ret_bind, prog_pure]
  rw [wp_ret]
  imodintro
  iexists _, _
  isplitr
  · ipureintro; exact hS'
  isplitl [H0]; · iexact H0
  isplitl [H5]; · iexact H5
  iexact H6

/-- What the first transfers' loop holds after `k` of them. -/
def Inv2 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Wv : (SArr 7168).Idx → Elt F .fp8e4m3) (Sv : (SArr 224).Idx → Elt F .i8)
    (act : ℕ → Fin 12) (A5 : S13.Idx → Elt F .i32) (k : ℕ) : sProp (MT nD τ sig Unit (Elt F) ℕ (Pipeline.UD sig nD τ) ℕ) :=
  iprop((arg5.view.loc (c : Thread nD τ) ↦[arg5.view.set]{fullShare} arg5.view.rep A5) ∗ KRing c arg2 arg3 arg7 arg8 arg13 arg14 Wv Sv act 0 k)

/-- One of the first transfers. -/
theorem wp_t2 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (v1_0 : BitVec 32) (hv1 : v1_0.toNat < 13) (k0_hw2 : k0_chk2 v1_0) (k0_t2 : Fin (k0_t2_loop v1_0).trips) (x : BitVec 32)
    (Wv : (SArr 7168).Idx → Elt F .fp8e4m3) (Sv : (SArr 224).Idx → Elt F .i8)
    (act : ℕ → Fin 12) (A5 : S13.Idx → Elt F .i32)
    (hA5 : ∀ (j : ℕ) (hj : j < 13), j < v1_0.toNat → A5 (wix hj) = BitVec.ofNat 32 (act j).val) :
    Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv act A5 k0_t2
      ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 arg14 arg15 v1_0 k0_hw2 k0_t2 x) fun _ => Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv act A5 (k0_t2.val + 1) := by
  have ht2 : k0_t2.val < min (7 * v1_0.toNat) 10 := k0_t2.2.trans_eq (trips2 v1_0 hv1)
  have hst : Ring.inWin 0 k0_t2.val 10 (Ring.sl 10 k0_t2.val) = none := Ring.inWin_hi (by omega) (by omega)
  have hW2 : A5 (wix (by omega : k0_t2.val / 7 < 13)) = BitVec.ofNat 32 (act (k0_t2.val / 7)).val := hA5 _ _ (by omega)
  have he2 : (BitVec.ofNat 32 (act (k0_t2.val / 7)).val).toNat = (act (k0_t2.val / 7)).val := by
    rw [BitVec.toNat_ofNat, Nat.mod_eq_of_lt (by have := (act (k0_t2.val / 7)).isLt; omega)]
  have he2' : (BitVec.ofNat 32 (act (k0_t2.val / 7)).val).toNat < 12 := by rw [he2]; exact (act (k0_t2.val / 7)).isLt
  unfold Inv2 k0_t2_body KRing RingSt
  rw [Ring.AtW_focus _ _ (Ring.sl 10 k0_t2.val), hst, slotSt_none]
  unfold SlotIdle
  iintro ⟨H5, ⟨⟨%fw, Hw⟩, ⟨%fs, Hs⟩, H2, H3, Hcw, Hcs⟩, Hrest⟩
  iapply (wp_word (defs := defs₀ (F := F)) 𝒱₀ (c : Thread nD τ) none Set.univ (m := arg5) (h1 := numel1_S1) (hp := rfl) (by omega : k0_t2.val / 7 < 13) (off3 v1_0 hv1 k0_t2)) $$ H5
  iintro H5
  rw [hW2]
  iapply (wp_assume (defs := defs₀ (F := F)) 𝒱₀ (c : Thread nD τ) none Set.univ (chk3 v1_0 _ hv1 he2' k0_t2))
  have hn : (![k0_t2.val % 10] : Fin 1 → ℕ) = ![(Ring.sl 10 k0_t2.val).val] := by rw [Ring.sl_val]
  have hn3 : (![k0_t2.val % 10, 0, 0] : Fin 3 → ℕ) = ![(Ring.sl 10 k0_t2.val).val, 0, 0] := by rw [Ring.sl_val]
  iapply (wp_send (defs := defs₀ (F := F)) countersEmb 𝒱₀ (c : Thread nD τ) none rfl arg7 arg2 arg13 Wv (slotShare (Ring.sl 10 k0_t2.val)) () (nW arg7)
    (n := Ring.sl 10 k0_t2.val) (e := act (k0_t2.val / 7)) (k := chOf k0_t2.val) ((off5 v1_0 hv1 k0_t2).trans hn3)
    ((off6 v1_0 _ hv1 he2' k0_t2).trans (by rw [he2]; rfl))
    (congrFun (cell_eq arg13 (Ring.sl 10 k0_t2.val) ((off4 v1_0 hv1 k0_t2).trans hn)) _) rfl (sig.dmaCredit_pos _ _ _ _ _ (by decide)) _) $$ [H2 Hw Hcw]
  · isplitl [H2]; · iexact H2
    isplitl [Hw]; · iexact Hw
    iexact Hcw
  iintro Fw
  iapply (wp_send (defs := defs₀ (F := F)) countersEmb 𝒱₀ (c : Thread nD τ) none rfl arg8 arg3 arg14 Sv (slotShare (Ring.sl 10 k0_t2.val)) () (nS arg8)
    (n := Ring.sl 10 k0_t2.val) (e := act (k0_t2.val / 7)) (k := chOf k0_t2.val) ((off8 v1_0 hv1 k0_t2).trans hn3)
    ((off9 v1_0 _ hv1 he2' k0_t2).trans (by rw [he2]; rfl))
    (congrFun (cell_eq arg14 (Ring.sl 10 k0_t2.val) ((off7 v1_0 hv1 k0_t2).trans hn)) _) rfl (sig.dmaCredit_pos _ _ _ _ _ (by decide)) _) $$ [H3 Hs Hcs]
  · isplitl [H3]; · iexact H3
    isplitl [Hs]; · iexact Hs
    iexact Hcs
  iintro Fs
  try simp only [prog_ret_bind, prog_pure]
  rw [wp_ret]
  imodintro
  isplitl [H5]; · iexact H5
  rw [Ring.inWin_push (lo := 0) (hi := k0_t2.val) (by omega) (by omega)]
  iapply (Ring.AtW_update _ _ (Ring.sl 10 k0_t2.val) (some k0_t2.val))
  rw [slotSt_some]
  isplitl [Fw Fs]
  · isplitl [Fw] <;> iassumption
  · iexact Hrest

/-- What the quantiser puts over a window of columns, of that window of the input. -/
def quantVal (x : S32x256.Idx → Elt F .bf16) : S32x256.Idx → Elt F .f32 :=
  let v59 : IVec S32x256 32 := iota .tc S32x256 32 [1] iota_S32x256_d1_w32
  let v91 := k0_pay20 (F := F) x
  let v92 := k0_pay21 (F := F) x
  let v101 := k0_pay22 v59 v91 v92
  let v129 := k0_pay23 v59 v91 v92
  let v135 := k0_pay24 v59 v91 v92
  k0_pay864 (k0_pay19 x) (k0_pay26 v101 v129 v135 16#32) (k0_pay27 v101 v129 v135 16#32) (k0_pay28 v101 v129 v135 16#32)

theorem inb17 (k : ℕ) (hk : k < 28) : ∀ a, (![0, 256 * k] : Fin 2 → ℕ) a + S32x256.size a ≤ S32x7168.size a := fun a =>
  match a with
  | ⟨0, _⟩ => Nat.le_refl 32
  | ⟨1, _⟩ => show 256 * k + 256 ≤ 7168 by omega

/-- The first `k` windows of columns hold the quantised input. -/
def Quantised (XB : S32x7168.Idx → Elt F .bf16) (Xs : S32x7168.Idx → Elt F .f32) (k : ℕ) : Prop :=
  ∀ (t : ℕ) (ht : t < 28), t < k → window Xs ![0, 256 * t] S32x256.size (inb17 t ht) = quantVal (window XB ![0, 256 * t] S32x256.size (inb17 t ht))

theorem Quantised.step {XB : S32x7168.Idx → Elt F .bf16} {Xs : S32x7168.Idx → Elt F .f32} {k : ℕ} (h : Quantised XB Xs k) (hk : k < 28) :
    Quantised XB (put Xs ![0, 256 * k] S32x256.size (quantVal (window XB ![0, 256 * k] S32x256.size (inb17 k hk)))) (k + 1) := by
  intro t ht htk
  by_cases e : t = k
  · subst e
    exact VecWindow.window_put_same _ _ _ _ _
  · refine (VecWindow.window_put_of_disjoint _ _ _ _ _ _ _ 1 ?_).trans (h t ht (by omega))
    show 256 * t + 256 ≤ 256 * k ∨ 256 * k + 256 ≤ 256 * t
    omega

/-- What the quantiser's loop holds after `k` windows of columns. -/
def Inv4 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (XB : S32x7168.Idx → Elt F .bf16) (k : ℕ) : sProp (MT nD τ sig Unit (Elt F) ℕ (Pipeline.UD sig nD τ) ℕ) :=
  iprop((arg9.view.loc (c : Thread nD τ) ↦[arg9.view.set]{fullShare} arg9.view.rep XB) ∗ ∃ Xs : S32x7168.Idx → Elt F .f32, ⌜Quantised XB Xs k⌝ ∗ (arg10.view.loc (c : Thread nD τ) ↦[arg10.view.set]{fullShare} arg10.view.rep Xs))

/-- One window of columns of the quantiser. -/
theorem wp_t4 (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (XB : S32x7168.Idx → Elt F .bf16) (k0_t4 : Fin k0_t4_loop.trips) (u : Unit) :
    Inv4 c arg0 harg0 arg1 harg1 arg2 harg2 arg3 harg3 arg4 harg4 arg5 harg5 arg6 harg6 arg7 harg7 arg8 harg8 arg9 harg9 arg10 harg10 arg11 harg11 arg12 harg12 arg13 arg14 arg15 XB k0_t4
      ⊢ wp frame (wpE (defs₀ (F := F)) 𝒱₀ (c : Thread nD τ) none) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 arg14 arg15 k0_t4 u) fun _ => Inv4 c arg0 harg0 arg1 harg1 arg2 harg2 arg3 harg3 arg4 harg4 arg5 harg5 arg6 harg6 arg7 harg7 arg8 harg8 arg9 harg9 arg10 harg10 arg11 harg11 arg12 harg12 arg13 arg14 arg15 XB (k0_t4.val + 1) := by
  have hk : k0_t4.val < 28 := k0_t4.2.trans_eq trips4
  unfold Inv4 k0_t4_body
  rw [k0_part1_eq_skeleton, k0_part2_eq_skeleton, k0_part3_eq_skeleton]
  unfold k0_part1_skel k0_part2_skel k0_part3_skel
  iintro ⟨H9, %Xs, %hQ, H10⟩
  iapply (wp_ld (defs := defs₀ (F := F)) 𝒱₀ (c : Thread nD τ) none Set.univ (m := arg9) (View.setOn_subset_set _ _)) $$ H9
  iintro H9
  iapply (wp_ld (defs := defs₀ (F := F)) 𝒱₀ (c : Thread nD τ) none Set.univ (m := arg10) (View.setOn_subset_set _ _)) $$ H10
  iintro H10
  iapply (wp_st (defs := defs₀ (F := F)) 𝒱₀ (c : Thread nD τ) none Set.univ) $$ H10
  iintro H10
  have hS' := hQ.step hk
  try simp only [prog_ret_bind, prog_pure]
  rw [wp_ret]
  imodintro
  isplitl [H9]; · iexact H9
  iexists _
  isplitr
  · ipureintro; exact hS'
  rw [← window_congr XB S32x256.size (off17 k0_t4) (k0_off17_inb k0_t4) (inb17 _ hk), ← off17 k0_t4]
  iexact H10

end Cert.KernelIdeal.Gen
-- ==== Proof.IdealBody.lean ====
/- The body of the kernel: what it leaves of what it is given. -/
module

public import proofs.«01_k».proof.Proof.IdealLoops5

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

/-- The rings with nothing in flight. -/
def IdleRing (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) : sProp (MT nD τ sig Unit (Elt F) ℕ (Pipeline.UD sig nD τ) ℕ) :=
  bigSep (Finset.univ : Finset (Fin 10)) fun n => iprop((∃ f, arg7.view.loc (c : Thread nD τ) ↦[slotSet (c : Thread nD τ) arg7 n.val n.isLt]{fullShare} f)
    ∗ (∃ f, arg8.view.loc (c : Thread nD τ) ↦[slotSet (c : Thread nD τ) arg8 n.val n.isLt]{fullShare} f)
    ∗ SlotIdle (c : Thread nD τ) arg2 arg3 arg13 arg14 Wv Sv n)

theorem kring_idle (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo : ℕ) :
    KRing c arg2 arg3 arg7 arg8 arg13 arg14 Wv Sv act lo lo = IdleRing c arg2 arg3 arg7 arg8 arg13 arg14 Wv Sv := by
  unfold KRing RingSt IdleRing
  rw [show Ring.inWin lo lo 10 = fun _ => none from funext fun n => (Ring.inWin_eq_none_iff (by omega) n).2 fun x a b _ => by omega]
  rfl

/-- The whole window. -/
theorem window_whole {α : Type} {s : Shape} (x : s.Idx → α) {off : Fin s.rank → ℕ} (h0 : ∀ a, off a = 0) (inb : ∀ a, off a + s.size a ≤ s.size a) : window x off s.size inb = x := by
  funext y
  show x _ = x _
  congr 1
  funext a
  refine Fin.ext ?_
  show off a + 1 * (y a).val = (y a).val
  rw [h0]; omega

theorem put_whole {α : Type} {s : Shape} (x w : s.Idx → α) {off : Fin s.rank → ℕ} (h0 : ∀ a, off a = 0) : put x off s.size w = w := by
  have inb : ∀ a, off a + s.size a ≤ s.size a := fun a => by rw [h0]; omega
  rw [← window_whole (put x off s.size w) h0 inb, VecWindow.window_put_same]

theorem zero2 : ∀ a : Fin 2, (![0, 0] : Fin 2 → ℕ) a = 0 := by decide

/-- The mask that puts a group into its row. -/
def kmask : IVec S8x256 1 :=
  k0_pay1 (iota .tc S8x256 32 [0] iota_S8x256_d0_w32) (iota .tc S8x256 32 [1] iota_S8x256_d1_w32) 32#32 k0_pay865 k0_pay866 (Scalar.extui (Scalar.cmpi .sgt 32#32 0#32)) (Scalar.cmpi .slt 32#32 0#32)

/-- What the body may leave in its result, of the sizes, the input, the weights and the scales. -/
def Result (Sz : S12.Idx → Elt F .i32) (XB : S32x7168.Idx → Elt F .bf16) (Wv : (SArr 7168).Idx → Elt F .fp8e4m3) (Sv : (SArr 224).Idx → Elt F .i8) (y : S32x2048.Idx → Elt F .bf16) : Prop :=
  ∃ (cnt tot : BitVec 32) (A5 A6 : S13.Idx → BitVec 32) (Xs : S32x7168.Idx → Elt F .f32) (A0 : Acc F), Scan Sz 12 cnt tot A5 A6 ∧ Quantised XB Xs 28
    ∧ y = k0_pay18 (runVal (kParts kmask) Xs Wv Sv (actOf A5) (tokOf A6) (szOf Sz A5) cnt.toNat (A0, k0_pay863)).2

theorem kring_idle' (c : Dev nD) (arg2 : Memref sig .tc .hbm S12x7168x2048 .fp8e4m3) (arg3 : Memref sig .tc .hbm S12x224x2048 .i8)
    (arg7 : Memref sig .tc .vmem S10x1024x2048 .fp8e4m3) (arg8 : Memref sig .tc .vmem S10x32x2048 .i8) (arg13 arg14 : DmaSems sig S10)
    (Wv : (SArr 7168).Idx → Elt F .fp8e4m3) (Sv : (SArr 224).Idx → Elt F .i8) (act : ℕ → Fin 12) (lo hi : ℕ) (h : hi = lo) :
    KRing c arg2 arg3 arg7 arg8 arg13 arg14 Wv Sv act lo hi = IdleRing c arg2 arg3 arg7 arg8 arg13 arg14 Wv Sv := by
  subst h; exact kring_idle c arg2 arg3 arg7 arg8 arg13 arg14 Wv Sv act hi

set_option maxHeartbeats 2000000 in
/-- The body: from the arguments and any contents of the scratch, the arguments again and a result as described. -/
theorem wp_body (c : Dev nD) (arg0 : Memref sig .tc .smem S12 .i32) (harg0 : arg0.IsWhole) (arg1 : Memref sig .tc .hbm S32x7168 .bf16) (harg1 : arg1.IsWhole) (arg2 : Memref sig .tc .hbm S12x7168x2048 .fp8e4m3) (harg2 : arg2.IsWhole) (arg3 : Memref sig .tc .hbm S12x224x2048 .i8) (harg3 : arg3.IsWhole) (arg4 : Memref sig .tc .vmem S32x2048 .bf16) (harg4 : arg4.IsWhole) (arg5 : Memref sig .tc .smem S13 .i32) (harg5 : arg5.IsWhole) (arg6 : Memref sig .tc .smem S13 .i32) (harg6 : arg6.IsWhole) (arg7 : Memref sig .tc .vmem S10x1024x2048 .fp8e4m3) (harg7 : arg7.IsWhole) (arg8 : Memref sig .tc .vmem S10x32x2048 .i8) (harg8 : arg8.IsWhole) (arg9 : Memref sig .tc .vmem S32x7168 .bf16) (harg9 : arg9.IsWhole) (arg10 : Memref sig .tc .vmem S32x7168 .f32) (harg10 : arg10.IsWhole) (arg11 : Memref sig .tc .vmem S256x2048 .f32) (harg11 : arg11.IsWhole) (arg12 : Memref sig .tc .vmem S32x2048 .f32) (harg12 : arg12.IsWhole) (arg13 : DmaSems sig S10) (arg14 : DmaSems sig S10) (arg15 : DmaSems sig S_) (Sz : S12.Idx → Elt F .i32) (hf : Fits Sz) (XB : S32x7168.Idx → Elt F .bf16) (Wv : (SArr 7168).Idx → Elt F .fp8e4m3) (Sv : (SArr 224).Idx → Elt F .i8) :
    iprop((arg0.view.loc (c : Thread nD τ) ↦[arg0.view.set]{fullShare} arg0.view.rep Sz) ∗ (arg1.view.loc (c : Thread nD τ) ↦[arg1.view.set]{fullShare} arg1.view.rep XB) ∗ (∃ y, (arg4.view.loc (c : Thread nD τ) ↦[arg4.view.set]{fullShare} arg4.view.rep y)) ∗ (∃ A5, (arg5.view.loc (c : Thread nD τ) ↦[arg5.view.set]{fullShare} arg5.view.rep A5)) ∗ (∃ A6, (arg6.view.loc (c : Thread nD τ) ↦[arg6.view.set]{fullShare} arg6.view.rep A6))
      ∗ (∃ f, arg9.view.loc (c : Thread nD τ) ↦[arg9.view.set]{fullShare} f) ∗ (∃ Xs, (arg10.view.loc (c : Thread nD τ) ↦[arg10.view.set]{fullShare} arg10.view.rep Xs)) ∗ (∃ A, (arg11.view.loc (c : Thread nD τ) ↦[arg11.view.set]{fullShare} arg11.view.rep A)) ∗ (∃ O, (arg12.view.loc (c : Thread nD τ) ↦[arg12.view.set]{fullShare} arg12.view.rep O))
      ∗ IdleRing c arg2 arg3 arg7 arg8 arg13 arg14 Wv Sv ∗ semVal ((c : Thread nD τ), .dma arg15.sem) 0 ∗ (∃ W, owes (c : Thread nD τ) 0 W))
    ⊢ wp frame (wpE (defs₀ (F := F)) 𝒱₀ (c : Thread nD τ) none) Set.univ (cc0_mxfp8_grouped_matmul (F := F) arg0 harg0 arg1 harg1 arg2 harg2 arg3 harg3 arg4 harg4 arg5 harg5 arg6 harg6 arg7 harg7 arg8 harg8 arg9 harg9 arg10 harg10 arg11 harg11 arg12 harg12 arg13 arg14 arg15) fun _ =>
      iprop((arg0.view.loc (c : Thread nD τ) ↦[arg0.view.set]{fullShare} arg0.view.rep Sz) ∗ (arg1.view.loc (c : Thread nD τ) ↦[arg1.view.set]{fullShare} arg1.view.rep XB) ∗ (∃ y, ⌜Result Sz XB Wv Sv y⌝ ∗ (arg4.view.loc (c : Thread nD τ) ↦[arg4.view.set]{fullShare} arg4.view.rep y)) ∗ (∃ A5, (arg5.view.loc (c : Thread nD τ) ↦[arg5.view.set]{fullShare} arg5.view.rep A5)) ∗ (∃ A6, (arg6.view.loc (c : Thread nD τ) ↦[arg6.view.set]{fullShare} arg6.view.rep A6))
      ∗ (∃ f, arg9.view.loc (c : Thread nD τ) ↦[arg9.view.set]{fullShare} f) ∗ (∃ Xs, (arg10.view.loc (c : Thread nD τ) ↦[arg10.view.set]{fullShare} arg10.view.rep Xs)) ∗ (∃ A, (arg11.view.loc (c : Thread nD τ) ↦[arg11.view.set]{fullShare} arg11.view.rep A)) ∗ (∃ O, (arg12.view.loc (c : Thread nD τ) ↦[arg12.view.set]{fullShare} arg12.view.rep O))
      ∗ IdleRing c arg2 arg3 arg7 arg8 arg13 arg14 Wv Sv ∗ semVal ((c : Thread nD τ), .dma arg15.sem) 0 ∗ (∃ W, owes (c : Thread nD τ) 0 W)) := by
  rw [cc0_mxfp8_grouped_matmul_eq_skeleton]
  unfold cc0_mxfp8_grouped_matmul_skel
  rw [wp_bind, k0_part264_eq_skeleton]
  unfold k0_part264_skel
  have hx9 : ∀ f9 : Buf (Elt F) (arg9.view.loc (c : Thread nD τ)), (arg9.view.loc (c : Thread nD τ) ↦[arg9.view.set]{fullShare} (arg9.view.write (Elt F) f9 (ReadAs.same.apply (arg1.view.read (Elt F) (arg1.view.rep XB))) Finset.univ) : sProp (MT nD τ sig Unit (Elt F) ℕ (Pipeline.UD sig nD τ) ℕ))
      = (arg9.view.loc (c : Thread nD τ) ↦[arg9.view.set]{fullShare} arg9.view.rep XB) := fun f9 => by
    refine pointsTo_of_read (m := arg9) (c : Thread nD τ) ?_
    rw [View.read_write_univ, View.read_rep, View.read_rep]
  iintro ⟨H0, H1, ⟨%y0, H4⟩, ⟨%A50, H5⟩, ⟨%A60, H6⟩, ⟨%f9, H9⟩, ⟨%Xs0, H10⟩, ⟨%A0, H11⟩, ⟨%O0, H12⟩, Hr, Hs, Ho⟩
  iapply (Scf.wp_for_bind frame (wpE (defs₀ (F := F)) 𝒱₀ (c : Thread nD τ) none) Set.univ _ _ _ _ _ _
    (fun k acc => Inv1 c arg0 harg0 arg1 harg1 arg2 harg2 arg3 harg3 arg4 harg4 arg5 harg5 arg6 harg6 arg7 harg7 arg8 harg8 arg9 harg9 arg10 harg10 arg11 harg11 arg12 harg12 arg13 arg14 arg15 Sz k acc) (fun k acc => wp_t1 c arg0 harg0 arg1 harg1 arg2 harg2 arg3 harg3 arg4 harg4 arg5 harg5 arg6 harg6 arg7 harg7 arg8 harg8 arg9 harg9 arg10 harg10 arg11 harg11 arg12 harg12 arg13 arg14 arg15 Sz hf k acc)) $$ [H0 H5 H6]
  · unfold Inv1
    iexists A50, A60
    isplitr
    · ipureintro; exact Scan.init Sz A50 A60
    isplitl [H0]; · iexact H0
    isplitl [H5]; · iexact H5
    iexact H6
  iintro %acc HI
  obtain ⟨v1_0, v1_1⟩ := acc
  have htr1 : Scf.trips k0_t1_loop.lb k0_t1_loop.ub k0_t1_loop.st = 12 := trips1
  rw [htr1]
  unfold Inv1
  icases HI with ⟨%A5, %A6, %hS, H0, H5, H6⟩
  have hcl : v1_0.toNat ≤ 12 := hS.cnt_le
  have hv1 : v1_0.toNat < 13 := by omega
  have hL : Listed (F := F) Sz A5 A6 v1_0.toNat (actOf A5) (tokOf A6) (szOf Sz A5) :=
    ⟨hv1, fun j hj h => (hS.at hf h).2.1, fun j hj h => (hS.at hf h).2.2.1, fun j h => rfl, fun j h => (hS.at hf h).2.2.2.2.2.2⟩
  iapply (wp_assume (defs := defs₀ (F := F)) 𝒱₀ (c : Thread nD τ) none Set.univ (chk2 v1_0 hv1))
  iapply (wp_dmaLocal (defs := defs₀ (F := F)) countersEmb 𝒱₀ (c : Thread nD τ) none (src := arg1) (dst := arg9) (via := .same) (fs := arg1.view.rep XB) (fd := f9) (Sd := arg9.view.set)
    () arg9.view.dmaCredit rfl (sig.dmaCredit_pos _ _ _ _ _ (by decide)) (le_refl _)) $$ [H1 H9 Hs]
  · isplitl [H1]; · iexact H1
    isplitl [H9]; · iexact H9
    iexact Hs
  iintro Hf
  iapply (Scf.wp_for_bind frame (wpE (defs₀ (F := F)) 𝒱₀ (c : Thread nD τ) none) Set.univ _ _ _ _ _ _
    (fun k _ => Inv2 c arg0 harg0 arg1 harg1 arg2 harg2 arg3 harg3 arg4 harg4 arg5 harg5 arg6 harg6 arg7 harg7 arg8 harg8 arg9 harg9 arg10 harg10 arg11 harg11 arg12 harg12 arg13 arg14 arg15 Wv Sv (actOf A5) A5 k) (fun k acc => wp_t2 c arg0 harg0 arg1 harg1 arg2 harg2 arg3 harg3 arg4 harg4 arg5 harg5 arg6 harg6 arg7 harg7 arg8 harg8 arg9 harg9 arg10 harg10 arg11 harg11 arg12 harg12 arg13 arg14 arg15 v1_0 hv1 (chk2 v1_0 hv1) k acc Wv Sv (actOf A5) A5 hL.a5)) $$ [H5 Hr]
  · unfold Inv2
    rw [kring_idle]
    isplitl [H5]; · iexact H5
    iexact Hr
  iintro %acc2 HI
  have htr2 : Scf.trips (k0_t2_loop v1_0).lb (k0_t2_loop v1_0).ub (k0_t2_loop v1_0).st = min (7 * v1_0.toNat) 10 := trips2 v1_0 hv1
  rw [htr2]
  unfold Inv2
  icases HI with ⟨H5, Hr⟩
  iapply (Scf.wp_for_bind frame (wpE (defs₀ (F := F)) 𝒱₀ (c : Thread nD τ) none) Set.univ _ _ _ _ _ _
    (fun _ _ => iprop(⌜True⌝)) (fun k _ => (Nat.not_lt_zero _ (k.2.trans_eq (trips3 v1_0 hv1))).elim)) $$ []
  · ipureintro; trivial
  iintro %_acc3 _
  iapply (wp_ld (defs := defs₀ (F := F)) 𝒱₀ (c : Thread nD τ) none Set.univ (m := arg12) (View.setOn_subset_set _ _)) $$ H12
  iintro H12
  iapply (wp_st (defs := defs₀ (F := F)) 𝒱₀ (c : Thread nD τ) none Set.univ) $$ H12
  iintro H12
  rw [put_whole O0 (k0_pay863 (F := F)) zero2]
  icases Ho with ⟨%W, Ho⟩
  iapply (wp_waitLocal (defs := defs₀ (F := F)) countersEmb 𝒱₀ (c : Thread nD τ) none () rfl) $$ [Hf Ho]
  · isplitl [Hf] <;> iassumption
  iintro ⟨⟨H9, H1⟩, Hs, Ho⟩
  ihave H9 := (Entails.of_eq (hx9 f9)) $$ H9
  rw [prog_ret_bind]
  iapply (Scf.wp_for_bind frame (wpE (defs₀ (F := F)) 𝒱₀ (c : Thread nD τ) none) Set.univ _ _ _ _ _ _
    (fun k _ => Inv4 c arg0 harg0 arg1 harg1 arg2 harg2 arg3 harg3 arg4 harg4 arg5 harg5 arg6 harg6 arg7 harg7 arg8 harg8 arg9 harg9 arg10 harg10 arg11 harg11 arg12 harg12 arg13 arg14 arg15 XB k) (fun k u => wp_t4 c arg0 harg0 arg1 harg1 arg2 harg2 arg3 harg3 arg4 harg4 arg5 harg5 arg6 harg6 arg7 harg7 arg8 harg8 arg9 harg9 arg10 harg10 arg11 harg11 arg12 harg12 arg13 arg14 arg15 XB k u)) $$ [H9 H10]
  · unfold Inv4
    isplitl [H9]; · iexact H9
    iexists Xs0
    isplitr
    · ipureintro; exact fun t _ h => absurd h (Nat.not_lt_zero _)
    iexact H10
  iintro %acc4 HI
  have htr4 : Scf.trips k0_t4_loop.lb k0_t4_loop.ub k0_t4_loop.st = 28 := trips4
  rw [htr4]
  unfold Inv4
  icases HI with ⟨H9, %Xs, %hQ, H10⟩
  try simp only [prog_ret_bind, prog_pure]
  rw [wp_ret]
  imodintro
  dsimp only
  iapply (Scf.wp_for_bind frame (wpE (defs₀ (F := F)) 𝒱₀ (c : Thread nD τ) none) Set.univ _ _ _ _ _ _
    (fun k _ => Inv5 c arg0 harg0 arg1 harg1 arg2 harg2 arg3 harg3 arg4 harg4 arg5 harg5 arg6 harg6 arg7 harg7 arg8 harg8 arg9 harg9 arg10 harg10 arg11 harg11 arg12 harg12 arg13 arg14 arg15 v1_0.toNat kmask Sz Xs Wv Sv (actOf A5) (tokOf A6) (szOf Sz A5) A5 A6 (A0, k0_pay863) k)
    (fun k acc => wp_t5 c arg0 harg0 arg1 harg1 arg2 harg2 arg3 harg3 arg4 harg4 arg5 harg5 arg6 harg6 arg7 harg7 arg8 harg8 arg9 harg9 arg10 harg10 arg11 harg11 arg12 harg12 arg13 arg14 arg15 v1_0 (chk2 v1_0 hv1) _ _ _ _ _ _ _ k acc Sz Xs Wv Sv (actOf A5) (tokOf A6) (szOf Sz A5) A5 A6 hL (A0, k0_pay863))) $$ [H0 H5 H6 H10 H11 H12 Hr Ho]
  · unfold Inv5
    isplitl [H0]; · iexact H0
    isplitl [H5]; · iexact H5
    isplitl [H6]; · iexact H6
    isplitl [H10]; · iexact H10
    isplitl [H11]; · iexact H11
    isplitl [H12]; · iexact H12
    isplitl [Hr]
    · rw [show min (7 * 0 + 10) (7 * v1_0.toNat) = min (7 * v1_0.toNat) 10 by omega]; iexact Hr
    iexists _; iexact Ho
  iintro %acc5 HI
  have htr5 : Scf.trips (k0_t5_loop v1_0).lb (k0_t5_loop v1_0).ub (k0_t5_loop v1_0).st = v1_0.toNat := trips5 v1_0 hv1
  rw [htr5]
  unfold Inv5
  icases HI with ⟨H0, H5, H6, H10, H11, H12, Hr, Ho⟩
  have hmin : min (7 * v1_0.toNat + 10) (7 * v1_0.toNat) = 7 * v1_0.toNat := by omega
  ihave Hr := (Entails.of_eq (show (KRing c arg2 arg3 arg7 arg8 arg13 arg14 Wv Sv (actOf A5) (7 * v1_0.toNat) (min (7 * v1_0.toNat + 10) (7 * v1_0.toNat)) : sProp (MT nD τ sig Unit (Elt F) ℕ (Pipeline.UD sig nD τ) ℕ)) = IdleRing c arg2 arg3 arg7 arg8 arg13 arg14 Wv Sv from kring_idle' c arg2 arg3 arg7 arg8 arg13 arg14 Wv Sv (actOf A5) _ _ hmin)) $$ Hr
  iapply (Scf.wp_for_bind frame (wpE (defs₀ (F := F)) 𝒱₀ (c : Thread nD τ) none) Set.univ (k0_t13_loop v1_0).lb (k0_t13_loop v1_0).ub (k0_t13_loop v1_0).st _ _ _
    (fun _ _ => iprop(⌜True⌝)) (fun k _ => (Nat.not_lt_zero _ (k.2.trans_eq (trips13 v1_0 hv1))).elim)) $$ []
  · ipureintro; trivial
  iintro %_acc6 _
  iapply (wp_ld (defs := defs₀ (F := F)) 𝒱₀ (c : Thread nD τ) none Set.univ (m := arg12) (View.setOn_subset_set _ _)) $$ H12
  iintro H12
  iapply (wp_ld (defs := defs₀ (F := F)) 𝒱₀ (c : Thread nD τ) none Set.univ (m := arg4) (View.setOn_subset_set _ _)) $$ H4
  iintro H4
  iapply (wp_st (defs := defs₀ (F := F)) 𝒱₀ (c : Thread nD τ) none Set.univ) $$ H4
  iintro H4
  rw [put_whole _ _ zero2, window_whole _ zero2]
  try simp only [prog_ret_bind, prog_pure]
  rw [wp_ret]
  imodintro
  isplitl [H0]; · iexact H0
  isplitl [H1]; · iexact H1
  isplitl [H4]
  · iexists _
    isplitr
    · ipureintro; exact ⟨v1_0, v1_1, A5, A6, Xs, A0, hS, hQ, rfl⟩
    iexact H4
  isplitl [H5]; · iexists _; iexact H5
  isplitl [H6]; · iexists _; iexact H6
  isplitl [H9]; · iexists _; iexact H9
  isplitl [H10]; · iexists _; iexact H10
  isplitl [H11]; · iexists _; iexact H11
  isplitl [H12]; · iexists _; iexact H12
  isplitl [Hr]; · iexact Hr
  isplitl [Hs]; · iexact Hs
  iexact Ho

end Cert.KernelIdeal.Gen
-- ==== Proof.IdealLaunch.lean ====
/- The kernel on the whole machine: the body from what the launch gives it, and the run of the program. -/
module

public import proofs.«01_k».proof.Proof.IdealBody
public import proofs.«01_k».proof.Proof.Gen.KernelIdeal.Points
public import proofs.«01_k».proof.Proof.Gen.KernelIdeal.Launch

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Transfers Mxfp8

variable {F : FTy → Type} [FloatOps F]

local notation "𝕄" => MT nD τ sig Unit (Elt F) ℕ (Pipeline.UD sig nD τ) ℕ

/-- The kernel's own semaphores: the cells of the two rings and the one of the input. -/
abbrev osem0 : Fin 10 ⊕ (Fin 10 ⊕ Unit) → SemLoc sig :=
  Sum.elim (fun n => .dma (cc0_scratch8.ix (cellIx n))) (Sum.elim (fun n => .dma (cc0_scratch9.ix (cellIx n))) fun _ => .dma cc0_scratch10.sem)

theorem ownSemFacts0 : Pipeline.OwnSemFacts spec0 osem0 := by decide +kernel

theorem ownSems0_split (c : Dev nD) :
    (Pipeline.ownSems0 (Ix := Unit) (Name := ℕ) (U := Pipeline.UD sig nD τ) (Lvl := ℕ) (Val := Elt F) (τ := τ) osem0 c : sProp 𝕄)
      = iprop((bigSep Finset.univ fun n : Fin 10 => semVal ((c : Thread nD τ), .dma (cc0_scratch8.ix (cellIx n))) 0)
        ∗ (bigSep Finset.univ fun n : Fin 10 => semVal ((c : Thread nD τ), .dma (cc0_scratch9.ix (cellIx n))) 0)
        ∗ semVal ((c : Thread nD τ), .dma cc0_scratch10.sem) 0) := by
  unfold Pipeline.ownSems0
  rw [bigSep_univ_sum, bigSep_univ_sum, bigSep_univ_of_subsingleton ()]
  rfl

/-- The arrays in HBM that the body reads through its own transfers. -/
def H0 : Finset (Ref sig .tc) := {main_arg0, main_arg2, main_arg3}

theorem H0_sub : H0 ⊆ Pipeline.restRefs sig spec0 := by decide

variable (m : (ℓ : Loc nD τ sig) → Buf (Elt F) ℓ) (ρ : Dev nD → PrngReg)

/-- What a buffer holds when the program starts. -/
abbrev V (c : Dev nD) (b : Ref sig .tc) : Buf (Elt F) ((c : Thread nD τ).loc b) := m ((c : Thread nD τ).loc b)

theorem hbm_split (c : Dev nD) :
    (bigSep H0 (fun b => ((c : Thread nD τ).loc b) ↦{fullShare} V m c b) : sProp 𝕄)
      = iprop(((c : Thread nD τ).loc main_arg0 ↦{fullShare} V m c main_arg0) ∗ ((c : Thread nD τ).loc main_arg2 ↦{fullShare} V m c main_arg2)
          ∗ ((c : Thread nD τ).loc main_arg3 ↦{fullShare} V m c main_arg3)) := by
  rw [BI.bigSep_eq_bigSepL_of_eq [main_arg0, main_arg2, main_arg3] (by decide) (by decide)]; rfl

/-- A whole buffer, and the memref of all of it. -/
theorem whole_held (c : Dev nD) (b : Ref sig .tc) (q : PosShare TreeShare) (f : b.ty.Contents (Elt F)) :
    ((Memref.whole b).view.loc (c : Thread nD τ) ↦[(Memref.whole b).view.set]{q} (Memref.whole b).view.rep f : sProp 𝕄)
      = ((c : Thread nD τ).loc b ↦{q} f) := by
  have h := pointsTo_of_read (Ix := Unit) (Name := ℕ) (U := Pipeline.UD sig nD τ) (Lvl := ℕ) (Val := Elt F) (m := Memref.whole b) (c : Thread nD τ) (q := q)
    (f := (Memref.whole b).view.rep f) (g := f) (by rw [View.read_rep]; rfl)
  rw [h]
  simp only [Memref.view_whole, View.set_whole]

theorem whole_held_ex (c : Dev nD) (b : Ref sig .tc) :
    (iprop(∃ f, (Memref.whole b).view.loc (c : Thread nD τ) ↦[(Memref.whole b).view.set]{fullShare} (Memref.whole b).view.rep f) : sProp 𝕄)
      = iprop(∃ f : Buf (Elt F) ((c : Thread nD τ).loc b), ((c : Thread nD τ).loc b) ↦{fullShare} f) := by
  congr 1; funext f; exact whole_held c b fullShare f

section Ring

variable (c : Dev nD)

/-- The slots of a ring are the ring. -/
theorem slots7 (f₀ : Buf (Elt F) ((c : Thread nD τ).loc cc0_scratch2)) :
    (iprop(∃ f : Buf (Elt F) ((c : Thread nD τ).loc cc0_scratch2), ((c : Thread nD τ).loc cc0_scratch2) ↦{fullShare} f) : sProp 𝕄)
      ⊣⊢ bigSep (Finset.univ : Finset (Fin 10)) fun n => iprop(∃ f, (Memref.whole cc0_scratch2).view.loc (c : Thread nD τ) ↦[slotSet (c : Thread nD τ) (Memref.whole cc0_scratch2) n.val n.isLt]{fullShare} f) := by
  have hs : ∀ n : Fin 10, slotSet (c : Thread nD τ) (Memref.whole cc0_scratch2) n.val n.isLt = (Rect.unit (s := SRing 1024) ![n.val, 0, 0] (SOne 1024).size (slot_inb n.isLt)).set :=
    fun n => View.set_slice_whole cc0_scratch2 _
  have hd := Ring.lead_disjoint (s := SRing 1024) (NB := 10) 0 1 (fun n => ![n.val, 0, 0]) (SOne 1024).size (fun n => slot_inb n.isLt) (fun n => (Nat.one_mul _).symm) rfl
  have hc := Ring.lead_cover (s := SRing 1024) (NB := 10) 0 1 (fun n => ![n.val, 0, 0]) (SOne 1024).size (fun n => slot_inb n.isLt) (fun n => (Nat.one_mul _).symm)
    (by decide +kernel) rfl (by decide) rfl
  simp only [hs]
  constructor
  · iintro ⟨%f, H⟩
    ihave H := (Entails.of_eq (Ring.pointsTo_blocks (ℓ := (c : Thread nD τ).loc cc0_scratch2) _ hd hc f)) $$ H
    have hm : (bigSep (Finset.univ : Finset (Fin 10)) (fun n => ((c : Thread nD τ).loc cc0_scratch2 ↦[(Rect.unit (s := SRing 1024) ![n.val, 0, 0] (SOne 1024).size (slot_inb n.isLt)).set]{fullShare} f)) : sProp 𝕄)
        ⊢ bigSep (Finset.univ : Finset (Fin 10)) (fun n => iprop(∃ f, (c : Thread nD τ).loc cc0_scratch2 ↦[(Rect.unit (s := SRing 1024) ![n.val, 0, 0] (SOne 1024).size (slot_inb n.isLt)).set]{fullShare} f)) :=
      BI.bigSep_mono fun n _ => by
        change iprop((c : Thread nD τ).loc cc0_scratch2 ↦[_]{fullShare} f) ⊢ iprop(∃ f, _)
        iintro H; iexists f; iexact H
    iapply hm $$ H
  · exact Ring.pointsTo_blocks_join_exists (ℓ := (c : Thread nD τ).loc cc0_scratch2) _ hd hc f₀

theorem slots8 (f₀ : Buf (Elt F) ((c : Thread nD τ).loc cc0_scratch3)) :
    (iprop(∃ f : Buf (Elt F) ((c : Thread nD τ).loc cc0_scratch3), ((c : Thread nD τ).loc cc0_scratch3) ↦{fullShare} f) : sProp 𝕄)
      ⊣⊢ bigSep (Finset.univ : Finset (Fin 10)) fun n => iprop(∃ f, (Memref.whole cc0_scratch3).view.loc (c : Thread nD τ) ↦[slotSet (c : Thread nD τ) (Memref.whole cc0_scratch3) n.val n.isLt]{fullShare} f) := by
  have hs : ∀ n : Fin 10, slotSet (c : Thread nD τ) (Memref.whole cc0_scratch3) n.val n.isLt = (Rect.unit (s := SRing 32) ![n.val, 0, 0] (SOne 32).size (slot_inb n.isLt)).set :=
    fun n => View.set_slice_whole cc0_scratch3 _
  have hd := Ring.lead_disjoint (s := SRing 32) (NB := 10) 0 1 (fun n => ![n.val, 0, 0]) (SOne 32).size (fun n => slot_inb n.isLt) (fun n => (Nat.one_mul _).symm) rfl
  have hc := Ring.lead_cover (s := SRing 32) (NB := 10) 0 1 (fun n => ![n.val, 0, 0]) (SOne 32).size (fun n => slot_inb n.isLt) (fun n => (Nat.one_mul _).symm)
    (by decide +kernel) rfl (by decide) rfl
  simp only [hs]
  constructor
  · iintro ⟨%f, H⟩
    ihave H := (Entails.of_eq (Ring.pointsTo_blocks (ℓ := (c : Thread nD τ).loc cc0_scratch3) _ hd hc f)) $$ H
    have hm : (bigSep (Finset.univ : Finset (Fin 10)) (fun n => ((c : Thread nD τ).loc cc0_scratch3 ↦[(Rect.unit (s := SRing 32) ![n.val, 0, 0] (SOne 32).size (slot_inb n.isLt)).set]{fullShare} f)) : sProp 𝕄)
        ⊢ bigSep (Finset.univ : Finset (Fin 10)) (fun n => iprop(∃ f, (c : Thread nD τ).loc cc0_scratch3 ↦[(Rect.unit (s := SRing 32) ![n.val, 0, 0] (SOne 32).size (slot_inb n.isLt)).set]{fullShare} f)) :=
      BI.bigSep_mono fun n _ => by
        change iprop((c : Thread nD τ).loc cc0_scratch3 ↦[_]{fullShare} f) ⊢ iprop(∃ f, _)
        iintro H; iexists f; iexact H
    iapply hm $$ H
  · exact Ring.pointsTo_blocks_join_exists (ℓ := (c : Thread nD τ).loc cc0_scratch3) _ hd hc f₀

/-- The idle rings, part by part. -/
theorem idle_parts (Wv : (SArr 7168).Idx → Elt F .fp8e4m3) (Sv : (SArr 224).Idx → Elt F .i8) :
    IdleRing c (Memref.whole main_arg2) (Memref.whole main_arg3) (Memref.whole cc0_scratch2) (Memref.whole cc0_scratch3) cc0_scratch8 cc0_scratch9 Wv Sv
      = iprop((bigSep (Finset.univ : Finset (Fin 10)) fun n => iprop(∃ f, (Memref.whole cc0_scratch2).view.loc (c : Thread nD τ) ↦[slotSet (c : Thread nD τ) (Memref.whole cc0_scratch2) n.val n.isLt]{fullShare} f))
        ∗ (bigSep (Finset.univ : Finset (Fin 10)) fun n => iprop(∃ f, (Memref.whole cc0_scratch3).view.loc (c : Thread nD τ) ↦[slotSet (c : Thread nD τ) (Memref.whole cc0_scratch3) n.val n.isLt]{fullShare} f))
        ∗ (bigSep (Finset.univ : Finset (Fin 10)) fun n => ((c : Thread nD τ).loc main_arg2 ↦[Finset.univ]{slotShare n} Wv))
        ∗ (bigSep (Finset.univ : Finset (Fin 10)) fun n => ((c : Thread nD τ).loc main_arg3 ↦[Finset.univ]{slotShare n} Sv))
        ∗ (bigSep (Finset.univ : Finset (Fin 10)) fun n => semVal ((c : Thread nD τ), .dma (cc0_scratch8.ix (cellIx n))) 0)
        ∗ (bigSep (Finset.univ : Finset (Fin 10)) fun n => semVal ((c : Thread nD τ), .dma (cc0_scratch9.ix (cellIx n))) 0)) := by
  unfold IdleRing SlotIdle
  rw [bigSep_sep', bigSep_sep', bigSep_sep', bigSep_sep', bigSep_sep']
  rw [show (fun n : Fin 10 => ((Memref.whole main_arg2).view.loc (c : Thread nD τ) ↦[(Memref.whole main_arg2).view.set]{slotShare n} (Memref.whole main_arg2).view.rep Wv : sProp 𝕄))
      = fun n => ((c : Thread nD τ).loc main_arg2 ↦[Finset.univ]{slotShare n} Wv) from funext fun n => whole_held c main_arg2 _ Wv,
    show (fun n : Fin 10 => ((Memref.whole main_arg3).view.loc (c : Thread nD τ) ↦[(Memref.whole main_arg3).view.set]{slotShare n} (Memref.whole main_arg3).view.rep Sv : sProp 𝕄))
      = fun n => ((c : Thread nD τ).loc main_arg3 ↦[Finset.univ]{slotShare n} Sv) from funext fun n => whole_held c main_arg3 _ Sv]

end Ring

/-- The rings idle, from the launch's buffers, cells and arrays; the rest of the arrays is kept. -/
theorem idle_in (c : Dev nD) (Wv : (SArr 7168).Idx → Elt F .fp8e4m3) (Sv : (SArr 224).Idx → Elt F .i8) :
    (iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ ((c : Thread nD τ).loc main_arg2 ↦[Finset.univ]{fullShare} Wv) ∗ ((c : Thread nD τ).loc main_arg3 ↦[Finset.univ]{fullShare} Sv)
      ∗ (bigSep (Finset.univ : Finset (Fin 10)) fun n => semVal ((c : Thread nD τ), .dma (cc0_scratch8.ix (cellIx n))) 0)
      ∗ (bigSep (Finset.univ : Finset (Fin 10)) fun n => semVal ((c : Thread nD τ), .dma (cc0_scratch9.ix (cellIx n))) 0)) : sProp 𝕄)
    ⊢ iprop(IdleRing c (Memref.whole main_arg2) (Memref.whole main_arg3) (Memref.whole cc0_scratch2) (Memref.whole cc0_scratch3) cc0_scratch8 cc0_scratch9 Wv Sv
      ∗ ((c : Thread nD τ).loc main_arg2 ↦[Finset.univ]{shareDrop fullShare 10} Wv) ∗ ((c : Thread nD τ).loc main_arg3 ↦[Finset.univ]{shareDrop fullShare 10} Sv)) := by
  rw [idle_parts]
  iintro ⟨⟨%f7, H7⟩, ⟨%f8, H8⟩, HW, HS, Hw, Hs⟩
  ihave H7 := (slots7 c f7).1 $$ [H7]
  · iexists f7; iexact H7
  ihave H8 := (slots8 c f8).1 $$ [H8]
  · iexists f8; iexact H8
  ihave HW := (pointsTo_toks (ℓ := (c : Thread nD τ).loc main_arg2) fullShare 10).1 $$ HW
  ihave HS := (pointsTo_toks (ℓ := (c : Thread nD τ).loc main_arg3) fullShare 10).1 $$ HS
  icases HW with ⟨HW, HWs⟩
  icases HS with ⟨HS, HSs⟩
  isplitl [H7 H8 HWs HSs Hw Hs]
  · isplitl [H7]; · iexact H7
    isplitl [H8]; · iexact H8
    isplitl [HWs]; · iexact HWs
    isplitl [HSs]; · iexact HSs
    isplitl [Hw]; · iexact Hw
    iexact Hs
  isplitl [HW]; · iexact HW
  iexact HS

/-- And back. -/
theorem idle_out (c : Dev nD) (Wv : (SArr 7168).Idx → Elt F .fp8e4m3) (Sv : (SArr 224).Idx → Elt F .i8)
    (f7 : Buf (Elt F) ((c : Thread nD τ).loc cc0_scratch2)) (f8 : Buf (Elt F) ((c : Thread nD τ).loc cc0_scratch3)) :
    (iprop(IdleRing c (Memref.whole main_arg2) (Memref.whole main_arg3) (Memref.whole cc0_scratch2) (Memref.whole cc0_scratch3) cc0_scratch8 cc0_scratch9 Wv Sv
      ∗ ((c : Thread nD τ).loc main_arg2 ↦[Finset.univ]{shareDrop fullShare 10} Wv) ∗ ((c : Thread nD τ).loc main_arg3 ↦[Finset.univ]{shareDrop fullShare 10} Sv)) : sProp 𝕄)
    ⊢ iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ ((c : Thread nD τ).loc main_arg2 ↦[Finset.univ]{fullShare} Wv) ∗ ((c : Thread nD τ).loc main_arg3 ↦[Finset.univ]{fullShare} Sv)
      ∗ (bigSep (Finset.univ : Finset (Fin 10)) fun n => semVal ((c : Thread nD τ), .dma (cc0_scratch8.ix (cellIx n))) 0)
      ∗ (bigSep (Finset.univ : Finset (Fin 10)) fun n => semVal ((c : Thread nD τ), .dma (cc0_scratch9.ix (cellIx n))) 0)) := by
  rw [idle_parts]
  iintro ⟨⟨H7, H8, HWs, HSs, Hw, Hs⟩, HW, HS⟩
  ihave H7 := (slots7 c f7).2 $$ H7
  ihave H8 := (slots8 c f8).2 $$ H8
  ihave HW := (pointsTo_toks (ℓ := (c : Thread nD τ).loc main_arg2) fullShare 10).2 $$ [HW HWs]
  · isplitl [HW]; · iexact HW
    iexact HWs
  ihave HS := (pointsTo_toks (ℓ := (c : Thread nD τ).loc main_arg3) fullShare 10).2 $$ [HS HSs]
  · isplitl [HS]; · iexact HS
    iexact HSs
  isplitl [H7]; · iexact H7
  isplitl [H8]; · iexact H8
  isplitl [HW]; · iexact HW
  isplitl [HS]; · iexact HS
  isplitl [Hw]; · iexact Hw
  iexact Hs

/-! ## The body at its one point -/

/-- The buffers and cells the launch hands over, one by one. -/
theorem PhiD_parts (c : Dev nD) :
    (Pipeline.ΦD osem0 spec0 H0 (V m) c : sProp 𝕄)
      = iprop(iprop((∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f)
          ∗ (∃ f, (Memref.whole cc0_scratch5).view.loc (c : Thread nD τ) ↦[(Memref.whole cc0_scratch5).view.set]{fullShare} (Memref.whole cc0_scratch5).view.rep f)
          ∗ (∃ f, (Memref.whole cc0_scratch6).view.loc (c : Thread nD τ) ↦[(Memref.whole cc0_scratch6).view.set]{fullShare} (Memref.whole cc0_scratch6).view.rep f)
          ∗ (∃ f, (Memref.whole cc0_scratch7).view.loc (c : Thread nD τ) ↦[(Memref.whole cc0_scratch7).view.set]{fullShare} (Memref.whole cc0_scratch7).view.rep f)
          ∗ (∃ f, (Memref.whole cc0_scratch0).view.loc (c : Thread nD τ) ↦[(Memref.whole cc0_scratch0).view.set]{fullShare} (Memref.whole cc0_scratch0).view.rep f)
          ∗ (∃ f, (Memref.whole cc0_scratch1).view.loc (c : Thread nD τ) ↦[(Memref.whole cc0_scratch1).view.set]{fullShare} (Memref.whole cc0_scratch1).view.rep f))
        ∗ (∃ r, prngReg c r)
        ∗ iprop((bigSep (Finset.univ : Finset (Fin 10)) fun n => semVal ((c : Thread nD τ), .dma (cc0_scratch8.ix (cellIx n))) 0)
          ∗ (bigSep (Finset.univ : Finset (Fin 10)) fun n => semVal ((c : Thread nD τ), .dma (cc0_scratch9.ix (cellIx n))) 0)
          ∗ semVal ((c : Thread nD τ), .dma cc0_scratch10.sem) 0)
        ∗ iprop(((Memref.whole main_arg0).view.loc (c : Thread nD τ) ↦[(Memref.whole main_arg0).view.set]{fullShare} (Memref.whole main_arg0).view.rep (V m c main_arg0))
          ∗ ((c : Thread nD τ).loc main_arg2 ↦{fullShare} V m c main_arg2) ∗ ((c : Thread nD τ).loc main_arg3 ↦{fullShare} V m c main_arg3))) := by
  rw [Pipeline.ΦD_eq, scopedRest0_eq, ownSems0_split, hbm_split, whole_held_ex, whole_held_ex, whole_held_ex, whole_held_ex, whole_held_ex, whole_held]

/-- The sizes the kernel is given. -/
abbrev sizesOf (c : Dev nD) : S12.Idx → Elt F .i32 := V m c main_arg1

/-- The body at its point, from what the launch gives: it gives it back, with a result as described. -/
theorem wp_point (c : Dev nD) (hf : Fits (sizesOf m c)) (t : Fin cfg0.N) :
    iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, owns (c : Thread nD τ) (win0_1.stage (cfg0.slots t 1)) fullShare d))
    ⊢ wp frame (wpE (defs₀ (F := F)) 𝒱₀ (c : Thread nD τ) none) Set.univ (bodyAt0 t) fun _ =>
      iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, ⌜Result (sizesOf m c) (V m c main_arg0) (V m c main_arg2) (V m c main_arg3) d⌝ ∗ owns (c : Thread nD τ) (win0_1.stage (cfg0.slots t 1)) fullShare d)) := by
  rw [PhiD_parts]
  unfold bodyAt0
  iintro ⟨⟨⟨⟨%f7, H7⟩, ⟨%f8, H8⟩, ⟨%f9, H9⟩, H10, H11, H12, H5, H6⟩, Hg, ⟨Hw, Hs, Hx⟩, H1, HW, HS⟩, Ho, H0, ⟨%y0, H4⟩⟩
  unfold owns
  icases H0 with ⟨%f0, %h0, H0⟩
  icases H4 with ⟨%f4, %h4, H4⟩
  ihave H0 := (Entails.of_eq (pointsTo_of_read (m := win0_0.stage (cfg0.slots t 0)) (c : Thread nD τ) (g := (win0_0.stage (cfg0.slots t 0)).view.rep (sizesOf m c)) (by rw [View.read_rep]; exact h0))) $$ H0
  ihave H4 := (Entails.of_eq (pointsTo_of_read (m := win0_1.stage (cfg0.slots t 1)) (c : Thread nD τ) (g := (win0_1.stage (cfg0.slots t 1)).view.rep y0) (by rw [View.read_rep]; exact h4))) $$ H4
  ihave Hr := (idle_in c (V m c main_arg2) (V m c main_arg3)) $$ [H7 H8 HW HS Hw Hs]
  · isplitl [H7]; · iexists f7; iexact H7
    isplitl [H8]; · iexists f8; iexact H8
    isplitl [HW]; · iexact HW
    isplitl [HS]; · iexact HS
    isplitl [Hw]; · iexact Hw
    iexact Hs
  icases Hr with ⟨Hr, HW, HS⟩
  iapply (wp_wand frame (wpE (defs₀ (F := F)) 𝒱₀ (c : Thread nD τ) none) Set.univ) $$ [H0 H1 H4 H5 H6 H9 H10 H11 H12 Hr Hx Ho]
  · iapply (wp_body c _ (hstage0_0 0) (Memref.whole main_arg0) (Memref.isWhole_whole _) (Memref.whole main_arg2) (Memref.isWhole_whole _) (Memref.whole main_arg3) (Memref.isWhole_whole _)
      _ (hstage0_1 0) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) cc0_scratch8 cc0_scratch9 cc0_scratch10
      (sizesOf m c) hf (V m c main_arg0) (V m c main_arg2) (V m c main_arg3))
    isplitl [H0]; · iexact H0
    isplitl [H1]; · iexact H1
    isplitl [H4]; · iexists y0; iexact H4
    isplitl [H5]; · iexact H5
    isplitl [H6]; · iexact H6
    isplitl [H9]
    · iexists f9
      rw [show (Memref.whole cc0_scratch4).view.set = Finset.univ from View.set_whole _]
      iexact H9
    isplitl [H10]; · iexact H10
    isplitl [H11]; · iexact H11
    isplitl [H12]; · iexact H12
    isplitl [Hr]; · iexact Hr
    isplitl [Hx]; · iexact Hx
    iexact Ho
  iintro %_ ⟨H0, H1, ⟨%y, %hy, H4⟩, H5, H6, ⟨%g9, H9⟩, H10, H11, H12, Hr, Hx, Ho⟩
  ihave Hr := (idle_out c (V m c main_arg2) (V m c main_arg3) f7 f8) $$ [Hr HW HS]
  · isplitl [Hr]; · iexact Hr
    isplitl [HW]; · iexact HW
    iexact HS
  icases Hr with ⟨H7, H8, HW, HS, Hw, Hs⟩
  isplitl [H1 H5 H6 H7 H8 H9 H10 H11 H12 Hg Hw Hs Hx HW HS]
  · isplitl [H5 H6 H7 H8 H9 H10 H11 H12]
    · isplitl [H7]; · iexact H7
      isplitl [H8]; · iexact H8
      isplitl [H9]
      · iexists g9
        rw [show (Memref.whole cc0_scratch4).view.set = Finset.univ from View.set_whole _]
        iexact H9
      isplitl [H10]; · iexact H10
      isplitl [H11]; · iexact H11
      isplitl [H12]; · iexact H12
      isplitl [H5]; · iexact H5
      iexact H6
    isplitl [Hg]; · iexact Hg
    isplitl [Hw Hs Hx]
    · isplitl [Hw]; · iexact Hw
      isplitl [Hs]; · iexact Hs
      iexact Hx
    isplitl [H1]; · iexact H1
    isplitl [HW]; · iexact HW
    iexact HS
  isplitl [Ho]; · iexact Ho
  isplitl [H0]
  · iexists _
    isplitr; swap; · iexact H0
    ipureintro; exact View.read_rep _ _
  iexists y
  isplitr
  · ipureintro; exact hy
  iexists _
  isplitr; swap; · iexact H4
  ipureintro; exact View.read_rep _ _

/-! ## The run -/

open Idealize.ShloMosaic.Pipeline (RDat)

/-- The body table's row at the point is the body. -/
theorem defs₀_row (t : Fin cfg0.N) : defs₀ (F := F) .tc cfg0.body (cfg0.bodyArgs t (cfg0.slots t)) = bodyAt0 t := by
  unfold defs₀; rw [Defs.onTc_tc]

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

section Run

/-- What the run is told of the windows: the sizes stay, and the result is one the body may compute. -/
def rdats (c : Dev nD) : RDat τ (Elt F) Unit ℕ (Pipeline.UD sig nD τ) ℕ cfg0 c where
  A w := V m c (Pipeline.arrRef spec0 w)
  after w t Y X := match w with
    | ⟨0, _⟩ => X = Y
    | ⟨1, _⟩ => Result (sizesOf m c) (V m c main_arg0) (V m c main_arg2) (V m c main_arg3) X
    | ⟨_ + 2, h⟩ => absurd h (Nat.not_lt.2 (Nat.le_add_left _ _))
  Φ _ := Pipeline.ΦD osem0 spec0 H0 (V m) c
  q _ := fullShare
  owed _ := 0

theorem A_eq (c : Dev nD) (w : Fin cfg0.W) : (rdats m c).A w = V m c (Pipeline.arrRef spec0 w) := by dsimp only [rdats]

/-- The block of a window that is its whole array is the array. -/
theorem read_sizes (c : Dev nD) (f : Buf (Elt F) ((c : Thread nD τ).loc main_arg1)) : (win0_0.blk t0_0).view.read (Elt F) f = f :=
  Memref.read_access_unit_zero (Elt F) main_arg1
    (show (fun a => (win0_0.index t0_0) a * main_arg1.ty.shape.size a) = fun _ => 0 from
      funext fun a => by fin_cases a <;> decide) (fun a => by fin_cases a <;> decide) f

theorem read_result (c : Dev nD) (f : Buf (Elt F) ((c : Thread nD τ).loc main_v0)) : (win0_1.blk t0_0).view.read (Elt F) f = f :=
  Memref.read_access_unit_zero (Elt F) main_v0
    (show (fun a => (win0_1.index t0_0) a * main_v0.ty.shape.size a) = fun _ => 0 from
      funext fun a => by fin_cases a <;> decide) (fun a => by fin_cases a <;> decide) f

theorem finds_sizes (c : Dev nD) (t : Fin cfg0.N) (Y : (cfg0.win 0).block.Idx → Elt F (cfg0.win 0).elt) (h : (rdats m c).Finds 0 t Y) :
    Y = sizesOf m c := by
  rw [RDat.finds_of_fetch _ (fetch0_0 t)] at h
  obtain ⟨d, rfl⟩ := h
  rw [fin_N0 t]
  exact (show (rdats m c).fetched 0 t0_0 d = (win0_0.blk t0_0).view.read (Elt F) (V m c main_arg1) from rfl).trans (read_sizes c _)

/-- The point, with the core's debts as the pipeline states them. -/
theorem sound_body (c : Dev nD) (hf : Fits (sizesOf m c)) (t : Fin cfg0.N) :
    iprop((rdats m c).Φ t.castSucc ∗ (rdats m c).owesAt () t.castSucc
      ∗ owns (c : Thread nD τ) (win0_0.stage (cfg0.slots t 0)) fullShare (sizesOf m c)
      ∗ (∃ d, owns (c : Thread nD τ) (win0_1.stage (cfg0.slots t 1)) fullShare d))
    ⊢ wp frame (wpE (defs₀ (F := F)) 𝒱₀ (c : Thread nD τ) none) Set.univ (bodyAt0 t) fun _ =>
      iprop((rdats m c).Φ t.succ ∗ (rdats m c).owesAt () t.succ
      ∗ (∃ X, ⌜X = sizesOf m c⌝ ∗ owns (c : Thread nD τ) (win0_0.stage (cfg0.slots t 0)) fullShare X)
      ∗ (∃ d, ⌜Result (sizesOf m c) (V m c main_arg0) (V m c main_arg2) (V m c main_arg3) d⌝ ∗ owns (c : Thread nD τ) (win0_1.stage (cfg0.slots t 1)) fullShare d)) := by
  have hi : iprop((rdats m c).Φ t.castSucc ∗ (rdats m c).owesAt () t.castSucc
      ∗ owns (c : Thread nD τ) (win0_0.stage (cfg0.slots t 0)) fullShare (sizesOf m c)
      ∗ (∃ d, owns (c : Thread nD τ) (win0_1.stage (cfg0.slots t 1)) fullShare d))
      ⊢ iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, owns (c : Thread nD τ) (win0_1.stage (cfg0.slots t 1)) fullShare d)) := by
    unfold RDat.owesAt Pipeline.owesWithin
    dsimp only [rdats]
    iintro ⟨HΦ, ⟨%W, -, HO⟩, H0, H1⟩
    isplitl [HΦ]; · iexact HΦ
    isplitl [HO]; · iexists W; iexact HO
    isplitl [H0]; · iexact H0
    iexact H1
  have ho : iprop((Pipeline.ΦD osem0 spec0 H0 (V m) c : sProp 𝕄) ∗ (∃ W, owes (c : Thread nD τ) 0 W)
      ∗ owns (c : Thread nD τ) (win0_0.stage (cfg0.slots t 0)) fullShare (sizesOf m c)
      ∗ (∃ d, ⌜Result (sizesOf m c) (V m c main_arg0) (V m c main_arg2) (V m c main_arg3) d⌝ ∗ owns (c : Thread nD τ) (win0_1.stage (cfg0.slots t 1)) fullShare d))
      ⊢ iprop((rdats m c).Φ t.succ ∗ (rdats m c).owesAt () t.succ
      ∗ (∃ X, ⌜X = sizesOf m c⌝ ∗ owns (c : Thread nD τ) (win0_0.stage (cfg0.slots t 0)) fullShare X)
      ∗ (∃ d, ⌜Result (sizesOf m c) (V m c main_arg0) (V m c main_arg2) (V m c main_arg3) d⌝ ∗ owns (c : Thread nD τ) (win0_1.stage (cfg0.slots t 1)) fullShare d)) := by
    unfold RDat.owesAt Pipeline.owesWithin
    dsimp only [rdats]
    iintro ⟨HΦ, ⟨%W, HO⟩, H0, H1⟩
    isplitl [HΦ]; · iexact HΦ
    isplitl [HO]
    · iexists W
      isplitr; · ipureintro; exact fun _ _ => Or.inl trivial
      iexact HO
    isplitl [H0]
    · iexists _
      isplitr; swap; · iexact H0
      ipureintro; rfl
    iexact H1
  exact hi.trans ((wp_point m c hf t).trans ((wp frame (wpE (defs₀ (F := F)) 𝒱₀ (c : Thread nD τ) none) Set.univ (bodyAt0 t)).mono fun _ => ho))

theorem body_obligation (c : Dev nD) (hf : Fits (sizesOf m c)) :
    (rdats m c).BodyObligation (defs₀ (F := F)) Variants.none () Set.univ := fun t Y hY => by
  have h0 := finds_sizes m c t (Y 0) (hY 0)
  rw [bigSep_W0, bigSep_W0, defs₀_row, h0]
  refine triple_restated (sound_body m c hf t) rfl ?_ fun _ => ?_
  · exact sep_mono .rfl (sep_mono .rfl (sep_mono .rfl (exists_intro (Y 1))))
  · exact .rfl

variable (hf : ∀ c, Fits (sizesOf m c))
include hf

set_option backward.isDefEq.respectTransparency.types false in
/-- From any memory whose sizes fit, every execution ends, with the semaphores at zero, the arrays the program does
    not write as they were, and the result one the body may compute. -/
theorem run_main :
    θ_run defs (onTc (τ := τ) (main (F := F))) (s₀ m ρ)
      (fun r => Pipeline.RDat.FramePost (cfgs 0) (fun c => rdats m c) (V m) r ∧ r.2.sem = fun _ => 0) :=
  Pipeline.RDat.θ_run_frame_dma (Q' := _) cfgs (0 : Fin 1) launch0 osem0 defs₀ Variants.none (fun c => rdats m c) ownSemFacts0 H0 H0_sub m ρ main
    (hbody := fun c => body_obligation m c (hf c)) (hshare := fun c => (rdats m c).share_full fun _ => rfl)
    (howed := fun _ _ => rfl) (V := V m) (hmain := hmainD m Variants.none) (hA := A_eq m)
    (hin := fun _ => .rfl) (hout := fun _ => .rfl)

omit hf in
theorem result_of_arrAt (c : Dev nD) (f : Buf (Elt F) ((c : Thread nD τ).loc main_v0)) (h : (rdats m c).ArrAt 1 cfg0.N f) :
    Result (sizesOf m c) (V m c main_arg0) (V m c main_arg2) (V m c main_arg3) f := by
  have h1 : (rdats m c).ArrAt 1 1 f := h
  unfold RDat.ArrAt at h1
  rw [dif_pos (show 0 < cfg0.N from Nat.one_pos), if_pos (flush0_1 _)] at h1
  obtain ⟨G₀, X, -, ⟨Y, -, hX⟩, e⟩ := h1
  have e' : f = X := (read_result c f).symm.trans (by rw [e]; exact View.read_write_univ _ _)
  rw [e']
  exact hX

/-- The run in the words of the claims. -/
theorem run_ends :
    θ_run defs (onTc (τ := τ) (main (F := F))) (s₀ m ρ) fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ Result (sizesOf m c) (V m c main_arg0) (V m c main_arg2) (V m c main_arg3) (r.2.mem ((c : Thread nD τ).loc main_v0)))
      ∧ r.2.sem = fun _ => 0 :=
  (θ_run defs _ _).mono (fun r h => ⟨fun c => ⟨⟨
      (h.1 c).2 main_arg0 (Pipeline.mem_restRefs_of main_arg0 (by decide) (by decide)),
      by have := (h.1 c).1 0; rw [RDat.ArrAt_in _ 0 rfl] at this; exact this,
      (h.1 c).2 main_arg2 (Pipeline.mem_restRefs_of main_arg2 (by decide) (by decide)),
      (h.1 c).2 main_arg3 (Pipeline.mem_restRefs_of main_arg3 (by decide) (by decide))⟩,
      result_of_arrAt m c _ ((h.1 c).1 1)⟩, h.2⟩) (run_main m ρ hf)

end Run

end Cert.KernelIdeal.Gen
-- ==== Proof.Sizes.lean ====
/- What the precondition says of the experts' sizes: none is negative, and together they are at most 32. -/
module

public import proofs.«01_k».proof.Proof.Scan
public import proofs.«01_k».proof.Proof.Gen.Pre_sizes_ok
public import Idealize.ShloMosaic.Lib.Routing.Ops
public import Idealize.ShloMosaic.Lib.ReduceAll

@[expose] public section

noncomputable section

namespace Mxfp8

open Idealize.ShloMosaic Idealize.ShloMosaic.ValueIdx

/-- A fold by the smaller word is below every word it meets. -/
theorem foldl_minsi {ι : Type} (f : ι → BitVec 32) : ∀ (l : List ι) (init : BitVec 32),
    (l.foldl (fun r i => IntOp.minsi r (f i)) init).toInt ≤ init.toInt ∧ ∀ i ∈ l, (l.foldl (fun r i => IntOp.minsi r (f i)) init).toInt ≤ (f i).toInt
  | [], init => ⟨Int.le_refl _, fun _ h => nomatch h⟩
  | a :: l, init => by
    obtain ⟨h1, h2⟩ := foldl_minsi f l (IntOp.minsi init (f a))
    have hm : (IntOp.minsi init (f a)).toInt ≤ init.toInt ∧ (IntOp.minsi init (f a)).toInt ≤ (f a).toInt := by
      unfold IntOp.minsi; split
      · next h => rw [BitVec.slt_iff_toInt_lt] at h; exact ⟨Int.le_refl _, Int.le_of_lt h⟩
      · next h => rw [BitVec.slt_iff_toInt_lt] at h; exact ⟨Int.not_lt.1 h, Int.le_refl _⟩
    refine ⟨h1.trans hm.1, fun i hi => ?_⟩
    rcases List.mem_cons.1 hi with rfl | hi
    exacts [h1.trans hm.2, h2 i hi]

/-- A fold by the larger word is above every word it meets. -/
theorem foldl_maxsi {ι : Type} (f : ι → BitVec 32) : ∀ (l : List ι) (init : BitVec 32),
    init.toInt ≤ (l.foldl (fun r i => IntOp.maxsi r (f i)) init).toInt ∧ ∀ i ∈ l, (f i).toInt ≤ (l.foldl (fun r i => IntOp.maxsi r (f i)) init).toInt
  | [], init => ⟨Int.le_refl _, fun _ h => nomatch h⟩
  | a :: l, init => by
    obtain ⟨h1, h2⟩ := foldl_maxsi f l (IntOp.maxsi init (f a))
    have hm : init.toInt ≤ (IntOp.maxsi init (f a)).toInt ∧ (f a).toInt ≤ (IntOp.maxsi init (f a)).toInt := by
      unfold IntOp.maxsi; split
      · next h => rw [BitVec.slt_iff_toInt_lt] at h; exact ⟨Int.le_refl _, Int.le_of_lt h⟩
      · next h => rw [BitVec.slt_iff_toInt_lt] at h; exact ⟨Int.not_lt.1 h, Int.le_refl _⟩
    refine ⟨hm.1.trans h1, fun i hi => ?_⟩
    rcases List.mem_cons.1 hi with rfl | hi
    exacts [hm.2.trans h1, h2 i hi]

section Reduce

variable {s : Shape} {axes : List (Fin s.rank)} {t u : Shape}

/-- A `stablehlo.reduce` to one value meets every entry. -/
theorem mem_reduce [Subsingleton t.Idx] (h : s.ReducesTo axes t) (j : t.Idx) (i : s.Idx) :
    i ∈ ((List.finRange s.numel).map s.rowMajor.symm).filter fun i => h.drop i = j :=
  List.mem_filter.2 ⟨List.mem_map.2 ⟨s.rowMajor i, List.mem_finRange _, Equiv.symm_apply_apply _ _⟩, decide_eq_true (Subsingleton.elim _ _)⟩

/-- The smallest of an array's words is below each of them. -/
theorem reduce_minsi_le [Subsingleton t.Idx] (x : s.Idx → BitVec 32) (init : u.Idx → BitVec 32) (h : s.ReducesTo axes t) (hu : 0 < u.numel) (j : t.Idx)
    (i : s.Idx) : (Host.reduce IntOp.minsi x init h hu j).toInt ≤ (x i).toInt := by
  rw [Host.reduce_eq_foldl]
  exact (foldl_minsi x _ _).2 i (mem_reduce h j i)

/-- The largest of an array's words is above each of them. -/
theorem le_reduce_maxsi [Subsingleton t.Idx] (x : s.Idx → BitVec 32) (init : u.Idx → BitVec 32) (h : s.ReducesTo axes t) (hu : 0 < u.numel) (j : t.Idx)
    (i : s.Idx) : (x i).toInt ≤ (Host.reduce IntOp.maxsi x init h hu j).toInt := by
  rw [Host.reduce_eq_foldl]
  exact (foldl_maxsi x _ _).2 i (mem_reduce h j i)

end Reduce

instance : Subsingleton (⟨0, ![]⟩ : Shape).Idx := ⟨fun _ _ => funext fun a => a.elim0⟩

/-- The first token of expert `n` comes after the tokens of those before. -/
theorem startN_eq_sum (Sz : S12w.Idx → BitVec 32) (n : ℕ) : startN Sz n = ((List.range n).map (sizeN Sz)).sum := by
  induction n with
  | zero => rfl
  | succ n ih => rw [List.range_succ, List.map_append, List.sum_append, ← ih]; simp [startN]

/-- Sizes of which none is below 0 or above 32, and whose sum is at most 32 as a word, fit. -/
theorem fits_of_words (Sz : IVec S12w 32) (h : S12w.ReducesTo [0] ⟨0, ![]⟩) (hu : 0 < (⟨0, ![]⟩ : Shape).numel) (h0 : ∀ i, 0 ≤ (Sz i).toInt) (h32 : ∀ i, (Sz i).toInt ≤ 32)
    (hs : (Host.reduce IntOp.addi Sz (constantI ⟨0, ![]⟩ 32 0#32) h hu ix0).toInt ≤ 32) : Fits Sz := by
  have hn : ∀ i, (Sz i).toNat ≤ 32 := fun i => by
    have h1 := h0 i; have h2 := h32 i
    have h3 := (Sz i).isLt
    rw [BitVec.toInt_eq_toNat_cond] at h1 h2
    split at h2 <;> omega
  have hw : ∀ e, sizeN Sz e ≤ 32 := fun e => by unfold sizeN; split; exacts [hn _, by omega]
  have hsum : startN Sz 12 ≤ 12 * 32 := by
    have : ∀ n, startN Sz n ≤ n * 32 := fun n => by
      induction n with
      | zero => exact Nat.zero_le _
      | succ n ih => have := hw n; simp only [startN]; omega
    exact this 12
  rw [Routing.reduce_sum Sz (sizeN Sz) (fun i => by
    rw [sizeN_of_lt i.isLt, BitVec.ofNat_toNat, BitVec.setWidth_eq]; rfl) h hu, ← startN_eq_sum] at hs
  unfold Fits
  rw [BitVec.toInt_eq_toNat_cond, BitVec.toNat_ofNat, Nat.mod_eq_of_lt (by omega)] at hs
  split at hs <;> omega

/-- The claims' precondition on the sizes. -/
theorem fits_of_sizes {F : FTy → Type} [FloatOps F] (x : FVec F _ .bf16) (Sz : IVec S12w 32) (w : FVec F _ .fp8e4m3) (ws : IVec _ 8)
    (h : Cert.Pre_sizes_ok.fn (F := F) x Sz w ws = fun _ => 1#1) : Fits Sz := by
  have h := congrFun h ix0
  unfold Cert.Pre_sizes_ok.fn at h
  obtain ⟨h, hs⟩ := IntOp.andi_eq_one.1 h
  obtain ⟨hmin, hmax⟩ := IntOp.andi_eq_one.1 h
  have hmin := IntOp.cmpi_sge.1 hmin
  have hmax := IntOp.cmpi_sle.1 hmax
  have hs := IntOp.cmpi_sle.1 hs
  exact fits_of_words Sz _ _ (fun i => hmin.trans (reduce_minsi_le Sz _ _ _ ix0 i)) (fun i => (le_reduce_maxsi Sz _ _ _ ix0 i).trans hmax) hs

end Mxfp8
-- ==== Proof.Pow2.lean ====
/- Powers of two among the extended reals, the search for an exponent, and the quantiser as the identity. -/
module

public import Idealize.ShloMosaic.PureOps.Ideal.Laws
public import Idealize.ShloMosaic.Lib.ValueIdx

@[expose] public section

noncomputable section

namespace Mxfp8

open Idealize.ShloMosaic

/-- The word whose exponent field is `n` and whose other fields are zero. -/
abbrev powW (t : BitVec 32) : BitVec 32 := IntOp.shli .vector t 23#32

theorem powW_fields : ∀ n : Fin 256, ((powW (BitVec.ofNat 32 n)).extractLsb' 31 1 == 1#1) = false
    ∧ ((powW (BitVec.ofNat 32 n)).extractLsb' 23 8).toNat = n.val ∧ ((powW (BitVec.ofNat 32 n)).extractLsb' 0 23).toNat = 0 := by
  decide +kernel

/-- A word without sign and fraction denotes a power of two, of its exponent field. -/
theorem ofBits_fields (b : BitVec 32) {n : ℕ} (ha : (b.extractLsb' 31 1 == 1#1) = false) (hb : (b.extractLsb' 23 8).toNat = n)
    (hc : (b.extractLsb' 0 23).toNat = 0) :
    Ideal.ofBits .f32 b = if n = 255 then ⊤ else if n = 0 then 0 else (((2 : ℝ) ^ ((n : ℤ) - 127) : ℝ) : EReal) := by
  have h : Ideal.ofBits .f32 b = Ideal.ieee 8 23 b := rfl
  rw [h]
  unfold Ideal.ieee
  simp only [Nat.reduceAdd]
  rw [ha, hb, hc]
  by_cases h1 : n = 255
  · rw [if_pos (by omega), if_pos h1]; simp
  · rw [if_neg (by omega), if_neg h1]
    by_cases h2 : n = 0
    · rw [if_pos h2, if_pos h2]; simp
    · rw [if_neg h2, if_neg h2]
      congr 1
      rw [show ((n : ℤ) - (2 ^ (8 - 1) - 1) - ((23 : ℕ) : ℤ)) = ((n : ℤ) - 127) + (-23) by norm_num; ring, zpow_add₀ (by norm_num)]
      norm_num
      ring

/-- The value of such a word is a power of two. -/
theorem ofBits_pow {n : ℕ} (h1 : 1 ≤ n) (h2 : n ≤ 254) :
    Ideal.ofBits .f32 (powW (BitVec.ofNat 32 n)) = (((2 : ℝ) ^ ((n : ℤ) - 127) : ℝ) : EReal) := by
  obtain ⟨a, b, c⟩ := powW_fields ⟨n, by omega⟩
  rw [ofBits_fields _ a b c, if_neg (show ¬ n = 255 by omega), if_neg (show ¬ n = 0 by omega)]

theorem ofBits_pow_top : Ideal.ofBits .f32 (powW (BitVec.ofNat 32 255)) = ⊤ := by
  obtain ⟨a, b, c⟩ := powW_fields ⟨255, by omega⟩
  exact (ofBits_fields _ a b c).trans (if_pos rfl)

/-- The reciprocal of the largest code's value, rounded up. -/
def inv448 : ℝ := 9586981 * (2 : ℝ) ^ (-32 : ℤ)

theorem inv448_bits : Ideal.ofBits .f32 0x3B124925#32 = (inv448 : EReal) := by
  simp [Ideal.ofBits, Ideal.ieee, inv448, -EReal.coe_mul]

theorem max448_bits : Ideal.ofBits .f32 0x43E00000#32 = ((448 : ℝ) : EReal) := by
  simp [Ideal.ofBits, Ideal.ieee, -EReal.coe_mul]
  norm_num
theorem min448_bits : Ideal.ofBits .f32 0xC3E00000#32 = ((-448 : ℝ) : EReal) := by
  simp [Ideal.ofBits, Ideal.ieee, -EReal.coe_mul]
  norm_num

/-- The largest finite bfloat16. -/
def bigX : ℝ := 255 * (2 : ℝ) ^ (120 : ℤ)
theorem bigX_bits : Ideal.ofBits .f32 0x7F7F0000#32 = (bigX : EReal) := by
  simp [Ideal.ofBits, Ideal.ieee, bigX, -EReal.coe_mul]
  norm_num

theorem inv448_ge (a : ℝ) (ha : 0 ≤ a) : a ≤ 448 * (a * inv448) := by
  unfold inv448
  have : (1 : ℝ) ≤ 448 * (9586981 * (2 : ℝ) ^ (-32 : ℤ)) := by norm_num
  nlinarith

theorem inv448_lt (a : ℝ) (ha : a ≤ bigX) : a * inv448 < (2 : ℝ) ^ (120 : ℤ) := by
  have h : (0 : ℝ) < inv448 := by unfold inv448; positivity
  have h2 : bigX * inv448 < (2 : ℝ) ^ (120 : ℤ) := by unfold bigX inv448; norm_num
  nlinarith

theorem cmp_oge (a b : EReal) : Ideal.cmp .oge a b = BitVec.ofBool (decide (b ≤ a)) := by
  first | rfl | (unfold Ideal.cmp; rfl)

/-- One step of the search: `s` is added where the value reaches the power. -/
def up (v : EReal) (s t : BitVec 32) : BitVec 32 :=
  Scalar.select (Ideal.cmp .oge v (Ideal.ofBits .f32 (powW (t + s)))) (t + s) t

/-- What the search knows: the value lies between the powers at `n` and at `n + s`. -/
def Between (r : ℝ) (n s : ℕ) : Prop :=
  n + s ≤ 256 ∧ r < (2 : ℝ) ^ (((n + s : ℕ) : ℤ) - 127) ∧ (n = 0 ∨ (2 : ℝ) ^ ((n : ℤ) - 127) ≤ r)

theorem up_spec {r : ℝ} (hr : r < (2 : ℝ) ^ (120 : ℤ)) {n s : ℕ} (hs : 1 ≤ s) (h : Between r n (2 * s)) :
    ∃ n', up (r : EReal) (BitVec.ofNat 32 s) (BitVec.ofNat 32 n) = BitVec.ofNat 32 n' ∧ Between r n' s := by
  obtain ⟨h1, h2, h3⟩ := h
  have hadd : BitVec.ofNat 32 n + BitVec.ofNat 32 s = BitVec.ofNat 32 (n + s) := by
    apply BitVec.eq_of_toNat_eq; simp [BitVec.toNat_add]
  unfold up
  rw [hadd, cmp_oge]
  by_cases ht : n + s = 255
  · rw [ht, ofBits_pow_top]
    have : ¬ ((⊤ : EReal) ≤ (r : EReal)) := by simp
    rw [decide_eq_false this]
    refine ⟨n, rfl, by omega, hr.trans_le (zpow_le_zpow_right₀ (by norm_num) (by omega)), h3⟩
  · rw [ofBits_pow (by omega) (by omega)]
    by_cases hc : (2 : ℝ) ^ (((n + s : ℕ) : ℤ) - 127) ≤ r
    · rw [decide_eq_true (EReal.coe_le_coe_iff.2 hc)]
      refine ⟨n + s, rfl, by omega, ?_, .inr hc⟩
      rwa [show n + s + s = n + 2 * s by omega]
    · rw [decide_eq_false (fun h => hc (EReal.coe_le_coe_iff.1 h))]
      exact ⟨n, rfl, by omega, not_le.1 hc, h3⟩

/-- The search over eight steps. -/
def search (v : EReal) : BitVec 32 :=
  up v 1#32 (up v 2#32 (up v 4#32 (up v 8#32 (up v 16#32 (up v 32#32 (up v 64#32 (up v 128#32 0#32)))))))

theorem search_spec {r : ℝ} (hr : r < (2 : ℝ) ^ (120 : ℤ)) : ∃ n, search (r : EReal) = BitVec.ofNat 32 n ∧ Between r n 1 := by
  have h0 : Between r 0 (2 * 128) := ⟨by omega, hr.trans_le (zpow_le_zpow_right₀ (by norm_num) (by omega)), .inl rfl⟩
  obtain ⟨n1, e1, h1⟩ := up_spec hr (s := 128) (by omega) h0
  obtain ⟨n2, e2, h2⟩ := up_spec hr (s := 64) (by omega) h1
  obtain ⟨n3, e3, h3⟩ := up_spec hr (s := 32) (by omega) h2
  obtain ⟨n4, e4, h4⟩ := up_spec hr (s := 16) (by omega) h3
  obtain ⟨n5, e5, h5⟩ := up_spec hr (s := 8) (by omega) h4
  obtain ⟨n6, e6, h6⟩ := up_spec hr (s := 4) (by omega) h5
  obtain ⟨n7, e7, h7⟩ := up_spec hr (s := 2) (by omega) h6
  obtain ⟨n8, e8, h8⟩ := up_spec hr (s := 1) (by omega) h7
  refine ⟨n8, ?_, h8⟩
  unfold search
  rw [e1, e2, e3, e4, e5, e6, e7, e8]

/-- The clip leaves a scaled value alone whose block the exponent covers, and the scale undoes it. -/
theorem clip_id (x : ℝ) (e : ℤ) (h : |x| ≤ 448 * (2 : ℝ) ^ e) :
    min ((448 : ℝ) : EReal) (max ((-448 : ℝ) : EReal) ((x : EReal) * (((2 : ℝ) ^ (-e) : ℝ) : EReal))) * (((2 : ℝ) ^ e : ℝ) : EReal) = (x : EReal) := by
  have hp : (0 : ℝ) < (2 : ℝ) ^ e := by positivity
  have hn : (2 : ℝ) ^ (-e) = ((2 : ℝ) ^ e)⁻¹ := zpow_neg _ _
  obtain ⟨ha, hb⟩ := abs_le.1 h
  rw [hn, ← EReal.coe_mul]
  have h1 : x * ((2 : ℝ) ^ e)⁻¹ ≤ 448 := by rw [← div_eq_mul_inv, div_le_iff₀ hp]; exact hb
  have h2 : -448 ≤ x * ((2 : ℝ) ^ e)⁻¹ := by rw [← div_eq_mul_inv, le_div_iff₀ hp]; linarith
  rw [max_eq_right (EReal.coe_le_coe_iff.2 h2), min_eq_right (EReal.coe_le_coe_iff.2 h1), ← EReal.coe_mul]
  congr 1
  field_simp

/-- The kernel's exponent of a block's greatest value, as a word. -/
def expW (v : EReal) : BitVec 32 :=
  Scalar.select (IntOp.ori (IntOp.cmpi .eq (search v) 0#32) (IntOp.cmpi .eq (search v) 255#32)) 0#32 (search v - 126#32)

theorem exp_words : ∀ n : Fin 247, ∃ e : Fin 247, (Scalar.select (IntOp.ori (IntOp.cmpi .eq (BitVec.ofNat 32 n) 0#32) (IntOp.cmpi .eq (BitVec.ofNat 32 n) 255#32)) 0#32 (BitVec.ofNat 32 n - 126#32)) + 127#32 = BitVec.ofNat 32 (e.val + 1)
    ∧ 0#32 - (Scalar.select (IntOp.ori (IntOp.cmpi .eq (BitVec.ofNat 32 n) 0#32) (IntOp.cmpi .eq (BitVec.ofNat 32 n) 255#32)) 0#32 (BitVec.ofNat 32 n - 126#32)) + 127#32 = BitVec.ofNat 32 (253 - e.val) ∧ (e.val = n.val ∨ n.val = 0 ∧ e.val = 126) := by
  decide +kernel

/-- Quantising and scaling back, with the exponent of a bound `a` of the value, is the identity. -/
theorem quant_id (x a : ℝ) (hx : |x| ≤ a) (ha : a ≤ bigX) :
    min ((448 : ℝ) : EReal) (max ((-448 : ℝ) : EReal) ((x : EReal) * Ideal.ofBits .f32 (powW (0#32 - expW ((a : EReal) * (inv448 : EReal)) + 127#32))))
      * Ideal.ofBits .f32 (powW (expW ((a : EReal) * (inv448 : EReal)) + 127#32)) = (x : EReal) := by
  have hlt := inv448_lt a ha
  have h0 : 0 ≤ a := (abs_nonneg x).trans hx
  have hge := inv448_ge a h0
  obtain ⟨n, hn, h1, h2, h3⟩ := search_spec hlt
  have hn247 : n < 247 := by
    rcases h3 with h | h
    · omega
    · have := (zpow_lt_zpow_iff_right₀ (by norm_num : (1 : ℝ) < 2)).1 (h.trans_lt hlt)
      omega
  obtain ⟨⟨e, he⟩, e1, e2, e3⟩ := exp_words ⟨n, hn247⟩
  unfold expW
  rw [← EReal.coe_mul, hn]
  simp only at e1 e2 e3
  rw [e1, e2, ofBits_pow (by omega) (by omega), ofBits_pow (by omega) (by omega)]
  have := clip_id x ((e : ℤ) - 126) (by
    refine hx.trans (hge.trans ?_)
    refine mul_le_mul_of_nonneg_left ?_ (by norm_num)
    refine h2.le.trans (zpow_le_zpow_right₀ (by norm_num) ?_)
    push_cast
    omega)
  rw [show (((253 - e : ℕ) : ℤ) - 127) = -((e : ℤ) - 126) by omega, show (((e + 1 : ℕ) : ℤ) - 127) = (e : ℤ) - 126 by omega]
  exact this

end Mxfp8
-- ==== Proof.InputsOk.lean ====
/- What the precondition of the value says: the sizes fit, the activations are finite and no scale's code is 0 or 255. -/
module

public import proofs.«01_k».proof.Proof.Sizes
public import proofs.«01_k».proof.Proof.Pow2
public import proofs.«01_k».proof.Proof.Gen.Pre_inputs_ok

@[expose] public section

set_option maxRecDepth 16384

noncomputable section

namespace Mxfp8

open Idealize.ShloMosaic Idealize.ShloMosaic.ValueIdx

/-- A fold by the larger value is above every value it meets. -/
theorem foldl_max {ι : Type} (f : ι → EReal) : ∀ (l : List ι) (init : EReal),
    init ≤ l.foldl (fun r i => max r (f i)) init ∧ ∀ i ∈ l, f i ≤ l.foldl (fun r i => max r (f i)) init
  | [], init => ⟨le_refl _, fun _ h => nomatch h⟩
  | a :: l, init => by
    obtain ⟨h1, h2⟩ := foldl_max f l (max init (f a))
    refine ⟨(le_max_left _ _).trans h1, fun i hi => ?_⟩
    rcases List.mem_cons.1 hi with rfl | hi
    exacts [(le_max_right _ _).trans h1, h2 i hi]

/-- The largest of an array's values is above each of them. -/
theorem le_reduce_max {s t u : Shape} {axes : List (Fin s.rank)} [Subsingleton t.Idx] (x : FVec Ideal s .f32) (init : FVec Ideal u .f32) (h : s.ReducesTo axes t) (hu : 0 < u.numel) (j : t.Idx)
    (i : s.Idx) : (x i : EReal) ≤ Host.reduce (FloatOps.maximumf (F := Ideal) (φ := .f32)) x init h hu j := by
  rw [Host.reduce_eq_foldl]
  exact (foldl_max (fun i => (x i : EReal)) _ _).2 i (mem_reduce h j i)

/-- A value whose magnitude is at most the largest bfloat16 is a real that is. -/
theorem real_of_abs_le {v : EReal} (h : max v (-v) ≤ (bigX : EReal)) : ∃ q : ℝ, v = (q : EReal) ∧ |q| ≤ bigX := by
  have h1 := (le_max_left v (-v)).trans h
  have h2 := (le_max_right v (-v)).trans h
  induction v using EReal.rec with
  | bot => exact absurd h2 (by simp)
  | top => exact absurd h1 (by simp)
  | coe q =>
    rw [← EReal.coe_neg] at h2
    exact ⟨q, rfl, abs_le.2 ⟨by have := EReal.coe_le_coe_iff.1 h2; linarith, EReal.coe_le_coe_iff.1 h1⟩⟩

/-- A comparison that holds. -/
theorem le_of_cmp (a b : Ideal .f32) (h : FloatOps.cmpf (F := Ideal) .ole a b = 1#1) : (a : EReal) ≤ (b : EReal) := by
  have h' : BitVec.ofBool (decide ((a : EReal) ≤ (b : EReal))) = 1#1 := h
  by_contra hn
  rw [decide_eq_false hn] at h'
  exact absurd h' (by decide)

/-- A word's code is read as a number. -/
theorem code_bounds : ∀ n : Fin 256, (1#32).toInt ≤ ((BitVec.ofNat 8 n.val).setWidth 32).toInt → ((BitVec.ofNat 8 n.val).setWidth 32).toInt ≤ (254#32).toInt → 1 ≤ n.val ∧ n.val ≤ 254 := by
  decide +kernel

/-- The same of arrays, at an index. -/
theorem le_of_cmpf {s : Shape} (a b : FVec Ideal s .f32) (i : s.Idx) (h : cmpf (F := Ideal) .ole a b i = 1#1) : (a i : EReal) ≤ (b i : EReal) := le_of_cmp _ _ h

/-- A magnitude, at an index. -/
theorem abs_apply {s : Shape} (x : FVec Ideal s .bf16) (h : FTy.bits .bf16 < FTy.bits .f32) (i : s.Idx) :
    Host.absf (F := Ideal) (extf (F := Ideal) .f32 x h) i = max (x i : EReal) (-(x i : EReal)) := rfl

/-- Where the largest magnitude is at most the largest bfloat16, every value is a real that is. -/
theorem finite_of_max {s t u : Shape} {axes : List (Fin s.rank)} [Subsingleton t.Idx] (x : FVec Ideal s .bf16) (hb : FTy.bits .bf16 < FTy.bits .f32) (init : FVec Ideal u .f32)
    (h : s.ReducesTo axes t) (hu : 0 < u.numel) (j : t.Idx)
    (hx : cmpf (F := Ideal) .ole (Host.reduce (FloatOps.maximumf (F := Ideal) (φ := .f32)) (Host.absf (F := Ideal) (extf (F := Ideal) .f32 x hb)) init h hu) (constant t .f32 0x7F7F0000#32) j = 1#1)
    (i : s.Idx) : ∃ q : ℝ, (x i : EReal) = (q : EReal) ∧ |q| ≤ bigX := by
  have h1 := le_of_cmpf _ _ j hx
  have h2 := le_reduce_max _ init h hu j i |>.trans h1
  rw [abs_apply] at h2
  refine real_of_abs_le (h2.trans (le_of_eq ?_))
  exact bigX_bits

/-- The precondition says that the activations are finite. -/
theorem finite_of_inputs (x : FVec Ideal _ .bf16) (Sz : IVec S12w 32) (w : FVec Ideal _ .fp8e4m3) (ws : IVec _ 8)
    (h : Cert.Pre_inputs_ok.fn (F := Ideal) x Sz w ws = fun _ => 1#1) : ∀ i, ∃ q : ℝ, (x i : EReal) = (q : EReal) ∧ |q| ≤ bigX := by
  have h := congrFun h ix0
  unfold Cert.Pre_inputs_ok.fn Cert.Pre_inputs_ok.fn_part1 at h
  obtain ⟨h, hcmax⟩ := IntOp.andi_eq_one.1 h
  obtain ⟨h, hcmin⟩ := IntOp.andi_eq_one.1 h
  obtain ⟨-, hx⟩ := IntOp.andi_eq_one.1 h
  exact finite_of_max x _ _ _ _ ix0 hx

/-- The precondition of the value says the same of the sizes. -/
theorem fits_of_inputs {F : FTy → Type} [FloatOps F] (x : FVec F _ .bf16) (Sz : IVec S12w 32) (w : FVec F _ .fp8e4m3) (ws : IVec _ 8)
    (h : Cert.Pre_inputs_ok.fn (F := F) x Sz w ws = fun _ => 1#1) : Fits Sz := by
  have h := congrFun h ix0
  unfold Cert.Pre_inputs_ok.fn Cert.Pre_inputs_ok.fn_part1 at h
  obtain ⟨h, -⟩ := IntOp.andi_eq_one.1 h
  obtain ⟨h, -⟩ := IntOp.andi_eq_one.1 h
  obtain ⟨h, -⟩ := IntOp.andi_eq_one.1 h
  obtain ⟨h, hs⟩ := IntOp.andi_eq_one.1 h
  obtain ⟨hmin, hmax⟩ := IntOp.andi_eq_one.1 h
  have hmin := IntOp.cmpi_sge.1 hmin
  have hmax := IntOp.cmpi_sle.1 hmax
  have hs := IntOp.cmpi_sle.1 hs
  exact fits_of_words Sz _ _ (fun i => hmin.trans (reduce_minsi_le Sz _ _ _ ix0 i)) (fun i => (le_reduce_maxsi Sz _ _ _ ix0 i).trans hmax) hs

/-- The precondition says that no code is 0 or 255. -/
theorem codes_of_inputs (x : FVec Ideal _ .bf16) (Sz : IVec S12w 32) (w : FVec Ideal _ .fp8e4m3) (ws : IVec _ 8)
    (h : Cert.Pre_inputs_ok.fn (F := Ideal) x Sz w ws = fun _ => 1#1) : ∀ i, 1 ≤ (ws i).toNat ∧ (ws i).toNat ≤ 254 := by
  have h := congrFun h ix0
  unfold Cert.Pre_inputs_ok.fn Cert.Pre_inputs_ok.fn_part1 at h
  obtain ⟨h, hcmax⟩ := IntOp.andi_eq_one.1 h
  obtain ⟨h, hcmin⟩ := IntOp.andi_eq_one.1 h
  have hcmax := IntOp.cmpi_sle.1 hcmax
  have hcmin := IntOp.cmpi_sge.1 hcmin
  intro i
  have h1 := hcmin.trans (reduce_minsi_le _ _ _ _ ix0 i)
  have h2 := (le_reduce_maxsi _ _ _ _ ix0 i).trans hcmax
  have := code_bounds ⟨(ws i).toNat, (ws i).isLt⟩
  rw [show BitVec.ofNat 8 (ws i).toNat = ws i by simp] at this
  exact this h1 h2

end Mxfp8
-- ==== Proof.KQuant.lean ====
/- Quantising a finite input with the exponent of its group's largest magnitude, and scaling back, is the identity over the reals. -/
module

public import proofs.«01_k».proof.Proof.Pow2
public import proofs.«01_k».proof.Proof.IdealLoops5
public import Idealize.ShloMosaic.Lib.Pipeline.Value

@[expose] public section

set_option maxRecDepth 16384

noncomputable section

namespace Mxfp8

open Idealize.ShloMosaic Idealize.ShloMosaic.TcCoe Idealize.ShloMosaic.ValueIdx
open Cert.KernelIdeal Cert.KernelIdeal.Gen
open VecWindow (window put)

/-- Every element of `a` is finite, bounds the magnitude of the same element of `x`, and is no larger than the largest input. -/
def Bounds (x a : S32x256.Idx → EReal) : Prop := ∀ i, ∃ r q : ℝ, a i = (r : EReal) ∧ x i = (q : EReal) ∧ |q| ≤ r ∧ r ≤ bigX

/-- The maximum with moved elements still bounds. -/
theorem Bounds.step {x a b : S32x256.Idx → EReal} (h : Bounds x a) (hb : ∀ i, ∃ i', b i = a i') : Bounds x fun i => max (a i) (b i) := by
  intro i
  obtain ⟨r, q, h1, h2, h3, h4⟩ := h i
  obtain ⟨i', hi'⟩ := hb i
  obtain ⟨r', q', h1', -, -, h4'⟩ := h i'
  refine ⟨max r r', q, ?_, h2, h3.trans (le_max_left _ _), max_le h4 h4'⟩
  show max (a i) (b i) = _
  rw [hi', h1, h1', EReal.coe_strictMono.monotone.map_max]

/-- An element moved one way or the other is an element. -/
theorem moved (c : IVec S32x256 1) (a : FVec Ideal S32x256 .f32) (p q : BitVec 32) (i : S32x256.Idx) :
    ∃ i', (select c (dynamicRotate 1 p none a rotates_S32x256_d1) (dynamicRotate 1 q none a rotates_S32x256_d1)) i = a i' := by
  by_cases h : c i = 1#1
  · exact ⟨_, by show Scalar.select (c i) _ _ = _; rw [h, select_one]; rfl⟩
  · exact ⟨_, by show Scalar.select (c i) _ _ = _; rw [eq_zero_of_ne_one h, select_zero]; rfl⟩

theorem abs_coe (q : ℝ) : max (q : EReal) (-(q : EReal)) = ((|q| : ℝ) : EReal) := by
  rw [← EReal.coe_neg, ← EReal.coe_strictMono.monotone.map_max]; rfl

/-- The inputs are finite and no larger than the largest bfloat16. -/
def Finite (x : S32x256.Idx → EReal) : Prop := ∀ i, ∃ q : ℝ, x i = (q : EReal) ∧ |q| ≤ bigX

theorem bounds_abs {x : S32x256.Idx → EReal} (h : Finite x) : Bounds x fun i => max (x i) (-(x i)) := by
  intro i
  obtain ⟨q, h1, h2⟩ := h i
  exact ⟨|q|, q, by show max (x i) (-(x i)) = _; rw [h1, abs_coe], h1, le_refl _, h2⟩

/-- The magnitude the quantiser takes for each element. -/
def magnitude (x : FVec Ideal S32x256 .bf16) : FVec Ideal S32x256 .f32 :=
  maximumf (k0_pay20 x) (select (cmpi .ne (andi (iota .tc S32x256 32 [1] iota_S32x256_d1_w32) (broadcast S32x256 16#32)) (broadcast S32x256 0#32))
    (dynamicRotate 1 16#32 none (k0_pay20 x) rotates_S32x256_d1) (dynamicRotate 1 240#32 none (k0_pay20 x) rotates_S32x256_d1))

theorem bounds_magnitude {x : FVec Ideal S32x256 .bf16} (h : Finite x) : Bounds x (magnitude x) :=
  (((((bounds_abs h).step (moved _ _ _ _)).step (moved _ _ _ _)).step (moved _ _ _ _)).step (moved _ _ _ _)).step (moved _ _ _ _)

/-- One step of the search, of all elements. -/
def upV (w : FVec Ideal S32x256 .f32) (s : BitVec 32) (t : IVec S32x256 32) : IVec S32x256 32 :=
  select (cmpf .oge w (bitcastToFloat .f32 (shli (addi t (broadcast S32x256 s)) (broadcast S32x256 23#32)))) (addi t (broadcast S32x256 s)) t

theorem upV_apply (w : FVec Ideal S32x256 .f32) (s : BitVec 32) (t : IVec S32x256 32) (i : S32x256.Idx) : upV w s t i = up (w i) s (t i) := rfl

theorem pay23_up (v59 : IVec S32x256 32) (v91 v92 : FVec Ideal S32x256 .f32) :
    k0_pay23 v59 v91 v92 = upV (k0_pay22 v59 v91 v92) 32#32 (upV (k0_pay22 v59 v91 v92) 64#32 (upV (k0_pay22 v59 v91 v92) 128#32 (broadcast S32x256 0#32))) := by
  unfold k0_pay23 upV
  rfl

theorem pay25_up (w : FVec Ideal S32x256 .f32) (t : IVec S32x256 32) :
    k0_pay25 w t (cmpf .oge w (bitcastToFloat .f32 (shli (addi t (broadcast S32x256 16#32)) (broadcast S32x256 23#32)))) 16#32
      = upV w 1#32 (upV w 2#32 (upV w 4#32 (upV w 8#32 (upV w 16#32 t)))) := by
  unfold k0_pay25 upV
  rfl

/-- The exponent field found is the search's. -/
theorem pay25_search (v59 : IVec S32x256 32) (v91 v92 : FVec Ideal S32x256 .f32) (i : S32x256.Idx) :
    k0_pay25 (k0_pay22 v59 v91 v92) (k0_pay23 v59 v91 v92) (k0_pay24 v59 v91 v92) 16#32 i = search (k0_pay22 v59 v91 v92 i) := by
  refine (congrFun (pay25_up (k0_pay22 v59 v91 v92) (k0_pay23 v59 v91 v92)) i).trans ?_
  rw [pay23_up]
  simp only [upV_apply]
  rfl

/-- The exponent of an element. -/
theorem exponent_apply (v59 : IVec S32x256 32) (v91 v92 : FVec Ideal S32x256 .f32) (i : S32x256.Idx) :
    select (ori (k0_pay27 (k0_pay22 v59 v91 v92) (k0_pay23 v59 v91 v92) (k0_pay24 v59 v91 v92) 16#32) (k0_pay28 (k0_pay22 v59 v91 v92) (k0_pay23 v59 v91 v92) (k0_pay24 v59 v91 v92) 16#32))
      (broadcast S32x256 0#32) (k0_pay26 (k0_pay22 v59 v91 v92) (k0_pay23 v59 v91 v92) (k0_pay24 v59 v91 v92) 16#32) i = expW (k0_pay22 v59 v91 v92 i) := by
  show Scalar.select (IntOp.ori (IntOp.cmpi .eq (k0_pay25 _ _ _ 16#32 i) 0#32) (IntOp.cmpi .eq (k0_pay25 _ _ _ 16#32 i) 255#32)) 0#32 (k0_pay25 _ _ _ 16#32 i - 126#32) = _
  rw [pay25_search]
  rfl

theorem pay864_apply (v57 : FVec Ideal S32x256 .f32) (v176 : IVec S32x256 32) (v178 v180 : IVec S32x256 1) (i : S32x256.Idx) :
    k0_pay864 v57 v176 v178 v180 i
      = min (Ideal.ofBits .f32 0x43E00000#32) (max (Ideal.ofBits .f32 0xC3E00000#32) ((v57 i : EReal) * Ideal.ofBits .f32 (powW (0#32 - select (ori v178 v180) (broadcast S32x256 0#32) v176 i + 127#32))))
        * Ideal.ofBits .f32 (powW (select (ori v178 v180) (broadcast S32x256 0#32) v176 i + 127#32)) := by
  unfold k0_pay864
  refine (shapeCast_apply _ _ i i rfl).trans ?_
  rfl

/-- The quantiser of one window is the identity. -/
theorem quantVal_id {x : S32x256.Idx → Elt Ideal .bf16} (h : Finite x) (i : S32x256.Idx) : quantVal x i = x i := by
  obtain ⟨r, q, h1, h2, h3, h4⟩ := bounds_magnitude h i
  have hq := quant_id q r h3 h4
  have hv : k0_pay22 (iota .tc S32x256 32 [1] iota_S32x256_d1_w32) (k0_pay20 (F := Ideal) x) (k0_pay21 (F := Ideal) x) i = (r : EReal) * (inv448 : EReal) := by
    show (magnitude x i : EReal) * Ideal.ofBits .f32 0x3B124925#32 = _
    rw [h1, inv448_bits]
  rw [← max448_bits, ← min448_bits, ← hv, ← h2] at hq
  refine Eq.trans ?_ hq
  unfold quantVal
  refine (pay864_apply _ _ _ _ i).trans ?_
  simp only [exponent_apply]
  rfl

/-- The quantised input is the input. -/
theorem quantised_id {XB : S32x7168.Idx → Elt Ideal .bf16} {Xs : S32x7168.Idx → Elt Ideal .f32} (hQ : Quantised XB Xs 28)
    (h : ∀ i, ∃ q : ℝ, XB i = (q : EReal) ∧ |q| ≤ bigX) (i : S32x7168.Idx) : Xs i = XB i := by
  have h0 : (i 0).val < 32 := (i 0).isLt
  have h1 : (i 1).val < 7168 := (i 1).isLt
  have ht : (i 1).val / 256 < 28 := by omega
  have e := hQ ((i 1).val / 256) ht ht
  have hz := congrFun e (ix2 (⟨(i 0).val, h0⟩ : Fin 32) (⟨(i 1).val % 256, Nat.mod_lt _ (by decide)⟩ : Fin 256))
  rw [quantVal_id (x := window XB ![0, 256 * ((i 1).val / 256)] S32x256.size (inb17 _ ht)) (fun _ => h _)] at hz
  have key : ∀ Z : S32x7168.Idx → EReal, window Z ![0, 256 * ((i 1).val / 256)] S32x256.size (inb17 _ ht)
      (ix2 (⟨(i 0).val, h0⟩ : Fin 32) (⟨(i 1).val % 256, Nat.mod_lt _ (by decide)⟩ : Fin 256)) = Z i := by
    intro Z
    show Z _ = Z i
    congr 1
    funext a
    match a with
    | ⟨0, _⟩ => refine Fin.ext ?_; show 0 + 1 * (i 0).val = (i 0).val; omega
    | ⟨1, _⟩ => refine Fin.ext ?_; show 256 * ((i 1).val / 256) + 1 * ((i 1).val % 256) = (i 1).val; omega
  exact (key Xs).symm.trans (hz.trans (key XB))

end Mxfp8
-- ==== Proof.BlkVal.lean ====
/- One block's effect on the accumulator over the extended reals, element by element. -/
module

public import proofs.«01_k».proof.Proof.Blk
public import proofs.«01_k».proof.Proof.Pow2
public import Idealize.ShloMosaic.Lib.MatmulPlain
public import Idealize.ShloMosaic.Lib.Pipeline.Value

@[expose] public section

set_option maxRecDepth 16384

noncomputable section

namespace Mxfp8

open Idealize.ShloMosaic Idealize.ShloMosaic.TcCoe Idealize.ShloMosaic.ValueIdx
open VecWindow (window put)
open scoped BigOperators

variable {nt : ℕ} (G : Sides (F := Ideal) nt)

/-- A row of a token over eight rows, at an element. -/
theorem tokVec_apply (mask : IVec S8x256 1) (v : Vec Ideal S1x256 .f32) (s : Fin 8) (j : Fin 256) :
    tokVec G mask v (ix2 s j) = if mask (ix2 s j) = 1#1 then (v (ix2 (0 : Fin 1) j) : EReal) else 0 := by
  have e : broadcastTo S8x256 (shapeCast S1x256 v G.tok) G.tokB (ix2 s j) = v (ix2 (0 : Fin 1) j) := by
    have e1 : broadcastTo S8x256 (shapeCast S1x256 v G.tok) G.tokB (ix2 s j) = shapeCast S1x256 v G.tok (ix2 (0 : Fin 1) j) := by
      show shapeCast S1x256 v G.tok _ = _
      congr 1
      funext a
      match a with
      | ⟨0, _⟩ => rfl
      | ⟨1, _⟩ => rfl
    rw [e1]
    exact shapeCast_apply _ _ _ _ rfl
  show Scalar.select (mask (ix2 s j)) (broadcastTo S8x256 (shapeCast S1x256 v G.tok) G.tokB (ix2 s j)) (Ideal.ofBits .f32 0x00000000#32) = _
  rw [e, Ideal.ofBits_zero_f32]
  by_cases h : mask (ix2 s j) = 1#1
  · rw [if_pos h, h]; rfl
  · rw [if_neg h, eq_zero_of_ne_one h]; rfl

theorem concat_congr {α : Type} (t : Shape) (a : Fin t.rank) {xs ys : List ((s : Shape) × (s.Idx → α))} (e : xs = ys)
    (h : Shape.Concatenates (xs.map (·.1)) t a) (h' : Shape.Concatenates (ys.map (·.1)) t a) : concatenate t a xs h = concatenate t a ys h' := by
  subst e; rfl

/-- The rows of the tokens, at an element. -/
theorem rows_apply (l : {l : List (FVec Ideal S8x256 .f32) // l.length = nt}) (r : Fin (8 * nt)) (j : Fin 256)
    (h : r.val / 8 < l.1.length) :
    rows G l (ix2 r j) = (l.1[r.val / 8] : FVec Ideal S8x256 .f32) (ix2 (⟨r.val % 8, Nat.mod_lt _ (by decide)⟩ : Fin 8) j) := by
  obtain ⟨l, hl⟩ := l
  subst hl
  have e : (l.map fun v => (⟨S8x256, v⟩ : (s : Shape) × (s.Idx → Ideal .f32))) = List.ofFn fun n : Fin l.length => ⟨S8x256, l[n]⟩ := by
    apply List.ext_getElem
    · simp
    · intro i h1 h2; simp
  have e0 : rows G ⟨l, rfl⟩ (ix2 r j) = concatenate (SRow l.length) 0 (l.map fun v => (⟨S8x256, v⟩ : (s : Shape) × (s.Idx → Ideal .f32))) (G.conc l rfl) (ix2 r j) := rfl
  rw [e0, concat_congr _ _ e _ (e ▸ G.conc l rfl)]
  exact concatenate_ofFn_apply (t := SRow l.length) 0 (fun n : Fin l.length => (l[n] : FVec Ideal S8x256 .f32)) _ rfl 8 rfl (ix2 r j)
    ⟨r.val / 8, h⟩ rfl _ rfl (fun b hb => by
      match b with
      | ⟨0, _⟩ => exact absurd rfl hb
      | ⟨1, _⟩ => rfl)

/-- The tokens gathered, one by one. -/
theorem toks_get {o : Offs} (I : o.Inb nt) (mask : IVec S8x256 1) (X : S32x7168.Idx → Elt Ideal .f32) (k : ℕ) (hk : k < 4) :
    ∀ (m t : ℕ) (h : t + m ≤ nt) (i : ℕ) (hi : i < (toks G I mask X k hk m t h).1.length) (hi' : i < m),
      (toks G I mask X k hk m t h).1[i] = tokVec G mask (window X (o.X (t + i) k) S1x256.size (I.X (t + i) k (by omega) hk))
  | 0, _, _, _, _, hi' => absurd hi' (Nat.not_lt_zero _)
  | m + 1, t, h, 0, _, _ => rfl
  | m + 1, t, h, i + 1, hi, hi' => by
    have := toks_get I mask X k hk m (t + 1) (by omega) i (by rw [(toks G I mask X k hk m (t + 1) (by omega)).2]; omega) (by omega)
    show (toks G I mask X k hk m (t + 1) (by omega)).1[i]'_ = _
    rw [this]
    have e : t + 1 + i = t + (i + 1) := by omega
    have key : ∀ (p q : ℕ) (_ : p = q) (h1 : ∀ a, o.X p k a + S1x256.size a ≤ S32x7168.size a) (h2 : ∀ a, o.X q k a + S1x256.size a ≤ S32x7168.size a),
        tokVec G mask (window X (o.X p k) S1x256.size h1) = tokVec G mask (window X (o.X q k) S1x256.size h2) := by
      intro p q e h1 h2; subst e; rfl
    exact key _ _ e _ _

variable (d : DotDims (SRow nt) S256x256 (SRow nt))

/-- A product's element is its accumulator's plus the sum over the lanes. -/
def IsPlain : Prop := ∀ (lhs : FVec Ideal (SRow nt) .bf16) (rhs : FVec Ideal S256x256 .fp8e4m3) (acc : FVec Ideal (SRow nt) .f32) (r : Fin (8 * nt)) (c : Fin 256),
  matmul d none lhs rhs acc (ix2 r c) = acc (ix2 r c) + ∑ j : Fin 256, lhs (ix2 r j) * rhs (ix2 j c)

/-- The decoded scale of a code. -/
def scaleOf (b : BitVec 8) : EReal := Ideal.ofBits .f32 (powW (b.setWidth 32))

/-- A quarter's contribution, before it is added. -/
theorem addK_apply (hd : IsPlain d) (k : Fin 4) (s : Vec Ideal S1x32x256 .i8) (lhs : FVec Ideal (SRow nt) .bf16) (w : Vec Ideal S1x256x256 .fp8e4m3)
    (a : FVec Ideal (STok nt) .f32) (t : Fin nt) (u : Fin 8) (n : Fin 256) (r : Fin (8 * nt)) (hr : r.val = 8 * t.val + u.val) :
    addK G d k (scaleVec G s) lhs w a (ix3 t u n)
      = (a (ix3 t u n) : EReal) + (∑ j : Fin 256, (lhs (ix2 r j) : EReal) * w (ix3 (0 : Fin 1) j n))
          * scaleOf (s (ix3 (0 : Fin 1) (⟨8 * k.val + u.val, by omega⟩ : Fin 32) n)) := by
  show (a (ix3 t u n) : EReal) + shapeCast (STok nt) _ G.split (ix3 t u n) * broadcastTo (STok nt) _ G.oneB (ix3 t u n) = _
  have e1 : shapeCast (STok nt) (matmul (φ₂ := .fp8e4m3) d none lhs (shapeCast S256x256 (w : FVec Ideal S1x256x256 .fp8e4m3) G.sq) (constant (SRow nt) .f32 0x00000000#32)) G.split (ix3 t u n)
      = ∑ j : Fin 256, (lhs (ix2 r j) : EReal) * w (ix3 (0 : Fin 1) j n) := by
    rw [shapeCast_apply _ _ _ (ix2 r n) (by
      rw [Shape.rowMajor_val_three, Shape.rowMajor_val_two]
      show r.val * 256 + n.val = (t.val * 8 + u.val) * 256 + n.val
      omega), hd]
    show Ideal.ofBits .f32 0x00000000#32 + _ = _
    rw [Ideal.ofBits_zero_f32, zero_add]
    refine Finset.sum_congr rfl fun j _ => ?_
    congr 1
    exact shapeCast_apply _ _ _ _ (by
      rw [Shape.rowMajor_val_three, Shape.rowMajor_val_two]
      show ((0 : ℕ) * 256 + j.val) * 256 + n.val = j.val * 256 + n.val
      omega)
  have e2 : broadcastTo (STok nt) (shapeCast S1x8x256 (extractStridedSlice S8x256 ![8 * k.val, 0] (scaleVec G s) (G.sl k)) G.one) G.oneB (ix3 t u n)
      = scaleOf (s (ix3 (0 : Fin 1) (⟨8 * k.val + u.val, by omega⟩ : Fin 32) n)) := by
    have e3 : broadcastTo (STok nt) (shapeCast S1x8x256 (extractStridedSlice S8x256 ![8 * k.val, 0] (scaleVec G s) (G.sl k)) G.one) G.oneB (ix3 t u n)
        = shapeCast S1x8x256 (extractStridedSlice S8x256 ![8 * k.val, 0] (scaleVec G s) (G.sl k)) G.one (ix3 (0 : Fin 1) u n) := by
      show shapeCast S1x8x256 _ G.one _ = _
      congr 1
      funext a
      match a with
      | ⟨0, _⟩ => rfl
      | ⟨1, _⟩ => rfl
      | ⟨2, _⟩ => rfl
    rw [e3, shapeCast_apply _ _ _ (ix2 u n) (by
      rw [Shape.rowMajor_val_three, Shape.rowMajor_val_two]
      show u.val * 256 + n.val = ((0 : ℕ) * 8 + u.val) * 256 + n.val
      omega)]
    have e4 : extractStridedSlice S8x256 ![8 * k.val, 0] (scaleVec G s) (G.sl k) (ix2 u n) = scaleVec G s (ix2 (⟨8 * k.val + u.val, by omega⟩ : Fin 32) n) := by
      show scaleVec G s _ = _
      congr 1
      funext a
      match a with
      | ⟨0, _⟩ => rfl
      | ⟨1, _⟩ => exact Fin.ext (Nat.zero_add _)
    rw [e4]
    show Ideal.ofBits .f32 (IntOp.shli .vector ((shapeCast S32x256 (s : IVec S1x32x256 8) G.sc (ix2 (⟨8 * k.val + u.val, by omega⟩ : Fin 32) n)).setWidth 32) 23#32) = _
    unfold scaleOf
    congr 3
    exact shapeCast_apply _ _ _ _ (by
      rw [Shape.rowMajor_val_three, Shape.rowMajor_val_two]
      show ((0 : ℕ) * 32 + (8 * k.val + u.val)) * 256 + n.val = (8 * k.val + u.val) * 256 + n.val
      omega)
  rw [e1, e2]

/-- What a block of columns becomes, at an element. -/
theorem colVal_apply (hd : IsPlain d) (l : Fin 4 → FVec Ideal (SRow nt) .bf16) (s : Vec Ideal S1x32x256 .i8) (a : Vec Ideal (SRow nt) .f32)
    (w : Fin 4 → Vec Ideal S1x256x256 .fp8e4m3) (r : Fin (8 * nt)) (n : Fin 256) :
    colVal G d (l 0) (l 1) (l 2) (l 3) s a (w 0) (w 1) (w 2) (w 3) (ix2 r n)
      = (a (ix2 r n) : EReal) + ∑ k : Fin 4, (∑ j : Fin 256, (l k (ix2 r j) : EReal) * w k (ix3 (0 : Fin 1) j n))
          * scaleOf (s (ix3 (0 : Fin 1) (⟨8 * k.val + r.val % 8, by have := k.isLt; omega⟩ : Fin 32) n)) := by
  have hr : r.val = 8 * (r.val / 8) + r.val % 8 := by omega
  have ht : r.val / 8 < nt := by have := r.isLt; omega
  unfold colVal
  rw [shapeCast_apply _ _ _ (ix2 r n) rfl, shapeCast_apply _ _ _ (ix3 (⟨r.val / 8, ht⟩ : Fin nt) (⟨r.val % 8, Nat.mod_lt _ (by decide)⟩ : Fin 8) n) (by
    rw [Shape.rowMajor_val_three, Shape.rowMajor_val_two]
    show (r.val / 8 * 8 + r.val % 8) * 256 + n.val = r.val * 256 + n.val
    omega)]
  rw [addK_apply G d hd 3 s (l 3) (w 3) _ _ _ _ r hr, addK_apply G d hd 2 s (l 2) (w 2) _ _ _ _ r hr,
    addK_apply G d hd 1 s (l 1) (w 1) _ _ _ _ r hr, addK_apply G d hd 0 s (l 0) (w 0) _ _ _ _ r hr,
    shapeCast_apply _ _ _ (ix2 r n) (by
      rw [Shape.rowMajor_val_three, Shape.rowMajor_val_two]
      show r.val * 256 + n.val = (r.val / 8 * 8 + r.val % 8) * 256 + n.val
      omega), Fin.sum_univ_four]
  simp only [add_assoc]

end Mxfp8
-- ==== Proof.BlkSum.lean ====
/- A block's effect on every element of the accumulator, in terms of the numbers of rows and columns. -/
module

public import proofs.«01_k».proof.Proof.BlkVal

@[expose] public section

set_option maxRecDepth 16384

noncomputable section

namespace Mxfp8

open Idealize.ShloMosaic Idealize.ShloMosaic.TcCoe Idealize.ShloMosaic.ValueIdx
open VecWindow (window put)
open scoped BigOperators

/-- The inputs of a block by numbers: activations by token and row, weights by row and column, codes of scales by group and column. -/
structure Tables where
  X : ℕ → ℕ → EReal
  W : ℕ → ℕ → EReal
  S : ℕ → ℕ → BitVec 8

/-- The contribution of quarter `k` to the row of sublane `u` of token `T`, at column `N`: the rows of group `u` only. -/
def part (mask : IVec S8x256 1) (D : Tables) (T cb : ℕ) (u : Fin 8) (N : ℕ) (k : Fin 4) : EReal :=
  (∑ j : Fin 256, (if mask (ix2 u j) = 1#1 then D.X T (cb + 256 * k.val + j.val) else 0) * D.W (256 * k.val + j.val) N)
    * scaleOf (D.S (8 * k.val + u.val) N)

/-- The contributions of the four quarters. -/
def parts (mask : IVec S8x256 1) (D : Tables) (T cb : ℕ) (u : Fin 8) (N : ℕ) : EReal := ∑ k : Fin 4, part mask D T cb u N k

variable {nt : ℕ} (G : Sides (F := Ideal) nt) (d : DotDims (SRow nt) S256x256 (SRow nt)) {o : Offs} (I : o.Inb nt) (mask : IVec S8x256 1)
variable (X : S32x7168.Idx → Elt Ideal .f32) (W : S10x1024x2048.Idx → Elt Ideal .fp8e4m3) (S : S10x32x2048.Idx → Elt Ideal .i8)
variable (D : Tables) (T : ℕ → ℕ) (cb a0 : ℕ)

/-- What the tables and the offsets are of. -/
structure Reads : Prop where
  X : ∀ i, X i = D.X (i 0).val (i 1).val
  W : ∀ i, W i = D.W (i 1).val (i 2).val
  S : ∀ i, S i = D.S (i 1).val (i 2).val
  oX : ∀ t k, t < nt → k < 4 → o.X t k 0 = T t ∧ o.X t k 1 = cb + 256 * k
  oS : ∀ n, o.S n 1 = 0 ∧ o.S n 2 = 256 * n
  oW : ∀ n k, o.W n k 1 = 256 * k ∧ o.W n k 2 = 256 * n
  oA : ∀ n, o.A n 0 = a0 ∧ o.A n 1 = 256 * n

/-- The left operand of quarter `k`. -/
def lhsOf (k : ℕ) (hk : k < 4) : FVec Ideal (SRow nt) .bf16 := rows G (toks G I mask X k hk nt 0 (by omega))

theorem lhsOf_apply (R : Reads (nt := nt) (o := o) X W S D T cb a0) (k : ℕ) (hk : k < 4) (r : Fin (8 * nt)) (j : Fin 256) :
    lhsOf G I mask X k hk (ix2 r j)
      = if mask (ix2 (⟨r.val % 8, Nat.mod_lt _ (by decide)⟩ : Fin 8) j) = 1#1 then D.X (T (r.val / 8)) (cb + 256 * k + j.val) else 0 := by
  have ht : r.val / 8 < nt := by have := r.isLt; omega
  have hl : r.val / 8 < (toks G I mask X k hk nt 0 (by omega)).1.length := by rw [(toks G I mask X k hk nt 0 (by omega)).2]; exact ht
  unfold lhsOf
  rw [rows_apply G _ r j hl, toks_get G I mask X k hk nt 0 (by omega) (r.val / 8) hl ht, tokVec_apply]
  congr 1
  show (X _ : EReal) = _
  rw [R.X]
  obtain ⟨h0, h1⟩ := R.oX (0 + r.val / 8) k (by omega) hk
  congr 1
  · show o.X (0 + r.val / 8) k 0 + 1 * 0 = _
    rw [h0, Nat.zero_add]; rfl
  · show o.X (0 + r.val / 8) k 1 + 1 * j.val = _
    rw [h1]; omega

/-- One block of columns. -/
theorem colPut_apply (hd : IsPlain d) (R : Reads (nt := nt) (o := o) X W S D T cb a0) (n : ℕ) (hn : n < 8) (A : S256x2048.Idx → Elt Ideal .f32) (i : S256x2048.Idx) :
    colPut G d I W S (lhsOf G I mask X 0 (by omega)) (lhsOf G I mask X 1 (by omega)) (lhsOf G I mask X 2 (by omega)) (lhsOf G I mask X 3 (by omega)) n hn A i
      = if (a0 ≤ (i 0).val ∧ (i 0).val < a0 + 8 * nt) ∧ (256 * n ≤ (i 1).val ∧ (i 1).val < 256 * n + 256)
        then (A i : EReal) + parts mask D (T (((i 0).val - a0) / 8)) cb (⟨((i 0).val - a0) % 8, Nat.mod_lt _ (by decide)⟩) (i 1).val else (A i : EReal) := by
  obtain ⟨hA0, hA1⟩ := R.oA n
  unfold colPut put
  by_cases h : (a0 ≤ (i 0).val ∧ (i 0).val < a0 + 8 * nt) ∧ (256 * n ≤ (i 1).val ∧ (i 1).val < 256 * n + 256)
  · have h' : ∀ a, o.A n a ≤ (i a).val ∧ (i a).val < o.A n a + (SRow nt).size a := by
      intro a
      match a with
      | ⟨0, _⟩ => rw [show o.A n ⟨0, by decide⟩ = a0 from hA0]; exact h.1
      | ⟨1, _⟩ => rw [show o.A n ⟨1, by decide⟩ = 256 * n from hA1]; exact h.2
    rw [dif_pos h', if_pos h]
    generalize hz : (Rect.unitLocal (s := S256x2048) (off := o.A n) (size := (SRow nt).size) i h' : (SRow nt).Idx) = z
    have hz0 : (z 0).val = (i 0).val - a0 := by rw [← hz, ← hA0]; rfl
    have hz1 : (z 1).val = (i 1).val - 256 * n := by rw [← hz, ← hA1]; rfl
    have hl0 : (z 0).val < 8 * nt := (z 0).isLt
    have hl1 : (z 1).val < 256 := (z 1).isLt
    obtain ⟨r, m, rfl⟩ : ∃ (r : Fin (8 * nt)) (m : Fin 256), z = ix2 r m := ⟨z 0, z 1, eq_ix2 (n0 := 8 * nt) (n1 := 256) z⟩
    have hr : r.val = (i 0).val - a0 := hz0
    have hm : m.val = (i 1).val - 256 * n := hz1
    have hc := colVal_apply G d hd (fun k => lhsOf G I mask X k.val k.isLt) (window S (o.S n) S1x32x256.size (I.S n hn)) (window A (o.A n) (SRow nt).size (I.A n hn))
      (fun k => window W (o.W n k.val) S1x256x256.size (I.W n k.val hn k.isLt)) r m
    refine hc.trans ?_
    congr 1
    · show (A _ : EReal) = _
      congr 1
      funext a
      match a with
      | ⟨0, _⟩ =>
        refine Fin.ext ?_
        show o.A n 0 + 1 * r.val = (i 0).val
        omega
      | ⟨1, _⟩ =>
        refine Fin.ext ?_
        show o.A n 1 + 1 * m.val = (i 1).val
        omega
    · unfold parts
      refine Finset.sum_congr rfl fun k _ => ?_
      unfold part
      have hL : ∀ j : Fin 256, (lhsOf G I mask X k.val k.isLt (ix2 r j) : EReal)
          = if mask (ix2 (⟨((i 0).val - a0) % 8, Nat.mod_lt _ (by decide)⟩ : Fin 8) j) = 1#1 then D.X (T (((i 0).val - a0) / 8)) (cb + 256 * k.val + j.val) else 0 := by
        intro j
        rw [lhsOf_apply G I mask X W S D T cb a0 R]
        simp only [hr]
      have hW : ∀ j : Fin 256, (window W (o.W n k.val) S1x256x256.size (I.W n k.val hn k.isLt) (ix3 (0 : Fin 1) j m) : EReal) = D.W (256 * k.val + j.val) (i 1).val := by
        intro j
        refine (R.W _).trans ?_
        obtain ⟨hw1, hw2⟩ := R.oW n k.val
        refine congrArg₂ D.W ?_ ?_
        · show o.W n k.val 1 + 1 * j.val = _
          omega
        · show o.W n k.val 2 + 1 * m.val = _
          omega
      have hS : window S (o.S n) S1x32x256.size (I.S n hn) (ix3 (0 : Fin 1) (⟨8 * k.val + r.val % 8, by have := k.isLt; omega⟩ : Fin 32) m)
          = D.S (8 * k.val + ((i 0).val - a0) % 8) (i 1).val := by
        refine (R.S _).trans ?_
        obtain ⟨hs1, hs2⟩ := R.oS n
        refine congrArg₂ D.S ?_ ?_
        · show o.S n 1 + 1 * (8 * k.val + r.val % 8) = 8 * k.val + ((i 0).val - a0) % 8
          rw [hs1, hr]; omega
        · show o.S n 2 + 1 * m.val = _
          omega
      exact congrArg₂ (fun a b : EReal => a * b) (Finset.sum_congr rfl fun j _ => congrArg₂ (fun a b : EReal => a * b) (hL j) (hW j)) (congrArg scaleOf hS)
  · rw [if_neg h, dif_neg]
    intro h'
    have h0 := h' 0
    have h1 := h' 1
    rw [hA0] at h0
    rw [hA1] at h1
    exact h ⟨h0, h1⟩

/-- The blocks of columns from the `n`th on. -/
theorem colsPut_apply (hd : IsPlain d) (R : Reads (nt := nt) (o := o) X W S D T cb a0) :
    ∀ (m n : ℕ) (h : n + m ≤ 8) (A : S256x2048.Idx → Elt Ideal .f32) (i : S256x2048.Idx),
    colsPut G d I W S (lhsOf G I mask X 0 (by omega)) (lhsOf G I mask X 1 (by omega)) (lhsOf G I mask X 2 (by omega)) (lhsOf G I mask X 3 (by omega)) m n h A i
      = if (a0 ≤ (i 0).val ∧ (i 0).val < a0 + 8 * nt) ∧ (256 * n ≤ (i 1).val ∧ (i 1).val < 256 * (n + m))
        then (A i : EReal) + parts mask D (T (((i 0).val - a0) / 8)) cb (⟨((i 0).val - a0) % 8, Nat.mod_lt _ (by decide)⟩) (i 1).val else (A i : EReal)
  | 0, n, h, A, i => by
    rw [if_neg (by omega)]; rfl
  | m + 1, n, h, A, i => by
    show colsPut G d I W S _ _ _ _ m (n + 1) _ _ i = _
    rw [colsPut_apply hd R m (n + 1) (by omega), colPut_apply G d I mask X W S D T cb a0 hd R]
    by_cases h1 : a0 ≤ (i 0).val ∧ (i 0).val < a0 + 8 * nt
    · by_cases h2 : 256 * n ≤ (i 1).val ∧ (i 1).val < 256 * n + 256
      · rw [if_neg (by omega), if_pos ⟨h1, h2⟩, if_pos ⟨h1, by omega⟩]
      · by_cases h3 : 256 * (n + 1) ≤ (i 1).val ∧ (i 1).val < 256 * (n + 1 + m)
        · rw [if_pos ⟨h1, h3⟩, if_neg (fun h => h2 h.2), if_pos ⟨h1, by omega⟩]
        · rw [if_neg (fun h => h3 h.2), if_neg (fun h => h2 h.2), if_neg (fun h => by have := h.2; omega)]
    · rw [if_neg (fun h => h1 h.1), if_neg (fun h => h1 h.1), if_neg (fun h => h1 h.1)]

/-- A whole block. -/
theorem blockVal_apply (hd : IsPlain d) (R : Reads (nt := nt) (o := o) X W S D T cb a0) (A : S256x2048.Idx → Elt Ideal .f32) (i : S256x2048.Idx) :
    blockVal G d I mask X W S A i
      = if a0 ≤ (i 0).val ∧ (i 0).val < a0 + 8 * nt
        then (A i : EReal) + parts mask D (T (((i 0).val - a0) / 8)) cb (⟨((i 0).val - a0) % 8, Nat.mod_lt _ (by decide)⟩) (i 1).val else (A i : EReal) := by
  refine (colsPut_apply G d I mask X W S D T cb a0 hd R 8 0 (by omega) A i).trans ?_
  have h1 : (i 1).val < 2048 := (i 1).isLt
  by_cases h : a0 ≤ (i 0).val ∧ (i 0).val < a0 + 8 * nt
  · rw [if_pos h, if_pos ⟨h, by omega⟩]
  · rw [if_neg h, if_neg (fun h' => h h'.1)]

end Mxfp8
-- ==== Proof.SpecVal.lean ====
/- The accumulator of an expert and the result, element by element over the extended reals. -/
module

public import proofs.«01_k».proof.Proof.BlkSum
public import proofs.«01_k».proof.Proof.IdealOffEq
public import proofs.«01_k».proof.Proof.Scan

@[expose] public section

set_option maxRecDepth 16384

noncomputable section

namespace Mxfp8

open Idealize.ShloMosaic Idealize.ShloMosaic.TcCoe Idealize.ShloMosaic.ValueIdx
open VecWindow (window put)
open scoped BigOperators

variable (Xs : S32x7168.Idx → Elt Ideal .f32) (Wv : (SArr 7168).Idx → Elt Ideal .fp8e4m3) (Sv : (SArr 224).Idx → Elt Ideal .i8)

/-- An activation, by numbers. -/
def xF (t i : ℕ) : EReal := if h : t < 32 ∧ i < 7168 then Xs (ix2 (⟨t, h.1⟩ : Fin 32) (⟨i, h.2⟩ : Fin 7168)) else 0
/-- A weight, by numbers. -/
def wF (e : Fin 12) (r n : ℕ) : EReal := if h : r < 7168 ∧ n < 2048 then Wv (ix3 e (⟨r, h.1⟩ : Fin 7168) (⟨n, h.2⟩ : Fin 2048)) else 0
/-- A code of a scale, by numbers. -/
def sF (e : Fin 12) (g n : ℕ) : BitVec 8 := if h : g < 224 ∧ n < 2048 then Sv (ix3 e (⟨g, h.1⟩ : Fin 224) (⟨n, h.2⟩ : Fin 2048)) else 0

/-- The inputs of chunk `c` of expert `e`. -/
def tables (e : Fin 12) (c : ℕ) : Tables := ⟨xF Xs, fun r n => wF Wv e (1024 * c + r) n, fun g n => sF Sv e (32 * c + g) n⟩

theorem xF_eq (i : S32x7168.Idx) : Xs i = xF Xs (i 0).val (i 1).val := by
  unfold xF
  rw [dif_pos ⟨(i 0).isLt, (i 1).isLt⟩]
  exact congrArg Xs (eq_ix2 (n0 := 32) (n1 := 7168) i)

theorem wF_slab (e : Fin 12) (c : ℕ) (hc : c < 7) (i : S10x1024x2048.Idx) :
    Wv (slabIx 1024 7168 rfl e ⟨c % 7, Nat.mod_lt _ (by decide)⟩ i) = wF Wv e (1024 * c + (i 1).val) (i 2).val := by
  have h1 : (i 1).val < 1024 := (i 1).isLt
  have h2 : (i 2).val < 2048 := (i 2).isLt
  have hm : c % 7 = c := Nat.mod_eq_of_lt hc
  unfold wF
  rw [dif_pos ⟨by omega, h2⟩]
  congr 1
  funext a
  match a with
  | ⟨0, _⟩ => rfl
  | ⟨1, _⟩ =>
    refine Fin.ext ?_
    show 1024 * (c % 7) + (i 1).val = _
    rw [hm]
  | ⟨2, _⟩ => rfl

theorem sF_slab (e : Fin 12) (c : ℕ) (hc : c < 7) (i : S10x32x2048.Idx) :
    Sv (slabIx 32 224 rfl e ⟨c % 7, Nat.mod_lt _ (by decide)⟩ i) = sF Sv e (32 * c + (i 1).val) (i 2).val := by
  have h1 : (i 1).val < 32 := (i 1).isLt
  have h2 : (i 2).val < 2048 := (i 2).isLt
  have hm : c % 7 = c := Nat.mod_eq_of_lt hc
  unfold sF
  rw [dif_pos ⟨by omega, h2⟩]
  congr 1
  funext a
  match a with
  | ⟨0, _⟩ => rfl
  | ⟨1, _⟩ =>
    refine Fin.ext ?_
    show 32 * (c % 7) + (i 1).val = _
    rw [hm]
  | ⟨2, _⟩ => rfl

theorem x_rows : ∀ (a : Fin 33) (b : Fin 3) (t : Fin 16),
    (Scalar.indexCast (Scalar.minsi (Scalar.addi (Scalar.addi (BitVec.ofNat 32 a) (Scalar.muli (BitVec.ofNat 32 b) 16#32)) (BitVec.ofNat 32 t)) 31#32)).toNat
      = min (a.val + 16 * b.val + t.val) 31 := by decide +kernel
theorem x_cols : ∀ (c : Fin 7) (k : Fin 4),
    (Scalar.indexCast (Scalar.addi (Scalar.muli (ivW c.val) 1024#32) (BitVec.ofNat 32 (256 * k.val)))).toNat = 1024 * c.val + 256 * k.val := by decide +kernel
theorem a_rows : ∀ b : Fin 3, (Scalar.indexCast (Scalar.muli (Scalar.muli (BitVec.ofNat 32 b) 16#32) 8#32)).toNat = 128 * b.val := by decide +kernel
theorem div16 : ∀ v : Fin 33, (Scalar.divsi (BitVec.ofNat 32 v) 16#32) = BitVec.ofNat 32 (v.val / 16) := by decide +kernel
theorem iv_small : ∀ b : Fin 3, ivW b.val = BitVec.ofNat 32 b.val := by decide +kernel

/-- What a block reads, of its offsets. -/
theorem reads_offs {nt : ℕ} (hn : nt ≤ 16) (e : Fin 12) (c : ℕ) (hc : c < 7) {v56 : BitVec 32} (h56 : v56.toNat ≤ 32) {b : ℕ} (hb : b < 3) (sl : BitVec 32) :
    Reads (nt := nt) (o := offsW v56 (BitVec.ofNat 32 b) (ivW c) sl) Xs (fun i => Wv (slabIx 1024 7168 rfl e ⟨c % 7, Nat.mod_lt _ (by decide)⟩ i))
      (fun i => Sv (slabIx 32 224 rfl e ⟨c % 7, Nat.mod_lt _ (by decide)⟩ i)) (tables Xs Wv Sv e c) (fun t => min (v56.toNat + 16 * b + t) 31) (1024 * c) (128 * b) where
  X i := xF_eq Xs i
  W i := wF_slab Wv e c hc i
  S i := sF_slab Sv e c hc i
  oX t k ht hk := by
    have h1 := x_rows ⟨v56.toNat, by omega⟩ ⟨b, hb⟩ ⟨t, by omega⟩
    rw [show BitVec.ofNat 32 ((⟨v56.toNat, by omega⟩ : Fin 33) : ℕ) = v56 from BitVec.eq_of_toNat_eq (by simp)] at h1
    exact ⟨h1, x_cols ⟨c, hc⟩ ⟨k, hk⟩⟩
  oS n := ⟨rfl, rfl⟩
  oW n k := ⟨rfl, rfl⟩
  oA n := ⟨a_rows ⟨b, hb⟩, rfl⟩

/-- What a chunk adds to an element of an expert's accumulator. -/
def contrib (mask : IVec S8x256 1) (e : Fin 12) (tok0 c r n : ℕ) : EReal :=
  parts mask (tables Xs Wv Sv e c) (tok0 + r / 8) (1024 * c) ⟨r % 8, Nat.mod_lt _ (by decide)⟩ n

/-- A block of an expert's chunk. -/
theorem stepVal_apply {nt : ℕ} (h2 : 2 ≤ nt) (hn : nt ≤ 16) (d : DotDims (SRow nt) S256x256 (SRow nt)) (hd : IsPlain d) (mask : IVec S8x256 1) (e : Fin 12) (j c : ℕ)
    (hj : j < 12) (hc : c < 7) {v56 : BitVec 32} (h56 : v56.toNat ≤ 32) {b : ℕ} (hb : b < 3) (hrow : 128 * b + 8 * nt ≤ 256) (A : Acc Ideal) (i : S256x2048.Idx)
    (hi : v56.toNat + (i 0).val / 8 ≤ 31) :
    stepVal Xs h2 d mask (offsW v56 (BitVec.ofNat 32 b) (ivW c) (slW j c)) (fun i => Wv (slabIx 1024 7168 rfl e ⟨c % 7, Nat.mod_lt _ (by decide)⟩ i))
      (fun i => Sv (slabIx 32 224 rfl e ⟨c % 7, Nat.mod_lt _ (by decide)⟩ i)) A i
      = if 128 * b ≤ (i 0).val ∧ (i 0).val < 128 * b + 8 * nt then (A i : EReal) + contrib Xs Wv Sv mask e v56.toNat c (i 0).val (i 1).val else (A i : EReal) := by
  have hbn : (BitVec.ofNat 32 b).toNat = b := by rw [BitVec.toNat_ofNat]; omega
  have I := Cert.KernelIdeal.inbW nt hn v56 (BitVec.ofNat 32 b) j c hj hc h56 (by omega) (by rw [hbn]; exact hrow)
  rw [stepVal_eq Xs h2 d mask I]
  refine (blockVal_apply (sides h2) d I mask Xs _ _ _ _ _ _ hd (reads_offs Xs Wv Sv hn e c hc h56 hb _) A i).trans ?_
  by_cases h : 128 * b ≤ (i 0).val ∧ (i 0).val < 128 * b + 8 * nt
  · rw [if_pos h, if_pos h]
    congr 1
    unfold contrib
    have e1 : min (v56.toNat + 16 * b + ((i 0).val - 128 * b) / 8) 31 = v56.toNat + (i 0).val / 8 := by omega
    have e2 : ((i 0).val - 128 * b) % 8 = (i 0).val % 8 := by omega
    simp only [e1, e2]
  · rw [if_neg h, if_neg h]

/-- The parts of the program, as the mathematics uses them. -/
structure PlainParts (P : Parts Ideal) : Prop where
  d2 : IsPlain P.d2
  d4 : IsPlain P.d4
  d8 : IsPlain P.d8
  d16 : IsPlain P.d16
  zero : ∀ i, P.zero i = (0 : EReal)
  sum : ∀ A i, P.sum A i = ∑ u : Fin 8, (A (ix2 u (i 1)) : EReal)

variable {P : Parts Ideal} (HP : PlainParts P) (e : Fin 12) (j c : ℕ) (hj : j < 12) (hc : c < 7) {v56 v58 : BitVec 32} (hm : v56.toNat + v58.toNat ≤ 32)

section Chunk

variable (A : Acc Ideal) (i : S256x2048.Idx)

include HP hj hc in
theorem tilesVal_apply (h56 : v56.toNat ≤ 32) (hi : v56.toNat + (i 0).val / 8 ≤ 31) : ∀ n, n ≤ 2 →
    tilesVal P Xs v56 j c (fun i => Wv (slabIx 1024 7168 rfl e ⟨c % 7, Nat.mod_lt _ (by decide)⟩ i))
      (fun i => Sv (slabIx 32 224 rfl e ⟨c % 7, Nat.mod_lt _ (by decide)⟩ i)) n A i
      = if (i 0).val < 128 * n then (A i : EReal) + contrib Xs Wv Sv P.mask e v56.toNat c (i 0).val (i 1).val else (A i : EReal)
  | 0, _ => by rw [if_neg (by omega)]; rfl
  | n + 1, hn => by
    unfold tilesVal
    rw [iv_small ⟨n, by omega⟩]
    rw [stepVal_apply Xs Wv Sv (by decide) (by decide) P.d16 HP.d16 P.mask e j c hj hc h56 (show n < 3 by omega) (by omega) _ i hi,
      tilesVal_apply h56 hi n (by omega)]
    by_cases h : (i 0).val < 128 * n
    · rw [if_neg (by omega), if_pos h, if_pos (by omega)]
    · by_cases h' : (i 0).val < 128 * (n + 1)
      · rw [if_pos (by omega), if_neg h, if_pos h']
      · rw [if_neg (by omega), if_neg h, if_neg h']

include hj hc in
theorem tailVal_apply {nt : ℕ} (h2 : 2 ≤ nt) (hn : nt ≤ 16) (d : DotDims (SRow nt) S256x256 (SRow nt)) (hd : IsPlain d) (lo : ℕ)
    (hm : v56.toNat + v58.toNat ≤ 32) (hi : (i 0).val < 8 * v58.toNat) :
    tailVal P Xs v56 v58 j c (fun i => Wv (slabIx 1024 7168 rfl e ⟨c % 7, Nat.mod_lt _ (by decide)⟩ i))
      (fun i => Sv (slabIx 32 224 rfl e ⟨c % 7, Nat.mod_lt _ (by decide)⟩ i)) h2 d lo nt A i
      = if (lo < v58.toNat % 16 ∧ v58.toNat % 16 ≤ nt) ∧ 128 * (v58.toNat / 16) ≤ (i 0).val
        then (A i : EReal) + contrib Xs Wv Sv P.mask e v56.toNat c (i 0).val (i 1).val else (A i : EReal) := by
  unfold tailVal
  by_cases h : lo < v58.toNat % 16 ∧ v58.toNat % 16 ≤ nt
  · rw [if_pos h]
    have hv : Scalar.divsi v58 16#32 = BitVec.ofNat 32 (v58.toNat / 16) := by
      have := div16 ⟨v58.toNat, by omega⟩
      rwa [show BitVec.ofNat 32 ((⟨v58.toNat, by omega⟩ : Fin 33) : ℕ) = v58 from BitVec.eq_of_toNat_eq (by simp)] at this
    rw [hv, stepVal_apply Xs Wv Sv h2 hn d hd P.mask e j c hj hc (by omega) (show v58.toNat / 16 < 3 by omega) (by omega) _ i (by omega)]
    by_cases h' : 128 * (v58.toNat / 16) ≤ (i 0).val
    · rw [if_pos (by omega), if_pos ⟨h, h'⟩]
    · rw [if_neg (by omega), if_neg (fun x => h' x.2)]
  · rw [if_neg h, if_neg (fun x => h x.1)]

include HP hj hc hm in
/-- A chunk adds its contribution to every row of the expert's tokens. -/
theorem chunkVal_apply (hi : (i 0).val < 8 * v58.toNat) :
    chunkVal P Xs v56 v58 j c (fun i => Wv (slabIx 1024 7168 rfl e ⟨c % 7, Nat.mod_lt _ (by decide)⟩ i))
      (fun i => Sv (slabIx 32 224 rfl e ⟨c % 7, Nat.mod_lt _ (by decide)⟩ i)) A i
      = (A i : EReal) + contrib Xs Wv Sv P.mask e v56.toNat c (i 0).val (i 1).val := by
  unfold chunkVal
  rw [tailVal_apply Xs Wv Sv e j c hj hc _ i (by decide) (by decide) P.d16 HP.d16 8 hm hi, tailVal_apply Xs Wv Sv e j c hj hc _ i (by decide) (by decide) P.d8 HP.d8 4 hm hi,
    tailVal_apply Xs Wv Sv e j c hj hc _ i (by decide) (by decide) P.d4 HP.d4 2 hm hi, tailVal_apply Xs Wv Sv e j c hj hc _ i (by decide) (by decide) P.d2 HP.d2 0 hm hi,
    tilesVal_apply Xs Wv Sv HP e j c hj hc A i (by omega) (by omega) _ (by omega)]
  by_cases h : (i 0).val < 128 * (v58.toNat / 16)
  · rw [if_neg (by omega), if_neg (by omega), if_neg (by omega), if_neg (by omega), if_pos h]
  · rw [if_neg h]
    by_cases h8 : 8 < v58.toNat % 16
    · rw [if_pos (by omega), if_neg (by omega), if_neg (by omega), if_neg (by omega)]
    · by_cases h4 : 4 < v58.toNat % 16
      · rw [if_neg (by omega), if_pos (by omega), if_neg (by omega), if_neg (by omega)]
      · by_cases h2 : 2 < v58.toNat % 16
        · rw [if_neg (by omega), if_neg (by omega), if_pos (by omega), if_neg (by omega)]
        · rw [if_neg (by omega), if_neg (by omega), if_neg (by omega), if_pos (by omega)]

end Chunk

include HP hj hm in
theorem chunksVal_apply (A : Acc Ideal) (i : S256x2048.Idx) (hi : (i 0).val < 8 * v58.toNat) : ∀ c, c ≤ 7 →
    chunksVal P Xs Wv Sv e v56 v58 j c A i = (A i : EReal) + ∑ c ∈ Finset.range c, contrib Xs Wv Sv P.mask e v56.toNat c (i 0).val (i 1).val
  | 0, _ => by simp [chunksVal]
  | c + 1, h => by
    unfold chunksVal
    rw [chunkVal_apply Xs Wv Sv HP e j c hj (by omega) hm _ i hi, chunksVal_apply A i hi c (by omega), Finset.sum_range_succ, add_assoc]

include HP in
theorem clearVal_apply (A : Acc Ideal) (i : S256x2048.Idx) : ∀ n, (i 0).val < 8 * n → clearVal P n A i = (0 : EReal)
  | 0, h => absurd h (by omega)
  | n + 1, h => by
    have h1 : (i 1).val < 2048 := (i 1).isLt
    unfold clearVal put
    by_cases hn : 8 * n ≤ (i 0).val
    · rw [dif_pos]
      · exact HP.zero _
      · intro a
        match a with
        | ⟨0, _⟩ => exact ⟨hn, by show (i 0).val < 8 * n + 8; omega⟩
        | ⟨1, _⟩ => exact ⟨Nat.zero_le _, by show (i 1).val < 0 + 2048; omega⟩
    · rw [dif_neg]
      · exact clearVal_apply A i n (by omega)
      · intro hh
        exact hn (hh 0).1

include HP hj hm in
/-- The accumulator of an expert, on the rows of its tokens. -/
theorem expertAcc_apply (A : Acc Ideal) (i : S256x2048.Idx) (hi : (i 0).val < 8 * v58.toNat) :
    expertAcc P Xs Wv Sv e v56 v58 j A i = ∑ c ∈ Finset.range 7, contrib Xs Wv Sv P.mask e v56.toNat c (i 0).val (i 1).val := by
  unfold expertAcc
  rw [chunksVal_apply Xs Wv Sv HP e j hj hm _ i hi 7 (by decide), clearVal_apply HP A i _ (by omega), zero_add]

/-- The value of a token's row, at a column, of an expert. -/
def tokenVal (mask : IVec S8x256 1) (e : Fin 12) (row n : ℕ) : EReal :=
  ∑ u : Fin 8, ∑ c ∈ Finset.range 7, parts mask (tables Xs Wv Sv e c) row (1024 * c) u n

end Mxfp8
-- ==== Proof.RunVal.lean ====
/- The result after all experts that have tokens: each row is that of the expert that owns it. -/
module

public import proofs.«01_k».proof.Proof.SpecVal

@[expose] public section

set_option maxRecDepth 16384

noncomputable section

namespace Mxfp8

open Idealize.ShloMosaic Idealize.ShloMosaic.TcCoe Idealize.ShloMosaic.ValueIdx
open VecWindow (window put)
open scoped BigOperators

variable (Xs : S32x7168.Idx → Elt Ideal .f32) (Wv : (SArr 7168).Idx → Elt Ideal .fp8e4m3) (Sv : (SArr 224).Idx → Elt Ideal .i8)
variable {P : Parts Ideal} (HP : PlainParts P)

include HP in
/-- The rows written by an expert. -/
theorem emitVal_apply (r : ℕ) (A : Acc Ideal) (O : Out Ideal) (i : S32x2048.Idx) : ∀ n, r + n ≤ 32 →
    emitVal P r A n O i = if h : r ≤ (i 0).val ∧ (i 0).val < r + n
      then ∑ u : Fin 8, (A (ix2 (⟨8 * ((i 0).val - r) + u.val, by have := (i 0).isLt; have h32 : (i 0).val < 32 := (i 0).isLt; omega⟩ : Fin 256) (i 1)) : EReal) else (O i : EReal)
  | 0, _ => by rw [dif_neg (by omega)]; rfl
  | n + 1, hn => by
    have h1 : (i 1).val < 2048 := (i 1).isLt
    unfold emitVal put
    by_cases h : (i 0).val = r + n
    · rw [dif_pos, dif_pos (by omega), HP.sum]
      · refine Finset.sum_congr rfl fun u _ => ?_
        unfold accRow
        rw [dif_pos]
        · show (A _ : EReal) = _
          congr 1
          funext a
          match a with
          | ⟨0, _⟩ =>
            refine Fin.ext ?_
            show 8 * n + 1 * u.val = 8 * ((i 0).val - r) + u.val
            omega
          | ⟨1, _⟩ =>
            refine Fin.ext ?_
            show 0 + 1 * ((i 1).val - 0) = (i 1).val
            omega
        · intro a
          match a with
          | ⟨0, _⟩ => show 8 * n + 8 ≤ 256; omega
          | ⟨1, _⟩ => show 0 + 2048 ≤ 2048; omega
      · intro a
        match a with
        | ⟨0, _⟩ => exact ⟨by show r + n ≤ (i 0).val; omega, by show (i 0).val < r + n + 1; omega⟩
        | ⟨1, _⟩ => exact ⟨Nat.zero_le _, by show (i 1).val < 0 + 2048; omega⟩
    · rw [dif_neg, emitVal_apply r A O i n (by omega)]
      · by_cases h' : r ≤ (i 0).val ∧ (i 0).val < r + n
        · rw [dif_pos h', dif_pos (by omega)]
        · rw [dif_neg h', dif_neg (by omega)]
      · intro hh
        have h0 : r + n ≤ (i 0).val ∧ (i 0).val < r + n + 1 := hh 0
        omega

variable (Sz : S12w.Idx → BitVec 32)

/-- Expert `e` owns token `p`. -/
def Owns (e p : ℕ) : Prop := startN Sz e ≤ p ∧ p < startN Sz e + sizeN Sz e

instance (e p : ℕ) : Decidable (Owns Sz e p) := inferInstanceAs (Decidable (_ ∧ _))

theorem Owns.unique {e e' p : ℕ} (h : Owns Sz e p) (h' : Owns Sz e' p) : e = e' := by
  rcases Nat.lt_trichotomy e e' with g | g | g
  · have := startN_mono Sz (show e + 1 ≤ e' from g)
    have e1 : startN Sz (e + 1) = startN Sz e + sizeN Sz e := rfl
    have := h.2; have := h'.1; omega
  · exact g
  · have := startN_mono Sz (show e' + 1 ≤ e from g)
    have e1 : startN Sz (e' + 1) = startN Sz e' + sizeN Sz e' := rfl
    have := h'.2; have := h.1; omega

/-- A row, at a column: the value of its owner, zero if no expert owns it. -/
def outVal (mask : IVec S8x256 1) (p n : ℕ) : EReal :=
  ∑ e : Fin 12, if Owns Sz e.val p then tokenVal Xs Wv Sv mask e p n else 0

theorem outVal_owner (mask : IVec S8x256 1) {e : Fin 12} {p : ℕ} (n : ℕ) (h : Owns Sz e.val p) : outVal Xs Wv Sv Sz mask p n = tokenVal Xs Wv Sv mask e p n := by
  unfold outVal
  rw [Finset.sum_eq_single e, if_pos h]
  · intro e' _ hne
    rw [if_neg fun h' => hne (Fin.ext (Owns.unique Sz h' h))]
  · exact fun h => absurd (Finset.mem_univ _) h

theorem outVal_none (mask : IVec S8x256 1) {p : ℕ} (n : ℕ) (h : ∀ e : Fin 12, ¬ Owns Sz e.val p) : outVal Xs Wv Sv Sz mask p n = 0 :=
  Finset.sum_eq_zero fun e _ => if_neg (h e)

variable {Sz} (hf : Fits Sz) {cnt tot : BitVec 32} {A5 A6 : S13w.Idx → BitVec 32} (hS : Scan Sz 12 cnt tot A5 A6)

include HP hf hS in
/-- The rows of an expert, written from its accumulator. -/
theorem emit_expert (j : ℕ) (hj : j < cnt.toNat) (A : Acc Ideal) (O : Out Ideal) (i : S32x2048.Idx) :
    emitVal P (tokOf A6 j).toNat (expertAcc P Xs Wv Sv (actOf A5 j) (tokOf A6 j) (szOf Sz A5 j) j A) (szOf Sz A5 j).toNat O i
      = if Owns Sz (actOf A5 j).val (i 0).val then tokenVal Xs Wv Sv P.mask (actOf A5 j) (i 0).val (i 1).val else (O i : EReal) := by
  obtain ⟨hj', -, -, ht, hs, hp, h32⟩ := Scan.at hf hS hj
  have hc := hS.cnt_le
  refine (emitVal_apply HP (tokOf A6 j).toNat _ O i (szOf Sz A5 j).toNat h32).trans ?_
  by_cases h : (tokOf A6 j).toNat ≤ (i 0).val ∧ (i 0).val < (tokOf A6 j).toNat + (szOf Sz A5 j).toNat
  · have ho : Owns Sz (actOf A5 j).val (i 0).val := by unfold Owns; rw [← ht, ← hs]; exact h
    rw [dif_pos h, if_pos ho]
    unfold tokenVal
    refine Finset.sum_congr rfl fun u _ => ?_
    have hu := u.isLt
    rw [expertAcc_apply Xs Wv Sv HP (actOf A5 j) j (by omega) h32 A _ (by show 8 * ((i 0).val - (tokOf A6 j).toNat) + u.val < _; omega)]
    refine Finset.sum_congr rfl fun c _ => ?_
    unfold contrib
    have e1 : (tokOf A6 j).toNat + (8 * ((i 0).val - (tokOf A6 j).toNat) + u.val) / 8 = (i 0).val := by omega
    have e2 : (⟨(8 * ((i 0).val - (tokOf A6 j).toNat) + u.val) % 8, Nat.mod_lt _ (by decide)⟩ : Fin 8) = u := Fin.ext (by show _ % 8 = _; omega)
    show parts P.mask _ ((tokOf A6 j).toNat + (8 * ((i 0).val - (tokOf A6 j).toNat) + u.val) / 8) _ ⟨(8 * ((i 0).val - (tokOf A6 j).toNat) + u.val) % 8, _⟩ _ = _
    rw [e1, e2]
  · have ho : ¬ Owns Sz (actOf A5 j).val (i 0).val := by unfold Owns; rw [← ht, ← hs]; exact h
    rw [dif_neg h, if_neg ho]

include HP hf hS in
theorem runVal_apply (s : Acc Ideal × Out Ideal) (i : S32x2048.Idx) : ∀ j, j ≤ cnt.toNat →
    (∀ e : Fin 12, Owns Sz e.val (i 0).val → (∃ l, l < j ∧ actOf A5 l = e) → (runVal P Xs Wv Sv (actOf A5) (tokOf A6) (szOf Sz A5) j s).2 i = tokenVal Xs Wv Sv P.mask e (i 0).val (i 1).val)
    ∧ ((∀ l, l < j → ¬ Owns Sz (actOf A5 l).val (i 0).val) → (runVal P Xs Wv Sv (actOf A5) (tokOf A6) (szOf Sz A5) j s).2 i = s.2 i)
  | 0, _ => ⟨fun _ _ ⟨_, h, _⟩ => absurd h (by omega), fun _ => rfl⟩
  | j + 1, hj => by
    obtain ⟨h1, h2⟩ := runVal_apply s i j (by omega)
    have key := emit_expert Xs Wv Sv HP hf hS j (by omega) (runVal P Xs Wv Sv (actOf A5) (tokOf A6) (szOf Sz A5) j s).1 (runVal P Xs Wv Sv (actOf A5) (tokOf A6) (szOf Sz A5) j s).2 i
    refine ⟨fun e ho hl => ?_, fun hn => ?_⟩
    · refine key.trans ?_
      by_cases h : Owns Sz (actOf A5 j).val (i 0).val
      · rw [if_pos h, show actOf A5 j = e from Fin.ext (Owns.unique Sz h ho)]
      · rw [if_neg h]
        obtain ⟨l, hlj, hle⟩ := hl
        refine h1 e ho ⟨l, ?_, hle⟩
        by_contra hc
        have : l = j := by omega
        subst this
        exact h (hle ▸ ho)
    · refine key.trans ?_
      rw [if_neg (hn j (by omega))]
      exact h2 fun l hl => hn l (by omega)

include HP hf hS in
/-- The result, from a cleared one. -/
theorem runVal_out (s : Acc Ideal × Out Ideal) (i : S32x2048.Idx) (h0 : s.2 i = (0 : EReal)) :
    (runVal P Xs Wv Sv (actOf A5) (tokOf A6) (szOf Sz A5) cnt.toNat s).2 i = outVal Xs Wv Sv Sz P.mask (i 0).val (i 1).val := by
  obtain ⟨h1, h2⟩ := runVal_apply Xs Wv Sv HP hf hS s i cnt.toNat (Nat.le_refl _)
  by_cases h : ∃ e : Fin 12, Owns Sz e.val (i 0).val
  · obtain ⟨e, ho⟩ := h
    rw [outVal_owner Xs Wv Sv Sz P.mask _ ho]
    refine h1 e ho ?_
    obtain ⟨l, hl, hlc, h5⟩ := hS.found e.val e.isLt (by have := ho.1; have := ho.2; omega)
    refine ⟨l, hlc, Fin.ext ?_⟩
    unfold actOf
    rw [dif_pos hl]
    show (A5 (wix hl)).toNat % 12 = e.val
    have he := e.isLt
    rw [h5, BitVec.toNat_ofNat]
    omega
  · have h : ∀ e : Fin 12, ¬ Owns Sz e.val (i 0).val := fun e ho => h ⟨e, ho⟩
    rw [outVal_none Xs Wv Sv Sz P.mask _ h, h2 fun l _ => h _, h0]

end Mxfp8
-- ==== Proof.KernVal.lean ====
/- The kernel's result over the reals, from what its body leaves. -/
module

public import proofs.«01_k».proof.Proof.IdealBody
public import proofs.«01_k».proof.Proof.KQuant
public import proofs.«01_k».proof.Proof.RunVal
public import Idealize.ShloMosaic.Lib.MatmulPlain
public import Idealize.ShloMosaic.PureOps.Ideal.Laws

@[expose] public section

set_option maxRecDepth 16384

noncomputable section

namespace Mxfp8

open Cert.KernelIdeal Cert.KernelIdeal.Gen Idealize.ShloMosaic Idealize.ShloMosaic.TcCoe Idealize.ShloMosaic.ValueIdx
open scoped BigOperators

theorem kmask_word : ∀ (u : Fin 8) (j : Fin 256), kmask (ix2 u j) = BitVec.ofBool (decide (j.val / 32 = u.val)) := by decide +kernel

/-- The mask keeps the rows of the group. -/
theorem kmask_iff (u : Fin 8) (j : Fin 256) : kmask (ix2 u j) = 1#1 ↔ j.val / 32 = u.val := by
  rw [kmask_word]
  by_cases h : j.val / 32 = u.val <;> simp [h]

theorem zero_bits : Ideal.ofBits .f32 0x00000000#32 = (0 : EReal) := by
  simp [Ideal.ofBits, Ideal.ieee]

/-- The body's products are plain, its zero is 0 and its sum is over the eight rows. -/
theorem plainParts : PlainParts (kParts (F := Ideal) kmask) where
  d2 lhs rhs acc r c := Ideal.matmul_plain_apply none lhs rhs acc r c
  d4 lhs rhs acc r c := Ideal.matmul_plain_apply none lhs rhs acc r c
  d8 lhs rhs acc r c := Ideal.matmul_plain_apply none lhs rhs acc r c
  d16 lhs rhs acc r c := Ideal.matmul_plain_apply none lhs rhs acc r c
  zero i := by
    show k0_pay2 (F := Ideal) i = _
    unfold k0_pay2
    rw [shapeCast_self]
    exact zero_bits
  sum A i := by
    obtain ⟨z, n, rfl⟩ : ∃ (z : Fin 1) (n : Fin 2048), i = ix2 z n := ⟨i 0, i 1, eq_ix2 (n0 := 1) (n1 := 2048) i⟩
    show k0_pay8 (F := Ideal) A (ix2 z n) = _
    unfold k0_pay8
    rw [shapeCast_self]
    refine (shapeCast_apply _ _ _ (ix1 n) ?_).trans ?_
    · rw [Shape.rowMajor_val_two, Shape.rowMajor_val_one]
      show n.val = z.val * 2048 + n.val
      omega
    · refine (Ideal.multiReduction_add_single _ _ _ _ _ _).trans ?_
      refine Finset.sum_congr rfl fun (u : Fin 8) _ => congrArg A ?_
      funext a
      match a with
      | ⟨0, _⟩ => rfl
      | ⟨1, _⟩ => rfl

theorem pay863_zero (i : S32x2048.Idx) : k0_pay863 (F := Ideal) i = (0 : EReal) := by
  unfold k0_pay863
  rw [shapeCast_self]
  exact zero_bits

/-- What the body leaves, where the input is finite and the sizes fit. -/
theorem result_apply {Sz : S12w.Idx → BitVec 32} {XB : S32x7168.Idx → Elt Ideal .bf16} {Wv : (SArr 7168).Idx → Elt Ideal .fp8e4m3} {Sv : (SArr 224).Idx → Elt Ideal .i8}
    {y : S32x2048.Idx → Elt Ideal .bf16} (h : Result (F := Ideal) Sz XB Wv Sv y) (hf : Fits Sz) (hx : ∀ i, ∃ q : ℝ, XB i = (q : EReal) ∧ |q| ≤ bigX) (p : Fin 32) (n : Fin 2048) :
    y (ix2 p n) = outVal XB Wv Sv Sz kmask p.val n.val := by
  obtain ⟨cnt, tot, A5, A6, Xs, A0, hS, hQ, rfl⟩ := h
  have hX : Xs = XB := funext fun i => quantised_id hQ hx i
  subst hX
  have h0 : ((A0, k0_pay863 (F := Ideal)) : Acc Ideal × Out Ideal).2 (ix2 p n) = (0 : EReal) := pay863_zero (ix2 p n)
  exact runVal_out Xs Wv Sv plainParts hf hS (A0, k0_pay863 (F := Ideal)) (ix2 p n) h0

end Mxfp8
-- ==== Proof.Algebra.lean ====
/- The masked products of a token, summed over groups and quarters, are the one product with the scaled weights. -/
module

public import proofs.«01_k».proof.Proof.RunVal

@[expose] public section

set_option maxRecDepth 16384

noncomputable section

namespace Mxfp8

open Idealize.ShloMosaic Idealize.ShloMosaic.TcCoe Idealize.ShloMosaic.ValueIdx
open scoped BigOperators

/-- A sum over `a * b` numbers, in `a` runs of `b`. -/
theorem sum_runs (f : ℕ → EReal) (b : ℕ) : ∀ a, ∑ i ∈ Finset.range (a * b), f i = ∑ c ∈ Finset.range a, ∑ r ∈ Finset.range b, f (b * c + r)
  | 0 => by simp
  | a + 1 => by
    rw [Nat.add_mul, Nat.one_mul, Finset.sum_range_add, sum_runs f b a, Finset.sum_range_succ, Nat.mul_comm a b]

/-- A scale that is not negative and not infinite goes into a sum. -/
theorem sum_scaled {s : EReal} (h0 : 0 ≤ s) (ht : s ≠ ⊤) (f : ℕ → EReal) : ∀ n, (∑ j ∈ Finset.range n, f j) * s = ∑ j ∈ Finset.range n, f j * s
  | 0 => by simp
  | n + 1 => by
    rw [Finset.sum_range_succ, Finset.sum_range_succ, EReal.right_distrib_of_nonneg_of_ne_top h0 ht, sum_scaled h0 ht f n]

/-- Of 256 rows, the 32 of a group. -/
theorem sum_group (g : ℕ → EReal) (u : ℕ) (hu : u < 8) : ∑ j ∈ Finset.range 256, (if j / 32 = u then g j else 0) = ∑ j ∈ Finset.range 32, g (32 * u + j) := by
  rw [show 256 = 8 * 32 from rfl, sum_runs, Finset.sum_eq_single u]
  · refine Finset.sum_congr rfl fun j hj => if_pos ?_
    have := Finset.mem_range.1 hj; omega
  · intro v _ hv
    refine Finset.sum_eq_zero fun j hj => if_neg ?_
    have := Finset.mem_range.1 hj; omega
  · exact fun h => absurd (Finset.mem_range.2 hu) h

variable (Xs : S32x7168.Idx → Elt Ideal .f32) (Wv : (SArr 7168).Idx → Elt Ideal .fp8e4m3) (Sv : (SArr 224).Idx → Elt Ideal .i8)

/-- A term of the product, by numbers. -/
def term (e : Fin 12) (p n i : ℕ) : EReal := xF Xs p i * (wF Wv e i n * scaleOf (sF Sv e (i / 32) n))

variable (mask : IVec S8x256 1) (hm : ∀ (u : Fin 8) (j : Fin 256), mask (ix2 u j) = 1#1 ↔ j.val / 32 = u.val)
variable (hs : ∀ e g n, 0 ≤ scaleOf (sF Sv e g n) ∧ scaleOf (sF Sv e g n) ≠ ⊤)

include hm hs in
/-- A quarter's contribution is the 32 terms of its group. -/
theorem part_eq (e : Fin 12) (p n c : ℕ) (u : Fin 8) (k : Fin 4) :
    part mask (tables Xs Wv Sv e c) p (1024 * c) u n k = ∑ j ∈ Finset.range 32, term Xs Wv Sv e p n (1024 * c + (256 * k.val + (32 * u.val + j))) := by
  have h1 : (∑ j : Fin 256, (if mask (ix2 u j) = 1#1 then xF Xs p (1024 * c + 256 * k.val + j.val) else 0) * wF Wv e (1024 * c + (256 * k.val + j.val)) n)
      = ∑ j ∈ Finset.range 256, (if j / 32 = u.val then xF Xs p (1024 * c + 256 * k.val + j) * wF Wv e (1024 * c + (256 * k.val + j)) n else 0) := by
    rw [Finset.sum_range]
    refine Finset.sum_congr rfl fun j _ => ?_
    by_cases h : j.val / 32 = u.val
    · rw [if_pos h, if_pos ((hm u j).2 h)]
    · rw [if_neg h, if_neg fun h' => h ((hm u j).1 h'), zero_mul]
  have hu := u.isLt
  have hk := k.isLt
  obtain ⟨h0, ht⟩ := hs e (32 * c + (8 * k.val + u.val)) n
  show (∑ j : Fin 256, (if mask (ix2 u j) = 1#1 then xF Xs p (1024 * c + 256 * k.val + j.val) else 0) * wF Wv e (1024 * c + (256 * k.val + j.val)) n)
    * scaleOf (sF Sv e (32 * c + (8 * k.val + u.val)) n) = _
  rw [h1, sum_group _ u.val hu, sum_scaled h0 ht]
  refine Finset.sum_congr rfl fun j hj => ?_
  have hj := Finset.mem_range.1 hj
  unfold term
  rw [mul_assoc, show (1024 * c + (256 * k.val + (32 * u.val + j))) / 32 = 32 * c + (8 * k.val + u.val) by omega, Nat.add_assoc (1024 * c)]

include hm hs in
/-- A token's row. -/
theorem tokenVal_eq (e : Fin 12) (p n : ℕ) : tokenVal Xs Wv Sv mask e p n = ∑ i ∈ Finset.range 7168, term Xs Wv Sv e p n i := by
  unfold tokenVal
  rw [show 7168 = 7 * 1024 from rfl, sum_runs, Finset.sum_comm]
  refine Finset.sum_congr rfl fun c _ => ?_
  rw [show 1024 = 4 * 256 from rfl, sum_runs]
  unfold parts
  rw [Finset.sum_comm, Finset.sum_range]
  refine Finset.sum_congr rfl fun k _ => ?_
  rw [show 256 = 8 * 32 from rfl, sum_runs, Finset.sum_range]
  refine Finset.sum_congr rfl fun u _ => ?_
  exact part_eq Xs Wv Sv mask hm hs e p n c u k

include hm hs in
/-- The result, as a sum of products over the experts that own the token. -/
theorem outVal_eq (Sz : S12w.Idx → BitVec 32) (p : Fin 32) (n : Fin 2048) :
    outVal Xs Wv Sv Sz mask p.val n.val = ∑ e : Fin 12, if Owns Sz e.val p.val
      then ∑ i : Fin 7168, (Xs (ix2 p i) : EReal) * ((Wv (ix3 e i n) : EReal) * scaleOf (Sv (ix3 e (⟨i.val / 32, by have := i.isLt; omega⟩ : Fin 224) n))) else 0 := by
  unfold outVal
  refine Finset.sum_congr rfl fun e _ => ?_
  rw [tokenVal_eq Xs Wv Sv mask hm hs, Finset.sum_range]
  refine if_congr Iff.rfl (Finset.sum_congr rfl fun i _ => ?_) rfl
  have hi := i.isLt
  unfold term xF wF sF
  rw [dif_pos ⟨p.isLt, hi⟩, dif_pos ⟨hi, n.isLt⟩, dif_pos ⟨by omega, n.isLt⟩]

end Mxfp8
-- ==== Proof.RefRun.lean ====
/- The result of the reference as one function of its arguments: its windows are whole arrays, and its one store covers the result. -/
module

public import proofs.«01_k».proof.Proof.Gen.ReferenceIdeal.Value

@[expose] public section

set_option maxRecDepth 16384

noncomputable section

namespace Mxfp8.RefRun

open Cert.ReferenceIdeal Cert.ReferenceIdeal.Gen Cert.ReferenceIdeal.Value Idealize.ShloMosaic Idealize.ShloMosaic.TcCoe Idealize.SL.Sem Idealize.ShloMosaic.Tactic

variable {F : FTy → Type} [FloatOps F]

/-- The result of the reference, of the input, the sizes, the weights and the codes. -/
def refVal (x : Vec F S32x7168 .bf16) (g : Vec F S1x12 .i32) (w : Vec F S12x7168x2048 .fp8e4m3) (s : Vec F S12x224x2048 .i8) : Vec F S32x2048 .bf16 :=
  k0_pay1 (k0_pay6 x (Scf.fold (k0_pay5 x) k0_pay4)) (k0_pay7 s) w g

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result's buffer. -/
theorem out_eq (c : Dev nD) (arg0 : Memref sig .tc .vmem S32x7168 .bf16) (h0 : arg0.IsWhole) (arg1 : Memref sig .tc .vmem S1x12 .i32) (h1 : arg1.IsWhole)
    (arg2 : Memref sig .tc .vmem S12x7168x2048 .fp8e4m3) (h2 : arg2.IsWhole) (arg3 : Memref sig .tc .vmem S12x224x2048 .i8) (h3 : arg3.IsWhole) (arg4 : Memref sig .tc .vmem S32x2048 .bf16) (h4 : arg4.IsWhole)
    (x0 : Vec F S32x7168 .bf16) (x1 : Vec F S1x12 .i32) (x2 : Vec F S12x7168x2048 .fp8e4m3) (x3 : Vec F S12x224x2048 .i8) :
    out0_A_4 c arg0 h0 arg1 h1 arg2 h2 arg3 h3 arg4 h4 x0 x1 x2 x3 = refVal x0 x1 x2 x3 := by
  unfold out0_A_4
  rw [View.read_writes_junk_eq_canon]
  unfold kernelRun0_A
  dsimp only
  sl_unfold_words
  rw [View.canon_unit_zero hz2]
  simp only [View.readAt_eq_ld, h0.read_unread, h1.read_unread, h2.read_unread, h3.read_unread, View.ld_unit_zero (S := S32x7168) hz2, View.ld_unit_zero (S := S1x12) hz2,
    View.ld_unit_zero (S := S12x7168x2048) hz3, View.ld_unit_zero (S := S12x224x2048) hz3]
  rfl

variable (m : (ℓ : Loc nD τ sig) → Buf (Elt F) ℓ) (ρ : Dev nD → PrngReg)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

theorem emb0 (t : Fin cfg0.N) (j : S32x7168.Idx) : ((cfg0.win 0).blk t).view.emb j = j := by
  obtain ⟨e0, e1⟩ := idx0 t
  funext a; apply Fin.ext
  match a with
  | ⟨0, _⟩ => show win0_0.index t (0 : Fin 2) * 32 + 1 * (j 0).val = (j 0).val; omega
  | ⟨1, _⟩ => show win0_0.index t (1 : Fin 2) * 7168 + 1 * (j 1).val = (j 1).val; omega

theorem emb1 (t : Fin cfg0.N) (j : S1x12.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 12 + 1 * (j 1).val = (j 1).val; omega

theorem emb2 (t : Fin cfg0.N) (j : S12x7168x2048.Idx) : ((cfg0.win 2).blk t).view.emb j = j := by
  obtain ⟨e0, e1, e2⟩ := idx2 t
  funext a; apply Fin.ext
  match a with
  | ⟨0, _⟩ => show win0_2.index t (0 : Fin 3) * 12 + 1 * (j 0).val = (j 0).val; omega
  | ⟨1, _⟩ => show win0_2.index t (1 : Fin 3) * 7168 + 1 * (j 1).val = (j 1).val; omega
  | ⟨2, _⟩ => show win0_2.index t (2 : Fin 3) * 2048 + 1 * (j 2).val = (j 2).val; omega

theorem emb3 (t : Fin cfg0.N) (j : S12x224x2048.Idx) : ((cfg0.win 3).blk t).view.emb j = j := by
  obtain ⟨e0, e1, e2⟩ := idx3 t
  funext a; apply Fin.ext
  match a with
  | ⟨0, _⟩ => show win0_3.index t (0 : Fin 3) * 12 + 1 * (j 0).val = (j 0).val; omega
  | ⟨1, _⟩ => show win0_3.index t (1 : Fin 3) * 224 + 1 * (j 1).val = (j 1).val; omega
  | ⟨2, _⟩ => show win0_3.index t (2 : Fin 3) * 2048 + 1 * (j 2).val = (j 2).val; omega

theorem emb4 (t : Fin cfg0.N) (j : S32x2048.Idx) : ((cfg0.win 4).blk t).view.emb j = j := by
  obtain ⟨e0, e1⟩ := idx4 t
  funext a; apply Fin.ext
  match a with
  | ⟨0, _⟩ => show win0_4.index t (0 : Fin 2) * 32 + 1 * (j 0).val = (j 0).val; omega
  | ⟨1, _⟩ => show win0_4.index t (1 : Fin 2) * 2048 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v0 := by
  funext j; show V m c main_v0 (((cfg0.win 1).blk t).view.emb j) = V m c main_v0 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]

theorem cut4_eq (t : Fin cfg0.N) (X : Vec F S32x2048 .bf16) : (cfg0.win 4).cut (grid0.coords t) X = ((cfg0.win 4).blk t).view.read (Elt F) X := by
  funext j
  show X j = X (((cfg0.win 4).blk t).view.emb j)
  rw [emb4]

theorem flushed4_eq (c : Dev nD) (t : Fin cfg0.N) :
    (dats m 0 c).flushed 4 t = ((cfg0.win 4).blk t).view.read (Elt F) (refVal (V m c main_arg0) (V m c main_v0) (V m c main_arg2) (V m c main_arg3)) := by
  rw [flushed4_A, out_eq, iblk0_eq, iblk1_eq, iblk2_eq, iblk3_eq]
  exact cut4_eq t _

theorem covered4 (i : S32x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- The sizes as a row. -/
theorem V_sizes (c : Dev nD) : V m c main_v0 = shapeCast S1x12 (m ((c : Thread nD τ).loc main_arg1)) shapeCasts_S12_S1x12 := by
  show StableHlo.after hostOps0 (fun b => m (c, b)) main_v0 = _
  after_results
  rfl

/-- The run: the result is the reference's value of the arguments as launched, and the arguments are unchanged. -/
theorem run : θ_run defs (onTc (τ := τ) (main (F := F))) ⟨m, fun _ => 0, ρ⟩ fun r => ∀ c : Dev nD,
      r.2.mem ((c : Thread nD τ).loc main_v1)
        = refVal (m ((c : Thread nD τ).loc main_arg0)) (shapeCast S1x12 (m ((c : Thread nD τ).loc main_arg1)) shapeCasts_S12_S1x12)
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      (((dats m 0 c).arrAt_eq_of_cover 4 (refVal (V m c main_arg0) (V m c main_v0) (V m c main_arg2) (V m c main_arg3)) (fun t _ => flushed4_eq m c t) covered4).trans
        (by rw [V_main_arg0, V_main_arg2, V_main_arg3, V_sizes])), (h c).2⟩) (run_blocks m ρ)

end Mxfp8.RefRun
-- ==== Proof.RefQuant.lean ====
/- The reference's quantiser over the reals: its exponent bounds the group, so quantising and scaling back is the identity. -/
module

public import proofs.«01_k».proof.Proof.RefRun
public import proofs.«01_k».proof.Proof.Pow2
public import Idealize.ShloMosaic.Lib.Pipeline.Value
public import Idealize.ShloMosaic.PureOps.Ideal.Laws

@[expose] public section

set_option maxRecDepth 16384

noncomputable section

namespace Mxfp8.RefRun

open Cert.ReferenceIdeal Cert.ReferenceIdeal.Gen Idealize.ShloMosaic Idealize.ShloMosaic.TcCoe Idealize.ShloMosaic.ValueIdx Mxfp8
open scoped BigOperators

/-- The inputs are finite and no larger than the largest bfloat16. -/
def FiniteIn (x : Vec Ideal S32x7168 .bf16) : Prop := ∀ i, ∃ q : ℝ, (x i : EReal) = (q : EReal) ∧ |q| ≤ bigX

variable (x : Vec Ideal S32x7168 .bf16)

/-- A column of a group. -/
abbrev colOf (g : Fin 224) (j : Fin 32) : Fin 7168 := ⟨32 * g.val + j.val, by have := g.isLt; have := j.isLt; omega⟩

theorem pay2_apply (p : Fin 32) (g : Fin 224) (j : Fin 32) : k0_pay2 (F := Ideal) x (ix3 p g j) = x (ix2 p (colOf g j)) := by
  unfold k0_pay2
  refine (shapeCast_apply _ _ _ (ix2 p (colOf g j)) ?_).trans rfl
  rw [Shape.rowMajor_val_two, Shape.rowMajor_val_three]
  show p.val * 7168 + (32 * g.val + j.val) = (p.val * 224 + g.val) * 32 + j.val
  omega

/-- The largest magnitude of a group. -/
theorem pay3_apply (p : Fin 32) (g : Fin 224) :
    k0_pay3 (F := Ideal) x (ix3 p g (0 : Fin 1)) = (Finset.univ : Finset (Fin 32)).fold max (Ideal.ofBits .f32 0xFF800000#32)
      (fun j => max (x (ix2 p (colOf g j)) : EReal) (-(x (ix2 p (colOf g j)) : EReal))) := by
  unfold k0_pay3
  refine (shapeCast_apply _ _ _ (ix2 p g) ?_).trans ?_
  · rw [Shape.rowMajor_val_two, Shape.rowMajor_val_three]
    show p.val * 224 + g.val = (p.val * 224 + g.val) * 1 + 0
    omega
  · refine (Ideal.multiReduction_maximumf_single _ _ _ _ _ _).trans ?_
    refine congrArg (fun f => (Finset.univ : Finset (Fin 32)).fold max (Ideal.ofBits .f32 0xFF800000#32) f) (funext fun (j : Fin 32) => ?_)
    have e : (reduces_S32x224x32_S32x224).lift (ix2 p g) j = ix3 p g j := by
      funext a
      match a with
      | ⟨0, _⟩ => rfl
      | ⟨1, _⟩ => rfl
      | ⟨2, _⟩ => rfl
    show absf (F := Ideal) (k0_pay2 x) (reduces_S32x224x32_S32x224.lift (ix2 p g) j) = _
    rw [e]
    show max (k0_pay2 (F := Ideal) x (ix3 p g j) : EReal) (-(k0_pay2 (F := Ideal) x (ix3 p g j) : EReal)) = _
    rw [pay2_apply]

variable {x} (hx : FiniteIn x)

include hx in
/-- It is a real that bounds the group. -/
theorem pay3_bounds (p : Fin 32) (g : Fin 224) :
    ∃ r : ℝ, k0_pay3 (F := Ideal) x (ix3 p g (0 : Fin 1)) = (r : EReal) ∧ 0 ≤ r ∧ r ≤ bigX ∧ ∀ (j : Fin 32) (q : ℝ), (x (ix2 p (colOf g j)) : EReal) = (q : EReal) → |q| ≤ r := by
  have habs : ∀ j, ∃ q : ℝ, max (x (ix2 p (colOf g j)) : EReal) (-(x (ix2 p (colOf g j)) : EReal)) = ((|q| : ℝ) : EReal) ∧ (x (ix2 p (colOf g j)) : EReal) = (q : EReal) ∧ |q| ≤ bigX := fun j => by
    obtain ⟨q, h1, h2⟩ := hx (ix2 p (colOf g j))
    refine ⟨q, ?_, h1, h2⟩
    rw [h1, ← EReal.coe_neg, ← EReal.coe_strictMono.monotone.map_max]; rfl
  have hle : ∀ j : Fin 32, max (x (ix2 p (colOf g j)) : EReal) (-(x (ix2 p (colOf g j)) : EReal)) ≤ k0_pay3 (F := Ideal) x (ix3 p g (0 : Fin 1)) := fun j => by
    rw [pay3_apply]
    exact (Finset.le_fold_max _).2 (.inr ⟨j, Finset.mem_univ _, le_refl _⟩)
  have hub : k0_pay3 (F := Ideal) x (ix3 p g (0 : Fin 1)) ≤ (bigX : EReal) := by
    rw [pay3_apply]
    refine (Finset.fold_max_le _).2 ⟨?_, fun j _ => ?_⟩
    · rw [show Ideal.ofBits .f32 0xFF800000#32 = (⊥ : EReal) by simp [Ideal.ofBits, Ideal.ieee]]
      exact bot_le
    · obtain ⟨q, h1, -, h3⟩ := habs j
      rw [h1]
      exact EReal.coe_le_coe_iff.2 h3
  obtain ⟨q0, h01, -, h03⟩ := habs 0
  have h0 : (0 : EReal) ≤ k0_pay3 (F := Ideal) x (ix3 p g (0 : Fin 1)) :=
    le_trans (by rw [h01]; exact EReal.coe_nonneg.2 (abs_nonneg _)) (hle 0)
  have hne : k0_pay3 (F := Ideal) x (ix3 p g (0 : Fin 1)) ≠ (⊤ : EReal) := fun h => by
    rw [h] at hub; exact absurd (top_le_iff.1 hub) (EReal.coe_ne_top _)
  have hnb : k0_pay3 (F := Ideal) x (ix3 p g (0 : Fin 1)) ≠ (⊥ : EReal) := fun h => by
    rw [h] at h0; exact absurd (le_bot_iff.1 h0) EReal.zero_ne_bot
  have hr := EReal.coe_toReal hne hnb
  refine ⟨EReal.toReal _, hr.symm, ?_, ?_, fun j q hq => ?_⟩
  · rw [← hr] at h0; exact EReal.coe_nonneg.1 h0
  · rw [← hr] at hub; exact EReal.coe_le_coe_iff.1 hub
  · obtain ⟨q', h1, h2, -⟩ := habs j
    have e : q = q' := EReal.coe_injective (hq.symm.trans h2)
    have := hle j
    rw [h1, ← hr, ← e] at this
    exact EReal.coe_le_coe_iff.1 this

/-- A power of two, from an exponent's word. -/
theorem exp2_word (b : BitVec 32) : Ideal.exp2 ((b.toInt : ℝ) : EReal) = (((2 : ℝ) ^ b.toInt : ℝ) : EReal) := by
  rw [Ideal.exp2_coe]
  exact congrArg _ (Real.rpow_intCast 2 b.toInt)

theorem trips_eq : k0_t1_loop.trips = 277 := by decide +kernel

theorem iv_int : ∀ t : Fin 277, (Scf.iv 4294967147#32 1#32 t.val).toInt = (t.val : ℤ) - 149 := by decide +kernel

/-- What the count holds after `n` powers: it is at the last of them, or its own power exceeds the value. -/
def Counted (v : ℝ) (n : ℕ) (b : BitVec 32) : Prop := ∃ k : ℕ, k ≤ n ∧ b = BitVec.ofInt 32 ((k : ℤ) - 149) ∧ (k = n ∨ v < (2 : ℝ) ^ ((k : ℤ) - 149))

theorem Counted.step {v : ℝ} {n : ℕ} {b : BitVec 32} (h : Counted v n b) :
    Counted v (n + 1) (b + (BitVec.ofBool (decide ((((2 : ℝ) ^ ((n : ℤ) - 149) : ℝ) : EReal) ≤ (v : EReal)))).setWidth 32) := by
  obtain ⟨k, hk, hb, hv⟩ := h
  by_cases h : (2 : ℝ) ^ ((n : ℤ) - 149) ≤ v
  · have hkn : k = n := by
      rcases hv with hv | hv
      · exact hv
      · by_contra hne
        have : (2 : ℝ) ^ ((k : ℤ) - 149) ≤ (2 : ℝ) ^ ((n : ℤ) - 149) := zpow_le_zpow_right₀ (by norm_num) (by omega)
        linarith
    refine ⟨k + 1, by omega, ?_, .inl (by omega)⟩
    rw [decide_eq_true (EReal.coe_le_coe_iff.2 h), hb]
    have e : (BitVec.ofBool true).setWidth 32 = BitVec.ofInt 32 1 := by decide
    rw [e, ← BitVec.ofInt_add]
    congr 1
    push_cast; ring
  · refine ⟨k, by omega, ?_, .inr ?_⟩
    · rw [decide_eq_false (fun hh => h (EReal.coe_le_coe_iff.1 hh)), hb]
      have e : (BitVec.ofBool false).setWidth 32 = 0#32 := by decide
      rw [e]; simp
    · rcases hv with hv | hv
      · rw [hv]; exact lt_of_not_ge h
      · exact hv

theorem pay5_apply (t : Fin k0_t1_loop.trips) (acc : IVec S32x224x1 32) (i : S32x224x1.Idx) :
    k0_pay5 (F := Ideal) x t acc i = acc i + (Ideal.cmp .oge ((k0_pay3 (F := Ideal) x i : EReal) * Ideal.ofBits .f32 0x3B124925#32)
      (Ideal.exp2 (((Scf.iv 4294967147#32 1#32 t.val).toInt : ℝ) : EReal))).setWidth 32 := by
  unfold k0_pay5
  generalize Scf.iv 4294967147#32 1#32 t.val = b
  generalize k0_pay3 (F := Ideal) x = v
  rfl

theorem bcast_apply {α : Type} (v : S32x224x1.Idx → α) (p : Fin 32) (g : Fin 224) (j : Fin 32) :
    broadcastTo S32x224x32 v broadcasts_S32x224x1_S32x224x32 (ix3 p g j) = v (ix3 p g (0 : Fin 1)) :=
  broadcastTo_apply _ _ _ _ fun a => by
    match a with
    | ⟨0, _⟩ => rfl
    | ⟨1, _⟩ => rfl
    | ⟨2, _⟩ => rfl

/-- The count of a group, after all powers. -/
theorem count_spec (p : Fin 32) (g : Fin 224) {r : ℝ} (hr : k0_pay3 (F := Ideal) x (ix3 p g (0 : Fin 1)) = (r : EReal)) :
    Counted (r * inv448) 277 (Scf.fold (k0_pay5 (F := Ideal) x) k0_pay4 (ix3 p g (0 : Fin 1))) := by
  rw [Scf.fold_eq]
  have step : ∀ (l : List (Fin k0_t1_loop.trips)) (n : ℕ) (acc : IVec S32x224x1 32), (∀ (i : ℕ) (hi : i < l.length), (l[i]).val = n + i) → Counted (r * inv448) n (acc (ix3 p g (0 : Fin 1))) →
      Counted (r * inv448) (n + l.length) (l.foldl (fun acc k => k0_pay5 (F := Ideal) x k acc) acc (ix3 p g (0 : Fin 1))) := by
    intro l
    induction l with
    | nil => intro n acc _ h; exact h
    | cons t l ih =>
      intro n acc hl h
      rw [List.foldl_cons]
      have ht : t.val = n := hl 0 (by simp)
      have hlt : t.val < 277 := lt_of_lt_of_eq t.isLt trips_eq
      have key := ih (n + 1) (k0_pay5 (F := Ideal) x t acc) (fun i hi => by
        have := hl (i + 1) (by simpa using hi)
        simp only [List.getElem_cons_succ] at this
        omega) (by
          have hs := h.step
          rw [← ht] at hs
          have hiv := iv_int ⟨t.val, hlt⟩
          rw [pay5_apply, hr, inv448_bits, exp2_word, hiv, ← EReal.coe_mul, cmp_oge, ← ht]
          exact hs)
      rw [List.length_cons, show n + (l.length + 1) = n + 1 + l.length by omega]
      exact key
  have h0 : Counted (r * inv448) 0 (k0_pay4 (ix3 p g (0 : Fin 1))) := ⟨0, le_refl _, by rfl, .inl rfl⟩
  have := step (List.finRange _) 0 k0_pay4 (fun i hi => by simp) h0
  rw [show 0 + (List.finRange k0_t1_loop.trips).length = 277 by rw [List.length_finRange, trips_eq]] at this
  exact this

theorem small_words : ∀ k : Fin 278, (BitVec.ofInt 32 ((k.val : ℤ) - 149)).toInt = (k.val : ℤ) - 149 ∧ (0#32 - BitVec.ofInt 32 ((k.val : ℤ) - 149)).toInt = -((k.val : ℤ) - 149) := by
  decide +kernel

include hx in
/-- The quantiser is the identity. -/
theorem pay6_apply (p : Fin 32) (i : Fin 7168) :
    k0_pay6 (F := Ideal) x (Scf.fold (k0_pay5 (F := Ideal) x) k0_pay4) (ix2 p i) = x (ix2 p i) := by
  have hi := i.isLt
  obtain ⟨g, j, hgj⟩ : ∃ (g : Fin 224) (j : Fin 32), i = colOf g j :=
    ⟨⟨i.val / 32, by omega⟩, ⟨i.val % 32, by omega⟩, Fin.ext (by show i.val = 32 * (i.val / 32) + i.val % 32; omega)⟩
  subst hgj
  obtain ⟨r, hr, h0, hb, hall⟩ := pay3_bounds hx p g
  obtain ⟨q, hq, -⟩ := hx (ix2 p (colOf g j))
  have hqr := hall j q hq
  obtain ⟨k, hk, hw, hv⟩ := count_spec p g hr
  generalize hV : Scf.fold (k0_pay5 (F := Ideal) x) k0_pay4 = v12 at hw ⊢
  -- the exponent's word, its value and its bound
  have hE : ∃ e : ℤ, (Scalar.select (Ideal.cmp .oeq (r : EReal) (Ideal.ofBits .f32 0x00000000#32)) 0#32 (v12 (ix3 p g (0 : Fin 1)))).toInt = e
      ∧ (0#32 - Scalar.select (Ideal.cmp .oeq (r : EReal) (Ideal.ofBits .f32 0x00000000#32)) 0#32 (v12 (ix3 p g (0 : Fin 1)))).toInt = -e ∧ |q| ≤ 448 * (2 : ℝ) ^ e := by
    by_cases hz : Ideal.cmp .oeq (r : EReal) (Ideal.ofBits .f32 0x00000000#32) = 1#1
    · rw [hz, select_one]
      refine ⟨0, rfl, by decide, ?_⟩
      have : r = 0 := by
        rw [Ideal.ofBits_zero_f32] at hz
        by_contra hne
        have h2 : Ideal.cmp .oeq (r : EReal) 0 = BitVec.ofBool (decide ((r : EReal) = 0)) := by first | rfl | (unfold Ideal.cmp; rfl)
        rw [h2, decide_eq_false (fun hh => hne (EReal.coe_eq_zero.1 hh))] at hz
        exact absurd hz (by decide)
      rw [this] at hqr
      have : (0 : ℝ) ≤ 448 * (2 : ℝ) ^ (0 : ℤ) := by positivity
      linarith
    · rw [eq_zero_of_ne_one hz, select_zero, hw]
      obtain ⟨w1, w2⟩ := small_words ⟨k, by omega⟩
      refine ⟨(k : ℤ) - 149, w1, w2, ?_⟩
      have hlt : r * inv448 < (2 : ℝ) ^ ((k : ℤ) - 149) := by
        rcases hv with hv | hv
        · rw [hv]
          exact (inv448_lt r hb).trans_le (zpow_le_zpow_right₀ (by norm_num) (by norm_num))
        · exact hv
      have := inv448_ge r h0
      linarith
  obtain ⟨e, h1, h2, h3⟩ := hE
  have hc := clip_id q e h3
  rw [← max448_bits, ← min448_bits, ← h2, ← exp2_word, h2, ← h1, ← exp2_word] at hc
  unfold k0_pay6
  refine (shapeCast_apply _ _ _ (ix3 p g j) ?_).trans ?_
  · rw [Shape.rowMajor_val_two, Shape.rowMajor_val_three]
    show (p.val * 224 + g.val) * 32 + j.val = p.val * 7168 + (32 * g.val + j.val)
    omega
  · have h4 := h2.trans (congrArg Neg.neg h1.symm)
    rw [hq, ← hc, ← h4, ← hr, ← hq, ← pay2_apply x p g j]
    show min (Ideal.ofBits .f32 0x43E00000#32) (max (Ideal.ofBits .f32 0xC3E00000#32)
      ((k0_pay2 (F := Ideal) x (ix3 p g j) : EReal) * broadcastTo S32x224x32 (_ : S32x224x1.Idx → EReal) broadcasts_S32x224x1_S32x224x32 (ix3 p g j)))
      * broadcastTo S32x224x32 (_ : S32x224x1.Idx → EReal) broadcasts_S32x224x1_S32x224x32 (ix3 p g j) = _
    rw [bcast_apply, bcast_apply]
    generalize k0_pay3 (F := Ideal) x = v
    rfl

end Mxfp8.RefRun
-- ==== Proof.RefWords.lean ====
/- The rows of words of the reference: which expert owns which token. -/
module

public import proofs.«01_k».proof.Proof.RefRun
public import proofs.«01_k».proof.Proof.Scan
public import proofs.«01_k».proof.Proof.RunVal
public import Idealize.ShloMosaic.Lib.WordSum
public import Idealize.ShloMosaic.Lib.Pipeline.Value

@[expose] public section

set_option maxRecDepth 16384

noncomputable section

namespace Mxfp8.RefRun

open Cert.ReferenceIdeal Cert.ReferenceIdeal.Gen Idealize.ShloMosaic Idealize.ShloMosaic.TcCoe Idealize.ShloMosaic.ValueIdx Mxfp8
open scoped BigOperators

variable (Sz : S12w.Idx → BitVec 32)

/-- The sizes before a number add up to the first token of that expert. -/
theorem sum_before (n : ℕ) : ∀ m, ∑ l ∈ Finset.range m, (if l < n then sizeN Sz l else 0) = startN Sz (min m n)
  | 0 => by simp [startN]
  | m + 1 => by
    rw [Finset.sum_range_succ, sum_before n m]
    by_cases h : m < n
    · rw [if_pos h, Nat.min_eq_left (by omega), Nat.min_eq_left (by omega)]; rfl
    · rw [if_neg h, Nat.min_eq_right (by omega), Nat.min_eq_right (by omega)]; rfl

/-- The masked sums of the sizes, one for each expert. -/
def rowSum (b : IVec S12x12 1) (g : IVec S1x12 32) : IVec S12 32 :=
  multiReductionI .add [1] S12 (select b (broadcastTo S12x12 (shapeCast S1x12 (shapeCast S1x12 g shapeCasts_S1x12_S1x12) shapeCasts_S1x12_S1x12) broadcasts_S1x12_S12x12)
    (broadcast S12x12 0#32)) 0#32 reduces_S12x12_S12 rfl

variable {Sz} (hf : Fits Sz) (g : IVec S1x12 32) (hg : ∀ l : Fin 12, (g (ix2 (0 : Fin 1) l)).toNat = sizeN Sz l.val)

include hf hg in
theorem rowSum_toNat (b : IVec S12x12 1) (e : Fin 12) (n : ℕ) (hn : n ≤ 12) (hb : ∀ l : Fin 12, b (ix2 e l) = 1#1 ↔ l.val < n) :
    (rowSum b g (ix1 e)).toNat = startN Sz n := by
  unfold rowSum
  rw [shapeCast_self, shapeCast_self]
  generalize hs : select b (broadcastTo S12x12 g broadcasts_S1x12_S12x12) (broadcast S12x12 0#32) = src
  have key : ∑ i ∈ Finset.univ.filter (fun i => reduces_S12x12_S12.drop i = ix1 e), (src i).toNat = startN Sz n := by
    refine (reduces_S12x12_S12.sum_filter_drop_single (fun i => (src i).toNat) (ix1 e)).trans ?_
    have h2 : ∀ l : Fin 12, (src (reduces_S12x12_S12.lift (ix1 e) l)).toNat = if l.val < n then sizeN Sz l.val else 0 := fun l => by
      have hl : reduces_S12x12_S12.lift (ix1 e) l = ix2 e l := by
        funext a
        match a with
        | ⟨0, _⟩ => rfl
        | ⟨1, _⟩ => rfl
      rw [hl, ← hs]
      show (Scalar.select (b (ix2 e l)) (broadcastTo S12x12 g broadcasts_S1x12_S12x12 (ix2 e l)) 0#32).toNat = _
      have hB : broadcastTo S12x12 g broadcasts_S1x12_S12x12 (ix2 e l) = g (ix2 (0 : Fin 1) l) :=
        broadcastTo_apply _ _ _ _ fun a => by
          match a with
          | ⟨0, _⟩ => rfl
          | ⟨1, _⟩ => rfl
      by_cases h : l.val < n
      · rw [(hb l).2 h, select_one, hB, hg, if_pos h]
      · rw [eq_zero_of_ne_one (fun h' => h ((hb l).1 h')), select_zero, if_neg h]; rfl
    refine (Finset.sum_congr rfl fun l _ => h2 l).trans ?_
    refine (Finset.sum_range (fun l => if l < n then sizeN Sz l else 0)).symm.trans ?_
    rw [sum_before]
    exact congrArg (startN Sz) (Nat.min_eq_right hn)
  have h32 := hf.start hn
  exact (WordSum.toNat_multiReductionI_add src reduces_S12x12_S12 rfl (ix1 e) (by rw [key]; omega)).trans key

/-- Which tokens are an expert's. -/
def owner (g : IVec S1x12 32) : IVec S12x32 1 :=
  andi (cmpi .sle (broadcastTo S12x32 (shapeCast S12x1 (rowSum (cmpi .slt (iota .tc S12x12 32 [1] iota_S12x12_d1_w32) (iota .tc S12x12 32 [0] iota_S12x12_d0_w32)) g) shapeCasts_S12_S12x1) broadcasts_S12x1_S12x32)
      (iota .tc S12x32 32 [1] iota_S12x32_d1_w32))
    (cmpi .slt (iota .tc S12x32 32 [1] iota_S12x32_d1_w32)
      (broadcastTo S12x32 (shapeCast S12x1 (rowSum (cmpi .sle (iota .tc S12x12 32 [1] iota_S12x12_d1_w32) (iota .tc S12x12 32 [0] iota_S12x12_d0_w32)) g) shapeCasts_S12_S12x1) broadcasts_S12x1_S12x32))

theorem lt_words : ∀ e l : Fin 12, IntOp.cmpi .slt (BitVec.ofNat 32 (0 * 12 + l.val)) (BitVec.ofNat 32 (0 * 12 + e.val)) = 1#1 ↔ l.val < e.val := by decide +kernel
theorem le_words : ∀ e l : Fin 12, IntOp.cmpi .sle (BitVec.ofNat 32 (0 * 12 + l.val)) (BitVec.ofNat 32 (0 * 12 + e.val)) = 1#1 ↔ l.val < e.val + 1 := by decide +kernel
theorem own_words : ∀ (a b : Fin 33) (p : Fin 32), IntOp.andi (IntOp.cmpi .sle (BitVec.ofNat 32 a.val) (BitVec.ofNat 32 (0 * 32 + p.val))) (IntOp.cmpi .slt (BitVec.ofNat 32 (0 * 32 + p.val)) (BitVec.ofNat 32 b.val)) = 1#1
    ↔ a.val ≤ p.val ∧ p.val < b.val := by decide +kernel

/-- A word for each expert, spread over the tokens. -/
theorem spread_apply (v : IVec S12 32) (e : Fin 12) (p : Fin 32) : broadcastTo S12x32 (shapeCast S12x1 v shapeCasts_S12_S12x1) broadcasts_S12x1_S12x32 (ix2 e p) = v (ix1 e) := by
  refine (broadcastTo_apply _ _ _ (ix2 e (0 : Fin 1)) fun a => ?_).trans (shapeCast_apply _ _ _ (ix1 e) ?_)
  · match a with
    | ⟨0, _⟩ => rfl
    | ⟨1, _⟩ => rfl
  · rw [Shape.rowMajor_val_two, Shape.rowMajor_val_one]
    show e.val = e.val * 1 + 0
    omega

include hf hg in
theorem owner_iff (e : Fin 12) (p : Fin 32) : owner g (ix2 e p) = 1#1 ↔ Owns Sz e.val p.val := by
  have h1 := rowSum_toNat hf g hg (cmpi .slt (iota .tc S12x12 32 [1] iota_S12x12_d1_w32) (iota .tc S12x12 32 [0] iota_S12x12_d0_w32)) e e.val (by omega) (lt_words e)
  have h2 := rowSum_toNat hf g hg (cmpi .sle (iota .tc S12x12 32 [1] iota_S12x12_d1_w32) (iota .tc S12x12 32 [0] iota_S12x12_d0_w32)) e (e.val + 1) (by omega) (le_words e)
  have b1 := hf.start (e := e.val) (by omega)
  have b2 := hf.start (e := e.val + 1) (by omega)
  unfold owner
  show IntOp.andi (IntOp.cmpi .sle (broadcastTo S12x32 _ _ (ix2 e p)) (BitVec.ofNat 32 (0 * 32 + p.val))) (IntOp.cmpi .slt (BitVec.ofNat 32 (0 * 32 + p.val)) (broadcastTo S12x32 _ _ (ix2 e p))) = 1#1 ↔ _
  rw [spread_apply, spread_apply]
  generalize rowSum (cmpi .slt (iota .tc S12x12 32 [1] iota_S12x12_d1_w32) (iota .tc S12x12 32 [0] iota_S12x12_d0_w32)) g (ix1 e) = w1 at h1 ⊢
  generalize rowSum (cmpi .sle (iota .tc S12x12 32 [1] iota_S12x12_d1_w32) (iota .tc S12x12 32 [0] iota_S12x12_d0_w32)) g (ix1 e) = w2 at h2 ⊢
  have e1 : w1 = BitVec.ofNat 32 (startN Sz e.val) := by rw [← h1]; simp
  have e2 : w2 = BitVec.ofNat 32 (startN Sz (e.val + 1)) := by rw [← h2]; simp
  rw [e1, e2]
  exact own_words ⟨startN Sz e.val, by omega⟩ ⟨startN Sz (e.val + 1), by omega⟩ p

end Mxfp8.RefRun
-- ==== Proof.RefDot.lean ====
/- The reference's product, at an index. -/
module

public import proofs.«01_k».proof.Proof.Gen.ReferenceIdeal.Value
public import Idealize.ShloMosaic.Lib.Pointwise

@[expose] public section

set_option maxRecDepth 16384

noncomputable section

namespace Mxfp8.RefRun

open Cert.ReferenceIdeal Cert.ReferenceIdeal.Gen Idealize.ShloMosaic
open scoped BigOperators

/-- For each expert, the rows of the left operand by the columns of the right. -/
theorem dot_apply (l : FVec Ideal S12x32x7168 .bf16) (r : FVec Ideal S12x7168x2048 .bf16) (acc : FVec Ideal S12x32x2048 .f32) (e : Fin 12) (p : Fin 32) (n : Fin 2048) :
    matmul dot_S12x32x7168_S12x7168x2048_S12x32x2048_2_1_1_2_0_0 none l r acc (ValueIdx.ix3 e p n)
      = (acc (ValueIdx.ix3 e p n) : EReal) + ∑ i : Fin 7168, (l (ValueIdx.ix3 e p i) : EReal) * (r (ValueIdx.ix3 e i n) : EReal) := by
  refine (Ideal.matmul_apply₁_of _ (a := 2) rfl (K := 7168) rfl l r acc (ValueIdx.ix3 e p n) (fun i => ValueIdx.ix3 e p i) (fun i => ValueIdx.ix3 e i n) (fun k => ?_) (fun k => ?_)) <;>
  · rw [Shape.Idx.norm_def]
    funext a
    match a with
    | ⟨0, _⟩ => rfl
    | ⟨1, _⟩ => rfl
    | ⟨2, _⟩ => rfl

end Mxfp8.RefRun
-- ==== Proof.Scales.lean ====
/- The scale of a code that is neither 0 nor 255 is a power of two. -/
module

public import proofs.«01_k».proof.Proof.SpecVal
public import proofs.«01_k».proof.Proof.Pow2

@[expose] public section

set_option maxRecDepth 16384

noncomputable section

namespace Mxfp8

open Idealize.ShloMosaic Idealize.ShloMosaic.ValueIdx

theorem scaleOf_pow (b : BitVec 8) (h1 : 1 ≤ b.toNat) (h2 : b.toNat ≤ 254) : scaleOf b = (((2 : ℝ) ^ ((b.toNat : ℤ) - 127) : ℝ) : EReal) := by
  have e : b.setWidth 32 = BitVec.ofNat 32 b.toNat := by
    refine BitVec.eq_of_toNat_eq ?_
    rw [BitVec.toNat_setWidth, BitVec.toNat_ofNat]
  unfold scaleOf
  rw [e]
  exact ofBits_pow h1 h2

theorem scaleOf_zero : scaleOf 0 = 0 := by
  obtain ⟨a, b, c⟩ := powW_fields 0
  refine (ofBits_fields _ a b c).trans ?_
  simp

theorem scaleOf_nonneg (b : BitVec 8) (h : b.toNat ≤ 254) : 0 ≤ scaleOf b ∧ scaleOf b ≠ ⊤ := by
  by_cases h0 : b.toNat = 0
  · have : b = 0 := BitVec.eq_of_toNat_eq h0
    rw [this, scaleOf_zero]
    exact ⟨le_refl _, EReal.zero_ne_top⟩
  · rw [scaleOf_pow b (by omega) h]
    exact ⟨EReal.coe_nonneg.2 (by positivity), EReal.coe_ne_top _⟩

theorem code_word : ∀ n : Fin 256, ((BitVec.ofNat 8 n.val).setWidth 32 - 127#32).toInt = (n.val : ℤ) - 127 := by decide +kernel

/-- The code less the bias, as an integer. -/
theorem code_int (b : BitVec 8) : (b.setWidth 32 - 127#32).toInt = (b.toNat : ℤ) - 127 := by
  have := code_word ⟨b.toNat, b.isLt⟩
  rwa [show BitVec.ofNat 8 b.toNat = b by simp] at this

/-- No scale of the arrays is negative or infinite. -/
theorem sF_scale (Sv : (SArr 224).Idx → Elt Ideal .i8) (h : ∀ i, (Sv i : BitVec 8).toNat ≤ 254) (e : Fin 12) (g n : ℕ) : 0 ≤ scaleOf (sF Sv e g n) ∧ scaleOf (sF Sv e g n) ≠ ⊤ := by
  refine scaleOf_nonneg _ ?_
  unfold sF
  split
  · exact h _
  · exact Nat.zero_le _

end Mxfp8
-- ==== Proof.RefMat.lean ====
/- The reference's result over the reals, at an index. -/
module

public import proofs.«01_k».proof.Proof.RefQuant
public import proofs.«01_k».proof.Proof.RefWords
public import proofs.«01_k».proof.Proof.RefDot
public import proofs.«01_k».proof.Proof.Scales

@[expose] public section

set_option maxRecDepth 16384

noncomputable section

namespace Mxfp8.RefRun

open Cert.ReferenceIdeal Cert.ReferenceIdeal.Gen Idealize.ShloMosaic Idealize.ShloMosaic.TcCoe Mxfp8
open Idealize.ShloMosaic.ValueIdx (select_one select_zero eq_zero_of_ne_one)
open scoped BigOperators

/-- The weights with their scales. -/
def scaledW (s : FVec Ideal S12x224x2048 .f32) (w : Vec Ideal S12x7168x2048 .fp8e4m3) : FVec Ideal S12x7168x2048 .bf16 :=
  shapeCast S12x7168x2048 (mulf (shapeCast S12x224x32x2048 (extf .bf16 w bitsLt_fp8e4m3_bf16) shapeCasts_S12x7168x2048_S12x224x32x2048)
    (broadcastTo S12x224x32x2048 (shapeCast S12x224x1x2048 (truncf .bf16 s bitsLt_bf16_f32) shapeCasts_S12x224x2048_S12x224x1x2048) broadcasts_S12x224x1x2048_S12x224x32x2048))
    shapeCasts_S12x224x32x2048_S12x7168x2048

/-- The activations, once for each expert. -/
def spreadX (x : FVec Ideal S32x7168 .bf16) : FVec Ideal S12x32x7168 .bf16 :=
  broadcastTo S12x32x7168 (shapeCast S1x32x7168 (shapeCast S1x32x7168 x shapeCasts_S32x7168_S1x32x7168) shapeCasts_S1x32x7168_S1x32x7168) broadcasts_S1x32x7168_S12x32x7168

/-- The owners, once for each column. -/
def spreadO (o : IVec S12x32 1) : IVec S12x32x2048 1 :=
  broadcastTo S12x32x2048 (shapeCast S12x32x1 (shapeCast S12x32x1 o shapeCasts_S12x32_S12x32x1) shapeCasts_S12x32x1_S12x32x1) broadcasts_S12x32x1_S12x32x2048

theorem truncf_at {sh : Shape} (v : FVec Ideal sh .f32) (i : sh.Idx) : truncf (F := Ideal) .bf16 v bitsLt_bf16_f32 i = (v i : EReal) := rfl

theorem pay1_eq (x : FVec Ideal S32x7168 .bf16) (s : FVec Ideal S12x224x2048 .f32) (w : Vec Ideal S12x7168x2048 .fp8e4m3) (g : Vec Ideal S1x12 .i32) :
    k0_pay1 (F := Ideal) x s w g = truncf .bf16 (multiReduction .add [0] S32x2048 (select (spreadO (owner g))
      (matmul dot_S12x32x7168_S12x7168x2048_S12x32x2048_2_1_1_2_0_0 none (spreadX x) (scaledW s w) (constant S12x32x2048 .f32 0x00000000#32))
      (broadcast S12x32x2048 (Scalar.ofBits .f32 0x00000000#32))) 0x00000000#32 reduces_S12x32x2048_S32x2048 (.inl rfl) rfl) bitsLt_bf16_f32 := by
  unfold k0_pay1 owner rowSum spreadO spreadX scaledW
  rfl

theorem spreadX_apply (x : FVec Ideal S32x7168 .bf16) (e : Fin 12) (p : Fin 32) (i : Fin 7168) : spreadX x (ValueIdx.ix3 e p i) = x (ValueIdx.ix2 p i) := by
  unfold spreadX
  rw [shapeCast_self]
  refine (broadcastTo_apply _ _ _ (ValueIdx.ix3 (0 : Fin 1) p i) fun a => ?_).trans (shapeCast_apply _ _ _ (ValueIdx.ix2 p i) ?_)
  · match a with
    | ⟨0, _⟩ => rfl
    | ⟨1, _⟩ => rfl
    | ⟨2, _⟩ => rfl
  · rw [Shape.rowMajor_val_two, Shape.rowMajor_val_three]
    show p.val * 7168 + i.val = (0 * 32 + p.val) * 7168 + i.val
    omega

theorem spreadO_apply (o : IVec S12x32 1) (e : Fin 12) (p : Fin 32) (n : Fin 2048) : spreadO o (ValueIdx.ix3 e p n) = o (ValueIdx.ix2 e p) := by
  unfold spreadO
  rw [shapeCast_self]
  refine (broadcastTo_apply _ _ _ (ValueIdx.ix3 e p (0 : Fin 1)) fun a => ?_).trans (shapeCast_apply _ _ _ (ValueIdx.ix2 e p) ?_)
  · match a with
    | ⟨0, _⟩ => rfl
    | ⟨1, _⟩ => rfl
    | ⟨2, _⟩ => rfl
  · rw [Shape.rowMajor_val_two, Shape.rowMajor_val_three]
    show e.val * 32 + p.val = (e.val * 32 + p.val) * 1 + 0
    omega

theorem scaledW_apply (s : FVec Ideal S12x224x2048 .f32) (w : Vec Ideal S12x7168x2048 .fp8e4m3) (e : Fin 12) (i : Fin 7168) (n : Fin 2048) :
    scaledW s w (ValueIdx.ix3 e i n) = (w (ValueIdx.ix3 e i n) : EReal) * (s (ValueIdx.ix3 e (⟨i.val / 32, by have := i.isLt; omega⟩ : Fin 224) n) : EReal) := by
  have hi := i.isLt
  unfold scaledW
  refine (shapeCast_apply _ _ _ (ValueIdx.ix4 e (⟨i.val / 32, by omega⟩ : Fin 224) (⟨i.val % 32, by omega⟩ : Fin 32) n) ?_).trans ?_
  · rw [Shape.rowMajor_val_three, Shape.rowMajor_val_four]
    show ((e.val * 224 + i.val / 32) * 32 + i.val % 32) * 2048 + n.val = (e.val * 7168 + i.val) * 2048 + n.val
    omega
  · refine congrArg₂ (fun a b : EReal => a * b) ((shapeCast_apply _ _ _ (ValueIdx.ix3 e i n) ?_).trans rfl)
      ((broadcastTo_apply _ _ _ (ValueIdx.ix4 e (⟨i.val / 32, by omega⟩ : Fin 224) (0 : Fin 1) n) fun a => ?_).trans
        ((shapeCast_apply _ _ _ (ValueIdx.ix3 e (⟨i.val / 32, by omega⟩ : Fin 224) n) ?_).trans rfl))
    · rw [Shape.rowMajor_val_three, Shape.rowMajor_val_four]
      show (e.val * 7168 + i.val) * 2048 + n.val = ((e.val * 224 + i.val / 32) * 32 + i.val % 32) * 2048 + n.val
      omega
    · match a with
      | ⟨0, _⟩ => rfl
      | ⟨1, _⟩ => rfl
      | ⟨2, _⟩ => rfl
      | ⟨3, _⟩ => rfl
    · rw [Shape.rowMajor_val_three, Shape.rowMajor_val_four]
      show (e.val * 224 + i.val / 32) * 2048 + n.val = ((e.val * 224 + i.val / 32) * 1 + 0) * 2048 + n.val
      omega

/-- The decoded scale. -/
theorem pay7_apply (s : Vec Ideal S12x224x2048 .i8) (i : S12x224x2048.Idx) (h : 1 ≤ (s i : BitVec 8).toNat ∧ (s i : BitVec 8).toNat ≤ 254) :
    k0_pay7 (F := Ideal) s i = scaleOf (s i) := by
  rw [scaleOf_pow _ h.1 h.2]
  unfold k0_pay7
  show Ideal.exp2 ((((s i : BitVec 8).setWidth 32 - 127#32).toInt : ℝ) : EReal) = _
  rw [exp2_word, code_int]

variable {Sz : S12w.Idx → BitVec 32} (hf : Fits Sz) (g : Vec Ideal S1x12 .i32) (hg : ∀ l : Fin 12, (g (ValueIdx.ix2 (0 : Fin 1) l) : BitVec 32).toNat = sizeN Sz l.val)
  {x : Vec Ideal S32x7168 .bf16} (hx : FiniteIn x) (w : Vec Ideal S12x7168x2048 .fp8e4m3) {s : Vec Ideal S12x224x2048 .i8}
  (hs : ∀ i, 1 ≤ (s i : BitVec 8).toNat ∧ (s i : BitVec 8).toNat ≤ 254)

include hf hg hx hs in
theorem refVal_apply (p : Fin 32) (n : Fin 2048) :
    refVal (F := Ideal) x g w s (ValueIdx.ix2 p n) = ∑ e : Fin 12, if Owns Sz e.val p.val
      then ∑ i : Fin 7168, (x (ValueIdx.ix2 p i) : EReal) * ((w (ValueIdx.ix3 e i n) : EReal) * scaleOf (s (ValueIdx.ix3 e (⟨i.val / 32, by have := i.isLt; omega⟩ : Fin 224) n))) else 0 := by
  have hq : k0_pay6 (F := Ideal) x (Scf.fold (k0_pay5 x) k0_pay4) = x := funext fun i => by
    rw [ValueIdx.eq_ix2 (n0 := 32) (n1 := 7168) i]
    exact pay6_apply hx (i 0) (i 1)
  unfold refVal
  rw [hq, pay1_eq, truncf_at]
  have hz : Ideal.ofBits .f32 0x00000000#32 = (0 : EReal) := by simp [Ideal.ofBits, Ideal.ieee]
  refine (Ideal.multiReduction_add_single _ _ _ _ _ (ValueIdx.ix2 p n)).trans ?_
  refine Finset.sum_congr rfl fun (e : Fin 12) _ => ?_
  have hl : reduces_S12x32x2048_S32x2048.lift (ValueIdx.ix2 p n) e = ValueIdx.ix3 e p n := by
    funext a
    match a with
    | ⟨0, _⟩ => rfl
    | ⟨1, _⟩ => rfl
    | ⟨2, _⟩ => rfl
  rw [hl]
  show Scalar.select (spreadO (owner g) (ValueIdx.ix3 e p n)) (matmul dot_S12x32x7168_S12x7168x2048_S12x32x2048_2_1_1_2_0_0 none (spreadX x) (scaledW (k0_pay7 s) w) (constant S12x32x2048 .f32 0x00000000#32) (ValueIdx.ix3 e p n))
    (Ideal.ofBits .f32 0x00000000#32) = _
  rw [spreadO_apply, hz]
  by_cases h : Owns Sz e.val p.val
  · rw [(owner_iff hf g hg e p).2 h, select_one, if_pos h, dot_apply]
    show Ideal.ofBits .f32 0x00000000#32 + _ = _
    rw [hz, zero_add]
    refine Finset.sum_congr rfl fun i _ => ?_
    rw [spreadX_apply, scaledW_apply, pay7_apply s _ (hs _)]
  · rw [eq_zero_of_ne_one (fun h' => h ((owner_iff hf g hg e p).1 h')), select_zero, if_neg h]

end Mxfp8.RefRun
-- ==== Proof.Values.lean ====
/- The kernel and the reference leave the same values. -/
module

public import proofs.«01_k».proof.Proof.KernVal
public import proofs.«01_k».proof.Proof.Algebra
public import proofs.«01_k».proof.Proof.RefMat

@[expose] public section

set_option maxRecDepth 16384

noncomputable section

namespace Mxfp8

open Idealize.ShloMosaic Idealize.ShloMosaic.TcCoe
open scoped BigOperators

/-- The sizes as a row, by the number of the expert. -/
theorem row_sizes (Sz : S12w.Idx → BitVec 32) (h : S12w.ShapeCasts ⟨2, ![1, 12]⟩) (l : Fin 12) :
    ((shapeCast ⟨2, ![1, 12]⟩ Sz h) (ValueIdx.ix2 (0 : Fin 1) l)).toNat = sizeN Sz l.val := by
  rw [sizeN_of_lt l.isLt]
  refine congrArg BitVec.toNat (shapeCast_apply _ _ _ (wix l.isLt) ?_)
  rw [Shape.rowMajor_val_two, Shape.rowMajor_val_one]
  show l.val = 0 * 12 + l.val
  omega

/-- What the kernel's body leaves is the reference's value, at every element. -/
theorem result_eq {Sz : S12w.Idx → BitVec 32} {X : S32x7168.Idx → Elt Ideal .bf16} {W : (SArr 7168).Idx → Elt Ideal .fp8e4m3} {S : (SArr 224).Idx → Elt Ideal .i8}
    {y : S32x2048.Idx → Elt Ideal .bf16} (h : Cert.KernelIdeal.Gen.Result (F := Ideal) Sz X W S y) (hf : Fits Sz)
    (hx : ∀ i, ∃ q : ℝ, X i = (q : EReal) ∧ |q| ≤ bigX) (hs : ∀ i, 1 ≤ (S i : BitVec 8).toNat ∧ (S i : BitVec 8).toNat ≤ 254)
    (g : Vec Ideal ⟨2, ![1, 12]⟩ .i32) (hg : ∀ l : Fin 12, (g (ValueIdx.ix2 (0 : Fin 1) l) : BitVec 32).toNat = sizeN Sz l.val) :
    y = RefRun.refVal (F := Ideal) X g W S := by
  funext i
  obtain ⟨p, n, rfl⟩ : ∃ (p : Fin 32) (n : Fin 2048), i = ValueIdx.ix2 p n := ⟨i 0, i 1, ValueIdx.eq_ix2 (n0 := 32) (n1 := 2048) i⟩
  refine (result_apply h hf hx p n).trans ((outVal_eq X W S Cert.KernelIdeal.Gen.kmask kmask_iff (sF_scale S fun i => (hs i).2) Sz p n).trans ?_)
  exact (RefRun.refVal_apply hf g hg hx W hs p n).symm

end Mxfp8
-- ==== Proof.lean ====
/-
  The proof of the certificate's claims.

    quiescent_Kernel, quiescent_KernelIdeal — from any memory whose group sizes fit, every execution of the program ends
      without a fault, its arguments as they were and every semaphore at zero. Proof/Launch.lean proves it of the program over any
      values, Proof/IdealLaunch.lean of the idealized one, and Proof/Sizes.lean reads the precondition.
    quiescent_ReferenceIdeal — the same of the reference, by its generated frame.
    preserves_Kernel_KernelIdeal — no rewrite was taken.
    algebraic_KernelIdeal_ReferenceIdeal — over the reals the two programs leave the same result. Proof/KernVal.lean says what the
      kernel's is, Proof/RefMat.lean what the reference's is, Proof/Algebra.lean and Proof/Values.lean that they are one, and
      Proof/InputsOk.lean reads the precondition.
-/
module

public import proofs.«01_k».proof.Defs
public import proofs.«01_k».proof.Proof.Launch
public import proofs.«01_k».proof.Proof.IdealLaunch
public import proofs.«01_k».proof.Proof.Sizes
public import proofs.«01_k».proof.Proof.InputsOk
public import proofs.«01_k».proof.Proof.Values
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.SL.Sem

/-- Over the reals, the kernel and the reference leave the same result. -/
theorem same_values [hP : Cert.Pre_inputs_ok.Facts] :
    Cert.algebraic_KernelIdeal_ReferenceIdeal_pre_inputs_ok (hKernelIdeal := Cert.KernelIdeal.Gen.facts) (hReferenceIdeal := Cert.ReferenceIdeal.Gen.facts) (hPre_inputs_ok := hP) := by
  intro m ρ m' ρ' h hm
  refine ⟨fun c => Mxfp8.RefRun.refVal (F := Ideal) (m' ((c : Thread Cert.ReferenceIdeal.nD Cert.ReferenceIdeal.τ).loc Cert.ReferenceIdeal.main_arg0))
      (shapeCast Cert.ReferenceIdeal.S1x12 (m' ((c : Thread Cert.ReferenceIdeal.nD Cert.ReferenceIdeal.τ).loc Cert.ReferenceIdeal.main_arg1)) Cert.ReferenceIdeal.Gen.shapeCasts_S12_S1x12)
      (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)), ?_,
    Mxfp8.RefRun.run (F := Ideal) m' ρ'⟩
  refine (θ_run Cert.KernelIdeal.defs _ _).mono (fun r hr c => ⟨?_, (hr.1 c).1⟩) (Cert.KernelIdeal.Gen.run_ends (F := Ideal) m ρ fun c => Mxfp8.fits_of_inputs _ _ _ _ (h c))
  obtain ⟨e0, e1, e2, e3⟩ := hm c
  beta_reduce
  rw [e0, e1, e2, e3]
  exact Mxfp8.result_eq (hr.1 c).2 (Mxfp8.fits_of_inputs _ _ _ _ (h c)) (Mxfp8.finite_of_inputs _ _ _ _ (h c)) (Mxfp8.codes_of_inputs _ _ _ _ (h c)) _ (fun l => Mxfp8.row_sizes _ _ l)

theorem claim : Cert.Claim := ⟨Cert.Kernel.Gen.facts, Cert.KernelIdeal.Gen.facts, Cert.ReferenceIdeal.Gen.facts, Cert.Pre_sizes_ok.Gen.facts, Cert.Pre_inputs_ok.Gen.facts,
  fun m ρ h => (θ_run Cert.Kernel.defs _ _).mono (fun _ h => ⟨fun c => (h.1 c).1, h.2⟩)
    (Cert.Kernel.Gen.run_ends (F := Bits) m ρ fun c => Mxfp8.fits_of_sizes _ _ _ _ (h c)),
  fun m ρ h => (θ_run Cert.KernelIdeal.defs _ _).mono (fun _ h => ⟨fun c => (h.1 c).1, h.2⟩)
    (Cert.KernelIdeal.Gen.run_ends (F := Ideal) m ρ fun c => Mxfp8.fits_of_sizes _ _ _ _ (h c)),
  fun m ρ h => (θ_run Cert.KernelIdeal.defs _ _).mono (fun _ h => ⟨fun c => (h.1 c).1, h.2⟩)
    (Cert.KernelIdeal.Gen.run_ends (F := Ideal) m ρ fun c => Mxfp8.fits_of_inputs _ _ _ _ (h c)),
  fun m ρ _ => Cert.ReferenceIdeal.Gen.frame m ρ,
  fun m ρ _ => Cert.ReferenceIdeal.Gen.frame m ρ,
  trivial, same_values⟩

end Cert.Proof

end
